-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_Plain [hPre_tables_ok : Cert.Pre_tables_ok.Facts] (m : (ℓ : Loc Cert.Plain.nD Cert.Plain.τ Cert.Plain.sig) → Buf (Elt Bits) ℓ) : Prop :=
  ∀ c : Dev Cert.Plain.nD,
    (Cert.Pre_tables_ok.fn (F := Bits) (m ((c.tc : Thread Cert.Plain.nD Cert.Plain.τ).loc Cert.Plain.main_arg0)) (m ((c.tc : Thread Cert.Plain.nD Cert.Plain.τ).loc Cert.Plain.main_arg1)) (m ((c.tc : Thread Cert.Plain.nD Cert.Plain.τ).loc Cert.Plain.main_arg2)) (m ((c.tc : Thread Cert.Plain.nD Cert.Plain.τ).loc Cert.Plain.main_arg3)) (m ((c.tc : Thread Cert.Plain.nD Cert.Plain.τ).loc Cert.Plain.main_arg4)) (m ((c.tc : Thread Cert.Plain.nD Cert.Plain.τ).loc Cert.Plain.main_arg5)) (m ((c.tc : Thread Cert.Plain.nD Cert.Plain.τ).loc Cert.Plain.main_arg6)) (m ((c.tc : Thread Cert.Plain.nD Cert.Plain.τ).loc Cert.Plain.main_arg7)) (m ((c.tc : Thread Cert.Plain.nD Cert.Plain.τ).loc Cert.Plain.main_arg8))) = (fun _ => 1#1)

def Pre_PlainIdeal [hPre_tables_ok : Cert.Pre_tables_ok.Facts] (m : (ℓ : Loc Cert.PlainIdeal.nD Cert.PlainIdeal.τ Cert.PlainIdeal.sig) → Buf (Elt Ideal) ℓ) : Prop :=
  ∀ c : Dev Cert.PlainIdeal.nD,
    (Cert.Pre_tables_ok.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4)) (m ((c.tc : Thread Cert.PlainIdeal.nD Cert.PlainIdeal.τ).loc Cert.PlainIdeal.main_arg5)) (m ((c.tc : Thread Cert.PlainIdeal.nD Cert.PlainIdeal.τ).loc Cert.PlainIdeal.main_arg6)) (m ((c.tc : Thread Cert.PlainIdeal.nD Cert.PlainIdeal.τ).loc Cert.PlainIdeal.main_arg7)) (m ((c.tc : Thread Cert.PlainIdeal.nD Cert.PlainIdeal.τ).loc Cert.PlainIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Combine [hPre_rows_ok : Cert.Pre_rows_ok.Facts] (m : (ℓ : Loc Cert.Combine.nD Cert.Combine.τ Cert.Combine.sig) → Buf (Elt Bits) ℓ) : Prop :=
  ∀ c : Dev Cert.Combine.nD,
    (Cert.Pre_rows_ok.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3))) = (fun _ => 1#1)

def Pre_CombineIdeal [hPre_rows_ok : Cert.Pre_rows_ok.Facts] (m : (ℓ : Loc Cert.CombineIdeal.nD Cert.CombineIdeal.τ Cert.CombineIdeal.sig) → Buf (Elt Ideal) ℓ) : Prop :=
  ∀ c : Dev Cert.CombineIdeal.nD,
    (Cert.Pre_rows_ok.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_BlendIdeal (m : (ℓ : Loc Cert.BlendIdeal.nD Cert.BlendIdeal.τ Cert.BlendIdeal.sig) → Buf (Elt Ideal) ℓ) : Prop :=
  True

def Pre_BlendIdeal_rows_ok [hPre_rows_ok : Cert.Pre_rows_ok.Facts] (m : (ℓ : Loc Cert.BlendIdeal.nD Cert.BlendIdeal.τ Cert.BlendIdeal.sig) → Buf (Elt Ideal) ℓ) : Prop :=
  ∀ c : Dev Cert.BlendIdeal.nD,
    (Cert.Pre_rows_ok.fn (F := Ideal) (m ((c.tc : Thread Cert.BlendIdeal.nD Cert.BlendIdeal.τ).loc Cert.BlendIdeal.main_arg0)) (m ((c.tc : Thread Cert.BlendIdeal.nD Cert.BlendIdeal.τ).loc Cert.BlendIdeal.main_arg1)) (m ((c.tc : Thread Cert.BlendIdeal.nD Cert.BlendIdeal.τ).loc Cert.BlendIdeal.main_arg2)) (m ((c.tc : Thread Cert.BlendIdeal.nD Cert.BlendIdeal.τ).loc Cert.BlendIdeal.main_arg3))) = (fun _ => 1#1)

def Pre_Second [hPre_tables_ok : Cert.Pre_tables_ok.Facts] (m : (ℓ : Loc Cert.Second.nD Cert.Second.τ Cert.Second.sig) → Buf (Elt Bits) ℓ) : Prop :=
  ∀ c : Dev Cert.Second.nD,
    (Cert.Pre_tables_ok.fn (F := Bits) (m ((c.tc : Thread Cert.Second.nD Cert.Second.τ).loc Cert.Second.main_arg0)) (m ((c.tc : Thread Cert.Second.nD Cert.Second.τ).loc Cert.Second.main_arg1)) (m ((c.tc : Thread Cert.Second.nD Cert.Second.τ).loc Cert.Second.main_arg2)) (m ((c.tc : Thread Cert.Second.nD Cert.Second.τ).loc Cert.Second.main_arg3)) (m ((c.tc : Thread Cert.Second.nD Cert.Second.τ).loc Cert.Second.main_arg4)) (m ((c.tc : Thread Cert.Second.nD Cert.Second.τ).loc Cert.Second.main_arg5)) (m ((c.tc : Thread Cert.Second.nD Cert.Second.τ).loc Cert.Second.main_arg6)) (m ((c.tc : Thread Cert.Second.nD Cert.Second.τ).loc Cert.Second.main_arg7)) (m ((c.tc : Thread Cert.Second.nD Cert.Second.τ).loc Cert.Second.main_arg8))) = (fun _ => 1#1)

def Pre_SecondIdeal [hPre_tables_ok : Cert.Pre_tables_ok.Facts] (m : (ℓ : Loc Cert.SecondIdeal.nD Cert.SecondIdeal.τ Cert.SecondIdeal.sig) → Buf (Elt Ideal) ℓ) : Prop :=
  ∀ c : Dev Cert.SecondIdeal.nD,
    (Cert.Pre_tables_ok.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))) = (fun _ => 1#1)

def Pre_SecondReferenceIdeal (m : (ℓ : Loc Cert.SecondReferenceIdeal.nD Cert.SecondReferenceIdeal.τ Cert.SecondReferenceIdeal.sig) → Buf (Elt Ideal) ℓ) : Prop :=
  True

def Pre_SecondReferenceIdeal_tables_ok [hPre_tables_ok : Cert.Pre_tables_ok.Facts] (m : (ℓ : Loc Cert.SecondReferenceIdeal.nD Cert.SecondReferenceIdeal.τ Cert.SecondReferenceIdeal.sig) → Buf (Elt Ideal) ℓ) : Prop :=
  ∀ c : Dev Cert.SecondReferenceIdeal.nD,
    (Cert.Pre_tables_ok.fn (F := Ideal) (m ((c.tc : Thread Cert.SecondReferenceIdeal.nD Cert.SecondReferenceIdeal.τ).loc Cert.SecondReferenceIdeal.main_arg0)) (m ((c.tc : Thread Cert.SecondReferenceIdeal.nD Cert.SecondReferenceIdeal.τ).loc Cert.SecondReferenceIdeal.main_arg1)) (m ((c.tc : Thread Cert.SecondReferenceIdeal.nD Cert.SecondReferenceIdeal.τ).loc Cert.SecondReferenceIdeal.main_arg2)) (m ((c.tc : Thread Cert.SecondReferenceIdeal.nD Cert.SecondReferenceIdeal.τ).loc Cert.SecondReferenceIdeal.main_arg3)) (m ((c.tc : Thread Cert.SecondReferenceIdeal.nD Cert.SecondReferenceIdeal.τ).loc Cert.SecondReferenceIdeal.main_arg4)) (m ((c.tc : Thread Cert.SecondReferenceIdeal.nD Cert.SecondReferenceIdeal.τ).loc Cert.SecondReferenceIdeal.main_arg5)) (m ((c.tc : Thread Cert.SecondReferenceIdeal.nD Cert.SecondReferenceIdeal.τ).loc Cert.SecondReferenceIdeal.main_arg6)) (m ((c.tc : Thread Cert.SecondReferenceIdeal.nD Cert.SecondReferenceIdeal.τ).loc Cert.SecondReferenceIdeal.main_arg7)) (m ((c.tc : Thread Cert.SecondReferenceIdeal.nD Cert.SecondReferenceIdeal.τ).loc Cert.SecondReferenceIdeal.main_arg8))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Plain [hPlain : Cert.Plain.Facts] [hPre_tables_ok : Cert.Pre_tables_ok.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4)
      ∧ r.2.mem ((c.tc : Thread Cert.Plain.nD Cert.Plain.τ).loc Cert.Plain.main_arg5) = m ((c.tc : Thread Cert.Plain.nD Cert.Plain.τ).loc Cert.Plain.main_arg5)
      ∧ r.2.mem ((c.tc : Thread Cert.Plain.nD Cert.Plain.τ).loc Cert.Plain.main_arg6) = m ((c.tc : Thread Cert.Plain.nD Cert.Plain.τ).loc Cert.Plain.main_arg6)
      ∧ r.2.mem ((c.tc : Thread Cert.Plain.nD Cert.Plain.τ).loc Cert.Plain.main_arg7) = m ((c.tc : Thread Cert.Plain.nD Cert.Plain.τ).loc Cert.Plain.main_arg7)
      ∧ r.2.mem ((c.tc : Thread Cert.Plain.nD Cert.Plain.τ).loc Cert.Plain.main_arg8) = m ((c.tc : Thread Cert.Plain.nD Cert.Plain.τ).loc Cert.Plain.main_arg8))
      ∧ r.2.sem = fun _ => 0)

def quiescent_PlainIdeal [hPlainIdeal : Cert.PlainIdeal.Facts] [hPre_tables_ok : Cert.Pre_tables_ok.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Combine [hCombine : Cert.Combine.Facts] [hPre_rows_ok : Cert.Pre_rows_ok.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] [hPre_rows_ok : Cert.Pre_rows_ok.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_BlendIdeal [hBlendIdeal : Cert.BlendIdeal.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3))
      ∧ r.2.sem = fun _ => 0)

def quiescent_BlendIdeal_pre_rows_ok [hBlendIdeal : Cert.BlendIdeal.Facts] [hPre_rows_ok : Cert.Pre_rows_ok.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal_rows_ok m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3))
      ∧ r.2.sem = fun _ => 0)

def quiescent_Second [hSecond : Cert.Second.Facts] [hPre_tables_ok : Cert.Pre_tables_ok.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8))
      ∧ r.2.sem = fun _ => 0)

def quiescent_SecondIdeal [hSecondIdeal : Cert.SecondIdeal.Facts] [hPre_tables_ok : Cert.Pre_tables_ok.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7)
      ∧ r.2.mem ((c.tc : Thread Cert.SecondReferenceIdeal.nD Cert.SecondReferenceIdeal.τ).loc Cert.SecondReferenceIdeal.main_arg8) = m ((c.tc : Thread Cert.SecondReferenceIdeal.nD Cert.SecondReferenceIdeal.τ).loc Cert.SecondReferenceIdeal.main_arg8))
      ∧ r.2.sem = fun _ => 0)

def quiescent_SecondReferenceIdeal_pre_tables_ok [hSecondReferenceIdeal : Cert.SecondReferenceIdeal.Facts] [hPre_tables_ok : Cert.Pre_tables_ok.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal_tables_ok m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7)
      ∧ r.2.mem ((c.tc : Thread Cert.SecondReferenceIdeal.nD Cert.SecondReferenceIdeal.τ).loc Cert.SecondReferenceIdeal.main_arg8) = m ((c.tc : Thread Cert.SecondReferenceIdeal.nD Cert.SecondReferenceIdeal.τ).loc Cert.SecondReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def preserves_Plain_PlainIdeal : Prop :=
  True

def algebraic_PlainIdeal_ReferenceIdeal [hPlainIdeal : Cert.PlainIdeal.Facts] [hReferenceIdeal : Cert.ReferenceIdeal.Facts] [hPre_tables_ok : Cert.Pre_tables_ok.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_PlainIdeal m →
    (∀ c : Dev Cert.PlainIdeal.nD,
      m' ((c.tc : Thread Cert.ReferenceIdeal.nD Cert.ReferenceIdeal.τ).loc Cert.ReferenceIdeal.main_arg0) = m ((c.tc : Thread Cert.PlainIdeal.nD Cert.PlainIdeal.τ).loc Cert.PlainIdeal.main_arg0)
      ∧ m' ((c.tc : Thread Cert.ReferenceIdeal.nD Cert.ReferenceIdeal.τ).loc Cert.ReferenceIdeal.main_arg1) = m ((c.tc : Thread Cert.PlainIdeal.nD Cert.PlainIdeal.τ).loc Cert.PlainIdeal.main_arg1)
      ∧ m' ((c.tc : Thread Cert.ReferenceIdeal.nD Cert.ReferenceIdeal.τ).loc Cert.ReferenceIdeal.main_arg2) = m ((c.tc : Thread Cert.PlainIdeal.nD Cert.PlainIdeal.τ).loc Cert.PlainIdeal.main_arg2)
      ∧ m' ((c.tc : Thread Cert.ReferenceIdeal.nD Cert.ReferenceIdeal.τ).loc Cert.ReferenceIdeal.main_arg3) = m ((c.tc : Thread Cert.PlainIdeal.nD Cert.PlainIdeal.τ).loc Cert.PlainIdeal.main_arg3)
      ∧ m' ((c.tc : Thread Cert.ReferenceIdeal.nD Cert.ReferenceIdeal.τ).loc Cert.ReferenceIdeal.main_arg4) = m ((c.tc : Thread Cert.PlainIdeal.nD Cert.PlainIdeal.τ).loc Cert.PlainIdeal.main_arg4)
      ∧ m' ((c.tc : Thread Cert.ReferenceIdeal.nD Cert.ReferenceIdeal.τ).loc Cert.ReferenceIdeal.main_arg5) = m ((c.tc : Thread Cert.PlainIdeal.nD Cert.PlainIdeal.τ).loc Cert.PlainIdeal.main_arg5)
      ∧ m' ((c.tc : Thread Cert.ReferenceIdeal.nD Cert.ReferenceIdeal.τ).loc Cert.ReferenceIdeal.main_arg6) = m ((c.tc : Thread Cert.PlainIdeal.nD Cert.PlainIdeal.τ).loc Cert.PlainIdeal.main_arg6)
      ∧ m' ((c.tc : Thread Cert.ReferenceIdeal.nD Cert.ReferenceIdeal.τ).loc Cert.ReferenceIdeal.main_arg7) = m ((c.tc : Thread Cert.PlainIdeal.nD Cert.PlainIdeal.τ).loc Cert.PlainIdeal.main_arg7)
      ∧ m' ((c.tc : Thread Cert.ReferenceIdeal.nD Cert.ReferenceIdeal.τ).loc Cert.ReferenceIdeal.main_arg8) = m ((c.tc : Thread Cert.PlainIdeal.nD Cert.PlainIdeal.τ).loc Cert.PlainIdeal.main_arg8)) →
    ∃ (v0 : (c : Dev Cert.PlainIdeal.nD) → Buf (Elt Ideal) ((c.tc : Thread Cert.PlainIdeal.nD Cert.PlainIdeal.τ).loc Cert.PlainIdeal.main_v0)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v0) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
          ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
          ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
          ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
          ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Combine_CombineIdeal : Prop :=
  True

def algebraic_CombineIdeal_BlendIdeal [hCombineIdeal : Cert.CombineIdeal.Facts] [hBlendIdeal : Cert.BlendIdeal.Facts] [hPre_rows_ok : Cert.Pre_rows_ok.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.BlendIdeal.nD Cert.BlendIdeal.τ Cert.BlendIdeal.sig) → Buf (Elt Ideal) ℓ) (g' : Dev Cert.BlendIdeal.nD → PrngReg), Pre_CombineIdeal m →
    (∀ c : Dev Cert.CombineIdeal.nD,
      m' ((c.tc : Thread Cert.BlendIdeal.nD Cert.BlendIdeal.τ).loc Cert.BlendIdeal.main_arg0) = m ((c.tc : Thread Cert.CombineIdeal.nD Cert.CombineIdeal.τ).loc Cert.CombineIdeal.main_arg0)
      ∧ m' ((c.tc : Thread Cert.BlendIdeal.nD Cert.BlendIdeal.τ).loc Cert.BlendIdeal.main_arg1) = m ((c.tc : Thread Cert.CombineIdeal.nD Cert.CombineIdeal.τ).loc Cert.CombineIdeal.main_arg1)
      ∧ m' ((c.tc : Thread Cert.BlendIdeal.nD Cert.BlendIdeal.τ).loc Cert.BlendIdeal.main_arg2) = m ((c.tc : Thread Cert.CombineIdeal.nD Cert.CombineIdeal.τ).loc Cert.CombineIdeal.main_arg2)
      ∧ m' ((c.tc : Thread Cert.BlendIdeal.nD Cert.BlendIdeal.τ).loc Cert.BlendIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.BlendIdeal.defs (F := Ideal)) (onTc (τ := Cert.BlendIdeal.τ) (Cert.BlendIdeal.main (F := Ideal))) ⟨m', fun _ => 0, g'⟩ (fun r => ∀ c : Dev Cert.BlendIdeal.nD,
          r.2.mem ((c.tc : Thread Cert.BlendIdeal.nD Cert.BlendIdeal.τ).loc Cert.BlendIdeal.main_v33) = v0 c
          ∧ r.2.mem ((c.tc : Thread Cert.BlendIdeal.nD Cert.BlendIdeal.τ).loc Cert.BlendIdeal.main_arg0) = m' ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m' ((c.tc : Thread Cert.BlendIdeal.nD Cert.BlendIdeal.τ).loc Cert.BlendIdeal.main_arg1)
          ∧ r.2.mem ((c.tc : Thread Cert.BlendIdeal.nD Cert.BlendIdeal.τ).loc Cert.BlendIdeal.main_arg2) = m' ((c.tc : Thread Cert.BlendIdeal.nD Cert.BlendIdeal.τ).loc Cert.BlendIdeal.main_arg2)
          ∧ r.2.mem ((c.tc : Thread Cert.BlendIdeal.nD Cert.BlendIdeal.τ).loc Cert.BlendIdeal.main_arg3) = m' ((c.tc : Thread Cert.BlendIdeal.nD Cert.BlendIdeal.τ).loc Cert.BlendIdeal.main_arg3))

def preserves_Second_SecondIdeal : Prop :=
  True

def algebraic_SecondIdeal_SecondReferenceIdeal [hSecondIdeal : Cert.SecondIdeal.Facts] [hSecondReferenceIdeal : Cert.SecondReferenceIdeal.Facts] [hPre_tables_ok : Cert.Pre_tables_ok.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)
      ∧ m' ((c.tc : Thread Cert.SecondReferenceIdeal.nD Cert.SecondReferenceIdeal.τ).loc Cert.SecondReferenceIdeal.main_arg6) = m ((c.tc : Thread Cert.SecondIdeal.nD Cert.SecondIdeal.τ).loc Cert.SecondIdeal.main_arg6)
      ∧ m' ((c.tc : Thread Cert.SecondReferenceIdeal.nD Cert.SecondReferenceIdeal.τ).loc Cert.SecondReferenceIdeal.main_arg7) = m ((c.tc : Thread Cert.SecondIdeal.nD Cert.SecondIdeal.τ).loc Cert.SecondIdeal.main_arg7)
      ∧ m' ((c.tc : Thread Cert.SecondReferenceIdeal.nD Cert.SecondReferenceIdeal.τ).loc Cert.SecondReferenceIdeal.main_arg8) = m ((c.tc : Thread Cert.SecondIdeal.nD Cert.SecondIdeal.τ).loc Cert.SecondIdeal.main_arg8)) →
    ∃ (v0 : (c : Dev Cert.SecondIdeal.nD) → Buf (Elt Ideal) ((c.tc : Thread Cert.SecondIdeal.nD Cert.SecondIdeal.τ).loc Cert.SecondIdeal.main_v0)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v0) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v41) = v0 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5)
          ∧ r.2.mem ((c.tc : Thread Cert.SecondReferenceIdeal.nD Cert.SecondReferenceIdeal.τ).loc Cert.SecondReferenceIdeal.main_arg6) = m' ((c.tc : Thread Cert.SecondReferenceIdeal.nD Cert.SecondReferenceIdeal.τ).loc Cert.SecondReferenceIdeal.main_arg6)
          ∧ r.2.mem ((c.tc : Thread Cert.SecondReferenceIdeal.nD Cert.SecondReferenceIdeal.τ).loc Cert.SecondReferenceIdeal.main_arg7) = m' ((c.tc : Thread Cert.SecondReferenceIdeal.nD Cert.SecondReferenceIdeal.τ).loc Cert.SecondReferenceIdeal.main_arg7)
          ∧ r.2.mem ((c.tc : Thread Cert.SecondReferenceIdeal.nD Cert.SecondReferenceIdeal.τ).loc Cert.SecondReferenceIdeal.main_arg8) = m' ((c.tc : Thread Cert.SecondReferenceIdeal.nD Cert.SecondReferenceIdeal.τ).loc Cert.SecondReferenceIdeal.main_arg8))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v16) = v0 c
          ∧ r.2.mem ((c.tc : Thread Cert.ProjectReferenceIdeal.nD Cert.ProjectReferenceIdeal.τ).loc Cert.ProjectReferenceIdeal.main_v20) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def Claim : Prop :=
  ∃ (hKernel : Cert.Kernel.Facts) (hPlain : Cert.Plain.Facts) (hPlainIdeal : Cert.PlainIdeal.Facts) (hReferenceIdeal : Cert.ReferenceIdeal.Facts) (hCombine : Cert.Combine.Facts) (hCombineIdeal : Cert.CombineIdeal.Facts) (hBlendIdeal : Cert.BlendIdeal.Facts) (hSecond : Cert.Second.Facts) (hSecondIdeal : Cert.SecondIdeal.Facts) (hSecondReferenceIdeal : Cert.SecondReferenceIdeal.Facts) (hProject : Cert.Project.Facts) (hProjectIdeal : Cert.ProjectIdeal.Facts) (hProjectReferenceIdeal : Cert.ProjectReferenceIdeal.Facts) (hPre_tables_ok : Cert.Pre_tables_ok.Facts) (hPre_rows_ok : Cert.Pre_rows_ok.Facts),
    quiescent_Kernel (hKernel := hKernel) (hPre_tables_ok := hPre_tables_ok)
    ∧ quiescent_Plain (hPlain := hPlain) (hPre_tables_ok := hPre_tables_ok)
    ∧ quiescent_PlainIdeal (hPlainIdeal := hPlainIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Combine (hCombine := hCombine) (hPre_rows_ok := hPre_rows_ok)
    ∧ quiescent_CombineIdeal (hCombineIdeal := hCombineIdeal) (hPre_rows_ok := hPre_rows_ok)
    ∧ quiescent_BlendIdeal (hBlendIdeal := hBlendIdeal)
    ∧ quiescent_BlendIdeal_pre_rows_ok (hBlendIdeal := hBlendIdeal) (hPre_rows_ok := hPre_rows_ok)
    ∧ quiescent_Second (hSecond := hSecond) (hPre_tables_ok := hPre_tables_ok)
    ∧ quiescent_SecondIdeal (hSecondIdeal := hSecondIdeal) (hPre_tables_ok := hPre_tables_ok)
    ∧ quiescent_SecondReferenceIdeal (hSecondReferenceIdeal := hSecondReferenceIdeal)
    ∧ quiescent_SecondReferenceIdeal_pre_tables_ok (hSecondReferenceIdeal := hSecondReferenceIdeal) (hPre_tables_ok := hPre_tables_ok)
    ∧ quiescent_Project (hProject := hProject)
    ∧ quiescent_ProjectIdeal (hProjectIdeal := hProjectIdeal)
    ∧ quiescent_ProjectReferenceIdeal (hProjectReferenceIdeal := hProjectReferenceIdeal)
    ∧ preserves_Plain_PlainIdeal
    ∧ algebraic_PlainIdeal_ReferenceIdeal (hPlainIdeal := hPlainIdeal) (hReferenceIdeal := hReferenceIdeal) (hPre_tables_ok := hPre_tables_ok)
    ∧ preserves_Combine_CombineIdeal
    ∧ algebraic_CombineIdeal_BlendIdeal (hCombineIdeal := hCombineIdeal) (hBlendIdeal := hBlendIdeal) (hPre_rows_ok := hPre_rows_ok)
    ∧ preserves_Second_SecondIdeal
    ∧ algebraic_SecondIdeal_SecondReferenceIdeal (hSecondIdeal := hSecondIdeal) (hSecondReferenceIdeal := hSecondReferenceIdeal) (hPre_tables_ok := hPre_tables_ok)
    ∧ preserves_Project_ProjectIdeal
    ∧ algebraic_ProjectIdeal_ProjectReferenceIdeal (hProjectIdeal := hProjectIdeal) (hProjectReferenceIdeal := hProjectReferenceIdeal)
-- ==== Pre_rows_ok.lean ====
abbrev S32768 : Shape := ⟨1, ![32768]⟩
abbrev S16384x2048 : Shape := ⟨2, ![16384, 2048]⟩
abbrev S16384x128 : Shape := ⟨2, ![16384, 128]⟩
abbrev S32768x1024 : Shape := ⟨2, ![32768, 1024]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S32768 32) (main_arg1 : FVec F S16384x2048 .f32) (main_arg2 : FVec F S16384x128 .f32) (main_arg3 : IVec S32768x1024 32) : IVec S32768 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 32768#32
  let main_v2 : IVec S32768 32 := broadcastInDim S32768 ![] bcast_S_S32768 main_c_0
  let main_v3 : IVec S32768 1 := cmpi .slt main_arg0 main_v2
  let main_v4 : IVec S32768 1 := andi main_v1 main_v3
  main_v4
-- ==== Pre_tables_ok.lean ====
abbrev S95 : Shape := ⟨1, ![95]⟩
abbrev S32768x1024 : Shape := ⟨2, ![32768, 1024]⟩
abbrev S2x32x2048x256 : Shape := ⟨4, ![2, 32, 2048, 256]⟩
abbrev S2x32x256x2048 : Shape := ⟨4, ![2, 32, 256, 2048]⟩
abbrev S94 : Shape := ⟨1, ![94]⟩
abbrev S_ : Shape := ⟨0, ![]⟩

class Facts : Prop where
  slices_S95_S94_0 : S95.Slices ![0] S94
  slices_S95_S94_1 : S95.Slices ![1] S94
  bcast_S_S94 : S_.BroadcastsInDim S94 (![] : Fin 0 → Fin S94.rank)

variable [Facts]

def fn_where {F : FTy → Type} [FloatOps F] (arg0 : IVec S94 1) (arg1 : IVec S94 1) (arg2 : IVec S94 1) : IVec S94 1 :=
  let v0 : IVec S94 1 := select arg0 arg1 arg2
  v0

def fn_part11 {F : FTy → Type} [FloatOps F] (main_v9 : IVec S94 32) (main_v43 : IVec S94 1) (main_v54 : IVec S94 1) (main_v79 : IVec S94 1) (main_v96 : IVec S94 1) (main_v153 : IVec S94 1) (main_v202 : IVec S94 1) (main_v203 : IVec S94 1) (main_v205 : IVec S94 32) (main_c_56 : IVec S_ 32) : IVec S94 1 :=
  let main_v206 : IVec S94 32 := broadcastInDim S94 ![] bcast_S_S94 main_c_56
  let main_v207 : IVec S94 32 := addi main_v205 main_v206
  let main_v208 : IVec S94 1 := cmpi .eq main_v9 main_v207
  let main_v209 : IVec S94 1 := ori main_v203 main_v208
  let main_v210 : IVec S94 1 := andi main_v202 main_v209
  let main_v211 : IVec S94 1 := andi main_v153 main_v210
  let main_v212 : IVec S94 1 := andi main_v211 main_v43
  let main_v213 : IVec S94 1 := andi main_v212 main_v54
  let main_v214 : IVec S94 1 := andi main_v213 main_v79
  let main_v215 : IVec S94 1 := andi main_v214 main_v96
  main_v215

def fn_part10 {F : FTy → Type} [FloatOps F] (main_v6 : IVec S94 32) (main_v8 : IVec S94 32) (main_v9 : IVec S94 32) (main_v10 : IVec S94 32) (main_v20 : IVec S94 1) (main_v24 : IVec S94 1) (main_v28 : IVec S94 1) (main_v43 : IVec S94 1) (main_v54 : IVec S94 1) (main_v79 : IVec S94 1) (main_v96 : IVec S94 1) (main_v153 : IVec S94 1) (main_v178 : IVec S94 1) (main_v179 : IVec S94 1) (main_v182 : IVec S94 1) (main_v186 : IVec S94 32) : IVec S94 1 :=
  let main_v187 : IVec S94 1 := cmpi .sle main_v9 main_v186
  let main_v188 : IVec S94 1 := andi main_v182 main_v187
  let main_v189 : IVec S94 1 := ori main_v179 main_v188
  let main_v190 : IVec S94 1 := andi main_v178 main_v189
  let main_c_52 : IVec S_ 32 := constantI S_ 32 7#32
  let main_v191 : IVec S94 32 := broadcastInDim S94 ![] bcast_S_S94 main_c_52
  let main_v192 : IVec S94 32 := andi main_v10 main_v191
  let main_c_53 : IVec S_ 32 := constantI S_ 32 0#32
  let main_v193 : IVec S94 32 := broadcastInDim S94 ![] bcast_S_S94 main_c_53
  let main_v194 : IVec S94 1 := cmpi .eq main_v192 main_v193
  let main_v195 : IVec S94 1 := ori main_v20 main_v194
  let main_v196 : IVec S94 1 := andi main_v190 main_v195
  let main_v197 : IVec S94 1 := noti main_v24
  let main_c_54 : IVec S_ 32 := constantI S_ 32 512#32
  let main_v198 : IVec S94 32 := broadcastInDim S94 ![] bcast_S_S94 main_c_54
  let main_v199 : IVec S94 32 := muli main_v6 main_v198
  let main_v200 : IVec S94 1 := cmpi .eq main_v8 main_v199
  let main_v201 : IVec S94 1 := ori main_v197 main_v200
  let main_v202 : IVec S94 1 := andi main_v196 main_v201
  let main_v203 : IVec S94 1 := noti main_v28
  let main_c_55 : IVec S_ 32 := constantI S_ 32 512#32
  let main_v204 : IVec S94 32 := broadcastInDim S94 ![] bcast_S_S94 main_c_55
  let main_v205 : IVec S94 32 := muli main_v6 main_v204
  let main_c_56 : IVec S_ 32 := constantI S_ 32 512#32
  fn_part11 (F := F) main_v9 main_v43 main_v54 main_v79 main_v96 main_v153 main_v202 main_v203 main_v205 main_c_56

def fn_part9 {F : FTy → Type} [FloatOps F] (main_v6 : IVec S94 32) (main_v8 : IVec S94 32) (main_v9 : IVec S94 32) (main_v10 : IVec S94 32) (main_v20 : IVec S94 1) (main_v24 : IVec S94 1) (main_v28 : IVec S94 1) (main_v43 : IVec S94 1) (main_v54 : IVec S94 1) (main_v79 : IVec S94 1) (main_v96 : IVec S94 1) (main_v153 : IVec S94 1) (main_v167 : IVec S94 1) (main_c_46 : IVec S_ 32) : IVec S94 1 :=
  let main_v168 : IVec S94 32 := broadcastInDim S94 ![] bcast_S_S94 main_c_46
  let main_v169 : IVec S94 1 := cmpi .slt main_v10 main_v168
  let main_v170 : IVec S94 1 := andi main_v167 main_v169
  let main_c_47 : IVec S_ 32 := constantI S_ 32 0#32
  let main_v171 : IVec S94 32 := broadcastInDim S94 ![] bcast_S_S94 main_c_47
  let main_v172 : IVec S94 1 := cmpi .sge main_v8 main_v171
  let main_v173 : IVec S94 1 := andi main_v170 main_v172
  let main_v174 : IVec S94 1 := cmpi .sle main_v8 main_v9
  let main_v175 : IVec S94 1 := andi main_v173 main_v174
  let main_c_48 : IVec S_ 32 := constantI S_ 32 32768#32
  let main_v176 : IVec S94 32 := broadcastInDim S94 ![] bcast_S_S94 main_c_48
  let main_v177 : IVec S94 1 := cmpi .sle main_v9 main_v176
  let main_v178 : IVec S94 1 := andi main_v175 main_v177
  let main_v179 : IVec S94 1 := noti main_v20
  let main_c_49 : IVec S_ 32 := constantI S_ 32 512#32
  let main_v180 : IVec S94 32 := broadcastInDim S94 ![] bcast_S_S94 main_c_49
  let main_v181 : IVec S94 32 := muli main_v6 main_v180
  let main_v182 : IVec S94 1 := cmpi .sle main_v181 main_v8
  let main_c_50 : IVec S_ 32 := constantI S_ 32 512#32
  let main_v183 : IVec S94 32 := broadcastInDim S94 ![] bcast_S_S94 main_c_50
  let main_v184 : IVec S94 32 := muli main_v6 main_v183
  let main_c_51 : IVec S_ 32 := constantI S_ 32 512#32
  let main_v185 : IVec S94 32 := broadcastInDim S94 ![] bcast_S_S94 main_c_51
  let main_v186 : IVec S94 32 := addi main_v184 main_v185
  fn_part10 (F := F) main_v6 main_v8 main_v9 main_v10 main_v20 main_v24 main_v28 main_v43 main_v54 main_v79 main_v96 main_v153 main_v178 main_v179 main_v182 main_v186

def fn_part8 {F : FTy → Type} [FloatOps F] (main_v4 : IVec S94 32) (main_v6 : IVec S94 32) (main_v7 : IVec S94 32) (main_v8 : IVec S94 32) (main_v9 : IVec S94 32) (main_v10 : IVec S94 32) (main_v20 : IVec S94 1) (main_v24 : IVec S94 1) (main_v28 : IVec S94 1) (main_v43 : IVec S94 1) (main_v54 : IVec S94 1) (main_v79 : IVec S94 1) (main_v96 : IVec S94 1) (main_v145 : IVec S94 1) (main_v146 : IVec S94 1) (main_v148 : IVec S94 32) (main_v149 : IVec S94 32) : IVec S94 1 :=
  let main_v150 : IVec S94 32 := addi main_v148 main_v149
  let main_v151 : IVec S94 1 := cmpi .eq main_v4 main_v150
  let main_v152 : IVec S94 1 := ori main_v146 main_v151
  let main_v153 : IVec S94 1 := andi main_v145 main_v152
  let main_c_41 : IVec S_ 32 := constantI S_ 32 0#32
  let main_v154 : IVec S94 32 := broadcastInDim S94 ![] bcast_S_S94 main_c_41
  let main_v155 : IVec S94 1 := cmpi .sge main_v6 main_v154
  let main_c_42 : IVec S_ 32 := constantI S_ 32 64#32
  let main_v156 : IVec S94 32 := broadcastInDim S94 ![] bcast_S_S94 main_c_42
  let main_v157 : IVec S94 1 := cmpi .slt main_v6 main_v156
  let main_v158 : IVec S94 1 := andi main_v155 main_v157
  let main_c_43 : IVec S_ 32 := constantI S_ 32 0#32
  let main_v159 : IVec S94 32 := broadcastInDim S94 ![] bcast_S_S94 main_c_43
  let main_v160 : IVec S94 1 := cmpi .sge main_v7 main_v159
  let main_v161 : IVec S94 1 := andi main_v158 main_v160
  let main_c_44 : IVec S_ 32 := constantI S_ 32 32#32
  let main_v162 : IVec S94 32 := broadcastInDim S94 ![] bcast_S_S94 main_c_44
  let main_v163 : IVec S94 1 := cmpi .slt main_v7 main_v162
  let main_v164 : IVec S94 1 := andi main_v161 main_v163
  let main_c_45 : IVec S_ 32 := constantI S_ 32 0#32
  let main_v165 : IVec S94 32 := broadcastInDim S94 ![] bcast_S_S94 main_c_45
  let main_v166 : IVec S94 1 := cmpi .sge main_v10 main_v165
  let main_v167 : IVec S94 1 := andi main_v164 main_v166
  let main_c_46 : IVec S_ 32 := constantI S_ 32 528#32
  fn_part9 (F := F) main_v6 main_v8 main_v9 main_v10 main_v20 main_v24 main_v28 main_v43 main_v54 main_v79 main_v96 main_v153 main_v167 main_c_46

def fn_part7 {F : FTy → Type} [FloatOps F] (main_v1 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) (main_v20 : IVec S94 1) (main_v24 : IVec S94 1) (main_v28 : IVec S94 1) (main_v43 : IVec S94 1) (main_v54 : IVec S94 1) (main_v79 : IVec S94 1) (main_v96 : IVec S94 1) (main_v121 : IVec S94 1) (main_v122 : IVec S94 1) (main_v125 : IVec S94 1) (main_v130 : IVec S94 1) : IVec S94 1 :=
  let main_v131 : IVec S94 1 := andi main_v125 main_v130
  let main_v132 : IVec S94 1 := ori main_v122 main_v131
  let main_v133 : IVec S94 1 := andi main_v121 main_v132
  let main_c_36 : IVec S_ 32 := constantI S_ 32 7#32
  let main_v134 : IVec S94 32 := broadcastInDim S94 ![] bcast_S_S94 main_c_36
  let main_v135 : IVec S94 32 := andi main_v5 main_v134
  let main_c_37 : IVec S_ 32 := constantI S_ 32 0#32
  let main_v136 : IVec S94 32 := broadcastInDim S94 ![] bcast_S_S94 main_c_37
  let main_v137 : IVec S94 1 := cmpi .eq main_v135 main_v136
  let main_v138 : IVec S94 1 := ori main_v11 main_v137
  let main_v139 : IVec S94 1 := andi main_v133 main_v138
  let main_v140 : IVec S94 1 := noti main_v15
  let main_c_38 : IVec S_ 32 := constantI S_ 32 512#32
  let main_v141 : IVec S94 32 := broadcastInDim S94 ![] bcast_S_S94 main_c_38
  let main_v142 : IVec S94 32 := muli main_v1 main_v141
  let main_v143 : IVec S94 1 := cmpi .eq main_v3 main_v142
  let main_v144 : IVec S94 1 := ori main_v140 main_v143
  let main_v145 : IVec S94 1 := andi main_v139 main_v144
  let main_v146 : IVec S94 1 := noti main_v19
  let main_c_39 : IVec S_ 32 := constantI S_ 32 512#32
  let main_v147 : IVec S94 32 := broadcastInDim S94 ![] bcast_S_S94 main_c_39
  let main_v148 : IVec S94 32 := muli main_v1 main_v147
  let main_c_40 : IVec S_ 32 := constantI S_ 32 512#32
  let main_v149 : IVec S94 32 := broadcastInDim S94 ![] bcast_S_S94 main_c_40
  fn_part8 (F := F) main_v4 main_v6 main_v7 main_v8 main_v9 main_v10 main_v20 main_v24 main_v28 main_v43 main_v54 main_v79 main_v96 main_v145 main_v146 main_v148 main_v149

def fn_part6 {F : FTy → Type} [FloatOps F] (main_v1 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) (main_v20 : IVec S94 1) (main_v24 : IVec S94 1) (main_v28 : IVec S94 1) (main_v43 : IVec S94 1) (main_v54 : IVec S94 1) (main_v79 : IVec S94 1) (main_v96 : IVec S94 1) (main_v110 : IVec S94 1) (main_v111 : IVec S94 32) : IVec S94 1 :=
  let main_v112 : IVec S94 1 := cmpi .slt main_v5 main_v111
  let main_v113 : IVec S94 1 := andi main_v110 main_v112
  let main_c_31 : IVec S_ 32 := constantI S_ 32 0#32
  let main_v114 : IVec S94 32 := broadcastInDim S94 ![] bcast_S_S94 main_c_31
  let main_v115 : IVec S94 1 := cmpi .sge main_v3 main_v114
  let main_v116 : IVec S94 1 := andi main_v113 main_v115
  let main_v117 : IVec S94 1 := cmpi .sle main_v3 main_v4
  let main_v118 : IVec S94 1 := andi main_v116 main_v117
  let main_c_32 : IVec S_ 32 := constantI S_ 32 32768#32
  let main_v119 : IVec S94 32 := broadcastInDim S94 ![] bcast_S_S94 main_c_32
  let main_v120 : IVec S94 1 := cmpi .sle main_v4 main_v119
  let main_v121 : IVec S94 1 := andi main_v118 main_v120
  let main_v122 : IVec S94 1 := noti main_v11
  let main_c_33 : IVec S_ 32 := constantI S_ 32 512#32
  let main_v123 : IVec S94 32 := broadcastInDim S94 ![] bcast_S_S94 main_c_33
  let main_v124 : IVec S94 32 := muli main_v1 main_v123
  let main_v125 : IVec S94 1 := cmpi .sle main_v124 main_v3
  let main_c_34 : IVec S_ 32 := constantI S_ 32 512#32
  let main_v126 : IVec S94 32 := broadcastInDim S94 ![] bcast_S_S94 main_c_34
  let main_v127 : IVec S94 32 := muli main_v1 main_v126
  let main_c_35 : IVec S_ 32 := constantI S_ 32 512#32
  let main_v128 : IVec S94 32 := broadcastInDim S94 ![] bcast_S_S94 main_c_35
  let main_v129 : IVec S94 32 := addi main_v127 main_v128
  let main_v130 : IVec S94 1 := cmpi .sle main_v4 main_v129
  fn_part7 (F := F) main_v1 main_v3 main_v4 main_v5 main_v6 main_v7 main_v8 main_v9 main_v10 main_v11 main_v15 main_v19 main_v20 main_v24 main_v28 main_v43 main_v54 main_v79 main_v96 main_v121 main_v122 main_v125 main_v130

def fn_part5 {F : FTy → Type} [FloatOps F] (main_v1 : IVec S94 32) (main_v2 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) (main_v20 : IVec S94 1) (main_v24 : IVec S94 1) (main_v28 : IVec S94 1) (main_v43 : IVec S94 1) (main_v54 : IVec S94 1) (main_v79 : IVec S94 1) (main_v91 : IVec S94 1) (main_v92 : IVec S94 1) (main_v93 : IVec S94 1) : IVec S94 1 :=
  let main_v94 : IVec S94 1 := ori main_v93 main_v19
  let main_v95 : IVec S94 1 := andi main_v92 main_v94
  let main_v96 : IVec S94 1 := fn_where (F := F) main_v20 main_v91 main_v95
  let main_c_25 : IVec S_ 32 := constantI S_ 32 0#32
  let main_v97 : IVec S94 32 := broadcastInDim S94 ![] bcast_S_S94 main_c_25
  let main_v98 : IVec S94 1 := cmpi .sge main_v1 main_v97
  let main_c_26 : IVec S_ 32 := constantI S_ 32 64#32
  let main_v99 : IVec S94 32 := broadcastInDim S94 ![] bcast_S_S94 main_c_26
  let main_v100 : IVec S94 1 := cmpi .slt main_v1 main_v99
  let main_v101 : IVec S94 1 := andi main_v98 main_v100
  let main_c_27 : IVec S_ 32 := constantI S_ 32 0#32
  let main_v102 : IVec S94 32 := broadcastInDim S94 ![] bcast_S_S94 main_c_27
  let main_v103 : IVec S94 1 := cmpi .sge main_v2 main_v102
  let main_v104 : IVec S94 1 := andi main_v101 main_v103
  let main_c_28 : IVec S_ 32 := constantI S_ 32 32#32
  let main_v105 : IVec S94 32 := broadcastInDim S94 ![] bcast_S_S94 main_c_28
  let main_v106 : IVec S94 1 := cmpi .slt main_v2 main_v105
  let main_v107 : IVec S94 1 := andi main_v104 main_v106
  let main_c_29 : IVec S_ 32 := constantI S_ 32 0#32
  let main_v108 : IVec S94 32 := broadcastInDim S94 ![] bcast_S_S94 main_c_29
  let main_v109 : IVec S94 1 := cmpi .sge main_v5 main_v108
  let main_v110 : IVec S94 1 := andi main_v107 main_v109
  let main_c_30 : IVec S_ 32 := constantI S_ 32 528#32
  let main_v111 : IVec S94 32 := broadcastInDim S94 ![] bcast_S_S94 main_c_30
  fn_part6 (F := F) main_v1 main_v3 main_v4 main_v5 main_v6 main_v7 main_v8 main_v9 main_v10 main_v11 main_v15 main_v19 main_v20 main_v24 main_v28 main_v43 main_v54 main_v79 main_v96 main_v110 main_v111

def fn_part4 {F : FTy → Type} [FloatOps F] (main_v1 : IVec S94 32) (main_v2 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) (main_v20 : IVec S94 1) (main_v24 : IVec S94 1) (main_v28 : IVec S94 1) (main_v32 : IVec S94 1) (main_v43 : IVec S94 1) (main_v54 : IVec S94 1) (main_v65 : IVec S94 1) (main_v72 : IVec S94 1) : IVec S94 1 :=
  let main_c_22 : IVec S_ 32 := constantI S_ 32 16#32
  let main_v73 : IVec S94 32 := broadcastInDim S94 ![] bcast_S_S94 main_c_22
  let main_v74 : IVec S94 32 := Host.divsi main_v10 main_v73
  let main_c_23 : IVec S_ 32 := constantI S_ 32 16#32
  let main_v75 : IVec S94 32 := broadcastInDim S94 ![] bcast_S_S94 main_c_23
  let main_v76 : IVec S94 32 := Host.divsi main_v5 main_v75
  let main_v77 : IVec S94 1 := cmpi .eq main_v74 main_v76
  let main_v78 : IVec S94 1 := andi main_v72 main_v77
  let main_v79 : IVec S94 1 := fn_where (F := F) main_v32 main_v65 main_v78
  let main_c_24 : IVec S_ 32 := constantI S_ 32 1#32
  let main_v80 : IVec S94 32 := broadcastInDim S94 ![] bcast_S_S94 main_c_24
  let main_v81 : IVec S94 32 := addi main_v1 main_v80
  let main_v82 : IVec S94 1 := cmpi .eq main_v6 main_v81
  let main_v83 : IVec S94 1 := andi main_v82 main_v11
  let main_v84 : IVec S94 1 := andi main_v83 main_v19
  let main_v85 : IVec S94 1 := cmpi .eq main_v6 main_v1
  let main_v86 : IVec S94 1 := cmpi .eq main_v8 main_v4
  let main_v87 : IVec S94 1 := andi main_v85 main_v86
  let main_v88 : IVec S94 1 := andi main_v87 main_v11
  let main_v89 : IVec S94 1 := noti main_v19
  let main_v90 : IVec S94 1 := andi main_v88 main_v89
  let main_v91 : IVec S94 1 := fn_where (F := F) main_v24 main_v84 main_v90
  let main_v92 : IVec S94 1 := cmpi .eq main_v6 main_v1
  let main_v93 : IVec S94 1 := noti main_v11
  fn_part5 (F := F) main_v1 main_v2 main_v3 main_v4 main_v5 main_v6 main_v7 main_v8 main_v9 main_v10 main_v11 main_v15 main_v19 main_v20 main_v24 main_v28 main_v43 main_v54 main_v79 main_v91 main_v92 main_v93

def fn_part3 {F : FTy → Type} [FloatOps F] (main_v1 : IVec S94 32) (main_v2 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) (main_v20 : IVec S94 1) (main_v24 : IVec S94 1) (main_v28 : IVec S94 1) (main_v32 : IVec S94 1) (main_v43 : IVec S94 1) (main_v54 : IVec S94 1) : IVec S94 1 :=
  let main_c_16 : IVec S_ 32 := constantI S_ 32 16#32
  let main_v55 : IVec S94 32 := broadcastInDim S94 ![] bcast_S_S94 main_c_16
  let main_v56 : IVec S94 32 := Host.divsi main_v5 main_v55
  let main_c_17 : IVec S_ 32 := constantI S_ 32 1#32
  let main_v57 : IVec S94 32 := broadcastInDim S94 ![] bcast_S_S94 main_c_17
  let main_v58 : IVec S94 32 := addi main_v7 main_v57
  let main_v59 : IVec S94 1 := cmpi .eq main_v56 main_v58
  let main_c_18 : IVec S_ 32 := constantI S_ 32 8#32
  let main_v60 : IVec S94 32 := broadcastInDim S94 ![] bcast_S_S94 main_c_18
  let main_v61 : IVec S94 32 := andi main_v10 main_v60
  let main_c_19 : IVec S_ 32 := constantI S_ 32 8#32
  let main_v62 : IVec S94 32 := broadcastInDim S94 ![] bcast_S_S94 main_c_19
  let main_v63 : IVec S94 32 := andi main_v5 main_v62
  let main_v64 : IVec S94 1 := cmpi .ne main_v61 main_v63
  let main_v65 : IVec S94 1 := andi main_v59 main_v64
  let main_v66 : IVec S94 1 := cmpi .eq main_v7 main_v2
  let main_c_20 : IVec S_ 32 := constantI S_ 32 8#32
  let main_v67 : IVec S94 32 := broadcastInDim S94 ![] bcast_S_S94 main_c_20
  let main_v68 : IVec S94 32 := andi main_v10 main_v67
  let main_c_21 : IVec S_ 32 := constantI S_ 32 8#32
  let main_v69 : IVec S94 32 := broadcastInDim S94 ![] bcast_S_S94 main_c_21
  let main_v70 : IVec S94 32 := andi main_v5 main_v69
  let main_v71 : IVec S94 1 := cmpi .eq main_v68 main_v70
  let main_v72 : IVec S94 1 := andi main_v66 main_v71
  fn_part4 (F := F) main_v1 main_v2 main_v3 main_v4 main_v5 main_v6 main_v7 main_v8 main_v9 main_v10 main_v11 main_v15 main_v19 main_v20 main_v24 main_v28 main_v32 main_v43 main_v54 main_v65 main_v72

def fn_part2 {F : FTy → Type} [FloatOps F] (main_v0 : IVec S94 32) (main_v1 : IVec S94 32) (main_v2 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) (main_v20 : IVec S94 1) (main_v24 : IVec S94 1) (main_v28 : IVec S94 1) (main_v32 : IVec S94 1) (main_v34 : IVec S94 1) (main_v35 : IVec S94 32) : IVec S94 1 :=
  let main_v36 : IVec S94 32 := andi main_v5 main_v35
  let main_c_11 : IVec S_ 32 := constantI S_ 32 0#32
  let main_v37 : IVec S94 32 := broadcastInDim S94 ![] bcast_S_S94 main_c_11
  let main_v38 : IVec S94 1 := cmpi .ne main_v36 main_v37
  let main_v39 : IVec S94 1 := andi main_v38 main_v15
  let main_c_12 : IVec S_ 32 := constantI S_ 32 0#32
  let main_v40 : IVec S94 32 := broadcastInDim S94 ![] bcast_S_S94 main_c_12
  let main_v41 : IVec S94 1 := cmpi .eq main_v1 main_v40
  let main_v42 : IVec S94 1 := andi main_v39 main_v41
  let main_v43 : IVec S94 1 := ori main_v34 main_v42
  let main_c_13 : IVec S_ 32 := constantI S_ 32 93#32
  let main_v44 : IVec S94 32 := broadcastInDim S94 ![] bcast_S_S94 main_c_13
  let main_v45 : IVec S94 1 := cmpi .ne main_v0 main_v44
  let main_c_14 : IVec S_ 32 := constantI S_ 32 16#32
  let main_v46 : IVec S94 32 := broadcastInDim S94 ![] bcast_S_S94 main_c_14
  let main_v47 : IVec S94 1 := cmpi .slt main_v10 main_v46
  let main_c_15 : IVec S_ 32 := constantI S_ 32 63#32
  let main_v48 : IVec S94 32 := broadcastInDim S94 ![] bcast_S_S94 main_c_15
  let main_v49 : IVec S94 1 := cmpi .eq main_v6 main_v48
  let main_v50 : IVec S94 1 := andi main_v47 main_v49
  let main_v51 : IVec S94 1 := noti main_v20
  let main_v52 : IVec S94 1 := ori main_v51 main_v28
  let main_v53 : IVec S94 1 := andi main_v50 main_v52
  let main_v54 : IVec S94 1 := ori main_v45 main_v53
  fn_part3 (F := F) main_v1 main_v2 main_v3 main_v4 main_v5 main_v6 main_v7 main_v8 main_v9 main_v10 main_v11 main_v15 main_v19 main_v20 main_v24 main_v28 main_v32 main_v43 main_v54

def fn_part1 {F : FTy → Type} [FloatOps F] (main_v0 : IVec S94 32) (main_v1 : IVec S94 32) (main_v2 : IVec S94 32) (main_v3 : IVec S94 32) (main_v4 : IVec S94 32) (main_v5 : IVec S94 32) (main_v6 : IVec S94 32) (main_v7 : IVec S94 32) (main_v8 : IVec S94 32) (main_v9 : IVec S94 32) (main_v10 : IVec S94 32) (main_v11 : IVec S94 1) (main_v15 : IVec S94 1) (main_v19 : IVec S94 1) : IVec S94 1 :=
  let main_v20 : IVec S94 1 := cmpi .slt main_v8 main_v9
  let main_c_3 : IVec S_ 32 := constantI S_ 32 1#32
  let main_v21 : IVec S94 32 := broadcastInDim S94 ![] bcast_S_S94 main_c_3
  let main_v22 : IVec S94 32 := andi main_v10 main_v21
  let main_c_4 : IVec S_ 32 := constantI S_ 32 0#32
  let main_v23 : IVec S94 32 := broadcastInDim S94 ![] bcast_S_S94 main_c_4
  let main_v24 : IVec S94 1 := cmpi .ne main_v22 main_v23
  let main_c_5 : IVec S_ 32 := constantI S_ 32 2#32
  let main_v25 : IVec S94 32 := broadcastInDim S94 ![] bcast_S_S94 main_c_5
  let main_v26 : IVec S94 32 := andi main_v10 main_v25
  let main_c_6 : IVec S_ 32 := constantI S_ 32 0#32
  let main_v27 : IVec S94 32 := broadcastInDim S94 ![] bcast_S_S94 main_c_6
  let main_v28 : IVec S94 1 := cmpi .ne main_v26 main_v27
  let main_c_7 : IVec S_ 32 := constantI S_ 32 4#32
  let main_v29 : IVec S94 32 := broadcastInDim S94 ![] bcast_S_S94 main_c_7
  let main_v30 : IVec S94 32 := andi main_v10 main_v29
  let main_c_8 : IVec S_ 32 := constantI S_ 32 0#32
  let main_v31 : IVec S94 32 := broadcastInDim S94 ![] bcast_S_S94 main_c_8
  let main_v32 : IVec S94 1 := cmpi .ne main_v30 main_v31
  let main_c_9 : IVec S_ 32 := constantI S_ 32 0#32
  let main_v33 : IVec S94 32 := broadcastInDim S94 ![] bcast_S_S94 main_c_9
  let main_v34 : IVec S94 1 := cmpi .ne main_v0 main_v33
  let main_c_10 : IVec S_ 32 := constantI S_ 32 4#32
  let main_v35 : IVec S94 32 := broadcastInDim S94 ![] bcast_S_S94 main_c_10
  fn_part2 (F := F) main_v0 main_v1 main_v2 main_v3 main_v4 main_v5 main_v6 main_v7 main_v8 main_v9 main_v10 main_v11 main_v15 main_v19 main_v20 main_v24 main_v28 main_v32 main_v34 main_v35

def fn {F : FTy → Type} [FloatOps F] (main_arg0 : IVec S95 32) (main_arg1 : IVec S95 32) (main_arg2 : IVec S95 32) (main_arg3 : IVec S95 32) (main_arg4 : IVec S95 32) (main_arg5 : IVec S32768x1024 32) (main_arg6 : FVec F S2x32x2048x256 .f32) (main_arg7 : FVec F S2x32x2048x256 .f32) (main_arg8 : FVec F S2x32x256x2048 .f32) : IVec S94 1 :=
  let main_v0 : IVec S94 32 := iotaInDim S94 32 0
  let main_v1 : IVec S94 32 := (extractStridedSlice S94 ![0] · slices_S95_S94_0) main_arg0
  let main_v2 : IVec S94 32 := (extractStridedSlice S94 ![0] · slices_S95_S94_0) main_arg1
  let main_v3 : IVec S94 32 := (extractStridedSlice S94 ![0] · slices_S95_S94_0) main_arg2
  let main_v4 : IVec S94 32 := (extractStridedSlice S94 ![0] · slices_S95_S94_0) main_arg3
  let main_v5 : IVec S94 32 := (extractStridedSlice S94 ![0] · slices_S95_S94_0) main_arg4
  let main_v6 : IVec S94 32 := (extractStridedSlice S94 ![1] · slices_S95_S94_1) main_arg0
  let main_v7 : IVec S94 32 := (extractStridedSlice S94 ![1] · slices_S95_S94_1) main_arg1
  let main_v8 : IVec S94 32 := (extractStridedSlice S94 ![1] · slices_S95_S94_1) main_arg2
  let main_v9 : IVec S94 32 := (extractStridedSlice S94 ![1] · slices_S95_S94_1) main_arg3
  let main_v10 : IVec S94 32 := (extractStridedSlice S94 ![1] · slices_S95_S94_1) main_arg4
  let main_v11 : IVec S94 1 := cmpi .slt main_v3 main_v4
  let main_c : IVec S_ 32 := constantI S_ 32 1#32
  let main_v12 : IVec S94 32 := broadcastInDim S94 ![] bcast_S_S94 main_c
  let main_v13 : IVec S94 32 := andi main_v5 main_v12
  let main_c_0 : IVec S_ 32 := constantI S_ 32 0#32
  let main_v14 : IVec S94 32 := broadcastInDim S94 ![] bcast_S_S94 main_c_0
  let main_v15 : IVec S94 1 := cmpi .ne main_v13 main_v14
  let main_c_1 : IVec S_ 32 := constantI S_ 32 2#32
  let main_v16 : IVec S94 32 := broadcastInDim S94 ![] bcast_S_S94 main_c_1
  let main_v17 : IVec S94 32 := andi main_v5 main_v16
  let main_c_2 : IVec S_ 32 := constantI S_ 32 0#32
  let main_v18 : IVec S94 32 := broadcastInDim S94 ![] bcast_S_S94 main_c_2
  let main_v19 : IVec S94 1 := cmpi .ne main_v17 main_v18
  fn_part1 (F := F) main_v0 main_v1 main_v2 main_v3 main_v4 main_v5 main_v6 main_v7 main_v8 main_v9 main_v10 main_v11 main_v15 main_v19
-- ==== Kernel.lean ====
abbrev S95 : Shape := ⟨1, ![95]⟩
abbrev S32768x1024 : Shape := ⟨2, ![32768, 1024]⟩
abbrev S2x32x2048x256 : Shape := ⟨4, ![2, 32, 2048, 256]⟩
abbrev S2x32x256x2048 : Shape := ⟨4, ![2, 32, 256, 2048]⟩
abbrev S512x1024 : Shape := ⟨2, ![512, 1024]⟩
abbrev S1 : Shape := ⟨1, ![1]⟩
abbrev S512x2048 : Shape := ⟨2, ![512, 2048]⟩
abbrev S2048x256 : Shape := ⟨2, ![2048, 256]⟩
abbrev S256x2048 : Shape := ⟨2, ![256, 2048]⟩
abbrev S2x2048x256 : Shape := ⟨3, ![2, 2048, 256]⟩
abbrev S2x256x2048 : Shape := ⟨3, ![2, 256, 2048]⟩
abbrev S2 : Shape := ⟨1, ![2]⟩
abbrev S_ : Shape := ⟨0, ![]⟩
abbrev S1x2048x256 : Shape := ⟨3, ![1, 2048, 256]⟩
abbrev S1x1x2048x256 : Shape := ⟨4, ![1, 1, 2048, 256]⟩
abbrev S1x256x2048 : Shape := ⟨3, ![1, 256, 2048]⟩
abbrev S1x1x256x2048 : Shape := ⟨4, ![1, 1, 256, 2048]⟩
abbrev S512x256 : Shape := ⟨2, ![512, 256]⟩
abbrev S256x1024 : Shape := ⟨2, ![256, 1024]⟩
abbrev S256x256 : Shape := ⟨2, ![256, 256]⟩

abbrev nBuf : Space → Nat
  | .hbm => 5
  | .vmem => 11
  | .smem => 5
  | _ => 0

abbrev bufTy : (tb : Table) → Fin (tcTables nBuf tb) → BufTy
  | .hbm, ⟨0, _⟩ => ⟨S32768x1024, .i32⟩
  | .hbm, ⟨1, _⟩ => ⟨S2x32x2048x256, .f32⟩
  | .hbm, ⟨2, _⟩ => ⟨S2x32x2048x256, .f32⟩
  | .hbm, ⟨3, _⟩ => ⟨S2x32x256x2048, .f32⟩
  | .hbm, ⟨4, _⟩ => ⟨S32768x1024, .i32⟩
  | .local _ .vmem, ⟨0, _⟩ => ⟨S512x1024, .i32⟩
  | .local _ .vmem, ⟨1, _⟩ => ⟨S512x1024, .i32⟩
  | .local _ .vmem, ⟨2, _⟩ => ⟨S512x1024, .i32⟩
  | .local _ .vmem, ⟨3, _⟩ => ⟨S512x1024, .i32⟩
  | .local _ .vmem, ⟨4, _⟩ => ⟨S512x2048, .f32⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S2x2048x256, .f32⟩
  | .local _ .vmem, ⟨9, _⟩ => ⟨S2x2048x256, .f32⟩
  | .local _ .vmem, ⟨10, _⟩ => ⟨S2x256x2048, .f32⟩
  | .local _ .smem, ⟨0, _⟩ => ⟨S95, .i32⟩
  | .local _ .smem, ⟨1, _⟩ => ⟨S95, .i32⟩
  | .local _ .smem, ⟨2, _⟩ => ⟨S95, .i32⟩
  | .local _ .smem, ⟨3, _⟩ => ⟨S95, .i32⟩
  | .local _ .smem, ⟨4, _⟩ => ⟨S95, .i32⟩
  | _, _ => ⟨S32768x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![95], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_12 : BitVec 32 := 0#32
  let v42 : BitVec 1 := Scalar.cmpi .eq arg0 c0_i32_12
  let v43 : BitVec 32 := Scalar.extui v42
  let c0_i32_13 : BitVec 32 := 0#32
  let v44 : BitVec 1 := Scalar.cmpi .ne v43 c0_i32_13
  v44

def k0_off2 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]

def k0_off3 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_25 : BitVec 32 := 0#32
  let c0_i32_26 : BitVec 32 := 0#32
  ![v23.toNat, 0, 0]
def k0_off4 (v78 : BitVec 32) : Fin 4 → Nat :=
  let c0_i32_24 : BitVec 32 := 0#32
  let c0_i32_27 : BitVec 32 := 0#32
  let c0_i32_28 : BitVec 32 := 0#32
  ![0, v78.toNat, 0, 0]

def k0_off5 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_off6 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_30 : BitVec 32 := 0#32
  let c0_i32_31 : BitVec 32 := 0#32
  ![v23.toNat, 0, 0]
def k0_off7 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_35 : BitVec 32 := 0#32
  let c0_i32_36 : BitVec 32 := 0#32
  ![v23.toNat, 0, 0]
def k0_off8 (v78 : BitVec 32) : Fin 4 → Nat :=
  let c0_i32_34 : BitVec 32 := 0#32
  let c0_i32_37 : BitVec 32 := 0#32
  let c0_i32_38 : BitVec 32 := 0#32
  ![0, v78.toNat, 0, 0]

def k0_chk2 (i : grid0.Coords) (v78 : BitVec 32) : Prop :=
  (∀ (k0_h1 : k0_cond1 i = 1#1), ∀ a, (k0_off4 v78) a + S1x1x2048x256.size a ≤ S2x32x2048x256.size a) ∧
  (∀ (k0_h1 : k0_cond1 i = 1#1), ∀ a, (k0_off8 v78) a + S1x1x256x2048.size a ≤ S2x32x256x2048.size a)
theorem k0_off4_inb : ∀ (i : grid0.Coords) (v78 : BitVec 32) (k0_hw2 : k0_chk2 i v78), ∀ (k0_h1 : k0_cond1 i = 1#1), ∀ a, (k0_off4 v78) a + S1x1x2048x256.size a ≤ S2x32x2048x256.size a := fun i v78 k0_hw2 k0_h1 => k0_hw2.1 k0_h1
theorem k0_off8_inb : ∀ (i : grid0.Coords) (v78 : BitVec 32) (k0_hw2 : k0_chk2 i v78), ∀ (k0_h1 : k0_cond1 i = 1#1), ∀ a, (k0_off8 v78) a + S1x1x256x2048.size a ≤ S2x32x256x2048.size a := fun i v78 k0_hw2 k0_h1 => k0_hw2.2 k0_h1

def k0_off9 (i : grid0.Coords) : Fin 1 → Nat :=
  let arg0 : BitVec 32 := BitVec.ofNat 32 (i 0).val
  let v78 : Index := Scalar.indexCast arg0
  ![v78.toNat]
def k0_off10 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_cond2 (v5 : BitVec 32) : BitVec 1 :=
  let c4_i32 : BitVec 32 := 4#32
  let v45 : BitVec 32 := Scalar.andi v5 c4_i32
  let c0_i32_14 : BitVec 32 := 0#32
  let v46 : BitVec 1 := Scalar.cmpi .ne v45 c0_i32_14
  let v47 : BitVec 32 := Scalar.extui v46
  let c0_i32_15 : BitVec 32 := 0#32
  let v48 : BitVec 1 := Scalar.cmpi .ne v47 c0_i32_15
  v48

def k0_off11 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_25 : BitVec 32 := 0#32
  let c0_i32_26 : BitVec 32 := 0#32
  ![v23.toNat, 0, 0]
def k0_off12 (v79 : BitVec 32) : Fin 4 → Nat :=
  let c0_i32_24 : BitVec 32 := 0#32
  let c0_i32_27 : BitVec 32 := 0#32
  let c0_i32_28 : BitVec 32 := 0#32
  ![0, v79.toNat, 0, 0]

def k0_off13 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_off14 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_30 : BitVec 32 := 0#32
  let c0_i32_31 : BitVec 32 := 0#32
  ![v23.toNat, 0, 0]
def k0_off15 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_35 : BitVec 32 := 0#32
  let c0_i32_36 : BitVec 32 := 0#32
  ![v23.toNat, 0, 0]
def k0_off16 (v79 : BitVec 32) : Fin 4 → Nat :=
  let c0_i32_34 : BitVec 32 := 0#32
  let c0_i32_37 : BitVec 32 := 0#32
  let c0_i32_38 : BitVec 32 := 0#32
  ![0, v79.toNat, 0, 0]

def k0_chk3 (v5 : BitVec 32) (v79 : BitVec 32) : Prop :=
  (∀ (k0_h2 : k0_cond2 v5 = 1#1), ∀ a, (k0_off12 v79) a + S1x1x2048x256.size a ≤ S2x32x2048x256.size a) ∧
  (∀ (k0_h2 : k0_cond2 v5 = 1#1), ∀ a, (k0_off16 v79) a + S1x1x256x2048.size a ≤ S2x32x256x2048.size a)
theorem k0_off12_inb : ∀ (v5 : BitVec 32) (v79 : BitVec 32) (k0_hw3 : k0_chk3 v5 v79), ∀ (k0_h2 : k0_cond2 v5 = 1#1), ∀ a, (k0_off12 v79) a + S1x1x2048x256.size a ≤ S2x32x2048x256.size a := fun v5 v79 k0_hw3 k0_h2 => k0_hw3.1 k0_h2
theorem k0_off16_inb : ∀ (v5 : BitVec 32) (v79 : BitVec 32) (k0_hw3 : k0_chk3 v5 v79), ∀ (k0_h2 : k0_cond2 v5 = 1#1), ∀ a, (k0_off16 v79) a + S1x1x256x2048.size a ≤ S2x32x256x2048.size a := fun v5 v79 k0_hw3 k0_h2 => k0_hw3.2 k0_h2

def k0_off17 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v98 : Index := Scalar.indexCast v23
  let c0 : Index := 0#32
  let c0_39 : Index := 0#32
  ![v98.toNat, 0, 0]
def k0_off18 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v112 : Index := Scalar.indexCast v23
  let c0_46 : Index := 0#32
  let c0_47 : Index := 0#32
  ![v112.toNat, 0, 0]
def k0_off19 (v5 : BitVec 32) : Fin 1 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  ![v122.toNat]
def k0_cond3 (v5 : BitVec 32) : BitVec 1 :=
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_50 : BitVec 32 := 0#32
  let v119 : BitVec 1 := Scalar.cmpi .sge v41 c0_i32_50
  let v120 : BitVec 32 := Scalar.extui v119
  let c0_i32_51 : BitVec 32 := 0#32
  let v121 : BitVec 1 := Scalar.cmpi .ne v120 c0_i32_51
  v121

def k0_off20 (v5 : BitVec 32) : Fin 3 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  let c0_i32_54 : BitVec 32 := 0#32
  let c0_i32_55 : BitVec 32 := 0#32
  ![v122.toNat, 0, 0]
def k0_off21 (v5 : BitVec 32) : Fin 4 → Nat :=
  let c0_i32_53 : BitVec 32 := 0#32
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_56 : BitVec 32 := 0#32
  let c0_i32_57 : BitVec 32 := 0#32
  ![0, v41.toNat, 0, 0]
def k0_off22 (v5 : BitVec 32) : Fin 3 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  let c0_i32_64 : BitVec 32 := 0#32
  let c0_i32_65 : BitVec 32 := 0#32
  ![v122.toNat, 0, 0]
def k0_off23 (v5 : BitVec 32) : Fin 4 → Nat :=
  let c0_i32_63 : BitVec 32 := 0#32
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_66 : BitVec 32 := 0#32
  let c0_i32_67 : BitVec 32 := 0#32
  ![0, v41.toNat, 0, 0]

def k0_chk1 (i : grid0.Coords) (v5 : BitVec 32) : Prop :=
  (∀ (k0_h1 : k0_cond1 i = 1#1), ∀ a, (k0_off2 v5) a + S1.size a ≤ S2.size a) ∧
  (∀ (k0_h1 : k0_cond1 i = 1#1), ∀ a, (k0_off3 v5) a + S1x2048x256.size a ≤ S2x2048x256.size a) ∧
  (∀ (k0_h1 : k0_cond1 i = 1#1), ∀ a, (k0_off5 v5) a + S1.size a ≤ S2.size a) ∧
  (∀ (k0_h1 : k0_cond1 i = 1#1), ∀ a, (k0_off6 v5) a + S1x2048x256.size a ≤ S2x2048x256.size a) ∧
  (∀ (k0_h1 : k0_cond1 i = 1#1), ∀ a, (k0_off7 v5) a + S1x256x2048.size a ≤ S2x256x2048.size a) ∧
  (∀ (k0_h2 : k0_cond2 v5 = 1#1), ∀ a, (k0_off10 v5) a + S1.size a ≤ S2.size a) ∧
  (∀ (k0_h2 : k0_cond2 v5 = 1#1), ∀ a, (k0_off11 v5) a + S1x2048x256.size a ≤ S2x2048x256.size a) ∧
  (∀ (k0_h2 : k0_cond2 v5 = 1#1), ∀ a, (k0_off13 v5) a + S1.size a ≤ S2.size a) ∧
  (∀ (k0_h2 : k0_cond2 v5 = 1#1), ∀ a, (k0_off14 v5) a + S1x2048x256.size a ≤ S2x2048x256.size a) ∧
  (∀ (k0_h2 : k0_cond2 v5 = 1#1), ∀ a, (k0_off15 v5) a + S1x256x2048.size a ≤ S2x256x2048.size a) ∧
  (∀ (k0_h2 : k0_cond2 v5 = 1#1), ∀ a, (k0_off17 v5) a + S1x2048x256.size a ≤ S2x2048x256.size a) ∧
  (∀ (k0_h2 : k0_cond2 v5 = 1#1), ∀ a, (k0_off18 v5) a + S1x256x2048.size a ≤ S2x256x2048.size a) ∧
  (∀ (k0_h2 : k0_cond2 v5 = 1#1), ∀ (k0_h3 : k0_cond3 v5 = 1#1), ∀ a, (k0_off19 v5) a + S1.size a ≤ S2.size a) ∧
  (∀ (k0_h2 : k0_cond2 v5 = 1#1), ∀ (k0_h3 : k0_cond3 v5 = 1#1), ∀ a, (k0_off20 v5) a + S1x2048x256.size a ≤ S2x2048x256.size a) ∧
  (∀ (k0_h2 : k0_cond2 v5 = 1#1), ∀ (k0_h3 : k0_cond3 v5 = 1#1), ∀ a, (k0_off21 v5) a + S1x1x2048x256.size a ≤ S2x32x2048x256.size a) ∧
  (∀ (k0_h2 : k0_cond2 v5 = 1#1), ∀ (k0_h3 : k0_cond3 v5 = 1#1), ∀ a, (k0_off22 v5) a + S1x256x2048.size a ≤ S2x256x2048.size a) ∧
  (∀ (k0_h2 : k0_cond2 v5 = 1#1), ∀ (k0_h3 : k0_cond3 v5 = 1#1), ∀ a, (k0_off23 v5) a + S1x1x256x2048.size a ≤ S2x32x256x2048.size a)
theorem k0_off2_inb : ∀ (i : grid0.Coords) (v5 : BitVec 32) (k0_hw1 : k0_chk1 i v5), ∀ (k0_h1 : k0_cond1 i = 1#1), ∀ a, (k0_off2 v5) a + S1.size a ≤ S2.size a := fun i v5 k0_hw1 k0_h1 => k0_hw1.1 k0_h1
theorem k0_off3_inb : ∀ (i : grid0.Coords) (v5 : BitVec 32) (k0_hw1 : k0_chk1 i v5), ∀ (k0_h1 : k0_cond1 i = 1#1), ∀ a, (k0_off3 v5) a + S1x2048x256.size a ≤ S2x2048x256.size a := fun i v5 k0_hw1 k0_h1 => k0_hw1.2.1 k0_h1
theorem k0_off5_inb : ∀ (i : grid0.Coords) (v5 : BitVec 32) (k0_hw1 : k0_chk1 i v5), ∀ (k0_h1 : k0_cond1 i = 1#1), ∀ a, (k0_off5 v5) a + S1.size a ≤ S2.size a := fun i v5 k0_hw1 k0_h1 => k0_hw1.2.2.1 k0_h1
theorem k0_off6_inb : ∀ (i : grid0.Coords) (v5 : BitVec 32) (k0_hw1 : k0_chk1 i v5), ∀ (k0_h1 : k0_cond1 i = 1#1), ∀ a, (k0_off6 v5) a + S1x2048x256.size a ≤ S2x2048x256.size a := fun i v5 k0_hw1 k0_h1 => k0_hw1.2.2.2.1 k0_h1
theorem k0_off7_inb : ∀ (i : grid0.Coords) (v5 : BitVec 32) (k0_hw1 : k0_chk1 i v5), ∀ (k0_h1 : k0_cond1 i = 1#1), ∀ a, (k0_off7 v5) a + S1x256x2048.size a ≤ S2x256x2048.size a := fun i v5 k0_hw1 k0_h1 => k0_hw1.2.2.2.2.1 k0_h1
theorem k0_off10_inb : ∀ (i : grid0.Coords) (v5 : BitVec 32) (k0_hw1 : k0_chk1 i v5), ∀ (k0_h2 : k0_cond2 v5 = 1#1), ∀ a, (k0_off10 v5) a + S1.size a ≤ S2.size a := fun i v5 k0_hw1 k0_h2 => k0_hw1.2.2.2.2.2.1 k0_h2
theorem k0_off11_inb : ∀ (i : grid0.Coords) (v5 : BitVec 32) (k0_hw1 : k0_chk1 i v5), ∀ (k0_h2 : k0_cond2 v5 = 1#1), ∀ a, (k0_off11 v5) a + S1x2048x256.size a ≤ S2x2048x256.size a := fun i v5 k0_hw1 k0_h2 => k0_hw1.2.2.2.2.2.2.1 k0_h2
theorem k0_off13_inb : ∀ (i : grid0.Coords) (v5 : BitVec 32) (k0_hw1 : k0_chk1 i v5), ∀ (k0_h2 : k0_cond2 v5 = 1#1), ∀ a, (k0_off13 v5) a + S1.size a ≤ S2.size a := fun i v5 k0_hw1 k0_h2 => k0_hw1.2.2.2.2.2.2.2.1 k0_h2
theorem k0_off14_inb : ∀ (i : grid0.Coords) (v5 : BitVec 32) (k0_hw1 : k0_chk1 i v5), ∀ (k0_h2 : k0_cond2 v5 = 1#1), ∀ a, (k0_off14 v5) a + S1x2048x256.size a ≤ S2x2048x256.size a := fun i v5 k0_hw1 k0_h2 => k0_hw1.2.2.2.2.2.2.2.2.1 k0_h2
theorem k0_off15_inb : ∀ (i : grid0.Coords) (v5 : BitVec 32) (k0_hw1 : k0_chk1 i v5), ∀ (k0_h2 : k0_cond2 v5 = 1#1), ∀ a, (k0_off15 v5) a + S1x256x2048.size a ≤ S2x256x2048.size a := fun i v5 k0_hw1 k0_h2 => k0_hw1.2.2.2.2.2.2.2.2.2.1 k0_h2
theorem k0_off17_inb : ∀ (i : grid0.Coords) (v5 : BitVec 32) (k0_hw1 : k0_chk1 i v5), ∀ (k0_h2 : k0_cond2 v5 = 1#1), ∀ a, (k0_off17 v5) a + S1x2048x256.size a ≤ S2x2048x256.size a := fun i v5 k0_hw1 k0_h2 => k0_hw1.2.2.2.2.2.2.2.2.2.2.1 k0_h2
theorem k0_off18_inb : ∀ (i : grid0.Coords) (v5 : BitVec 32) (k0_hw1 : k0_chk1 i v5), ∀ (k0_h2 : k0_cond2 v5 = 1#1), ∀ a, (k0_off18 v5) a + S1x256x2048.size a ≤ S2x256x2048.size a := fun i v5 k0_hw1 k0_h2 => k0_hw1.2.2.2.2.2.2.2.2.2.2.2.1 k0_h2
theorem k0_off19_inb : ∀ (i : grid0.Coords) (v5 : BitVec 32) (k0_hw1 : k0_chk1 i v5), ∀ (k0_h2 : k0_cond2 v5 = 1#1), ∀ (k0_h3 : k0_cond3 v5 = 1#1), ∀ a, (k0_off19 v5) a + S1.size a ≤ S2.size a := fun i v5 k0_hw1 k0_h2 k0_h3 => k0_hw1.2.2.2.2.2.2.2.2.2.2.2.2.1 k0_h2 k0_h3
theorem k0_off20_inb : ∀ (i : grid0.Coords) (v5 : BitVec 32) (k0_hw1 : k0_chk1 i v5), ∀ (k0_h2 : k0_cond2 v5 = 1#1), ∀ (k0_h3 : k0_cond3 v5 = 1#1), ∀ a, (k0_off20 v5) a + S1x2048x256.size a ≤ S2x2048x256.size a := fun i v5 k0_hw1 k0_h2 k0_h3 => k0_hw1.2.2.2.2.2.2.2.2.2.2.2.2.2.1 k0_h2 k0_h3
theorem k0_off21_inb : ∀ (i : grid0.Coords) (v5 : BitVec 32) (k0_hw1 : k0_chk1 i v5), ∀ (k0_h2 : k0_cond2 v5 = 1#1), ∀ (k0_h3 : k0_cond3 v5 = 1#1), ∀ a, (k0_off21 v5) a + S1x1x2048x256.size a ≤ S2x32x2048x256.size a := fun i v5 k0_hw1 k0_h2 k0_h3 => k0_hw1.2.2.2.2.2.2.2.2.2.2.2.2.2.2.1 k0_h2 k0_h3
theorem k0_off22_inb : ∀ (i : grid0.Coords) (v5 : BitVec 32) (k0_hw1 : k0_chk1 i v5), ∀ (k0_h2 : k0_cond2 v5 = 1#1), ∀ (k0_h3 : k0_cond3 v5 = 1#1), ∀ a, (k0_off22 v5) a + S1x256x2048.size a ≤ S2x256x2048.size a := fun i v5 k0_hw1 k0_h2 k0_h3 => k0_hw1.2.2.2.2.2.2.2.2.2.2.2.2.2.2.2.1 k0_h2 k0_h3
theorem k0_off23_inb : ∀ (i : grid0.Coords) (v5 : BitVec 32) (k0_hw1 : k0_chk1 i v5), ∀ (k0_h2 : k0_cond2 v5 = 1#1), ∀ (k0_h3 : k0_cond3 v5 = 1#1), ∀ a, (k0_off23 v5) a + S1x1x256x2048.size a ≤ S2x32x256x2048.size a := fun i v5 k0_hw1 k0_h2 k0_h3 => k0_hw1.2.2.2.2.2.2.2.2.2.2.2.2.2.2.2.2 k0_h2 k0_h3

def k0_off24 (i : grid0.Coords) : Fin 1 → Nat :=
  let arg0 : BitVec 32 := BitVec.ofNat 32 (i 0).val
  let v51 : Index := Scalar.indexCast arg0
  ![v51.toNat]
def k0_off25 (i : grid0.Coords) : Fin 1 → Nat :=
  let arg0 : BitVec 32 := BitVec.ofNat 32 (i 0).val
  let v78 : Index := Scalar.indexCast arg0
  ![v78.toNat]
def k0_off26 (i : grid0.Coords) : Fin 1 → Nat :=
  let arg0 : BitVec 32 := BitVec.ofNat 32 (i 0).val
  let v78 : Index := Scalar.indexCast arg0
  ![v78.toNat]
def k0_off27 (i : grid0.Coords) : Fin 1 → Nat :=
  let arg0 : BitVec 32 := BitVec.ofNat 32 (i 0).val
  let v78 : Index := Scalar.indexCast arg0
  ![v78.toNat]
def k0_cond13 (v5 : BitVec 32) : BitVec 1 :=
  let c2_i32 : BitVec 32 := 2#32
  let v74 : BitVec 32 := Scalar.andi v5 c2_i32
  let c0_i32_22 : BitVec 32 := 0#32
  let v75 : BitVec 1 := Scalar.cmpi .ne v74 c0_i32_22
  let v76 : BitVec 32 := Scalar.extui v75
  let c0_i32_23 : BitVec 32 := 0#32
  let v77 : BitVec 1 := Scalar.cmpi .ne v76 c0_i32_23
  v77

def cc0_transform_0 (k0_off1_inb : ∀ i : grid0.Coords, ∀ a, (k0_off1 i) a + S1.size a ≤ S95.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S95) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S95.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S95) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Plain.lean ====
abbrev S95 : Shape := ⟨1, ![95]⟩
abbrev S32768x1024 : Shape := ⟨2, ![32768, 1024]⟩
abbrev S2x32x2048x256 : Shape := ⟨4, ![2, 32, 2048, 256]⟩
abbrev S2x32x256x2048 : Shape := ⟨4, ![2, 32, 256, 2048]⟩
abbrev S32768x2048 : Shape := ⟨2, ![32768, 2048]⟩
abbrev S512x1024 : Shape := ⟨2, ![512, 1024]⟩
abbrev S1 : Shape := ⟨1, ![1]⟩
abbrev S512x2048 : Shape := ⟨2, ![512, 2048]⟩
abbrev S2048x256 : Shape := ⟨2, ![2048, 256]⟩
abbrev S256x2048 : Shape := ⟨2, ![256, 2048]⟩
abbrev S2x2048x256 : Shape := ⟨3, ![2, 2048, 256]⟩
abbrev S2x256x2048 : Shape := ⟨3, ![2, 256, 2048]⟩
abbrev S2 : Shape := ⟨1, ![2]⟩
abbrev S_ : Shape := ⟨0, ![]⟩
abbrev S1x2048x256 : Shape := ⟨3, ![1, 2048, 256]⟩
abbrev S1x1x2048x256 : Shape := ⟨4, ![1, 1, 2048, 256]⟩
abbrev S1x256x2048 : Shape := ⟨3, ![1, 256, 2048]⟩
abbrev S1x1x256x2048 : Shape := ⟨4, ![1, 1, 256, 2048]⟩
abbrev S512x256 : Shape := ⟨2, ![512, 256]⟩
abbrev S256x1024 : Shape := ⟨2, ![256, 1024]⟩
abbrev S256x256 : Shape := ⟨2, ![256, 256]⟩

abbrev nBuf : Space → Nat
  | .hbm => 5
  | .vmem => 11
  | .smem => 5
  | _ => 0

abbrev bufTy : (tb : Table) → Fin (tcTables nBuf tb) → BufTy
  | .hbm, ⟨0, _⟩ => ⟨S32768x1024, .i32⟩
  | .hbm, ⟨1, _⟩ => ⟨S2x32x2048x256, .f32⟩
  | .hbm, ⟨2, _⟩ => ⟨S2x32x2048x256, .f32⟩
  | .hbm, ⟨3, _⟩ => ⟨S2x32x256x2048, .f32⟩
  | .hbm, ⟨4, _⟩ => ⟨S32768x2048, .bf16⟩
  | .local _ .vmem, ⟨0, _⟩ => ⟨S512x1024, .i32⟩
  | .local _ .vmem, ⟨1, _⟩ => ⟨S512x1024, .i32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S2x2048x256, .f32⟩
  | .local _ .vmem, ⟨9, _⟩ => ⟨S2x2048x256, .f32⟩
  | .local _ .vmem, ⟨10, _⟩ => ⟨S2x256x2048, .f32⟩
  | .local _ .smem, ⟨0, _⟩ => ⟨S95, .i32⟩
  | .local _ .smem, ⟨1, _⟩ => ⟨S95, .i32⟩
  | .local _ .smem, ⟨2, _⟩ => ⟨S95, .i32⟩
  | .local _ .smem, ⟨3, _⟩ => ⟨S95, .i32⟩
  | .local _ .smem, ⟨4, _⟩ => ⟨S95, .i32⟩
  | _, _ => ⟨S32768x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![95], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_12 : BitVec 32 := 0#32
  let v42 : BitVec 1 := Scalar.cmpi .eq arg0 c0_i32_12
  let v43 : BitVec 32 := Scalar.extui v42
  let c0_i32_13 : BitVec 32 := 0#32
  let v44 : BitVec 1 := Scalar.cmpi .ne v43 c0_i32_13
  v44

def k0_off2 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]

def k0_off3 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_25 : BitVec 32 := 0#32
  let c0_i32_26 : BitVec 32 := 0#32
  ![v23.toNat, 0, 0]
def k0_off4 (v78 : BitVec 32) : Fin 4 → Nat :=
  let c0_i32_24 : BitVec 32 := 0#32
  let c0_i32_27 : BitVec 32 := 0#32
  let c0_i32_28 : BitVec 32 := 0#32
  ![0, v78.toNat, 0, 0]

def k0_off5 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_off6 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_30 : BitVec 32 := 0#32
  let c0_i32_31 : BitVec 32 := 0#32
  ![v23.toNat, 0, 0]
def k0_off7 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_35 : BitVec 32 := 0#32
  let c0_i32_36 : BitVec 32 := 0#32
  ![v23.toNat, 0, 0]
def k0_off8 (v78 : BitVec 32) : Fin 4 → Nat :=
  let c0_i32_34 : BitVec 32 := 0#32
  let c0_i32_37 : BitVec 32 := 0#32
  let c0_i32_38 : BitVec 32 := 0#32
  ![0, v78.toNat, 0, 0]

def k0_chk2 (i : grid0.Coords) (v78 : BitVec 32) : Prop :=
  (∀ (k0_h1 : k0_cond1 i = 1#1), ∀ a, (k0_off4 v78) a + S1x1x2048x256.size a ≤ S2x32x2048x256.size a) ∧
  (∀ (k0_h1 : k0_cond1 i = 1#1), ∀ a, (k0_off8 v78) a + S1x1x256x2048.size a ≤ S2x32x256x2048.size a)
theorem k0_off4_inb : ∀ (i : grid0.Coords) (v78 : BitVec 32) (k0_hw2 : k0_chk2 i v78), ∀ (k0_h1 : k0_cond1 i = 1#1), ∀ a, (k0_off4 v78) a + S1x1x2048x256.size a ≤ S2x32x2048x256.size a := fun i v78 k0_hw2 k0_h1 => k0_hw2.1 k0_h1
theorem k0_off8_inb : ∀ (i : grid0.Coords) (v78 : BitVec 32) (k0_hw2 : k0_chk2 i v78), ∀ (k0_h1 : k0_cond1 i = 1#1), ∀ a, (k0_off8 v78) a + S1x1x256x2048.size a ≤ S2x32x256x2048.size a := fun i v78 k0_hw2 k0_h1 => k0_hw2.2 k0_h1

def k0_off9 (i : grid0.Coords) : Fin 1 → Nat :=
  let arg0 : BitVec 32 := BitVec.ofNat 32 (i 0).val
  let v78 : Index := Scalar.indexCast arg0
  ![v78.toNat]
def k0_off10 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_cond2 (v5 : BitVec 32) : BitVec 1 :=
  let c4_i32 : BitVec 32 := 4#32
  let v45 : BitVec 32 := Scalar.andi v5 c4_i32
  let c0_i32_14 : BitVec 32 := 0#32
  let v46 : BitVec 1 := Scalar.cmpi .ne v45 c0_i32_14
  let v47 : BitVec 32 := Scalar.extui v46
  let c0_i32_15 : BitVec 32 := 0#32
  let v48 : BitVec 1 := Scalar.cmpi .ne v47 c0_i32_15
  v48

def k0_off11 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_25 : BitVec 32 := 0#32
  let c0_i32_26 : BitVec 32 := 0#32
  ![v23.toNat, 0, 0]
def k0_off12 (v79 : BitVec 32) : Fin 4 → Nat :=
  let c0_i32_24 : BitVec 32 := 0#32
  let c0_i32_27 : BitVec 32 := 0#32
  let c0_i32_28 : BitVec 32 := 0#32
  ![0, v79.toNat, 0, 0]

def k0_off13 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_off14 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_30 : BitVec 32 := 0#32
  let c0_i32_31 : BitVec 32 := 0#32
  ![v23.toNat, 0, 0]
def k0_off15 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_35 : BitVec 32 := 0#32
  let c0_i32_36 : BitVec 32 := 0#32
  ![v23.toNat, 0, 0]
def k0_off16 (v79 : BitVec 32) : Fin 4 → Nat :=
  let c0_i32_34 : BitVec 32 := 0#32
  let c0_i32_37 : BitVec 32 := 0#32
  let c0_i32_38 : BitVec 32 := 0#32
  ![0, v79.toNat, 0, 0]

def k0_chk3 (v5 : BitVec 32) (v79 : BitVec 32) : Prop :=
  (∀ (k0_h2 : k0_cond2 v5 = 1#1), ∀ a, (k0_off12 v79) a + S1x1x2048x256.size a ≤ S2x32x2048x256.size a) ∧
  (∀ (k0_h2 : k0_cond2 v5 = 1#1), ∀ a, (k0_off16 v79) a + S1x1x256x2048.size a ≤ S2x32x256x2048.size a)
theorem k0_off12_inb : ∀ (v5 : BitVec 32) (v79 : BitVec 32) (k0_hw3 : k0_chk3 v5 v79), ∀ (k0_h2 : k0_cond2 v5 = 1#1), ∀ a, (k0_off12 v79) a + S1x1x2048x256.size a ≤ S2x32x2048x256.size a := fun v5 v79 k0_hw3 k0_h2 => k0_hw3.1 k0_h2
theorem k0_off16_inb : ∀ (v5 : BitVec 32) (v79 : BitVec 32) (k0_hw3 : k0_chk3 v5 v79), ∀ (k0_h2 : k0_cond2 v5 = 1#1), ∀ a, (k0_off16 v79) a + S1x1x256x2048.size a ≤ S2x32x256x2048.size a := fun v5 v79 k0_hw3 k0_h2 => k0_hw3.2 k0_h2

def k0_off17 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v98 : Index := Scalar.indexCast v23
  let c0 : Index := 0#32
  let c0_39 : Index := 0#32
  ![v98.toNat, 0, 0]
def k0_off18 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v112 : Index := Scalar.indexCast v23
  let c0_46 : Index := 0#32
  let c0_47 : Index := 0#32
  ![v112.toNat, 0, 0]
def k0_off19 (v5 : BitVec 32) : Fin 1 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  ![v122.toNat]
def k0_cond3 (v5 : BitVec 32) : BitVec 1 :=
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_50 : BitVec 32 := 0#32
  let v119 : BitVec 1 := Scalar.cmpi .sge v41 c0_i32_50
  let v120 : BitVec 32 := Scalar.extui v119
  let c0_i32_51 : BitVec 32 := 0#32
  let v121 : BitVec 1 := Scalar.cmpi .ne v120 c0_i32_51
  v121

def k0_off20 (v5 : BitVec 32) : Fin 3 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  let c0_i32_54 : BitVec 32 := 0#32
  let c0_i32_55 : BitVec 32 := 0#32
  ![v122.toNat, 0, 0]
def k0_off21 (v5 : BitVec 32) : Fin 4 → Nat :=
  let c0_i32_53 : BitVec 32 := 0#32
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_56 : BitVec 32 := 0#32
  let c0_i32_57 : BitVec 32 := 0#32
  ![0, v41.toNat, 0, 0]
def k0_off22 (v5 : BitVec 32) : Fin 3 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  let c0_i32_64 : BitVec 32 := 0#32
  let c0_i32_65 : BitVec 32 := 0#32
  ![v122.toNat, 0, 0]
def k0_off23 (v5 : BitVec 32) : Fin 4 → Nat :=
  let c0_i32_63 : BitVec 32 := 0#32
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_66 : BitVec 32 := 0#32
  let c0_i32_67 : BitVec 32 := 0#32
  ![0, v41.toNat, 0, 0]

def k0_chk1 (i : grid0.Coords) (v5 : BitVec 32) : Prop :=
  (∀ (k0_h1 : k0_cond1 i = 1#1), ∀ a, (k0_off2 v5) a + S1.size a ≤ S2.size a) ∧
  (∀ (k0_h1 : k0_cond1 i = 1#1), ∀ a, (k0_off3 v5) a + S1x2048x256.size a ≤ S2x2048x256.size a) ∧
  (∀ (k0_h1 : k0_cond1 i = 1#1), ∀ a, (k0_off5 v5) a + S1.size a ≤ S2.size a) ∧
  (∀ (k0_h1 : k0_cond1 i = 1#1), ∀ a, (k0_off6 v5) a + S1x2048x256.size a ≤ S2x2048x256.size a) ∧
  (∀ (k0_h1 : k0_cond1 i = 1#1), ∀ a, (k0_off7 v5) a + S1x256x2048.size a ≤ S2x256x2048.size a) ∧
  (∀ (k0_h2 : k0_cond2 v5 = 1#1), ∀ a, (k0_off10 v5) a + S1.size a ≤ S2.size a) ∧
  (∀ (k0_h2 : k0_cond2 v5 = 1#1), ∀ a, (k0_off11 v5) a + S1x2048x256.size a ≤ S2x2048x256.size a) ∧
  (∀ (k0_h2 : k0_cond2 v5 = 1#1), ∀ a, (k0_off13 v5) a + S1.size a ≤ S2.size a) ∧
  (∀ (k0_h2 : k0_cond2 v5 = 1#1), ∀ a, (k0_off14 v5) a + S1x2048x256.size a ≤ S2x2048x256.size a) ∧
  (∀ (k0_h2 : k0_cond2 v5 = 1#1), ∀ a, (k0_off15 v5) a + S1x256x2048.size a ≤ S2x256x2048.size a) ∧
  (∀ (k0_h2 : k0_cond2 v5 = 1#1), ∀ a, (k0_off17 v5) a + S1x2048x256.size a ≤ S2x2048x256.size a) ∧
  (∀ (k0_h2 : k0_cond2 v5 = 1#1), ∀ a, (k0_off18 v5) a + S1x256x2048.size a ≤ S2x256x2048.size a) ∧
  (∀ (k0_h2 : k0_cond2 v5 = 1#1), ∀ (k0_h3 : k0_cond3 v5 = 1#1), ∀ a, (k0_off19 v5) a + S1.size a ≤ S2.size a) ∧
  (∀ (k0_h2 : k0_cond2 v5 = 1#1), ∀ (k0_h3 : k0_cond3 v5 = 1#1), ∀ a, (k0_off20 v5) a + S1x2048x256.size a ≤ S2x2048x256.size a) ∧
  (∀ (k0_h2 : k0_cond2 v5 = 1#1), ∀ (k0_h3 : k0_cond3 v5 = 1#1), ∀ a, (k0_off21 v5) a + S1x1x2048x256.size a ≤ S2x32x2048x256.size a) ∧
  (∀ (k0_h2 : k0_cond2 v5 = 1#1), ∀ (k0_h3 : k0_cond3 v5 = 1#1), ∀ a, (k0_off22 v5) a + S1x256x2048.size a ≤ S2x256x2048.size a) ∧
  (∀ (k0_h2 : k0_cond2 v5 = 1#1), ∀ (k0_h3 : k0_cond3 v5 = 1#1), ∀ a, (k0_off23 v5) a + S1x1x256x2048.size a ≤ S2x32x256x2048.size a)
theorem k0_off2_inb : ∀ (i : grid0.Coords) (v5 : BitVec 32) (k0_hw1 : k0_chk1 i v5), ∀ (k0_h1 : k0_cond1 i = 1#1), ∀ a, (k0_off2 v5) a + S1.size a ≤ S2.size a := fun i v5 k0_hw1 k0_h1 => k0_hw1.1 k0_h1
theorem k0_off3_inb : ∀ (i : grid0.Coords) (v5 : BitVec 32) (k0_hw1 : k0_chk1 i v5), ∀ (k0_h1 : k0_cond1 i = 1#1), ∀ a, (k0_off3 v5) a + S1x2048x256.size a ≤ S2x2048x256.size a := fun i v5 k0_hw1 k0_h1 => k0_hw1.2.1 k0_h1
theorem k0_off5_inb : ∀ (i : grid0.Coords) (v5 : BitVec 32) (k0_hw1 : k0_chk1 i v5), ∀ (k0_h1 : k0_cond1 i = 1#1), ∀ a, (k0_off5 v5) a + S1.size a ≤ S2.size a := fun i v5 k0_hw1 k0_h1 => k0_hw1.2.2.1 k0_h1
theorem k0_off6_inb : ∀ (i : grid0.Coords) (v5 : BitVec 32) (k0_hw1 : k0_chk1 i v5), ∀ (k0_h1 : k0_cond1 i = 1#1), ∀ a, (k0_off6 v5) a + S1x2048x256.size a ≤ S2x2048x256.size a := fun i v5 k0_hw1 k0_h1 => k0_hw1.2.2.2.1 k0_h1
theorem k0_off7_inb : ∀ (i : grid0.Coords) (v5 : BitVec 32) (k0_hw1 : k0_chk1 i v5), ∀ (k0_h1 : k0_cond1 i = 1#1), ∀ a, (k0_off7 v5) a + S1x256x2048.size a ≤ S2x256x2048.size a := fun i v5 k0_hw1 k0_h1 => k0_hw1.2.2.2.2.1 k0_h1
theorem k0_off10_inb : ∀ (i : grid0.Coords) (v5 : BitVec 32) (k0_hw1 : k0_chk1 i v5), ∀ (k0_h2 : k0_cond2 v5 = 1#1), ∀ a, (k0_off10 v5) a + S1.size a ≤ S2.size a := fun i v5 k0_hw1 k0_h2 => k0_hw1.2.2.2.2.2.1 k0_h2
theorem k0_off11_inb : ∀ (i : grid0.Coords) (v5 : BitVec 32) (k0_hw1 : k0_chk1 i v5), ∀ (k0_h2 : k0_cond2 v5 = 1#1), ∀ a, (k0_off11 v5) a + S1x2048x256.size a ≤ S2x2048x256.size a := fun i v5 k0_hw1 k0_h2 => k0_hw1.2.2.2.2.2.2.1 k0_h2
theorem k0_off13_inb : ∀ (i : grid0.Coords) (v5 : BitVec 32) (k0_hw1 : k0_chk1 i v5), ∀ (k0_h2 : k0_cond2 v5 = 1#1), ∀ a, (k0_off13 v5) a + S1.size a ≤ S2.size a := fun i v5 k0_hw1 k0_h2 => k0_hw1.2.2.2.2.2.2.2.1 k0_h2
theorem k0_off14_inb : ∀ (i : grid0.Coords) (v5 : BitVec 32) (k0_hw1 : k0_chk1 i v5), ∀ (k0_h2 : k0_cond2 v5 = 1#1), ∀ a, (k0_off14 v5) a + S1x2048x256.size a ≤ S2x2048x256.size a := fun i v5 k0_hw1 k0_h2 => k0_hw1.2.2.2.2.2.2.2.2.1 k0_h2
theorem k0_off15_inb : ∀ (i : grid0.Coords) (v5 : BitVec 32) (k0_hw1 : k0_chk1 i v5), ∀ (k0_h2 : k0_cond2 v5 = 1#1), ∀ a, (k0_off15 v5) a + S1x256x2048.size a ≤ S2x256x2048.size a := fun i v5 k0_hw1 k0_h2 => k0_hw1.2.2.2.2.2.2.2.2.2.1 k0_h2
theorem k0_off17_inb : ∀ (i : grid0.Coords) (v5 : BitVec 32) (k0_hw1 : k0_chk1 i v5), ∀ (k0_h2 : k0_cond2 v5 = 1#1), ∀ a, (k0_off17 v5) a + S1x2048x256.size a ≤ S2x2048x256.size a := fun i v5 k0_hw1 k0_h2 => k0_hw1.2.2.2.2.2.2.2.2.2.2.1 k0_h2
theorem k0_off18_inb : ∀ (i : grid0.Coords) (v5 : BitVec 32) (k0_hw1 : k0_chk1 i v5), ∀ (k0_h2 : k0_cond2 v5 = 1#1), ∀ a, (k0_off18 v5) a + S1x256x2048.size a ≤ S2x256x2048.size a := fun i v5 k0_hw1 k0_h2 => k0_hw1.2.2.2.2.2.2.2.2.2.2.2.1 k0_h2
theorem k0_off19_inb : ∀ (i : grid0.Coords) (v5 : BitVec 32) (k0_hw1 : k0_chk1 i v5), ∀ (k0_h2 : k0_cond2 v5 = 1#1), ∀ (k0_h3 : k0_cond3 v5 = 1#1), ∀ a, (k0_off19 v5) a + S1.size a ≤ S2.size a := fun i v5 k0_hw1 k0_h2 k0_h3 => k0_hw1.2.2.2.2.2.2.2.2.2.2.2.2.1 k0_h2 k0_h3
theorem k0_off20_inb : ∀ (i : grid0.Coords) (v5 : BitVec 32) (k0_hw1 : k0_chk1 i v5), ∀ (k0_h2 : k0_cond2 v5 = 1#1), ∀ (k0_h3 : k0_cond3 v5 = 1#1), ∀ a, (k0_off20 v5) a + S1x2048x256.size a ≤ S2x2048x256.size a := fun i v5 k0_hw1 k0_h2 k0_h3 => k0_hw1.2.2.2.2.2.2.2.2.2.2.2.2.2.1 k0_h2 k0_h3
theorem k0_off21_inb : ∀ (i : grid0.Coords) (v5 : BitVec 32) (k0_hw1 : k0_chk1 i v5), ∀ (k0_h2 : k0_cond2 v5 = 1#1), ∀ (k0_h3 : k0_cond3 v5 = 1#1), ∀ a, (k0_off21 v5) a + S1x1x2048x256.size a ≤ S2x32x2048x256.size a := fun i v5 k0_hw1 k0_h2 k0_h3 => k0_hw1.2.2.2.2.2.2.2.2.2.2.2.2.2.2.1 k0_h2 k0_h3
theorem k0_off22_inb : ∀ (i : grid0.Coords) (v5 : BitVec 32) (k0_hw1 : k0_chk1 i v5), ∀ (k0_h2 : k0_cond2 v5 = 1#1), ∀ (k0_h3 : k0_cond3 v5 = 1#1), ∀ a, (k0_off22 v5) a + S1x256x2048.size a ≤ S2x256x2048.size a := fun i v5 k0_hw1 k0_h2 k0_h3 => k0_hw1.2.2.2.2.2.2.2.2.2.2.2.2.2.2.2.1 k0_h2 k0_h3
theorem k0_off23_inb : ∀ (i : grid0.Coords) (v5 : BitVec 32) (k0_hw1 : k0_chk1 i v5), ∀ (k0_h2 : k0_cond2 v5 = 1#1), ∀ (k0_h3 : k0_cond3 v5 = 1#1), ∀ a, (k0_off23 v5) a + S1x1x256x2048.size a ≤ S2x32x256x2048.size a := fun i v5 k0_hw1 k0_h2 k0_h3 => k0_hw1.2.2.2.2.2.2.2.2.2.2.2.2.2.2.2.2 k0_h2 k0_h3

def k0_off24 (i : grid0.Coords) : Fin 1 → Nat :=
  let arg0 : BitVec 32 := BitVec.ofNat 32 (i 0).val
  let v51 : Index := Scalar.indexCast arg0
  ![v51.toNat]
def k0_off25 (i : grid0.Coords) : Fin 1 → Nat :=
  let arg0 : BitVec 32 := BitVec.ofNat 32 (i 0).val
  let v78 : Index := Scalar.indexCast arg0
  ![v78.toNat]
def k0_off26 (i : grid0.Coords) : Fin 1 → Nat :=
  let arg0 : BitVec 32 := BitVec.ofNat 32 (i 0).val
  let v78 : Index := Scalar.indexCast arg0
  ![v78.toNat]
def k0_off27 (i : grid0.Coords) : Fin 1 → Nat :=
  let arg0 : BitVec 32 := BitVec.ofNat 32 (i 0).val
  let v78 : Index := Scalar.indexCast arg0
  ![v78.toNat]
def k0_cond13 (v5 : BitVec 32) : BitVec 1 :=
  let c2_i32 : BitVec 32 := 2#32
  let v74 : BitVec 32 := Scalar.andi v5 c2_i32
  let c0_i32_22 : BitVec 32 := 0#32
  let v75 : BitVec 1 := Scalar.cmpi .ne v74 c0_i32_22
  let v76 : BitVec 32 := Scalar.extui v75
  let c0_i32_23 : BitVec 32 := 0#32
  let v77 : BitVec 1 := Scalar.cmpi .ne v76 c0_i32_23
  v77

def cc0_transform_0 (k0_off1_inb : ∀ i : grid0.Coords, ∀ a, (k0_off1 i) a + S1.size a ≤ S95.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S95) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S95.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S95) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S95 : Shape := ⟨1, ![95]⟩
abbrev S32768x1024 : Shape := ⟨2, ![32768, 1024]⟩
abbrev S2x32x2048x256 : Shape := ⟨4, ![2, 32, 2048, 256]⟩
abbrev S2x32x256x2048 : Shape := ⟨4, ![2, 32, 256, 2048]⟩
abbrev S_ : Shape := ⟨0, ![]⟩
abbrev S32768x2048 : Shape := ⟨2, ![32768, 2048]⟩
abbrev S32768 : Shape := ⟨1, ![32768]⟩
abbrev S32768x1 : Shape := ⟨2, ![32768, 1]⟩
abbrev S1x95 : Shape := ⟨2, ![1, 95]⟩
abbrev S32768x95 : Shape := ⟨2, ![32768, 95]⟩
abbrev S95x1 : Shape := ⟨2, ![95, 1]⟩
abbrev S32 : Shape := ⟨1, ![32]⟩
abbrev S1x32 : Shape := ⟨2, ![1, 32]⟩
abbrev S95x32 : Shape := ⟨2, ![95, 32]⟩
abbrev S32768x32 : Shape := ⟨2, ![32768, 32]⟩
abbrev S1x32x2048x256 : Shape := ⟨4, ![1, 32, 2048, 256]⟩
abbrev S32x2048x256 : Shape := ⟨3, ![32, 2048, 256]⟩
abbrev S32768x32x256 : Shape := ⟨3, ![32768, 32, 256]⟩
abbrev S32768x32x1 : Shape := ⟨3, ![32768, 32, 1]⟩
abbrev S1x32x256x2048 : Shape := ⟨4, ![1, 32, 256, 2048]⟩
abbrev S32x256x2048 : Shape := ⟨3, ![32, 256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S95, .i32⟩
  | .hbm, ⟨1, _⟩ => ⟨S95, .i32⟩
  | .hbm, ⟨2, _⟩ => ⟨S95, .i32⟩
  | .hbm, ⟨3, _⟩ => ⟨S95, .i32⟩
  | .hbm, ⟨4, _⟩ => ⟨S95, .i32⟩
  | .hbm, ⟨5, _⟩ => ⟨S32768x1024, .i32⟩
  | .hbm, ⟨6, _⟩ => ⟨S2x32x2048x256, .f32⟩
  | .hbm, ⟨7, _⟩ => ⟨S2x32x2048x256, .f32⟩
  | .hbm, ⟨8, _⟩ => ⟨S2x32x256x2048, .f32⟩
  | .hbm, ⟨9, _⟩ => ⟨S_, .i32⟩
  | .hbm, ⟨10, _⟩ => ⟨S32768x1024, .i32⟩
  | .hbm, ⟨11, _⟩ => ⟨S32768x1024, .i32⟩
  | .hbm, ⟨12, _⟩ => ⟨S32768x1024, .f32⟩
  | .hbm, ⟨13, _⟩ => ⟨S_, .i32⟩
  | .hbm, ⟨14, _⟩ => ⟨S32768x1024, .i32⟩
  | .hbm, ⟨15, _⟩ => ⟨S32768x1024, .i32⟩
  | .hbm, ⟨16, _⟩ => ⟨S32768x1024, .f32⟩
  | .hbm, ⟨17, _⟩ => ⟨S32768x2048, .f32⟩
  | .hbm, ⟨18, _⟩ => ⟨S32768, .i32⟩
  | .hbm, ⟨19, _⟩ => ⟨S32768x1, .i32⟩
  | .hbm, ⟨20, _⟩ => ⟨S1x95, .i32⟩
  | .hbm, ⟨21, _⟩ => ⟨S32768x95, .i32⟩
  | .hbm, ⟨22, _⟩ => ⟨S32768x95, .i32⟩
  | .hbm, ⟨23, _⟩ => ⟨S32768x95, .i1⟩
  | .hbm, ⟨24, _⟩ => ⟨S1x95, .i32⟩
  | .hbm, ⟨25, _⟩ => ⟨S32768x95, .i32⟩
  | .hbm, ⟨26, _⟩ => ⟨S32768x95, .i32⟩
  | .hbm, ⟨27, _⟩ => ⟨S32768x95, .i1⟩
  | .hbm, ⟨28, _⟩ => ⟨S32768x95, .i1⟩
  | .hbm, ⟨29, _⟩ => ⟨S95x1, .i32⟩
  | .hbm, ⟨30, _⟩ => ⟨S32, .i32⟩
  | .hbm, ⟨31, _⟩ => ⟨S1x32, .i32⟩
  | .hbm, ⟨32, _⟩ => ⟨S95x32, .i32⟩
  | .hbm, ⟨33, _⟩ => ⟨S95x32, .i32⟩
  | .hbm, ⟨34, _⟩ => ⟨S95x32, .i1⟩
  | .hbm, ⟨35, _⟩ => ⟨S32768x95, .f32⟩
  | .hbm, ⟨36, _⟩ => ⟨S95x32, .f32⟩
  | .hbm, ⟨37, _⟩ => ⟨S32768x32, .f32⟩
  | .hbm, ⟨38, _⟩ => ⟨S1x32x2048x256, .f32⟩
  | .hbm, ⟨39, _⟩ => ⟨S32x2048x256, .f32⟩
  | .hbm, ⟨40, _⟩ => ⟨S32768x32x256, .f32⟩
  | .hbm, ⟨41, _⟩ => ⟨S32768x32x256, .f32⟩
  | .hbm, ⟨42, _⟩ => ⟨S32768x32x256, .f32⟩
  | .hbm, ⟨43, _⟩ => ⟨S_, .f32⟩
  | .hbm, ⟨44, _⟩ => ⟨S32768x32x256, .f32⟩
  | .hbm, ⟨45, _⟩ => ⟨S32768x32x256, .f32⟩
  | .hbm, ⟨46, _⟩ => ⟨S_, .f32⟩
  | .hbm, ⟨47, _⟩ => ⟨S32768x32x256, .f32⟩
  | .hbm, ⟨48, _⟩ => ⟨S32768x32x256, .f32⟩
  | .hbm, ⟨49, _⟩ => ⟨S32768x32x256, .f32⟩
  | .hbm, ⟨50, _⟩ => ⟨S1x32x2048x256, .f32⟩
  | .hbm, ⟨51, _⟩ => ⟨S32x2048x256, .f32⟩
  | .hbm, ⟨52, _⟩ => ⟨S32768x32x256, .f32⟩
  | .hbm, ⟨53, _⟩ => ⟨S32768x32x256, .f32⟩
  | .hbm, ⟨54, _⟩ => ⟨S32768x32x1, .f32⟩
  | .hbm, ⟨55, _⟩ => ⟨S32768x32x256, .f32⟩
  | .hbm, ⟨56, _⟩ => ⟨S32768x32x256, .f32⟩
  | .hbm, ⟨57, _⟩ => ⟨S1x32x256x2048, .f32⟩
  | .hbm, ⟨58, _⟩ => ⟨S32x256x2048, .f32⟩
  | .hbm, ⟨59, _⟩ => ⟨S32768x2048, .f32⟩
  | .hbm, ⟨60, _⟩ => ⟨S32768x2048, .bf16⟩
  | _, _ => ⟨S95, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Combine.lean ====
abbrev S32768 : Shape := ⟨1, ![32768]⟩
abbrev S16384x2048 : Shape := ⟨2, ![16384, 2048]⟩
abbrev S16384x128 : Shape := ⟨2, ![16384, 128]⟩
abbrev S32768x1024 : Shape := ⟨2, ![32768, 1024]⟩
abbrev S256x2048 : Shape := ⟨2, ![256, 2048]⟩
abbrev S256x128 : Shape := ⟨2, ![256, 128]⟩
abbrev S2x2x256x1024 : Shape := ⟨4, ![2, 2, 256, 1024]⟩
abbrev S2 : Shape := ⟨1, ![2]⟩
abbrev S1 : Shape := ⟨1, ![1]⟩
abbrev S_ : Shape := ⟨0, ![]⟩
abbrev S1x1x256x1024 : Shape := ⟨4, ![1, 1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 7
  | .smem => 1
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S32768x1024, .i32⟩
  | .hbm, ⟨3, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x2048, .f32⟩
  | .local _ .vmem, ⟨5, _⟩ => ⟨S256x2048, .f32⟩
  | .local _ .vmem, ⟨6, _⟩ => ⟨S2x2x256x1024, .i32⟩
  | .local _ .smem, ⟨0, _⟩ => ⟨S32768, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_24 : BitVec 32 := 0#32
  let c256_i32_25 : BitVec 32 := 256#32
  let v52 : BitVec 32 := Scalar.addi c0_i32_24 c256_i32_25
  let c1_i32_26 : BitVec 32 := 1#32
  ⟨c0_i32_24, v52, c1_i32_26⟩
def k0_off1 (k0_t1 : Fin k0_t1_loop.trips) : Fin 1 → Nat :=
  let c2_i32_29 : BitVec 32 := 2#32
  let c0_i32_28 : BitVec 32 := 0#32
  let c0_i32_24 : BitVec 32 := 0#32
  let c1_i32_26 : BitVec 32 := 1#32
  let arg8 : BitVec 32 := Scf.iv c0_i32_24 c1_i32_26 k0_t1
  let v53 : BitVec 32 := Scalar.addi c0_i32_28 arg8
  let v54 : BitVec 32 := Scalar.muli c2_i32_29 v53
  let v55 : Index := Scalar.indexCast v54
  ![v55.toNat]
def k0_off2 (k0_t1 : Fin k0_t1_loop.trips) : Fin 2 → Nat :=
  let c0_i32_24 : BitVec 32 := 0#32
  let c1_i32_26 : BitVec 32 := 1#32
  let arg8 : BitVec 32 := Scf.iv c0_i32_24 c1_i32_26 k0_t1
  let c0_i32_35 : BitVec 32 := 0#32
  ![arg8.toNat, 0]
def k0_off3 (v56 : BitVec 32) : Fin 2 → Nat :=
  let c0_i32_36 : BitVec 32 := 0#32
  ![v56.toNat, 0]

def k0_chk1 (i : grid0.Coords) (v56 : BitVec 32) : Prop :=
  (∀ (k0_h1 : k0_cond1 i = 1#1), ∀ a, (k0_off3 v56) a + S1x1024.size a ≤ S32768x1024.size a)
theorem k0_off3_inb : ∀ (i : grid0.Coords) (v56 : BitVec 32) (k0_hw1 : k0_chk1 i v56), ∀ (k0_h1 : k0_cond1 i = 1#1), ∀ a, (k0_off3 v56) a + S1x1024.size a ≤ S32768x1024.size a := fun i v56 k0_hw1 k0_h1 => k0_hw1 k0_h1

def k0_off4 (k0_t1 : Fin k0_t1_loop.trips) : Fin 1 → Nat :=
  let c2_i32_37 : BitVec 32 := 2#32
  let c0_i32_28 : BitVec 32 := 0#32
  let c0_i32_24 : BitVec 32 := 0#32
  let c1_i32_26 : BitVec 32 := 1#32
  let arg8 : BitVec 32 := Scf.iv c0_i32_24 c1_i32_26 k0_t1
  let v53 : BitVec 32 := Scalar.addi c0_i32_28 arg8
  let v63 : BitVec 32 := Scalar.muli c2_i32_37 v53
  let c1_i32_38 : BitVec 32 := 1#32
  let v64 : BitVec 32 := Scalar.addi v63 c1_i32_38
  let v65 : Index := Scalar.indexCast v64
  ![v65.toNat]
def k0_off5 (k0_t1 : Fin k0_t1_loop.trips) : Fin 2 → Nat :=
  let c0_i32_24 : BitVec 32 := 0#32
  let c1_i32_26 : BitVec 32 := 1#32
  let arg8 : BitVec 32 := Scf.iv c0_i32_24 c1_i32_26 k0_t1
  let c0_i32_44 : BitVec 32 := 0#32
  ![arg8.toNat, 0]
def k0_off6 (v66 : BitVec 32) : Fin 2 → Nat :=
  let c0_i32_45 : BitVec 32 := 0#32
  ![v66.toNat, 0]

def k0_chk2 (i : grid0.Coords) (v66 : BitVec 32) : Prop :=
  (∀ (k0_h1 : k0_cond1 i = 1#1), ∀ a, (k0_off6 v66) a + S1x1024.size a ≤ S32768x1024.size a)
theorem k0_off6_inb : ∀ (i : grid0.Coords) (v66 : BitVec 32) (k0_hw2 : k0_chk2 i v66), ∀ (k0_h1 : k0_cond1 i = 1#1), ∀ a, (k0_off6 v66) a + S1x1024.size a ≤ S32768x1024.size a := fun i v66 k0_hw2 k0_h1 => k0_hw2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_32 : BitVec 32 := 0#32
  let c256_i32_33 : BitVec 32 := 256#32
  let v64 : BitVec 32 := Scalar.addi c0_i32_32 c256_i32_33
  let c1_i32_34 : BitVec 32 := 1#32
  ⟨c0_i32_32, v64, c1_i32_34⟩
def k0_off7 (i : grid0.Coords) (k0_t2 : Fin k0_t2_loop.trips) : Fin 1 → Nat :=
  let c2_i32_37 : BitVec 32 := 2#32
  let arg0 : BitVec 32 := BitVec.ofNat 32 (i 0).val
  let c1_i32_24 : BitVec 32 := 1#32
  let v52 : BitVec 32 := Scalar.addi arg0 c1_i32_24
  let c256_i32_36 : BitVec 32 := 256#32
  let v65 : BitVec 32 := Scalar.muli v52 c256_i32_36
  let c0_i32_32 : BitVec 32 := 0#32
  let c1_i32_34 : BitVec 32 := 1#32
  let arg8 : BitVec 32 := Scf.iv c0_i32_32 c1_i32_34 k0_t2
  let v66 : BitVec 32 := Scalar.addi v65 arg8
  let v67 : BitVec 32 := Scalar.muli c2_i32_37 v66
  let v68 : Index := Scalar.indexCast v67
  ![v68.toNat]
def k0_off8 (i : grid0.Coords) : Fin 1 → Nat :=
  let arg0 : BitVec 32 := BitVec.ofNat 32 (i 0).val
  let c1_i32_25 : BitVec 32 := 1#32
  let v53 : BitVec 32 := Scalar.addi arg0 c1_i32_25
  let c2_i32_26 : BitVec 32 := 2#32
  let c0_i32_27 : BitVec 32 := 0#32
  let v54 : BitVec 1 := Scalar.cmpi .eq c2_i32_26 c0_i32_27
  let c1_i32_28 : BitVec 32 := 1#32
  let v55 : BitVec 32 := Scalar.select v54 c1_i32_28 c2_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  ![v63.toNat]
def k0_off9 (i : grid0.Coords) : Fin 4 → Nat :=
  let arg0 : BitVec 32 := BitVec.ofNat 32 (i 0).val
  let c1_i32_25 : BitVec 32 := 1#32
  let v53 : BitVec 32 := Scalar.addi arg0 c1_i32_25
  let c2_i32_26 : BitVec 32 := 2#32
  let c0_i32_27 : BitVec 32 := 0#32
  let v54 : BitVec 1 := Scalar.cmpi .eq c2_i32_26 c0_i32_27
  let c1_i32_28 : BitVec 32 := 1#32
  let v55 : BitVec 32 := Scalar.select v54 c1_i32_28 c2_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c0_i32_38 : BitVec 32 := 0#32
  let c0_i32_39 : BitVec 32 := 0#32
  let c0_i32_40 : BitVec 32 := 0#32
  ![v63.toNat, 0, 0, 0]
def k0_off10 (k0_t2 : Fin k0_t2_loop.trips) : Fin 2 → Nat :=
  let c0_i32_32 : BitVec 32 := 0#32
  let c1_i32_34 : BitVec 32 := 1#32
  let arg8 : BitVec 32 := Scf.iv c0_i32_32 c1_i32_34 k0_t2
  let c0_i32_41 : BitVec 32 := 0#32
  ![arg8.toNat, 0]
def k0_off11 (v69 : BitVec 32) : Fin 2 → Nat :=
  let c0_i32_42 : BitVec 32 := 0#32
  ![v69.toNat, 0]

def k0_chk3 (i : grid0.Coords) (v69 : BitVec 32) : Prop :=
  (∀ (k0_h2 : k0_cond2 i = 1#1), ∀ a, (k0_off11 v69) a + S1x1024.size a ≤ S32768x1024.size a)
theorem k0_off11_inb : ∀ (i : grid0.Coords) (v69 : BitVec 32) (k0_hw3 : k0_chk3 i v69), ∀ (k0_h2 : k0_cond2 i = 1#1), ∀ a, (k0_off11 v69) a + S1x1024.size a ≤ S32768x1024.size a := fun i v69 k0_hw3 k0_h2 => k0_hw3 k0_h2

def k0_off12 (i : grid0.Coords) (k0_t2 : Fin k0_t2_loop.trips) : Fin 1 → Nat :=
  let c2_i32_43 : BitVec 32 := 2#32
  let arg0 : BitVec 32 := BitVec.ofNat 32 (i 0).val
  let c1_i32_24 : BitVec 32 := 1#32
  let v52 : BitVec 32 := Scalar.addi arg0 c1_i32_24
  let c256_i32_36 : BitVec 32 := 256#32
  let v65 : BitVec 32 := Scalar.muli v52 c256_i32_36
  let c0_i32_32 : BitVec 32 := 0#32
  let c1_i32_34 : BitVec 32 := 1#32
  let arg8 : BitVec 32 := Scf.iv c0_i32_32 c1_i32_34 k0_t2
  let v66 : BitVec 32 := Scalar.addi v65 arg8
  let v76 : BitVec 32 := Scalar.muli c2_i32_43 v66
  let c1_i32_44 : BitVec 32 := 1#32
  let v77 : BitVec 32 := Scalar.addi v76 c1_i32_44
  let v78 : Index := Scalar.indexCast v77
  ![v78.toNat]
def k0_off13 (i : grid0.Coords) : Fin 1 → Nat :=
  let arg0 : BitVec 32 := BitVec.ofNat 32 (i 0).val
  let c1_i32_25 : BitVec 32 := 1#32
  let v53 : BitVec 32 := Scalar.addi arg0 c1_i32_25
  let c2_i32_26 : BitVec 32 := 2#32
  let c0_i32_27 : BitVec 32 := 0#32
  let v54 : BitVec 1 := Scalar.cmpi .eq c2_i32_26 c0_i32_27
  let c1_i32_28 : BitVec 32 := 1#32
  let v55 : BitVec 32 := Scalar.select v54 c1_i32_28 c2_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  ![v63.toNat]
def k0_off14 (i : grid0.Coords) : Fin 4 → Nat :=
  let arg0 : BitVec 32 := BitVec.ofNat 32 (i 0).val
  let c1_i32_25 : BitVec 32 := 1#32
  let v53 : BitVec 32 := Scalar.addi arg0 c1_i32_25
  let c2_i32_26 : BitVec 32 := 2#32
  let c0_i32_27 : BitVec 32 := 0#32
  let v54 : BitVec 1 := Scalar.cmpi .eq c2_i32_26 c0_i32_27
  let c1_i32_28 : BitVec 32 := 1#32
  let v55 : BitVec 32 := Scalar.select v54 c1_i32_28 c2_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c1_i32_45 : BitVec 32 := 1#32
  let c0_i32_46 : BitVec 32 := 0#32
  let c0_i32_47 : BitVec 32 := 0#32
  ![v63.toNat, 1, 0, 0]
def k0_off15 (k0_t2 : Fin k0_t2_loop.trips) : Fin 2 → Nat :=
  let c0_i32_32 : BitVec 32 := 0#32
  let c1_i32_34 : BitVec 32 := 1#32
  let arg8 : BitVec 32 := Scf.iv c0_i32_32 c1_i32_34 k0_t2
  let c0_i32_48 : BitVec 32 := 0#32
  ![arg8.toNat, 0]
def k0_off16 (v79 : BitVec 32) : Fin 2 → Nat :=
  let c0_i32_49 : BitVec 32 := 0#32
  ![v79.toNat, 0]

def k0_chk4 (i : grid0.Coords) (v79 : BitVec 32) : Prop :=
  (∀ (k0_h2 : k0_cond2 i = 1#1), ∀ a, (k0_off16 v79) a + S1x1024.size a ≤ S32768x1024.size a)
theorem k0_off16_inb : ∀ (i : grid0.Coords) (v79 : BitVec 32) (k0_hw4 : k0_chk4 i v79), ∀ (k0_h2 : k0_cond2 i = 1#1), ∀ a, (k0_off16 v79) a + S1x1024.size a ≤ S32768x1024.size a := fun i v79 k0_hw4 k0_h2 => k0_hw4 k0_h2

@[reducible] def k0_t3_loop : Scf.Loop 32 :=
  let c0_i32_7 : BitVec 32 := 0#32
  let c256_i32 : BitVec 32 := 256#32
  let v17 : BitVec 32 := Scalar.addi c0_i32_7 c256_i32
  let c1_i32_8 : BitVec 32 := 1#32
  ⟨c0_i32_7, v17, c1_i32_8⟩
def k0_off17 (i : grid0.Coords) (k0_t3 : Fin k0_t3_loop.trips) : Fin 1 → Nat :=
  let c2_i32_25 : BitVec 32 := 2#32
  let arg0 : BitVec 32 := BitVec.ofNat 32 (i 0).val
  let c256_i32_24 : BitVec 32 := 256#32
  let v52 : BitVec 32 := Scalar.muli arg0 c256_i32_24
  let c0_i32_7 : BitVec 32 := 0#32
  let c1_i32_8 : BitVec 32 := 1#32
  let arg8 : BitVec 32 := Scf.iv c0_i32_7 c1_i32_8 k0_t3
  let v53 : BitVec 32 := Scalar.addi v52 arg8
  let v54 : BitVec 32 := Scalar.muli c2_i32_25 v53
  let v55 : Index := Scalar.indexCast v54
  ![v55.toNat]
def k0_off18 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off19 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_26 : BitVec 32 := 0#32
  let c0_i32_27 : BitVec 32 := 0#32
  let c0_i32_28 : BitVec 32 := 0#32
  ![v16.toNat, 0, 0, 0]
def k0_off20 (k0_t3 : Fin k0_t3_loop.trips) : Fin 2 → Nat :=
  let c0_i32_7 : BitVec 32 := 0#32
  let c1_i32_8 : BitVec 32 := 1#32
  let arg8 : BitVec 32 := Scf.iv c0_i32_7 c1_i32_8 k0_t3
  let c0_i32_29 : BitVec 32 := 0#32
  ![arg8.toNat, 0]
def k0_off21 (v56 : BitVec 32) : Fin 2 → Nat :=
  let c0_i32_30 : BitVec 32 := 0#32
  ![v56.toNat, 0]

def k0_chk5 (v56 : BitVec 32) : Prop :=
  (∀ a, (k0_off21 v56) a + S1x1024.size a ≤ S32768x1024.size a)
theorem k0_off21_inb : ∀ (v56 : BitVec 32) (k0_hw5 : k0_chk5 v56), ∀ a, (k0_off21 v56) a + S1x1024.size a ≤ S32768x1024.size a := fun v56 k0_hw5 => k0_hw5

def k0_off22 (i : grid0.Coords) (k0_t3 : Fin k0_t3_loop.trips) : Fin 1 → Nat :=
  let c2_i32_31 : BitVec 32 := 2#32
  let arg0 : BitVec 32 := BitVec.ofNat 32 (i 0).val
  let c256_i32_24 : BitVec 32 := 256#32
  let v52 : BitVec 32 := Scalar.muli arg0 c256_i32_24
  let c0_i32_7 : BitVec 32 := 0#32
  let c1_i32_8 : BitVec 32 := 1#32
  let arg8 : BitVec 32 := Scf.iv c0_i32_7 c1_i32_8 k0_t3
  let v53 : BitVec 32 := Scalar.addi v52 arg8
  let v63 : BitVec 32 := Scalar.muli c2_i32_31 v53
  let c1_i32_32 : BitVec 32 := 1#32
  let v64 : BitVec 32 := Scalar.addi v63 c1_i32_32
  let v65 : Index := Scalar.indexCast v64
  ![v65.toNat]
def k0_off23 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off24 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_33 : BitVec 32 := 1#32
  let c0_i32_34 : BitVec 32 := 0#32
  let c0_i32_35 : BitVec 32 := 0#32
  ![v16.toNat, 1, 0, 0]
def k0_off25 (k0_t3 : Fin k0_t3_loop.trips) : Fin 2 → Nat :=
  let c0_i32_7 : BitVec 32 := 0#32
  let c1_i32_8 : BitVec 32 := 1#32
  let arg8 : BitVec 32 := Scf.iv c0_i32_7 c1_i32_8 k0_t3
  let c0_i32_36 : BitVec 32 := 0#32
  ![arg8.toNat, 0]
def k0_off26 (v66 : BitVec 32) : Fin 2 → Nat :=
  let c0_i32_37 : BitVec 32 := 0#32
  ![v66.toNat, 0]

def k0_chk6 (v66 : BitVec 32) : Prop :=
  (∀ a, (k0_off26 v66) a + S1x1024.size a ≤ S32768x1024.size a)
theorem k0_off26_inb : ∀ (v66 : BitVec 32) (k0_hw6 : k0_chk6 v66), ∀ a, (k0_off26 v66) a + S1x1024.size a ≤ S32768x1024.size a := fun v66 k0_hw6 => k0_hw6

def k0_off27 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v32 : Index := Scalar.indexCast v16
  let c0_15 : Index := 0#32
  let c0_16 : Index := 0#32
  let c0_17 : Index := 0#32
  ![v32.toNat, 0, 0, 0]
def k0_off28 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v38 : Index := Scalar.indexCast v16
  let c1 : Index := 1#32
  let c0_18 : Index := 0#32
  let c0_19 : Index := 0#32
  ![v38.toNat, 1, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BlendIdeal.lean ====
abbrev S32768 : Shape := ⟨1, ![32768]⟩
abbrev S16384x2048 : Shape := ⟨2, ![16384, 2048]⟩
abbrev S16384x128 : Shape := ⟨2, ![16384, 128]⟩
abbrev S32768x1024 : Shape := ⟨2, ![32768, 1024]⟩
abbrev S_ : Shape := ⟨0, ![]⟩
abbrev S32768x2048 : Shape := ⟨2, ![32768, 2048]⟩
abbrev S16384x2 : Shape := ⟨2, ![16384, 2]⟩
abbrev S16384x1 : Shape := ⟨2, ![16384, 1]⟩
abbrev S16384 : Shape := ⟨1, ![16384]⟩

abbrev nBuf : Space → Nat
  | .hbm => 44
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16384x2048, .f32⟩
  | .hbm, ⟨2, _⟩ => ⟨S16384x128, .f32⟩
  | .hbm, ⟨3, _⟩ => ⟨S32768x1024, .i32⟩
  | .hbm, ⟨4, _⟩ => ⟨S_, .i32⟩
  | .hbm, ⟨5, _⟩ => ⟨S32768x1024, .i32⟩
  | .hbm, ⟨6, _⟩ => ⟨S32768x1024, .i32⟩
  | .hbm, ⟨7, _⟩ => ⟨S32768x1024, .f32⟩
  | .hbm, ⟨8, _⟩ => ⟨S_, .i32⟩
  | .hbm, ⟨9, _⟩ => ⟨S32768x1024, .i32⟩
  | .hbm, ⟨10, _⟩ => ⟨S32768x1024, .i32⟩
  | .hbm, ⟨11, _⟩ => ⟨S32768x1024, .f32⟩
  | .hbm, ⟨12, _⟩ => ⟨S32768x2048, .f32⟩
  | .hbm, ⟨13, _⟩ => ⟨S16384x2, .i32⟩
  | .hbm, ⟨14, _⟩ => ⟨S16384x1, .f32⟩
  | .hbm, ⟨15, _⟩ => ⟨S16384x1, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x1, .f32⟩
  | .hbm, ⟨29, _⟩ => ⟨S16384x1, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Second.lean ====
abbrev S95 : Shape := ⟨1, ![95]⟩
abbrev S32768x1024 : Shape := ⟨2, ![32768, 1024]⟩
abbrev S2x32x2048x256 : Shape := ⟨4, ![2, 32, 2048, 256]⟩
abbrev S2x32x256x2048 : Shape := ⟨4, ![2, 32, 256, 2048]⟩
abbrev S32768x2048 : Shape := ⟨2, ![32768, 2048]⟩
abbrev S512x1024 : Shape := ⟨2, ![512, 1024]⟩
abbrev S1 : Shape := ⟨1, ![1]⟩
abbrev S512x2048 : Shape := ⟨2, ![512, 2048]⟩
abbrev S2048x256 : Shape := ⟨2, ![2048, 256]⟩
abbrev S256x2048 : Shape := ⟨2, ![256, 2048]⟩
abbrev S2x2048x256 : Shape := ⟨3, ![2, 2048, 256]⟩
abbrev S2x256x2048 : Shape := ⟨3, ![2, 256, 2048]⟩
abbrev S2 : Shape := ⟨1, ![2]⟩
abbrev S_ : Shape := ⟨0, ![]⟩
abbrev S1x2048x256 : Shape := ⟨3, ![1, 2048, 256]⟩
abbrev S1x1x2048x256 : Shape := ⟨4, ![1, 1, 2048, 256]⟩
abbrev S1x256x2048 : Shape := ⟨3, ![1, 256, 2048]⟩
abbrev S1x1x256x2048 : Shape := ⟨4, ![1, 1, 256, 2048]⟩
abbrev S512x256 : Shape := ⟨2, ![512, 256]⟩
abbrev S256x1024 : Shape := ⟨2, ![256, 1024]⟩
abbrev S256x256 : Shape := ⟨2, ![256, 256]⟩

abbrev nBuf : Space → Nat
  | .hbm => 5
  | .vmem => 11
  | .smem => 5
  | _ => 0

abbrev bufTy : (tb : Table) → Fin (tcTables nBuf tb) → BufTy
  | .hbm, ⟨0, _⟩ => ⟨S32768x1024, .i32⟩
  | .hbm, ⟨1, _⟩ => ⟨S2x32x2048x256, .f32⟩
  | .hbm, ⟨2, _⟩ => ⟨S2x32x2048x256, .f32⟩
  | .hbm, ⟨3, _⟩ => ⟨S2x32x256x2048, .f32⟩
  | .hbm, ⟨4, _⟩ => ⟨S32768x2048, .bf16⟩
  | .local _ .vmem, ⟨0, _⟩ => ⟨S512x1024, .i32⟩
  | .local _ .vmem, ⟨1, _⟩ => ⟨S512x1024, .i32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S2x2048x256, .f32⟩
  | .local _ .vmem, ⟨9, _⟩ => ⟨S2x2048x256, .f32⟩
  | .local _ .vmem, ⟨10, _⟩ => ⟨S2x256x2048, .f32⟩
  | .local _ .smem, ⟨0, _⟩ => ⟨S95, .i32⟩
  | .local _ .smem, ⟨1, _⟩ => ⟨S95, .i32⟩
  | .local _ .smem, ⟨2, _⟩ => ⟨S95, .i32⟩
  | .local _ .smem, ⟨3, _⟩ => ⟨S95, .i32⟩
  | .local _ .smem, ⟨4, _⟩ => ⟨S95, .i32⟩
  | _, _ => ⟨S32768x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![95], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_12 : BitVec 32 := 0#32
  let v42 : BitVec 1 := Scalar.cmpi .eq arg0 c0_i32_12
  let v43 : BitVec 32 := Scalar.extui v42
  let c0_i32_13 : BitVec 32 := 0#32
  let v44 : BitVec 1 := Scalar.cmpi .ne v43 c0_i32_13
  v44

def k0_off2 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]

def k0_off3 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_25 : BitVec 32 := 0#32
  let c0_i32_26 : BitVec 32 := 0#32
  ![v23.toNat, 0, 0]
def k0_off4 (v78 : BitVec 32) : Fin 4 → Nat :=
  let c1_i32_24 : BitVec 32 := 1#32
  let c0_i32_27 : BitVec 32 := 0#32
  let c0_i32_28 : BitVec 32 := 0#32
  ![1, v78.toNat, 0, 0]

def k0_off5 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_off6 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_30 : BitVec 32 := 0#32
  let c0_i32_31 : BitVec 32 := 0#32
  ![v23.toNat, 0, 0]
def k0_off7 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_35 : BitVec 32 := 0#32
  let c0_i32_36 : BitVec 32 := 0#32
  ![v23.toNat, 0, 0]
def k0_off8 (v78 : BitVec 32) : Fin 4 → Nat :=
  let c1_i32_34 : BitVec 32 := 1#32
  let c0_i32_37 : BitVec 32 := 0#32
  let c0_i32_38 : BitVec 32 := 0#32
  ![1, v78.toNat, 0, 0]

def k0_chk2 (i : grid0.Coords) (v78 : BitVec 32) : Prop :=
  (∀ (k0_h1 : k0_cond1 i = 1#1), ∀ a, (k0_off4 v78) a + S1x1x2048x256.size a ≤ S2x32x2048x256.size a) ∧
  (∀ (k0_h1 : k0_cond1 i = 1#1), ∀ a, (k0_off8 v78) a + S1x1x256x2048.size a ≤ S2x32x256x2048.size a)
theorem k0_off4_inb : ∀ (i : grid0.Coords) (v78 : BitVec 32) (k0_hw2 : k0_chk2 i v78), ∀ (k0_h1 : k0_cond1 i = 1#1), ∀ a, (k0_off4 v78) a + S1x1x2048x256.size a ≤ S2x32x2048x256.size a := fun i v78 k0_hw2 k0_h1 => k0_hw2.1 k0_h1
theorem k0_off8_inb : ∀ (i : grid0.Coords) (v78 : BitVec 32) (k0_hw2 : k0_chk2 i v78), ∀ (k0_h1 : k0_cond1 i = 1#1), ∀ a, (k0_off8 v78) a + S1x1x256x2048.size a ≤ S2x32x256x2048.size a := fun i v78 k0_hw2 k0_h1 => k0_hw2.2 k0_h1

def k0_off9 (i : grid0.Coords) : Fin 1 → Nat :=
  let arg0 : BitVec 32 := BitVec.ofNat 32 (i 0).val
  let v78 : Index := Scalar.indexCast arg0
  ![v78.toNat]
def k0_off10 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_cond2 (v5 : BitVec 32) : BitVec 1 :=
  let c4_i32 : BitVec 32 := 4#32
  let v45 : BitVec 32 := Scalar.andi v5 c4_i32
  let c0_i32_14 : BitVec 32 := 0#32
  let v46 : BitVec 1 := Scalar.cmpi .ne v45 c0_i32_14
  let v47 : BitVec 32 := Scalar.extui v46
  let c0_i32_15 : BitVec 32 := 0#32
  let v48 : BitVec 1 := Scalar.cmpi .ne v47 c0_i32_15
  v48

def k0_off11 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_25 : BitVec 32 := 0#32
  let c0_i32_26 : BitVec 32 := 0#32
  ![v23.toNat, 0, 0]
def k0_off12 (v79 : BitVec 32) : Fin 4 → Nat :=
  let c1_i32_24 : BitVec 32 := 1#32
  let c0_i32_27 : BitVec 32 := 0#32
  let c0_i32_28 : BitVec 32 := 0#32
  ![1, v79.toNat, 0, 0]

def k0_off13 (v5 : BitVec 32) : Fin 1 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  ![v23.toNat]
def k0_off14 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_30 : BitVec 32 := 0#32
  let c0_i32_31 : BitVec 32 := 0#32
  ![v23.toNat, 0, 0]
def k0_off15 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let c0_i32_35 : BitVec 32 := 0#32
  let c0_i32_36 : BitVec 32 := 0#32
  ![v23.toNat, 0, 0]
def k0_off16 (v79 : BitVec 32) : Fin 4 → Nat :=
  let c1_i32_34 : BitVec 32 := 1#32
  let c0_i32_37 : BitVec 32 := 0#32
  let c0_i32_38 : BitVec 32 := 0#32
  ![1, v79.toNat, 0, 0]

def k0_chk3 (v5 : BitVec 32) (v79 : BitVec 32) : Prop :=
  (∀ (k0_h2 : k0_cond2 v5 = 1#1), ∀ a, (k0_off12 v79) a + S1x1x2048x256.size a ≤ S2x32x2048x256.size a) ∧
  (∀ (k0_h2 : k0_cond2 v5 = 1#1), ∀ a, (k0_off16 v79) a + S1x1x256x2048.size a ≤ S2x32x256x2048.size a)
theorem k0_off12_inb : ∀ (v5 : BitVec 32) (v79 : BitVec 32) (k0_hw3 : k0_chk3 v5 v79), ∀ (k0_h2 : k0_cond2 v5 = 1#1), ∀ a, (k0_off12 v79) a + S1x1x2048x256.size a ≤ S2x32x2048x256.size a := fun v5 v79 k0_hw3 k0_h2 => k0_hw3.1 k0_h2
theorem k0_off16_inb : ∀ (v5 : BitVec 32) (v79 : BitVec 32) (k0_hw3 : k0_chk3 v5 v79), ∀ (k0_h2 : k0_cond2 v5 = 1#1), ∀ a, (k0_off16 v79) a + S1x1x256x2048.size a ≤ S2x32x256x2048.size a := fun v5 v79 k0_hw3 k0_h2 => k0_hw3.2 k0_h2

def k0_off17 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v98 : Index := Scalar.indexCast v23
  let c0 : Index := 0#32
  let c0_39 : Index := 0#32
  ![v98.toNat, 0, 0]
def k0_off18 (v5 : BitVec 32) : Fin 3 → Nat :=
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v112 : Index := Scalar.indexCast v23
  let c0_46 : Index := 0#32
  let c0_47 : Index := 0#32
  ![v112.toNat, 0, 0]
def k0_off19 (v5 : BitVec 32) : Fin 1 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  ![v122.toNat]
def k0_cond3 (v5 : BitVec 32) : BitVec 1 :=
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_50 : BitVec 32 := 0#32
  let v119 : BitVec 1 := Scalar.cmpi .sge v41 c0_i32_50
  let v120 : BitVec 32 := Scalar.extui v119
  let c0_i32_51 : BitVec 32 := 0#32
  let v121 : BitVec 1 := Scalar.cmpi .ne v120 c0_i32_51
  v121

def k0_off20 (v5 : BitVec 32) : Fin 3 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  let c0_i32_54 : BitVec 32 := 0#32
  let c0_i32_55 : BitVec 32 := 0#32
  ![v122.toNat, 0, 0]
def k0_off21 (v5 : BitVec 32) : Fin 4 → Nat :=
  let c1_i32_53 : BitVec 32 := 1#32
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_56 : BitVec 32 := 0#32
  let c0_i32_57 : BitVec 32 := 0#32
  ![1, v41.toNat, 0, 0]
def k0_off22 (v5 : BitVec 32) : Fin 3 → Nat :=
  let c1_i32_52 : BitVec 32 := 1#32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c8_i32 : BitVec 32 := 8#32
  let c0_i32_1 : BitVec 32 := 0#32
  let v12 : BitVec 1 := Scalar.cmpi .sgt c8_i32 c0_i32_1
  let v13 : BitVec 32 := Scalar.extui v12
  let c0_i32_2 : BitVec 32 := 0#32
  let v14 : BitVec 1 := Scalar.cmpi .slt c8_i32 c0_i32_2
  let v15 : BitVec 32 := Scalar.extui v14
  let v16 : BitVec 32 := Scalar.subi v13 v15
  let v17 : BitVec 1 := Scalar.cmpi .ne v11 v16
  let v18 : BitVec 32 := Scalar.remsi v5 c8_i32
  let c0_i32_3 : BitVec 32 := 0#32
  let v19 : BitVec 1 := Scalar.cmpi .ne v18 c0_i32_3
  let v20 : BitVec 1 := Scalar.andi v17 v19
  let v6 : BitVec 32 := Scalar.divsi v5 c8_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.andi v22 c1_i32_4
  let v122 : BitVec 32 := Scalar.subi c1_i32_52 v23
  let c0_i32_64 : BitVec 32 := 0#32
  let c0_i32_65 : BitVec 32 := 0#32
  ![v122.toNat, 0, 0]
def k0_off23 (v5 : BitVec 32) : Fin 4 → Nat :=
  let c1_i32_63 : BitVec 32 := 1#32
  let c0_i32_5 : BitVec 32 := 0#32
  let v25 : BitVec 1 := Scalar.cmpi .sgt v5 c0_i32_5
  let v26 : BitVec 32 := Scalar.extui v25
  let c0_i32_6 : BitVec 32 := 0#32
  let v27 : BitVec 1 := Scalar.cmpi .slt v5 c0_i32_6
  let v28 : BitVec 32 := Scalar.extui v27
  let v29 : BitVec 32 := Scalar.subi v26 v28
  let c16_i32 : BitVec 32 := 16#32
  let c0_i32_7 : BitVec 32 := 0#32
  let v30 : BitVec 1 := Scalar.cmpi .sgt c16_i32 c0_i32_7
  let v31 : BitVec 32 := Scalar.extui v30
  let c0_i32_8 : BitVec 32 := 0#32
  let v32 : BitVec 1 := Scalar.cmpi .slt c16_i32 c0_i32_8
  let v33 : BitVec 32 := Scalar.extui v32
  let v34 : BitVec 32 := Scalar.subi v31 v33
  let v35 : BitVec 1 := Scalar.cmpi .ne v29 v34
  let v36 : BitVec 32 := Scalar.remsi v5 c16_i32
  let c0_i32_9 : BitVec 32 := 0#32
  let v37 : BitVec 1 := Scalar.cmpi .ne v36 c0_i32_9
  let v38 : BitVec 1 := Scalar.andi v35 v37
  let v24 : BitVec 32 := Scalar.divsi v5 c16_i32
  let c1_i32_10 : BitVec 32 := 1#32
  let v39 : BitVec 32 := Scalar.subi v24 c1_i32_10
  let v40 : BitVec 32 := Scalar.select v38 v39 v24
  let c1_i32_11 : BitVec 32 := 1#32
  let v41 : BitVec 32 := Scalar.subi v40 c1_i32_11
  let c0_i32_66 : BitVec 32 := 0#32
  let c0_i32_67 : BitVec 32 := 0#32
  ![1, v41.toNat, 0, 0]

def k0_chk1 (i : grid0.Coords) (v5 : BitVec 32) : Prop :=
  (∀ (k0_h1 : k0_cond1 i = 1#1), ∀ a, (k0_off2 v5) a + S1.size a ≤ S2.size a) ∧
  (∀ (k0_h1 : k0_cond1 i = 1#1), ∀ a, (k0_off3 v5) a + S1x2048x256.size a ≤ S2x2048x256.size a) ∧
  (∀ (k0_h1 : k0_cond1 i = 1#1), ∀ a, (k0_off5 v5) a + S1.size a ≤ S2.size a) ∧
  (∀ (k0_h1 : k0_cond1 i = 1#1), ∀ a, (k0_off6 v5) a + S1x2048x256.size a ≤ S2x2048x256.size a) ∧
  (∀ (k0_h1 : k0_cond1 i = 1#1), ∀ a, (k0_off7 v5) a + S1x256x2048.size a ≤ S2x256x2048.size a) ∧
  (∀ (k0_h2 : k0_cond2 v5 = 1#1), ∀ a, (k0_off10 v5) a + S1.size a ≤ S2.size a) ∧
  (∀ (k0_h2 : k0_cond2 v5 = 1#1), ∀ a, (k0_off11 v5) a + S1x2048x256.size a ≤ S2x2048x256.size a) ∧
  (∀ (k0_h2 : k0_cond2 v5 = 1#1), ∀ a, (k0_off13 v5) a + S1.size a ≤ S2.size a) ∧
  (∀ (k0_h2 : k0_cond2 v5 = 1#1), ∀ a, (k0_off14 v5) a + S1x2048x256.size a ≤ S2x2048x256.size a) ∧
  (∀ (k0_h2 : k0_cond2 v5 = 1#1), ∀ a, (k0_off15 v5) a + S1x256x2048.size a ≤ S2x256x2048.size a) ∧
  (∀ (k0_h2 : k0_cond2 v5 = 1#1), ∀ a, (k0_off17 v5) a + S1x2048x256.size a ≤ S2x2048x256.size a) ∧
  (∀ (k0_h2 : k0_cond2 v5 = 1#1), ∀ a, (k0_off18 v5) a + S1x256x2048.size a ≤ S2x256x2048.size a) ∧
  (∀ (k0_h2 : k0_cond2 v5 = 1#1), ∀ (k0_h3 : k0_cond3 v5 = 1#1), ∀ a, (k0_off19 v5) a + S1.size a ≤ S2.size a) ∧
  (∀ (k0_h2 : k0_cond2 v5 = 1#1), ∀ (k0_h3 : k0_cond3 v5 = 1#1), ∀ a, (k0_off20 v5) a + S1x2048x256.size a ≤ S2x2048x256.size a) ∧
  (∀ (k0_h2 : k0_cond2 v5 = 1#1), ∀ (k0_h3 : k0_cond3 v5 = 1#1), ∀ a, (k0_off21 v5) a + S1x1x2048x256.size a ≤ S2x32x2048x256.size a) ∧
  (∀ (k0_h2 : k0_cond2 v5 = 1#1), ∀ (k0_h3 : k0_cond3 v5 = 1#1), ∀ a, (k0_off22 v5) a + S1x256x2048.size a ≤ S2x256x2048.size a) ∧
  (∀ (k0_h2 : k0_cond2 v5 = 1#1), ∀ (k0_h3 : k0_cond3 v5 = 1#1), ∀ a, (k0_off23 v5) a + S1x1x256x2048.size a ≤ S2x32x256x2048.size a)
theorem k0_off2_inb : ∀ (i : grid0.Coords) (v5 : BitVec 32) (k0_hw1 : k0_chk1 i v5), ∀ (k0_h1 : k0_cond1 i = 1#1), ∀ a, (k0_off2 v5) a + S1.size a ≤ S2.size a := fun i v5 k0_hw1 k0_h1 => k0_hw1.1 k0_h1
theorem k0_off3_inb : ∀ (i : grid0.Coords) (v5 : BitVec 32) (k0_hw1 : k0_chk1 i v5), ∀ (k0_h1 : k0_cond1 i = 1#1), ∀ a, (k0_off3 v5) a + S1x2048x256.size a ≤ S2x2048x256.size a := fun i v5 k0_hw1 k0_h1 => k0_hw1.2.1 k0_h1
theorem k0_off5_inb : ∀ (i : grid0.Coords) (v5 : BitVec 32) (k0_hw1 : k0_chk1 i v5), ∀ (k0_h1 : k0_cond1 i = 1#1), ∀ a, (k0_off5 v5) a + S1.size a ≤ S2.size a := fun i v5 k0_hw1 k0_h1 => k0_hw1.2.2.1 k0_h1
theorem k0_off6_inb : ∀ (i : grid0.Coords) (v5 : BitVec 32) (k0_hw1 : k0_chk1 i v5), ∀ (k0_h1 : k0_cond1 i = 1#1), ∀ a, (k0_off6 v5) a + S1x2048x256.size a ≤ S2x2048x256.size a := fun i v5 k0_hw1 k0_h1 => k0_hw1.2.2.2.1 k0_h1
theorem k0_off7_inb : ∀ (i : grid0.Coords) (v5 : BitVec 32) (k0_hw1 : k0_chk1 i v5), ∀ (k0_h1 : k0_cond1 i = 1#1), ∀ a, (k0_off7 v5) a + S1x256x2048.size a ≤ S2x256x2048.size a := fun i v5 k0_hw1 k0_h1 => k0_hw1.2.2.2.2.1 k0_h1
theorem k0_off10_inb : ∀ (i : grid0.Coords) (v5 : BitVec 32) (k0_hw1 : k0_chk1 i v5), ∀ (k0_h2 : k0_cond2 v5 = 1#1), ∀ a, (k0_off10 v5) a + S1.size a ≤ S2.size a := fun i v5 k0_hw1 k0_h2 => k0_hw1.2.2.2.2.2.1 k0_h2
theorem k0_off11_inb : ∀ (i : grid0.Coords) (v5 : BitVec 32) (k0_hw1 : k0_chk1 i v5), ∀ (k0_h2 : k0_cond2 v5 = 1#1), ∀ a, (k0_off11 v5) a + S1x2048x256.size a ≤ S2x2048x256.size a := fun i v5 k0_hw1 k0_h2 => k0_hw1.2.2.2.2.2.2.1 k0_h2
theorem k0_off13_inb : ∀ (i : grid0.Coords) (v5 : BitVec 32) (k0_hw1 : k0_chk1 i v5), ∀ (k0_h2 : k0_cond2 v5 = 1#1), ∀ a, (k0_off13 v5) a + S1.size a ≤ S2.size a := fun i v5 k0_hw1 k0_h2 => k0_hw1.2.2.2.2.2.2.2.1 k0_h2
theorem k0_off14_inb : ∀ (i : grid0.Coords) (v5 : BitVec 32) (k0_hw1 : k0_chk1 i v5), ∀ (k0_h2 : k0_cond2 v5 = 1#1), ∀ a, (k0_off14 v5) a + S1x2048x256.size a ≤ S2x2048x256.size a := fun i v5 k0_hw1 k0_h2 => k0_hw1.2.2.2.2.2.2.2.2.1 k0_h2
theorem k0_off15_inb : ∀ (i : grid0.Coords) (v5 : BitVec 32) (k0_hw1 : k0_chk1 i v5), ∀ (k0_h2 : k0_cond2 v5 = 1#1), ∀ a, (k0_off15 v5) a + S1x256x2048.size a ≤ S2x256x2048.size a := fun i v5 k0_hw1 k0_h2 => k0_hw1.2.2.2.2.2.2.2.2.2.1 k0_h2
theorem k0_off17_inb : ∀ (i : grid0.Coords) (v5 : BitVec 32) (k0_hw1 : k0_chk1 i v5), ∀ (k0_h2 : k0_cond2 v5 = 1#1), ∀ a, (k0_off17 v5) a + S1x2048x256.size a ≤ S2x2048x256.size a := fun i v5 k0_hw1 k0_h2 => k0_hw1.2.2.2.2.2.2.2.2.2.2.1 k0_h2
theorem k0_off18_inb : ∀ (i : grid0.Coords) (v5 : BitVec 32) (k0_hw1 : k0_chk1 i v5), ∀ (k0_h2 : k0_cond2 v5 = 1#1), ∀ a, (k0_off18 v5) a + S1x256x2048.size a ≤ S2x256x2048.size a := fun i v5 k0_hw1 k0_h2 => k0_hw1.2.2.2.2.2.2.2.2.2.2.2.1 k0_h2
theorem k0_off19_inb : ∀ (i : grid0.Coords) (v5 : BitVec 32) (k0_hw1 : k0_chk1 i v5), ∀ (k0_h2 : k0_cond2 v5 = 1#1), ∀ (k0_h3 : k0_cond3 v5 = 1#1), ∀ a, (k0_off19 v5) a + S1.size a ≤ S2.size a := fun i v5 k0_hw1 k0_h2 k0_h3 => k0_hw1.2.2.2.2.2.2.2.2.2.2.2.2.1 k0_h2 k0_h3
theorem k0_off20_inb : ∀ (i : grid0.Coords) (v5 : BitVec 32) (k0_hw1 : k0_chk1 i v5), ∀ (k0_h2 : k0_cond2 v5 = 1#1), ∀ (k0_h3 : k0_cond3 v5 = 1#1), ∀ a, (k0_off20 v5) a + S1x2048x256.size a ≤ S2x2048x256.size a := fun i v5 k0_hw1 k0_h2 k0_h3 => k0_hw1.2.2.2.2.2.2.2.2.2.2.2.2.2.1 k0_h2 k0_h3
theorem k0_off21_inb : ∀ (i : grid0.Coords) (v5 : BitVec 32) (k0_hw1 : k0_chk1 i v5), ∀ (k0_h2 : k0_cond2 v5 = 1#1), ∀ (k0_h3 : k0_cond3 v5 = 1#1), ∀ a, (k0_off21 v5) a + S1x1x2048x256.size a ≤ S2x32x2048x256.size a := fun i v5 k0_hw1 k0_h2 k0_h3 => k0_hw1.2.2.2.2.2.2.2.2.2.2.2.2.2.2.1 k0_h2 k0_h3
theorem k0_off22_inb : ∀ (i : grid0.Coords) (v5 : BitVec 32) (k0_hw1 : k0_chk1 i v5), ∀ (k0_h2 : k0_cond2 v5 = 1#1), ∀ (k0_h3 : k0_cond3 v5 = 1#1), ∀ a, (k0_off22 v5) a + S1x256x2048.size a ≤ S2x256x2048.size a := fun i v5 k0_hw1 k0_h2 k0_h3 => k0_hw1.2.2.2.2.2.2.2.2.2.2.2.2.2.2.2.1 k0_h2 k0_h3
theorem k0_off23_inb : ∀ (i : grid0.Coords) (v5 : BitVec 32) (k0_hw1 : k0_chk1 i v5), ∀ (k0_h2 : k0_cond2 v5 = 1#1), ∀ (k0_h3 : k0_cond3 v5 = 1#1), ∀ a, (k0_off23 v5) a + S1x1x256x2048.size a ≤ S2x32x256x2048.size a := fun i v5 k0_hw1 k0_h2 k0_h3 => k0_hw1.2.2.2.2.2.2.2.2.2.2.2.2.2.2.2.2 k0_h2 k0_h3

def k0_off24 (i : grid0.Coords) : Fin 1 → Nat :=
  let arg0 : BitVec 32 := BitVec.ofNat 32 (i 0).val
  let v51 : Index := Scalar.indexCast arg0
  ![v51.toNat]
def k0_off25 (i : grid0.Coords) : Fin 1 → Nat :=
  let arg0 : BitVec 32 := BitVec.ofNat 32 (i 0).val
  let v78 : Index := Scalar.indexCast arg0
  ![v78.toNat]
def k0_off26 (i : grid0.Coords) : Fin 1 → Nat :=
  let arg0 : BitVec 32 := BitVec.ofNat 32 (i 0).val
  let v78 : Index := Scalar.indexCast arg0
  ![v78.toNat]
def k0_off27 (i : grid0.Coords) : Fin 1 → Nat :=
  let arg0 : BitVec 32 := BitVec.ofNat 32 (i 0).val
  let v78 : Index := Scalar.indexCast arg0
  ![v78.toNat]
def k0_cond13 (v5 : BitVec 32) : BitVec 1 :=
  let c2_i32 : BitVec 32 := 2#32
  let v74 : BitVec 32 := Scalar.andi v5 c2_i32
  let c0_i32_22 : BitVec 32 := 0#32
  let v75 : BitVec 1 := Scalar.cmpi .ne v74 c0_i32_22
  let v76 : BitVec 32 := Scalar.extui v75
  let c0_i32_23 : BitVec 32 := 0#32
  let v77 : BitVec 1 := Scalar.cmpi .ne v76 c0_i32_23
  v77

def cc0_transform_0 (k0_off1_inb : ∀ i : grid0.Coords, ∀ a, (k0_off1 i) a + S1.size a ≤ S95.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S95) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S95.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S95) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SecondReferenceIdeal.lean ====
abbrev S95 : Shape := ⟨1, ![95]⟩
abbrev S32768x1024 : Shape := ⟨2, ![32768, 1024]⟩
abbrev S2x32x2048x256 : Shape := ⟨4, ![2, 32, 2048, 256]⟩
abbrev S2x32x256x2048 : Shape := ⟨4, ![2, 32, 256, 2048]⟩
abbrev S_ : Shape := ⟨0, ![]⟩
abbrev S32768x2048 : Shape := ⟨2, ![32768, 2048]⟩
abbrev S32768 : Shape := ⟨1, ![32768]⟩
abbrev S32768x1 : Shape := ⟨2, ![32768, 1]⟩
abbrev S1x95 : Shape := ⟨2, ![1, 95]⟩
abbrev S32768x95 : Shape := ⟨2, ![32768, 95]⟩
abbrev S95x1 : Shape := ⟨2, ![95, 1]⟩
abbrev S32 : Shape := ⟨1, ![32]⟩
abbrev S1x32 : Shape := ⟨2, ![1, 32]⟩
abbrev S95x32 : Shape := ⟨2, ![95, 32]⟩
abbrev S32768x32 : Shape := ⟨2, ![32768, 32]⟩
abbrev S1x32x2048x256 : Shape := ⟨4, ![1, 32, 2048, 256]⟩
abbrev S32x2048x256 : Shape := ⟨3, ![32, 2048, 256]⟩
abbrev S32768x32x256 : Shape := ⟨3, ![32768, 32, 256]⟩
abbrev S32768x32x1 : Shape := ⟨3, ![32768, 32, 1]⟩
abbrev S1x32x256x2048 : Shape := ⟨4, ![1, 32, 256, 2048]⟩
abbrev S32x256x2048 : Shape := ⟨3, ![32, 256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S95, .i32⟩
  | .hbm, ⟨1, _⟩ => ⟨S95, .i32⟩
  | .hbm, ⟨2, _⟩ => ⟨S95, .i32⟩
  | .hbm, ⟨3, _⟩ => ⟨S95, .i32⟩
  | .hbm, ⟨4, _⟩ => ⟨S95, .i32⟩
  | .hbm, ⟨5, _⟩ => ⟨S32768x1024, .i32⟩
  | .hbm, ⟨6, _⟩ => ⟨S2x32x2048x256, .f32⟩
  | .hbm, ⟨7, _⟩ => ⟨S2x32x2048x256, .f32⟩
  | .hbm, ⟨8, _⟩ => ⟨S2x32x256x2048, .f32⟩
  | .hbm, ⟨9, _⟩ => ⟨S_, .i32⟩
  | .hbm, ⟨10, _⟩ => ⟨S32768x1024, .i32⟩
  | .hbm, ⟨11, _⟩ => ⟨S32768x1024, .i32⟩
  | .hbm, ⟨12, _⟩ => ⟨S32768x1024, .f32⟩
  | .hbm, ⟨13, _⟩ => ⟨S_, .i32⟩
  | .hbm, ⟨14, _⟩ => ⟨S32768x1024, .i32⟩
  | .hbm, ⟨15, _⟩ => ⟨S32768x1024, .i32⟩
  | .hbm, ⟨16, _⟩ => ⟨S32768x1024, .f32⟩
  | .hbm, ⟨17, _⟩ => ⟨S32768x2048, .f32⟩
  | .hbm, ⟨18, _⟩ => ⟨S32768, .i32⟩
  | .hbm, ⟨19, _⟩ => ⟨S32768x1, .i32⟩
  | .hbm, ⟨20, _⟩ => ⟨S1x95, .i32⟩
  | .hbm, ⟨21, _⟩ => ⟨S32768x95, .i32⟩
  | .hbm, ⟨22, _⟩ => ⟨S32768x95, .i32⟩
  | .hbm, ⟨23, _⟩ => ⟨S32768x95, .i1⟩
  | .hbm, ⟨24, _⟩ => ⟨S1x95, .i32⟩
  | .hbm, ⟨25, _⟩ => ⟨S32768x95, .i32⟩
  | .hbm, ⟨26, _⟩ => ⟨S32768x95, .i32⟩
  | .hbm, ⟨27, _⟩ => ⟨S32768x95, .i1⟩
  | .hbm, ⟨28, _⟩ => ⟨S32768x95, .i1⟩
  | .hbm, ⟨29, _⟩ => ⟨S95x1, .i32⟩
  | .hbm, ⟨30, _⟩ => ⟨S32, .i32⟩
  | .hbm, ⟨31, _⟩ => ⟨S1x32, .i32⟩
  | .hbm, ⟨32, _⟩ => ⟨S95x32, .i32⟩
  | .hbm, ⟨33, _⟩ => ⟨S95x32, .i32⟩
  | .hbm, ⟨34, _⟩ => ⟨S95x32, .i1⟩
  | .hbm, ⟨35, _⟩ => ⟨S32768x95, .f32⟩
  | .hbm, ⟨36, _⟩ => ⟨S95x32, .f32⟩
  | .hbm, ⟨37, _⟩ => ⟨S32768x32, .f32⟩
  | .hbm, ⟨38, _⟩ => ⟨S1x32x2048x256, .f32⟩
  | .hbm, ⟨39, _⟩ => ⟨S32x2048x256, .f32⟩
  | .hbm, ⟨40, _⟩ => ⟨S32768x32x256, .f32⟩
  | .hbm, ⟨41, _⟩ => ⟨S32768x32x256, .f32⟩
  | .hbm, ⟨42, _⟩ => ⟨S32768x32x256, .f32⟩
  | .hbm, ⟨43, _⟩ => ⟨S_, .f32⟩
  | .hbm, ⟨44, _⟩ => ⟨S32768x32x256, .f32⟩
  | .hbm, ⟨45, _⟩ => ⟨S32768x32x256, .f32⟩
  | .hbm, ⟨46, _⟩ => ⟨S_, .f32⟩
  | .hbm, ⟨47, _⟩ => ⟨S32768x32x256, .f32⟩
  | .hbm, ⟨48, _⟩ => ⟨S32768x32x256, .f32⟩
  | .hbm, ⟨49, _⟩ => ⟨S32768x32x256, .f32⟩
  | .hbm, ⟨50, _⟩ => ⟨S1x32x2048x256, .f32⟩
  | .hbm, ⟨51, _⟩ => ⟨S32x2048x256, .f32⟩
  | .hbm, ⟨52, _⟩ => ⟨S32768x32x256, .f32⟩
  | .hbm, ⟨53, _⟩ => ⟨S32768x32x256, .f32⟩
  | .hbm, ⟨54, _⟩ => ⟨S32768x32x1, .f32⟩
  | .hbm, ⟨55, _⟩ => ⟨S32768x32x256, .f32⟩
  | .hbm, ⟨56, _⟩ => ⟨S32768x32x256, .f32⟩
  | .hbm, ⟨57, _⟩ => ⟨S1x32x256x2048, .f32⟩
  | .hbm, ⟨58, _⟩ => ⟨S32x256x2048, .f32⟩
  | .hbm, ⟨59, _⟩ => ⟨S32768x2048, .f32⟩
  | .hbm, ⟨60, _⟩ => ⟨S32768x2048, .bf16⟩
  | _, _ => ⟨S95, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Project.lean ====
abbrev S16384x2048 : Shape := ⟨2, ![16384, 2048]⟩
abbrev S1x2048 : Shape := ⟨2, ![1, 2048]⟩
abbrev S2x2048x4632 : Shape := ⟨3, ![2, 2048, 4632]⟩
abbrev S2x2048x128 : Shape := ⟨3, ![2, 2048, 128]⟩
abbrev S16384x4608 : Shape := ⟨2, ![16384, 4608]⟩
abbrev S16384x128 : Shape := ⟨2, ![16384, 128]⟩
abbrev S1024x2048 : Shape := ⟨2, ![1024, 2048]⟩
abbrev S1x2048x1536 : Shape := ⟨3, ![1, 2048, 1536]⟩
abbrev S1x2048x128 : Shape := ⟨3, ![1, 2048, 128]⟩
abbrev S1024x1536 : Shape := ⟨2, ![1024, 1536]⟩
abbrev S1024x128 : Shape := ⟨2, ![1024, 128]⟩
abbrev S1024 : Shape := ⟨1, ![1024]⟩
abbrev S1024x1 : Shape := ⟨2, ![1024, 1]⟩
abbrev S2048x128 : Shape := ⟨2, ![2048, 128]⟩
abbrev S2048x1536 : Shape := ⟨2, ![2048, 1536]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x4632, .bf16⟩
  | .hbm, ⟨3, _⟩ => ⟨S2x2048x128, .bf16⟩
  | .hbm, ⟨4, _⟩ => ⟨S16384x4608, .bf16⟩
  | .hbm, ⟨5, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1536, .bf16⟩
  | .local _ .vmem, ⟨4, _⟩ => ⟨S1x2048x1536, .bf16⟩
  | .local _ .vmem, ⟨5, _⟩ => ⟨S1x2048x128, .bf16⟩
  | .local _ .vmem, ⟨6, _⟩ => ⟨S1024x1536, .bf16⟩
  | .local _ .vmem, ⟨7, _⟩ => ⟨S1024x1536, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjectReferenceIdeal.lean ====
abbrev S16384x2048 : Shape := ⟨2, ![16384, 2048]⟩
abbrev S1x2048 : Shape := ⟨2, ![1, 2048]⟩
abbrev S2x2048x4632 : Shape := ⟨3, ![2, 2048, 4632]⟩
abbrev S2x2048x128 : Shape := ⟨3, ![2, 2048, 128]⟩
abbrev S_ : Shape := ⟨0, ![]⟩
abbrev S16384 : Shape := ⟨1, ![16384]⟩
abbrev S16384x1 : Shape := ⟨2, ![16384, 1]⟩
abbrev S1x2048x4608 : Shape := ⟨3, ![1, 2048, 4608]⟩
abbrev S2048x4608 : Shape := ⟨2, ![2048, 4608]⟩
abbrev S16384x4608 : Shape := ⟨2, ![16384, 4608]⟩
abbrev S1x2048x128 : Shape := ⟨3, ![1, 2048, 128]⟩
abbrev S2048x128 : Shape := ⟨2, ![2048, 128]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x4632, .bf16⟩
  | .hbm, ⟨3, _⟩ => ⟨S2x2048x128, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048x4608, .bf16⟩
  | .hbm, ⟨20, _⟩ => ⟨S2048x4608, .bf16⟩
  | .hbm, ⟨21, _⟩ => ⟨S2048x4608, .f32⟩
  | .hbm, ⟨22, _⟩ => ⟨S16384x4608, .f32⟩
  | .hbm, ⟨23, _⟩ => ⟨S16384x4608, .bf16⟩
  | .hbm, ⟨24, _⟩ => ⟨S1x2048x128, .bf16⟩
  | .hbm, ⟨25, _⟩ => ⟨S2048x128, .bf16⟩
  | .hbm, ⟨26, _⟩ => ⟨S2048x128, .f32⟩
  | .hbm, ⟨27, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.PlainIdealBody.lean ====
/-
The body of the experts call, cut into the pieces the proof speaks of one by one: the three copies of an expert's
weights into a slot, their three waits, the casts of a slot into the working weights, the three ways a tile is
accumulated, and the store of a finished tile.
-/
module

public import proofs.«01_k».proof.Proof.Gen.PlainIdeal.Skeleton

@[expose] public section

noncomputable section

namespace Cert.Experts.PlainIdeal

open Cert.PlainIdeal Cert.PlainIdeal.Gen
open Idealize.ShloMosaic Idealize.SL.Sem

variable {F : FTy → Type} [FloatOps F]

abbrev PG (α : Type) := Prog (TpuEff nD τ sig (Elt F) Λ₀ .tc) α

/-- The three copies of an expert's weights into a slot, at given places. -/
def issueP (oS oS2 : Fin 1 → ℕ) (oG oU : Fin 3 → ℕ) (oD : Fin 3 → ℕ) (oW oW2 : Fin 4 → ℕ)
    (hS : ∀ a, oS a + S1.size a ≤ S2.size a) (hS2 : ∀ a, oS2 a + S1.size a ≤ S2.size a) (hG : ∀ a, oG a + S1x2048x256.size a ≤ S2x2048x256.size a)
    (hU : ∀ a, oU a + S1x2048x256.size a ≤ S2x2048x256.size a) (hD : ∀ a, oD a + S1x256x2048.size a ≤ S2x256x2048.size a)
    (hW : ∀ a, oW a + S1x1x2048x256.size a ≤ S2x32x2048x256.size a) (hW2 : ∀ a, oW2 a + S1x1x256x2048.size a ≤ S2x32x256x2048.size a) :
    PG (F := F) PUnit := do
  let v79 : DmaSems sig S1 := cc0_scratch7.slice (Rect.unit (s := S2) oS S1.size hS)
  let v80 : DmaSems sig S_ := v79.squeeze S_ squeezes_S1_S_
  let v81 : Memref sig .tc .vmem S1x2048x256 .f32 := (Memref.whole cc0_scratch4).slice (Rect.unit (s := S2x2048x256) oG S1x2048x256.size hG) (fun _ => rfl)
  let v82 : Memref sig .tc .vmem S2048x256 .f32 := v81.squeeze S2048x256 squeezes_S1x2048x256_S2048x256
  let v83 : Memref sig .tc .hbm S1x1x2048x256 .f32 := (Memref.whole main_arg6).slice (Rect.unit (s := S2x32x2048x256) oW S1x1x2048x256.size hW) (fun _ => rfl)
  let v84 : Memref sig .tc .hbm S2048x256 .f32 := v83.squeeze S2048x256 squeezes_S1x1x2048x256_S2048x256
  Prog.lift (.enqueueDma v84 (.here v82) (.dma v80.sem) ((View.wordExact_bits rfl).reshape _ _) ((View.wordExact_bits rfl).reshape _ _) ⟨Or.inl rfl, trivial⟩)
  let v85 : DmaSems sig S1 := cc0_scratch7.slice (Rect.unit (s := S2) oS2 S1.size hS2)
  let v86 : DmaSems sig S_ := v85.squeeze S_ squeezes_S1_S_
  let v87 : Memref sig .tc .vmem S1x2048x256 .f32 := (Memref.whole cc0_scratch5).slice (Rect.unit (s := S2x2048x256) oU S1x2048x256.size hU) (fun _ => rfl)
  let v88 : Memref sig .tc .vmem S2048x256 .f32 := v87.squeeze S2048x256 squeezes_S1x2048x256_S2048x256
  let v89 : Memref sig .tc .hbm S1x1x2048x256 .f32 := (Memref.whole main_arg7).slice (Rect.unit (s := S2x32x2048x256) oW S1x1x2048x256.size hW) (fun _ => rfl)
  let v90 : Memref sig .tc .hbm S2048x256 .f32 := v89.squeeze S2048x256 squeezes_S1x1x2048x256_S2048x256
  Prog.lift (.enqueueDma v90 (.here v88) (.dma v86.sem) ((View.wordExact_bits rfl).reshape _ _) ((View.wordExact_bits rfl).reshape _ _) ⟨Or.inl rfl, trivial⟩)
  let v91 : DmaSems sig S1 := cc0_scratch7.slice (Rect.unit (s := S2) oS2 S1.size hS2)
  let v92 : DmaSems sig S_ := v91.squeeze S_ squeezes_S1_S_
  let v93 : Memref sig .tc .vmem S1x256x2048 .f32 := (Memref.whole cc0_scratch6).slice (Rect.unit (s := S2x256x2048) oD S1x256x2048.size hD) (fun _ => rfl)
  let v94 : Memref sig .tc .vmem S256x2048 .f32 := v93.squeeze S256x2048 squeezes_S1x256x2048_S256x2048
  let v95 : Memref sig .tc .hbm S1x1x256x2048 .f32 := (Memref.whole main_arg8).slice (Rect.unit (s := S2x32x256x2048) oW2 S1x1x256x2048.size hW2) (fun _ => rfl)
  let v96 : Memref sig .tc .hbm S256x2048 .f32 := v95.squeeze S256x2048 squeezes_S1x1x256x2048_S256x2048
  Prog.lift (.enqueueDma v96 (.here v94) (.dma v92.sem) ((View.wordExact_bits rfl).reshape _ _) ((View.wordExact_bits rfl).reshape _ _) ⟨Or.inl rfl, trivial⟩)
  pure ⟨⟩

/-- The three waits for such copies. -/
def waitP (oS oS2 : Fin 1 → ℕ) (oG oU : Fin 3 → ℕ) (oD : Fin 3 → ℕ) (oW oW2 : Fin 4 → ℕ)
    (hS : ∀ a, oS a + S1.size a ≤ S2.size a) (hS2 : ∀ a, oS2 a + S1.size a ≤ S2.size a) (hG : ∀ a, oG a + S1x2048x256.size a ≤ S2x2048x256.size a)
    (hU : ∀ a, oU a + S1x2048x256.size a ≤ S2x2048x256.size a) (hD : ∀ a, oD a + S1x256x2048.size a ≤ S2x256x2048.size a)
    (hW : ∀ a, oW a + S1x1x2048x256.size a ≤ S2x32x2048x256.size a) (hW2 : ∀ a, oW2 a + S1x1x256x2048.size a ≤ S2x32x256x2048.size a) :
    PG (F := F) PUnit := do
  let v80 : DmaSems sig S1 := cc0_scratch7.slice (Rect.unit (s := S2) oS S1.size hS)
  let v81 : DmaSems sig S_ := v80.squeeze S_ squeezes_S1_S_
  let v82 : Memref sig .tc .vmem S1x2048x256 .f32 := (Memref.whole cc0_scratch4).slice (Rect.unit (s := S2x2048x256) oG S1x2048x256.size hG) (fun _ => rfl)
  let v83 : Memref sig .tc .vmem S2048x256 .f32 := v82.squeeze S2048x256 squeezes_S1x2048x256_S2048x256
  let v84 : Memref sig .tc .hbm S1x1x2048x256 .f32 := (Memref.whole main_arg6).slice (Rect.unit (s := S2x32x2048x256) oW S1x1x2048x256.size hW) (fun _ => rfl)
  let v85 : Memref sig .tc .hbm S2048x256 .f32 := v84.squeeze S2048x256 squeezes_S1x1x2048x256_S2048x256
  Prog.lift (.waitDma2 v81.sem v85 v83 ((View.wordExact_bits rfl).reshape _ _) ((View.wordExact_bits rfl).reshape _ _))
  let v86 : DmaSems sig S1 := cc0_scratch7.slice (Rect.unit (s := S2) oS2 S1.size hS2)
  let v87 : DmaSems sig S_ := v86.squeeze S_ squeezes_S1_S_
  let v88 : Memref sig .tc .vmem S1x2048x256 .f32 := (Memref.whole cc0_scratch5).slice (Rect.unit (s := S2x2048x256) oU S1x2048x256.size hU) (fun _ => rfl)
  let v89 : Memref sig .tc .vmem S2048x256 .f32 := v88.squeeze S2048x256 squeezes_S1x2048x256_S2048x256
  let v90 : Memref sig .tc .hbm S1x1x2048x256 .f32 := (Memref.whole main_arg7).slice (Rect.unit (s := S2x32x2048x256) oW S1x1x2048x256.size hW) (fun _ => rfl)
  let v91 : Memref sig .tc .hbm S2048x256 .f32 := v90.squeeze S2048x256 squeezes_S1x1x2048x256_S2048x256
  Prog.lift (.waitDma2 v87.sem v91 v89 ((View.wordExact_bits rfl).reshape _ _) ((View.wordExact_bits rfl).reshape _ _))
  let v92 : DmaSems sig S1 := cc0_scratch7.slice (Rect.unit (s := S2) oS2 S1.size hS2)
  let v93 : DmaSems sig S_ := v92.squeeze S_ squeezes_S1_S_
  let v94 : Memref sig .tc .vmem S1x256x2048 .f32 := (Memref.whole cc0_scratch6).slice (Rect.unit (s := S2x256x2048) oD S1x256x2048.size hD) (fun _ => rfl)
  let v95 : Memref sig .tc .vmem S256x2048 .f32 := v94.squeeze S256x2048 squeezes_S1x256x2048_S256x2048
  let v96 : Memref sig .tc .hbm S1x1x256x2048 .f32 := (Memref.whole main_arg8).slice (Rect.unit (s := S2x32x256x2048) oW2 S1x1x256x2048.size hW2) (fun _ => rfl)
  let v97 : Memref sig .tc .hbm S256x2048 .f32 := v96.squeeze S256x2048 squeezes_S1x1x256x2048_S256x2048
  Prog.lift (.waitDma2 v93.sem v97 v95 ((View.wordExact_bits rfl).reshape _ _) ((View.wordExact_bits rfl).reshape _ _))
  pure ⟨⟩

/-- The casts of a slot's weights into the working weights. -/
def castP (oG oD : Fin 3 → ℕ) (hG : ∀ a, oG a + S1x2048x256.size a ≤ S2x2048x256.size a) (hD : ∀ a, oD a + S1x256x2048.size a ≤ S2x256x2048.size a) :
    PG (F := F) PUnit := do
  let v99 : Vec F S1x2048x256 .f32 ← Prog.lift (.load (Memref.whole cc0_scratch4) (Rect.unit (s := S2x2048x256) oG S1x2048x256.size hG).toLoadRect (View.loadsAt_vmem h_S1x2048x256))
  let v102 : Vec F S2048x256 .bf16 ← Prog.lift (.load (Memref.whole cc0_scratch1) (Rect.unit (s := S2048x256) ![0, 0] S2048x256.size inb_S2048x256_S2048x256_0_0).toLoadRect (View.loadsAt_vmem h_S2048x256))
  Prog.lift (.store (Memref.whole cc0_scratch1) (Rect.unit (s := S2048x256) ![0, 0] S2048x256.size inb_S2048x256_S2048x256_0_0) (k0_pay1 v99) Finset.univ (View.stores_vmem h_S2048x256 ((Memref.isWhole_whole cc0_scratch1).storeExact_slice rfl _ packedbf16_S2048x256_S2048x256_0_0) (fun _ => rfl)) (.inl rfl))
  let v106 : Vec F S1x2048x256 .f32 ← Prog.lift (.load (Memref.whole cc0_scratch5) (Rect.unit (s := S2x2048x256) oG S1x2048x256.size hG).toLoadRect (View.loadsAt_vmem h_S1x2048x256))
  let v109 : Vec F S2048x256 .bf16 ← Prog.lift (.load (Memref.whole cc0_scratch2) (Rect.unit (s := S2048x256) ![0, 0] S2048x256.size inb_S2048x256_S2048x256_0_0).toLoadRect (View.loadsAt_vmem h_S2048x256))
  Prog.lift (.store (Memref.whole cc0_scratch2) (Rect.unit (s := S2048x256) ![0, 0] S2048x256.size inb_S2048x256_S2048x256_0_0) (k0_pay3 (k0_pay2 v106)) Finset.univ (View.stores_vmem h_S2048x256 ((Memref.isWhole_whole cc0_scratch2).storeExact_slice rfl _ packedbf16_S2048x256_S2048x256_0_0) (fun _ => rfl)) (.inl rfl))
  let v113 : Vec F S1x256x2048 .f32 ← Prog.lift (.load (Memref.whole cc0_scratch6) (Rect.unit (s := S2x256x2048) oD S1x256x2048.size hD).toLoadRect (View.loadsAt_vmem h_S1x256x2048))
  let v116 : Vec F S256x2048 .bf16 ← Prog.lift (.load (Memref.whole cc0_scratch3) (Rect.unit (s := S256x2048) ![0, 0] S256x2048.size inb_S256x2048_S256x2048_0_0).toLoadRect (View.loadsAt_vmem h_S256x2048))
  Prog.lift (.store (Memref.whole cc0_scratch3) (Rect.unit (s := S256x2048) ![0, 0] S256x2048.size inb_S256x2048_S256x2048_0_0) (k0_pay4 v113) Finset.univ (View.stores_vmem h_S256x2048 ((Memref.isWhole_whole cc0_scratch3).storeExact_slice rfl _ packedbf16_S256x2048_S256x2048_0_0) (fun _ => rfl)) (.inl rfl))
  pure ⟨⟩

/-- A whole tile accumulated: overwriting, at the first item of a tile. -/
def fullA (v1 v3 : Elt F .i32) (v79 : Elt F .i32) (v82 : Vec F S512x1024 .i32) (v88 v90 : Vec F S2048x256 .bf16) : PG (F := F) PUnit := do
  let v115 : Vec F S256x2048 .bf16 ← Prog.lift (.load (Memref.whole cc0_scratch3) (Rect.unit (s := S256x2048) ![0, 0] S256x2048.size inb_S256x2048_S256x2048_0_0).toLoadRect (View.loadsAt_vmem h_S256x2048))
  let v117 : Vec F S512x2048 .f32 ← Prog.lift (.load (Memref.whole cc0_scratch0) (Rect.unit (s := S512x2048) ![0, 0] S512x2048.size inb_S512x2048_S512x2048_0_0).toLoadRect (View.loadsAt_vmem h_S512x2048))
  Prog.lift (.store (Memref.whole cc0_scratch0) (Rect.unit (s := S512x2048) ![0, 0] S512x2048.size inb_S512x2048_S512x2048_0_0) (k0_pay6 v1 v3 v79 v82 v88 v90 v115) Finset.univ (View.stores_vmem_bits_univ h_S512x2048 rfl) (.inl rfl))
  pure ⟨⟩

/-- A whole tile accumulated: adding, at a later item. -/
def fullB (v1 v3 : Elt F .i32) (v79 : Elt F .i32) (v82 : Vec F S512x1024 .i32) (v88 v90 : Vec F S2048x256 .bf16) : PG (F := F) PUnit := do
  let v115 : Vec F S512x2048 .f32 ← Prog.lift (.load (Memref.whole cc0_scratch0) (Rect.unit (s := S512x2048) ![0, 0] S512x2048.size inb_S512x2048_S512x2048_0_0).toLoadRect (View.loadsAt_vmem h_S512x2048))
  let v116 : Vec F S256x2048 .bf16 ← Prog.lift (.load (Memref.whole cc0_scratch3) (Rect.unit (s := S256x2048) ![0, 0] S256x2048.size inb_S256x2048_S256x2048_0_0).toLoadRect (View.loadsAt_vmem h_S256x2048))
  let v119 : Vec F S512x2048 .f32 ← Prog.lift (.load (Memref.whole cc0_scratch0) (Rect.unit (s := S512x2048) ![0, 0] S512x2048.size inb_S512x2048_S512x2048_0_0).toLoadRect (View.loadsAt_vmem h_S512x2048))
  Prog.lift (.store (Memref.whole cc0_scratch0) (Rect.unit (s := S512x2048) ![0, 0] S512x2048.size inb_S512x2048_S512x2048_0_0) (k0_pay7 v1 v3 v79 v82 v88 v90 v115 v116) Finset.univ (View.stores_vmem_bits_univ h_S512x2048 rfl) (.inl rfl))
  pure ⟨⟩

/-- A whole tile accumulated. -/
def fullP (i : grid0.Coords) (X : Memref sig .tc .vmem S512x1024 .i32) (v1 v3 : Elt F .i32) (v50 : BitVec 1) : PG (F := F) PUnit := do
  let v79 : Elt F .i32 ← smemLoad (Memref.whole main_arg0) (Rect.unit (s := S95) (k0_off25 i) S1.size (k0_off25_inb i)) numel1_S1 rfl
  let v82 : Vec F S512x1024 .i32 ← Prog.lift (.load X (Rect.unit (s := S512x1024) ![0, 0] S512x1024.size inb_S512x1024_S512x1024_0_0).toLoadRect (View.loadsAt_vmem h_S512x1024))
  let v88 : Vec F S2048x256 .bf16 ← Prog.lift (.load (Memref.whole cc0_scratch1) (Rect.unit (s := S2048x256) ![0, 0] S2048x256.size inb_S2048x256_S2048x256_0_0).toLoadRect (View.loadsAt_vmem h_S2048x256))
  let v90 : Vec F S2048x256 .bf16 ← Prog.lift (.load (Memref.whole cc0_scratch2) (Rect.unit (s := S2048x256) ![0, 0] S2048x256.size inb_S2048x256_S2048x256_0_0).toLoadRect (View.loadsAt_vmem h_S2048x256))
  (if Scalar.cmpi .ne (Scalar.extui v50) 0#32 = 1#1 then fullA v1 v3 v79 v82 v88 v90 else pure ⟨⟩)
  (if Scalar.cmpi .ne (Scalar.extui (Scalar.xori v50 1#1)) 0#32 = 1#1 then fullB v1 v3 v79 v82 v88 v90 else pure ⟨⟩)

/-- The lower half of a tile accumulated: overwriting, at the first item of a tile. -/
def lowA (v1 v3 : Elt F .i32) (v79 : Elt F .i32) (v82 : Vec F S256x1024 .i32) (v88 v90 : Vec F S2048x256 .bf16) : PG (F := F) PUnit := do
  let v115 : Vec F S256x2048 .bf16 ← Prog.lift (.load (Memref.whole cc0_scratch3) (Rect.unit (s := S256x2048) ![0, 0] S256x2048.size inb_S256x2048_S256x2048_0_0).toLoadRect (View.loadsAt_vmem h_S256x2048))
  let v117 : Vec F S256x2048 .f32 ← Prog.lift (.load (Memref.whole cc0_scratch0) (Rect.unit (s := S512x2048) ![0, 0] S256x2048.size inb_S512x2048_S256x2048_0_0).toLoadRect (View.loadsAt_vmem h_S256x2048))
  Prog.lift (.store (Memref.whole cc0_scratch0) (Rect.unit (s := S512x2048) ![0, 0] S256x2048.size inb_S512x2048_S256x2048_0_0) (k0_pay9 v1 v3 v79 v82 v88 v90 v115) Finset.univ (View.stores_vmem_bits_univ h_S256x2048 rfl) (.inl rfl))
  let v121 : Vec F S256x2048 .f32 ← Prog.lift (.load (Memref.whole cc0_scratch0) (Rect.unit (s := S512x2048) ![256, 0] S256x2048.size inb_S512x2048_S256x2048_256_0).toLoadRect (View.loadsAt_vmem h_S256x2048))
  Prog.lift (.store (Memref.whole cc0_scratch0) (Rect.unit (s := S512x2048) ![256, 0] S256x2048.size inb_S512x2048_S256x2048_256_0) (k0_pay10 (F := F)) Finset.univ (View.stores_vmem_bits_univ h_S256x2048 rfl) (.inl rfl))
  pure ⟨⟩

/-- The lower half of a tile accumulated: adding, at a later item. -/
def lowB (v1 v3 : Elt F .i32) (v79 : Elt F .i32) (v82 : Vec F S256x1024 .i32) (v88 v90 : Vec F S2048x256 .bf16) : PG (F := F) PUnit := do
  let v115 : Vec F S256x2048 .f32 ← Prog.lift (.load (Memref.whole cc0_scratch0) (Rect.unit (s := S512x2048) ![0, 0] S256x2048.size inb_S512x2048_S256x2048_0_0).toLoadRect (View.loadsAt_vmem h_S256x2048))
  let v116 : Vec F S256x2048 .bf16 ← Prog.lift (.load (Memref.whole cc0_scratch3) (Rect.unit (s := S256x2048) ![0, 0] S256x2048.size inb_S256x2048_S256x2048_0_0).toLoadRect (View.loadsAt_vmem h_S256x2048))
  let v119 : Vec F S256x2048 .f32 ← Prog.lift (.load (Memref.whole cc0_scratch0) (Rect.unit (s := S512x2048) ![0, 0] S256x2048.size inb_S512x2048_S256x2048_0_0).toLoadRect (View.loadsAt_vmem h_S256x2048))
  Prog.lift (.store (Memref.whole cc0_scratch0) (Rect.unit (s := S512x2048) ![0, 0] S256x2048.size inb_S512x2048_S256x2048_0_0) (k0_pay11 v1 v3 v79 v82 v88 v90 v115 v116) Finset.univ (View.stores_vmem_bits_univ h_S256x2048 rfl) (.inl rfl))
  pure ⟨⟩

/-- The lower half of a tile accumulated. -/
def lowP (i : grid0.Coords) (X : Memref sig .tc .vmem S512x1024 .i32) (v1 v3 : Elt F .i32) (v50 : BitVec 1) : PG (F := F) PUnit := do
  let v79 : Elt F .i32 ← smemLoad (Memref.whole main_arg0) (Rect.unit (s := S95) (k0_off26 i) S1.size (k0_off26_inb i)) numel1_S1 rfl
  let v82 : Vec F S256x1024 .i32 ← Prog.lift (.load X (Rect.unit (s := S512x1024) ![0, 0] S256x1024.size inb_S512x1024_S256x1024_0_0).toLoadRect (View.loadsAt_vmem h_S256x1024))
  let v88 : Vec F S2048x256 .bf16 ← Prog.lift (.load (Memref.whole cc0_scratch1) (Rect.unit (s := S2048x256) ![0, 0] S2048x256.size inb_S2048x256_S2048x256_0_0).toLoadRect (View.loadsAt_vmem h_S2048x256))
  let v90 : Vec F S2048x256 .bf16 ← Prog.lift (.load (Memref.whole cc0_scratch2) (Rect.unit (s := S2048x256) ![0, 0] S2048x256.size inb_S2048x256_S2048x256_0_0).toLoadRect (View.loadsAt_vmem h_S2048x256))
  (if Scalar.cmpi .ne (Scalar.extui v50) 0#32 = 1#1 then lowA v1 v3 v79 v82 v88 v90 else pure ⟨⟩)
  (if Scalar.cmpi .ne (Scalar.extui (Scalar.xori v50 1#1)) 0#32 = 1#1 then lowB v1 v3 v79 v82 v88 v90 else pure ⟨⟩)

/-- The upper half of a tile accumulated: overwriting, at the first item of a tile. -/
def upA (v1 v3 : Elt F .i32) (v79 : Elt F .i32) (v82 : Vec F S256x1024 .i32) (v88 v90 : Vec F S2048x256 .bf16) : PG (F := F) PUnit := do
  let v115 : Vec F S256x2048 .bf16 ← Prog.lift (.load (Memref.whole cc0_scratch3) (Rect.unit (s := S256x2048) ![0, 0] S256x2048.size inb_S256x2048_S256x2048_0_0).toLoadRect (View.loadsAt_vmem h_S256x2048))
  let v117 : Vec F S256x2048 .f32 ← Prog.lift (.load (Memref.whole cc0_scratch0) (Rect.unit (s := S512x2048) ![256, 0] S256x2048.size inb_S512x2048_S256x2048_256_0).toLoadRect (View.loadsAt_vmem h_S256x2048))
  Prog.lift (.store (Memref.whole cc0_scratch0) (Rect.unit (s := S512x2048) ![256, 0] S256x2048.size inb_S512x2048_S256x2048_256_0) (k0_pay13 v1 v3 v79 v82 v88 v90 v115) Finset.univ (View.stores_vmem_bits_univ h_S256x2048 rfl) (.inl rfl))
  let v121 : Vec F S256x2048 .f32 ← Prog.lift (.load (Memref.whole cc0_scratch0) (Rect.unit (s := S512x2048) ![0, 0] S256x2048.size inb_S512x2048_S256x2048_0_0).toLoadRect (View.loadsAt_vmem h_S256x2048))
  Prog.lift (.store (Memref.whole cc0_scratch0) (Rect.unit (s := S512x2048) ![0, 0] S256x2048.size inb_S512x2048_S256x2048_0_0) (k0_pay14 (F := F)) Finset.univ (View.stores_vmem_bits_univ h_S256x2048 rfl) (.inl rfl))
  pure ⟨⟩

/-- The upper half of a tile accumulated: adding, at a later item. -/
def upB (v1 v3 : Elt F .i32) (v79 : Elt F .i32) (v82 : Vec F S256x1024 .i32) (v88 v90 : Vec F S2048x256 .bf16) : PG (F := F) PUnit := do
  let v115 : Vec F S256x2048 .f32 ← Prog.lift (.load (Memref.whole cc0_scratch0) (Rect.unit (s := S512x2048) ![256, 0] S256x2048.size inb_S512x2048_S256x2048_256_0).toLoadRect (View.loadsAt_vmem h_S256x2048))
  let v116 : Vec F S256x2048 .bf16 ← Prog.lift (.load (Memref.whole cc0_scratch3) (Rect.unit (s := S256x2048) ![0, 0] S256x2048.size inb_S256x2048_S256x2048_0_0).toLoadRect (View.loadsAt_vmem h_S256x2048))
  let v119 : Vec F S256x2048 .f32 ← Prog.lift (.load (Memref.whole cc0_scratch0) (Rect.unit (s := S512x2048) ![256, 0] S256x2048.size inb_S512x2048_S256x2048_256_0).toLoadRect (View.loadsAt_vmem h_S256x2048))
  Prog.lift (.store (Memref.whole cc0_scratch0) (Rect.unit (s := S512x2048) ![256, 0] S256x2048.size inb_S512x2048_S256x2048_256_0) (k0_pay15 v1 v3 v79 v82 v88 v90 v115 v116) Finset.univ (View.stores_vmem_bits_univ h_S256x2048 rfl) (.inl rfl))
  pure ⟨⟩

/-- The upper half of a tile accumulated. -/
def upP (i : grid0.Coords) (X : Memref sig .tc .vmem S512x1024 .i32) (v1 v3 : Elt F .i32) (v50 : BitVec 1) : PG (F := F) PUnit := do
  let v79 : Elt F .i32 ← smemLoad (Memref.whole main_arg0) (Rect.unit (s := S95) (k0_off27 i) S1.size (k0_off27_inb i)) numel1_S1 rfl
  let v82 : Vec F S256x1024 .i32 ← Prog.lift (.load X (Rect.unit (s := S512x1024) ![256, 0] S256x1024.size inb_S512x1024_S256x1024_256_0).toLoadRect (View.loadsAt_vmem h_S256x1024))
  let v88 : Vec F S2048x256 .bf16 ← Prog.lift (.load (Memref.whole cc0_scratch1) (Rect.unit (s := S2048x256) ![0, 0] S2048x256.size inb_S2048x256_S2048x256_0_0).toLoadRect (View.loadsAt_vmem h_S2048x256))
  let v90 : Vec F S2048x256 .bf16 ← Prog.lift (.load (Memref.whole cc0_scratch2) (Rect.unit (s := S2048x256) ![0, 0] S2048x256.size inb_S2048x256_S2048x256_0_0).toLoadRect (View.loadsAt_vmem h_S2048x256))
  (if Scalar.cmpi .ne (Scalar.extui v50) 0#32 = 1#1 then upA v1 v3 v79 v82 v88 v90 else pure ⟨⟩)
  (if Scalar.cmpi .ne (Scalar.extui (Scalar.xori v50 1#1)) 0#32 = 1#1 then upB v1 v3 v79 v82 v88 v90 else pure ⟨⟩)

/-- A finished tile stored. -/
def outP (O : Memref sig .tc .vmem S512x2048 .bf16) (hO : O.IsWhole) : PG (F := F) PUnit := do
  let v78 : Vec F S512x2048 .f32 ← Prog.lift (.load (Memref.whole cc0_scratch0) (Rect.unit (s := S512x2048) ![0, 0] S512x2048.size inb_S512x2048_S512x2048_0_0).toLoadRect (View.loadsAt_vmem h_S512x2048))
  let v80 : Vec F S512x2048 .bf16 ← Prog.lift (.load O (Rect.unit (s := S512x2048) ![0, 0] S512x2048.size inb_S512x2048_S512x2048_0_0).toLoadRect (View.loadsAt_vmem h_S512x2048))
  Prog.lift (.store O (Rect.unit (s := S512x2048) ![0, 0] S512x2048.size inb_S512x2048_S512x2048_0_0) (k0_pay16 v78) Finset.univ (View.stores_vmem h_S512x2048 (hO.storeExact_slice rfl _ packedbf16_S512x2048_S512x2048_0_0) (fun _ => rfl)) (.inl rfl))
  pure ⟨⟩

/-- The words of a point and the check of its flag word. -/
def headP (i : grid0.Coords) : PG (F := F) (Σ' (v1 : Elt F .i32) (v3 : Elt F .i32) (v5 : Elt F .i32), k0_chk1 i v5) := do
  let v1 : Elt F .i32 ← smemLoad (Memref.whole main_arg2) (Rect.unit (s := S95) (k0_off1 i) S1.size (k0_off1_inb i)) numel1_S1 rfl
  let v3 : Elt F .i32 ← smemLoad (Memref.whole main_arg3) (Rect.unit (s := S95) (k0_off1 i) S1.size (k0_off1_inb i)) numel1_S1 rfl
  let v5 : Elt F .i32 ← smemLoad (Memref.whole main_arg4) (Rect.unit (s := S95) (k0_off1 i) S1.size (k0_off1_inb i)) numel1_S1 rfl
  have k0_hw1 : k0_chk1 i v5 := (← Prog.lift (TpuEff.assume (k0_chk1 i v5) (k0_chk1.dec i v5))).down
  pure ⟨v1, v3, v5, k0_hw1⟩

/-- The first point's copies. -/
def firstP (i : grid0.Coords) (v5 : Elt F .i32) (k0_hw1 : k0_chk1 i v5) : PG (F := F) PUnit := do
  if k0_h1 : k0_cond1 i = 1#1 then do
    let v78 : Elt F .i32 ← smemLoad (Memref.whole main_arg1) (Rect.unit (s := S95) ![0] S1.size inb_S95_S1_0) numel1_S1 rfl
    have k0_hw2 : k0_chk2 i v78 := (← Prog.lift (TpuEff.assume (k0_chk2 i v78) (k0_chk2.dec i v78))).down
    issueP (k0_off2 v5) (k0_off5 v5) (k0_off3 v5) (k0_off6 v5) (k0_off7 v5) (k0_off4 v78) (k0_off8 v78) (k0_off2_inb i v5 k0_hw1 k0_h1) (k0_off5_inb i v5 k0_hw1 k0_h1)
      (k0_off3_inb i v5 k0_hw1 k0_h1) (k0_off6_inb i v5 k0_hw1 k0_h1) (k0_off7_inb i v5 k0_hw1 k0_h1) (k0_off4_inb i v78 k0_hw2 k0_h1) (k0_off8_inb i v78 k0_hw2 k0_h1)
  else do
    pure ⟨⟩

/-- A new expert's point: its copies waited for and cast, the next expert's copies started. -/
def newP (i : grid0.Coords) (v5 : Elt F .i32) (k0_hw1 : k0_chk1 i v5) : PG (F := F) PUnit := do
  if k0_h2 : k0_cond2 v5 = 1#1 then do
    let v79 : Elt F .i32 ← smemLoad (Memref.whole main_arg1) (Rect.unit (s := S95) (k0_off9 i) S1.size (k0_off9_inb i)) numel1_S1 rfl
    have k0_hw3 : k0_chk3 v5 v79 := (← Prog.lift (TpuEff.assume (k0_chk3 v5 v79) (k0_chk3.dec v5 v79))).down
    waitP (k0_off10 v5) (k0_off13 v5) (k0_off11 v5) (k0_off14 v5) (k0_off15 v5) (k0_off12 v79) (k0_off16 v79) (k0_off10_inb i v5 k0_hw1 k0_h2) (k0_off13_inb i v5 k0_hw1 k0_h2)
      (k0_off11_inb i v5 k0_hw1 k0_h2) (k0_off14_inb i v5 k0_hw1 k0_h2) (k0_off15_inb i v5 k0_hw1 k0_h2) (k0_off12_inb v5 v79 k0_hw3 k0_h2) (k0_off16_inb v5 v79 k0_hw3 k0_h2)
    castP (k0_off17 v5) (k0_off18 v5) (k0_off17_inb i v5 k0_hw1 k0_h2) (k0_off18_inb i v5 k0_hw1 k0_h2)
    if k0_h3 : k0_cond3 v5 = 1#1 then do
      issueP (k0_off19 v5) (k0_off19 v5) (k0_off20 v5) (k0_off20 v5) (k0_off22 v5) (k0_off21 v5) (k0_off23 v5) (k0_off19_inb i v5 k0_hw1 k0_h2 k0_h3) (k0_off19_inb i v5 k0_hw1 k0_h2 k0_h3)
        (k0_off20_inb i v5 k0_hw1 k0_h2 k0_h3) (k0_off20_inb i v5 k0_hw1 k0_h2 k0_h3) (k0_off22_inb i v5 k0_hw1 k0_h2 k0_h3) (k0_off21_inb i v5 k0_hw1 k0_h2 k0_h3) (k0_off23_inb i v5 k0_hw1 k0_h2 k0_h3)
    else do
      pure ⟨⟩
  else do
    pure ⟨⟩

/-- Whether the item opens its tile, as the body computes it. -/
def firstW (v5 : BitVec 32) : BitVec 1 := Scalar.cmpi .ne (Scalar.andi v5 1#32) 0#32
/-- Whether the item's rows meet both halves of its tile. -/
def fullW (v1 v3 v52 : BitVec 32) : BitVec 1 :=
  let v53 : BitVec 32 := Scalar.muli v52 512#32
  let v54 : BitVec 32 := Scalar.addi v53 256#32
  let v55 : BitVec 1 := Scalar.cmpi .slt v1 v54
  let v56 : BitVec 1 := Scalar.cmpi .sgt v3 v54
  let v57 : BitVec 1 := Scalar.cmpi .sgt v3 v1
  let v58 : BitVec 1 := Scalar.andi v57 v55
  let v59 : BitVec 1 := Scalar.andi v58 v56
  let v60 : BitVec 32 := Scalar.extui v59
  let v61 : BitVec 1 := Scalar.cmpi .ne v60 0#32
  v61
/-- Whether they lie in the lower half. -/
def lowW (v1 v3 v52 : BitVec 32) : BitVec 1 :=
  let v53 : BitVec 32 := Scalar.muli v52 512#32
  let v54 : BitVec 32 := Scalar.addi v53 256#32
  let v55 : BitVec 1 := Scalar.cmpi .slt v1 v54
  let v56 : BitVec 1 := Scalar.cmpi .sgt v3 v54
  let v57 : BitVec 1 := Scalar.cmpi .sgt v3 v1
  let v58 : BitVec 1 := Scalar.andi v57 v55
  let v59 : BitVec 1 := Scalar.andi v58 v56
  let v60 : BitVec 32 := Scalar.extui v59
  let v61 : BitVec 1 := Scalar.cmpi .ne v60 0#32
  let v62 : BitVec 1 := Scalar.cmpi .sgt v3 v1
  let v63 : BitVec 1 := Scalar.andi v62 v55
  let v64 : BitVec 1 := Scalar.xori v56 1#1
  let v65 : BitVec 1 := Scalar.andi v63 v64
  let v66 : BitVec 32 := Scalar.extui v65
  let v67 : BitVec 1 := Scalar.cmpi .ne v66 0#32
  v67
/-- Whether they lie in the upper half. -/
def upW (v1 v3 v52 : BitVec 32) : BitVec 1 :=
  let v53 : BitVec 32 := Scalar.muli v52 512#32
  let v54 : BitVec 32 := Scalar.addi v53 256#32
  let v55 : BitVec 1 := Scalar.cmpi .slt v1 v54
  let v56 : BitVec 1 := Scalar.cmpi .sgt v3 v54
  let v57 : BitVec 1 := Scalar.cmpi .sgt v3 v1
  let v58 : BitVec 1 := Scalar.andi v57 v55
  let v59 : BitVec 1 := Scalar.andi v58 v56
  let v60 : BitVec 32 := Scalar.extui v59
  let v61 : BitVec 1 := Scalar.cmpi .ne v60 0#32
  let v62 : BitVec 1 := Scalar.cmpi .sgt v3 v1
  let v63 : BitVec 1 := Scalar.andi v62 v55
  let v64 : BitVec 1 := Scalar.xori v56 1#1
  let v65 : BitVec 1 := Scalar.andi v63 v64
  let v66 : BitVec 32 := Scalar.extui v65
  let v67 : BitVec 1 := Scalar.cmpi .ne v66 0#32
  let v68 : BitVec 1 := Scalar.cmpi .sgt v3 v1
  let v69 : BitVec 1 := Scalar.andi v68 v56
  let v70 : BitVec 1 := Scalar.xori v55 1#1
  let v71 : BitVec 1 := Scalar.andi v69 v70
  let v72 : BitVec 32 := Scalar.extui v71
  let v73 : BitVec 1 := Scalar.cmpi .ne v72 0#32
  v73

/-- The finished tile's store, at its last item. -/
def lastP (O : Memref sig .tc .vmem S512x2048 .bf16) (hO : O.IsWhole) (v5 : Elt F .i32) : PG (F := F) PUnit :=
  (if k0_h13 : k0_cond13 v5 = 1#1 then outP O hO else pure ⟨⟩) >>= fun _ => pure ⟨⟩

/-- A piece run under a condition, and what follows it. -/
def itK (c : Prop) [Decidable c] (A k : PG (F := F) PUnit) : PG (F := F) PUnit := if c then (A >>= fun _ => k) else k
def ditK (c : Prop) [Decidable c] (A : c → PG (F := F) PUnit) (k : PG (F := F) PUnit) : PG (F := F) PUnit := if h : c then (A h >>= fun _ => k) else k
theorem itK_eq (c : Prop) [Decidable c] (A k : PG (F := F) PUnit) : itK c A k = ((if c then A else pure ⟨⟩) >>= fun _ => k) := by
  unfold itK; split <;> rfl
theorem ditK_eq (c : Prop) [Decidable c] (A : c → PG (F := F) PUnit) (k : PG (F := F) PUnit) : ditK c A k = ((if h : c then A h else pure ⟨⟩) >>= fun _ => k) := by
  unfold ditK; split <;> rfl

/-- A whole tile accumulated under its condition, and what follows it. -/
def fullK (i : grid0.Coords) (X : Memref sig .tc .vmem S512x1024 .i32) (v1 v3 v52 : Elt F .i32) (v50 : BitVec 1) (k : PG (F := F) PUnit) : PG (F := F) PUnit :=
  if fullW v1 v3 v52 = 1#1 then do
    let v79 : Elt F .i32 ← smemLoad (Memref.whole main_arg0) (Rect.unit (s := S95) (k0_off25 i) S1.size (k0_off25_inb i)) numel1_S1 rfl
    let v82 : Vec F S512x1024 .i32 ← Prog.lift (.load X (Rect.unit (s := S512x1024) ![0, 0] S512x1024.size inb_S512x1024_S512x1024_0_0).toLoadRect (View.loadsAt_vmem h_S512x1024))
    let v88 : Vec F S2048x256 .bf16 ← Prog.lift (.load (Memref.whole cc0_scratch1) (Rect.unit (s := S2048x256) ![0, 0] S2048x256.size inb_S2048x256_S2048x256_0_0).toLoadRect (View.loadsAt_vmem h_S2048x256))
    let v90 : Vec F S2048x256 .bf16 ← Prog.lift (.load (Memref.whole cc0_scratch2) (Rect.unit (s := S2048x256) ![0, 0] S2048x256.size inb_S2048x256_S2048x256_0_0).toLoadRect (View.loadsAt_vmem h_S2048x256))
    itK (Scalar.cmpi .ne (Scalar.extui v50) 0#32 = 1#1) (fullA v1 v3 v79 v82 v88 v90) <| itK (Scalar.cmpi .ne (Scalar.extui (Scalar.xori v50 1#1)) 0#32 = 1#1) (fullB v1 v3 v79 v82 v88 v90) k
  else k
theorem fullK_eq (i : grid0.Coords) (X : Memref sig .tc .vmem S512x1024 .i32) (v1 v3 v52 : Elt F .i32) (v50 : BitVec 1) (k : PG (F := F) PUnit) :
    fullK i X v1 v3 v52 v50 k = ((if fullW v1 v3 v52 = 1#1 then fullP i X v1 v3 v50 else pure ⟨⟩) >>= fun _ => k) := by
  unfold fullK; split
  · unfold fullP; simp only [bind_assoc, itK_eq]
  · rfl

/-- The lower half of a tile accumulated under its condition, and what follows it. -/
def lowK (i : grid0.Coords) (X : Memref sig .tc .vmem S512x1024 .i32) (v1 v3 v52 : Elt F .i32) (v50 : BitVec 1) (k : PG (F := F) PUnit) : PG (F := F) PUnit :=
  if lowW v1 v3 v52 = 1#1 then do
    let v79 : Elt F .i32 ← smemLoad (Memref.whole main_arg0) (Rect.unit (s := S95) (k0_off26 i) S1.size (k0_off26_inb i)) numel1_S1 rfl
    let v82 : Vec F S256x1024 .i32 ← Prog.lift (.load X (Rect.unit (s := S512x1024) ![0, 0] S256x1024.size inb_S512x1024_S256x1024_0_0).toLoadRect (View.loadsAt_vmem h_S256x1024))
    let v88 : Vec F S2048x256 .bf16 ← Prog.lift (.load (Memref.whole cc0_scratch1) (Rect.unit (s := S2048x256) ![0, 0] S2048x256.size inb_S2048x256_S2048x256_0_0).toLoadRect (View.loadsAt_vmem h_S2048x256))
    let v90 : Vec F S2048x256 .bf16 ← Prog.lift (.load (Memref.whole cc0_scratch2) (Rect.unit (s := S2048x256) ![0, 0] S2048x256.size inb_S2048x256_S2048x256_0_0).toLoadRect (View.loadsAt_vmem h_S2048x256))
    itK (Scalar.cmpi .ne (Scalar.extui v50) 0#32 = 1#1) (lowA v1 v3 v79 v82 v88 v90) <| itK (Scalar.cmpi .ne (Scalar.extui (Scalar.xori v50 1#1)) 0#32 = 1#1) (lowB v1 v3 v79 v82 v88 v90) k
  else k
theorem lowK_eq (i : grid0.Coords) (X : Memref sig .tc .vmem S512x1024 .i32) (v1 v3 v52 : Elt F .i32) (v50 : BitVec 1) (k : PG (F := F) PUnit) :
    lowK i X v1 v3 v52 v50 k = ((if lowW v1 v3 v52 = 1#1 then lowP i X v1 v3 v50 else pure ⟨⟩) >>= fun _ => k) := by
  unfold lowK; split
  · unfold lowP; simp only [bind_assoc, itK_eq]
  · rfl

/-- The upper half of a tile accumulated under its condition, and what follows it. -/
def upK (i : grid0.Coords) (X : Memref sig .tc .vmem S512x1024 .i32) (v1 v3 v52 : Elt F .i32) (v50 : BitVec 1) (k : PG (F := F) PUnit) : PG (F := F) PUnit :=
  if upW v1 v3 v52 = 1#1 then do
    let v79 : Elt F .i32 ← smemLoad (Memref.whole main_arg0) (Rect.unit (s := S95) (k0_off27 i) S1.size (k0_off27_inb i)) numel1_S1 rfl
    let v82 : Vec F S256x1024 .i32 ← Prog.lift (.load X (Rect.unit (s := S512x1024) ![256, 0] S256x1024.size inb_S512x1024_S256x1024_256_0).toLoadRect (View.loadsAt_vmem h_S256x1024))
    let v88 : Vec F S2048x256 .bf16 ← Prog.lift (.load (Memref.whole cc0_scratch1) (Rect.unit (s := S2048x256) ![0, 0] S2048x256.size inb_S2048x256_S2048x256_0_0).toLoadRect (View.loadsAt_vmem h_S2048x256))
    let v90 : Vec F S2048x256 .bf16 ← Prog.lift (.load (Memref.whole cc0_scratch2) (Rect.unit (s := S2048x256) ![0, 0] S2048x256.size inb_S2048x256_S2048x256_0_0).toLoadRect (View.loadsAt_vmem h_S2048x256))
    itK (Scalar.cmpi .ne (Scalar.extui v50) 0#32 = 1#1) (upA v1 v3 v79 v82 v88 v90) <| itK (Scalar.cmpi .ne (Scalar.extui (Scalar.xori v50 1#1)) 0#32 = 1#1) (upB v1 v3 v79 v82 v88 v90) k
  else k
theorem upK_eq (i : grid0.Coords) (X : Memref sig .tc .vmem S512x1024 .i32) (v1 v3 v52 : Elt F .i32) (v50 : BitVec 1) (k : PG (F := F) PUnit) :
    upK i X v1 v3 v52 v50 k = ((if upW v1 v3 v52 = 1#1 then upP i X v1 v3 v50 else pure ⟨⟩) >>= fun _ => k) := by
  unfold upK; split
  · unfold upP; simp only [bind_assoc, itK_eq]
  · rfl

def firstK (i : grid0.Coords) (v5 : Elt F .i32) (k0_hw1 : k0_chk1 i v5) (k : PG (F := F) PUnit) : PG (F := F) PUnit :=
  ditK (k0_cond1 i = 1#1) (fun k0_h1 => do
    let v78 : Elt F .i32 ← smemLoad (Memref.whole main_arg1) (Rect.unit (s := S95) ![0] S1.size inb_S95_S1_0) numel1_S1 rfl
    have k0_hw2 : k0_chk2 i v78 := (← Prog.lift (TpuEff.assume (k0_chk2 i v78) (k0_chk2.dec i v78))).down
    issueP (k0_off2 v5) (k0_off5 v5) (k0_off3 v5) (k0_off6 v5) (k0_off7 v5) (k0_off4 v78) (k0_off8 v78) (k0_off2_inb i v5 k0_hw1 k0_h1) (k0_off5_inb i v5 k0_hw1 k0_h1)
      (k0_off3_inb i v5 k0_hw1 k0_h1) (k0_off6_inb i v5 k0_hw1 k0_h1) (k0_off7_inb i v5 k0_hw1 k0_h1) (k0_off4_inb i v78 k0_hw2 k0_h1) (k0_off8_inb i v78 k0_hw2 k0_h1)) k

def newK (i : grid0.Coords) (v5 : Elt F .i32) (k0_hw1 : k0_chk1 i v5) (k : PG (F := F) PUnit) : PG (F := F) PUnit :=
  if k0_h2 : k0_cond2 v5 = 1#1 then do
    let v79 : Elt F .i32 ← smemLoad (Memref.whole main_arg1) (Rect.unit (s := S95) (k0_off9 i) S1.size (k0_off9_inb i)) numel1_S1 rfl
    have k0_hw3 : k0_chk3 v5 v79 := (← Prog.lift (TpuEff.assume (k0_chk3 v5 v79) (k0_chk3.dec v5 v79))).down
    waitP (k0_off10 v5) (k0_off13 v5) (k0_off11 v5) (k0_off14 v5) (k0_off15 v5) (k0_off12 v79) (k0_off16 v79) (k0_off10_inb i v5 k0_hw1 k0_h2) (k0_off13_inb i v5 k0_hw1 k0_h2)
      (k0_off11_inb i v5 k0_hw1 k0_h2) (k0_off14_inb i v5 k0_hw1 k0_h2) (k0_off15_inb i v5 k0_hw1 k0_h2) (k0_off12_inb v5 v79 k0_hw3 k0_h2) (k0_off16_inb v5 v79 k0_hw3 k0_h2)
    castP (k0_off17 v5) (k0_off18 v5) (k0_off17_inb i v5 k0_hw1 k0_h2) (k0_off18_inb i v5 k0_hw1 k0_h2)
    ditK (k0_cond3 v5 = 1#1) (fun k0_h3 =>
      issueP (k0_off19 v5) (k0_off19 v5) (k0_off20 v5) (k0_off20 v5) (k0_off22 v5) (k0_off21 v5) (k0_off23 v5) (k0_off19_inb i v5 k0_hw1 k0_h2 k0_h3) (k0_off19_inb i v5 k0_hw1 k0_h2 k0_h3)
        (k0_off20_inb i v5 k0_hw1 k0_h2 k0_h3) (k0_off20_inb i v5 k0_hw1 k0_h2 k0_h3) (k0_off22_inb i v5 k0_hw1 k0_h2 k0_h3) (k0_off21_inb i v5 k0_hw1 k0_h2 k0_h3) (k0_off23_inb i v5 k0_hw1 k0_h2 k0_h3)) k
  else k

/-- The body, in those pieces, as printed. -/
def bodyQ (i : grid0.Coords) (X : Memref sig .tc .vmem S512x1024 .i32) (hX : X.IsWhole) (O : Memref sig .tc .vmem S512x2048 .bf16) (hO : O.IsWhole) :
    PG (F := F) PUnit := do
  let ⟨v1, v3, v5, k0_hw1⟩ ← headP i
  firstK i v5 k0_hw1 <| newK i v5 k0_hw1 <| do
  let v52 : Elt F .i32 ← smemLoad (Memref.whole main_arg0) (Rect.unit (s := S95) (k0_off24 i) S1.size (k0_off24_inb i)) numel1_S1 rfl
  fullK i X v1 v3 v52 (firstW v5) <| lowK i X v1 v3 v52 (firstW v5) <| upK i X v1 v3 v52 (firstW v5) <| ditK (k0_cond13 v5 = 1#1) (fun _ => outP O hO) (pure ⟨⟩)

/-- The tile accumulated, in whichever way its bounds ask. -/
def accP (i : grid0.Coords) (X : Memref sig .tc .vmem S512x1024 .i32) (v1 v3 v5 : Elt F .i32) : PG (F := F) PUnit := do
  let v52 : Elt F .i32 ← smemLoad (Memref.whole main_arg0) (Rect.unit (s := S95) (k0_off24 i) S1.size (k0_off24_inb i)) numel1_S1 rfl
  (if fullW v1 v3 v52 = 1#1 then fullP i X v1 v3 (firstW v5) else pure ⟨⟩)
  (if lowW v1 v3 v52 = 1#1 then lowP i X v1 v3 (firstW v5) else pure ⟨⟩)
  (if upW v1 v3 v52 = 1#1 then upP i X v1 v3 (firstW v5) else pure ⟨⟩)

/-- The body, in those pieces, one after another. -/
def bodyP (i : grid0.Coords) (X : Memref sig .tc .vmem S512x1024 .i32) (hX : X.IsWhole) (O : Memref sig .tc .vmem S512x2048 .bf16) (hO : O.IsWhole) :
    PG (F := F) PUnit := do
  let ⟨v1, v3, v5, k0_hw1⟩ ← headP i
  firstP i v5 k0_hw1
  newP i v5 k0_hw1
  accP i X v1 v3 v5
  lastP O hO v5

set_option maxRecDepth 65536 in
theorem body_eq₀ (i : grid0.Coords) (X : Memref sig .tc .vmem S512x1024 .i32) (hX : X.IsWhole) (O : Memref sig .tc .vmem S512x2048 .bf16) (hO : O.IsWhole) :
    cc0_experts (F := F) i (Memref.whole main_arg0) (Memref.isWhole_whole _) (Memref.whole main_arg1) (Memref.isWhole_whole _) (Memref.whole main_arg2) (Memref.isWhole_whole _)
      (Memref.whole main_arg3) (Memref.isWhole_whole _) (Memref.whole main_arg4) (Memref.isWhole_whole _) X hX (Memref.whole main_arg6) (Memref.isWhole_whole _)
      (Memref.whole main_arg7) (Memref.isWhole_whole _) (Memref.whole main_arg8) (Memref.isWhole_whole _) O hO (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _) cc0_scratch7
    = (bodyQ i X hX O hO >>= fun _ => pure ⟨⟩) := rfl

theorem firstK_eq (i : grid0.Coords) (v5 : Elt F .i32) (h : k0_chk1 i v5) (k : PG (F := F) PUnit) : firstK i v5 h k = (firstP i v5 h >>= fun _ => k) := by
  unfold firstK firstP; rw [ditK_eq]
theorem newK_eq (i : grid0.Coords) (v5 : Elt F .i32) (h : k0_chk1 i v5) (k : PG (F := F) PUnit) : newK i v5 h k = (newP i v5 h >>= fun _ => k) := by
  unfold newK; split
  · rename_i h2; unfold newP; rw [dif_pos h2]; simp only [bind_assoc, ditK_eq]
  · rename_i h2; unfold newP; rw [dif_neg h2]; rfl

theorem bodyQ_eq (i : grid0.Coords) (X : Memref sig .tc .vmem S512x1024 .i32) (hX : X.IsWhole) (O : Memref sig .tc .vmem S512x2048 .bf16) (hO : O.IsWhole) :
    bodyQ (F := F) i X hX O hO = bodyP i X hX O hO := by
  unfold bodyQ bodyP accP lastP
  simp only [firstK_eq, newK_eq, fullK_eq, lowK_eq, upK_eq, ditK_eq, bind_assoc]

theorem body_eq (i : grid0.Coords) (X : Memref sig .tc .vmem S512x1024 .i32) (hX : X.IsWhole) (O : Memref sig .tc .vmem S512x2048 .bf16) (hO : O.IsWhole) :
    cc0_experts (F := F) i (Memref.whole main_arg0) (Memref.isWhole_whole _) (Memref.whole main_arg1) (Memref.isWhole_whole _) (Memref.whole main_arg2) (Memref.isWhole_whole _)
      (Memref.whole main_arg3) (Memref.isWhole_whole _) (Memref.whole main_arg4) (Memref.isWhole_whole _) X hX (Memref.whole main_arg6) (Memref.isWhole_whole _)
      (Memref.whole main_arg7) (Memref.isWhole_whole _) (Memref.whole main_arg8) (Memref.isWhole_whole _) O hO (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _) cc0_scratch7
    = bodyP i X hX O hO := by
  rw [body_eq₀, bodyQ_eq]; exact bind_pure _

end Cert.Experts.PlainIdeal
-- ==== Proof.PlainIdealWords.lean ====
/-
What the body computes of a flag word below 528: its slot (bit 3), the next expert (bits 4 and up, less one), and
whether the item opens a new expert (bit 2), closes its tile (bit 1) or opens it (bit 0); and the places the body
names by them.
-/
module

public import proofs.«01_k».proof.Proof.PlainIdealBody

@[expose] public section

noncomputable section

namespace Cert.Experts.PlainIdeal

open Cert.PlainIdeal Cert.PlainIdeal.Gen
open Idealize.ShloMosaic Idealize.SL.Sem

/-- The slot a flag word names. -/
def slotOf (v : BitVec 32) : Fin 2 := ⟨v.toNat / 8 % 2, Nat.mod_lt _ (by decide)⟩
/-- The other slot. -/
def other (s : Fin 2) : Fin 2 := ⟨1 - s.val, by omega⟩

theorem slot_off1 (v : BitVec 32) (h : v.toNat < 528) : k0_off2 v = ![(slotOf v).val] ∧ k0_off5 v = ![(slotOf v).val] ∧ k0_off10 v = ![(slotOf v).val] ∧ k0_off13 v = ![(slotOf v).val]
    ∧ k0_off19 v = ![(other (slotOf v)).val] := by
  have key : ∀ n : Fin 528, k0_off2 (BitVec.ofNat 32 n.val) = ![(slotOf (BitVec.ofNat 32 n.val)).val] ∧ k0_off5 (BitVec.ofNat 32 n.val) = ![(slotOf (BitVec.ofNat 32 n.val)).val]
      ∧ k0_off10 (BitVec.ofNat 32 n.val) = ![(slotOf (BitVec.ofNat 32 n.val)).val] ∧ k0_off13 (BitVec.ofNat 32 n.val) = ![(slotOf (BitVec.ofNat 32 n.val)).val]
      ∧ k0_off19 (BitVec.ofNat 32 n.val) = ![(other (slotOf (BitVec.ofNat 32 n.val))).val] := by decide +kernel
  have e := key ⟨v.toNat, h⟩
  rwa [BitVec.ofNat_toNat, BitVec.setWidth_eq] at e

theorem slot_off3 (v : BitVec 32) (h : v.toNat < 528) : k0_off3 v = ![(slotOf v).val, 0, 0] ∧ k0_off6 v = ![(slotOf v).val, 0, 0] ∧ k0_off7 v = ![(slotOf v).val, 0, 0] ∧ k0_off11 v = ![(slotOf v).val, 0, 0] ∧ k0_off14 v = ![(slotOf v).val, 0, 0] ∧ k0_off15 v = ![(slotOf v).val, 0, 0] ∧ k0_off17 v = ![(slotOf v).val, 0, 0] ∧ k0_off18 v = ![(slotOf v).val, 0, 0] := by
  have key : ∀ n : Fin 528, (fun v : BitVec 32 => k0_off3 v = ![(slotOf v).val, 0, 0] ∧ k0_off6 v = ![(slotOf v).val, 0, 0] ∧ k0_off7 v = ![(slotOf v).val, 0, 0] ∧ k0_off11 v = ![(slotOf v).val, 0, 0] ∧ k0_off14 v = ![(slotOf v).val, 0, 0] ∧ k0_off15 v = ![(slotOf v).val, 0, 0] ∧ k0_off17 v = ![(slotOf v).val, 0, 0] ∧ k0_off18 v = ![(slotOf v).val, 0, 0]) (BitVec.ofNat 32 n.val) := by decide +kernel
  have e := key ⟨v.toNat, h⟩
  rwa [BitVec.ofNat_toNat, BitVec.setWidth_eq] at e

theorem other_off3 (v : BitVec 32) (h : v.toNat < 528) : k0_off20 v = ![(other (slotOf v)).val, 0, 0] ∧ k0_off22 v = ![(other (slotOf v)).val, 0, 0] := by
  have key : ∀ n : Fin 528, (fun v : BitVec 32 => k0_off20 v = ![(other (slotOf v)).val, 0, 0] ∧ k0_off22 v = ![(other (slotOf v)).val, 0, 0]) (BitVec.ofNat 32 n.val) := by decide +kernel
  have e := key ⟨v.toNat, h⟩
  rwa [BitVec.ofNat_toNat, BitVec.setWidth_eq] at e

theorem cond2_iff (v : BitVec 32) (h : v.toNat < 528) : k0_cond2 v = 1#1 ↔ ¬v &&& 4#32 = 0#32 := by
  have key : ∀ n : Fin 528, (fun v : BitVec 32 => k0_cond2 v = 1#1 ↔ ¬v &&& 4#32 = 0#32) (BitVec.ofNat 32 n.val) := by decide +kernel
  have e := key ⟨v.toNat, h⟩
  rwa [BitVec.ofNat_toNat, BitVec.setWidth_eq] at e

theorem cond13_iff (v : BitVec 32) (h : v.toNat < 528) : k0_cond13 v = 1#1 ↔ ¬v &&& 2#32 = 0#32 := by
  have key : ∀ n : Fin 528, (fun v : BitVec 32 => k0_cond13 v = 1#1 ↔ ¬v &&& 2#32 = 0#32) (BitVec.ofNat 32 n.val) := by decide +kernel
  have e := key ⟨v.toNat, h⟩
  rwa [BitVec.ofNat_toNat, BitVec.setWidth_eq] at e

theorem cond3_iff (v : BitVec 32) (h : v.toNat < 528) : k0_cond3 v = 1#1 ↔ 16 ≤ v.toNat := by
  have key : ∀ n : Fin 528, (fun v : BitVec 32 => k0_cond3 v = 1#1 ↔ 16 ≤ v.toNat) (BitVec.ofNat 32 n.val) := by decide +kernel
  have e := key ⟨v.toNat, h⟩
  rwa [BitVec.ofNat_toNat, BitVec.setWidth_eq] at e

theorem next_off (v : BitVec 32) (h : v.toNat < 528) : 16 ≤ v.toNat → k0_off21 v = ![0, v.toNat / 16 - 1, 0, 0] ∧ k0_off23 v = ![0, v.toNat / 16 - 1, 0, 0] := by
  have key : ∀ n : Fin 528, (fun v : BitVec 32 => 16 ≤ v.toNat → k0_off21 v = ![0, v.toNat / 16 - 1, 0, 0] ∧ k0_off23 v = ![0, v.toNat / 16 - 1, 0, 0]) (BitVec.ofNat 32 n.val) := by decide +kernel
  have e := key ⟨v.toNat, h⟩
  rwa [BitVec.ofNat_toNat, BitVec.setWidth_eq] at e

theorem first_iff (v : BitVec 32) (h : v.toNat < 528) : firstW v = 1#1 ↔ ¬v &&& 1#32 = 0#32 := by
  have key : ∀ n : Fin 528, (fun v : BitVec 32 => firstW v = 1#1 ↔ ¬v &&& 1#32 = 0#32) (BitVec.ofNat 32 n.val) := by decide +kernel
  have e := key ⟨v.toNat, h⟩
  rwa [BitVec.ofNat_toNat, BitVec.setWidth_eq] at e

theorem firstA_iff (v : BitVec 32) (h : v.toNat < 528) : Scalar.cmpi .ne (Scalar.extui (firstW v)) 0#32 = 1#1 ↔ ¬v &&& 1#32 = 0#32 := by
  have key : ∀ n : Fin 528, (fun v : BitVec 32 => Scalar.cmpi .ne (Scalar.extui (firstW v)) 0#32 = 1#1 ↔ ¬v &&& 1#32 = 0#32) (BitVec.ofNat 32 n.val) := by decide +kernel
  have e := key ⟨v.toNat, h⟩
  rwa [BitVec.ofNat_toNat, BitVec.setWidth_eq] at e

theorem firstB_iff (v : BitVec 32) (h : v.toNat < 528) : Scalar.cmpi .ne (Scalar.extui (Scalar.xori (firstW v) 1#1)) 0#32 = 1#1 ↔ v &&& 1#32 = 0#32 := by
  have key : ∀ n : Fin 528, (fun v : BitVec 32 => Scalar.cmpi .ne (Scalar.extui (Scalar.xori (firstW v) 1#1)) 0#32 = 1#1 ↔ v &&& 1#32 = 0#32) (BitVec.ofNat 32 n.val) := by decide +kernel
  have e := key ⟨v.toNat, h⟩
  rwa [BitVec.ofNat_toNat, BitVec.setWidth_eq] at e

theorem bit8 (v : BitVec 32) (h : v.toNat < 528) : (v &&& 8#32 = 0#32 ↔ slotOf v = 0) := by
  have key : ∀ n : Fin 528, (fun v : BitVec 32 => (v &&& 8#32 = 0#32 ↔ slotOf v = 0)) (BitVec.ofNat 32 n.val) := by decide +kernel
  have e := key ⟨v.toNat, h⟩
  rwa [BitVec.ofNat_toNat, BitVec.setWidth_eq] at e

theorem exp_off (v : BitVec 32) : k0_off4 v = ![0, v.toNat, 0, 0] ∧ k0_off8 v = ![0, v.toNat, 0, 0] ∧ k0_off12 v = ![0, v.toNat, 0, 0] ∧ k0_off16 v = ![0, v.toNat, 0, 0] := ⟨rfl, rfl, rfl, rfl⟩

theorem point_off (i : grid0.Coords) : k0_off1 i = ![(i 0).val] ∧ k0_off9 i = ![(i 0).val] ∧ k0_off24 i = ![(i 0).val] ∧ k0_off25 i = ![(i 0).val] ∧ k0_off26 i = ![(i 0).val] ∧ k0_off27 i = ![(i 0).val] := by
  have h : (i 0).val < 95 := (i 0).isLt
  have e : (BitVec.ofNat 32 (i 0).val).toNat = (i 0).val := by rw [BitVec.toNat_ofNat]; omega
  refine ⟨?_, ?_, ?_, ?_, ?_, ?_⟩ <;> exact congrArg (fun n : ℕ => (![n] : Fin 1 → ℕ)) e

theorem cond1_iff (i : grid0.Coords) : k0_cond1 i = 1#1 ↔ (i 0).val = 0 := by
  have key : ∀ n : Fin 95, Scalar.cmpi .ne (Scalar.extui (Scalar.cmpi .eq (BitVec.ofNat 32 n.val) 0#32) : BitVec 32) 0#32 = 1#1 ↔ n.val = 0 := by decide +kernel
  exact key (i 0)

/-- A slot's place, in its semaphores, in the two buffers of wide weights and in that of tall ones; an expert's place in a layer. -/
abbrev sOff (s : Fin 2) : Fin 1 → ℕ := ![s.val]
abbrev bOff (s : Fin 2) : Fin 3 → ℕ := ![s.val, 0, 0]
abbrev eOff (L : Fin 2) (e : Fin 32) : Fin 4 → ℕ := ![L.val, e.val, 0, 0]
theorem sOff_inb (s : Fin 2) : ∀ a, sOff s a + S1.size a ≤ S2.size a := by
  have := s.isLt; intro a; fin_cases a; show s.val + 1 ≤ 2; omega
theorem gOff_inb (s : Fin 2) : ∀ a, bOff s a + S1x2048x256.size a ≤ S2x2048x256.size a := by
  have := s.isLt; intro a; fin_cases a
  · show s.val + 1 ≤ 2; omega
  · show 0 + 2048 ≤ 2048; omega
  · show 0 + 256 ≤ 256; omega
theorem dOff_inb (s : Fin 2) : ∀ a, bOff s a + S1x256x2048.size a ≤ S2x256x2048.size a := by
  have := s.isLt; intro a; fin_cases a
  · show s.val + 1 ≤ 2; omega
  · show 0 + 256 ≤ 256; omega
  · show 0 + 2048 ≤ 2048; omega
theorem eOff_inb (L : Fin 2) (e : Fin 32) : ∀ a, eOff L e a + S1x1x2048x256.size a ≤ S2x32x2048x256.size a := by
  have := e.isLt; have := L.isLt; intro a; fin_cases a
  · show L.val + 1 ≤ 2; omega
  · show e.val + 1 ≤ 32; omega
  · show 0 + 2048 ≤ 2048; omega
  · show 0 + 256 ≤ 256; omega
theorem eOff_inb' (L : Fin 2) (e : Fin 32) : ∀ a, eOff L e a + S1x1x256x2048.size a ≤ S2x32x256x2048.size a := by
  have := e.isLt; have := L.isLt; intro a; fin_cases a
  · show L.val + 1 ≤ 2; omega
  · show e.val + 1 ≤ 32; omega
  · show 0 + 256 ≤ 256; omega
  · show 0 + 2048 ≤ 2048; omega

theorem chk2_of (i : grid0.Coords) (v : BitVec 32) (h : v.toNat < 32) : k0_chk2 i v :=
  ⟨fun _ => eOff_inb 0 ⟨v.toNat, h⟩, fun _ => eOff_inb' 0 ⟨v.toNat, h⟩⟩
theorem chk3_of (f v : BitVec 32) (h : v.toNat < 32) : k0_chk3 f v :=
  ⟨fun _ => eOff_inb 0 ⟨v.toNat, h⟩, fun _ => eOff_inb' 0 ⟨v.toNat, h⟩⟩
theorem chk1_of (i : grid0.Coords) (v : BitVec 32) (h : v.toNat < 528) : k0_chk1 i v := by
  obtain ⟨e2, e5, e10, e13, e19⟩ := slot_off1 v h
  obtain ⟨e3, e6, e7, e11, e14, e15, e17, e18⟩ := slot_off3 v h
  obtain ⟨e20, e22⟩ := other_off3 v h
  have n32 : 16 ≤ v.toNat → v.toNat / 16 - 1 < 32 := fun _ => by omega
  have i21 : k0_cond3 v = 1#1 → ∀ a, (k0_off21 v) a + S1x1x2048x256.size a ≤ S2x32x2048x256.size a := fun c => by
    have c' := (cond3_iff v h).1 c
    rw [(next_off v h c').1]; exact eOff_inb 0 ⟨_, n32 c'⟩
  have i23 : k0_cond3 v = 1#1 → ∀ a, (k0_off23 v) a + S1x1x256x2048.size a ≤ S2x32x256x2048.size a := fun c => by
    have c' := (cond3_iff v h).1 c
    rw [(next_off v h c').2]; exact eOff_inb' 0 ⟨_, n32 c'⟩
  unfold k0_chk1
  rw [e2, e3, e5, e6, e7, e10, e11, e13, e14, e15, e17, e18, e19, e20, e22]
  exact ⟨fun _ => sOff_inb _, fun _ => gOff_inb _, fun _ => sOff_inb _, fun _ => gOff_inb _, fun _ => dOff_inb _, fun _ => sOff_inb _, fun _ => gOff_inb _, fun _ => sOff_inb _,
    fun _ => gOff_inb _, fun _ => dOff_inb _, fun _ => gOff_inb _, fun _ => dOff_inb _, fun _ _ => sOff_inb _, fun _ _ => gOff_inb _, fun _ c => i21 c, fun _ _ => dOff_inb _, fun _ c => i23 c⟩

end Cert.Experts.PlainIdeal
-- ==== Proof.PlainIdealRun.lean ====
/-
The pieces of the body, run one by one.
-/
module

public import proofs.«01_k».proof.Proof.PlainIdealWords
public import proofs.«01_k».proof.Proof.Gen.PlainIdeal.Launch
public import Idealize.ShloMosaic.Lib.Batch
public import Idealize.ShloMosaic.Lib.Ring
public import Idealize.ShloMosaic.Lib.Tactic
public import Idealize.ShloMosaic.Lib.Pointwise
public import Idealize.ShloMosaic.Lib.QrPanel.StackBlock
public import Idealize.ShloMosaic.Lib.Pipeline.Kit
public import Idealize.ShloMosaic.Lib.Pipeline.KitQuiescent

@[expose] public section

noncomputable section

namespace Cert.Experts.PlainIdeal

open Cert.PlainIdeal Cert.PlainIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.QrPanel.StackBlock (reshapeEquiv_cons_one_one)
open Idealize.ShloMosaic.Pipeline (Dat Cfg Window BodyObligation cellOf)

variable {F : FTy → Type} [FloatOps F] [∀ e, Nonempty (Elt F e)] {D : Defs nD τ sig (Elt F) Λ₀}

local notation "𝕄" => MT nD τ sig Unit (Elt F) ℕ (UR sig nD τ × Counters) ℕ
abbrev 𝒱₀ : Variants := Variants.none

/-! ## The places, named -/

/-- Slot `s` of each buffer, expert `e` of each weight array, slot `s`'s semaphore, as the body slices them. -/
def gSlot (s : Fin 2) : Memref sig .tc .vmem S2048x256 .f32 :=
  ((Memref.whole cc0_scratch4).slice (Rect.unit (s := S2x2048x256) (bOff s) S1x2048x256.size (gOff_inb s)) (fun _ => rfl)).squeeze S2048x256 squeezes_S1x2048x256_S2048x256
def uSlot (s : Fin 2) : Memref sig .tc .vmem S2048x256 .f32 :=
  ((Memref.whole cc0_scratch5).slice (Rect.unit (s := S2x2048x256) (bOff s) S1x2048x256.size (gOff_inb s)) (fun _ => rfl)).squeeze S2048x256 squeezes_S1x2048x256_S2048x256
def dSlot (s : Fin 2) : Memref sig .tc .vmem S256x2048 .f32 :=
  ((Memref.whole cc0_scratch6).slice (Rect.unit (s := S2x256x2048) (bOff s) S1x256x2048.size (dOff_inb s)) (fun _ => rfl)).squeeze S256x2048 squeezes_S1x256x2048_S256x2048
def gExp (L : Fin 2) (e : Fin 32) : Memref sig .tc .hbm S2048x256 .f32 :=
  ((Memref.whole main_arg6).slice (Rect.unit (s := S2x32x2048x256) (eOff L e) S1x1x2048x256.size (eOff_inb L e)) (fun _ => rfl)).squeeze S2048x256 squeezes_S1x1x2048x256_S2048x256
def uExp (L : Fin 2) (e : Fin 32) : Memref sig .tc .hbm S2048x256 .f32 :=
  ((Memref.whole main_arg7).slice (Rect.unit (s := S2x32x2048x256) (eOff L e) S1x1x2048x256.size (eOff_inb L e)) (fun _ => rfl)).squeeze S2048x256 squeezes_S1x1x2048x256_S2048x256
def dExp (L : Fin 2) (e : Fin 32) : Memref sig .tc .hbm S256x2048 .f32 :=
  ((Memref.whole main_arg8).slice (Rect.unit (s := S2x32x256x2048) (eOff L e) S1x1x256x2048.size (eOff_inb' L e)) (fun _ => rfl)).squeeze S256x2048 squeezes_S1x1x256x2048_S256x2048
def csm (s : Fin 2) : DmaSems sig S_ := (cc0_scratch7.slice (Rect.unit (s := S2) (sOff s) S1.size (sOff_inb s))).squeeze S_ squeezes_S1_S_

instance (s : Fin 2) : ClosedOff (bOff s) := ⟨bOff s, rfl⟩
instance (L : Fin 2) (e : Fin 32) : ClosedOff (eOff L e) := ⟨eOff L e, rfl⟩

@[sl_canon] theorem canon_s (s : Fin 2) (hh) : (cc0_scratch7.slice (Rect.unit (s := S2) (sOff s) S1.size hh)).squeeze S_ squeezes_S1_S_ = csm s := rfl
@[sl_canon] theorem canon_gS (s : Fin 2) (hh hs) : ((Memref.whole cc0_scratch4).slice (Rect.unit (s := S2x2048x256) (bOff s) S1x2048x256.size hh) hs).squeeze S2048x256 squeezes_S1x2048x256_S2048x256 = gSlot s := rfl
@[sl_canon] theorem canon_uS (s : Fin 2) (hh hs) : ((Memref.whole cc0_scratch5).slice (Rect.unit (s := S2x2048x256) (bOff s) S1x2048x256.size hh) hs).squeeze S2048x256 squeezes_S1x2048x256_S2048x256 = uSlot s := rfl
@[sl_canon] theorem canon_dS (s : Fin 2) (hh hs) : ((Memref.whole cc0_scratch6).slice (Rect.unit (s := S2x256x2048) (bOff s) S1x256x2048.size hh) hs).squeeze S256x2048 squeezes_S1x256x2048_S256x2048 = dSlot s := rfl
@[sl_canon] theorem canon_gE (L : Fin 2) (e : Fin 32) (hh hs) : ((Memref.whole main_arg6).slice (Rect.unit (s := S2x32x2048x256) (eOff L e) S1x1x2048x256.size hh) hs).squeeze S2048x256 squeezes_S1x1x2048x256_S2048x256 = gExp L e := rfl
@[sl_canon] theorem canon_uE (L : Fin 2) (e : Fin 32) (hh hs) : ((Memref.whole main_arg7).slice (Rect.unit (s := S2x32x2048x256) (eOff L e) S1x1x2048x256.size hh) hs).squeeze S2048x256 squeezes_S1x1x2048x256_S2048x256 = uExp L e := rfl
@[sl_canon] theorem canon_dE (L : Fin 2) (e : Fin 32) (hh hs) : ((Memref.whole main_arg8).slice (Rect.unit (s := S2x32x256x2048) (eOff L e) S1x1x256x2048.size hh) hs).squeeze S256x2048 squeezes_S1x1x256x2048_S256x2048 = dExp L e := rfl

/-! ## An expert's weights on their way -/

section Pieces
variable (c : Dev nD)

/-- A place held by exactly its own elements. -/
abbrev own {sp : Space} {S : Shape} {ψ : EltTy} (M : Memref sig .tc sp S ψ) (f : Buf (Elt F) (M.view.loc (c : Thread nD τ))) : sProp 𝕄 :=
  M.view.loc (c : Thread nD τ) ↦[M.view.set]{fullShare} f
/-- A buffer held whole. -/
abbrev held (b : Ref sig .tc) (f : b.ty.Contents (Elt F)) : sProp 𝕄 :=
  (Memref.whole b).view.loc (c : Thread nD τ) ↦{fullShare} f

/-- The three weight arrays' contents. -/
structure Wts (F : FTy → Type) where
  L : Fin 2
  g : (main_arg6 : Ref sig .tc).ty.Contents (Elt F)
  u : (main_arg7 : Ref sig .tc).ty.Contents (Elt F)
  d : (main_arg8 : Ref sig .tc).ty.Contents (Elt F)

/-- Prior contents of one slot's three places. -/
structure Old (c : Dev nD) (s : Fin 2) (F : FTy → Type) where
  g : Buf (Elt F) ((gSlot s).view.loc (c : Thread nD τ))
  u : Buf (Elt F) ((uSlot s).view.loc (c : Thread nD τ))
  d : Buf (Elt F) ((dSlot s).view.loc (c : Thread nD τ))

/-- The arrays' contents, as an expert's block sees them. -/
def Wts.gAt (w : Wts F) (e : Fin 32) : Buf (Elt F) ((gExp w.L e).view.loc (c : Thread nD τ)) := w.g
def Wts.uAt (w : Wts F) (e : Fin 32) : Buf (Elt F) ((uExp w.L e).view.loc (c : Thread nD τ)) := w.u
def Wts.dAt (w : Wts F) (e : Fin 32) : Buf (Elt F) ((dExp w.L e).view.loc (c : Thread nD τ)) := w.d

/-- What a slot's copies leave in it. -/
abbrev landG (s : Fin 2) (e : Fin 32) (w : Wts F) (o : Old c s F) : Buf (Elt F) ((gSlot s).view.loc (c : Thread nD τ)) :=
  (gSlot s).view.writes (Elt F) o.g [⟨Rect.whole S2048x256, ReadAs.same.apply ((gExp w.L e).view.read (Elt F) (w.gAt c e))⟩]
abbrev landU (s : Fin 2) (e : Fin 32) (w : Wts F) (o : Old c s F) : Buf (Elt F) ((uSlot s).view.loc (c : Thread nD τ)) :=
  (uSlot s).view.writes (Elt F) o.u [⟨Rect.whole S2048x256, ReadAs.same.apply ((uExp w.L e).view.read (Elt F) (w.uAt c e))⟩]
abbrev landD (s : Fin 2) (e : Fin 32) (w : Wts F) (o : Old c s F) : Buf (Elt F) ((dSlot s).view.loc (c : Thread nD τ)) :=
  (dSlot s).view.writes (Elt F) o.d [⟨Rect.whole S256x2048, ReadAs.same.apply ((dExp w.L e).view.read (Elt F) (w.dAt c e))⟩]

/-- The three copies' deliveries. -/
abbrev deliv (s : Fin 2) (e : Fin 32) (w : Wts F) (o : Old c s F) : Fin 3 → sProp 𝕄
  | 0 => iprop(own c (gSlot s) (landG c s e w o) ∗ own c (gExp w.L e) (w.gAt c e))
  | 1 => iprop(own c (uSlot s) (landU c s e w o) ∗ own c (uExp w.L e) (w.uAt c e))
  | 2 => iprop(own c (dSlot s) (landD c s e w o) ∗ own c (dExp w.L e) (w.dAt c e))

instance (s : Fin 2) (e : Fin 32) (w : Wts F) (o : Old c s F) : ∀ t, Storable (upEmb : UEmb _ 𝕄) (deliv c s e w o t)
  | 0 => by dsimp only [deliv]; infer_instance
  | 1 => by dsimp only [deliv]; infer_instance
  | 2 => by dsimp only [deliv]; infer_instance

/-- One copy's credit. -/
abbrev NN : ℕ := (gSlot 0).view.amount (SemLoc.dma (sig := sig) (csm 0).sem)

/-- A slot's three places held. -/
def slotHeld (s : Fin 2) (o : Old c s F) : sProp 𝕄 := iprop(own c (gSlot s) o.g ∗ own c (uSlot s) o.u ∗ own c (dSlot s) o.d)
/-- An expert's three blocks held. -/
def expHeld (e : Fin 32) (w : Wts F) : sProp 𝕄 := iprop(own c (gExp w.L e) (w.gAt c e) ∗ own c (uExp w.L e) (w.uAt c e) ∗ own c (dExp w.L e) (w.dAt c e))
/-- An expert's weights on their way into a slot. -/
def flight (s : Fin 2) (e : Fin 32) (w : Wts F) : sProp 𝕄 :=
  iprop(∃ o : Old c s F, Transfers.Batch (countersEmb (U := UR sig nD τ × Counters)) (c : Thread nD τ) (SemLoc.dma (csm s).sem) () NN (deliv c s e w o) 3 0)

theorem issue_run (s : Fin 2) (e : Fin 32) (w : Wts F) (o : Old c s F) (h1 h2 h3 h4 h5 h6 h7) :
    iprop(slotHeld c s o ∗ expHeld c e w ∗ semVal ((c : Thread nD τ), SemLoc.dma (csm s).sem) 0)
      ⊢ wp frame (wpE D 𝒱₀ (c : Thread nD τ) none) Set.univ (issueP (sOff s) (sOff s) (bOff s) (bOff s) (bOff s) (eOff w.L e) (eOff w.L e) h1 h2 h3 h4 h5 h6 h7)
        (fun _ => flight c s e w) := by
  unfold slotHeld expHeld flight
  iintro ⟨⟨Hg, Hu, Hd⟩, ⟨Eg, Eu, Ed⟩, Hs⟩
  imod (Transfers.batch_alloc' (Lvl := ℕ) (countersEmb (U := UR sig nD τ × Counters)) (c : Thread nD τ) () NN (deliv c s e w o) (sm := .dma (csm s).sem) (E := Set.univ)) $$ Hs with HB
  unfold issueP
  sl_exec
  sl_step
  iexists o; iexact HB

theorem wait_run (s : Fin 2) (e : Fin 32) (w : Wts F) (W : Waits sig Unit) (h1 h2 h3 h4 h5 h6 h7) :
    iprop(flight c s e w ∗ owes (c : Thread nD τ) 0 W)
      ⊢ wp frame (wpE D 𝒱₀ (c : Thread nD τ) none) Set.univ (waitP (sOff s) (sOff s) (bOff s) (bOff s) (bOff s) (eOff w.L e) (eOff w.L e) h1 h2 h3 h4 h5 h6 h7)
        (fun _ => iprop((∃ o : Old c s F, own c (gSlot s) (landG c s e w o) ∗ own c (uSlot s) (landU c s e w o) ∗ own c (dSlot s) (landD c s e w o))
          ∗ expHeld c e w ∗ semVal ((c : Thread nD τ), SemLoc.dma (csm s).sem) 0 ∗ ∃ W', owes (c : Thread nD τ) 0 W')) := by
  unfold expHeld flight
  iintro ⟨⟨%o, HB⟩, HO⟩
  unfold waitP
  sl_exec
  sl_step
  isplitl [HB_dst0 HB_dst1 HB_dst2]
  · iexists o
    isplitl [HB_dst0]; · iexact HB_dst0
    isplitl [HB_dst1]; · iexact HB_dst1
    iexact HB_dst2
  isplitl [HB_src0 HB_src1 HB_src2]
  · isplitl [HB_src0]; · iexact HB_src0
    isplitl [HB_src1]; · iexact HB_src1
    iexact HB_src2
  isplitl [HB]; · iexact HB
  iexists _; iexact HO

end Pieces

/-- One of a stack of matrices, read through the slice that squeezes its leading axis away. -/
theorem read_sq3 {G A B : ℕ} {sp : Space} (M : Memref sig .tc sp ⟨3, ![G, A, B]⟩ .f32) (off : Fin 3 → ℕ)
    (inb : ∀ a, off a + (⟨3, ![1, A, B]⟩ : Shape).size a ≤ (⟨3, ![G, A, B]⟩ : Shape).size a) (hr) (hq : (⟨3, ![1, A, B]⟩ : Shape).Squeezes ⟨2, ![A, B]⟩)
    (f : M.view.ty.Contents (Elt F)) (a : Fin A) (b : Fin B) :
    ((M.slice (Rect.unit (s := ⟨3, ![G, A, B]⟩) off (⟨3, ![1, A, B]⟩ : Shape).size inb) hr).squeeze ⟨2, ![A, B]⟩ hq).view.read (Elt F) f (ix2 a b)
      = M.view.readAt (Elt F) (Rect.unit (s := ⟨3, ![G, A, B]⟩) off (⟨3, ![1, A, B]⟩ : Shape).size inb).toLoadRect f (ix3 0 a b) := by
  have h1 : ((M.slice (Rect.unit (s := ⟨3, ![G, A, B]⟩) off (⟨3, ![1, A, B]⟩ : Shape).size inb) hr).squeeze ⟨2, ![A, B]⟩ hq).view.read (Elt F) f (ix2 a b)
      = M.view.readAt (Elt F) (Rect.unit (s := ⟨3, ![G, A, B]⟩) off (⟨3, ![1, A, B]⟩ : Shape).size inb).toLoadRect f (Shape.reshapeEquiv hq.numel_eq (ix2 a b)) := rfl
  rw [h1, Shape.reshapeEquiv_cons_one]
  congr 1
  funext x
  match x with
  | ⟨0, _⟩ => rfl
  | ⟨1, _⟩ => rfl
  | ⟨2, _⟩ => rfl

/-- One of a stack of stacks of matrices, read through the slice that squeezes both leading axes away. -/
theorem read_sq4 {G H A B : ℕ} {sp : Space} (M : Memref sig .tc sp ⟨4, ![G, H, A, B]⟩ .f32) (g : Fin G) (h : Fin H) (off : Fin 4 → ℕ) (ho : off = ![g.val, h.val, 0, 0])
    (inb : ∀ a, off a + (⟨4, ![1, 1, A, B]⟩ : Shape).size a ≤ (⟨4, ![G, H, A, B]⟩ : Shape).size a) (hr) (hq : (⟨4, ![1, 1, A, B]⟩ : Shape).Squeezes ⟨2, ![A, B]⟩)
    (f : M.view.ty.Contents (Elt F)) (a : Fin A) (b : Fin B) :
    ((M.slice (Rect.unit (s := ⟨4, ![G, H, A, B]⟩) off (⟨4, ![1, 1, A, B]⟩ : Shape).size inb) hr).squeeze ⟨2, ![A, B]⟩ hq).view.read (Elt F) f (ix2 a b)
      = M.view.read (Elt F) f (ix4 g h a b) := by
  subst ho
  have h1 : ((M.slice (Rect.unit (s := ⟨4, ![G, H, A, B]⟩) ![g.val, h.val, 0, 0] (⟨4, ![1, 1, A, B]⟩ : Shape).size inb) hr).squeeze ⟨2, ![A, B]⟩ hq).view.read (Elt F) f (ix2 a b)
      = M.view.read (Elt F) f ((Rect.unit (s := ⟨4, ![G, H, A, B]⟩) ![g.val, h.val, 0, 0] (⟨4, ![1, 1, A, B]⟩ : Shape).size inb).emb (Shape.reshapeEquiv hq.numel_eq (ix2 a b))) := rfl
  rw [h1, reshapeEquiv_cons_one_one]
  congr 1
  funext x
  apply Fin.ext
  rw [Rect.emb_apply]
  match x with
  | ⟨0, _⟩ => show g.val + 1 * 0 = g.val; omega
  | ⟨1, _⟩ => show h.val + 1 * 0 = h.val; omega
  | ⟨2, _⟩ => show 0 + 1 * a.val = a.val; omega
  | ⟨3, _⟩ => show 0 + 1 * b.val = b.val; omega

variable (c : Dev nD)

/-- An expert's weights, as vectors with a leading unit axis. -/
def Wts.gVec (w : Wts F) (e : Fin 32) : Vec F S1x2048x256 .f32 := fun j => w.g (ix4 w.L e (j 1) (j 2))
def Wts.uVec (w : Wts F) (e : Fin 32) : Vec F S1x2048x256 .f32 := fun j => w.u (ix4 w.L e (j 1) (j 2))
def Wts.dVec (w : Wts F) (e : Fin 32) : Vec F S1x256x2048 .f32 := fun j => w.d (ix4 w.L e (j 1) (j 2))

theorem gLoad (s : Fin 2) (e : Fin 32) (w : Wts F) (h1) :
    View.readAt (Elt F) (Memref.whole cc0_scratch4).view (Rect.unit (s := S2x2048x256) (bOff s) S1x2048x256.size h1).toLoadRect
      ((gSlot s).view.writes (Elt F) (gSlot s).view.junk [⟨Rect.whole S2048x256, ReadAs.same.apply ((gExp w.L e).view.read (Elt F) (w.gAt c e))⟩]) = w.gVec e := by
  funext j
  obtain ⟨j0, j1, j2, rfl⟩ : ∃ (j0 : Fin 1) (j1 : Fin 2048) (j2 : Fin 256), j = ix3 j0 j1 j2 := ⟨j 0, j 1, j 2, by funext a; fin_cases a <;> rfl⟩
  obtain rfl : j0 = 0 := Subsingleton.elim _ _
  have h := congrFun (View.read_writes_whole (Val := Elt F) (gSlot s).view (gSlot s).view.junk (ReadAs.same.apply (View.read (Elt F) (gExp w.L e).view (Wts.gAt c w e)))) (ix2 j1 j2)
  have h2 := read_sq3 (F := F) (Memref.whole cc0_scratch4) (bOff s) h1 (fun _ => rfl) squeezes_S1x2048x256_S2048x256
    ((gSlot s).view.writes (Elt F) (gSlot s).view.junk [⟨Rect.whole S2048x256, ReadAs.same.apply ((gExp w.L e).view.read (Elt F) (w.gAt c e))⟩]) j1 j2
  have h3 := read_sq4 (F := F) (Memref.whole main_arg6) w.L e (eOff w.L e) rfl (eOff_inb w.L e) (fun _ => rfl) squeezes_S1x1x2048x256_S2048x256 w.g j1 j2
  exact h2.symm.trans (h.trans h3)

theorem uLoad (s : Fin 2) (e : Fin 32) (w : Wts F) (h1) :
    View.readAt (Elt F) (Memref.whole cc0_scratch5).view (Rect.unit (s := S2x2048x256) (bOff s) S1x2048x256.size h1).toLoadRect
      ((uSlot s).view.writes (Elt F) (uSlot s).view.junk [⟨Rect.whole S2048x256, ReadAs.same.apply ((uExp w.L e).view.read (Elt F) (w.uAt c e))⟩]) = w.uVec e := by
  funext j
  obtain ⟨j0, j1, j2, rfl⟩ : ∃ (j0 : Fin 1) (j1 : Fin 2048) (j2 : Fin 256), j = ix3 j0 j1 j2 := ⟨j 0, j 1, j 2, by funext a; fin_cases a <;> rfl⟩
  obtain rfl : j0 = 0 := Subsingleton.elim _ _
  have h := congrFun (View.read_writes_whole (Val := Elt F) (uSlot s).view (uSlot s).view.junk (ReadAs.same.apply (View.read (Elt F) (uExp w.L e).view (Wts.uAt c w e)))) (ix2 j1 j2)
  have h2 := read_sq3 (F := F) (Memref.whole cc0_scratch5) (bOff s) h1 (fun _ => rfl) squeezes_S1x2048x256_S2048x256
    ((uSlot s).view.writes (Elt F) (uSlot s).view.junk [⟨Rect.whole S2048x256, ReadAs.same.apply ((uExp w.L e).view.read (Elt F) (w.uAt c e))⟩]) j1 j2
  have h3 := read_sq4 (F := F) (Memref.whole main_arg7) w.L e (eOff w.L e) rfl (eOff_inb w.L e) (fun _ => rfl) squeezes_S1x1x2048x256_S2048x256 w.u j1 j2
  exact h2.symm.trans (h.trans h3)

theorem dLoad (s : Fin 2) (e : Fin 32) (w : Wts F) (h1) :
    View.readAt (Elt F) (Memref.whole cc0_scratch6).view (Rect.unit (s := S2x256x2048) (bOff s) S1x256x2048.size h1).toLoadRect
      ((dSlot s).view.writes (Elt F) (dSlot s).view.junk [⟨Rect.whole S256x2048, ReadAs.same.apply ((dExp w.L e).view.read (Elt F) (w.dAt c e))⟩]) = w.dVec e := by
  funext j
  obtain ⟨j0, j1, j2, rfl⟩ : ∃ (j0 : Fin 1) (j1 : Fin 256) (j2 : Fin 2048), j = ix3 j0 j1 j2 := ⟨j 0, j 1, j 2, by funext a; fin_cases a <;> rfl⟩
  obtain rfl : j0 = 0 := Subsingleton.elim _ _
  have h := congrFun (View.read_writes_whole (Val := Elt F) (dSlot s).view (dSlot s).view.junk (ReadAs.same.apply (View.read (Elt F) (dExp w.L e).view (Wts.dAt c w e)))) (ix2 j1 j2)
  have h2 := read_sq3 (F := F) (Memref.whole cc0_scratch6) (bOff s) h1 (fun _ => rfl) squeezes_S1x256x2048_S256x2048
    ((dSlot s).view.writes (Elt F) (dSlot s).view.junk [⟨Rect.whole S256x2048, ReadAs.same.apply ((dExp w.L e).view.read (Elt F) (w.dAt c e))⟩]) j1 j2
  have h3 := read_sq4 (F := F) (Memref.whole main_arg8) w.L e (eOff w.L e) rfl (eOff_inb' w.L e) (fun _ => rfl) squeezes_S1x1x256x2048_S256x2048 w.d j1 j2
  exact h2.symm.trans (h.trans h3)

section Pieces
variable (c : Dev nD)

/-- A store of a whole buffer leaves exactly what it stores. -/
theorem stored {b : Ref sig .tc} (f : b.ty.Contents (Elt F)) (off : Fin b.ty.shape.rank → ℕ) (h0 : off = fun _ => 0) (hin : ∀ a, off a + b.ty.shape.size a ≤ b.ty.shape.size a)
    (x : b.ty.shape.Idx → Elt F b.ty.elt) :
    (Memref.whole b).view.writes (Elt F) f [⟨Rect.unit (s := b.ty.shape) off b.ty.shape.size hin, x⟩] = x := by
  subst h0
  exact View.read_writes_whole (Val := Elt F) (Memref.whole b).view f x

theorem held_of_eq {b : Ref sig .tc} {f g : b.ty.Contents (Elt F)} (h : f = g) : (held c b f : sProp 𝕄) ⊢ held c b g := by subst h; iintro H; iexact H

theorem cast_run (s : Fin 2) (e : Fin 32) (w : Wts F) (o : Old c s F) (f1 f2 f3) (h1 h2) :
    iprop((own c (gSlot s) (landG c s e w o) ∗ own c (uSlot s) (landU c s e w o) ∗ own c (dSlot s) (landD c s e w o))
      ∗ held c cc0_scratch1 f1 ∗ held c cc0_scratch2 f2 ∗ held c cc0_scratch3 f3)
      ⊢ wp frame (wpE D 𝒱₀ (c : Thread nD τ) none) Set.univ (castP (bOff s) (bOff s) h1 h2)
        (fun _ => iprop((∃ o' : Old c s F, slotHeld c s o') ∗ held c cc0_scratch1 (k0_pay1 (w.gVec e)) ∗ held c cc0_scratch2 (k0_pay3 (k0_pay2 (w.uVec e)))
          ∗ held c cc0_scratch3 (k0_pay4 (w.dVec e)))) := by
  unfold slotHeld
  iintro ⟨⟨HG, HU, HD⟩, H1, H2, H3⟩
  unfold castP
  sl_exec
  sl_step
  isplitl [HG HU HD]
  · iexists Old.mk _ _ _
    isplitl [HG]; · iexact HG
    isplitl [HU]; · iexact HU
    iexact HD
  have z : (![0, 0] : Fin 2 → ℕ) = fun _ => 0 := by funext a; fin_cases a <;> rfl
  isplitl [H1]
  · iapply (held_of_eq c (b := cc0_scratch1) ((stored (b := cc0_scratch1) f1 ![0, 0] z inb_S2048x256_S2048x256_0_0 _).trans (congrArg k0_pay1 (gLoad c s e w h1)))); iexact H1
  isplitl [H2]
  · iapply (held_of_eq c (b := cc0_scratch2) ((stored (b := cc0_scratch2) f2 ![0, 0] z inb_S2048x256_S2048x256_0_0 _).trans (congrArg (fun v => k0_pay3 (k0_pay2 v)) (uLoad c s e w h1)))); iexact H2
  iapply (held_of_eq c (b := cc0_scratch3) ((stored (b := cc0_scratch3) f3 ![0, 0] z inb_S256x2048_S256x2048_0_0 _).trans (congrArg k0_pay4 (dLoad c s e w h2)))); iexact H3

end Pieces

end Cert.Experts.PlainIdeal
-- ==== Proof.PlainIdealAcc.lean ====
/-
The pieces that accumulate and the piece that stores, run.
-/
module

public import proofs.«01_k».proof.Proof.PlainIdealRun
public import Idealize.ShloMosaic.Lib.WritesUnit

@[expose] public section

noncomputable section

namespace Cert.Experts.PlainIdeal

open Cert.PlainIdeal Cert.PlainIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)] {D : Defs nD τ sig (Elt F) Λ₀}

local notation "𝕄" => MT nD τ sig Unit (Elt F) ℕ (UR sig nD τ × Counters) ℕ

/-- The contents of the accumulator. -/
abbrev Acc (F : FTy → Type) := S512x2048.Idx → Elt F .f32
/-- Half of them. -/
abbrev Half (F : FTy → Type) := S256x2048.Idx → Elt F .f32

def lowH (a : Acc F) : Half F := fun j => a (ix2 ⟨(j 0).val, lt_trans (j 0).isLt (by decide)⟩ (j 1))
def upH (a : Acc F) : Half F := fun j => a (ix2 ⟨256 + (j 0).val, by have := (j 0).isLt; change (j 0).val < 256 at this; omega⟩ (j 1))
def halves (lo up : Half F) : Acc F := fun j => if h : (j 0).val < 256 then lo (ix2 ⟨(j 0).val, h⟩ (j 1)) else up (ix2 ⟨(j 0).val - 256, by have := (j 0).isLt; change (j 0).val < 512 at this; omega⟩ (j 1))
def lowX (x : Vec F S512x1024 .i32) : Vec F S256x1024 .i32 := fun j => x (ix2 ⟨(j 0).val, lt_trans (j 0).isLt (by decide)⟩ (j 1))
def upX (x : Vec F S512x1024 .i32) : Vec F S256x1024 .i32 := fun j => x (ix2 ⟨256 + (j 0).val, by have := (j 0).isLt; change (j 0).val < 256 at this; omega⟩ (j 1))

/-- The accumulator after a whole tile, after its lower half, after its upper half. -/
def fullU (fst : Bool) (v1 v3 t : BitVec 32) (x : Vec F S512x1024 .i32) (g u : Vec F S2048x256 .bf16) (d : Vec F S256x2048 .bf16) (a : Acc F) : Acc F :=
  if fst then k0_pay6 v1 v3 t x g u d else k0_pay7 v1 v3 t x g u a d
def lowU (fst : Bool) (v1 v3 t : BitVec 32) (x : Vec F S512x1024 .i32) (g u : Vec F S2048x256 .bf16) (d : Vec F S256x2048 .bf16) (a : Acc F) : Acc F :=
  if fst then halves (k0_pay9 v1 v3 t (lowX x) g u d) (k0_pay10 (F := F)) else halves (k0_pay11 v1 v3 t (lowX x) g u (lowH a) d) (upH a)
def upU (fst : Bool) (v1 v3 t : BitVec 32) (x : Vec F S512x1024 .i32) (g u : Vec F S2048x256 .bf16) (d : Vec F S256x2048 .bf16) (a : Acc F) : Acc F :=
  if fst then halves (k0_pay14 (F := F)) (k0_pay13 v1 v3 t (upX x) g u d) else halves (lowH a) (k0_pay15 v1 v3 t (upX x) g u (upH a) d)

section Pieces
variable (c : Dev nD)

/-- A table held. -/
abbrev tab (b : Ref sig .tc) (q : PosShare TreeShare) (T : b.ty.Contents (Elt F)) : sProp 𝕄 := (Memref.whole b).view.loc (c : Thread nD τ) ↦{q} T
/-- What the accumulating pieces touch. -/
def accRes (q : PosShare TreeShare) (T : (main_arg0 : Ref sig .tc).ty.Contents (Elt F)) (X : Memref sig .tc .vmem S512x1024 .i32) (x : Vec F S512x1024 .i32)
    (g u : Vec F S2048x256 .bf16) (d : Vec F S256x2048 .bf16) (a : Acc F) : sProp 𝕄 :=
  iprop(tab c main_arg0 q T ∗ (X.view.loc (c : Thread nD τ) ↦[X.view.set]{fullShare} X.view.rep x) ∗ held c cc0_scratch1 g ∗ held c cc0_scratch2 u ∗ held c cc0_scratch3 d ∗ held c cc0_scratch0 a)

theorem z2 : (![0, 0] : Fin 2 → ℕ) = fun _ => 0 := by funext a; fin_cases a <;> rfl

theorem c5 {A B C D E R : Type} (f : A → B → C → D → E → R) {a a' : A} {b b' : B} {c c' : C} {d d' : D} {e e' : E} (ha : a = a') (hb : b = b') (hc : c = c') (hd : d = d')
    (he : e = e') : f a b c d e = f a' b' c' d' e' := by subst ha hb hc hd he; rfl
theorem c6 {A B C D E G R : Type} (f : A → B → C → D → E → G → R) {a a' : A} {b b' : B} {c c' : C} {d d' : D} {e e' : E} {g g' : G} (ha : a = a') (hb : b = b') (hc : c = c')
    (hd : d = d') (he : e = e') (hg : g = g') : f a b c d e g = f a' b' c' d' e' g' := by subst ha hb hc hd he hg; rfl

theorem tabAt (T : (main_arg0 : Ref sig .tc).ty.Contents (Elt F)) (i : grid0.Coords) (o : Fin 1 → ℕ) (ho : o = ![(i 0).val]) (hin : ∀ a, o a + S1.size a ≤ S95.size a) (h0) :
    View.readAt (Elt F) (Memref.whole main_arg0).view (Rect.unit (s := S95) o S1.size hin).toLoadRect T (Shape.Idx.first h0) = T (ix1 (i 0)) := by
  subst ho
  refine congrArg T ?_
  funext a
  match a with
  | ⟨0, _⟩ => exact Fin.ext rfl

theorem xFull (X : Memref sig .tc .vmem S512x1024 .i32) (x : Vec F S512x1024 .i32) (h) :
    View.readAt (Elt F) X.view (Rect.unit (s := S512x1024) ![0, 0] S512x1024.size h).toLoadRect (X.view.rep x) = x := by
  rw [View.readAt_rep]
  funext y
  refine congrArg x ?_
  funext a
  apply Fin.ext
  match a with
  | ⟨0, _⟩ => show 0 + 1 * (y 0).val = (y 0).val; omega
  | ⟨1, _⟩ => show 0 + 1 * (y 1).val = (y 1).val; omega
theorem xLow (X : Memref sig .tc .vmem S512x1024 .i32) (x : Vec F S512x1024 .i32) (h) :
    View.readAt (Elt F) X.view (Rect.unit (s := S512x1024) ![0, 0] S256x1024.size h).toLoadRect (X.view.rep x) = lowX x := by
  rw [View.readAt_rep]
  funext y
  refine congrArg x ?_
  funext a
  apply Fin.ext
  match a with
  | ⟨0, _⟩ => show 0 + 1 * (y 0).val = (y 0).val; omega
  | ⟨1, _⟩ => show 0 + 1 * (y 1).val = (y 1).val; omega
theorem xUp (X : Memref sig .tc .vmem S512x1024 .i32) (x : Vec F S512x1024 .i32) (h) :
    View.readAt (Elt F) X.view (Rect.unit (s := S512x1024) ![256, 0] S256x1024.size h).toLoadRect (X.view.rep x) = upX x := by
  rw [View.readAt_rep]
  funext y
  refine congrArg x ?_
  funext a
  apply Fin.ext
  match a with
  | ⟨0, _⟩ => show 256 + 1 * (y 0).val = 256 + (y 0).val; omega
  | ⟨1, _⟩ => show 0 + 1 * (y 1).val = (y 1).val; omega
theorem aLow (a : Acc F) (h) :
    View.readAt (Elt F) (Memref.whole cc0_scratch0).view (Rect.unit (s := S512x2048) ![0, 0] S256x2048.size h).toLoadRect a = lowH a := by
  funext y
  refine congrArg a ?_
  funext b
  apply Fin.ext
  match b with
  | ⟨0, _⟩ => show 0 + 1 * (y 0).val = (y 0).val; omega
  | ⟨1, _⟩ => show 0 + 1 * (y 1).val = (y 1).val; omega
theorem aUp (a : Acc F) (h) :
    View.readAt (Elt F) (Memref.whole cc0_scratch0).view (Rect.unit (s := S512x2048) ![256, 0] S256x2048.size h).toLoadRect a = upH a := by
  funext y
  refine congrArg a ?_
  funext b
  apply Fin.ext
  match b with
  | ⟨0, _⟩ => show 256 + 1 * (y 0).val = 256 + (y 0).val; omega
  | ⟨1, _⟩ => show 0 + 1 * (y 1).val = (y 1).val; omega

theorem hr (f : Acc F) (y : S512x2048.Idx) : f y = (Memref.whole cc0_scratch0).view.read (Elt F) f y := rfl

theorem wUp (a b : Acc F) (p : Half F) (L : List (View.Piece (Elt F) S512x2048 .f32)) (h) (hL : (Memref.whole cc0_scratch0).view.writes (Elt F) a L = b) :
    (Memref.whole cc0_scratch0).view.writes (Elt F) a (⟨Rect.unit (s := S512x2048) ![256, 0] S256x2048.size h, p⟩ :: L) = halves (lowH b) p := by
  funext y
  have h512 : (y 0).val < 512 := (y 0).isLt
  by_cases hy : (y 0).val < 256
  · refine (hr _ y).trans ?_
    refine (View.read_writes_cons_rows_of_not_mem (Val := Elt F) (Memref.whole cc0_scratch0).view a (off := ![256, 0]) (size := S256x2048.size) (o := 256) (W := 256) h p L y rfl rfl (Or.inl hy)).trans ?_
    refine ((hr _ y).symm.trans (congrFun hL y)).trans ?_
    unfold halves lowH
    rw [dif_pos hy]
    refine congrArg b ?_
    funext a
    match a with
    | ⟨0, _⟩ => rfl
    | ⟨1, _⟩ => rfl
  · refine (hr _ y).trans ?_
    refine (View.read_writes_cons_rows_of_mem (Val := Elt F) (Memref.whole cc0_scratch0).view a (off := ![256, 0]) (size := S256x2048.size) (o := 256) h p L y (ix2 ⟨(y 0).val - 256, by omega⟩ (y 1)) rfl ?_ rfl).trans ?_
    · show (y 0).val = 256 + ((y 0).val - 256); omega
    · unfold halves
      rw [dif_neg hy]
theorem wLow (a b : Acc F) (p : Half F) (L : List (View.Piece (Elt F) S512x2048 .f32)) (h) (hL : (Memref.whole cc0_scratch0).view.writes (Elt F) a L = b) :
    (Memref.whole cc0_scratch0).view.writes (Elt F) a (⟨Rect.unit (s := S512x2048) ![0, 0] S256x2048.size h, p⟩ :: L) = halves p (upH b) := by
  funext y
  have h512 : (y 0).val < 512 := (y 0).isLt
  by_cases hy : (y 0).val < 256
  · refine (hr _ y).trans ?_
    refine (View.read_writes_cons_rows_of_mem (Val := Elt F) (Memref.whole cc0_scratch0).view a (off := ![0, 0]) (size := S256x2048.size) (o := 0) h p L y (ix2 ⟨(y 0).val, hy⟩ (y 1)) rfl ?_ rfl).trans ?_
    · show (y 0).val = 0 + (y 0).val; omega
    · unfold halves
      rw [dif_pos hy]
  · refine (hr _ y).trans ?_
    refine (View.read_writes_cons_rows_of_not_mem (Val := Elt F) (Memref.whole cc0_scratch0).view a (off := ![0, 0]) (size := S256x2048.size) (o := 0) (W := 256) h p L y rfl rfl (Or.inr (by omega))).trans ?_
    refine ((hr _ y).symm.trans (congrFun hL y)).trans ?_
    unfold halves upH
    rw [dif_neg hy]
    refine congrArg b ?_
    funext a
    apply Fin.ext
    match a with
    | ⟨0, _⟩ => show (y 0).val = 256 + ((y 0).val - 256); omega
    | ⟨1, _⟩ => rfl
theorem lowH_halves (p r : Half F) : lowH (halves p r) = p := by
  funext y
  unfold lowH halves
  have : (y 0).val < 256 := (y 0).isLt
  rw [dif_pos (by exact this)]
  refine congrArg p ?_
  funext a
  match a with
  | ⟨0, _⟩ => rfl
  | ⟨1, _⟩ => rfl
theorem upH_halves (p r : Half F) : upH (halves p r) = r := by
  funext y
  unfold upH halves
  have : (y 0).val < 256 := (y 0).isLt
  rw [dif_neg (by show ¬ 256 + (y 0).val < 256; omega)]
  refine congrArg r ?_
  funext a
  apply Fin.ext
  match a with
  | ⟨0, _⟩ => show 256 + (y 0).val - 256 = (y 0).val; omega
  | ⟨1, _⟩ => rfl

theorem off4 (i : grid0.Coords) : k0_off24 i = ![(i 0).val] := (point_off i).2.2.1
theorem off5 (i : grid0.Coords) : k0_off25 i = ![(i 0).val] := (point_off i).2.2.2.1
theorem off6 (i : grid0.Coords) : k0_off26 i = ![(i 0).val] := (point_off i).2.2.2.2.1
theorem off7 (i : grid0.Coords) : k0_off27 i = ![(i 0).val] := (point_off i).2.2.2.2.2

theorem full_run1 (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) :
    accRes c q T X x g u d a ⊢ wp frame (wpE D 𝒱₀ (c : Thread nD τ) none) Set.univ (fullP i X v1 v3 1#1)
        (fun _ => accRes c q T X x g u d (fullU true v1 v3 (T (ix1 (i 0))) x g u d a)) := by
  unfold accRes
  iintro ⟨HT, HX, Hg, Hu, Hd, Ha⟩
  unfold fullP
  sl_exec
  sl_step
  isplitl [HT]; · iexact HT
  isplitl [HX]; · iexact HX
  isplitl [Hg]; · iexact Hg
  isplitl [Hu]; · iexact Hu
  isplitl [Hd]; · iexact Hd
  iapply (held_of_eq c (b := cc0_scratch0) (g := fullU true v1 v3 (T (ix1 (i 0))) x g u d a) ((stored (b := cc0_scratch0) a ![0, 0] z2 inb_S512x2048_S512x2048_0_0 _).trans (c5 (k0_pay6 v1 v3) (tabAt T i _ (off5 i) (k0_off25_inb i) _) (xFull X x _) (Memref.readAt_unit_zero (Elt F) cc0_scratch1 z2 _ g) (Memref.readAt_unit_zero (Elt F) cc0_scratch2 z2 _ u) (Memref.readAt_unit_zero (Elt F) cc0_scratch3 z2 _ d)))); iexact Ha

theorem full_run0 (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) :
    accRes c q T X x g u d a ⊢ wp frame (wpE D 𝒱₀ (c : Thread nD τ) none) Set.univ (fullP i X v1 v3 0#1)
        (fun _ => accRes c q T X x g u d (fullU false v1 v3 (T (ix1 (i 0))) x g u d a)) := by
  unfold accRes
  iintro ⟨HT, HX, Hg, Hu, Hd, Ha⟩
  unfold fullP
  sl_exec
  sl_step
  isplitl [HT]; · iexact HT
  isplitl [HX]; · iexact HX
  isplitl [Hg]; · iexact Hg
  isplitl [Hu]; · iexact Hu
  isplitl [Hd]; · iexact Hd
  iapply (held_of_eq c (b := cc0_scratch0) (g := fullU false v1 v3 (T (ix1 (i 0))) x g u d a) ((stored (b := cc0_scratch0) a ![0, 0] z2 inb_S512x2048_S512x2048_0_0 _).trans (c6 (k0_pay7 v1 v3) (tabAt T i _ (off5 i) (k0_off25_inb i) _) (xFull X x _) (Memref.readAt_unit_zero (Elt F) cc0_scratch1 z2 _ g) (Memref.readAt_unit_zero (Elt F) cc0_scratch2 z2 _ u) (Memref.readAt_unit_zero (Elt F) cc0_scratch0 z2 _ a) (Memref.readAt_unit_zero (Elt F) cc0_scratch3 z2 _ d)))); iexact Ha

theorem low_run1 (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) :
    accRes c q T X x g u d a ⊢ wp frame (wpE D 𝒱₀ (c : Thread nD τ) none) Set.univ (lowP i X v1 v3 1#1)
        (fun _ => accRes c q T X x g u d (lowU true v1 v3 (T (ix1 (i 0))) x g u d a)) := by
  unfold accRes
  iintro ⟨HT, HX, Hg, Hu, Hd, Ha⟩
  unfold lowP
  sl_exec
  sl_step
  isplitl [HT]; · iexact HT
  isplitl [HX]; · iexact HX
  isplitl [Hg]; · iexact Hg
  isplitl [Hu]; · iexact Hu
  isplitl [Hd]; · iexact Hd
  iapply (held_of_eq c (b := cc0_scratch0) (g := lowU true v1 v3 (T (ix1 (i 0))) x g u d a) ((wUp a _ _ _ _ (wLow a a _ [] _ rfl)).trans ((congrArg (fun p => halves p k0_pay10) (lowH_halves _ _)).trans (congrArg (fun p => halves p k0_pay10) (c5 (k0_pay9 v1 v3) (tabAt T i _ (off6 i) (k0_off26_inb i) _) (xLow X x _) (Memref.readAt_unit_zero (Elt F) cc0_scratch1 z2 _ g) (Memref.readAt_unit_zero (Elt F) cc0_scratch2 z2 _ u) (Memref.readAt_unit_zero (Elt F) cc0_scratch3 z2 _ d)))))); iexact Ha

theorem low_run0 (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) :
    accRes c q T X x g u d a ⊢ wp frame (wpE D 𝒱₀ (c : Thread nD τ) none) Set.univ (lowP i X v1 v3 0#1)
        (fun _ => accRes c q T X x g u d (lowU false v1 v3 (T (ix1 (i 0))) x g u d a)) := by
  unfold accRes
  iintro ⟨HT, HX, Hg, Hu, Hd, Ha⟩
  unfold lowP
  sl_exec
  sl_step
  isplitl [HT]; · iexact HT
  isplitl [HX]; · iexact HX
  isplitl [Hg]; · iexact Hg
  isplitl [Hu]; · iexact Hu
  isplitl [Hd]; · iexact Hd
  iapply (held_of_eq c (b := cc0_scratch0) (g := lowU false v1 v3 (T (ix1 (i 0))) x g u d a) ((wLow a a _ [] _ rfl).trans (congrArg (fun p => halves p (upH a)) (c6 (k0_pay11 v1 v3) (tabAt T i _ (off6 i) (k0_off26_inb i) _) (xLow X x _) (Memref.readAt_unit_zero (Elt F) cc0_scratch1 z2 _ g) (Memref.readAt_unit_zero (Elt F) cc0_scratch2 z2 _ u) (aLow a _) (Memref.readAt_unit_zero (Elt F) cc0_scratch3 z2 _ d))))); iexact Ha

theorem up_run1 (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) :
    accRes c q T X x g u d a ⊢ wp frame (wpE D 𝒱₀ (c : Thread nD τ) none) Set.univ (upP i X v1 v3 1#1)
        (fun _ => accRes c q T X x g u d (upU true v1 v3 (T (ix1 (i 0))) x g u d a)) := by
  unfold accRes
  iintro ⟨HT, HX, Hg, Hu, Hd, Ha⟩
  unfold upP
  sl_exec
  sl_step
  isplitl [HT]; · iexact HT
  isplitl [HX]; · iexact HX
  isplitl [Hg]; · iexact Hg
  isplitl [Hu]; · iexact Hu
  isplitl [Hd]; · iexact Hd
  iapply (held_of_eq c (b := cc0_scratch0) (g := upU true v1 v3 (T (ix1 (i 0))) x g u d a) ((wLow a _ _ _ _ (wUp a a _ [] _ rfl)).trans ((congrArg (fun p => halves k0_pay14 p) (upH_halves _ _)).trans (congrArg (fun p => halves k0_pay14 p) (c5 (k0_pay13 v1 v3) (tabAt T i _ (off7 i) (k0_off27_inb i) _) (xUp X x _) (Memref.readAt_unit_zero (Elt F) cc0_scratch1 z2 _ g) (Memref.readAt_unit_zero (Elt F) cc0_scratch2 z2 _ u) (Memref.readAt_unit_zero (Elt F) cc0_scratch3 z2 _ d)))))); iexact Ha

theorem up_run0 (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) :
    accRes c q T X x g u d a ⊢ wp frame (wpE D 𝒱₀ (c : Thread nD τ) none) Set.univ (upP i X v1 v3 0#1)
        (fun _ => accRes c q T X x g u d (upU false v1 v3 (T (ix1 (i 0))) x g u d a)) := by
  unfold accRes
  iintro ⟨HT, HX, Hg, Hu, Hd, Ha⟩
  unfold upP
  sl_exec
  sl_step
  isplitl [HT]; · iexact HT
  isplitl [HX]; · iexact HX
  isplitl [Hg]; · iexact Hg
  isplitl [Hu]; · iexact Hu
  isplitl [Hd]; · iexact Hd
  iapply (held_of_eq c (b := cc0_scratch0) (g := upU false v1 v3 (T (ix1 (i 0))) x g u d a) ((wUp a a _ [] _ rfl).trans (congrArg (fun p => halves (lowH a) p) (c6 (k0_pay15 v1 v3) (tabAt T i _ (off7 i) (k0_off27_inb i) _) (xUp X x _) (Memref.readAt_unit_zero (Elt F) cc0_scratch1 z2 _ g) (Memref.readAt_unit_zero (Elt F) cc0_scratch2 z2 _ u) (aUp a _) (Memref.readAt_unit_zero (Elt F) cc0_scratch3 z2 _ d))))); iexact Ha

end Pieces

end Cert.Experts.PlainIdeal
-- ==== Proof.PlainIdealPoint.lean ====
/-
One whole point of the grid, run.
-/
module

public import proofs.«01_k».proof.Proof.PlainIdealAcc

@[expose] public section

noncomputable section

namespace Cert.Experts.PlainIdeal

open Cert.PlainIdeal Cert.PlainIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)] {D : Defs nD τ sig (Elt F) Λ₀}

local notation "𝕄" => MT nD τ sig Unit (Elt F) ℕ (UR sig nD τ × Counters) ℕ

section Pieces
variable (c : Dev nD)

theorem at0 (T : (main_arg0 : Ref sig .tc).ty.Contents (Elt F)) (n : Fin 95) (o : Fin 1 → ℕ) (ho : o = ![n.val]) (hin : ∀ a, o a + S1.size a ≤ S95.size a) (h0) :
    View.readAt (Elt F) (Memref.whole main_arg0).view (Rect.unit (s := S95) o S1.size hin).toLoadRect T (Shape.Idx.first h0) = T (ix1 n) := by
  subst ho
  refine congrArg T ?_
  funext a
  match a with
  | ⟨0, _⟩ => exact Fin.ext rfl
theorem word0 (q : PosShare TreeShare) (T : (main_arg0 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg0 q T ∗ (tab c main_arg0 q T -∗ Q (T (ix1 n))))
      ⊢ wp frame (wpE D 𝒱₀ (c : Thread nD τ) none) Set.univ (smemLoad (Memref.whole main_arg0) (Rect.unit (s := S95) o S1.size hin) numel1_S1 rfl) Q := by
  have e := at0 (F := F) T n o ho hin
  iintro ⟨HT, K⟩
  sl_exec
  sl_step
  rw [e]
  iapply K
  iexact HT
theorem at1 (T : (main_arg1 : Ref sig .tc).ty.Contents (Elt F)) (n : Fin 95) (o : Fin 1 → ℕ) (ho : o = ![n.val]) (hin : ∀ a, o a + S1.size a ≤ S95.size a) (h0) :
    View.readAt (Elt F) (Memref.whole main_arg1).view (Rect.unit (s := S95) o S1.size hin).toLoadRect T (Shape.Idx.first h0) = T (ix1 n) := by
  subst ho
  refine congrArg T ?_
  funext a
  match a with
  | ⟨0, _⟩ => exact Fin.ext rfl
theorem word1 (q : PosShare TreeShare) (T : (main_arg1 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg1 q T ∗ (tab c main_arg1 q T -∗ Q (T (ix1 n))))
      ⊢ wp frame (wpE D 𝒱₀ (c : Thread nD τ) none) Set.univ (smemLoad (Memref.whole main_arg1) (Rect.unit (s := S95) o S1.size hin) numel1_S1 rfl) Q := by
  have e := at1 (F := F) T n o ho hin
  iintro ⟨HT, K⟩
  sl_exec
  sl_step
  rw [e]
  iapply K
  iexact HT
theorem at2 (T : (main_arg2 : Ref sig .tc).ty.Contents (Elt F)) (n : Fin 95) (o : Fin 1 → ℕ) (ho : o = ![n.val]) (hin : ∀ a, o a + S1.size a ≤ S95.size a) (h0) :
    View.readAt (Elt F) (Memref.whole main_arg2).view (Rect.unit (s := S95) o S1.size hin).toLoadRect T (Shape.Idx.first h0) = T (ix1 n) := by
  subst ho
  refine congrArg T ?_
  funext a
  match a with
  | ⟨0, _⟩ => exact Fin.ext rfl
theorem word2 (q : PosShare TreeShare) (T : (main_arg2 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg2 q T ∗ (tab c main_arg2 q T -∗ Q (T (ix1 n))))
      ⊢ wp frame (wpE D 𝒱₀ (c : Thread nD τ) none) Set.univ (smemLoad (Memref.whole main_arg2) (Rect.unit (s := S95) o S1.size hin) numel1_S1 rfl) Q := by
  have e := at2 (F := F) T n o ho hin
  iintro ⟨HT, K⟩
  sl_exec
  sl_step
  rw [e]
  iapply K
  iexact HT
theorem at3 (T : (main_arg3 : Ref sig .tc).ty.Contents (Elt F)) (n : Fin 95) (o : Fin 1 → ℕ) (ho : o = ![n.val]) (hin : ∀ a, o a + S1.size a ≤ S95.size a) (h0) :
    View.readAt (Elt F) (Memref.whole main_arg3).view (Rect.unit (s := S95) o S1.size hin).toLoadRect T (Shape.Idx.first h0) = T (ix1 n) := by
  subst ho
  refine congrArg T ?_
  funext a
  match a with
  | ⟨0, _⟩ => exact Fin.ext rfl
theorem word3 (q : PosShare TreeShare) (T : (main_arg3 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg3 q T ∗ (tab c main_arg3 q T -∗ Q (T (ix1 n))))
      ⊢ wp frame (wpE D 𝒱₀ (c : Thread nD τ) none) Set.univ (smemLoad (Memref.whole main_arg3) (Rect.unit (s := S95) o S1.size hin) numel1_S1 rfl) Q := by
  have e := at3 (F := F) T n o ho hin
  iintro ⟨HT, K⟩
  sl_exec
  sl_step
  rw [e]
  iapply K
  iexact HT
theorem at4 (T : (main_arg4 : Ref sig .tc).ty.Contents (Elt F)) (n : Fin 95) (o : Fin 1 → ℕ) (ho : o = ![n.val]) (hin : ∀ a, o a + S1.size a ≤ S95.size a) (h0) :
    View.readAt (Elt F) (Memref.whole main_arg4).view (Rect.unit (s := S95) o S1.size hin).toLoadRect T (Shape.Idx.first h0) = T (ix1 n) := by
  subst ho
  refine congrArg T ?_
  funext a
  match a with
  | ⟨0, _⟩ => exact Fin.ext rfl
theorem word4 (q : PosShare TreeShare) (T : (main_arg4 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg4 q T ∗ (tab c main_arg4 q T -∗ Q (T (ix1 n))))
      ⊢ wp frame (wpE D 𝒱₀ (c : Thread nD τ) none) Set.univ (smemLoad (Memref.whole main_arg4) (Rect.unit (s := S95) o S1.size hin) numel1_S1 rfl) Q := by
  have e := at4 (F := F) T n o ho hin
  iintro ⟨HT, K⟩
  sl_exec
  sl_step
  rw [e]
  iapply K
  iexact HT

/-- The accumulator after a point's three conditional pieces. -/
def accU (fst : BitVec 1) (v1 v3 t : BitVec 32) (x : Vec F S512x1024 .i32) (g u : Vec F S2048x256 .bf16) (d : Vec F S256x2048 .bf16) (a : Acc F) : Acc F :=
  let a1 := if fullW v1 v3 t = 1#1 then fullU (fst == 1#1) v1 v3 t x g u d a else a
  let a2 := if lowW v1 v3 t = 1#1 then lowU (fst == 1#1) v1 v3 t x g u d a1 else a1
  if upW v1 v3 t = 1#1 then upU (fst == 1#1) v1 v3 t x g u d a2 else a2

theorem bit01 (b : BitVec 1) : b = 1#1 ∨ b = 0#1 := by revert b; decide

theorem full_if (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) (fst : BitVec 1) (cnd : BitVec 1) :
    accRes c q T X x g u d a ⊢ wp frame (wpE D 𝒱₀ (c : Thread nD τ) none) Set.univ (if cnd = 1#1 then fullP i X v1 v3 fst else pure ⟨⟩)
        (fun _ => accRes c q T X x g u d (if cnd = 1#1 then fullU (fst == 1#1) v1 v3 (T (ix1 (i 0))) x g u d a else a)) := by
  by_cases h : cnd = 1#1
  · rw [if_pos h, if_pos h]
    rcases bit01 fst with rfl | rfl
    · exact full_run1 c q T X x g u d a i v1 v3
    · exact full_run0 c q T X x g u d a i v1 v3
  · rw [if_neg h, if_neg h]
    iintro H
    sl_step
    iexact H

theorem low_if (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) (fst : BitVec 1) (cnd : BitVec 1) :
    accRes c q T X x g u d a ⊢ wp frame (wpE D 𝒱₀ (c : Thread nD τ) none) Set.univ (if cnd = 1#1 then lowP i X v1 v3 fst else pure ⟨⟩)
        (fun _ => accRes c q T X x g u d (if cnd = 1#1 then lowU (fst == 1#1) v1 v3 (T (ix1 (i 0))) x g u d a else a)) := by
  by_cases h : cnd = 1#1
  · rw [if_pos h, if_pos h]
    rcases bit01 fst with rfl | rfl
    · exact low_run1 c q T X x g u d a i v1 v3
    · exact low_run0 c q T X x g u d a i v1 v3
  · rw [if_neg h, if_neg h]
    iintro H
    sl_step
    iexact H

theorem up_if (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) (fst : BitVec 1) (cnd : BitVec 1) :
    accRes c q T X x g u d a ⊢ wp frame (wpE D 𝒱₀ (c : Thread nD τ) none) Set.univ (if cnd = 1#1 then upP i X v1 v3 fst else pure ⟨⟩)
        (fun _ => accRes c q T X x g u d (if cnd = 1#1 then upU (fst == 1#1) v1 v3 (T (ix1 (i 0))) x g u d a else a)) := by
  by_cases h : cnd = 1#1
  · rw [if_pos h, if_pos h]
    rcases bit01 fst with rfl | rfl
    · exact up_run1 c q T X x g u d a i v1 v3
    · exact up_run0 c q T X x g u d a i v1 v3
  · rw [if_neg h, if_neg h]
    iintro H
    sl_step
    iexact H

theorem acc_run (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 v5 : BitVec 32) :
    accRes c q T X x g u d a ⊢ wp frame (wpE D 𝒱₀ (c : Thread nD τ) none) Set.univ (accP i X v1 v3 v5)
        (fun _ => accRes c q T X x g u d (accU (firstW v5) v1 v3 (T (ix1 (i 0))) x g u d a)) := by
  unfold accP
  rw [wp_bind]
  have e : (accRes c q T X x g u d a : sProp 𝕄) = iprop(tab c main_arg0 q T ∗ (X.view.loc (c : Thread nD τ) ↦[X.view.set]{fullShare} X.view.rep x) ∗ held c cc0_scratch1 g ∗ held c cc0_scratch2 u ∗ held c cc0_scratch3 d ∗ held c cc0_scratch0 a) := rfl
  rw [e]
  iintro ⟨HT, HR⟩
  iapply (word0 c q T (i 0) _ (off4 i) (k0_off24_inb i) _)
  isplitl [HT]; · iexact HT
  iintro HT
  rw [wp_bind]
  iapply (wp_wand_r Idealize.ShloMosaic.frame (wpE D 𝒱₀ (c : Thread nD τ) none) Set.univ)
  isplitl [HT HR]
  · iapply (full_if c q T X x g u d a i v1 v3 (firstW v5) (fullW v1 v3 (T (ix1 (i 0)))))
    rw [e]
    isplitl [HT]; · iexact HT
    iexact HR
  iintro %_ H
  rw [wp_bind]
  iapply (wp_wand_r Idealize.ShloMosaic.frame (wpE D 𝒱₀ (c : Thread nD τ) none) Set.univ)
  isplitl [H]
  · iapply (low_if c q T X x g u d _ i v1 v3 (firstW v5) (lowW v1 v3 (T (ix1 (i 0)))))
    iexact H
  iintro %_ H
  iapply (up_if c q T X x g u d _ i v1 v3 (firstW v5) (upW v1 v3 (T (ix1 (i 0)))))
  iexact H

/-- The three weight arrays held whole, and held but for one expert's blocks. -/
def hbm (w : Wts F) : sProp 𝕄 := iprop(held c main_arg6 w.g ∗ held c main_arg7 w.u ∗ held c main_arg8 w.d)
def hbmRest (e : Fin 32) (w : Wts F) : sProp 𝕄 :=
  iprop(((gExp w.L e).view.loc (c : Thread nD τ) ↦[Finset.univ \ (gExp w.L e).view.set]{fullShare} w.gAt c e) ∗ ((uExp w.L e).view.loc (c : Thread nD τ) ↦[Finset.univ \ (uExp w.L e).view.set]{fullShare} w.uAt c e)
    ∗ ((dExp w.L e).view.loc (c : Thread nD τ) ↦[Finset.univ \ (dExp w.L e).view.set]{fullShare} w.dAt c e))

theorem hbm_g (e : Fin 32) (w : Wts F) : held c main_arg6 w.g = ((gExp w.L e).view.loc (c : Thread nD τ) ↦{fullShare} w.gAt c e) := rfl
theorem hbm_u (e : Fin 32) (w : Wts F) : held c main_arg7 w.u = ((uExp w.L e).view.loc (c : Thread nD τ) ↦{fullShare} w.uAt c e) := rfl
theorem hbm_d (e : Fin 32) (w : Wts F) : held c main_arg8 w.d = ((dExp w.L e).view.loc (c : Thread nD τ) ↦{fullShare} w.dAt c e) := rfl

theorem hbm_split (e : Fin 32) (w : Wts F) : hbm c w ⊢ iprop(expHeld c e w ∗ hbmRest c e w) := by
  unfold hbm expHeld hbmRest
  rw [hbm_g c e w, hbm_u c e w, hbm_d c e w]
  iintro ⟨Hg, Hu, Hd⟩
  ihave ⟨Hg, Rg⟩ := (pointsTo_split_subset (ℓ := (gExp w.L e).view.loc (c : Thread nD τ)) (q := fullShare) (f := w.gAt c e) (Finset.subset_univ (gExp w.L e).view.set)).1 $$ Hg
  ihave ⟨Hu, Ru⟩ := (pointsTo_split_subset (ℓ := (uExp w.L e).view.loc (c : Thread nD τ)) (q := fullShare) (f := w.uAt c e) (Finset.subset_univ (uExp w.L e).view.set)).1 $$ Hu
  ihave ⟨Hd, Rd⟩ := (pointsTo_split_subset (ℓ := (dExp w.L e).view.loc (c : Thread nD τ)) (q := fullShare) (f := w.dAt c e) (Finset.subset_univ (dExp w.L e).view.set)).1 $$ Hd
  isplitl [Hg Hu Hd]
  · isplitl [Hg]; · iexact Hg
    isplitl [Hu]; · iexact Hu
    iexact Hd
  isplitl [Rg]; · iexact Rg
  isplitl [Ru]; · iexact Ru
  iexact Rd
theorem hbm_join (e : Fin 32) (w : Wts F) : iprop(expHeld c e w ∗ hbmRest c e w) ⊢ hbm c w := by
  unfold hbm expHeld hbmRest
  rw [hbm_g c e w, hbm_u c e w, hbm_d c e w]
  iintro ⟨⟨Hg, Hu, Hd⟩, Rg, Ru, Rd⟩
  isplitl [Hg Rg]
  · iapply (pointsTo_split_subset (ℓ := (gExp w.L e).view.loc (c : Thread nD τ)) (q := fullShare) (f := w.gAt c e) (Finset.subset_univ (gExp w.L e).view.set)).2
    isplitl [Hg]; · iexact Hg
    iexact Rg
  isplitl [Hu Ru]
  · iapply (pointsTo_split_subset (ℓ := (uExp w.L e).view.loc (c : Thread nD τ)) (q := fullShare) (f := w.uAt c e) (Finset.subset_univ (uExp w.L e).view.set)).2
    isplitl [Hu]; · iexact Hu
    iexact Ru
  iapply (pointsTo_split_subset (ℓ := (dExp w.L e).view.loc (c : Thread nD τ)) (q := fullShare) (f := w.dAt c e) (Finset.subset_univ (dExp w.L e).view.set)).2
  isplitl [Hd]; · iexact Hd
  iexact Rd

/-- A slot with nothing on its way to it. -/
def slotIdle (s : Fin 2) : sProp 𝕄 := iprop((∃ o : Old c s F, slotHeld c s o) ∗ semVal ((c : Thread nD τ), SemLoc.dma (csm s).sem) 0)
/-- A slot ahead: an expert's weights on their way, or nothing. -/
def ahead (s : Fin 2) (nx : Option (Fin 32)) (w : Wts F) : sProp 𝕄 :=
  match nx with
  | none => iprop(slotIdle c s ∗ hbm c w)
  | some e => iprop(flight c s e w ∗ hbmRest c e w)
theorem ahead_none (s : Fin 2) (w : Wts F) : ahead c s none w = iprop(slotIdle c s ∗ hbm c w) := rfl
theorem ahead_some (s : Fin 2) (e : Fin 32) (w : Wts F) : ahead c s (some e) w = iprop(flight c s e w ∗ hbmRest c e w) := rfl
/-- The cast weights held. -/
def cur (g u : Vec F S2048x256 .bf16) (d : Vec F S256x2048 .bf16) : sProp 𝕄 := iprop(held c cc0_scratch1 g ∗ held c cc0_scratch2 u ∗ held c cc0_scratch3 d)

/-- The expert a flag word asks for ahead. -/
def nxOf (v : BitVec 32) : Option (Fin 32) := if h : 16 ≤ v.toNat ∧ v.toNat < 528 then some ⟨v.toNat / 16 - 1, by omega⟩ else none

theorem issue_any (s : Fin 2) (e : Fin 32) (w : Wts F) {oS oS2 : Fin 1 → ℕ} {oG oU oD : Fin 3 → ℕ} {oW oW2 : Fin 4 → ℕ} (h1 h2 h3 h4 h5 h6 h7)
    (e1 : oS = sOff s) (e2 : oS2 = sOff s) (e3 : oG = bOff s) (e4 : oU = bOff s) (e5 : oD = bOff s) (e6 : oW = eOff w.L e) (e7 : oW2 = eOff w.L e) :
    ahead c s none w ⊢ wp frame (wpE D 𝒱₀ (c : Thread nD τ) none) Set.univ (issueP oS oS2 oG oU oD oW oW2 h1 h2 h3 h4 h5 h6 h7)
        (fun _ => ahead c s (some e) w) := by
  subst e1 e2 e3 e4 e5 e6 e7
  unfold ahead slotIdle
  dsimp only
  iintro ⟨⟨⟨%o, Ho⟩, Hs⟩, Hw⟩
  ihave ⟨He, Hr⟩ := hbm_split c e w $$ Hw
  iapply (wp_wand_r Idealize.ShloMosaic.frame (wpE D 𝒱₀ (c : Thread nD τ) none) Set.univ)
  isplitl [Ho Hs He]
  · iapply (issue_run c s e w o h1 h2 h3 h4 h5 h6 h7)
    isplitl [Ho]; · iexact Ho
    isplitl [He]; · iexact He
    iexact Hs
  iintro %_ H
  isplitl [H]; · iexact H
  iexact Hr

theorem wait_any (s : Fin 2) (e : Fin 32) (w : Wts F) (W : Waits sig Unit) {oS oS2 : Fin 1 → ℕ} {oG oU oD : Fin 3 → ℕ} {oW oW2 : Fin 4 → ℕ} (h1 h2 h3 h4 h5 h6 h7)
    (e1 : oS = sOff s) (e2 : oS2 = sOff s) (e3 : oG = bOff s) (e4 : oU = bOff s) (e5 : oD = bOff s) (e6 : oW = eOff w.L e) (e7 : oW2 = eOff w.L e) :
    iprop(flight c s e w ∗ owes (c : Thread nD τ) 0 W)
      ⊢ wp frame (wpE D 𝒱₀ (c : Thread nD τ) none) Set.univ (waitP oS oS2 oG oU oD oW oW2 h1 h2 h3 h4 h5 h6 h7)
        (fun _ => iprop((∃ o : Old c s F, own c (gSlot s) (landG c s e w o) ∗ own c (uSlot s) (landU c s e w o) ∗ own c (dSlot s) (landD c s e w o))
          ∗ expHeld c e w ∗ semVal ((c : Thread nD τ), SemLoc.dma (csm s).sem) 0 ∗ ∃ W', owes (c : Thread nD τ) 0 W')) := by
  subst e1 e2 e3 e4 e5 e6 e7
  exact wait_run c s e w W h1 h2 h3 h4 h5 h6 h7

theorem cast_any (s : Fin 2) (e : Fin 32) (w : Wts F) (o : Old c s F) (f1 f2 f3) {oG oD : Fin 3 → ℕ} (h1 h2) (e1 : oG = bOff s) (e2 : oD = bOff s) :
    iprop((own c (gSlot s) (landG c s e w o) ∗ own c (uSlot s) (landU c s e w o) ∗ own c (dSlot s) (landD c s e w o)) ∗ cur c f1 f2 f3)
      ⊢ wp frame (wpE D 𝒱₀ (c : Thread nD τ) none) Set.univ (castP oG oD h1 h2)
        (fun _ => iprop((∃ o' : Old c s F, slotHeld c s o') ∗ cur c (k0_pay1 (w.gVec e)) (k0_pay3 (k0_pay2 (w.uVec e))) (k0_pay4 (w.dVec e)))) := by
  subst e1 e2
  exact cast_run c s e w o f1 f2 f3 h1 h2

theorem other_other (s : Fin 2) : other (other s) = s := by revert s; decide

theorem ret_run {α β : Type} (x : α) (k : α → PG (F := F) β) (Q : β → sProp 𝕄) :
    wp frame (wpE D 𝒱₀ (c : Thread nD τ) none) Set.univ (k x) Q ⊢ wp frame (wpE D 𝒱₀ (c : Thread nD τ) none) Set.univ ((Prog.ret x).bind k) Q := BIBase.Entails.rfl
theorem bind_run {α β : Type} (p : PG (F := F) α) (k : α → PG (F := F) β) (Q : β → sProp 𝕄) :
    wp frame (wpE D 𝒱₀ (c : Thread nD τ) none) Set.univ p (fun x => wp frame (wpE D 𝒱₀ (c : Thread nD τ) none) Set.univ (k x) Q)
      ⊢ wp frame (wpE D 𝒱₀ (c : Thread nD τ) none) Set.univ (p >>= k) Q := by rw [wp_bind]

/-- A new expert's point. -/
theorem new_run (s : Fin 2) (e : Fin 32) (w : Wts F) (hL : w.L = 0) (W : Waits sig Unit) (f1 f2 f3) (q) (T : (main_arg1 : Ref sig .tc).ty.Contents (Elt F)) (i : grid0.Coords) (v5 : BitVec 32)
    (hw1 : k0_chk1 i v5) (hv : v5.toNat < 528) (hn : ¬ v5 &&& 4#32 = 0#32) (hs : slotOf v5 = other s) (he : ((T (ix1 (i 0)) : BitVec 32)).toNat = e.val) :
    iprop(tab c main_arg1 q T ∗ slotIdle c s ∗ ahead c (other s) (some e) w ∗ cur c f1 f2 f3 ∗ owes (c : Thread nD τ) 0 W)
      ⊢ wp frame (wpE D 𝒱₀ (c : Thread nD τ) none) Set.univ (newP i v5 hw1)
        (fun _ => iprop(tab c main_arg1 q T ∗ slotIdle c (slotOf v5) ∗ ahead c (other (slotOf v5)) (nxOf v5) w
          ∗ cur c (k0_pay1 (w.gVec e)) (k0_pay3 (k0_pay2 (w.uVec e))) (k0_pay4 (w.dVec e)) ∗ ∃ W', owes (c : Thread nD τ) 0 W')) := by
  obtain ⟨a2, a5, a10, a13, a19⟩ := slot_off1 v5 hv
  obtain ⟨a3, a6, a7, a11, a14, a15, a17, a18⟩ := slot_off3 v5 hv
  obtain ⟨a20, a22⟩ := other_off3 v5 hv
  have hexp : ∀ x : BitVec 32, x.toNat = e.val → k0_off12 x = eOff w.L e ∧ k0_off16 x = eOff w.L e := by
    intro x hx
    obtain ⟨-, -, b12, b16⟩ := exp_off x
    rw [b12, b16, hx, hL]; exact ⟨rfl, rfl⟩
  obtain ⟨b12, b16⟩ := hexp _ he
  rw [← hs]
  unfold newP
  rw [dif_pos ((cond2_iff v5 hv).2 hn), wp_bind]
  rw [ahead_some]
  iintro ⟨HT, HI, HA, HC, HO⟩
  icases HA with ⟨HF, HR⟩
  iapply (word1 c q T (i 0) _ (point_off i).2.1 (k0_off9_inb i) _)
  isplitl [HT]; · iexact HT
  iintro HT
  iapply (wp_assume _ _ _ _ (chk3_of v5 _ (by rw [he]; exact e.isLt)))
  iapply ret_run
  iapply bind_run
  iapply (wp_wand_r Idealize.ShloMosaic.frame (wpE D 𝒱₀ (c : Thread nD τ) none) Set.univ)
  isplitl [HF HO]
  · iapply (wait_any c (slotOf v5) e w W _ _ _ _ _ _ _ a10 a13 a11 a14 a15 b12 b16)
    isplitl [HF]; · iexact HF
    iexact HO
  iintro %_ ⟨⟨%o, HS⟩, HE, HM, HO⟩
  iapply bind_run
  iapply (wp_wand_r Idealize.ShloMosaic.frame (wpE D 𝒱₀ (c : Thread nD τ) none) Set.univ)
  isplitl [HS HC]
  · iapply (cast_any c (slotOf v5) e w o f1 f2 f3 _ _ a17 a18)
    isplitl [HS]; · iexact HS
    iexact HC
  iintro %_ ⟨HS, HC⟩
  ihave HW := hbm_join c e w $$ [HE HR]
  · isplitl [HE]; · iexact HE
    iexact HR
  by_cases h16 : 16 ≤ v5.toNat
  · rw [dif_pos ((cond3_iff v5 hv).2 h16)]
    have hx : nxOf v5 = some ⟨v5.toNat / 16 - 1, by omega⟩ := by unfold nxOf; rw [dif_pos ⟨h16, hv⟩]
    rw [hx]
    iapply (wp_wand_r Idealize.ShloMosaic.frame (wpE D 𝒱₀ (c : Thread nD τ) none) Set.univ)
    isplitl [HI HW]
    · iapply (issue_any c (other (slotOf v5)) ⟨v5.toNat / 16 - 1, by omega⟩ w _ _ _ _ _ _ _ a19 a19 a20 a20 a22 (by rw [hL]; exact (next_off v5 hv h16).1) (by rw [hL]; exact (next_off v5 hv h16).2))
      rw [ahead_none, hs, other_other]
      isplitl [HI]; · iexact HI
      iexact HW
    iintro %_ HA
    isplitl [HT]; · iexact HT
    isplitl [HS HM]
    · unfold slotIdle
      isplitl [HS]; · iexact HS
      iexact HM
    isplitl [HA]; · iexact HA
    isplitl [HC]; · iexact HC
    iexact HO
  · rw [dif_neg (fun h => h16 ((cond3_iff v5 hv).1 h))]
    have hx : nxOf v5 = none := by unfold nxOf; rw [dif_neg (fun h => h16 h.1)]
    rw [hx]
    sl_step
    isplitl [HT]; · iexact HT
    isplitl [HS HM]
    · unfold slotIdle
      isplitl [HS]; · iexact HS
      iexact HM
    isplitl [HI HW]
    · unfold ahead
      rw [hs, other_other]
      isplitl [HI]; · iexact HI
      iexact HW
    isplitl [HC]; · iexact HC
    iexact HO

/-- A point of the same expert. -/
theorem same_run (P : sProp 𝕄) (i : grid0.Coords) (v5 : BitVec 32) (hw1 : k0_chk1 i v5) (hv : v5.toNat < 528) (hn : v5 &&& 4#32 = 0#32) :
    P ⊢ wp frame (wpE D 𝒱₀ (c : Thread nD τ) none) Set.univ (newP i v5 hw1) (fun _ => P) := by
  unfold newP
  rw [dif_neg (fun h => (cond2_iff v5 hv).1 h hn)]
  iintro H
  sl_step
  iexact H

/-- The first point's copies started; no other point starts any here. -/
theorem first_run (e : Fin 32) (w : Wts F) (hL : w.L = 0) (q) (T : (main_arg1 : Ref sig .tc).ty.Contents (Elt F)) (i : grid0.Coords) (v5 : BitVec 32) (hi : (i 0).val = 0)
    (hw1 : k0_chk1 i v5) (hv : v5.toNat < 528) (he : ((T (ix1 (i 0)) : BitVec 32)).toNat = e.val) :
    iprop(tab c main_arg1 q T ∗ ahead c (slotOf v5) none w)
      ⊢ wp frame (wpE D 𝒱₀ (c : Thread nD τ) none) Set.univ (firstP i v5 hw1) (fun _ => iprop(tab c main_arg1 q T ∗ ahead c (slotOf v5) (some e) w)) := by
  obtain ⟨a2, a5, a10, a13, a19⟩ := slot_off1 v5 hv
  obtain ⟨a3, a6, a7, a11, a14, a15, a17, a18⟩ := slot_off3 v5 hv
  have hexp : ∀ x : BitVec 32, x.toNat = e.val → k0_off4 x = eOff w.L e ∧ k0_off8 x = eOff w.L e := by
    intro x hx
    obtain ⟨b4, b8, -, -⟩ := exp_off x
    rw [b4, b8, hx, hL]; exact ⟨rfl, rfl⟩
  obtain ⟨b4, b8⟩ := hexp _ he
  unfold firstP
  rw [dif_pos ((cond1_iff i).2 hi), wp_bind]
  iintro ⟨HT, HA⟩
  iapply (word1 c q T (i 0) _ (by rw [hi]) inb_S95_S1_0 _)
  isplitl [HT]; · iexact HT
  iintro HT
  iapply (wp_assume _ _ _ _ (chk2_of i _ (by rw [he]; exact e.isLt)))
  iapply ret_run
  iapply (wp_wand_r Idealize.ShloMosaic.frame (wpE D 𝒱₀ (c : Thread nD τ) none) Set.univ)
  isplitl [HA]
  · iapply (issue_any c (slotOf v5) e w _ _ _ _ _ _ _ a2 a5 a3 a6 a7 b4 b8)
    iexact HA
  iintro %_ HA
  isplitl [HT]; · iexact HT
  iexact HA
theorem later_run (P : sProp 𝕄) (i : grid0.Coords) (v5 : BitVec 32) (hw1 : k0_chk1 i v5) (hi : ¬ (i 0).val = 0) :
    P ⊢ wp frame (wpE D 𝒱₀ (c : Thread nD τ) none) Set.univ (firstP i v5 hw1) (fun _ => P) := by
  unfold firstP
  rw [dif_neg (fun h => hi ((cond1_iff i).1 h))]
  iintro H
  sl_step
  iexact H

theorem stored_view {S : Shape} {e : EltTy} (O : Memref sig .tc .vmem S e) (f : O.view.ty.Contents (Elt F)) (off : Fin S.rank → ℕ) (h0 : off = fun _ => 0) (hin : ∀ a, off a + S.size a ≤ S.size a)
    (x : S.Idx → Elt F e) :
    O.view.read (Elt F) (O.view.writes (Elt F) f [⟨Rect.unit (s := S) off S.size hin, x⟩]) = x := by
  subst h0
  exact View.read_writes_whole (Val := Elt F) O.view f x

theorem rep_of_eq {S : Shape} {e : EltTy} (O : Memref sig .tc .vmem S e) (f : Buf (Elt F) (O.view.loc (c : Thread nD τ))) (x : S.Idx → Elt F e) (h : O.view.read (Elt F) f = x) :
    ((O.view.loc (c : Thread nD τ) ↦[O.view.set]{fullShare} f : sProp 𝕄)) ⊢ (O.view.loc (c : Thread nD τ) ↦[O.view.set]{fullShare} O.view.rep x) := by
  have e := pointsTo_rep_entails (Ix := Unit) (Name := ℕ) (U := UR sig nD τ × Counters) (Lvl := ℕ) (c : Thread nD τ) O f fullShare
  rwa [h] at e

/-- The finished tile's store. -/
theorem out_run (O : Memref sig .tc .vmem S512x2048 .bf16) (hO : O.IsWhole) (a : Acc F) (y : Vec F S512x2048 .bf16) :
    iprop(held c cc0_scratch0 a ∗ (O.view.loc (c : Thread nD τ) ↦[O.view.set]{fullShare} O.view.rep y))
      ⊢ wp frame (wpE D 𝒱₀ (c : Thread nD τ) none) Set.univ (outP O hO)
        (fun _ => iprop(held c cc0_scratch0 a ∗ (O.view.loc (c : Thread nD τ) ↦[O.view.set]{fullShare} O.view.rep (k0_pay16 a)))) := by
  iintro ⟨Ha, HO⟩
  unfold outP
  sl_exec
  sl_step
  isplitl [Ha]; · iexact Ha
  iapply (rep_of_eq c O _ (k0_pay16 a) ((stored_view O _ ![0, 0] z2 inb_S512x2048_S512x2048_0_0 _).trans (congrArg k0_pay16 (Memref.readAt_unit_zero (Elt F) cc0_scratch0 z2 _ a))))
  iexact HO

/-- What the output block holds after a point. -/
def outV (v5 : BitVec 32) (a : Acc F) (y : Vec F S512x2048 .bf16) : Vec F S512x2048 .bf16 := if v5 &&& 2#32 = 0#32 then y else k0_pay16 a

theorem last_run (O : Memref sig .tc .vmem S512x2048 .bf16) (hO : O.IsWhole) (v5 : BitVec 32) (hv : v5.toNat < 528) (a : Acc F) (y : Vec F S512x2048 .bf16) :
    iprop(held c cc0_scratch0 a ∗ (O.view.loc (c : Thread nD τ) ↦[O.view.set]{fullShare} O.view.rep y))
      ⊢ wp frame (wpE D 𝒱₀ (c : Thread nD τ) none) Set.univ (lastP O hO v5)
        (fun _ => iprop(held c cc0_scratch0 a ∗ (O.view.loc (c : Thread nD τ) ↦[O.view.set]{fullShare} O.view.rep (outV v5 a y)))) := by
  unfold lastP outV
  rw [wp_bind]
  by_cases h : v5 &&& 2#32 = 0#32
  · rw [dif_neg (fun h' => (cond13_iff v5 hv).1 h' h), if_pos h]
    iintro H
    sl_step
    sl_step
    iexact H
  · rw [dif_pos ((cond13_iff v5 hv).2 h), if_neg h]
    iintro H
    iapply (wp_wand_r Idealize.ShloMosaic.frame (wpE D 𝒱₀ (c : Thread nD τ) none) Set.univ)
    isplitl [H]
    · iapply (out_run c O hO a y); iexact H
    iintro %_ H
    sl_step
    iexact H

theorem pure_run {α : Type} (x : α) (Q : α → sProp 𝕄) : Q x ⊢ wp frame (wpE D 𝒱₀ (c : Thread nD τ) none) Set.univ (Pure.pure x : PG (F := F) α) Q := by
  iintro H
  sl_step
  iexact H

/-- The tables a point reads. -/
def tabs (q : PosShare TreeShare) (T0 : (main_arg0 : Ref sig .tc).ty.Contents (Elt F)) (T1 : (main_arg1 : Ref sig .tc).ty.Contents (Elt F)) (T2 : (main_arg2 : Ref sig .tc).ty.Contents (Elt F))
    (T3 : (main_arg3 : Ref sig .tc).ty.Contents (Elt F)) (T4 : (main_arg4 : Ref sig .tc).ty.Contents (Elt F)) : sProp 𝕄 :=
  iprop(tab c main_arg0 q T0 ∗ tab c main_arg1 q T1 ∗ tab c main_arg2 q T2 ∗ tab c main_arg3 q T3 ∗ tab c main_arg4 q T4)

/-- A point, its two copying pieces given as what they turn the copies' state into. -/
theorem point_run (q : PosShare TreeShare) (T0 : (main_arg0 : Ref sig .tc).ty.Contents (Elt F)) (T1 : (main_arg1 : Ref sig .tc).ty.Contents (Elt F)) (T2 : (main_arg2 : Ref sig .tc).ty.Contents (Elt F))
    (T3 : (main_arg3 : Ref sig .tc).ty.Contents (Elt F)) (T4 : (main_arg4 : Ref sig .tc).ty.Contents (Elt F)) (i : grid0.Coords)
    (hv : (T4 (ix1 (i 0) : S95.Idx) : BitVec 32).toNat < 528)
    (P1 P2 P3 : sProp 𝕄) (g u : Vec F S2048x256 .bf16) (d : Vec F S256x2048 .bf16) (a : Acc F)
    (X : Memref sig .tc .vmem S512x1024 .i32) (hX : X.IsWhole) (x : Vec F S512x1024 .i32) (O : Memref sig .tc .vmem S512x2048 .bf16) (hO : O.IsWhole) (y : Vec F S512x2048 .bf16)
    (h1 : ∀ hw, iprop(tab c main_arg1 q T1 ∗ P1) ⊢ wp frame (wpE D 𝒱₀ (c : Thread nD τ) none) Set.univ (firstP i (T4 (ix1 (i 0) : S95.Idx)) hw) (fun _ => iprop(tab c main_arg1 q T1 ∗ P2)))
    (h2 : ∀ hw, iprop(tab c main_arg1 q T1 ∗ P2) ⊢ wp frame (wpE D 𝒱₀ (c : Thread nD τ) none) Set.univ (newP i (T4 (ix1 (i 0) : S95.Idx)) hw) (fun _ => iprop(tab c main_arg1 q T1 ∗ P3 ∗ cur c g u d))) :
    iprop(tabs c q T0 T1 T2 T3 T4 ∗ P1 ∗ held c cc0_scratch0 a ∗ (X.view.loc (c : Thread nD τ) ↦[X.view.set]{fullShare} X.view.rep x) ∗ (O.view.loc (c : Thread nD τ) ↦[O.view.set]{fullShare} O.view.rep y))
      ⊢ wp frame (wpE D 𝒱₀ (c : Thread nD τ) none) Set.univ (bodyP i X hX O hO)
        (fun _ => iprop(tabs c q T0 T1 T2 T3 T4 ∗ (P3 ∗ cur c g u d)
          ∗ held c cc0_scratch0 (accU (firstW (T4 (ix1 (i 0) : S95.Idx))) (T2 (ix1 (i 0) : S95.Idx)) (T3 (ix1 (i 0) : S95.Idx)) (T0 (ix1 (i 0) : S95.Idx)) x g u d a)
          ∗ (X.view.loc (c : Thread nD τ) ↦[X.view.set]{fullShare} X.view.rep x)
          ∗ (O.view.loc (c : Thread nD τ) ↦[O.view.set]{fullShare} O.view.rep (outV (T4 (ix1 (i 0) : S95.Idx)) (accU (firstW (T4 (ix1 (i 0) : S95.Idx))) (T2 (ix1 (i 0) : S95.Idx)) (T3 (ix1 (i 0) : S95.Idx)) (T0 (ix1 (i 0) : S95.Idx)) x g u d a) y)))) := by
  unfold bodyP tabs
  iintro ⟨⟨HT0, HT1, HT2, HT3, HT4⟩, HP, Ha, HX, HO⟩
  iapply bind_run
  unfold headP
  iapply bind_run
  iapply (word2 c q T2 (i 0) _ (point_off i).1 (k0_off1_inb i) _)
  isplitl [HT2]; · iexact HT2
  iintro HT2
  iapply bind_run
  iapply (word3 c q T3 (i 0) _ (point_off i).1 (k0_off1_inb i) _)
  isplitl [HT3]; · iexact HT3
  iintro HT3
  iapply bind_run
  iapply (word4 c q T4 (i 0) _ (point_off i).1 (k0_off1_inb i) _)
  isplitl [HT4]; · iexact HT4
  iintro HT4
  iapply (wp_assume _ _ _ _ (chk1_of i _ hv))
  iapply ret_run
  iapply pure_run
  dsimp only
  iapply bind_run
  iapply (wp_wand_r Idealize.ShloMosaic.frame (wpE D 𝒱₀ (c : Thread nD τ) none) Set.univ)
  isplitl [HT1 HP]
  · iapply (h1 _)
    isplitl [HT1]; · iexact HT1
    iexact HP
  iintro %_ HP
  iapply bind_run
  iapply (wp_wand_r Idealize.ShloMosaic.frame (wpE D 𝒱₀ (c : Thread nD τ) none) Set.univ)
  isplitl [HP]
  · iapply (h2 _)
    iexact HP
  iintro %_ ⟨HT1, HP, HC⟩
  iapply bind_run
  unfold cur
  icases HC with ⟨Hg, Hu, Hd⟩
  iapply (wp_wand_r Idealize.ShloMosaic.frame (wpE D 𝒱₀ (c : Thread nD τ) none) Set.univ)
  isplitl [HT0 Hg Hu Hd Ha HX]
  · iapply (acc_run c q T0 X x g u d a i _ _ _)
    unfold accRes
    isplitl [HT0]; · iexact HT0
    isplitl [HX]; · iexact HX
    isplitl [Hg]; · iexact Hg
    isplitl [Hu]; · iexact Hu
    isplitl [Hd]; · iexact Hd
    iexact Ha
  unfold accRes
  iintro %_ ⟨HT0, HX, Hg, Hu, Hd, Ha⟩
  iapply (wp_wand_r Idealize.ShloMosaic.frame (wpE D 𝒱₀ (c : Thread nD τ) none) Set.univ)
  isplitl [Ha HO]
  · iapply (last_run c O hO _ hv)
    isplitl [Ha]; · iexact Ha
    iexact HO
  iintro %_ ⟨Ha, HO⟩
  isplitl [HT0 HT1 HT2 HT3 HT4]
  · isplitl [HT0]; · iexact HT0
    isplitl [HT1]; · iexact HT1
    isplitl [HT2]; · iexact HT2
    isplitl [HT3]; · iexact HT3
    iexact HT4
  isplitl [HP Hg Hu Hd]
  · isplitl [HP]; · iexact HP
    isplitl [Hg]; · iexact Hg
    isplitl [Hu]; · iexact Hu
    iexact Hd
  isplitl [Ha]; · iexact Ha
  isplitl [HX]; · iexact HX
  iexact HO

end Pieces

end Cert.Experts.PlainIdeal
-- ==== Proof.Tables.lean ====
/- The precondition on the five control tables, read word by word. -/
module

public import proofs.«01_k».proof.Pre_tables_ok
public import Idealize.ShloMosaic.Lib.StableHlo.Predicate

@[expose] public section

namespace Cert.Experts

open Idealize.ShloMosaic Idealize.ShloMosaic.StableHlo Cert.Pre_tables_ok

/-! ## Words of one bit, and the comparisons that make them -/

theorem bit_and (p q : BitVec 1) : IntOp.andi p q = 1#1 ↔ p = 1#1 ∧ q = 1#1 := by revert p q; decide
theorem bit_or (p q : BitVec 1) : IntOp.ori p q = 1#1 ↔ p = 1#1 ∨ q = 1#1 := by revert p q; decide
theorem bit_not (p : BitVec 1) : ~~~p = 1#1 ↔ ¬ p = 1#1 := by revert p; decide
theorem bit_select (c p q : BitVec 1) :
    Scalar.select c p q = 1#1 ↔ (c = 1#1 → p = 1#1) ∧ (¬ c = 1#1 → q = 1#1) := by revert c p q; decide

variable {n : Nat}
theorem word_eq (a b : BitVec n) : IntOp.cmpi .eq a b = 1#1 ↔ a = b := Predicate.cmpi_eq_iff
theorem word_ne (a b : BitVec n) : IntOp.cmpi .ne a b = 1#1 ↔ ¬ a = b := by
  rw [IntOp.cmpi, Predicate.ofBool_eq_one_iff]; simp
theorem word_slt (a b : BitVec n) : IntOp.cmpi .slt a b = 1#1 ↔ a.toInt < b.toInt := by
  rw [IntOp.cmpi, Predicate.ofBool_eq_one_iff]; simp [BitVec.slt]
theorem word_sle (a b : BitVec n) : IntOp.cmpi .sle a b = 1#1 ↔ a.toInt ≤ b.toInt := by
  rw [IntOp.cmpi, Predicate.ofBool_eq_one_iff]; simp [BitVec.sle]
theorem word_sge (a b : BitVec n) : IntOp.cmpi .sge a b = 1#1 ↔ b.toInt ≤ a.toInt := by
  rw [IntOp.cmpi, Predicate.ofBool_eq_one_iff]; simp [BitVec.sle]

theorem slice_at {α : Type} (k : Nat) (x : S95.Idx → α) (h : S95.Slices ![k] S94) (p : Fin 94) (hp : k + p.val < 95) :
    extractStridedSlice S94 ![k] x h (Shape.Idx.ofFin p) = x (Shape.Idx.ofFin ⟨k + p.val, hp⟩) := by
  rw [extractStridedSlice]
  congr 1
  funext a
  fin_cases a
  rfl

section
variable {s : Shape} {k : Nat}
theorem andi_at (x y : IVec s k) (i : s.Idx) : andi x y i = IntOp.andi (x i) (y i) := rfl
theorem ori_at (x y : IVec s k) (i : s.Idx) : ori x y i = IntOp.ori (x i) (y i) := rfl
theorem noti_at (x : IVec s k) (i : s.Idx) : noti x i = ~~~(x i) := rfl
theorem cmpi_at (p) (x y : IVec s k) (i : s.Idx) : cmpi p x y i = IntOp.cmpi p (x i) (y i) := rfl
theorem addi_at (x y : IVec s k) (i : s.Idx) : addi x y i = x i + y i := rfl
theorem muli_at (x y : IVec s k) (i : s.Idx) : muli x y i = x i * y i := rfl
theorem divsi_at (x y : IVec s k) (i : s.Idx) : Host.divsi x y i = IntOp.divsi .host (x i) (y i) := rfl
theorem select_at (c : IVec s 1) (x y : IVec s k) (i : s.Idx) : select c x y i = Scalar.select (c i) (x i) (y i) := rfl
theorem constantI_at (b : BitVec k) (i : s.Idx) : constantI s k b i = b := rfl
theorem word_and (x y : BitVec 32) : IntOp.andi x y = x &&& y := rfl
end

/-! ## What the tables say, in numbers -/

/-- One work item: tile `t`, expert `e`, rows `l … h` of the sorted tokens, flag word `f`. -/
structure Item (t e l h : ℕ) (f : BitVec 32) : Prop where
  t_lt : t < 64
  e_lt : e < 32
  f_lt : f.toNat < 528
  le : l ≤ h
  h_le : h ≤ 32768
  inside : l < h → t * 512 ≤ l ∧ h ≤ t * 512 + 512
  flags : ¬ l < h → f &&& 7#32 = 0#32
  first : ¬ f &&& 1#32 = 0#32 → l = t * 512
  last : ¬ f &&& 2#32 = 0#32 → h = t * 512 + 512

/-- Two items in a row. -/
structure Step (t e l h : ℕ) (f : BitVec 32) (t' e' l' h' : ℕ) (f' : BitVec 32) : Prop where
  new : ¬ f' &&& 4#32 = 0#32 → f.toNat / 16 = e' + 1 ∧ ¬ f' &&& 8#32 = f &&& 8#32
  same : f' &&& 4#32 = 0#32 → e' = e ∧ f' &&& 8#32 = f &&& 8#32 ∧ f'.toNat / 16 = f.toNat / 16
  enter : l' < h' → ¬ f' &&& 1#32 = 0#32 → t' = t + 1 ∧ l < h ∧ ¬ f &&& 2#32 = 0#32
  stay : l' < h' → f' &&& 1#32 = 0#32 → t' = t ∧ l' = h ∧ l < h ∧ f &&& 2#32 = 0#32
  idle : ¬ l' < h' → t' = t ∧ (l < h → ¬ f &&& 2#32 = 0#32)

structure Tables (t e l h : Fin 95 → ℕ) (f : Fin 95 → BitVec 32) : Prop where
  item : ∀ w, Item (t w) (e w) (l w) (h w) (f w)
  step : ∀ w : Fin 94, Step (t w.castSucc) (e w.castSucc) (l w.castSucc) (h w.castSucc) (f w.castSucc)
    (t w.succ) (e w.succ) (l w.succ) (h w.succ) (f w.succ)
  start : ¬ f 0 &&& 4#32 = 0#32 ∧ ¬ f 0 &&& 1#32 = 0#32 ∧ t 0 = 0
  stop : (f 94).toNat < 16 ∧ t 94 = 63 ∧ (l 94 < h 94 → ¬ f 94 &&& 2#32 = 0#32)

theorem toNat_nonneg {x : BitVec 32} (h : 0 ≤ x.toInt) : x.toInt = x.toNat ∧ x.toNat < 2 ^ 31 := by
  rw [BitVec.toInt_eq_toNat_cond] at h ⊢
  have := x.isLt
  split at h <;> split <;> omega

theorem div16 (x : BitVec 32) (hx : x.toNat < 2 ^ 31) : (IntOp.divsi .host x 16#32).toNat = x.toNat / 16 := by
  have hc : ¬ IntOp.SDivCorner x 16#32 := by
    rintro (h | ⟨-, h⟩) <;> exact absurd h (by decide)
  rw [IntOp.divsi, if_neg hc, BitVec.sdiv_eq, BitVec.msb_eq_false_iff_two_mul_lt.2 (by omega)]
  simp [show (16#32).msb = false from by decide]

theorem item_of {t e l h f : BitVec 32}
    (hh : ((((((((((((0#32).toInt ≤ t.toInt ∧ t.toInt < (64#32).toInt) ∧ (0#32).toInt ≤ e.toInt) ∧ e.toInt < (32#32).toInt) ∧
      (0#32).toInt ≤ f.toInt) ∧ f.toInt < (528#32).toInt) ∧ (0#32).toInt ≤ l.toInt) ∧ l.toInt ≤ h.toInt) ∧
      h.toInt ≤ (32768#32).toInt) ∧
      (¬ l.toInt < h.toInt ∨ (t * 512#32).toInt ≤ l.toInt ∧ h.toInt ≤ (t * 512#32 + 512#32).toInt)) ∧
      (l.toInt < h.toInt ∨ f &&& 7#32 = 0#32)) ∧
      (¬¬ f &&& 1#32 = 0#32 ∨ l = t * 512#32)) ∧ (¬¬ f &&& 2#32 = 0#32 ∨ h = t * 512#32 + 512#32)) :
    Item t.toNat e.toNat l.toNat h.toNat f := by
  obtain ⟨⟨⟨⟨⟨⟨⟨⟨⟨⟨⟨⟨t0, t1⟩, e0⟩, e1⟩, f0⟩, f1⟩, l0⟩, lh⟩, h1⟩, ins⟩, fl⟩, fi⟩, la⟩ := hh
  have k : ∀ a : ℕ, a < 40000 → (BitVec.ofNat 32 a).toInt = a := fun a ha => Predicate.toInt_ofNat_small a (by omega)
  rw [k 0 (by omega)] at t0 e0 f0 l0
  rw [k 64 (by omega)] at t1
  rw [k 32 (by omega)] at e1
  rw [k 528 (by omega)] at f1
  rw [k 32768 (by omega)] at h1
  obtain ⟨te, -⟩ := toNat_nonneg t0
  obtain ⟨ee, -⟩ := toNat_nonneg e0
  obtain ⟨fe, -⟩ := toNat_nonneg f0
  obtain ⟨le, -⟩ := toNat_nonneg l0
  obtain ⟨he, -⟩ := toNat_nonneg (le_trans l0 lh)
  rw [te] at t1; rw [ee] at e1; rw [fe] at f1; rw [le, he] at lh ins fl; rw [he] at h1
  have tn : t.toNat < 64 := by omega
  have m1 : (t * 512#32).toNat = t.toNat * 512 := by rw [BitVec.toNat_mul]; simp; omega
  have m2 : (t * 512#32 + 512#32).toNat = t.toNat * 512 + 512 := by rw [BitVec.toNat_add, m1]; simp; omega
  have i1 : (t * 512#32).toInt = (t.toNat * 512 : ℕ) := by
    rw [← m1, Predicate.toInt_eq_toNat_of_lt (by omega)]
  have i2 : (t * 512#32 + 512#32).toInt = (t.toNat * 512 + 512 : ℕ) := by
    rw [← m2, Predicate.toInt_eq_toNat_of_lt (by omega)]
  rw [i1, i2] at ins
  refine ⟨tn, by omega, by omega, by omega, by omega, ?_, ?_, ?_, ?_⟩
  · intro hl; rcases ins with h | h <;> omega
  · intro hl; rcases fl with h | h
    · omega
    · exact h
  · intro h; rcases fi with h' | h'
    · exact absurd h h'
    · rw [h', m1]
  · intro h; rcases la with h' | h'
    · exact absurd h h'
    · rw [h', m2]

set_option maxHeartbeats 1000000 in
theorem tables_of {F : FTy → Type} [FloatOps F] [Cert.Pre_tables_ok.Facts] (a0 a1 a2 a3 a4 : IVec S95 32) (a5 a6 a7 a8)
    (hf : fn (F := F) a0 a1 a2 a3 a4 a5 a6 a7 a8 = fun _ => 1#1) :
    Tables (fun w => (a0 (Shape.Idx.ofFin w)).toNat) (fun w => (a1 (Shape.Idx.ofFin w)).toNat)
      (fun w => (a2 (Shape.Idx.ofFin w)).toNat) (fun w => (a3 (Shape.Idx.ofFin w)).toNat) (fun w => a4 (Shape.Idx.ofFin w)) := by
  have pair : ∀ w : Fin 94, _ := fun w => by
    have e := congrFun hf (Shape.Idx.ofFin w)
    have s0 := fun (x : S95.Idx → BitVec 32) (h) => slice_at 0 x h w (by omega)
    have s1 := fun (x : S95.Idx → BitVec 32) (h) => slice_at 1 x h w (by omega)
    have c0 : (⟨0 + w.val, by omega⟩ : Fin 95) = w.castSucc := Fin.ext (by simp)
    have c1 : (⟨1 + w.val, by omega⟩ : Fin 95) = w.succ := Fin.ext (by simp; omega)
    rw [c0] at s0; rw [c1] at s1
    simp only [fn, fn_part1, fn_part2, fn_part3, fn_part4, fn_part5, fn_part6, fn_part7, fn_part8, fn_part9, fn_part10, fn_part11, fn_where,
      andi_at, ori_at, noti_at, cmpi_at, select_at, addi_at, muli_at, divsi_at, constantI_at,
      Predicate.bcast_scalar _ (by decide : 0 < (⟨0, ![]⟩ : Shape).numel), Predicate.iota_apply, s0, s1,
      bit_and, bit_or, bit_not, bit_select, word_eq, word_ne, word_slt, word_sle, word_sge, word_and] at e
    exact e
  have ia : ∀ w : Fin 94, _ := fun w => item_of (pair w).1.1.1.1.1
  have ib : ∀ w : Fin 94, _ := fun w => item_of (pair w).1.1.1.1.2
  refine ⟨fun w => ?_, fun w => ?_, ?_, ?_⟩
  · by_cases hw : w.val < 94
    · exact ia ⟨w, hw⟩
    · have := ib ⟨93, by omega⟩
      rw [show (Fin.succ ⟨93, by omega⟩ : Fin 95) = w from Fin.ext (by simp; omega)] at this
      exact this
  · obtain ⟨⟨-, hn, hs⟩, ho, hi⟩ := pair w
    have i0 := ia w
    have i1 := ib w
    have lt : ∀ {x y : BitVec 32}, x.toNat ≤ y.toNat → y.toNat ≤ 32768 → (x.toInt < y.toInt ↔ x.toNat < y.toNat) := fun {x y} h h' => by
      rw [Predicate.toInt_eq_toNat_of_lt (a := x) (by omega), Predicate.toInt_eq_toNat_of_lt (a := y) (by omega)]; omega
    rw [lt i1.le i1.h_le, lt i0.le i0.h_le] at ho hi
    have d0 := div16 _ (show (a4 (Shape.Idx.ofFin w.castSucc)).toNat < 2 ^ 31 from by have := i0.f_lt; omega)
    have d1 := div16 _ (show (a4 (Shape.Idx.ofFin w.succ)).toNat < 2 ^ 31 from by have := i1.f_lt; omega)
    have sm : ∀ x : BitVec 32, x.toNat < 100 → (x + 1#32).toNat = x.toNat + 1 := fun x hx => by
      rw [BitVec.toNat_add]; simp; omega
    refine ⟨fun h => ?_, fun h => ?_, fun hl h => ?_, fun hl h => ?_, fun hl => ?_⟩
    · obtain ⟨h1, h2⟩ := hn h
      refine ⟨?_, h2⟩
      rw [← d0, h1, sm _ (by have := i1.e_lt; omega)]
    · obtain ⟨⟨h1, h2⟩, h3⟩ := hs (by simpa using h)
      exact ⟨by rw [h1], h2, by rw [← d0, ← d1, h3]⟩
    · obtain ⟨⟨h1, h2⟩, h3⟩ := (ho hl).1 h
      exact ⟨by rw [h1, sm _ (by have := i0.t_lt; omega)], h2, h3⟩
    · obtain ⟨⟨⟨h1, h2⟩, h3⟩, h4⟩ := (ho hl).2 (by simpa using h)
      exact ⟨by rw [h1], by rw [h2], h3, by simpa using h4⟩
    · obtain ⟨h1, h2⟩ := hi hl
      exact ⟨by rw [h1], fun h => h2.resolve_left (by simpa using h)⟩
  · obtain ⟨⟨h1, h2⟩, h3⟩ := ((pair 0).1.1.1.2.resolve_left (by simp))
    exact ⟨h1, h2, by rw [show (0 : Fin 95) = Fin.castSucc (0 : Fin 94) from rfl, h3]; rfl⟩
  · have hl := (pair 93).1.1.2.resolve_left (by simp)
    rw [show (Fin.succ (93 : Fin 94)) = (94 : Fin 95) from rfl] at hl
    obtain ⟨⟨h1, h2⟩, h3⟩ := hl
    have i1 := ib 93
    rw [show (Fin.succ (93 : Fin 94)) = (94 : Fin 95) from rfl] at i1
    have e1 := i1.le
    have e2 := i1.h_le
    have e3 := i1.f_lt
    rw [Predicate.toInt_eq_toNat_of_lt (a := a2 _) (by omega), Predicate.toInt_eq_toNat_of_lt (a := a3 _) (by omega)] at h3
    rw [Predicate.toInt_eq_toNat_of_lt (a := a4 _) (by omega), Predicate.toInt_ofNat_small 16 (by omega)] at h1
    exact ⟨by omega, by rw [h2]; rfl, fun h => h3.resolve_left (by omega)⟩

end Cert.Experts
-- ==== Proof.PlainIdealRegion.lean ====
/-
The region: its invariant, its body at every point, its launch.
-/
module

public import proofs.«01_k».proof.Proof.PlainIdealPoint
public import proofs.«01_k».proof.Proof.Tables
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Pipeline.TableIdle
public import Idealize.ShloMosaic.Lib.Pipeline.ValueKit.Geometry

@[expose] public section

noncomputable section

namespace Cert.Experts.PlainIdeal

open Cert.PlainIdeal Cert.PlainIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ × Counters) ℕ

section Region
variable (c : Dev nD)

/-! ## The two slots of each weight buffer -/

theorem gSlot_mem (s : Fin 2) (i : S2x2048x256.Idx) : i ∈ (gSlot s).view.set ↔ (i 0).val = s.val := by
  unfold gSlot
  rw [Memref.set_view_squeeze]
  refine ValueKit.mem_set_slice_whole_iff cc0_scratch4 _ i ?_
  rw [Rect.mem_set_unit]
  constructor
  · intro h; have := h 0; simp [bOff] at this; omega
  · intro h a
    fin_cases a
    · simp [bOff]; omega
    · have := (i 1).isLt; simp [bOff] at this ⊢; omega
    · have := (i 2).isLt; simp [bOff] at this ⊢; omega
theorem uSlot_mem (s : Fin 2) (i : S2x2048x256.Idx) : i ∈ (uSlot s).view.set ↔ (i 0).val = s.val := by
  unfold uSlot
  rw [Memref.set_view_squeeze]
  refine ValueKit.mem_set_slice_whole_iff cc0_scratch5 _ i ?_
  rw [Rect.mem_set_unit]
  constructor
  · intro h; have := h 0; simp [bOff] at this; omega
  · intro h a
    fin_cases a
    · simp [bOff]; omega
    · have := (i 1).isLt; simp [bOff] at this ⊢; omega
    · have := (i 2).isLt; simp [bOff] at this ⊢; omega
theorem dSlot_mem (s : Fin 2) (i : S2x256x2048.Idx) : i ∈ (dSlot s).view.set ↔ (i 0).val = s.val := by
  unfold dSlot
  rw [Memref.set_view_squeeze]
  refine ValueKit.mem_set_slice_whole_iff cc0_scratch6 _ i ?_
  rw [Rect.mem_set_unit]
  constructor
  · intro h; have := h 0; simp [bOff] at this; omega
  · intro h a
    fin_cases a
    · simp [bOff]; omega
    · have := (i 1).isLt; simp [bOff] at this ⊢; omega
    · have := (i 2).isLt; simp [bOff] at this ⊢; omega

theorem two_disj {α : Type} [DecidableEq α] (p : α → ℕ) (J : Fin 2 → Finset α) (h : ∀ s i, i ∈ J s ↔ p i = s.val) : ∀ s s', s ≠ s' → Disjoint (J s) (J s') := by
  intro s s' hne
  rw [Finset.disjoint_left]
  intro i h1 h2
  exact hne (Fin.ext (((h s i).1 h1).symm.trans ((h s' i).1 h2)))
theorem two_cover {α : Type} [DecidableEq α] [Fintype α] (p : α → ℕ) (hp : ∀ i, p i < 2) (J : Fin 2 → Finset α) (h : ∀ s i, i ∈ J s ↔ p i = s.val) : Finset.univ.biUnion J = Finset.univ := by
  ext i
  simp only [Finset.mem_biUnion, Finset.mem_univ, true_and, iff_true]
  exact ⟨⟨p i, hp i⟩, (h _ i).2 rfl⟩

theorem g_split : iprop(∃ f, (Memref.whole cc0_scratch4).view.loc (c : Thread nD τ) ↦{fullShare} f)
    ⊢ (iprop((∃ f, own c (gSlot 0) f) ∗ ∃ f, own c (gSlot 1) f) : sProp 𝕄) :=
  Ring.slots2_split (ℓ := (Memref.whole cc0_scratch4).view.loc (c : Thread nD τ)) (fun s => (gSlot s).view.set) (two_disj (fun i : S2x2048x256.Idx => (i 0).val) _ gSlot_mem) (two_cover (fun i : S2x2048x256.Idx => (i 0).val) (fun i => (i 0).isLt) _ gSlot_mem)
    _ _ (fun _ => rfl) (fun _ => rfl)
theorem g_join : (iprop((∃ f, own c (gSlot 0) f) ∗ ∃ f, own c (gSlot 1) f) : sProp 𝕄)
    ⊢ iprop(∃ f, (Memref.whole cc0_scratch4).view.loc (c : Thread nD τ) ↦{fullShare} f) :=
  Ring.slots2_join (ℓ := (Memref.whole cc0_scratch4).view.loc (c : Thread nD τ)) (fun s => (gSlot s).view.set) (two_disj (fun i : S2x2048x256.Idx => (i 0).val) _ gSlot_mem) (two_cover (fun i : S2x2048x256.Idx => (i 0).val) (fun i => (i 0).isLt) _ gSlot_mem)
    _ _ (fun _ => rfl) (fun _ => rfl)
theorem u_split : iprop(∃ f, (Memref.whole cc0_scratch5).view.loc (c : Thread nD τ) ↦{fullShare} f)
    ⊢ (iprop((∃ f, own c (uSlot 0) f) ∗ ∃ f, own c (uSlot 1) f) : sProp 𝕄) :=
  Ring.slots2_split (ℓ := (Memref.whole cc0_scratch5).view.loc (c : Thread nD τ)) (fun s => (uSlot s).view.set) (two_disj (fun i : S2x2048x256.Idx => (i 0).val) _ uSlot_mem) (two_cover (fun i : S2x2048x256.Idx => (i 0).val) (fun i => (i 0).isLt) _ uSlot_mem)
    _ _ (fun _ => rfl) (fun _ => rfl)
theorem u_join : (iprop((∃ f, own c (uSlot 0) f) ∗ ∃ f, own c (uSlot 1) f) : sProp 𝕄)
    ⊢ iprop(∃ f, (Memref.whole cc0_scratch5).view.loc (c : Thread nD τ) ↦{fullShare} f) :=
  Ring.slots2_join (ℓ := (Memref.whole cc0_scratch5).view.loc (c : Thread nD τ)) (fun s => (uSlot s).view.set) (two_disj (fun i : S2x2048x256.Idx => (i 0).val) _ uSlot_mem) (two_cover (fun i : S2x2048x256.Idx => (i 0).val) (fun i => (i 0).isLt) _ uSlot_mem)
    _ _ (fun _ => rfl) (fun _ => rfl)
theorem d_split : iprop(∃ f, (Memref.whole cc0_scratch6).view.loc (c : Thread nD τ) ↦{fullShare} f)
    ⊢ (iprop((∃ f, own c (dSlot 0) f) ∗ ∃ f, own c (dSlot 1) f) : sProp 𝕄) :=
  Ring.slots2_split (ℓ := (Memref.whole cc0_scratch6).view.loc (c : Thread nD τ)) (fun s => (dSlot s).view.set) (two_disj (fun i : S2x256x2048.Idx => (i 0).val) _ dSlot_mem) (two_cover (fun i : S2x256x2048.Idx => (i 0).val) (fun i => (i 0).isLt) _ dSlot_mem)
    _ _ (fun _ => rfl) (fun _ => rfl)
theorem d_join : (iprop((∃ f, own c (dSlot 0) f) ∗ ∃ f, own c (dSlot 1) f) : sProp 𝕄)
    ⊢ iprop(∃ f, (Memref.whole cc0_scratch6).view.loc (c : Thread nD τ) ↦{fullShare} f) :=
  Ring.slots2_join (ℓ := (Memref.whole cc0_scratch6).view.loc (c : Thread nD τ)) (fun s => (dSlot s).view.set) (two_disj (fun i : S2x256x2048.Idx => (i 0).val) _ dSlot_mem) (two_cover (fun i : S2x256x2048.Idx => (i 0).val) (fun i => (i 0).isLt) _ dSlot_mem)
    _ _ (fun _ => rfl) (fun _ => rfl)

/-- The two semaphores, at zero. -/
def osem : Fin 2 → SemLoc sig := fun s => SemLoc.dma (csm s).sem
theorem osem_facts : Pipeline.OwnSemFacts spec0 osem := by decide

/-- The three buffers and both semaphores. -/
def bufs : sProp 𝕄 :=
  iprop((∃ f, (Memref.whole cc0_scratch4).view.loc (c : Thread nD τ) ↦{fullShare} f) ∗ (∃ f, (Memref.whole cc0_scratch5).view.loc (c : Thread nD τ) ↦{fullShare} f) ∗ (∃ f, (Memref.whole cc0_scratch6).view.loc (c : Thread nD τ) ↦{fullShare} f)
    ∗ semVal ((c : Thread nD τ), osem 0) 0 ∗ semVal ((c : Thread nD τ), osem 1) 0)

theorem bufs_split01 : bufs c ⊢ (iprop(slotIdle c 0 ∗ slotIdle c 1) : sProp 𝕄) := by
  unfold bufs slotIdle slotHeld
  iintro ⟨Hg, Hu, Hd, H0, H1⟩
  ihave ⟨⟨%g0, G0⟩, %g1, G1⟩ := g_split c $$ Hg
  ihave ⟨⟨%u0, U0⟩, %u1, U1⟩ := u_split c $$ Hu
  ihave ⟨⟨%d0, D0⟩, %d1, D1⟩ := d_split c $$ Hd
  isplitl [G0 U0 D0 H0]
  · isplitl [G0 U0 D0]
    · iexists (⟨g0, u0, d0⟩ : Old c 0 F)
      isplitl [G0]; · iexact G0
      isplitl [U0]; · iexact U0
      iexact D0
    iexact H0
  isplitl [G1 U1 D1]
  · iexists (⟨g1, u1, d1⟩ : Old c 1 F)
    isplitl [G1]; · iexact G1
    isplitl [U1]; · iexact U1
    iexact D1
  iexact H1
theorem bufs_join01 : (iprop(slotIdle c 0 ∗ slotIdle c 1) : sProp 𝕄) ⊢ bufs c := by
  unfold bufs slotIdle slotHeld
  iintro ⟨⟨⟨%o0, G0, U0, D0⟩, H0⟩, ⟨%o1, G1, U1, D1⟩, H1⟩
  isplitl [G0 G1]
  · iapply (g_join c)
    isplitl [G0]; · iexists _; iexact G0
    iexists _; iexact G1
  isplitl [U0 U1]
  · iapply (u_join c)
    isplitl [U0]; · iexists _; iexact U0
    iexists _; iexact U1
  isplitl [D0 D1]
  · iapply (d_join c)
    isplitl [D0]; · iexists _; iexact D0
    iexists _; iexact D1
  isplitl [H0]; · iexact H0
  iexact H1
theorem bufs_split (s : Fin 2) : bufs c ⊢ (iprop(slotIdle c (other s) ∗ slotIdle c s) : sProp 𝕄) := by
  have h : ∀ s : Fin 2, s = 0 ∧ other s = 1 ∨ s = 1 ∧ other s = 0 := by decide
  rcases h s with ⟨h1, h2⟩ | ⟨h1, h2⟩ <;> rw [h2, h1]
  · refine (bufs_split01 c).trans ?_
    iintro ⟨A, B⟩
    isplitl [B]; · iexact B
    iexact A
  · exact bufs_split01 c
theorem bufs_join (s : Fin 2) : (iprop(slotIdle c s ∗ slotIdle c (other s)) : sProp 𝕄) ⊢ bufs c := by
  have h : ∀ s : Fin 2, s = 0 ∧ other s = 1 ∨ s = 1 ∧ other s = 0 := by decide
  rcases h s with ⟨h1, h2⟩ | ⟨h1, h2⟩ <;> rw [h2, h1]
  · exact bufs_join01 c
  · refine BIBase.Entails.trans ?_ (bufs_join01 c)
    iintro ⟨A, B⟩
    isplitl [B]; · iexact B
    iexact A

/-! ## The copies' state between points -/

abbrev C0 (F : FTy → Type) := (main_arg0 : Ref sig .tc).ty.Contents (Elt F)
abbrev C1 (F : FTy → Type) := (main_arg1 : Ref sig .tc).ty.Contents (Elt F)
abbrev C2 (F : FTy → Type) := (main_arg2 : Ref sig .tc).ty.Contents (Elt F)
abbrev C3 (F : FTy → Type) := (main_arg3 : Ref sig .tc).ty.Contents (Elt F)
abbrev C4 (F : FTy → Type) := (main_arg4 : Ref sig .tc).ty.Contents (Elt F)

/-- The flag word of item `n`. -/
def fl (T4 : C4 F) (n : Fin 95) : BitVec 32 := T4 (ix1 n : S95.Idx)
/-- The expert of item `n`. -/
def ex (T1 : C1 F) (n : Fin 95) : Fin 32 := ⟨((T1 (ix1 n : S95.Idx) : BitVec 32)).toNat % 32, Nat.mod_lt _ (by decide)⟩

/-- The tables' facts. -/
abbrev TablesAt (T0 : C0 F) (T1 : C1 F) (T2 : C2 F) (T3 : C3 F) (T4 : C4 F) : Prop :=
  Tables (fun w => (T0 (ix1 w : S95.Idx) : BitVec 32).toNat) (fun w => (T1 (ix1 w : S95.Idx) : BitVec 32).toNat) (fun w => (T2 (ix1 w : S95.Idx) : BitVec 32).toNat)
    (fun w => (T3 (ix1 w : S95.Idx) : BitVec 32).toNat) (fun w => T4 (ix1 w : S95.Idx))

theorem ex_val {T0 : C0 F} {T1 : C1 F} {T2 : C2 F} {T3 : C3 F} {T4 : C4 F} (hT : TablesAt T0 T1 T2 T3 T4) (n : Fin 95) :
    ((T1 (ix1 n : S95.Idx) : BitVec 32)).toNat = (ex T1 n).val := (Nat.mod_eq_of_lt (hT.item n).e_lt).symm

/-- An expert's weights, cast. -/
def curE (w : Wts F) (e : Fin 32) : sProp 𝕄 := cur c (k0_pay1 (w.gVec e)) (k0_pay3 (k0_pay2 (w.uVec e))) (k0_pay4 (w.dVec e))
/-- The copies' state after an item with flags `v`. -/
def rest (w : Wts F) (v : BitVec 32) : sProp 𝕄 := iprop(slotIdle c (slotOf v) ∗ ahead c (other (slotOf v)) (nxOf v) w)
/-- Before the first item. -/
def rest0 (w : Wts F) (v : BitVec 32) : sProp 𝕄 := iprop(slotIdle c (other (slotOf v)) ∗ ahead c (slotOf v) none w ∗ ∃ g u d, cur c g u d)
/-- Before item `n`. -/
def copies (w : Wts F) (T1 : C1 F) (T4 : C4 F) : ℕ → sProp 𝕄
  | 0 => rest0 c w (fl T4 0)
  | n + 1 => iprop(rest c w (fl T4 (Fin.ofNat 95 n)) ∗ curE c w (ex T1 (Fin.ofNat 95 n)))

theorem and8 (v : BitVec 32) (h : v.toNat < 528) : v &&& 8#32 = BitVec.ofNat 32 (8 * (slotOf v).val) := by
  have key : ∀ n : Fin 528, (fun v : BitVec 32 => v &&& 8#32 = BitVec.ofNat 32 (8 * (slotOf v).val)) (BitVec.ofNat 32 n.val) := by decide +kernel
  have e := key ⟨v.toNat, h⟩
  rwa [BitVec.ofNat_toNat, BitVec.setWidth_eq] at e
theorem slot_flip {v v' : BitVec 32} (h : v.toNat < 528) (h' : v'.toNat < 528) (hne : ¬ v' &&& 8#32 = v &&& 8#32) : slotOf v' = other (slotOf v) := by
  rw [and8 v h, and8 v' h'] at hne
  revert hne
  generalize slotOf v = s
  generalize slotOf v' = s'
  revert s s'
  decide
theorem slot_keep {v v' : BitVec 32} (h : v.toNat < 528) (h' : v'.toNat < 528) (he : v' &&& 8#32 = v &&& 8#32) : slotOf v' = slotOf v := by
  rw [and8 v h, and8 v' h'] at he
  revert he
  generalize slotOf v = s
  generalize slotOf v' = s'
  revert s s'
  decide
theorem nx_keep {v v' : BitVec 32} (h : v.toNat < 528) (h' : v'.toNat < 528) (he : v'.toNat / 16 = v.toNat / 16) : nxOf v' = nxOf v := by
  unfold nxOf
  by_cases h1 : 16 ≤ v.toNat
  · rw [dif_pos ⟨by omega, h'⟩, dif_pos ⟨h1, h⟩]
    congr 1
    exact Fin.ext (by show v'.toNat / 16 - 1 = v.toNat / 16 - 1; omega)
  · rw [dif_neg (by omega), dif_neg (by omega)]
theorem nx_new {v : BitVec 32} (h : v.toNat < 528) {e : Fin 32} (he : v.toNat / 16 = e.val + 1) : nxOf v = some e := by
  unfold nxOf
  rw [dif_pos ⟨by omega, h⟩]
  congr 1
  exact Fin.ext (by show v.toNat / 16 - 1 = e.val; omega)
theorem nx_none {v : BitVec 32} (h : v.toNat < 16) : nxOf v = none := by
  unfold nxOf
  rw [dif_neg (by omega)]

/-- What a point leaves of the copies, the tallies beside. -/
def restO (w : Wts F) (v : BitVec 32) : sProp 𝕄 := iprop(rest c w v ∗ ∃ W', owes (c : Thread nD τ) 0 W')

/-- What a point's two copying pieces do, with the table of experts held. -/
def Moves (q : PosShare TreeShare) (T1 : C1 F) (v : BitVec 32) (i : grid0.Coords) (P1 P3 : sProp 𝕄) (g u : Vec F S2048x256 .bf16) (d : Vec F S256x2048 .bf16) : Prop :=
  ∃ P2 : sProp 𝕄,
    (∀ hw, iprop(tab c main_arg1 q T1 ∗ P1) ⊢ wp frame (wpE (defs₀ (F := F)) 𝒱₀ (c : Thread nD τ) none) Set.univ (firstP i v hw) (fun _ => iprop(tab c main_arg1 q T1 ∗ P2)))
    ∧ (∀ hw, iprop(tab c main_arg1 q T1 ∗ P2) ⊢ wp frame (wpE (defs₀ (F := F)) 𝒱₀ (c : Thread nD τ) none) Set.univ (newP i v hw) (fun _ => iprop(tab c main_arg1 q T1 ∗ P3 ∗ cur c g u d)))

theorem moves_zero {T0 : C0 F} {T1 : C1 F} {T2 : C2 F} {T3 : C3 F} {T4 : C4 F} (hT : TablesAt T0 T1 T2 T3 T4) (q : PosShare TreeShare) (w : Wts F) (hL : w.L = 0) (W : Waits sig Unit) (i : grid0.Coords) (hi : i 0 = (0 : Fin 95))
    (g1 u1 : Vec F S2048x256 .bf16) (d1 : Vec F S256x2048 .bf16) :
    Moves c q T1 (fl T4 0) i iprop((slotIdle c (other (slotOf (fl T4 0))) ∗ ahead c (slotOf (fl T4 0)) none w ∗ cur c g1 u1 d1) ∗ owes (c : Thread nD τ) 0 W) (restO c w (fl T4 0))
      (k0_pay1 (w.gVec (ex T1 0))) (k0_pay3 (k0_pay2 (w.uVec (ex T1 0)))) (k0_pay4 (w.dVec (ex T1 0))) := by
  have hv : (fl T4 0).toNat < 528 := (hT.item 0).f_lt
  have hi0 : (i 0).val = 0 := congrArg (fun x : Fin 95 => x.val) hi
  have he : ((T1 (ix1 (i 0)) : BitVec 32)).toNat = (ex T1 0).val := by rw [hi]; exact ex_val hT 0
  refine ⟨iprop(slotIdle c (other (slotOf (fl T4 0))) ∗ ahead c (slotOf (fl T4 0)) (some (ex T1 0)) w ∗ cur c g1 u1 d1 ∗ owes (c : Thread nD τ) 0 W), ?_, ?_⟩
  · intro hw
    refine BIBase.Entails.trans ?_ ((BI.sep_mono (first_run c (ex T1 0) w hL q T1 i (fl T4 0) hi0 hw hv he)
      (BIBase.Entails.rfl (P := iprop(slotIdle c (other (slotOf (fl T4 0))) ∗ cur c g1 u1 d1 ∗ owes (c : Thread nD τ) 0 W)))).trans ((wp_frame_r _ _ _).trans (wp_mono _ _ _ fun _ => ?_)))
    · show _ ⊢ iprop((tab c main_arg1 q T1 ∗ ahead c (slotOf (fl T4 0)) none w) ∗ slotIdle c (other (slotOf (fl T4 0))) ∗ cur c g1 u1 d1 ∗ owes (c : Thread nD τ) 0 W)
      iintro ⟨HT, ⟨Hs, Ha, Hc⟩, Ho⟩
      isplitl [HT Ha]
      · isplitl [HT]; · iexact HT
        iexact Ha
      isplitl [Hs]; · iexact Hs
      isplitl [Hc]; · iexact Hc
      iexact Ho
    · iintro ⟨⟨HT, Ha⟩, Hs, Hc, Ho⟩
      isplitl [HT]; · iexact HT
      isplitl [Hs]; · iexact Hs
      isplitl [Ha]; · iexact Ha
      isplitl [Hc]; · iexact Hc
      iexact Ho
  · intro hw
    have h := new_run (D := defs₀ (F := F)) c (other (slotOf (fl T4 0))) (ex T1 0) w hL W g1 u1 d1 q T1 i (fl T4 0) hw hv hT.start.1 (other_other _).symm he
    rw [other_other] at h
    refine h.trans (wp_mono _ _ _ fun _ => ?_)
    unfold restO rest
    iintro ⟨HT, Hs, Ha, Hc, Ho⟩
    isplitl [HT]; · iexact HT
    isplitr [Hc]
    · isplitl [Hs Ha]
      · isplitl [Hs]; · iexact Hs
        iexact Ha
      iexact Ho
    iexact Hc

theorem moves_succ {T0 : C0 F} {T1 : C1 F} {T2 : C2 F} {T3 : C3 F} {T4 : C4 F} (hT : TablesAt T0 T1 T2 T3 T4) (q : PosShare TreeShare) (w : Wts F) (hL : w.L = 0) (W : Waits sig Unit) (i : grid0.Coords) (n : Fin 94) (hi : i 0 = (n.succ : Fin 95)) :
    Moves c q T1 (fl T4 n.succ) i iprop((rest c w (fl T4 n.castSucc) ∗ curE c w (ex T1 n.castSucc)) ∗ owes (c : Thread nD τ) 0 W) (restO c w (fl T4 n.succ))
      (k0_pay1 (w.gVec (ex T1 n.succ))) (k0_pay3 (k0_pay2 (w.uVec (ex T1 n.succ)))) (k0_pay4 (w.dVec (ex T1 n.succ))) := by
  have hv : (fl T4 n.castSucc).toNat < 528 := (hT.item _).f_lt
  have hv' : (fl T4 n.succ).toNat < 528 := (hT.item _).f_lt
  have hi0 : ¬ (i 0).val = 0 := fun h => Nat.succ_ne_zero n.val ((congrArg (fun x : Fin 95 => x.val) hi).symm.trans h)
  have he : ((T1 (ix1 (i 0)) : BitVec 32)).toNat = (ex T1 n.succ).val := by rw [hi]; exact ex_val hT _
  have hst := hT.step n
  refine ⟨_, fun hw => later_run c _ i (fl T4 n.succ) hw hi0, fun hw => ?_⟩
  by_cases hn : fl T4 n.succ &&& 4#32 = 0#32
  · obtain ⟨e1, e2, e3⟩ := hst.same hn
    have hs := slot_keep hv hv' e2
    have hx := nx_keep hv hv' e3
    have hee : ex T1 n.succ = ex T1 n.castSucc := Fin.ext ((ex_val hT _).symm.trans (e1.trans (ex_val hT _)))
    refine (same_run c _ i (fl T4 n.succ) hw hv' hn).trans (wp_mono _ _ _ fun _ => ?_)
    unfold restO rest curE
    rw [hs, hx, hee]
    iintro ⟨HT, ⟨Hr, Hc⟩, Ho⟩
    isplitl [HT]; · iexact HT
    isplitr [Hc]
    · isplitl [Hr]; · iexact Hr
      iexists W; iexact Ho
    iexact Hc
  · obtain ⟨e1, e2⟩ := hst.new hn
    have hs := slot_flip hv hv' e2
    have hx : nxOf (fl T4 n.castSucc) = some (ex T1 n.succ) := nx_new hv (e1.trans (congrArg (· + 1) (ex_val hT n.succ)))
    have h := new_run (D := defs₀ (F := F)) c (slotOf (fl T4 n.castSucc)) (ex T1 n.succ) w hL W (k0_pay1 (w.gVec (ex T1 n.castSucc))) (k0_pay3 (k0_pay2 (w.uVec (ex T1 n.castSucc)))) (k0_pay4 (w.dVec (ex T1 n.castSucc))) q T1 i (fl T4 n.succ) hw hv' hn hs he
    refine BIBase.Entails.trans ?_ (h.trans (wp_mono _ _ _ fun _ => ?_))
    · unfold rest curE
      rw [hx]
      iintro ⟨HT, ⟨⟨Hs, Ha⟩, Hc⟩, Ho⟩
      isplitl [HT]; · iexact HT
      isplitl [Hs]; · iexact Hs
      isplitl [Ha]; · iexact Ha
      isplitl [Hc]; · iexact Hc
      iexact Ho
    · unfold restO rest
      iintro ⟨HT, Hs, Ha, Hc, Ho⟩
      isplitl [HT]; · iexact HT
      isplitr [Hc]
      · isplitl [Hs Ha]
        · isplitl [Hs]; · iexact Hs
          iexact Ha
        iexact Ho
      iexact Hc

/-! ## The region's data and its body at every point -/

section Dat
variable (a : (pcfg0 (F := F)).Adm) (m : (ℓ : Loc nD τ sig) → Buf (Elt F) ℓ)

abbrev t0 : C0 F := a.1 (0 : Fin 5)
abbrev t1 : C1 F := a.1 (1 : Fin 5)
abbrev t2 : C2 F := a.1 (2 : Fin 5)
abbrev t3 : C3 F := a.1 (3 : Fin 5)
abbrev t4 : C4 F := a.1 (4 : Fin 5)

/-- The weights in memory. -/
def wts : Wts F := ⟨0, m ((c : Thread nD τ).loc main_arg6), m ((c : Thread nD τ).loc main_arg7), m ((c : Thread nD τ).loc main_arg8)⟩

/-- The item of a point. -/
abbrev itm (t : Fin grid0.N) : Fin 95 := grid0.coords t 0
theorem itm_val (t : Fin grid0.N) : (itm t).val = t.val := by
  revert t; decide

/-- One point's effect on the accumulator. -/
def accNext (n : Fin 95) (x : Vec F S512x1024 .i32) (y : Acc F) : Acc F :=
  accU (firstW (fl (t4 a) n)) (t2 a (ix1 n : S95.Idx)) (t3 a (ix1 n : S95.Idx)) (t0 a (ix1 n : S95.Idx)) x
    (k0_pay1 ((wts c m).gVec (ex (t1 a) n))) (k0_pay3 (k0_pay2 ((wts c m).uVec (ex (t1 a) n)))) (k0_pay4 ((wts c m).dVec (ex (t1 a) n))) y

variable (AccOk : ℕ → Acc F → Prop) (Good : Fin 95 → Vec F S512x2048 .bf16 → Prop)

/-- What holds between points. -/
def Inv (n : ℕ) : sProp 𝕄 :=
  iprop(tabs c fullShare.right (t0 a) (t1 a) (t2 a) (t3 a) (t4 a) ∗ (∃ r, prngReg c r) ∗ copies c (wts c m) (t1 a) (t4 a) n ∗ ∃ y, ⌜AccOk n y⌝ ∗ held c cc0_scratch0 y)

/-- What a point may leave in its two staging buffers. -/
def aft : (w : Fin 2) → Fin grid0.N → (((cfg0 a).win w).block.Idx → Elt F ((cfg0 a).win w).elt) → (((cfg0 a).win w).block.Idx → Elt F ((cfg0 a).win w).elt) → Prop
  | 0 => fun _ Y X => X = Y
  | 1 => fun t Y X => (¬ fl (t4 a) (itm t) &&& 2#32 = 0#32 → Good (itm t) X) ∧ (fl (t4 a) (itm t) &&& 2#32 = 0#32 → X = Y)
  | ⟨_ + 2, h⟩ => absurd h (Nat.not_lt.2 (Nat.le_add_left _ _))

def rdat : Pipeline.RDat τ (Elt F) Unit ℕ (UR sig nD τ × Counters) ℕ (cfg0 a) c where
  A w := m ((c : Thread nD τ).loc (Pipeline.arrRef spec0 w))
  after := aft a Good
  Φ t := Inv c a m AccOk t.val
  q _ := fullShare
  owed _ := 0

/-- A point's two staging buffers. -/
abbrev stX (t : Fin grid0.N) : Memref sig .tc .vmem S512x1024 .i32 := spec0_0.stage ((cfg0 a).slots t (0 : Fin 2))
abbrev stO (t : Fin grid0.N) : Memref sig .tc .vmem S512x2048 .bf16 := spec0_1.stage ((cfg0 a).slots t (1 : Fin 2))
theorem stX_whole (t : Fin grid0.N) : (stX a t).IsWhole := stage_whole0 0 ((cfg0 a).slots t (0 : Fin 2))
theorem stO_whole (t : Fin grid0.N) : (stO a t).IsWhole := stage_whole0 1 ((cfg0 a).slots t (1 : Fin 2))

theorem defs₀_row (t : Fin (cfg0 a).N) : (defs₀ (F := F)) .tc (cfg0 a).body ((cfg0 a).bodyArgs t ((cfg0 a).slots t))
    = bodyP (grid0.coords t) (stX a t) (stX_whole a t) (stO a t) (stO_whole a t) := by
  refine Eq.trans ?_ (body_eq (grid0.coords t) (stX a t) (stX_whole a t) (stO a t) (stO_whole a t))
  unfold defs₀
  rw [Defs.onTc_tc]

theorem inv_open (hT : TablesAt (t0 a) (t1 a) (t2 a) (t3 a) (t4 a)) (t : Fin grid0.N) (W : Waits sig Unit) :
    iprop(copies c (wts c m) (t1 a) (t4 a) t.val ∗ owes (c : Thread nD τ) 0 W)
      ⊢ (iprop(∃ P1 : sProp 𝕄, ⌜Moves c fullShare.right (t1 a) (fl (t4 a) (itm t)) (grid0.coords t) P1 (restO c (wts c m) (fl (t4 a) (itm t)))
          (k0_pay1 ((wts c m).gVec (ex (t1 a) (itm t)))) (k0_pay3 (k0_pay2 ((wts c m).uVec (ex (t1 a) (itm t))))) (k0_pay4 ((wts c m).dVec (ex (t1 a) (itm t))))⌝ ∗ P1) : sProp 𝕄) := by
  have hv := itm_val t
  obtain ⟨n, hn⟩ := t
  have hN : n < 95 := by rw [N_0] at hn; exact hn
  cases n with
  | zero =>
    have hi : itm ⟨0, hn⟩ = (0 : Fin 95) := Fin.ext hv
    unfold copies rest0
    iintro ⟨⟨Hs, Ha, %g, %u, %d, Hc⟩, Ho⟩
    iexists (iprop((slotIdle c (other (slotOf (fl (t4 a) 0))) ∗ ahead c (slotOf (fl (t4 a) 0)) none (wts c m) ∗ cur c g u d) ∗ owes (c : Thread nD τ) 0 W) : sProp 𝕄)
    isplitr
    · ipureintro
      rw [hi]
      exact moves_zero c hT _ _ rfl W _ hi g u d
    isplitr [Ho]
    · isplitl [Hs]; · iexact Hs
      isplitl [Ha]; · iexact Ha
      iexact Hc
    iexact Ho
  | succ n =>
    have hi : itm ⟨n + 1, hn⟩ = ((⟨n, by omega⟩ : Fin 94).succ : Fin 95) := Fin.ext hv
    have hc : Fin.ofNat 95 n = ((⟨n, by omega⟩ : Fin 94).castSucc : Fin 95) := Fin.ext (Nat.mod_eq_of_lt (by omega))
    have e : copies c (wts c m) (t1 a) (t4 a) (n + 1) = iprop(rest c (wts c m) (fl (t4 a) (⟨n, by omega⟩ : Fin 94).castSucc) ∗ curE c (wts c m) (ex (t1 a) (⟨n, by omega⟩ : Fin 94).castSucc)) := by
      show iprop(rest c (wts c m) (fl (t4 a) (Fin.ofNat 95 n)) ∗ curE c (wts c m) (ex (t1 a) (Fin.ofNat 95 n))) = _
      rw [hc]
    show iprop(copies c (wts c m) (t1 a) (t4 a) (n + 1) ∗ _) ⊢ _
    rw [e]
    iintro H
    iexists (iprop((rest c (wts c m) (fl (t4 a) (⟨n, by omega⟩ : Fin 94).castSucc) ∗ curE c (wts c m) (ex (t1 a) (⟨n, by omega⟩ : Fin 94).castSucc)) ∗ owes (c : Thread nD τ) 0 W) : sProp 𝕄)
    isplitr
    · ipureintro
      rw [hi]
      exact moves_succ c hT _ _ rfl W _ _ hi
    iexact H

theorem copies_succ (t : Fin grid0.N) : copies c (wts c m) (t1 a) (t4 a) (t.val + 1) = iprop(rest c (wts c m) (fl (t4 a) (itm t)) ∗ curE c (wts c m) (ex (t1 a) (itm t))) := by
  have hc : Fin.ofNat 95 t.val = itm t := Fin.ext ((Nat.mod_eq_of_lt (t.isLt.trans_eq N_0)).trans (itm_val t).symm)
  show iprop(rest c (wts c m) (fl (t4 a) (Fin.ofNat 95 t.val)) ∗ curE c (wts c m) (ex (t1 a) (Fin.ofNat 95 t.val))) = _
  rw [hc]

theorem point_ok (hT : TablesAt (t0 a) (t1 a) (t2 a) (t3 a) (t4 a)) (t : Fin grid0.N) (x : Vec F S512x1024 .i32) (o : Vec F S512x2048 .bf16)
    (hAcc : ∀ y, AccOk t.val y → AccOk (t.val + 1) (accNext c a m (itm t) x y))
    (hGood : ∀ y, AccOk (t.val + 1) y → ¬ fl (t4 a) (itm t) &&& 2#32 = 0#32 → Good (itm t) (k0_pay16 y)) :
    iprop(Inv c a m AccOk t.val ∗ (∃ W, owes (c : Thread nD τ) 0 W) ∗ ((stX a t).view.loc (c : Thread nD τ) ↦[(stX a t).view.set]{fullShare} (stX a t).view.rep x)
        ∗ ((stO a t).view.loc (c : Thread nD τ) ↦[(stO a t).view.set]{fullShare} (stO a t).view.rep o))
      ⊢ wp frame (wpE (defs₀ (F := F)) 𝒱₀ (c : Thread nD τ) none) Set.univ (bodyP (grid0.coords t) (stX a t) (stX_whole a t) (stO a t) (stO_whole a t))
        (fun _ => iprop(Inv c a m AccOk (t.val + 1) ∗ (∃ W, owes (c : Thread nD τ) 0 W) ∗ ((stX a t).view.loc (c : Thread nD τ) ↦[(stX a t).view.set]{fullShare} (stX a t).view.rep x)
          ∗ ∃ o', ⌜aft a Good 1 t o o'⌝ ∗ ((stO a t).view.loc (c : Thread nD τ) ↦[(stO a t).view.set]{fullShare} (stO a t).view.rep o'))) := by
  unfold Inv
  rw [copies_succ]
  iintro ⟨⟨HT, Hr, Hc, %y, %hy, Ha⟩, ⟨%W, Ho⟩, HX, HO⟩
  ihave ⟨%P1, %hM, HP⟩ := inv_open c a m hT t W $$ [Hc Ho]
  · isplitl [Hc]; · iexact Hc
    iexact Ho
  obtain ⟨P2, h1, h2⟩ := hM
  have hp := point_run (D := defs₀ (F := F)) c fullShare.right (t0 a) (t1 a) (t2 a) (t3 a) (t4 a) (grid0.coords t) (hT.item (itm t)).f_lt P1 P2 (restO c (wts c m) (fl (t4 a) (itm t)))
    _ _ _ y (stX a t) (stX_whole a t) x (stO a t) (stO_whole a t) o h1 h2
  iapply (wp_wand_r _ _ _)
  isplitl [HT HP Ha HX HO]
  · iapply hp
    isplitl [HT]; · iexact HT
    isplitl [HP]; · iexact HP
    isplitl [Ha]; · iexact Ha
    isplitl [HX]; · iexact HX
    iexact HO
  iintro %_ ⟨HT, ⟨HR, Hcur⟩, Ha, HX, HO⟩
  unfold restO
  icases HR with ⟨HR, Ho⟩
  isplitl [HT Hr HR Hcur Ha]
  · isplitl [HT]; · iexact HT
    isplitl [Hr]; · iexact Hr
    isplitl [HR Hcur]
    · isplitl [HR]; · iexact HR
      unfold curE
      iexact Hcur
    iexists (accNext c a m (itm t) x y)
    isplitr
    · ipureintro; exact hAcc y hy
    iexact Ha
  isplitl [Ho]; · iexact Ho
  isplitl [HX]; · iexact HX
  iexists (outV (fl (t4 a) (itm t)) (accNext c a m (itm t) x y) o)
  isplitr
  · ipureintro
    refine ⟨fun hl => ?_, fun hl => ?_⟩
    · unfold outV; rw [if_neg hl]; exact hGood _ (hAcc y hy) hl
    · unfold outV; rw [if_pos hl]
  iexact HO

theorem body_obligation (hT : TablesAt (t0 a) (t1 a) (t2 a) (t3 a) (t4 a))
    (hAcc : ∀ (t : Fin grid0.N) x y, (rdat c a m AccOk Good).Finds (0 : Fin 2) t x → AccOk t.val y → AccOk (t.val + 1) (accNext c a m (itm t) x y))
    (hGood : ∀ (t : Fin grid0.N) y, AccOk (t.val + 1) y → ¬ fl (t4 a) (itm t) &&& 2#32 = 0#32 → Good (itm t) (k0_pay16 y)) :
    (rdat c a m AccOk Good).BodyObligation defs₀ 𝒱₀ () Set.univ := by
  intro t Y hY
  rw [bigSep_W0, bigSep_W0, defs₀_row]
  have h := point_ok c a m AccOk Good hT t (Y (0 : Fin 2)) (Y (1 : Fin 2)) (fun y => hAcc t _ y (hY (0 : Fin 2))) (hGood t)
  refine BIBase.Entails.trans ?_ (h.trans (wp_mono _ _ _ fun _ => ?_))
  · show iprop(Inv c a m AccOk t.val ∗ (∃ W : Waits sig Unit, ⌜↑W ⊆ (rdat c a m AccOk Good).bound () t.castSucc⌝ ∗ owes (c : Thread nD τ) 0 W)
      ∗ owns (c : Thread nD τ) (stX a t) fullShare (Y (0 : Fin 2)) ∗ owns (c : Thread nD τ) (stO a t) fullShare (Y (1 : Fin 2))) ⊢ _
    iintro ⟨HI, ⟨%W, %_, Ho⟩, HX, HO⟩
    isplitl [HI]; · iexact HI
    isplitl [Ho]; · iexists W; iexact Ho
    isplitl [HX]; · iapply (rep_of_owns (c : Thread nD τ) (stX a t) fullShare (Y (0 : Fin 2))); iexact HX
    iapply (rep_of_owns (c : Thread nD τ) (stO a t) fullShare (Y (1 : Fin 2))); iexact HO
  · show _ ⊢ iprop(Inv c a m AccOk (t.val + 1) ∗ (∃ W : Waits sig Unit, ⌜↑W ⊆ (rdat c a m AccOk Good).bound () t.succ⌝ ∗ owes (c : Thread nD τ) 0 W)
      ∗ (∃ X, ⌜aft a Good 0 t (Y (0 : Fin 2)) X⌝ ∗ owns (c : Thread nD τ) (stX a t) fullShare X) ∗ ∃ X, ⌜aft a Good 1 t (Y (1 : Fin 2)) X⌝ ∗ owns (c : Thread nD τ) (stO a t) fullShare X)
    iintro ⟨HI, ⟨%W, Ho⟩, HX, %o', %ho, HO⟩
    isplitl [HI]; · iexact HI
    isplitl [Ho]
    · iexists W
      isplitr
      · ipureintro; exact fun _ _ => Or.inl trivial
      iexact Ho
    isplitl [HX]
    · iexists (Y (0 : Fin 2))
      isplitr
      · ipureintro; exact rfl
      iapply (owns_of_rep (c : Thread nD τ) (stX a t) fullShare (Y (0 : Fin 2))); iexact HX
    iexists o'
    isplitr
    · ipureintro; exact ho
    iapply (owns_of_rep (c : Thread nD τ) (stO a t) fullShare o'); iexact HO

/-! ## The first and last points of the region -/

theorem prefs_eq (v : pre0.Contents (Elt F)) : (Pipeline.ΦT pre0 v c : sProp 𝕄) = tabs c fullShare.right (v (0 : Fin 5)) (v (1 : Fin 5)) (v (2 : Fin 5)) (v (3 : Fin 5)) (v (4 : Fin 5)) :=
  bigSep_univ_eq_bigSepL [(0 : Fin 5), 1, 2, 3, 4] (by decide) (by decide) _
theorem sems_eq : (Pipeline.ownSems0 (Ix := Unit) (Name := ℕ) (U := UR sig nD τ × Counters) (Lvl := ℕ) (Val := Elt F) (τ := τ) osem c : sProp 𝕄)
    = iprop(semVal ((c : Thread nD τ), osem 0) 0 ∗ semVal ((c : Thread nD τ), osem 1) 0) :=
  bigSep_univ_eq_bigSepL [(0 : Fin 2), 1] (by decide) (by decide) _

/-- What memory holds at launch. -/
abbrev V (c : Dev nD) (b : Ref sig .tc) : Buf (Elt F) ((c : Thread nD τ).loc b) := m ((c : Thread nD τ).loc b)
/-- The arrays the copies read. -/
abbrev HB : Finset (Ref sig .tc) := Pipeline.restRefsP sig pre0 spec0
theorem hb_eq : (bigSep HB fun b => ((c : Thread nD τ).loc b) ↦{fullShare} V m c b : sProp 𝕄) = hbm c (wts c m) :=
  unscopedRestP0_eq c (V m c)

theorem inv_first (h0 : ∀ y, AccOk 0 y) : iprop(Pipeline.ΦD osem spec0 HB (V m) c ∗ Pipeline.ΦT pre0 a.1 c) ⊢ Inv c a m AccOk 0 := by
  rw [Pipeline.ΦD_eq, prefs_eq, hb_eq, sems_eq, scopedRest0_eq]
  unfold Inv copies rest0
  iintro ⟨⟨⟨⟨%f0, H0⟩, ⟨%f1, H1⟩, ⟨%f2, H2⟩, ⟨%f3, H3⟩, H4, H5, H6⟩, Hr, ⟨Hs0, Hs1⟩, Hh⟩, HT⟩
  isplitl [HT]; · iexact HT
  isplitl [Hr]; · iexact Hr
  isplitr [H0]
  · ihave ⟨Ha, Hb⟩ := bufs_split c (slotOf (fl (t4 a) 0)) $$ [H4 H5 H6 Hs0 Hs1]
    · unfold bufs
      isplitl [H4]; · iexact H4
      isplitl [H5]; · iexact H5
      isplitl [H6]; · iexact H6
      isplitl [Hs0]; · iexact Hs0
      iexact Hs1
    isplitl [Ha]; · iexact Ha
    isplitl [Hb Hh]
    · rw [ahead_none]
      isplitl [Hb]; · iexact Hb
      iexact Hh
    iexists f1; iexists f2; iexists f3
    unfold cur
    isplitl [H1]; · iexact H1
    isplitl [H2]; · iexact H2
    iexact H3
  iexists f0
  isplitr
  · ipureintro; exact h0 f0
  iexact H0

theorem inv_last (hT : TablesAt (t0 a) (t1 a) (t2 a) (t3 a) (t4 a)) : Inv c a m AccOk grid0.N ⊢ Pipeline.ΦD osem spec0 HB (V m) c := by
  have e : grid0.N = (⟨94, by rw [N_0]; decide⟩ : Fin grid0.N).val + 1 := N_0
  have hi : itm ⟨94, by rw [N_0]; decide⟩ = (94 : Fin 95) := Fin.ext (itm_val _)
  have hx : nxOf (fl (t4 a) (94 : Fin 95)) = none := nx_none hT.stop.1
  rw [Pipeline.ΦD_eq, hb_eq, sems_eq, scopedRest0_eq]
  unfold Inv
  rw [e, copies_succ, hi]
  unfold rest
  rw [hx, ahead_none]
  iintro ⟨HT, Hr, ⟨⟨Hs, Ha, Hh⟩, Hc⟩, %y, %_, Hy⟩
  ihave Hb := bufs_join c (slotOf (fl (t4 a) 94)) $$ [Hs Ha]
  · isplitl [Hs]; · iexact Hs
    iexact Ha
  unfold bufs curE cur
  icases Hb with ⟨H4, H5, H6, Hs0, Hs1⟩
  icases Hc with ⟨H1, H2, H3⟩
  isplitl [H1 H2 H3 H4 H5 H6 Hy]
  · isplitl [Hy]; · iexists _; iexact Hy
    isplitl [H1]; · iexists _; iexact H1
    isplitl [H2]; · iexists _; iexact H2
    isplitl [H3]; · iexists _; iexact H3
    isplitl [H4]; · iexact H4
    isplitl [H5]; · iexact H5
    iexact H6
  isplitl [Hr]; · iexact Hr
  isplitl [Hs0 Hs1]
  · isplitl [Hs0]; · iexact Hs0
    iexact Hs1
  iexact Hh

/-! ## The launch -/

theorem tile_ix (pf : pre0.Contents (Elt F)) (i : grid0.Coords) : cc0_transform_0 k0_off1_inb numel1_S1 pf i = ![((pf (0 : Fin 5) : C0 F) (ix1 (i 0) : S95.Idx) : BitVec 32).toNat, 0] := by
  have e := at0 (F := F) (pf (0 : Fin 5)) (i 0) _ (point_off i).1 (k0_off1_inb i) (by show 0 < S1.numel; decide)
  unfold cc0_transform_0
  dsimp only
  rw [← e]
  rfl
theorem tile_ox (pf : pre0.Contents (Elt F)) (i : grid0.Coords) : cc0_transform_4 k0_off1_inb numel1_S1 pf i = ![((pf (0 : Fin 5) : C0 F) (ix1 (i 0) : S95.Idx) : BitVec 32).toNat, 0] := by
  have e := at0 (F := F) (pf (0 : Fin 5)) (i 0) _ (point_off i).1 (k0_off1_inb i) (by show 0 < S1.numel; decide)
  unfold cc0_transform_4
  dsimp only
  rw [← e]
  rfl

theorem words_in (n : ℕ) (hn : n < 64) : ∃ h : (∀ a, ((![n, 0] : Fin 2 → ℕ) a + 1) * S512x1024.size a ≤ S32768x1024.size a), EltTy.bits .i32 = 32 ∨ (Rect.block (s := S32768x1024) S512x1024.size (![n, 0] : Fin 2 → ℕ) h).WholeWords (EltTy.packing .i32) := by
  refine ⟨fun a => ?_, .inl rfl⟩
  fin_cases a
  · show (n + 1) * 512 ≤ 32768; omega
  · show (0 + 1) * 1024 ≤ 1024; omega
theorem words_out (n : ℕ) (hn : n < 64) : ∃ h : (∀ a, ((![n, 0] : Fin 2 → ℕ) a + 1) * S512x2048.size a ≤ S32768x2048.size a), EltTy.bits .bf16 = 32 ∨ (Rect.block (s := S32768x2048) S512x2048.size (![n, 0] : Fin 2 → ℕ) h).WholeWords (EltTy.packing .bf16) := by
  revert n
  decide +kernel

theorem ok_of (pf : pre0.Contents (Elt F)) (h : ∀ w : Fin 95, ((pf (0 : Fin 5) : C0 F) (ix1 w : S95.Idx) : BitVec 32).toNat < 64) : ok0 pf := by
  refine ⟨fun i => ?_, fun i => ?_⟩
  · rw [tile_ix]; exact words_in _ (h (i 0))
  · rw [tile_ox]; exact words_out _ (h (i 0))

/-- The tables at launch. -/
def pfm : pre0.Contents (Elt F) := fun k => V m (0 : Dev nD) (pre0.ref k)
/-- The precondition's facts of a memory. -/
abbrev TablesM : Prop := TablesAt (V m (0 : Dev nD) main_arg0 : C0 F) (V m (0 : Dev nD) main_arg1 : C1 F) (V m (0 : Dev nD) main_arg2 : C2 F) (V m (0 : Dev nD) main_arg3 : C3 F) (V m (0 : Dev nD) main_arg4 : C4 F)
/-- The tables, admitted. -/
def adm (hT : TablesM m) : (pcfg0 (F := F)).Adm := ⟨pfm m, ok_of _ fun w => (hT.item w).t_lt⟩

set_option backward.isDefEq.respectTransparency.types false in
theorem run_main (hT : TablesM m) (ρ : Dev nD → PrngReg)
    (h0 : ∀ y, AccOk 0 y)
    (hAcc : ∀ c (t : Fin grid0.N) x y, (rdat c (adm m hT) m AccOk Good).Finds (0 : Fin 2) t x → AccOk t.val y → AccOk (t.val + 1) (accNext c (adm m hT) m (itm t) x y))
    (hGood : ∀ (t : Fin grid0.N) y, AccOk (t.val + 1) y → ¬ fl (t4 (adm m hT)) (itm t) &&& 2#32 = 0#32 → Good (itm t) (k0_pay16 y)) :
    θ_run (defs (F := F)) (onTc (τ := τ) main) ⟨m, fun _ => 0, ρ⟩
      (fun r => Pipeline.RDat.FramePost (cfg0 (adm m hT)) (fun c => rdat c (adm m hT) m AccOk Good) (V m) r ∧ r.2.sem = fun _ => 0) :=
  Pipeline.RDat.θ_run_frameP_dma (pcfgs (F := F)) (fun _ => adm m hT) 0 launch0 osem defs₀ 𝒱₀ (fun c => rdat c (adm m hT) m AccOk Good)
    osem_facts HB (Finset.Subset.refl _) m ρ main
    (fun c => body_obligation c (adm m hT) m AccOk Good hT (hAcc c) hGood)
    (fun c w => Pipeline.RDat.share_full _ (fun _ => rfl) w) (fun _ _ => rfl) (V m)
    (Pipeline.hmainP_region pcfgs 0 defs₀ 𝒱₀ m main fun c => (main_chain c).trans rfl)
    (fun _ _ => rfl) (fun c k => by obtain rfl : c = 0 := Subsingleton.elim _ _; rfl)
    (fun c => inv_first c (adm m hT) m AccOk h0) (fun c => inv_last c (adm m hT) m AccOk hT)
    _ (fun _ h => h)

/-- Every argument unchanged. -/
def Kept (r : PUnit × MemSt nD τ sig (Elt F)) : Prop :=
  ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)

theorem rest_mem (b : Ref sig .tc) (hb : b ∈ ({main_arg0, main_arg1, main_arg2, main_arg3, main_arg4, main_arg6, main_arg7, main_arg8} : Finset (Ref sig .tc))) : b ∈ Pipeline.restRefs sig spec0 := by
  revert b; decide

theorem kept_of (hT : TablesM m) (r : PUnit × MemSt nD τ sig (Elt F)) (h : Pipeline.RDat.FramePost (cfg0 (adm m hT)) (fun c => rdat c (adm m hT) m AccOk Good) (V m) r) : Kept m r :=
  fun c => ⟨(h c).2 main_arg0 (rest_mem _ (by decide)), (h c).2 main_arg1 (rest_mem _ (by decide)), (h c).2 main_arg2 (rest_mem _ (by decide)), (h c).2 main_arg3 (rest_mem _ (by decide)),
    (h c).2 main_arg4 (rest_mem _ (by decide)), Pipeline.RDat.FramePost.arr_in h c (0 : Fin 2) rfl, (h c).2 main_arg6 (rest_mem _ (by decide)), (h c).2 main_arg7 (rest_mem _ (by decide)), (h c).2 main_arg8 (rest_mem _ (by decide))⟩

/-- The frame: from any memory whose tables are as the precondition says, every argument is left as it was and every semaphore at zero. -/
theorem frame_of_tables (hT : TablesM m) (ρ : Dev nD → PrngReg) :
    θ_run (defs (F := F)) (onTc (τ := τ) main) ⟨m, fun _ => 0, ρ⟩ (fun r => Kept m r ∧ r.2.sem = fun _ => 0) :=
  (θ_run defs _ _).mono (fun _ h => ⟨kept_of m (fun _ _ => True) (fun _ _ => True) hT _ h.1, h.2⟩)
    (run_main m (fun _ _ => True) (fun _ _ => True) hT ρ (fun _ => trivial) (fun _ _ _ _ _ _ => trivial) (fun _ _ _ _ => trivial))
end Dat
end Region
end Cert.Experts.PlainIdeal

end
-- ==== Proof.KernelWords.lean ====
/-
What the body computes of a flag word below 528: its slot (bit 3), the next expert (bits 4 and up, less one), and
whether the item opens a new expert (bit 2), closes its tile (bit 1) or opens it (bit 0); and the places the body
names by them.
-/
module

public import proofs.«01_k».proof.Proof.KernelBody

@[expose] public section

noncomputable section

namespace Cert.Experts.Kernel

open Cert.Kernel Cert.Kernel.Gen
open Idealize.ShloMosaic Idealize.SL.Sem

/-- The slot a flag word names. -/
def slotOf (v : BitVec 32) : Fin 2 := ⟨v.toNat / 8 % 2, Nat.mod_lt _ (by decide)⟩
/-- The other slot. -/
def other (s : Fin 2) : Fin 2 := ⟨1 - s.val, by omega⟩

theorem slot_off1 (v : BitVec 32) (h : v.toNat < 528) : k0_off2 v = ![(slotOf v).val] ∧ k0_off5 v = ![(slotOf v).val] ∧ k0_off10 v = ![(slotOf v).val] ∧ k0_off13 v = ![(slotOf v).val]
    ∧ k0_off19 v = ![(other (slotOf v)).val] := by
  have key : ∀ n : Fin 528, k0_off2 (BitVec.ofNat 32 n.val) = ![(slotOf (BitVec.ofNat 32 n.val)).val] ∧ k0_off5 (BitVec.ofNat 32 n.val) = ![(slotOf (BitVec.ofNat 32 n.val)).val]
      ∧ k0_off10 (BitVec.ofNat 32 n.val) = ![(slotOf (BitVec.ofNat 32 n.val)).val] ∧ k0_off13 (BitVec.ofNat 32 n.val) = ![(slotOf (BitVec.ofNat 32 n.val)).val]
      ∧ k0_off19 (BitVec.ofNat 32 n.val) = ![(other (slotOf (BitVec.ofNat 32 n.val))).val] := by decide +kernel
  have e := key ⟨v.toNat, h⟩
  rwa [BitVec.ofNat_toNat, BitVec.setWidth_eq] at e

theorem slot_off3 (v : BitVec 32) (h : v.toNat < 528) : k0_off3 v = ![(slotOf v).val, 0, 0] ∧ k0_off6 v = ![(slotOf v).val, 0, 0] ∧ k0_off7 v = ![(slotOf v).val, 0, 0] ∧ k0_off11 v = ![(slotOf v).val, 0, 0] ∧ k0_off14 v = ![(slotOf v).val, 0, 0] ∧ k0_off15 v = ![(slotOf v).val, 0, 0] ∧ k0_off17 v = ![(slotOf v).val, 0, 0] ∧ k0_off18 v = ![(slotOf v).val, 0, 0] := by
  have key : ∀ n : Fin 528, (fun v : BitVec 32 => k0_off3 v = ![(slotOf v).val, 0, 0] ∧ k0_off6 v = ![(slotOf v).val, 0, 0] ∧ k0_off7 v = ![(slotOf v).val, 0, 0] ∧ k0_off11 v = ![(slotOf v).val, 0, 0] ∧ k0_off14 v = ![(slotOf v).val, 0, 0] ∧ k0_off15 v = ![(slotOf v).val, 0, 0] ∧ k0_off17 v = ![(slotOf v).val, 0, 0] ∧ k0_off18 v = ![(slotOf v).val, 0, 0]) (BitVec.ofNat 32 n.val) := by decide +kernel
  have e := key ⟨v.toNat, h⟩
  rwa [BitVec.ofNat_toNat, BitVec.setWidth_eq] at e

theorem other_off3 (v : BitVec 32) (h : v.toNat < 528) : k0_off20 v = ![(other (slotOf v)).val, 0, 0] ∧ k0_off22 v = ![(other (slotOf v)).val, 0, 0] := by
  have key : ∀ n : Fin 528, (fun v : BitVec 32 => k0_off20 v = ![(other (slotOf v)).val, 0, 0] ∧ k0_off22 v = ![(other (slotOf v)).val, 0, 0]) (BitVec.ofNat 32 n.val) := by decide +kernel
  have e := key ⟨v.toNat, h⟩
  rwa [BitVec.ofNat_toNat, BitVec.setWidth_eq] at e

theorem cond2_iff (v : BitVec 32) (h : v.toNat < 528) : k0_cond2 v = 1#1 ↔ ¬v &&& 4#32 = 0#32 := by
  have key : ∀ n : Fin 528, (fun v : BitVec 32 => k0_cond2 v = 1#1 ↔ ¬v &&& 4#32 = 0#32) (BitVec.ofNat 32 n.val) := by decide +kernel
  have e := key ⟨v.toNat, h⟩
  rwa [BitVec.ofNat_toNat, BitVec.setWidth_eq] at e

theorem cond13_iff (v : BitVec 32) (h : v.toNat < 528) : k0_cond13 v = 1#1 ↔ ¬v &&& 2#32 = 0#32 := by
  have key : ∀ n : Fin 528, (fun v : BitVec 32 => k0_cond13 v = 1#1 ↔ ¬v &&& 2#32 = 0#32) (BitVec.ofNat 32 n.val) := by decide +kernel
  have e := key ⟨v.toNat, h⟩
  rwa [BitVec.ofNat_toNat, BitVec.setWidth_eq] at e

theorem cond3_iff (v : BitVec 32) (h : v.toNat < 528) : k0_cond3 v = 1#1 ↔ 16 ≤ v.toNat := by
  have key : ∀ n : Fin 528, (fun v : BitVec 32 => k0_cond3 v = 1#1 ↔ 16 ≤ v.toNat) (BitVec.ofNat 32 n.val) := by decide +kernel
  have e := key ⟨v.toNat, h⟩
  rwa [BitVec.ofNat_toNat, BitVec.setWidth_eq] at e

theorem next_off (v : BitVec 32) (h : v.toNat < 528) : 16 ≤ v.toNat → k0_off21 v = ![0, v.toNat / 16 - 1, 0, 0] ∧ k0_off23 v = ![0, v.toNat / 16 - 1, 0, 0] := by
  have key : ∀ n : Fin 528, (fun v : BitVec 32 => 16 ≤ v.toNat → k0_off21 v = ![0, v.toNat / 16 - 1, 0, 0] ∧ k0_off23 v = ![0, v.toNat / 16 - 1, 0, 0]) (BitVec.ofNat 32 n.val) := by decide +kernel
  have e := key ⟨v.toNat, h⟩
  rwa [BitVec.ofNat_toNat, BitVec.setWidth_eq] at e

theorem first_iff (v : BitVec 32) (h : v.toNat < 528) : firstW v = 1#1 ↔ ¬v &&& 1#32 = 0#32 := by
  have key : ∀ n : Fin 528, (fun v : BitVec 32 => firstW v = 1#1 ↔ ¬v &&& 1#32 = 0#32) (BitVec.ofNat 32 n.val) := by decide +kernel
  have e := key ⟨v.toNat, h⟩
  rwa [BitVec.ofNat_toNat, BitVec.setWidth_eq] at e

theorem firstA_iff (v : BitVec 32) (h : v.toNat < 528) : Scalar.cmpi .ne (Scalar.extui (firstW v)) 0#32 = 1#1 ↔ ¬v &&& 1#32 = 0#32 := by
  have key : ∀ n : Fin 528, (fun v : BitVec 32 => Scalar.cmpi .ne (Scalar.extui (firstW v)) 0#32 = 1#1 ↔ ¬v &&& 1#32 = 0#32) (BitVec.ofNat 32 n.val) := by decide +kernel
  have e := key ⟨v.toNat, h⟩
  rwa [BitVec.ofNat_toNat, BitVec.setWidth_eq] at e

theorem firstB_iff (v : BitVec 32) (h : v.toNat < 528) : Scalar.cmpi .ne (Scalar.extui (Scalar.xori (firstW v) 1#1)) 0#32 = 1#1 ↔ v &&& 1#32 = 0#32 := by
  have key : ∀ n : Fin 528, (fun v : BitVec 32 => Scalar.cmpi .ne (Scalar.extui (Scalar.xori (firstW v) 1#1)) 0#32 = 1#1 ↔ v &&& 1#32 = 0#32) (BitVec.ofNat 32 n.val) := by decide +kernel
  have e := key ⟨v.toNat, h⟩
  rwa [BitVec.ofNat_toNat, BitVec.setWidth_eq] at e

theorem bit8 (v : BitVec 32) (h : v.toNat < 528) : (v &&& 8#32 = 0#32 ↔ slotOf v = 0) := by
  have key : ∀ n : Fin 528, (fun v : BitVec 32 => (v &&& 8#32 = 0#32 ↔ slotOf v = 0)) (BitVec.ofNat 32 n.val) := by decide +kernel
  have e := key ⟨v.toNat, h⟩
  rwa [BitVec.ofNat_toNat, BitVec.setWidth_eq] at e

theorem exp_off (v : BitVec 32) : k0_off4 v = ![0, v.toNat, 0, 0] ∧ k0_off8 v = ![0, v.toNat, 0, 0] ∧ k0_off12 v = ![0, v.toNat, 0, 0] ∧ k0_off16 v = ![0, v.toNat, 0, 0] := ⟨rfl, rfl, rfl, rfl⟩

theorem point_off (i : grid0.Coords) : k0_off1 i = ![(i 0).val] ∧ k0_off9 i = ![(i 0).val] ∧ k0_off24 i = ![(i 0).val] ∧ k0_off25 i = ![(i 0).val] ∧ k0_off26 i = ![(i 0).val] ∧ k0_off27 i = ![(i 0).val] := by
  have h : (i 0).val < 95 := (i 0).isLt
  have e : (BitVec.ofNat 32 (i 0).val).toNat = (i 0).val := by rw [BitVec.toNat_ofNat]; omega
  refine ⟨?_, ?_, ?_, ?_, ?_, ?_⟩ <;> exact congrArg (fun n : ℕ => (![n] : Fin 1 → ℕ)) e

theorem cond1_iff (i : grid0.Coords) : k0_cond1 i = 1#1 ↔ (i 0).val = 0 := by
  have key : ∀ n : Fin 95, Scalar.cmpi .ne (Scalar.extui (Scalar.cmpi .eq (BitVec.ofNat 32 n.val) 0#32) : BitVec 32) 0#32 = 1#1 ↔ n.val = 0 := by decide +kernel
  exact key (i 0)

/-- A slot's place, in its semaphores, in the two buffers of wide weights and in that of tall ones; an expert's place. -/
abbrev sOff (s : Fin 2) : Fin 1 → ℕ := ![s.val]
abbrev bOff (s : Fin 2) : Fin 3 → ℕ := ![s.val, 0, 0]
abbrev eOff (e : Fin 32) : Fin 4 → ℕ := ![0, e.val, 0, 0]
theorem sOff_inb (s : Fin 2) : ∀ a, sOff s a + S1.size a ≤ S2.size a := by
  have := s.isLt; intro a; fin_cases a; show s.val + 1 ≤ 2; omega
theorem gOff_inb (s : Fin 2) : ∀ a, bOff s a + S1x2048x256.size a ≤ S2x2048x256.size a := by
  have := s.isLt; intro a; fin_cases a
  · show s.val + 1 ≤ 2; omega
  · show 0 + 2048 ≤ 2048; omega
  · show 0 + 256 ≤ 256; omega
theorem dOff_inb (s : Fin 2) : ∀ a, bOff s a + S1x256x2048.size a ≤ S2x256x2048.size a := by
  have := s.isLt; intro a; fin_cases a
  · show s.val + 1 ≤ 2; omega
  · show 0 + 256 ≤ 256; omega
  · show 0 + 2048 ≤ 2048; omega
theorem eOff_inb (e : Fin 32) : ∀ a, eOff e a + S1x1x2048x256.size a ≤ S2x32x2048x256.size a := by
  have := e.isLt; intro a; fin_cases a
  · show 0 + 1 ≤ 2; omega
  · show e.val + 1 ≤ 32; omega
  · show 0 + 2048 ≤ 2048; omega
  · show 0 + 256 ≤ 256; omega
theorem eOff_inb' (e : Fin 32) : ∀ a, eOff e a + S1x1x256x2048.size a ≤ S2x32x256x2048.size a := by
  have := e.isLt; intro a; fin_cases a
  · show 0 + 1 ≤ 2; omega
  · show e.val + 1 ≤ 32; omega
  · show 0 + 256 ≤ 256; omega
  · show 0 + 2048 ≤ 2048; omega

theorem chk2_of (i : grid0.Coords) (v : BitVec 32) (h : v.toNat < 32) : k0_chk2 i v :=
  ⟨fun _ => eOff_inb ⟨v.toNat, h⟩, fun _ => eOff_inb' ⟨v.toNat, h⟩⟩
theorem chk3_of (f v : BitVec 32) (h : v.toNat < 32) : k0_chk3 f v :=
  ⟨fun _ => eOff_inb ⟨v.toNat, h⟩, fun _ => eOff_inb' ⟨v.toNat, h⟩⟩
theorem chk1_of (i : grid0.Coords) (v : BitVec 32) (h : v.toNat < 528) : k0_chk1 i v := by
  obtain ⟨e2, e5, e10, e13, e19⟩ := slot_off1 v h
  obtain ⟨e3, e6, e7, e11, e14, e15, e17, e18⟩ := slot_off3 v h
  obtain ⟨e20, e22⟩ := other_off3 v h
  have n32 : 16 ≤ v.toNat → v.toNat / 16 - 1 < 32 := fun _ => by omega
  have i21 : k0_cond3 v = 1#1 → ∀ a, (k0_off21 v) a + S1x1x2048x256.size a ≤ S2x32x2048x256.size a := fun c => by
    have c' := (cond3_iff v h).1 c
    rw [(next_off v h c').1]; exact eOff_inb ⟨_, n32 c'⟩
  have i23 : k0_cond3 v = 1#1 → ∀ a, (k0_off23 v) a + S1x1x256x2048.size a ≤ S2x32x256x2048.size a := fun c => by
    have c' := (cond3_iff v h).1 c
    rw [(next_off v h c').2]; exact eOff_inb' ⟨_, n32 c'⟩
  unfold k0_chk1
  rw [e2, e3, e5, e6, e7, e10, e11, e13, e14, e15, e17, e18, e19, e20, e22]
  exact ⟨fun _ => sOff_inb _, fun _ => gOff_inb _, fun _ => sOff_inb _, fun _ => gOff_inb _, fun _ => dOff_inb _, fun _ => sOff_inb _, fun _ => gOff_inb _, fun _ => sOff_inb _,
    fun _ => gOff_inb _, fun _ => dOff_inb _, fun _ => gOff_inb _, fun _ => dOff_inb _, fun _ _ => sOff_inb _, fun _ _ => gOff_inb _, fun _ c => i21 c, fun _ _ => dOff_inb _, fun _ c => i23 c⟩

end Cert.Experts.Kernel
-- ==== Proof.KernelRun.lean ====
/-
The pieces of the body, run one by one.
-/
module

public import proofs.«01_k».proof.Proof.KernelWords
public import proofs.«01_k».proof.Proof.Gen.Kernel.Launch
public import Idealize.ShloMosaic.Lib.Batch
public import Idealize.ShloMosaic.Lib.Ring
public import Idealize.ShloMosaic.Lib.Tactic
public import Idealize.ShloMosaic.Lib.Pointwise
public import Idealize.ShloMosaic.Lib.QrPanel.StackBlock
public import Idealize.ShloMosaic.Lib.Pipeline.Kit
public import Idealize.ShloMosaic.Lib.Pipeline.KitQuiescent

@[expose] public section

noncomputable section

namespace Cert.Experts.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.QrPanel.StackBlock (reshapeEquiv_cons_one_one)
open Idealize.ShloMosaic.Pipeline (Dat Cfg Window BodyObligation cellOf)

variable {F : FTy → Type} [BitOps F] [∀ e, Nonempty (Elt F e)]

local notation "𝕄" => MT nD τ sig Unit (Elt F) ℕ (UR sig nD τ × Counters) ℕ
abbrev 𝒱₀ : Variants := Variants.none

/-! ## The places, named -/

/-- Slot `s` of each buffer, expert `e` of each weight array, slot `s`'s semaphore, as the body slices them. -/
def gSlot (s : Fin 2) : Memref sig .tc .vmem S2048x256 .f32 :=
  ((Memref.whole cc0_scratch4).slice (Rect.unit (s := S2x2048x256) (bOff s) S1x2048x256.size (gOff_inb s)) (fun _ => rfl)).squeeze S2048x256 squeezes_S1x2048x256_S2048x256
def uSlot (s : Fin 2) : Memref sig .tc .vmem S2048x256 .f32 :=
  ((Memref.whole cc0_scratch5).slice (Rect.unit (s := S2x2048x256) (bOff s) S1x2048x256.size (gOff_inb s)) (fun _ => rfl)).squeeze S2048x256 squeezes_S1x2048x256_S2048x256
def dSlot (s : Fin 2) : Memref sig .tc .vmem S256x2048 .f32 :=
  ((Memref.whole cc0_scratch6).slice (Rect.unit (s := S2x256x2048) (bOff s) S1x256x2048.size (dOff_inb s)) (fun _ => rfl)).squeeze S256x2048 squeezes_S1x256x2048_S256x2048
def gExp (e : Fin 32) : Memref sig .tc .hbm S2048x256 .f32 :=
  ((Memref.whole main_arg6).slice (Rect.unit (s := S2x32x2048x256) (eOff e) S1x1x2048x256.size (eOff_inb e)) (fun _ => rfl)).squeeze S2048x256 squeezes_S1x1x2048x256_S2048x256
def uExp (e : Fin 32) : Memref sig .tc .hbm S2048x256 .f32 :=
  ((Memref.whole main_arg7).slice (Rect.unit (s := S2x32x2048x256) (eOff e) S1x1x2048x256.size (eOff_inb e)) (fun _ => rfl)).squeeze S2048x256 squeezes_S1x1x2048x256_S2048x256
def dExp (e : Fin 32) : Memref sig .tc .hbm S256x2048 .f32 :=
  ((Memref.whole main_arg8).slice (Rect.unit (s := S2x32x256x2048) (eOff e) S1x1x256x2048.size (eOff_inb' e)) (fun _ => rfl)).squeeze S256x2048 squeezes_S1x1x256x2048_S256x2048
def csm (s : Fin 2) : DmaSems sig S_ := (cc0_scratch7.slice (Rect.unit (s := S2) (sOff s) S1.size (sOff_inb s))).squeeze S_ squeezes_S1_S_

instance (s : Fin 2) : ClosedOff (bOff s) := ⟨bOff s, rfl⟩
instance (e : Fin 32) : ClosedOff (eOff e) := ⟨eOff e, rfl⟩

@[sl_canon] theorem canon_s (s : Fin 2) (hh) : (cc0_scratch7.slice (Rect.unit (s := S2) (sOff s) S1.size hh)).squeeze S_ squeezes_S1_S_ = csm s := rfl
@[sl_canon] theorem canon_gS (s : Fin 2) (hh hs) : ((Memref.whole cc0_scratch4).slice (Rect.unit (s := S2x2048x256) (bOff s) S1x2048x256.size hh) hs).squeeze S2048x256 squeezes_S1x2048x256_S2048x256 = gSlot s := rfl
@[sl_canon] theorem canon_uS (s : Fin 2) (hh hs) : ((Memref.whole cc0_scratch5).slice (Rect.unit (s := S2x2048x256) (bOff s) S1x2048x256.size hh) hs).squeeze S2048x256 squeezes_S1x2048x256_S2048x256 = uSlot s := rfl
@[sl_canon] theorem canon_dS (s : Fin 2) (hh hs) : ((Memref.whole cc0_scratch6).slice (Rect.unit (s := S2x256x2048) (bOff s) S1x256x2048.size hh) hs).squeeze S256x2048 squeezes_S1x256x2048_S256x2048 = dSlot s := rfl
@[sl_canon] theorem canon_gE (e : Fin 32) (hh hs) : ((Memref.whole main_arg6).slice (Rect.unit (s := S2x32x2048x256) (eOff e) S1x1x2048x256.size hh) hs).squeeze S2048x256 squeezes_S1x1x2048x256_S2048x256 = gExp e := rfl
@[sl_canon] theorem canon_uE (e : Fin 32) (hh hs) : ((Memref.whole main_arg7).slice (Rect.unit (s := S2x32x2048x256) (eOff e) S1x1x2048x256.size hh) hs).squeeze S2048x256 squeezes_S1x1x2048x256_S2048x256 = uExp e := rfl
@[sl_canon] theorem canon_dE (e : Fin 32) (hh hs) : ((Memref.whole main_arg8).slice (Rect.unit (s := S2x32x256x2048) (eOff e) S1x1x256x2048.size hh) hs).squeeze S256x2048 squeezes_S1x1x256x2048_S256x2048 = dExp e := rfl

/-! ## An expert's weights on their way -/

section Pieces
variable (c : Dev nD)

/-- A place held by exactly its own elements. -/
abbrev own {sp : Space} {S : Shape} {ψ : EltTy} (M : Memref sig .tc sp S ψ) (f : Buf (Elt F) (M.view.loc (c : Thread nD τ))) : sProp 𝕄 :=
  M.view.loc (c : Thread nD τ) ↦[M.view.set]{fullShare} f
/-- A buffer held whole. -/
abbrev held (b : Ref sig .tc) (f : b.ty.Contents (Elt F)) : sProp 𝕄 :=
  (Memref.whole b).view.loc (c : Thread nD τ) ↦{fullShare} f

/-- The three weight arrays' contents. -/
structure Wts (F : FTy → Type) where
  g : (main_arg6 : Ref sig .tc).ty.Contents (Elt F)
  u : (main_arg7 : Ref sig .tc).ty.Contents (Elt F)
  d : (main_arg8 : Ref sig .tc).ty.Contents (Elt F)

/-- Prior contents of one slot's three places. -/
structure Old (c : Dev nD) (s : Fin 2) (F : FTy → Type) where
  g : Buf (Elt F) ((gSlot s).view.loc (c : Thread nD τ))
  u : Buf (Elt F) ((uSlot s).view.loc (c : Thread nD τ))
  d : Buf (Elt F) ((dSlot s).view.loc (c : Thread nD τ))

/-- The arrays' contents, as an expert's block sees them. -/
def Wts.gAt (w : Wts F) (e : Fin 32) : Buf (Elt F) ((gExp e).view.loc (c : Thread nD τ)) := w.g
def Wts.uAt (w : Wts F) (e : Fin 32) : Buf (Elt F) ((uExp e).view.loc (c : Thread nD τ)) := w.u
def Wts.dAt (w : Wts F) (e : Fin 32) : Buf (Elt F) ((dExp e).view.loc (c : Thread nD τ)) := w.d

/-- What a slot's copies leave in it. -/
abbrev landG (s : Fin 2) (e : Fin 32) (w : Wts F) (o : Old c s F) : Buf (Elt F) ((gSlot s).view.loc (c : Thread nD τ)) :=
  (gSlot s).view.writes (Elt F) o.g [⟨Rect.whole S2048x256, ReadAs.same.apply ((gExp e).view.read (Elt F) (w.gAt c e))⟩]
abbrev landU (s : Fin 2) (e : Fin 32) (w : Wts F) (o : Old c s F) : Buf (Elt F) ((uSlot s).view.loc (c : Thread nD τ)) :=
  (uSlot s).view.writes (Elt F) o.u [⟨Rect.whole S2048x256, ReadAs.same.apply ((uExp e).view.read (Elt F) (w.uAt c e))⟩]
abbrev landD (s : Fin 2) (e : Fin 32) (w : Wts F) (o : Old c s F) : Buf (Elt F) ((dSlot s).view.loc (c : Thread nD τ)) :=
  (dSlot s).view.writes (Elt F) o.d [⟨Rect.whole S256x2048, ReadAs.same.apply ((dExp e).view.read (Elt F) (w.dAt c e))⟩]

/-- The three copies' deliveries. -/
abbrev deliv (s : Fin 2) (e : Fin 32) (w : Wts F) (o : Old c s F) : Fin 3 → sProp 𝕄
  | 0 => iprop(own c (gSlot s) (landG c s e w o) ∗ own c (gExp e) (w.gAt c e))
  | 1 => iprop(own c (uSlot s) (landU c s e w o) ∗ own c (uExp e) (w.uAt c e))
  | 2 => iprop(own c (dSlot s) (landD c s e w o) ∗ own c (dExp e) (w.dAt c e))

instance (s : Fin 2) (e : Fin 32) (w : Wts F) (o : Old c s F) : ∀ t, Storable (upEmb : UEmb _ 𝕄) (deliv c s e w o t)
  | 0 => by dsimp only [deliv]; infer_instance
  | 1 => by dsimp only [deliv]; infer_instance
  | 2 => by dsimp only [deliv]; infer_instance

/-- One copy's credit. -/
abbrev NN : ℕ := (gSlot 0).view.amount (SemLoc.dma (sig := sig) (csm 0).sem)

/-- A slot's three places held. -/
def slotHeld (s : Fin 2) (o : Old c s F) : sProp 𝕄 := iprop(own c (gSlot s) o.g ∗ own c (uSlot s) o.u ∗ own c (dSlot s) o.d)
/-- An expert's three blocks held. -/
def expHeld (e : Fin 32) (w : Wts F) : sProp 𝕄 := iprop(own c (gExp e) (w.gAt c e) ∗ own c (uExp e) (w.uAt c e) ∗ own c (dExp e) (w.dAt c e))
/-- An expert's weights on their way into a slot. -/
def flight (s : Fin 2) (e : Fin 32) (w : Wts F) : sProp 𝕄 :=
  iprop(∃ o : Old c s F, Transfers.Batch (countersEmb (U := UR sig nD τ × Counters)) (c : Thread nD τ) (SemLoc.dma (csm s).sem) () NN (deliv c s e w o) 3 0)

theorem issue_run (s : Fin 2) (e : Fin 32) (w : Wts F) (o : Old c s F) (h1 h2 h3 h4 h5 h6 h7) :
    iprop(slotHeld c s o ∗ expHeld c e w ∗ semVal ((c : Thread nD τ), SemLoc.dma (csm s).sem) 0)
      ⊢ wp frame (wpE (defs₀ (F := F)) 𝒱₀ (c : Thread nD τ) none) Set.univ (issueP (sOff s) (sOff s) (bOff s) (bOff s) (bOff s) (eOff e) (eOff e) h1 h2 h3 h4 h5 h6 h7)
        (fun _ => flight c s e w) := by
  unfold slotHeld expHeld flight
  iintro ⟨⟨Hg, Hu, Hd⟩, ⟨Eg, Eu, Ed⟩, Hs⟩
  imod (Transfers.batch_alloc' (Lvl := ℕ) (countersEmb (U := UR sig nD τ × Counters)) (c : Thread nD τ) () NN (deliv c s e w o) (sm := .dma (csm s).sem) (E := Set.univ)) $$ Hs with HB
  unfold issueP
  sl_exec
  sl_step
  iexists o; iexact HB

theorem wait_run (s : Fin 2) (e : Fin 32) (w : Wts F) (W : Waits sig Unit) (h1 h2 h3 h4 h5 h6 h7) :
    iprop(flight c s e w ∗ owes (c : Thread nD τ) 0 W)
      ⊢ wp frame (wpE (defs₀ (F := F)) 𝒱₀ (c : Thread nD τ) none) Set.univ (waitP (sOff s) (sOff s) (bOff s) (bOff s) (bOff s) (eOff e) (eOff e) h1 h2 h3 h4 h5 h6 h7)
        (fun _ => iprop((∃ o : Old c s F, own c (gSlot s) (landG c s e w o) ∗ own c (uSlot s) (landU c s e w o) ∗ own c (dSlot s) (landD c s e w o))
          ∗ expHeld c e w ∗ semVal ((c : Thread nD τ), SemLoc.dma (csm s).sem) 0 ∗ ∃ W', owes (c : Thread nD τ) 0 W')) := by
  unfold expHeld flight
  iintro ⟨⟨%o, HB⟩, HO⟩
  unfold waitP
  sl_exec
  sl_step
  isplitl [HB_dst0 HB_dst1 HB_dst2]
  · iexists o
    isplitl [HB_dst0]; · iexact HB_dst0
    isplitl [HB_dst1]; · iexact HB_dst1
    iexact HB_dst2
  isplitl [HB_src0 HB_src1 HB_src2]
  · isplitl [HB_src0]; · iexact HB_src0
    isplitl [HB_src1]; · iexact HB_src1
    iexact HB_src2
  isplitl [HB]; · iexact HB
  iexists _; iexact HO

end Pieces

/-- One of a stack of matrices, read through the slice that squeezes its leading axis away. -/
theorem read_sq3 {G A B : ℕ} {sp : Space} (M : Memref sig .tc sp ⟨3, ![G, A, B]⟩ .f32) (off : Fin 3 → ℕ)
    (inb : ∀ a, off a + (⟨3, ![1, A, B]⟩ : Shape).size a ≤ (⟨3, ![G, A, B]⟩ : Shape).size a) (hr) (hq : (⟨3, ![1, A, B]⟩ : Shape).Squeezes ⟨2, ![A, B]⟩)
    (f : M.view.ty.Contents (Elt F)) (a : Fin A) (b : Fin B) :
    ((M.slice (Rect.unit (s := ⟨3, ![G, A, B]⟩) off (⟨3, ![1, A, B]⟩ : Shape).size inb) hr).squeeze ⟨2, ![A, B]⟩ hq).view.read (Elt F) f (ix2 a b)
      = M.view.readAt (Elt F) (Rect.unit (s := ⟨3, ![G, A, B]⟩) off (⟨3, ![1, A, B]⟩ : Shape).size inb).toLoadRect f (ix3 0 a b) := by
  have h1 : ((M.slice (Rect.unit (s := ⟨3, ![G, A, B]⟩) off (⟨3, ![1, A, B]⟩ : Shape).size inb) hr).squeeze ⟨2, ![A, B]⟩ hq).view.read (Elt F) f (ix2 a b)
      = M.view.readAt (Elt F) (Rect.unit (s := ⟨3, ![G, A, B]⟩) off (⟨3, ![1, A, B]⟩ : Shape).size inb).toLoadRect f (Shape.reshapeEquiv hq.numel_eq (ix2 a b)) := rfl
  rw [h1, Shape.reshapeEquiv_cons_one]
  congr 1
  funext x
  match x with
  | ⟨0, _⟩ => rfl
  | ⟨1, _⟩ => rfl
  | ⟨2, _⟩ => rfl

/-- One of a stack of stacks of matrices, read through the slice that squeezes both leading axes away. -/
theorem read_sq4 {G H A B : ℕ} {sp : Space} (M : Memref sig .tc sp ⟨4, ![G, H, A, B]⟩ .f32) (g : Fin G) (h : Fin H) (off : Fin 4 → ℕ) (ho : off = ![g.val, h.val, 0, 0])
    (inb : ∀ a, off a + (⟨4, ![1, 1, A, B]⟩ : Shape).size a ≤ (⟨4, ![G, H, A, B]⟩ : Shape).size a) (hr) (hq : (⟨4, ![1, 1, A, B]⟩ : Shape).Squeezes ⟨2, ![A, B]⟩)
    (f : M.view.ty.Contents (Elt F)) (a : Fin A) (b : Fin B) :
    ((M.slice (Rect.unit (s := ⟨4, ![G, H, A, B]⟩) off (⟨4, ![1, 1, A, B]⟩ : Shape).size inb) hr).squeeze ⟨2, ![A, B]⟩ hq).view.read (Elt F) f (ix2 a b)
      = M.view.read (Elt F) f (ix4 g h a b) := by
  subst ho
  have h1 : ((M.slice (Rect.unit (s := ⟨4, ![G, H, A, B]⟩) ![g.val, h.val, 0, 0] (⟨4, ![1, 1, A, B]⟩ : Shape).size inb) hr).squeeze ⟨2, ![A, B]⟩ hq).view.read (Elt F) f (ix2 a b)
      = M.view.read (Elt F) f ((Rect.unit (s := ⟨4, ![G, H, A, B]⟩) ![g.val, h.val, 0, 0] (⟨4, ![1, 1, A, B]⟩ : Shape).size inb).emb (Shape.reshapeEquiv hq.numel_eq (ix2 a b))) := rfl
  rw [h1, reshapeEquiv_cons_one_one]
  congr 1
  funext x
  apply Fin.ext
  rw [Rect.emb_apply]
  match x with
  | ⟨0, _⟩ => show g.val + 1 * 0 = g.val; omega
  | ⟨1, _⟩ => show h.val + 1 * 0 = h.val; omega
  | ⟨2, _⟩ => show 0 + 1 * a.val = a.val; omega
  | ⟨3, _⟩ => show 0 + 1 * b.val = b.val; omega

variable (c : Dev nD)

/-- An expert's weights, as vectors with a leading unit axis. -/
def Wts.gVec (w : Wts F) (e : Fin 32) : Vec F S1x2048x256 .f32 := fun j => w.g (ix4 (0 : Fin 2) e (j 1) (j 2))
def Wts.uVec (w : Wts F) (e : Fin 32) : Vec F S1x2048x256 .f32 := fun j => w.u (ix4 (0 : Fin 2) e (j 1) (j 2))
def Wts.dVec (w : Wts F) (e : Fin 32) : Vec F S1x256x2048 .f32 := fun j => w.d (ix4 (0 : Fin 2) e (j 1) (j 2))

theorem gLoad (s : Fin 2) (e : Fin 32) (w : Wts F) (h1) :
    View.readAt (Elt F) (Memref.whole cc0_scratch4).view (Rect.unit (s := S2x2048x256) (bOff s) S1x2048x256.size h1).toLoadRect
      ((gSlot s).view.writes (Elt F) (gSlot s).view.junk [⟨Rect.whole S2048x256, ReadAs.same.apply ((gExp e).view.read (Elt F) (w.gAt c e))⟩]) = w.gVec e := by
  funext j
  obtain ⟨j0, j1, j2, rfl⟩ : ∃ (j0 : Fin 1) (j1 : Fin 2048) (j2 : Fin 256), j = ix3 j0 j1 j2 := ⟨j 0, j 1, j 2, by funext a; fin_cases a <;> rfl⟩
  obtain rfl : j0 = 0 := Subsingleton.elim _ _
  have h := congrFun (View.read_writes_whole (Val := Elt F) (gSlot s).view (gSlot s).view.junk (ReadAs.same.apply (View.read (Elt F) (gExp e).view (Wts.gAt c w e)))) (ix2 j1 j2)
  have h2 := read_sq3 (F := F) (Memref.whole cc0_scratch4) (bOff s) h1 (fun _ => rfl) squeezes_S1x2048x256_S2048x256
    ((gSlot s).view.writes (Elt F) (gSlot s).view.junk [⟨Rect.whole S2048x256, ReadAs.same.apply ((gExp e).view.read (Elt F) (w.gAt c e))⟩]) j1 j2
  have h3 := read_sq4 (F := F) (Memref.whole main_arg6) (0 : Fin 2) e (eOff e) rfl (eOff_inb e) (fun _ => rfl) squeezes_S1x1x2048x256_S2048x256 w.g j1 j2
  exact h2.symm.trans (h.trans h3)

theorem uLoad (s : Fin 2) (e : Fin 32) (w : Wts F) (h1) :
    View.readAt (Elt F) (Memref.whole cc0_scratch5).view (Rect.unit (s := S2x2048x256) (bOff s) S1x2048x256.size h1).toLoadRect
      ((uSlot s).view.writes (Elt F) (uSlot s).view.junk [⟨Rect.whole S2048x256, ReadAs.same.apply ((uExp e).view.read (Elt F) (w.uAt c e))⟩]) = w.uVec e := by
  funext j
  obtain ⟨j0, j1, j2, rfl⟩ : ∃ (j0 : Fin 1) (j1 : Fin 2048) (j2 : Fin 256), j = ix3 j0 j1 j2 := ⟨j 0, j 1, j 2, by funext a; fin_cases a <;> rfl⟩
  obtain rfl : j0 = 0 := Subsingleton.elim _ _
  have h := congrFun (View.read_writes_whole (Val := Elt F) (uSlot s).view (uSlot s).view.junk (ReadAs.same.apply (View.read (Elt F) (uExp e).view (Wts.uAt c w e)))) (ix2 j1 j2)
  have h2 := read_sq3 (F := F) (Memref.whole cc0_scratch5) (bOff s) h1 (fun _ => rfl) squeezes_S1x2048x256_S2048x256
    ((uSlot s).view.writes (Elt F) (uSlot s).view.junk [⟨Rect.whole S2048x256, ReadAs.same.apply ((uExp e).view.read (Elt F) (w.uAt c e))⟩]) j1 j2
  have h3 := read_sq4 (F := F) (Memref.whole main_arg7) (0 : Fin 2) e (eOff e) rfl (eOff_inb e) (fun _ => rfl) squeezes_S1x1x2048x256_S2048x256 w.u j1 j2
  exact h2.symm.trans (h.trans h3)

theorem dLoad (s : Fin 2) (e : Fin 32) (w : Wts F) (h1) :
    View.readAt (Elt F) (Memref.whole cc0_scratch6).view (Rect.unit (s := S2x256x2048) (bOff s) S1x256x2048.size h1).toLoadRect
      ((dSlot s).view.writes (Elt F) (dSlot s).view.junk [⟨Rect.whole S256x2048, ReadAs.same.apply ((dExp e).view.read (Elt F) (w.dAt c e))⟩]) = w.dVec e := by
  funext j
  obtain ⟨j0, j1, j2, rfl⟩ : ∃ (j0 : Fin 1) (j1 : Fin 256) (j2 : Fin 2048), j = ix3 j0 j1 j2 := ⟨j 0, j 1, j 2, by funext a; fin_cases a <;> rfl⟩
  obtain rfl : j0 = 0 := Subsingleton.elim _ _
  have h := congrFun (View.read_writes_whole (Val := Elt F) (dSlot s).view (dSlot s).view.junk (ReadAs.same.apply (View.read (Elt F) (dExp e).view (Wts.dAt c w e)))) (ix2 j1 j2)
  have h2 := read_sq3 (F := F) (Memref.whole cc0_scratch6) (bOff s) h1 (fun _ => rfl) squeezes_S1x256x2048_S256x2048
    ((dSlot s).view.writes (Elt F) (dSlot s).view.junk [⟨Rect.whole S256x2048, ReadAs.same.apply ((dExp e).view.read (Elt F) (w.dAt c e))⟩]) j1 j2
  have h3 := read_sq4 (F := F) (Memref.whole main_arg8) (0 : Fin 2) e (eOff e) rfl (eOff_inb' e) (fun _ => rfl) squeezes_S1x1x256x2048_S256x2048 w.d j1 j2
  exact h2.symm.trans (h.trans h3)

section Pieces
variable (c : Dev nD)

/-- A store of a whole buffer leaves exactly what it stores. -/
theorem stored {b : Ref sig .tc} (f : b.ty.Contents (Elt F)) (off : Fin b.ty.shape.rank → ℕ) (h0 : off = fun _ => 0) (hin : ∀ a, off a + b.ty.shape.size a ≤ b.ty.shape.size a)
    (x : b.ty.shape.Idx → Elt F b.ty.elt) :
    (Memref.whole b).view.writes (Elt F) f [⟨Rect.unit (s := b.ty.shape) off b.ty.shape.size hin, x⟩] = x := by
  subst h0
  exact View.read_writes_whole (Val := Elt F) (Memref.whole b).view f x

theorem held_of_eq {b : Ref sig .tc} {f g : b.ty.Contents (Elt F)} (h : f = g) : (held c b f : sProp 𝕄) ⊢ held c b g := by subst h; iintro H; iexact H

theorem cast_run (s : Fin 2) (e : Fin 32) (w : Wts F) (o : Old c s F) (f1 f2 f3) (h1 h2) :
    iprop((own c (gSlot s) (landG c s e w o) ∗ own c (uSlot s) (landU c s e w o) ∗ own c (dSlot s) (landD c s e w o))
      ∗ held c cc0_scratch1 f1 ∗ held c cc0_scratch2 f2 ∗ held c cc0_scratch3 f3)
      ⊢ wp frame (wpE (defs₀ (F := F)) 𝒱₀ (c : Thread nD τ) none) Set.univ (castP (bOff s) (bOff s) h1 h2)
        (fun _ => iprop((∃ o' : Old c s F, slotHeld c s o') ∗ held c cc0_scratch1 (k0_pay1 (w.gVec e)) ∗ held c cc0_scratch2 (k0_pay3 (k0_pay2 (w.uVec e)))
          ∗ held c cc0_scratch3 (k0_pay4 (w.dVec e)))) := by
  unfold slotHeld
  iintro ⟨⟨HG, HU, HD⟩, H1, H2, H3⟩
  unfold castP
  sl_exec
  sl_step
  isplitl [HG HU HD]
  · iexists Old.mk _ _ _
    isplitl [HG]; · iexact HG
    isplitl [HU]; · iexact HU
    iexact HD
  have z : (![0, 0] : Fin 2 → ℕ) = fun _ => 0 := by funext a; fin_cases a <;> rfl
  isplitl [H1]
  · iapply (held_of_eq c (b := cc0_scratch1) ((stored (b := cc0_scratch1) f1 ![0, 0] z inb_S2048x256_S2048x256_0_0 _).trans (congrArg k0_pay1 (gLoad c s e w h1)))); iexact H1
  isplitl [H2]
  · iapply (held_of_eq c (b := cc0_scratch2) ((stored (b := cc0_scratch2) f2 ![0, 0] z inb_S2048x256_S2048x256_0_0 _).trans (congrArg (fun v => k0_pay3 (k0_pay2 v)) (uLoad c s e w h1)))); iexact H2
  iapply (held_of_eq c (b := cc0_scratch3) ((stored (b := cc0_scratch3) f3 ![0, 0] z inb_S256x2048_S256x2048_0_0 _).trans (congrArg k0_pay4 (dLoad c s e w h2)))); iexact H3

end Pieces

end Cert.Experts.Kernel
-- ==== Proof.KernelPoint.lean ====
/-
One whole point of the grid, run.
-/
module

public import proofs.«01_k».proof.Proof.KernelAcc

@[expose] public section

noncomputable section

namespace Cert.Experts.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F] [∀ e, Nonempty (Elt F e)]

local notation "𝕄" => MT nD τ sig Unit (Elt F) ℕ (UR sig nD τ × Counters) ℕ

section Pieces
variable (c : Dev nD)

theorem at0 (T : (main_arg0 : Ref sig .tc).ty.Contents (Elt F)) (n : Fin 95) (o : Fin 1 → ℕ) (ho : o = ![n.val]) (hin : ∀ a, o a + S1.size a ≤ S95.size a) (h0) :
    View.readAt (Elt F) (Memref.whole main_arg0).view (Rect.unit (s := S95) o S1.size hin).toLoadRect T (Shape.Idx.first h0) = T (ix1 n) := by
  subst ho
  refine congrArg T ?_
  funext a
  match a with
  | ⟨0, _⟩ => exact Fin.ext rfl
theorem word0 (q : PosShare TreeShare) (T : (main_arg0 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg0 q T ∗ (tab c main_arg0 q T -∗ Q (T (ix1 n))))
      ⊢ wp frame (wpE (defs₀ (F := F)) 𝒱₀ (c : Thread nD τ) none) Set.univ (smemLoad (Memref.whole main_arg0) (Rect.unit (s := S95) o S1.size hin) numel1_S1 rfl) Q := by
  have e := at0 (F := F) T n o ho hin
  iintro ⟨HT, K⟩
  sl_exec
  sl_step
  rw [e]
  iapply K
  iexact HT
theorem at1 (T : (main_arg1 : Ref sig .tc).ty.Contents (Elt F)) (n : Fin 95) (o : Fin 1 → ℕ) (ho : o = ![n.val]) (hin : ∀ a, o a + S1.size a ≤ S95.size a) (h0) :
    View.readAt (Elt F) (Memref.whole main_arg1).view (Rect.unit (s := S95) o S1.size hin).toLoadRect T (Shape.Idx.first h0) = T (ix1 n) := by
  subst ho
  refine congrArg T ?_
  funext a
  match a with
  | ⟨0, _⟩ => exact Fin.ext rfl
theorem word1 (q : PosShare TreeShare) (T : (main_arg1 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg1 q T ∗ (tab c main_arg1 q T -∗ Q (T (ix1 n))))
      ⊢ wp frame (wpE (defs₀ (F := F)) 𝒱₀ (c : Thread nD τ) none) Set.univ (smemLoad (Memref.whole main_arg1) (Rect.unit (s := S95) o S1.size hin) numel1_S1 rfl) Q := by
  have e := at1 (F := F) T n o ho hin
  iintro ⟨HT, K⟩
  sl_exec
  sl_step
  rw [e]
  iapply K
  iexact HT
theorem at2 (T : (main_arg2 : Ref sig .tc).ty.Contents (Elt F)) (n : Fin 95) (o : Fin 1 → ℕ) (ho : o = ![n.val]) (hin : ∀ a, o a + S1.size a ≤ S95.size a) (h0) :
    View.readAt (Elt F) (Memref.whole main_arg2).view (Rect.unit (s := S95) o S1.size hin).toLoadRect T (Shape.Idx.first h0) = T (ix1 n) := by
  subst ho
  refine congrArg T ?_
  funext a
  match a with
  | ⟨0, _⟩ => exact Fin.ext rfl
theorem word2 (q : PosShare TreeShare) (T : (main_arg2 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg2 q T ∗ (tab c main_arg2 q T -∗ Q (T (ix1 n))))
      ⊢ wp frame (wpE (defs₀ (F := F)) 𝒱₀ (c : Thread nD τ) none) Set.univ (smemLoad (Memref.whole main_arg2) (Rect.unit (s := S95) o S1.size hin) numel1_S1 rfl) Q := by
  have e := at2 (F := F) T n o ho hin
  iintro ⟨HT, K⟩
  sl_exec
  sl_step
  rw [e]
  iapply K
  iexact HT
theorem at3 (T : (main_arg3 : Ref sig .tc).ty.Contents (Elt F)) (n : Fin 95) (o : Fin 1 → ℕ) (ho : o = ![n.val]) (hin : ∀ a, o a + S1.size a ≤ S95.size a) (h0) :
    View.readAt (Elt F) (Memref.whole main_arg3).view (Rect.unit (s := S95) o S1.size hin).toLoadRect T (Shape.Idx.first h0) = T (ix1 n) := by
  subst ho
  refine congrArg T ?_
  funext a
  match a with
  | ⟨0, _⟩ => exact Fin.ext rfl
theorem word3 (q : PosShare TreeShare) (T : (main_arg3 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg3 q T ∗ (tab c main_arg3 q T -∗ Q (T (ix1 n))))
      ⊢ wp frame (wpE (defs₀ (F := F)) 𝒱₀ (c : Thread nD τ) none) Set.univ (smemLoad (Memref.whole main_arg3) (Rect.unit (s := S95) o S1.size hin) numel1_S1 rfl) Q := by
  have e := at3 (F := F) T n o ho hin
  iintro ⟨HT, K⟩
  sl_exec
  sl_step
  rw [e]
  iapply K
  iexact HT
theorem at4 (T : (main_arg4 : Ref sig .tc).ty.Contents (Elt F)) (n : Fin 95) (o : Fin 1 → ℕ) (ho : o = ![n.val]) (hin : ∀ a, o a + S1.size a ≤ S95.size a) (h0) :
    View.readAt (Elt F) (Memref.whole main_arg4).view (Rect.unit (s := S95) o S1.size hin).toLoadRect T (Shape.Idx.first h0) = T (ix1 n) := by
  subst ho
  refine congrArg T ?_
  funext a
  match a with
  | ⟨0, _⟩ => exact Fin.ext rfl
theorem word4 (q : PosShare TreeShare) (T : (main_arg4 : Ref sig .tc).ty.Contents (Elt F)) (n : Fin 95) (o : Fin 1 → ℕ) (ho : o = ![n.val]) (hin : ∀ a, o a + S1.size a ≤ S95.size a)
    (Q : Elt F .i32 → sProp 𝕄) :
    iprop(tab c main_arg4 q T ∗ (tab c main_arg4 q T -∗ Q (T (ix1 n))))
      ⊢ wp frame (wpE (defs₀ (F := F)) 𝒱₀ (c : Thread nD τ) none) Set.univ (smemLoad (Memref.whole main_arg4) (Rect.unit (s := S95) o S1.size hin) numel1_S1 rfl) Q := by
  have e := at4 (F := F) T n o ho hin
  iintro ⟨HT, K⟩
  sl_exec
  sl_step
  rw [e]
  iapply K
  iexact HT

/-- The accumulator after a point's three conditional pieces. -/
def accU (fst : BitVec 1) (v1 v3 t : BitVec 32) (x : Vec F S512x1024 .i32) (g u : Vec F S2048x256 .bf16) (d : Vec F S256x2048 .bf16) (a : Acc F) : Acc F :=
  let a1 := if fullW v1 v3 t = 1#1 then fullU (fst == 1#1) v1 v3 t x g u d a else a
  let a2 := if lowW v1 v3 t = 1#1 then lowU (fst == 1#1) v1 v3 t x g u d a1 else a1
  if upW v1 v3 t = 1#1 then upU (fst == 1#1) v1 v3 t x g u d a2 else a2

theorem bit01 (b : BitVec 1) : b = 1#1 ∨ b = 0#1 := by revert b; decide

theorem full_if (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) (fst : BitVec 1) (cnd : BitVec 1) :
    accRes c q T X x g u d a ⊢ wp frame (wpE (defs₀ (F := F)) 𝒱₀ (c : Thread nD τ) none) Set.univ (if cnd = 1#1 then fullP i X v1 v3 fst else pure ⟨⟩)
        (fun _ => accRes c q T X x g u d (if cnd = 1#1 then fullU (fst == 1#1) v1 v3 (T (ix1 (i 0))) x g u d a else a)) := by
  by_cases h : cnd = 1#1
  · rw [if_pos h, if_pos h]
    rcases bit01 fst with rfl | rfl
    · exact full_run1 c q T X x g u d a i v1 v3
    · exact full_run0 c q T X x g u d a i v1 v3
  · rw [if_neg h, if_neg h]
    iintro H
    sl_step
    iexact H

theorem low_if (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) (fst : BitVec 1) (cnd : BitVec 1) :
    accRes c q T X x g u d a ⊢ wp frame (wpE (defs₀ (F := F)) 𝒱₀ (c : Thread nD τ) none) Set.univ (if cnd = 1#1 then lowP i X v1 v3 fst else pure ⟨⟩)
        (fun _ => accRes c q T X x g u d (if cnd = 1#1 then lowU (fst == 1#1) v1 v3 (T (ix1 (i 0))) x g u d a else a)) := by
  by_cases h : cnd = 1#1
  · rw [if_pos h, if_pos h]
    rcases bit01 fst with rfl | rfl
    · exact low_run1 c q T X x g u d a i v1 v3
    · exact low_run0 c q T X x g u d a i v1 v3
  · rw [if_neg h, if_neg h]
    iintro H
    sl_step
    iexact H

theorem up_if (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 : BitVec 32) (fst : BitVec 1) (cnd : BitVec 1) :
    accRes c q T X x g u d a ⊢ wp frame (wpE (defs₀ (F := F)) 𝒱₀ (c : Thread nD τ) none) Set.univ (if cnd = 1#1 then upP i X v1 v3 fst else pure ⟨⟩)
        (fun _ => accRes c q T X x g u d (if cnd = 1#1 then upU (fst == 1#1) v1 v3 (T (ix1 (i 0))) x g u d a else a)) := by
  by_cases h : cnd = 1#1
  · rw [if_pos h, if_pos h]
    rcases bit01 fst with rfl | rfl
    · exact up_run1 c q T X x g u d a i v1 v3
    · exact up_run0 c q T X x g u d a i v1 v3
  · rw [if_neg h, if_neg h]
    iintro H
    sl_step
    iexact H

theorem acc_run (q) (T : (main_arg0 : Ref sig .tc).ty.Contents (Elt F)) (X : Memref sig .tc .vmem S512x1024 .i32) (x : Vec F S512x1024 .i32)
    (g u : Vec F S2048x256 .bf16) (d : Vec F S256x2048 .bf16) (a : Acc F) (i : grid0.Coords) (v1 v3 v5 : BitVec 32) :
    accRes c q T X x g u d a ⊢ wp frame (wpE (defs₀ (F := F)) 𝒱₀ (c : Thread nD τ) none) Set.univ (accP i X v1 v3 v5)
        (fun _ => accRes c q T X x g u d (accU (firstW v5) v1 v3 (T (ix1 (i 0))) x g u d a)) := by
  unfold accP
  rw [wp_bind]
  have e : (accRes c q T X x g u d a : sProp 𝕄) = iprop(tab c main_arg0 q T ∗ (X.view.loc (c : Thread nD τ) ↦[X.view.set]{fullShare} X.view.rep x) ∗ held c cc0_scratch1 g ∗ held c cc0_scratch2 u ∗ held c cc0_scratch3 d ∗ held c cc0_scratch0 a) := rfl
  rw [e]
  iintro ⟨HT, HR⟩
  iapply (word0 c q T (i 0) _ (off4 i) (k0_off24_inb i) _)
  isplitl [HT]; · iexact HT
  iintro HT
  rw [wp_bind]
  iapply (wp_wand_r Idealize.ShloMosaic.frame (wpE (defs₀ (F := F)) 𝒱₀ (c : Thread nD τ) none) Set.univ)
  isplitl [HT HR]
  · iapply (full_if c q T X x g u d a i v1 v3 (firstW v5) (fullW v1 v3 (T (ix1 (i 0)))))
    rw [e]
    isplitl [HT]; · iexact HT
    iexact HR
  iintro %_ H
  rw [wp_bind]
  iapply (wp_wand_r Idealize.ShloMosaic.frame (wpE (defs₀ (F := F)) 𝒱₀ (c : Thread nD τ) none) Set.univ)
  isplitl [H]
  · iapply (low_if c q T X x g u d _ i v1 v3 (firstW v5) (lowW v1 v3 (T (ix1 (i 0)))))
    iexact H
  iintro %_ H
  iapply (up_if c q T X x g u d _ i v1 v3 (firstW v5) (upW v1 v3 (T (ix1 (i 0)))))
  iexact H

/-- The three weight arrays held whole, and held but for one expert's blocks. -/
def hbm (w : Wts F) : sProp 𝕄 := iprop(held c main_arg6 w.g ∗ held c main_arg7 w.u ∗ held c main_arg8 w.d)
def hbmRest (e : Fin 32) (w : Wts F) : sProp 𝕄 :=
  iprop(((gExp e).view.loc (c : Thread nD τ) ↦[Finset.univ \ (gExp e).view.set]{fullShare} w.gAt c e) ∗ ((uExp e).view.loc (c : Thread nD τ) ↦[Finset.univ \ (uExp e).view.set]{fullShare} w.uAt c e)
    ∗ ((dExp e).view.loc (c : Thread nD τ) ↦[Finset.univ \ (dExp e).view.set]{fullShare} w.dAt c e))

theorem hbm_g (e : Fin 32) (w : Wts F) : held c main_arg6 w.g = ((gExp e).view.loc (c : Thread nD τ) ↦{fullShare} w.gAt c e) := rfl
theorem hbm_u (e : Fin 32) (w : Wts F) : held c main_arg7 w.u = ((uExp e).view.loc (c : Thread nD τ) ↦{fullShare} w.uAt c e) := rfl
theorem hbm_d (e : Fin 32) (w : Wts F) : held c main_arg8 w.d = ((dExp e).view.loc (c : Thread nD τ) ↦{fullShare} w.dAt c e) := rfl

theorem hbm_split (e : Fin 32) (w : Wts F) : hbm c w ⊢ iprop(expHeld c e w ∗ hbmRest c e w) := by
  unfold hbm expHeld hbmRest
  rw [hbm_g c e w, hbm_u c e w, hbm_d c e w]
  iintro ⟨Hg, Hu, Hd⟩
  ihave ⟨Hg, Rg⟩ := (pointsTo_split_subset (ℓ := (gExp e).view.loc (c : Thread nD τ)) (q := fullShare) (f := w.gAt c e) (Finset.subset_univ (gExp e).view.set)).1 $$ Hg
  ihave ⟨Hu, Ru⟩ := (pointsTo_split_subset (ℓ := (uExp e).view.loc (c : Thread nD τ)) (q := fullShare) (f := w.uAt c e) (Finset.subset_univ (uExp e).view.set)).1 $$ Hu
  ihave ⟨Hd, Rd⟩ := (pointsTo_split_subset (ℓ := (dExp e).view.loc (c : Thread nD τ)) (q := fullShare) (f := w.dAt c e) (Finset.subset_univ (dExp e).view.set)).1 $$ Hd
  isplitl [Hg Hu Hd]
  · isplitl [Hg]; · iexact Hg
    isplitl [Hu]; · iexact Hu
    iexact Hd
  isplitl [Rg]; · iexact Rg
  isplitl [Ru]; · iexact Ru
  iexact Rd
theorem hbm_join (e : Fin 32) (w : Wts F) : iprop(expHeld c e w ∗ hbmRest c e w) ⊢ hbm c w := by
  unfold hbm expHeld hbmRest
  rw [hbm_g c e w, hbm_u c e w, hbm_d c e w]
  iintro ⟨⟨Hg, Hu, Hd⟩, Rg, Ru, Rd⟩
  isplitl [Hg Rg]
  · iapply (pointsTo_split_subset (ℓ := (gExp e).view.loc (c : Thread nD τ)) (q := fullShare) (f := w.gAt c e) (Finset.subset_univ (gExp e).view.set)).2
    isplitl [Hg]; · iexact Hg
    iexact Rg
  isplitl [Hu Ru]
  · iapply (pointsTo_split_subset (ℓ := (uExp e).view.loc (c : Thread nD τ)) (q := fullShare) (f := w.uAt c e) (Finset.subset_univ (uExp e).view.set)).2
    isplitl [Hu]; · iexact Hu
    iexact Ru
  iapply (pointsTo_split_subset (ℓ := (dExp e).view.loc (c : Thread nD τ)) (q := fullShare) (f := w.dAt c e) (Finset.subset_univ (dExp e).view.set)).2
  isplitl [Hd]; · iexact Hd
  iexact Rd

/-- A slot with nothing on its way to it. -/
def slotIdle (s : Fin 2) : sProp 𝕄 := iprop((∃ o : Old c s F, slotHeld c s o) ∗ semVal ((c : Thread nD τ), SemLoc.dma (csm s).sem) 0)
/-- A slot ahead: an expert's weights on their way, or nothing. -/
def ahead (s : Fin 2) (nx : Option (Fin 32)) (w : Wts F) : sProp 𝕄 :=
  match nx with
  | none => iprop(slotIdle c s ∗ hbm c w)
  | some e => iprop(flight c s e w ∗ hbmRest c e w)
theorem ahead_none (s : Fin 2) (w : Wts F) : ahead c s none w = iprop(slotIdle c s ∗ hbm c w) := rfl
theorem ahead_some (s : Fin 2) (e : Fin 32) (w : Wts F) : ahead c s (some e) w = iprop(flight c s e w ∗ hbmRest c e w) := rfl
/-- The cast weights held. -/
def cur (g u : Vec F S2048x256 .bf16) (d : Vec F S256x2048 .bf16) : sProp 𝕄 := iprop(held c cc0_scratch1 g ∗ held c cc0_scratch2 u ∗ held c cc0_scratch3 d)

/-- The expert a flag word asks for ahead. -/
def nxOf (v : BitVec 32) : Option (Fin 32) := if h : 16 ≤ v.toNat ∧ v.toNat < 528 then some ⟨v.toNat / 16 - 1, by omega⟩ else none

theorem issue_any (s : Fin 2) (e : Fin 32) (w : Wts F) {oS oS2 : Fin 1 → ℕ} {oG oU oD : Fin 3 → ℕ} {oW oW2 : Fin 4 → ℕ} (h1 h2 h3 h4 h5 h6 h7)
    (e1 : oS = sOff s) (e2 : oS2 = sOff s) (e3 : oG = bOff s) (e4 : oU = bOff s) (e5 : oD = bOff s) (e6 : oW = eOff e) (e7 : oW2 = eOff e) :
    ahead c s none w ⊢ wp frame (wpE (defs₀ (F := F)) 𝒱₀ (c : Thread nD τ) none) Set.univ (issueP oS oS2 oG oU oD oW oW2 h1 h2 h3 h4 h5 h6 h7)
        (fun _ => ahead c s (some e) w) := by
  subst e1 e2 e3 e4 e5 e6 e7
  unfold ahead slotIdle
  dsimp only
  iintro ⟨⟨⟨%o, Ho⟩, Hs⟩, Hw⟩
  ihave ⟨He, Hr⟩ := hbm_split c e w $$ Hw
  iapply (wp_wand_r Idealize.ShloMosaic.frame (wpE (defs₀ (F := F)) 𝒱₀ (c : Thread nD τ) none) Set.univ)
  isplitl [Ho Hs He]
  · iapply (issue_run c s e w o h1 h2 h3 h4 h5 h6 h7)
    isplitl [Ho]; · iexact Ho
    isplitl [He]; · iexact He
    iexact Hs
  iintro %_ H
  isplitl [H]; · iexact H
  iexact Hr

theorem wait_any (s : Fin 2) (e : Fin 32) (w : Wts F) (W : Waits sig Unit) {oS oS2 : Fin 1 → ℕ} {oG oU oD : Fin 3 → ℕ} {oW oW2 : Fin 4 → ℕ} (h1 h2 h3 h4 h5 h6 h7)
    (e1 : oS = sOff s) (e2 : oS2 = sOff s) (e3 : oG = bOff s) (e4 : oU = bOff s) (e5 : oD = bOff s) (e6 : oW = eOff e) (e7 : oW2 = eOff e) :
    iprop(flight c s e w ∗ owes (c : Thread nD τ) 0 W)
      ⊢ wp frame (wpE (defs₀ (F := F)) 𝒱₀ (c : Thread nD τ) none) Set.univ (waitP oS oS2 oG oU oD oW oW2 h1 h2 h3 h4 h5 h6 h7)
        (fun _ => iprop((∃ o : Old c s F, own c (gSlot s) (landG c s e w o) ∗ own c (uSlot s) (landU c s e w o) ∗ own c (dSlot s) (landD c s e w o))
          ∗ expHeld c e w ∗ semVal ((c : Thread nD τ), SemLoc.dma (csm s).sem) 0 ∗ ∃ W', owes (c : Thread nD τ) 0 W')) := by
  subst e1 e2 e3 e4 e5 e6 e7
  exact wait_run c s e w W h1 h2 h3 h4 h5 h6 h7

theorem cast_any (s : Fin 2) (e : Fin 32) (w : Wts F) (o : Old c s F) (f1 f2 f3) {oG oD : Fin 3 → ℕ} (h1 h2) (e1 : oG = bOff s) (e2 : oD = bOff s) :
    iprop((own c (gSlot s) (landG c s e w o) ∗ own c (uSlot s) (landU c s e w o) ∗ own c (dSlot s) (landD c s e w o)) ∗ cur c f1 f2 f3)
      ⊢ wp frame (wpE (defs₀ (F := F)) 𝒱₀ (c : Thread nD τ) none) Set.univ (castP oG oD h1 h2)
        (fun _ => iprop((∃ o' : Old c s F, slotHeld c s o') ∗ cur c (k0_pay1 (w.gVec e)) (k0_pay3 (k0_pay2 (w.uVec e))) (k0_pay4 (w.dVec e)))) := by
  subst e1 e2
  exact cast_run c s e w o f1 f2 f3 h1 h2

theorem other_other (s : Fin 2) : other (other s) = s := by revert s; decide

theorem ret_run {α β : Type} (x : α) (k : α → PG (F := F) β) (Q : β → sProp 𝕄) :
    wp frame (wpE (defs₀ (F := F)) 𝒱₀ (c : Thread nD τ) none) Set.univ (k x) Q ⊢ wp frame (wpE (defs₀ (F := F)) 𝒱₀ (c : Thread nD τ) none) Set.univ ((Prog.ret x).bind k) Q := BIBase.Entails.rfl
theorem bind_run {α β : Type} (p : PG (F := F) α) (k : α → PG (F := F) β) (Q : β → sProp 𝕄) :
    wp frame (wpE (defs₀ (F := F)) 𝒱₀ (c : Thread nD τ) none) Set.univ p (fun x => wp frame (wpE (defs₀ (F := F)) 𝒱₀ (c : Thread nD τ) none) Set.univ (k x) Q)
      ⊢ wp frame (wpE (defs₀ (F := F)) 𝒱₀ (c : Thread nD τ) none) Set.univ (p >>= k) Q := by rw [wp_bind]

/-- A new expert's point. -/
theorem new_run (s : Fin 2) (e : Fin 32) (w : Wts F) (W : Waits sig Unit) (f1 f2 f3) (q) (T : (main_arg1 : Ref sig .tc).ty.Contents (Elt F)) (i : grid0.Coords) (v5 : BitVec 32)
    (hw1 : k0_chk1 i v5) (hv : v5.toNat < 528) (hn : ¬ v5 &&& 4#32 = 0#32) (hs : slotOf v5 = other s) (he : ((T (ix1 (i 0)) : BitVec 32)).toNat = e.val) :
    iprop(tab c main_arg1 q T ∗ slotIdle c s ∗ ahead c (other s) (some e) w ∗ cur c f1 f2 f3 ∗ owes (c : Thread nD τ) 0 W)
      ⊢ wp frame (wpE (defs₀ (F := F)) 𝒱₀ (c : Thread nD τ) none) Set.univ (newP i v5 hw1)
        (fun _ => iprop(tab c main_arg1 q T ∗ slotIdle c (slotOf v5) ∗ ahead c (other (slotOf v5)) (nxOf v5) w
          ∗ cur c (k0_pay1 (w.gVec e)) (k0_pay3 (k0_pay2 (w.uVec e))) (k0_pay4 (w.dVec e)) ∗ ∃ W', owes (c : Thread nD τ) 0 W')) := by
  obtain ⟨a2, a5, a10, a13, a19⟩ := slot_off1 v5 hv
  obtain ⟨a3, a6, a7, a11, a14, a15, a17, a18⟩ := slot_off3 v5 hv
  obtain ⟨a20, a22⟩ := other_off3 v5 hv
  have hexp : ∀ x : BitVec 32, x.toNat = e.val → k0_off12 x = eOff e ∧ k0_off16 x = eOff e := by
    intro x hx
    obtain ⟨-, -, b12, b16⟩ := exp_off x
    rw [b12, b16, hx]; exact ⟨rfl, rfl⟩
  obtain ⟨b12, b16⟩ := hexp _ he
  rw [← hs]
  unfold newP
  rw [dif_pos ((cond2_iff v5 hv).2 hn), wp_bind]
  rw [ahead_some]
  iintro ⟨HT, HI, HA, HC, HO⟩
  icases HA with ⟨HF, HR⟩
  iapply (word1 c q T (i 0) _ (point_off i).2.1 (k0_off9_inb i) _)
  isplitl [HT]; · iexact HT
  iintro HT
  iapply (wp_assume _ _ _ _ (chk3_of v5 _ (by rw [he]; exact e.isLt)))
  iapply ret_run
  iapply bind_run
  iapply (wp_wand_r Idealize.ShloMosaic.frame (wpE (defs₀ (F := F)) 𝒱₀ (c : Thread nD τ) none) Set.univ)
  isplitl [HF HO]
  · iapply (wait_any c (slotOf v5) e w W _ _ _ _ _ _ _ a10 a13 a11 a14 a15 b12 b16)
    isplitl [HF]; · iexact HF
    iexact HO
  iintro %_ ⟨⟨%o, HS⟩, HE, HM, HO⟩
  iapply bind_run
  iapply (wp_wand_r Idealize.ShloMosaic.frame (wpE (defs₀ (F := F)) 𝒱₀ (c : Thread nD τ) none) Set.univ)
  isplitl [HS HC]
  · iapply (cast_any c (slotOf v5) e w o f1 f2 f3 _ _ a17 a18)
    isplitl [HS]; · iexact HS
    iexact HC
  iintro %_ ⟨HS, HC⟩
  ihave HW := hbm_join c e w $$ [HE HR]
  · isplitl [HE]; · iexact HE
    iexact HR
  by_cases h16 : 16 ≤ v5.toNat
  · rw [dif_pos ((cond3_iff v5 hv).2 h16)]
    have hx : nxOf v5 = some ⟨v5.toNat / 16 - 1, by omega⟩ := by unfold nxOf; rw [dif_pos ⟨h16, hv⟩]
    rw [hx]
    iapply (wp_wand_r Idealize.ShloMosaic.frame (wpE (defs₀ (F := F)) 𝒱₀ (c : Thread nD τ) none) Set.univ)
    isplitl [HI HW]
    · iapply (issue_any c (other (slotOf v5)) ⟨v5.toNat / 16 - 1, by omega⟩ w _ _ _ _ _ _ _ a19 a19 a20 a20 a22 (next_off v5 hv h16).1 (next_off v5 hv h16).2)
      rw [ahead_none, hs, other_other]
      isplitl [HI]; · iexact HI
      iexact HW
    iintro %_ HA
    isplitl [HT]; · iexact HT
    isplitl [HS HM]
    · unfold slotIdle
      isplitl [HS]; · iexact HS
      iexact HM
    isplitl [HA]; · iexact HA
    isplitl [HC]; · iexact HC
    iexact HO
  · rw [dif_neg (fun h => h16 ((cond3_iff v5 hv).1 h))]
    have hx : nxOf v5 = none := by unfold nxOf; rw [dif_neg (fun h => h16 h.1)]
    rw [hx]
    sl_step
    isplitl [HT]; · iexact HT
    isplitl [HS HM]
    · unfold slotIdle
      isplitl [HS]; · iexact HS
      iexact HM
    isplitl [HI HW]
    · unfold ahead
      rw [hs, other_other]
      isplitl [HI]; · iexact HI
      iexact HW
    isplitl [HC]; · iexact HC
    iexact HO

/-- A point of the same expert. -/
theorem same_run (P : sProp 𝕄) (i : grid0.Coords) (v5 : BitVec 32) (hw1 : k0_chk1 i v5) (hv : v5.toNat < 528) (hn : v5 &&& 4#32 = 0#32) :
    P ⊢ wp frame (wpE (defs₀ (F := F)) 𝒱₀ (c : Thread nD τ) none) Set.univ (newP i v5 hw1) (fun _ => P) := by
  unfold newP
  rw [dif_neg (fun h => (cond2_iff v5 hv).1 h hn)]
  iintro H
  sl_step
  iexact H

/-- The first point's copies started; no other point starts any here. -/
theorem first_run (e : Fin 32) (w : Wts F) (q) (T : (main_arg1 : Ref sig .tc).ty.Contents (Elt F)) (i : grid0.Coords) (v5 : BitVec 32) (hi : (i 0).val = 0)
    (hw1 : k0_chk1 i v5) (hv : v5.toNat < 528) (he : ((T (ix1 (i 0)) : BitVec 32)).toNat = e.val) :
    iprop(tab c main_arg1 q T ∗ ahead c (slotOf v5) none w)
      ⊢ wp frame (wpE (defs₀ (F := F)) 𝒱₀ (c : Thread nD τ) none) Set.univ (firstP i v5 hw1) (fun _ => iprop(tab c main_arg1 q T ∗ ahead c (slotOf v5) (some e) w)) := by
  obtain ⟨a2, a5, a10, a13, a19⟩ := slot_off1 v5 hv
  obtain ⟨a3, a6, a7, a11, a14, a15, a17, a18⟩ := slot_off3 v5 hv
  have hexp : ∀ x : BitVec 32, x.toNat = e.val → k0_off4 x = eOff e ∧ k0_off8 x = eOff e := by
    intro x hx
    obtain ⟨b4, b8, -, -⟩ := exp_off x
    rw [b4, b8, hx]; exact ⟨rfl, rfl⟩
  obtain ⟨b4, b8⟩ := hexp _ he
  unfold firstP
  rw [dif_pos ((cond1_iff i).2 hi), wp_bind]
  iintro ⟨HT, HA⟩
  iapply (word1 c q T (i 0) _ (by rw [hi]) inb_S95_S1_0 _)
  isplitl [HT]; · iexact HT
  iintro HT
  iapply (wp_assume _ _ _ _ (chk2_of i _ (by rw [he]; exact e.isLt)))
  iapply ret_run
  iapply (wp_wand_r Idealize.ShloMosaic.frame (wpE (defs₀ (F := F)) 𝒱₀ (c : Thread nD τ) none) Set.univ)
  isplitl [HA]
  · iapply (issue_any c (slotOf v5) e w _ _ _ _ _ _ _ a2 a5 a3 a6 a7 b4 b8)
    iexact HA
  iintro %_ HA
  isplitl [HT]; · iexact HT
  iexact HA
theorem later_run (P : sProp 𝕄) (i : grid0.Coords) (v5 : BitVec 32) (hw1 : k0_chk1 i v5) (hi : ¬ (i 0).val = 0) :
    P ⊢ wp frame (wpE (defs₀ (F := F)) 𝒱₀ (c : Thread nD τ) none) Set.univ (firstP i v5 hw1) (fun _ => P) := by
  unfold firstP
  rw [dif_neg (fun h => hi ((cond1_iff i).1 h))]
  iintro H
  sl_step
  iexact H

theorem stored_view {S : Shape} {e : EltTy} (O : Memref sig .tc .vmem S e) (f : O.view.ty.Contents (Elt F)) (off : Fin S.rank → ℕ) (h0 : off = fun _ => 0) (hin : ∀ a, off a + S.size a ≤ S.size a)
    (x : S.Idx → Elt F e) :
    O.view.read (Elt F) (O.view.writes (Elt F) f [⟨Rect.unit (s := S) off S.size hin, x⟩]) = x := by
  subst h0
  exact View.read_writes_whole (Val := Elt F) O.view f x

theorem rep_of_eq {S : Shape} {e : EltTy} (O : Memref sig .tc .vmem S e) (f : Buf (Elt F) (O.view.loc (c : Thread nD τ))) (x : S.Idx → Elt F e) (h : O.view.read (Elt F) f = x) :
    ((O.view.loc (c : Thread nD τ) ↦[O.view.set]{fullShare} f : sProp 𝕄)) ⊢ (O.view.loc (c : Thread nD τ) ↦[O.view.set]{fullShare} O.view.rep x) := by
  have e := pointsTo_rep_entails (Ix := Unit) (Name := ℕ) (U := UR sig nD τ × Counters) (Lvl := ℕ) (c : Thread nD τ) O f fullShare
  rwa [h] at e

/-- The finished tile's store. -/
theorem out_run (O : Memref sig .tc .vmem S512x1024 .i32) (hO : O.IsWhole) (a : Acc F) (y : Vec F S512x1024 .i32) :
    iprop(held c cc0_scratch0 a ∗ (O.view.loc (c : Thread nD τ) ↦[O.view.set]{fullShare} O.view.rep y))
      ⊢ wp frame (wpE (defs₀ (F := F)) 𝒱₀ (c : Thread nD τ) none) Set.univ (outP O hO)
        (fun _ => iprop(held c cc0_scratch0 a ∗ (O.view.loc (c : Thread nD τ) ↦[O.view.set]{fullShare} O.view.rep (k0_pay16 a)))) := by
  iintro ⟨Ha, HO⟩
  unfold outP
  sl_exec
  sl_step
  isplitl [Ha]; · iexact Ha
  iapply (rep_of_eq c O _ (k0_pay16 a) ((stored_view O _ ![0, 0] z2 inb_S512x1024_S512x1024_0_0 _).trans (congrArg k0_pay16 (Memref.readAt_unit_zero (Elt F) cc0_scratch0 z2 _ a))))
  iexact HO

/-- What the output block holds after a point. -/
def outV (v5 : BitVec 32) (a : Acc F) (y : Vec F S512x1024 .i32) : Vec F S512x1024 .i32 := if v5 &&& 2#32 = 0#32 then y else k0_pay16 a

theorem last_run (O : Memref sig .tc .vmem S512x1024 .i32) (hO : O.IsWhole) (v5 : BitVec 32) (hv : v5.toNat < 528) (a : Acc F) (y : Vec F S512x1024 .i32) :
    iprop(held c cc0_scratch0 a ∗ (O.view.loc (c : Thread nD τ) ↦[O.view.set]{fullShare} O.view.rep y))
      ⊢ wp frame (wpE (defs₀ (F := F)) 𝒱₀ (c : Thread nD τ) none) Set.univ (lastP O hO v5)
        (fun _ => iprop(held c cc0_scratch0 a ∗ (O.view.loc (c : Thread nD τ) ↦[O.view.set]{fullShare} O.view.rep (outV v5 a y)))) := by
  unfold lastP outV
  rw [wp_bind]
  by_cases h : v5 &&& 2#32 = 0#32
  · rw [dif_neg (fun h' => (cond13_iff v5 hv).1 h' h), if_pos h]
    iintro H
    sl_step
    sl_step
    iexact H
  · rw [dif_pos ((cond13_iff v5 hv).2 h), if_neg h]
    iintro H
    iapply (wp_wand_r Idealize.ShloMosaic.frame (wpE (defs₀ (F := F)) 𝒱₀ (c : Thread nD τ) none) Set.univ)
    isplitl [H]
    · iapply (out_run c O hO a y); iexact H
    iintro %_ H
    sl_step
    iexact H

theorem pure_run {α : Type} (x : α) (Q : α → sProp 𝕄) : Q x ⊢ wp frame (wpE (defs₀ (F := F)) 𝒱₀ (c : Thread nD τ) none) Set.univ (Pure.pure x : PG (F := F) α) Q := by
  iintro H
  sl_step
  iexact H

/-- The tables a point reads. -/
def tabs (q : PosShare TreeShare) (T0 : (main_arg0 : Ref sig .tc).ty.Contents (Elt F)) (T1 : (main_arg1 : Ref sig .tc).ty.Contents (Elt F)) (T2 : (main_arg2 : Ref sig .tc).ty.Contents (Elt F))
    (T3 : (main_arg3 : Ref sig .tc).ty.Contents (Elt F)) (T4 : (main_arg4 : Ref sig .tc).ty.Contents (Elt F)) : sProp 𝕄 :=
  iprop(tab c main_arg0 q T0 ∗ tab c main_arg1 q T1 ∗ tab c main_arg2 q T2 ∗ tab c main_arg3 q T3 ∗ tab c main_arg4 q T4)

/-- A point, its two copying pieces given as what they turn the copies' state into. -/
theorem point_run (q : PosShare TreeShare) (T0 : (main_arg0 : Ref sig .tc).ty.Contents (Elt F)) (T1 : (main_arg1 : Ref sig .tc).ty.Contents (Elt F)) (T2 : (main_arg2 : Ref sig .tc).ty.Contents (Elt F))
    (T3 : (main_arg3 : Ref sig .tc).ty.Contents (Elt F)) (T4 : (main_arg4 : Ref sig .tc).ty.Contents (Elt F)) (i : grid0.Coords)
    (hv : (T4 (ix1 (i 0) : S95.Idx) : BitVec 32).toNat < 528)
    (P1 P2 P3 : sProp 𝕄) (g u : Vec F S2048x256 .bf16) (d : Vec F S256x2048 .bf16) (a : Acc F)
    (X : Memref sig .tc .vmem S512x1024 .i32) (hX : X.IsWhole) (x : Vec F S512x1024 .i32) (O : Memref sig .tc .vmem S512x1024 .i32) (hO : O.IsWhole) (y : Vec F S512x1024 .i32)
    (h1 : ∀ hw, iprop(tab c main_arg1 q T1 ∗ P1) ⊢ wp frame (wpE (defs₀ (F := F)) 𝒱₀ (c : Thread nD τ) none) Set.univ (firstP i (T4 (ix1 (i 0) : S95.Idx)) hw) (fun _ => iprop(tab c main_arg1 q T1 ∗ P2)))
    (h2 : ∀ hw, iprop(tab c main_arg1 q T1 ∗ P2) ⊢ wp frame (wpE (defs₀ (F := F)) 𝒱₀ (c : Thread nD τ) none) Set.univ (newP i (T4 (ix1 (i 0) : S95.Idx)) hw) (fun _ => iprop(tab c main_arg1 q T1 ∗ P3 ∗ cur c g u d))) :
    iprop(tabs c q T0 T1 T2 T3 T4 ∗ P1 ∗ held c cc0_scratch0 a ∗ (X.view.loc (c : Thread nD τ) ↦[X.view.set]{fullShare} X.view.rep x) ∗ (O.view.loc (c : Thread nD τ) ↦[O.view.set]{fullShare} O.view.rep y))
      ⊢ wp frame (wpE (defs₀ (F := F)) 𝒱₀ (c : Thread nD τ) none) Set.univ (bodyP i X hX O hO)
        (fun _ => iprop(tabs c q T0 T1 T2 T3 T4 ∗ (P3 ∗ cur c g u d)
          ∗ held c cc0_scratch0 (accU (firstW (T4 (ix1 (i 0) : S95.Idx))) (T2 (ix1 (i 0) : S95.Idx)) (T3 (ix1 (i 0) : S95.Idx)) (T0 (ix1 (i 0) : S95.Idx)) x g u d a)
          ∗ (X.view.loc (c : Thread nD τ) ↦[X.view.set]{fullShare} X.view.rep x)
          ∗ (O.view.loc (c : Thread nD τ) ↦[O.view.set]{fullShare} O.view.rep (outV (T4 (ix1 (i 0) : S95.Idx)) (accU (firstW (T4 (ix1 (i 0) : S95.Idx))) (T2 (ix1 (i 0) : S95.Idx)) (T3 (ix1 (i 0) : S95.Idx)) (T0 (ix1 (i 0) : S95.Idx)) x g u d a) y)))) := by
  unfold bodyP tabs
  iintro ⟨⟨HT0, HT1, HT2, HT3, HT4⟩, HP, Ha, HX, HO⟩
  iapply bind_run
  unfold headP
  iapply bind_run
  iapply (word2 c q T2 (i 0) _ (point_off i).1 (k0_off1_inb i) _)
  isplitl [HT2]; · iexact HT2
  iintro HT2
  iapply bind_run
  iapply (word3 c q T3 (i 0) _ (point_off i).1 (k0_off1_inb i) _)
  isplitl [HT3]; · iexact HT3
  iintro HT3
  iapply bind_run
  iapply (word4 c q T4 (i 0) _ (point_off i).1 (k0_off1_inb i) _)
  isplitl [HT4]; · iexact HT4
  iintro HT4
  iapply (wp_assume _ _ _ _ (chk1_of i _ hv))
  iapply ret_run
  iapply pure_run
  dsimp only
  iapply bind_run
  iapply (wp_wand_r Idealize.ShloMosaic.frame (wpE (defs₀ (F := F)) 𝒱₀ (c : Thread nD τ) none) Set.univ)
  isplitl [HT1 HP]
  · iapply (h1 _)
    isplitl [HT1]; · iexact HT1
    iexact HP
  iintro %_ HP
  iapply bind_run
  iapply (wp_wand_r Idealize.ShloMosaic.frame (wpE (defs₀ (F := F)) 𝒱₀ (c : Thread nD τ) none) Set.univ)
  isplitl [HP]
  · iapply (h2 _)
    iexact HP
  iintro %_ ⟨HT1, HP, HC⟩
  iapply bind_run
  unfold cur
  icases HC with ⟨Hg, Hu, Hd⟩
  iapply (wp_wand_r Idealize.ShloMosaic.frame (wpE (defs₀ (F := F)) 𝒱₀ (c : Thread nD τ) none) Set.univ)
  isplitl [HT0 Hg Hu Hd Ha HX]
  · iapply (acc_run c q T0 X x g u d a i _ _ _)
    unfold accRes
    isplitl [HT0]; · iexact HT0
    isplitl [HX]; · iexact HX
    isplitl [Hg]; · iexact Hg
    isplitl [Hu]; · iexact Hu
    isplitl [Hd]; · iexact Hd
    iexact Ha
  unfold accRes
  iintro %_ ⟨HT0, HX, Hg, Hu, Hd, Ha⟩
  iapply (wp_wand_r Idealize.ShloMosaic.frame (wpE (defs₀ (F := F)) 𝒱₀ (c : Thread nD τ) none) Set.univ)
  isplitl [Ha HO]
  · iapply (last_run c O hO _ hv)
    isplitl [Ha]; · iexact Ha
    iexact HO
  iintro %_ ⟨Ha, HO⟩
  isplitl [HT0 HT1 HT2 HT3 HT4]
  · isplitl [HT0]; · iexact HT0
    isplitl [HT1]; · iexact HT1
    isplitl [HT2]; · iexact HT2
    isplitl [HT3]; · iexact HT3
    iexact HT4
  isplitl [HP Hg Hu Hd]
  · isplitl [HP]; · iexact HP
    isplitl [Hg]; · iexact Hg
    isplitl [Hu]; · iexact Hu
    iexact Hd
  isplitl [Ha]; · iexact Ha
  isplitl [HX]; · iexact HX
  iexact HO

end Pieces

end Cert.Experts.Kernel
-- ==== Proof.PlainSame.lean ====
/-
The experts call with its floats bit patterns is the program that the region's proof is of.
-/
module

public import proofs.«01_k».proof.Proof.Gen.Plain
public import proofs.«01_k».proof.Proof.PlainIdealRegion

@[expose] public section

set_option maxRecDepth 100000

noncomputable section

namespace Cert.Experts.Plain

open Idealize.ShloMosaic Idealize.SL.Sem

theorem body_same (i : Cert.Plain.grid0.Coords) : @Cert.Plain.cc0_experts Bits _ _ i = @Cert.PlainIdeal.cc0_experts Bits _ _ i := rfl
theorem defs₀_same : Cert.Plain.defs₀ (F := Bits) = Cert.PlainIdeal.defs₀ (F := Bits) := by
  unfold Cert.Plain.defs₀ Cert.PlainIdeal.defs₀
  refine congrArg Defs.onTc ?_
  funext l a
  match l, a with
  | ⟨0, _⟩, (t, s) => rfl
theorem defs_same : Cert.Plain.defs (F := Bits) = Cert.PlainIdeal.defs (F := Bits) := by
  unfold Cert.Plain.defs Cert.PlainIdeal.defs
  exact congrArg (Pipeline.defs _) defs₀_same

theorem frame_of_tables (m : (ℓ : Loc Cert.PlainIdeal.nD Cert.PlainIdeal.τ Cert.PlainIdeal.sig) → Buf (Elt Bits) ℓ) (h : PlainIdeal.TablesM m) (ρ : Dev Cert.PlainIdeal.nD → PrngReg) :
    θ_run (Cert.Plain.defs (F := Bits)) (onTc (τ := Cert.Plain.τ) (Cert.Plain.main (F := Bits))) ⟨m, fun _ => 0, ρ⟩ (fun r => PlainIdeal.Kept m r ∧ r.2.sem = fun _ => 0) := by
  rw [defs_same]
  exact PlainIdeal.frame_of_tables m h ρ

end Cert.Experts.Plain
end
-- ==== Proof.Frames.lean ====
/-
The frames: from any memory whose tables are as the precondition says, the two runs of the region.
-/
module

public import proofs.«01_k».proof.Defs
public import proofs.«01_k».proof.Proof.Gen.Plain
public import proofs.«01_k».proof.Proof.Gen.Pre_tables_ok
public import proofs.«01_k».proof.Proof.PlainIdealRegion
public import proofs.«01_k».proof.Proof.KernelRegion
public import proofs.«01_k».proof.Proof.PlainSame
public import proofs.«01_k».proof.Proof.Gen.ReferenceIdeal
public import proofs.«01_k».proof.Proof.Gen.ReferenceIdeal.Run

@[expose] public section

noncomputable section

namespace Cert.Experts

open Idealize.ShloMosaic Idealize.SL.Sem

theorem ix1_ofFin (w : Fin 95) : (Shape.Idx.ofFin w : (⟨1, ![95]⟩ : Shape).Idx) = ix1 w := by
  funext a
  match a with
  | ⟨0, _⟩ => rfl

theorem tablesM_kernel (m : (ℓ : Loc Cert.Kernel.nD Cert.Kernel.τ Cert.Kernel.sig) → Buf (Elt Bits) ℓ) (h : Cert.Pre_Kernel m) : Kernel.TablesM m := by
  have e := tables_of _ _ _ _ _ _ _ _ _ (h 0)
  simp only [ix1_ofFin] at e
  exact e
theorem tablesM_plain (m : (ℓ : Loc Cert.Plain.nD Cert.Plain.τ Cert.Plain.sig) → Buf (Elt Bits) ℓ) (h : Cert.Pre_Plain m) : PlainIdeal.TablesM (F := Bits) m := by
  have e := tables_of _ _ _ _ _ _ _ _ _ (h 0)
  simp only [ix1_ofFin] at e
  exact e
theorem tablesM_ideal (m : (ℓ : Loc Cert.PlainIdeal.nD Cert.PlainIdeal.τ Cert.PlainIdeal.sig) → Buf (Elt Ideal) ℓ) (h : Cert.Pre_PlainIdeal m) : PlainIdeal.TablesM m := by
  have e := tables_of _ _ _ _ _ _ _ _ _ (h 0)
  simp only [ix1_ofFin] at e
  exact e

theorem frame_kernel : Cert.quiescent_Kernel := fun m g h => Kernel.frame_of_tables m (tablesM_kernel m h) g
theorem frame_ideal : Cert.quiescent_PlainIdeal := fun m g h => PlainIdeal.frame_of_tables m (tablesM_ideal m h) g
theorem frame_plain : Cert.quiescent_Plain := fun m g h => Plain.frame_of_tables m (tablesM_plain m h) g
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Experts

end
-- ==== Proof.Spec.lean ====
/-
One row of an expert's feed-forward, over the extended reals, and the readings of a packed word.
-/
module

public import Idealize.ShloMosaic.Lib.Pointwise
public import Idealize.ShloMosaic.Lib.StableHlo.Predicate

@[expose] public section

noncomputable section

namespace Cert.Experts

open Idealize.ShloMosaic Idealize.SL.Sem

/-- The low half of a packed word as a number, and the high half. -/
def wLo (b : BitVec 32) : EReal := Ideal.ofBits .bf16 (b.extractLsb' 0 16)
def wHi (b : BitVec 32) : EReal := Ideal.ofBits .bf16 (b.extractLsb' 16 16)

/-- A wide pattern whose low half is zero denotes what its high half denotes. -/
theorem widen (w : BitVec 32) (c : BitVec 16) (h : w.toNat = c.toNat * 65536) : Ideal.ofBits .f32 w = Ideal.ofBits .bf16 c := by
  show Ideal.ieee 8 23 w = Ideal.ieee 8 7 c
  have hc := c.isLt
  have e1 : w.extractLsb' (8 + 23) 1 = c.extractLsb' (8 + 7) 1 := by
    apply BitVec.eq_of_toNat_eq
    simp only [BitVec.extractLsb'_toNat, Nat.shiftRight_eq_div_pow]
    omega
  have e2 : (w.extractLsb' 23 8).toNat = (c.extractLsb' 7 8).toNat := by
    simp only [BitVec.extractLsb'_toNat, Nat.shiftRight_eq_div_pow]
    omega
  have e3 : (w.extractLsb' 0 23).toNat = (c.extractLsb' 0 7).toNat * 65536 := by
    simp only [BitVec.extractLsb'_toNat, Nat.shiftRight_eq_div_pow]
    omega
  unfold Ideal.ieee
  simp only [e1, e2, e3]
  generalize (c.extractLsb' 0 7).toNat = fr
  generalize (c.extractLsb' 7 8).toNat = ex
  have p : ∀ z : ℤ, (2 : ℝ) ^ (z - 7) = 65536 * (2 : ℝ) ^ (z - 23) := by
    intro z
    rw [show z - 7 = 16 + (z - 23) by ring, zpow_add₀ (by norm_num)]
    norm_num
  have p1 := p (1 - (2 ^ (8 - 1) - 1))
  have p2 := p ((ex : ℤ) - (2 ^ (8 - 1) - 1))
  split
  · have : fr * 65536 = 0 ↔ fr = 0 := by omega
    simp only [this]
  · split
    · congr 1
      push_cast at p1 ⊢
      rw [p1]; ring
    · congr 1
      push_cast at p2 ⊢
      rw [p2]; ring

theorem low_word (b : BitVec 32) : Ideal.ofBits .f32 (IntOp.shli .host b 16#32) = wLo b := by
  refine widen _ _ ?_
  have e : IntOp.shli .host b 16#32 = b <<< (16 : ℕ) := by
    unfold IntOp.shli
    rw [if_pos (by decide)]
    rfl
  rw [e]
  simp only [BitVec.toNat_shiftLeft, BitVec.extractLsb'_toNat, Nat.shiftRight_eq_div_pow, Nat.shiftLeft_eq]
  omega
theorem high_word (b : BitVec 32) : Ideal.ofBits .f32 (IntOp.andi b 4294901760#32) = wHi b := by
  refine widen _ _ ?_
  have e : IntOp.andi b 4294901760#32 = (b >>> (16 : ℕ)) <<< (16 : ℕ) := by
    show b &&& 4294901760#32 = _
    apply BitVec.eq_of_getLsbD_eq
    intro i hi
    have k : ∀ i : Fin 32, (4294901760#32).getLsbD i.val = decide (16 ≤ i.val) := by decide
    rw [BitVec.getLsbD_and, k ⟨i, hi⟩]
    by_cases h : 16 ≤ i
    · simp [h, hi, show 16 + (i - 16) = i by omega]
    · simp [h]
  rw [e]
  have := b.isLt
  simp only [BitVec.toNat_shiftLeft, BitVec.toNat_ushiftRight, BitVec.extractLsb'_toNat, Nat.shiftRight_eq_div_pow, Nat.shiftLeft_eq]
  omega

/-- A row of packed words. -/
abbrev Row := Fin 1024 → BitVec 32
/-- The product of a row, low halves first, with a column of a weight. -/
def hid (x : Row) (g : Fin 2048 → Fin 256 → EReal) (f : Fin 256) : EReal :=
  ∑ k : Fin 1024, wLo (x k) * g ⟨k.val, by omega⟩ f + ∑ k : Fin 1024, wHi (x k) * g ⟨1024 + k.val, by omega⟩ f
/-- The hidden row: `silu` of the one product, times the other. -/
def hat (x : Row) (g u : Fin 2048 → Fin 256 → EReal) (f : Fin 256) : EReal :=
  Ideal.div (hid x g f) (1 + Ideal.exp (0 - hid x g f)) * hid x u f
/-- The row that the expert gives. -/
def outv (x : Row) (g u : Fin 2048 → Fin 256 → EReal) (d : Fin 256 → Fin 2048 → EReal) (c : Fin 2048) : EReal :=
  ∑ f : Fin 256, hat x g u f * d f c

theorem exp_nonneg (x : EReal) : 0 ≤ Ideal.exp x := by
  induction x with
  | bot => exact le_refl _
  | top => exact le_top
  | coe r => exact EReal.coe_nonneg.2 (Real.exp_pos r).le

theorem silu_eq (x : EReal) : x * Ideal.div 1 (1 + Ideal.exp (-x)) = Ideal.div x (1 + Ideal.exp (0 - x)) := by
  have h : (1 + Ideal.exp (-x)) ≠ 0 := by
    intro e
    have := add_le_add (le_refl (1 : EReal)) (exp_nonneg (-x))
    rw [e, add_zero] at this
    exact absurd this (by norm_num)
  rw [zero_sub]
  unfold Ideal.div
  rw [if_neg h, if_neg h, one_mul]

end Cert.Experts

end
-- ==== Proof.Vals.lean ====
/-
What the pieces compute, element by element, over the extended reals.
-/
module

public import proofs.«01_k».proof.Proof.PlainIdealRegion
public import proofs.«01_k».proof.Proof.Spec
public import proofs.«01_k».proof.Proof.Tables

@[expose] public section

noncomputable section

namespace Cert.Experts.PlainIdeal

open Cert.PlainIdeal Cert.PlainIdeal.Gen
open Idealize.ShloMosaic Idealize.SL.Sem

/-- Whether row `r` after place `o` of tile `t` is in an item's rows. -/
def mask (v1 v3 t o : BitVec 32) (r : ℕ) : BitVec 1 :=
  IntOp.andi (IntOp.cmpi .sge (IntOp.addi (Scalar.addi (Scalar.muli t 512#32) o) (BitVec.ofNat 32 r)) v1)
    (IntOp.cmpi .slt (IntOp.addi (Scalar.addi (Scalar.muli t 512#32) o) (BitVec.ofNat 32 r)) v3)
/-- The row of the expert, or nothing. -/
def masked (v1 v3 t o : BitVec 32) (r : ℕ) (x : Row) (g u : Vec Ideal S2048x256 .bf16) (d : Vec Ideal S256x2048 .bf16) (c : Fin 2048) : EReal :=
  ∑ f : Fin 256, Scalar.select (mask v1 v3 t o r) (hat x (fun k f => g (ix2 k f)) (fun k f => u (ix2 k f)) f * d (ix2 f c)) 0

theorem masked_eq (v1 v3 t o : BitVec 32) (r : ℕ) (x : Row) (g u : Vec Ideal S2048x256 .bf16) (d : Vec Ideal S256x2048 .bf16) (c : Fin 2048) :
    masked v1 v3 t o r x g u d c = if mask v1 v3 t o r = 1#1 then outv x (fun k f => g (ix2 k f)) (fun k f => u (ix2 k f)) (fun f c => d (ix2 f c)) c else 0 := by
  unfold masked outv
  by_cases h : mask v1 v3 t o r = 1#1
  · rw [if_pos h]
    refine Finset.sum_congr rfl fun f _ => ?_
    rw [h]; rfl
  · rw [if_neg h]
    refine Finset.sum_eq_zero fun f _ => ?_
    have e : mask v1 v3 t o r = 0#1 := (bit01 _).resolve_left h
    rw [e]; rfl

section
variable (v1 v3 t : BitVec 32) (x : Vec Ideal S512x1024 .i32) (y : Vec Ideal S256x1024 .i32) (g u : Vec Ideal S2048x256 .bf16) (d : Vec Ideal S256x2048 .bf16)
  (a : Acc Ideal) (b : Half Ideal)

theorem pay6_at (j : S512x2048.Idx) : k0_pay6 v1 v3 t x g u d j = masked v1 v3 t 0#32 (j 0).val (fun k => x (ix2 (j 0) k)) g u d (j 1) := by
  pointwise! [k0_pay6, k0_pay5]
theorem pay7_at (j : S512x2048.Idx) : k0_pay7 v1 v3 t x g u a d j = a j + masked v1 v3 t 0#32 (j 0).val (fun k => x (ix2 (j 0) k)) g u d (j 1) := by
  pointwise! [k0_pay7, k0_pay5]
theorem pay9_at (j : S256x2048.Idx) : k0_pay9 v1 v3 t y g u d j = masked v1 v3 t 0#32 (j 0).val (fun k => y (ix2 (j 0) k)) g u d (j 1) := by
  pointwise! [k0_pay9, k0_pay8]
theorem pay10_at (j : S256x2048.Idx) : k0_pay10 (F := Ideal) j = 0 := by
  pointwise! [k0_pay10]
theorem pay11_at (j : S256x2048.Idx) : k0_pay11 v1 v3 t y g u b d j = b j + masked v1 v3 t 0#32 (j 0).val (fun k => y (ix2 (j 0) k)) g u d (j 1) := by
  pointwise! [k0_pay11, k0_pay8]
theorem pay13_at (j : S256x2048.Idx) : k0_pay13 v1 v3 t y g u d j = masked v1 v3 t 256#32 (j 0).val (fun k => y (ix2 (j 0) k)) g u d (j 1) := by
  pointwise! [k0_pay13, k0_pay12]
theorem pay14_at (j : S256x2048.Idx) : k0_pay14 (F := Ideal) j = 0 := by
  pointwise! [k0_pay14]
theorem pay15_at (j : S256x2048.Idx) : k0_pay15 v1 v3 t y g u b d j = b j + masked v1 v3 t 256#32 (j 0).val (fun k => y (ix2 (j 0) k)) g u d (j 1) := by
  pointwise! [k0_pay15, k0_pay12]
end
theorem pay16_at (a : Acc Ideal) (j : S512x2048.Idx) : k0_pay16 a j = a j := by
  pointwise! [k0_pay16]
theorem g_at (w : Wts Ideal) (e : Fin 32) (k : Fin 2048) (f : Fin 256) : k0_pay1 (w.gVec e) (ix2 k f) = w.g (ix4 w.L e k f) := by
  pointwise! [k0_pay1]
theorem u_at (w : Wts Ideal) (e : Fin 32) (k : Fin 2048) (f : Fin 256) : k0_pay3 (k0_pay2 (w.uVec e)) (ix2 k f) = w.u (ix4 w.L e k f) := by
  pointwise! [k0_pay2, k0_pay3]
theorem d_at (w : Wts Ideal) (e : Fin 32) (f : Fin 256) (k : Fin 2048) : k0_pay4 (w.dVec e) (ix2 f k) = w.d (ix4 w.L e f k) := by
  pointwise! [k0_pay4]

/-! ## An item's rows, in numbers -/

theorem toInt_small (b : BitVec 32) (h : b.toNat < 40000) : b.toInt = b.toNat := BitVec.toInt_eq_toNat_of_lt (by omega)
theorem word_sgt (a b : BitVec 32) : Scalar.cmpi .sgt a b = 1#1 ↔ b.toInt < a.toInt := by
  show IntOp.cmpi .sgt a b = 1#1 ↔ _
  rw [IntOp.cmpi, StableHlo.Predicate.ofBool_eq_one_iff]; simp [BitVec.slt]
theorem ext_bit (b : BitVec 1) : Scalar.cmpi .ne (Scalar.extui b : BitVec 32) 0#32 = 1#1 ↔ b = 1#1 := by revert b; decide
theorem bit_xor (p : BitVec 1) : Scalar.xori p 1#1 = 1#1 ↔ ¬ p = 1#1 := by revert p; decide
theorem bit_and' (p q : BitVec 1) : Scalar.andi p q = 1#1 ↔ p = 1#1 ∧ q = 1#1 := bit_and p q
theorem word_slt' (a b : BitVec 32) : Scalar.cmpi .slt a b = 1#1 ↔ a.toInt < b.toInt := word_slt a b

section
variable (v1 v3 t : BitVec 32) (ht : t.toNat < 64) (h1 : v1.toNat ≤ 32768) (h3 : v3.toNat ≤ 32768)
include ht h1 h3

omit h1 h3 in
theorem place (o : BitVec 32) (ho : o.toNat ≤ 256) : (Scalar.addi (Scalar.muli t 512#32) o).toNat = t.toNat * 512 + o.toNat := by
  show (t * 512#32 + o).toNat = _
  rw [BitVec.toNat_add, BitVec.toNat_mul]
  show ((t.toNat * 512) % 2 ^ 32 + o.toNat) % 2 ^ 32 = _
  omega

theorem mask_iff (o : BitVec 32) (ho : o.toNat ≤ 256) (r : ℕ) (hr : r < 512) :
    mask v1 v3 t o r = 1#1 ↔ v1.toNat ≤ t.toNat * 512 + o.toNat + r ∧ t.toNat * 512 + o.toNat + r < v3.toNat := by
  have hp := place t ht o ho
  have e : (IntOp.addi (Scalar.addi (Scalar.muli t 512#32) o) (BitVec.ofNat 32 r)).toNat = t.toNat * 512 + o.toNat + r := by
    show (Scalar.addi (Scalar.muli t 512#32) o + BitVec.ofNat 32 r).toNat = _
    rw [BitVec.toNat_add, hp, BitVec.toNat_ofNat]
    omega
  unfold mask
  rw [bit_and, word_sge, word_slt, toInt_small v1 (by omega), toInt_small v3 (by omega), toInt_small _ (by rw [e]; omega), e]
  omega

theorem full_iff : fullW v1 v3 t = 1#1 ↔ v1.toNat < v3.toNat ∧ v1.toNat < t.toNat * 512 + 256 ∧ t.toNat * 512 + 256 < v3.toNat := by
  have hp : (Scalar.addi (Scalar.muli t 512#32) 256#32).toNat = t.toNat * 512 + 256 := place t ht 256#32 (by decide)
  unfold fullW
  simp only [ext_bit, bit_xor, bit_and', word_sgt, word_slt']
  rw [toInt_small v1 (by omega), toInt_small v3 (by omega), toInt_small _ (by rw [hp]; omega), hp]
  omega
theorem low_iff : lowW v1 v3 t = 1#1 ↔ v1.toNat < v3.toNat ∧ v1.toNat < t.toNat * 512 + 256 ∧ ¬ t.toNat * 512 + 256 < v3.toNat := by
  have hp : (Scalar.addi (Scalar.muli t 512#32) 256#32).toNat = t.toNat * 512 + 256 := place t ht 256#32 (by decide)
  unfold lowW
  simp only [ext_bit, bit_xor, bit_and', word_sgt, word_slt']
  rw [toInt_small v1 (by omega), toInt_small v3 (by omega), toInt_small _ (by rw [hp]; omega), hp]
  omega
theorem up_iff : upW v1 v3 t = 1#1 ↔ v1.toNat < v3.toNat ∧ ¬ v1.toNat < t.toNat * 512 + 256 ∧ t.toNat * 512 + 256 < v3.toNat := by
  have hp : (Scalar.addi (Scalar.muli t 512#32) 256#32).toNat = t.toNat * 512 + 256 := place t ht 256#32 (by decide)
  unfold upW
  simp only [ext_bit, bit_xor, bit_and', word_sgt, word_slt']
  rw [toInt_small v1 (by omega), toInt_small v3 (by omega), toInt_small _ (by rw [hp]; omega), hp]
  omega
end

section
variable (v1 v3 t : BitVec 32) (ht : t.toNat < 64) (h1 : v1.toNat ≤ 32768) (h3 : v3.toNat ≤ 32768) (hv : v1.toNat < v3.toNat)
  (hl : t.toNat * 512 ≤ v1.toNat) (hh : v3.toNat ≤ t.toNat * 512 + 512)
  (x : Vec Ideal S512x1024 .i32) (g u : Vec Ideal S2048x256 .bf16) (d : Vec Ideal S256x2048 .bf16) (a : Acc Ideal)

/-- What an item adds at a place of its tile. -/
def share (j : S512x2048.Idx) : EReal :=
  if v1.toNat ≤ t.toNat * 512 + (j 0).val ∧ t.toNat * 512 + (j 0).val < v3.toNat then
    outv (fun k => x (ix2 (j 0) k)) (fun k f => g (ix2 k f)) (fun k f => u (ix2 k f)) (fun f c => d (ix2 f c)) (j 1) else 0

include ht h1 h3 in
theorem masked_full (j : S512x2048.Idx) : masked v1 v3 t 0#32 (j 0).val (fun k => x (ix2 (j 0) k)) g u d (j 1) = share v1 v3 t x g u d j := by
  refine (masked_eq ..).trans ?_
  unfold share
  refine if_congr ?_ rfl rfl
  exact mask_iff v1 v3 t ht h1 h3 0#32 (by decide) _ (j 0).isLt
include ht h1 h3 in
theorem masked_low (j : S512x2048.Idx) (h : (j 0).val < 256) :
    masked v1 v3 t 0#32 (j 0).val (fun k => lowX x (ix2 ⟨(j 0).val, h⟩ k)) g u d (j 1) = share v1 v3 t x g u d j :=
  masked_full v1 v3 t ht h1 h3 x g u d j
include ht h1 h3 in
theorem masked_up (j : S512x2048.Idx) (h : ¬ (j 0).val < 256) :
    masked v1 v3 t 256#32 ((j 0).val - 256) (fun k => upX x (ix2 ⟨(j 0).val - 256, by have : (j 0).val < 512 := (j 0).isLt; omega⟩ k)) g u d (j 1) = share v1 v3 t x g u d j := by
  have hj : (j 0).val < 512 := (j 0).isLt
  refine (masked_eq ..).trans ?_
  unfold share
  have ex : (fun k => upX x (ix2 ⟨(j 0).val - 256, by omega⟩ k)) = fun k => x (ix2 (j 0) k) := by
    funext k
    unfold upX
    refine congrArg x ?_
    funext b
    match b with
    | ⟨0, _⟩ => exact Fin.ext (show 256 + ((j 0).val - 256) = (j 0).val by omega)
    | ⟨1, _⟩ => rfl
  refine if_congr ?_ (congrArg (fun X : Row => outv X _ _ _ _) ex) rfl
  rw [mask_iff v1 v3 t ht h1 h3 256#32 (by decide) _ (by omega)]
  show _ ≤ _ + 256 + _ ∧ _ + 256 + _ < _ ↔ _
  omega
theorem ix2_eta (j : S512x2048.Idx) : ix2 (j 0) (j 1) = j := by
  funext b
  match b with
  | ⟨0, _⟩ => rfl
  | ⟨1, _⟩ => rfl

include ht h1 h3 hv hl hh in
/-- The accumulator after a valid item: what it held, or nothing if the item is its tile's first, and the item's share. -/
theorem accU_at (fst : BitVec 1) (j : S512x2048.Idx) :
    accU fst v1 v3 t x g u d a j = (if fst = 1#1 then 0 else a j) + share v1 v3 t x g u d j := by
  have hj : (j 0).val < 512 := (j 0).isLt
  have F := full_iff v1 v3 t ht h1 h3
  have L := low_iff v1 v3 t ht h1 h3
  have U := up_iff v1 v3 t ht h1 h3
  unfold accU
  by_cases p : v1.toNat < t.toNat * 512 + 256 <;> by_cases q : t.toNat * 512 + 256 < v3.toNat
  · rw [if_neg (show ¬ upW v1 v3 t = 1#1 by rw [U]; omega), if_neg (show ¬ lowW v1 v3 t = 1#1 by rw [L]; omega), if_pos (F.2 ⟨hv, p, q⟩)]
    unfold fullU
    rcases bit01 fst with rfl | rfl
    · show k0_pay6 v1 v3 t x g u d j = _
      rw [pay6_at, masked_full v1 v3 t ht h1 h3, if_pos rfl, zero_add]
    · show k0_pay7 v1 v3 t x g u a d j = _
      rw [pay7_at, masked_full v1 v3 t ht h1 h3]
      rfl
  · rw [if_neg (show ¬ upW v1 v3 t = 1#1 by rw [U]; omega), if_pos (L.2 ⟨hv, p, q⟩), if_neg (show ¬ fullW v1 v3 t = 1#1 by rw [F]; omega)]
    have z : ¬ (j 0).val < 256 → share v1 v3 t x g u d j = 0 := fun h => if_neg (by omega)
    unfold lowU
    rcases bit01 fst with rfl | rfl
    · show halves (k0_pay9 v1 v3 t (lowX x) g u d) (k0_pay10 (F := Ideal)) j = _
      rw [if_pos rfl, zero_add]
      unfold halves
      split
      · next h => rw [pay9_at]; exact masked_low v1 v3 t ht h1 h3 x g u d j h
      · next h => rw [pay10_at, z h]
    · show halves (k0_pay11 v1 v3 t (lowX x) g u (lowH a) d) (upH a) j = a j + _
      unfold halves
      split
      · next h =>
        rw [pay11_at]
        refine congrArg₂ (· + ·) ?_ (masked_low v1 v3 t ht h1 h3 x g u d j h)
        exact congrArg a (ix2_eta j)
      · next h =>
        rw [z h, add_zero]
        unfold upH
        refine congrArg a ?_
        funext b
        match b with
        | ⟨0, _⟩ => exact Fin.ext (show 256 + ((j 0).val - 256) = (j 0).val by omega)
        | ⟨1, _⟩ => rfl
  · rw [if_pos (U.2 ⟨hv, p, q⟩), if_neg (show ¬ lowW v1 v3 t = 1#1 by rw [L]; omega), if_neg (show ¬ fullW v1 v3 t = 1#1 by rw [F]; omega)]
    have z : (j 0).val < 256 → share v1 v3 t x g u d j = 0 := fun h => if_neg (by omega)
    unfold upU
    rcases bit01 fst with rfl | rfl
    · show halves (k0_pay14 (F := Ideal)) (k0_pay13 v1 v3 t (upX x) g u d) j = _
      rw [if_pos rfl, zero_add]
      unfold halves
      split
      · next h => rw [pay14_at, z h]
      · next h => rw [pay13_at]; exact masked_up v1 v3 t ht h1 h3 x g u d j h
    · show halves (lowH a) (k0_pay15 v1 v3 t (upX x) g u (upH a) d) j = a j + _
      unfold halves
      split
      · next h =>
        rw [z h, add_zero]
        exact congrArg a (ix2_eta j)
      · next h =>
        rw [pay15_at]
        refine congrArg₂ (· + ·) ?_ (masked_up v1 v3 t ht h1 h3 x g u d j h)
        unfold upH
        refine congrArg a ?_
        funext b
        match b with
        | ⟨0, _⟩ => exact Fin.ext (show 256 + ((j 0).val - 256) = (j 0).val by omega)
        | ⟨1, _⟩ => rfl
  · omega

end

end Cert.Experts.PlainIdeal
end
-- ==== Proof.RefVals.lean ====
/-
What the reference computes, element by element, over the extended reals.
-/
module

public import proofs.«01_k».proof.Proof.Gen.ReferenceIdeal
public import proofs.«01_k».proof.Proof.Gen.ReferenceIdeal.Run
public import Idealize.ShloMosaic.Lib.Pointwise
public import proofs.«01_k».proof.Proof.Spec
public import proofs.«01_k».proof.Proof.Tables

@[expose] public section

noncomputable section

namespace Cert.Experts

open Cert.ReferenceIdeal Cert.ReferenceIdeal.Gen
open Idealize.ShloMosaic Idealize.SL.Sem

variable (a1 a2 a3 : IVec S95 32) (a5 : IVec S32768x1024 32) (a6 a7 : FVec Ideal S2x32x2048x256 .f32) (a8 : FVec Ideal S2x32x256x2048 .f32)

def refOut : FVec Ideal S32768x2048 .bf16 :=
  truncf .bf16 (Host.dotGeneral dot_S32768x32x256_S32x256x2048_S32768x2048_12_01_0_2_n_n none (mulf (mulf (mulf (Host.dotGeneral dot_S32768x2048_S32x2048x256_S32768x32x256_1_1_0_02_n_n none (concatenate S32768x2048 1 [⟨S32768x1024, (bitcastToFloat (F := Ideal) .f32 (Host.shli a5 (broadcastInDim S32768x1024 ![] bcast_S_S32768x1024 (constantI S_ 32 16#32))))⟩, ⟨S32768x1024, (bitcastToFloat (F := Ideal) .f32 (andi a5 (broadcastInDim S32768x1024 ![] bcast_S_S32768x1024 (constantI S_ 32 4294901760#32))))⟩] concatenates_S32768x1024_S32768x1024_S32768x2048_d1) (shapeCast _ (extractStridedSlice S1x32x2048x256 ![0, 0, 0, 0] a6 slices_S2x32x2048x256_S1x32x2048x256_0_0_0_0) shapeCasts_S1x32x2048x256_S32x2048x256)) (Host.divf (broadcastInDim S32768x32x256 ![] bcast_S_S32768x32x256 (constant S_ .f32 0x3F800000#32)) (addf (broadcastInDim S32768x32x256 ![] bcast_S_S32768x32x256 (constant S_ .f32 0x3F800000#32)) (Host.exp (Host.negf (Host.dotGeneral dot_S32768x2048_S32x2048x256_S32768x32x256_1_1_0_02_n_n none (concatenate S32768x2048 1 [⟨S32768x1024, (bitcastToFloat (F := Ideal) .f32 (Host.shli a5 (broadcastInDim S32768x1024 ![] bcast_S_S32768x1024 (constantI S_ 32 16#32))))⟩, ⟨S32768x1024, (bitcastToFloat (F := Ideal) .f32 (andi a5 (broadcastInDim S32768x1024 ![] bcast_S_S32768x1024 (constantI S_ 32 4294901760#32))))⟩] concatenates_S32768x1024_S32768x1024_S32768x2048_d1) (shapeCast _ (extractStridedSlice S1x32x2048x256 ![0, 0, 0, 0] a6 slices_S2x32x2048x256_S1x32x2048x256_0_0_0_0) shapeCasts_S1x32x2048x256_S32x2048x256))))))) (Host.dotGeneral dot_S32768x2048_S32x2048x256_S32768x32x256_1_1_0_02_n_n none (concatenate S32768x2048 1 [⟨S32768x1024, (bitcastToFloat (F := Ideal) .f32 (Host.shli a5 (broadcastInDim S32768x1024 ![] bcast_S_S32768x1024 (constantI S_ 32 16#32))))⟩, ⟨S32768x1024, (bitcastToFloat (F := Ideal) .f32 (andi a5 (broadcastInDim S32768x1024 ![] bcast_S_S32768x1024 (constantI S_ 32 4294901760#32))))⟩] concatenates_S32768x1024_S32768x1024_S32768x2048_d1) (shapeCast _ (extractStridedSlice S1x32x2048x256 ![0, 0, 0, 0] a7 slices_S2x32x2048x256_S1x32x2048x256_0_0_0_0) shapeCasts_S1x32x2048x256_S32x2048x256))) (broadcastInDim S32768x32x256 ![0, 1, 2] bcast_S32768x32x1_S32768x32x256_0_1_2 (broadcastInDim S32768x32x1 ![0, 1] bcast_S32768x32_S32768x32x1_0_1 (Host.dotGeneral dot_S32768x95_S95x32_S32768x32_1_0_0_1_n_n none (uitofp .f32 (andi (cmpi .sge (broadcastInDim S32768x95 ![0, 1] bcast_S32768x1_S32768x95_0_1 (broadcastInDim S32768x1 ![0] bcast_S32768_S32768x1_0 (iotaInDim S32768 32 0))) (broadcastInDim S32768x95 ![0, 1] bcast_S1x95_S32768x95_0_1 (broadcastInDim S1x95 ![1] bcast_S95_S1x95_1 a2))) (cmpi .slt (broadcastInDim S32768x95 ![0, 1] bcast_S32768x1_S32768x95_0_1 (broadcastInDim S32768x1 ![0] bcast_S32768_S32768x1_0 (iotaInDim S32768 32 0))) (broadcastInDim S32768x95 ![0, 1] bcast_S1x95_S32768x95_0_1 (broadcastInDim S1x95 ![1] bcast_S95_S1x95_1 a3))))) (uitofp .f32 (cmpi .eq (broadcastInDim S95x32 ![0, 1] bcast_S95x1_S95x32_0_1 (broadcastInDim S95x1 ![0] bcast_S95_S95x1_0 a1)) (broadcastInDim S95x32 ![0, 1] bcast_S1x32_S95x32_0_1 (broadcastInDim S1x32 ![1] bcast_S32_S1x32_1 (iotaInDim S32 32 0))))))))) (shapeCast _ (extractStridedSlice S1x32x256x2048 ![0, 0, 0, 0] a8 slices_S2x32x256x2048_S1x32x256x2048_0_0_0_0) shapeCasts_S1x32x256x2048_S32x256x2048)) bitsLt_bf16_f32

/-- Whether a row is in an item's rows. -/
def inRows (row : ℕ) (w : Fin 95) : BitVec 1 :=
  IntOp.andi (IntOp.cmpi .sge (BitVec.ofNat 32 row) (a2 (ix1 w))) (IntOp.cmpi .slt (BitVec.ofNat 32 row) (a3 (ix1 w)))
/-- How often the items give a row to an expert. -/
def comb (row : ℕ) (e : Fin 32) : EReal :=
  ∑ w : Fin 95, (FloatOps.uitofp .f32 (inRows a2 a3 row w) : Ideal .f32) * (FloatOps.uitofp .f32 (IntOp.cmpi .eq (a1 (ix1 w)) (BitVec.ofNat 32 e.val)) : Ideal .f32)
def wide (a : FVec Ideal S2x32x2048x256 .f32) (e : Fin 32) : Fin 2048 → Fin 256 → EReal := fun k f => a (ix4 (0 : Fin 2) e k f)
def tall (a : FVec Ideal S2x32x256x2048 .f32) (e : Fin 32) : Fin 256 → Fin 2048 → EReal := fun f k => a (ix4 (0 : Fin 2) e f k)
def rowOf (a : IVec S32768x1024 32) (r : Fin 32768) : Row := fun k => a (ix2 r k)
def refSum (j : S32768x2048.Idx) : EReal :=
  ∑ e : Fin 32, ∑ f : Fin 256, (hat (rowOf a5 (j 0)) (wide a6 e) (wide a7 e) f * comb a1 a2 a3 (j 0).val e) * tall a8 e f (j 1)

theorem ref_at (j : S32768x2048.Idx) : refOut a1 a2 a3 a5 a6 a7 a8 j = refSum a1 a2 a3 a5 a6 a7 a8 j := by
  pointwise! [refOut]
  simp only [low_word, high_word]
  unfold refSum
  refine Finset.sum_congr rfl fun e _ => Finset.sum_congr rfl fun f _ => ?_
  unfold hat
  rw [← silu_eq]
  rfl

theorem bit_real (b : BitVec 1) : (FloatOps.uitofp .f32 b : Ideal .f32) = if b = 1#1 then (1 : EReal) else 0 := by
  have k : ∀ b : BitVec 1, b = 1#1 ∨ b = 0#1 := by decide
  show (((b.toNat : ℝ)) : EReal) = _
  rcases k b with rfl | rfl
  · simp
  · simp

theorem inRows_iff (row : ℕ) (w : Fin 95) (hr : row < 32768) (h2 : (a2 (ix1 w)).toNat ≤ 32768) (h3 : (a3 (ix1 w)).toNat ≤ 32768) :
    inRows a2 a3 row w = 1#1 ↔ (a2 (ix1 w)).toNat ≤ row ∧ row < (a3 (ix1 w)).toNat := by
  unfold inRows
  rw [bit_and, word_sge, word_slt]
  have i2 : (a2 (ix1 w)).toInt = (a2 (ix1 w)).toNat := by rw [BitVec.toInt_eq_toNat_of_lt (by omega)]
  have i3 : (a3 (ix1 w)).toInt = (a3 (ix1 w)).toNat := by rw [BitVec.toInt_eq_toNat_of_lt (by omega)]
  have ir : (BitVec.ofNat 32 row).toInt = row := StableHlo.Predicate.toInt_ofNat_small row (by omega)
  rw [i2, i3, ir]
  omega

/-- A row that one item alone holds is that item's expert's. -/
theorem ref_own (j : S32768x2048.Idx) (w : Fin 95) (e : Fin 32) (he : (a1 (ix1 w)).toNat = e.val)
    (hb : ∀ v, (a2 (ix1 v)).toNat ≤ 32768 ∧ (a3 (ix1 v)).toNat ≤ 32768)
    (hw : (a2 (ix1 w)).toNat ≤ (j 0).val ∧ (j 0).val < (a3 (ix1 w)).toNat)
    (hu : ∀ v, (a2 (ix1 v)).toNat ≤ (j 0).val ∧ (j 0).val < (a3 (ix1 v)).toNat → v = w) :
    refOut a1 a2 a3 a5 a6 a7 a8 j = outv (rowOf a5 (j 0)) (wide a6 e) (wide a7 e) (tall a8 e) (j 1) := by
  have hr : (j 0).val < 32768 := (j 0).isLt
  have hc : ∀ e', comb a1 a2 a3 (j 0).val e' = if e' = e then 1 else 0 := by
    intro e'
    unfold comb
    rw [Finset.sum_eq_single w]
    · rw [bit_real, bit_real, if_pos ((inRows_iff a2 a3 _ w hr (hb w).1 (hb w).2).2 hw), one_mul]
      refine if_congr ?_ rfl rfl
      rw [word_eq]
      constructor
      · intro h
        apply Fin.ext
        rw [← he, h, BitVec.toNat_ofNat]
        have := e'.isLt
        omega
      · rintro rfl
        rw [← he, BitVec.ofNat_toNat, BitVec.setWidth_eq]
    · intro v _ hv
      rw [bit_real, if_neg (fun h => hv (hu v ((inRows_iff a2 a3 _ v hr (hb v).1 (hb v).2).1 h))), zero_mul]
    · intro h; exact absurd (Finset.mem_univ _) h
  rw [ref_at]
  unfold refSum
  rw [Finset.sum_eq_single e]
  · refine Finset.sum_congr rfl fun f _ => ?_
    rw [hc, if_pos rfl, mul_one]
  · intro e' _ hne
    refine Finset.sum_eq_zero fun f _ => ?_
    rw [hc, if_neg hne, mul_zero, zero_mul]
  · intro h; exact absurd (Finset.mem_univ _) h

end Cert.Experts
end
-- ==== Proof.Chain.lean ====
/-
The work items in order: which are valid, which rows each holds, and when a tile is finished.
-/
module

public import proofs.«01_k».proof.Proof.Tables

@[expose] public section

namespace Cert.Experts

section
variable {t e l h : Fin 95 → ℕ} {f : Fin 95 → BitVec 32} (T : Tables t e l h f)
include T

theorem step_at (n : ℕ) (hn : n + 1 < 95) : Step (t ⟨n, by omega⟩) (e ⟨n, by omega⟩) (l ⟨n, by omega⟩) (h ⟨n, by omega⟩) (f ⟨n, by omega⟩)
    (t ⟨n + 1, hn⟩) (e ⟨n + 1, hn⟩) (l ⟨n + 1, hn⟩) (h ⟨n + 1, hn⟩) (f ⟨n + 1, hn⟩) := T.step ⟨n, by omega⟩

theorem low_bits (w : Fin 95) (hv : ¬ l w < h w) : f w &&& 1#32 = 0#32 ∧ f w &&& 2#32 = 0#32 := by
  have e := (T.item w).flags hv
  have k1 : f w &&& 1#32 = (f w &&& 7#32) &&& 1#32 := by rw [BitVec.and_assoc]; rfl
  have k2 : f w &&& 2#32 = (f w &&& 7#32) &&& 2#32 := by rw [BitVec.and_assoc]; rfl
  rw [k1, k2, e]
  exact ⟨rfl, rfl⟩

theorem valid_zero : l 0 < h 0 := by
  by_contra hv
  exact T.start.2.1 (low_bits T 0 hv).1
theorem last_valid (w : Fin 95) (hl : ¬ f w &&& 2#32 = 0#32) : l w < h w := by
  by_contra hv
  exact hl (low_bits T w hv).2
theorem zero_start : l 0 = 0 := by rw [(T.item 0).first T.start.2.1, T.start.2.2]

theorem valid_back (n : ℕ) (hn : n + 1 < 95) (hv : l ⟨n + 1, hn⟩ < h ⟨n + 1, hn⟩) : l ⟨n, by omega⟩ < h ⟨n, by omega⟩ := by
  by_cases hf : f ⟨n + 1, hn⟩ &&& 1#32 = 0#32
  · exact ((step_at T n hn).stay hv hf).2.2.1
  · exact ((step_at T n hn).enter hv hf).2.1

theorem next_start (n : ℕ) (hn : n + 1 < 95) (hv : l ⟨n + 1, hn⟩ < h ⟨n + 1, hn⟩) : l ⟨n + 1, hn⟩ = h ⟨n, by omega⟩ := by
  by_cases hf : f ⟨n + 1, hn⟩ &&& 1#32 = 0#32
  · exact ((step_at T n hn).stay hv hf).2.1
  · obtain ⟨e1, _, e3⟩ := (step_at T n hn).enter hv hf
    have a := (T.item ⟨n + 1, hn⟩).first hf
    have b := (T.item ⟨n, by omega⟩).last e3
    omega

theorem before (v n : ℕ) (hn : n < 95) (hvn : v < n) (hv : l ⟨n, hn⟩ < h ⟨n, hn⟩) : h ⟨v, by omega⟩ ≤ l ⟨n, hn⟩ := by
  induction n with
  | zero => omega
  | succ n ih =>
    have e := next_start T n hn hv
    have b := valid_back T n hn hv
    rcases Nat.lt_succ_iff_lt_or_eq.1 hvn with hlt | rfl
    · have := ih (by omega) hlt b
      omega
    · omega

/-- A row is in one item's rows only. -/
theorem owner_unique (v w : Fin 95) (r : ℕ) (hv : l v ≤ r ∧ r < h v) (hw : l w ≤ r ∧ r < h w) : v = w := by
  rcases lt_trichotomy v.val w.val with hlt | heq | hgt
  · have := before T v.val w.val w.isLt hlt (by show l w < h w; omega)
    change h v ≤ l w at this
    omega
  · exact Fin.ext heq
  · have := before T w.val v.val v.isLt hgt (by show l v < h v; omega)
    change h w ≤ l v at this
    omega

/-- The tile of item `n` is finished: an item closed it, and no item since is of another tile. -/
def Done (t : Fin 95 → ℕ) (f : Fin 95 → BitVec 32) (n : ℕ) (hn : n < 95) : Prop :=
  ∃ (v : ℕ) (hv : v ≤ n), (¬ f ⟨v, by omega⟩ &&& 2#32 = 0#32) ∧ ∀ (u : ℕ) (hu : u ≤ n), v ≤ u → t ⟨u, by omega⟩ = t ⟨n, hn⟩

omit T in
theorem done_self (n : ℕ) (hn : n < 95) (hl : ¬ f ⟨n, hn⟩ &&& 2#32 = 0#32) : Done t f n hn :=
  ⟨n, le_refl _, hl, fun u hu hv => by have : u = n := by omega
                                       subst this; rfl⟩
omit T in
theorem done_back (n : ℕ) (hn : n < 95) (hl : f ⟨n, hn⟩ &&& 2#32 = 0#32) (hd : Done t f n hn) :
    ∃ (k : ℕ) (hk : k + 1 = n), t ⟨k, by omega⟩ = t ⟨n, hn⟩ ∧ Done t f k (by omega) := by
  obtain ⟨v, hv, hlv, hu⟩ := hd
  have hne : v ≠ n := by rintro rfl; exact hlv hl
  refine ⟨n - 1, by omega, hu (n - 1) (by omega) (by omega), v, by omega, hlv, fun u h1 h2 => ?_⟩
  rw [hu u (by omega) h2, hu (n - 1) (by omega) (by omega)]

theorem done_idle (n : ℕ) (hn : n < 95) (hv : ¬ l ⟨n, hn⟩ < h ⟨n, hn⟩) : Done t f n hn := by
  induction n with
  | zero => exact absurd (valid_zero T) hv
  | succ n ih =>
    obtain ⟨et, hl⟩ := (step_at T n hn).idle hv
    have ext : Done t f n (by omega) → Done t f (n + 1) hn := by
      rintro ⟨v, hv, hlv, hu⟩
      refine ⟨v, by omega, hlv, fun u h1 h2 => ?_⟩
      by_cases hun : u = n + 1
      · subst hun; rfl
      · rw [hu u (by omega) h2, et]
    by_cases hp : l ⟨n, by omega⟩ < h ⟨n, by omega⟩
    · exact ext (done_self n _ (hl hp))
    · exact ext (ih (by omega) hp)

/-- At the last item, and where the tile changes, the tile is finished. -/
theorem done_end : Done t f 94 (by omega) := by
  by_cases hv : l 94 < h 94
  · exact done_self 94 (by omega) (T.stop.2.2 hv)
  · exact done_idle T 94 (by omega) hv
theorem done_turn (n : ℕ) (hn : n + 1 < 95) (ht : ¬ t ⟨n + 1, hn⟩ = t ⟨n, by omega⟩) : Done t f n (by omega) := by
  by_cases hv : l ⟨n + 1, hn⟩ < h ⟨n + 1, hn⟩
  · by_cases hf : f ⟨n + 1, hn⟩ &&& 1#32 = 0#32
    · exact absurd ((step_at T n hn).stay hv hf).1 ht
    · exact done_self n _ ((step_at T n hn).enter hv hf).2.2
  · exact absurd ((step_at T n hn).idle hv).1 ht

theorem tile_step (n : ℕ) (hn : n + 1 < 95) : t ⟨n + 1, hn⟩ ≤ t ⟨n, by omega⟩ + 1 := by
  by_cases hv : l ⟨n + 1, hn⟩ < h ⟨n + 1, hn⟩
  · by_cases hf : f ⟨n + 1, hn⟩ &&& 1#32 = 0#32
    · have := ((step_at T n hn).stay hv hf).1; omega
    · have := ((step_at T n hn).enter hv hf).1; omega
  · have := ((step_at T n hn).idle hv).1; omega

/-- Every tile has an item after which it is left, or the last. -/
theorem tile_end (k : ℕ) (hk : k < 64) : ∃ (n : ℕ) (hn : n < 95), t ⟨n, hn⟩ = k ∧ (n = 94 ∨ ∃ hn' : n + 1 < 95, ¬ t ⟨n + 1, hn'⟩ = t ⟨n, hn⟩) := by
  have key : ∀ n (hn : n < 95), k < t ⟨n, hn⟩ → ∃ (m : ℕ) (hm : m < 95), t ⟨m, hm⟩ = k ∧ ∃ hm' : m + 1 < 95, ¬ t ⟨m + 1, hm'⟩ = t ⟨m, hm⟩ := by
    intro n
    induction n with
    | zero =>
      intro hn hlt
      have := T.start.2.2
      change t ⟨0, hn⟩ = 0 at this
      omega
    | succ n ih =>
      intro hn hlt
      have hs := tile_step T n hn
      by_cases hp : k < t ⟨n, by omega⟩
      · exact ih (by omega) hp
      · exact ⟨n, by omega, by omega, hn, by omega⟩
  have e94 : t ⟨94, by omega⟩ = 63 := T.stop.2.1
  by_cases h63 : k = 63
  · exact ⟨94, by omega, by omega, Or.inl rfl⟩
  · obtain ⟨m, hm, e1, e2⟩ := key 94 (by omega) (by omega)
    exact ⟨m, hm, e1, Or.inr e2⟩

end

end Cert.Experts
end
-- ==== Proof.Writes.lean ====
/-
How a pipeline's output array is written, block by block.
-/
module

public import Idealize.ShloMosaic.Lib.Pipeline.Frame
public import Idealize.ShloMosaic.Lib.Pipeline.FrameBody
public import Idealize.ShloMosaic.Lib.Pipeline.Value
public import Idealize.ShloMosaic.PureOps.Ideal

@[expose] public section

noncomputable section

namespace Cert.Experts

open Idealize.ShloMosaic Idealize.SL.Sem
open Idealize.ShloMosaic.TcCoe

variable {sig : RefSig}

theorem flush_open {G : Pipeline.Grid} (w : Pipeline.Window sig G) (ho : w.isOut = true) (t : Fin G.N) :
    w.flush t = true ↔ (t.val + 1 = G.N ∨ ∃ h : t.val + 1 < G.N, w.index ⟨t.val + 1, h⟩ ≠ w.index t) := by
  unfold Pipeline.Window.flush
  rw [ho, Bool.true_and, Bool.or_eq_true, decide_eq_true_eq, decide_eq_true_eq]

section
variable {nD : ℕ} {τ : Topo} {U : Type} [Idealize.SL.RA.URA U] {L : Labels} {cfg : Pipeline.Cfg sig L} {c' : Dev nD} (r : Pipeline.RDat τ (Elt Ideal) Unit ℕ U ℕ cfg c')
theorem arr_flush (w : Fin cfg.W) (n : ℕ) (hn : n < cfg.N) (hf : (cfg.win w).flush ⟨n, hn⟩ = true) G (hG : r.ArrAt w (n + 1) G) :
    r.ArrStep w ⟨n, hn⟩ (r.ArrAt w n) G := by
  unfold Pipeline.RDat.ArrAt at hG
  dsimp only at hG
  rwa [dif_pos hn, if_pos hf] at hG
theorem arr_keep (w : Fin cfg.W) (n : ℕ) (hn : n < cfg.N) (hf : ¬ (cfg.win w).flush ⟨n, hn⟩ = true) G (hG : r.ArrAt w (n + 1) G) :
    r.ArrAt w n G := by
  unfold Pipeline.RDat.ArrAt at hG
  dsimp only at hG
  rwa [dif_pos hn, if_neg hf] at hG
end

section
variable {κ : Kind} {sp : Space} {s : Shape} {e : EltTy}
theorem write_at (v : View sig κ sp s e) (f : v.ty.Contents (Elt Ideal)) (w : s.Idx → Elt Ideal e) (x : s.Idx) (i : v.ty.Idx) (hi : v.emb x = i) :
    v.write (Elt Ideal) f w Finset.univ i = _root_.cast (congrArg (Elt Ideal) v.elt_eq.symm) (w x) := by
  subst hi
  exact View.write_emb_of_mem f w (Finset.mem_univ x)
theorem write_off (v : View sig κ sp s e) (f : v.ty.Contents (Elt Ideal)) (w : s.Idx → Elt Ideal e) (i : v.ty.Idx) (hi : ∀ x, v.emb x ≠ i) :
    v.write (Elt Ideal) f w Finset.univ i = f i := by
  refine View.write_of_not_mem f w Finset.univ fun hmem => ?_
  obtain ⟨y, -, hy⟩ := Finset.mem_map.1 hmem
  exact hi y hy
end

end Cert.Experts
end
-- ==== Proof.Values.lean ====
/-
What the region leaves in the output: every row is its own expert's.
-/
module

public import proofs.«01_k».proof.Proof.PlainIdealRegion
public import proofs.«01_k».proof.Proof.Vals
public import proofs.«01_k».proof.Proof.RefVals
public import proofs.«01_k».proof.Proof.Chain
public import proofs.«01_k».proof.Proof.Writes
public import Idealize.ShloMosaic.Lib.Pipeline.Value
public import Idealize.ShloMosaic.Lib.Pipeline.FrameBody

@[expose] public section

noncomputable section

namespace Cert.Experts.PlainIdeal

open Cert.PlainIdeal Cert.PlainIdeal.Gen
open Idealize.ShloMosaic Idealize.SL.Sem
open Idealize.ShloMosaic.TcCoe

abbrev Mem := (ℓ : Loc nD τ sig) → Buf (Elt Ideal) ℓ

section
variable (c : Dev nD) (m : Mem)

/-- The reference's output of a memory. -/
def spec : FVec Ideal S32768x2048 .bf16 :=
  refOut (m ((c : Thread nD τ).loc main_arg1)) (m ((c : Thread nD τ).loc main_arg2)) (m ((c : Thread nD τ).loc main_arg3)) (m ((c : Thread nD τ).loc main_arg5))
    (m ((c : Thread nD τ).loc main_arg6)) (m ((c : Thread nD τ).loc main_arg7)) (m ((c : Thread nD τ).loc main_arg8))

variable (hT : TablesM m)

/-- The tile, first row, end row and flags of an item. -/
abbrev tN (w : Fin 95) : ℕ := ((t0 (adm m hT)) (ix1 w : S95.Idx) : BitVec 32).toNat
abbrev lN (w : Fin 95) : ℕ := ((t2 (adm m hT)) (ix1 w : S95.Idx) : BitVec 32).toNat
abbrev hN (w : Fin 95) : ℕ := ((t3 (adm m hT)) (ix1 w : S95.Idx) : BitVec 32).toNat
abbrev fN (w : Fin 95) : BitVec 32 := fl (t4 (adm m hT)) w

theorem tabs_of : Tables (tN m hT) (fun w => ((t1 (adm m hT)) (ix1 w : S95.Idx) : BitVec 32).toNat) (lN m hT) (hN m hT) (fN m hT) := hT

theorem t_lt (w : Fin 95) : tN m hT w < 64 := (hT.item w).t_lt

/-- The place in the whole array of a place in a tile. -/
def at_ (k : ℕ) (hk : k < 64) (j : S512x2048.Idx) : S32768x2048.Idx :=
  ix2 (⟨k * 512 + (j 0).val, by have : (j 0).val < 512 := (j 0).isLt; omega⟩ : Fin 32768) (j 1)

/-- The accumulator before point `n`: after a valid item, the tile's rows up to that item's end. -/
def AccOk (n : ℕ) (y : Acc Ideal) : Prop :=
  ∀ w : Fin 95, n = w.val + 1 → lN m hT w < hN m hT w → ∀ j : S512x2048.Idx,
    y j = if tN m hT w * 512 + (j 0).val < hN m hT w then spec c m (at_ (tN m hT w) (t_lt m hT w) j) else 0
/-- A tile's block of the reference's output. -/
def Good (w : Fin 95) (X : Vec Ideal S512x2048 .bf16) : Prop :=
  ∀ j : S512x2048.Idx, X j = spec c m (at_ (tN m hT w) (t_lt m hT w) j)

abbrev rd := rdat c (adm m hT) m (AccOk c m hT) (Good c m hT)

/-! ## The input's block -/

theorem index_in (t : Fin grid0.N) (a : Fin 2) : ((cfg0 (adm m hT)).win 0).index t a = (![tN m hT (itm t), 0] : Fin 2 → ℕ) a :=
  congrFun (tile_ix (adm m hT).1 (grid0.coords t)) a
theorem index_out (t : Fin grid0.N) (a : Fin 2) : ((cfg0 (adm m hT)).win 1).index t a = (![tN m hT (itm t), 0] : Fin 2 → ℕ) a :=
  congrFun (tile_ox (adm m hT).1 (grid0.coords t)) a

/-- The packed rows as the kernel finds them in memory. -/
abbrev xs : IVec S32768x1024 32 := m ((c : Thread nD τ).loc main_arg5)

theorem finds_in (t : Fin grid0.N) (x : Vec Ideal S512x1024 .i32) (hx : (rd c m hT).Finds (0 : Fin 2) t x) (p : Fin 512) (k : Fin 1024) :
    x (ix2 p k) = xs c m (ix2 (⟨tN m hT (itm t) * 512 + p.val, by have := t_lt m hT (itm t); omega⟩ : Fin 32768) k) := by
  obtain ⟨d, rfl⟩ := Pipeline.RDat.finds_in_eq_fetched (rd c m hT) (0 : Fin 2) rfl (fun _ _ _ => rfl) (fun _ _ _ h => h) t x hx
  show xs c m ((((cfg0 (adm m hT)).win 0).rect t).emb (ix2 p k)) = _
  refine congrArg (xs c m) ?_
  funext a
  refine Fin.ext ?_
  refine (Pipeline.Window.rect_emb_val ((cfg0 (adm m hT)).win 0) t (ix2 p k) a rfl).trans ?_
  refine (congrArg (fun n : ℕ => n * _ + _) (index_in m hT t a)).trans ?_
  match a with
  | ⟨0, _⟩ => rfl
  | ⟨1, _⟩ => show 0 * 1024 + k.val = k.val; omega

/-! ## One item -/

theorem at_congr {k k' : ℕ} (e : k = k') (hk : k < 64) (hk' : k' < 64) (j : S512x2048.Idx) : at_ k hk j = at_ k' hk' j := by
  subst e; rfl

theorem share_spec (t : Fin grid0.N) (x : Vec Ideal S512x1024 .i32) (hx : (rd c m hT).Finds (0 : Fin 2) t x) (j : S512x2048.Idx) :
    share (t2 (adm m hT) (ix1 (itm t) : S95.Idx)) (t3 (adm m hT) (ix1 (itm t) : S95.Idx)) (t0 (adm m hT) (ix1 (itm t) : S95.Idx)) x
      (k0_pay1 ((wts c m).gVec (ex (t1 (adm m hT)) (itm t)))) (k0_pay3 (k0_pay2 ((wts c m).uVec (ex (t1 (adm m hT)) (itm t)))))
      (k0_pay4 ((wts c m).dVec (ex (t1 (adm m hT)) (itm t)))) j
    = if lN m hT (itm t) ≤ tN m hT (itm t) * 512 + (j 0).val ∧ tN m hT (itm t) * 512 + (j 0).val < hN m hT (itm t)
        then spec c m (at_ (tN m hT (itm t)) (t_lt m hT (itm t)) j) else 0 := by
  obtain rfl : c = 0 := Subsingleton.elim _ _
  unfold share
  by_cases hr : lN m hT (itm t) ≤ tN m hT (itm t) * 512 + (j 0).val ∧ tN m hT (itm t) * 512 + (j 0).val < hN m hT (itm t)
  · refine (if_pos hr).trans (Eq.trans ?_ (if_pos hr).symm)
    refine Eq.trans ?_ (ref_own _ _ _ _ _ _ _ (at_ (tN m hT (itm t)) (t_lt m hT (itm t)) j) (itm t) (ex (t1 (adm m hT)) (itm t)) (ex_val hT (itm t))
      (fun v => ⟨le_trans (hT.item v).le (hT.item v).h_le, (hT.item v).h_le⟩) hr
      (fun v hv => owner_unique (tabs_of m hT) v (itm t) _ hv hr)).symm
    have e1 : (fun k => x (ix2 (j 0) k)) = rowOf (xs 0 m) ((at_ (tN m hT (itm t)) (t_lt m hT (itm t)) j) 0) := by
      funext k
      exact finds_in 0 m hT t x hx (j 0) k
    have e2 : (fun k f => (k0_pay1 ((wts 0 m).gVec (ex (t1 (adm m hT)) (itm t)))) (ix2 k f)) = wide (m (((0 : Dev nD) : Thread nD τ).loc main_arg6)) (ex (t1 (adm m hT)) (itm t)) := by
      funext k f
      exact g_at (wts 0 m) _ k f
    have e3 : (fun k f => (k0_pay3 (k0_pay2 ((wts 0 m).uVec (ex (t1 (adm m hT)) (itm t))))) (ix2 k f)) = wide (m (((0 : Dev nD) : Thread nD τ).loc main_arg7)) (ex (t1 (adm m hT)) (itm t)) := by
      funext k f
      exact u_at (wts 0 m) _ k f
    have e4 : (fun f k => (k0_pay4 ((wts 0 m).dVec (ex (t1 (adm m hT)) (itm t)))) (ix2 f k)) = tall (m (((0 : Dev nD) : Thread nD τ).loc main_arg8)) (ex (t1 (adm m hT)) (itm t)) := by
      funext f k
      exact d_at (wts 0 m) _ f k
    exact ((congrArg (fun X : Row => outv X _ _ _ _) e1).trans (congrArg (fun G => outv _ G _ _ _) e2)).trans
      ((congrArg (fun G => outv _ _ G _ _) e3).trans (congrArg (fun G => outv _ _ _ G _) e4))
  · exact (if_neg hr).trans (if_neg hr).symm

theorem acc_step (t : Fin grid0.N) (x : Vec Ideal S512x1024 .i32) (y : Acc Ideal) (hx : (rd c m hT).Finds (0 : Fin 2) t x) (hA : AccOk c m hT t.val y) :
    AccOk c m hT (t.val + 1) (accNext c (adm m hT) m (itm t) x y) := by
  intro w hw hv j
  obtain rfl : w = itm t := Fin.ext (by rw [itm_val]; omega)
  have I := (tabs_of m hT).item (itm t)
  have ins := I.inside hv
  refine (accU_at _ _ _ I.t_lt (le_trans I.le I.h_le) I.h_le hv ins.1 ins.2 x _ _ _ y _ j).trans ?_
  refine (congrArg (_ + ·) (share_spec c m hT t x hx j)).trans ?_
  generalize hS : spec c m (at_ (tN m hT (itm t)) (t_lt m hT (itm t)) j) = S
  have hf := first_iff (fN m hT (itm t)) I.f_lt
  by_cases h1 : fN m hT (itm t) &&& 1#32 = 0#32
  · rw [if_neg (show ¬ firstW (fl (t4 (adm m hT)) (itm t)) = 1#1 from fun h => hf.1 h h1)]
    have hn0 : (itm t).val ≠ 0 := by
      intro h0
      have e0 : itm t = 0 := Fin.ext h0
      rw [e0] at h1
      exact (tabs_of m hT).start.2.1 h1
    obtain ⟨n, hn⟩ : ∃ n, (itm t).val = n + 1 := ⟨(itm t).val - 1, by omega⟩
    have hlt : n + 1 < 95 := hn ▸ (itm t).isLt
    have ew : itm t = ⟨n + 1, hlt⟩ := Fin.ext hn
    have st := (step_at (tabs_of m hT) n hlt).stay (by rw [← ew]; exact hv) (by rw [← ew]; exact h1)
    rw [← ew] at st
    obtain ⟨s1, s2, s3, -⟩ := st
    have hy := hA ⟨n, by omega⟩ (by rw [← itm_val t]; exact hn) s3 j
    rw [at_congr s1.symm _ (t_lt m hT (itm t)), hS, ← s1, ← s2] at hy
    rw [hy]
    by_cases p : tN m hT (itm t) * 512 + (j 0).val < lN m hT (itm t)
    · rw [if_pos p, if_neg (by omega), if_pos (by omega), add_zero]
    · rw [if_neg p, zero_add]
      exact if_congr (by omega) rfl rfl
  · have := I.first h1
    rw [if_pos (show firstW (fl (t4 (adm m hT)) (itm t)) = 1#1 from hf.2 h1), zero_add]
    exact if_congr (by omega) rfl rfl

theorem good_step (t : Fin grid0.N) (y : Acc Ideal) (hA : AccOk c m hT (t.val + 1) y) (hl : ¬ fN m hT (itm t) &&& 2#32 = 0#32) :
    Good c m hT (itm t) (k0_pay16 y) := by
  intro j
  have hj : (j 0).val < 512 := (j 0).isLt
  have hh := ((tabs_of m hT).item (itm t)).last hl
  refine (pay16_at y j).trans ((hA (itm t) (by rw [itm_val]) (last_valid (tabs_of m hT) (itm t) hl) j).trans (if_pos ?_))
  omega

/-! ## The output's blocks -/

/-- The point of item `n`. -/
abbrev pt (n : ℕ) (hn : n < 95) : Fin grid0.N := ⟨n, by rw [N_0]; exact hn⟩
theorem itm_pt (n : ℕ) (hn : n < 95) : itm (pt n hn) = ⟨n, hn⟩ := Fin.ext (itm_val _)

theorem index_iff (t u : Fin grid0.N) : ((cfg0 (adm m hT)).win 1).index t = ((cfg0 (adm m hT)).win 1).index u ↔ tN m hT (itm t) = tN m hT (itm u) := by
  constructor
  · intro h
    have := congrFun h (0 : Fin 2)
    rwa [index_out, index_out] at this
  · intro h
    funext a
    exact (index_out m hT t a).trans ((congrArg (fun n : ℕ => (![n, 0] : Fin 2 → ℕ) a) h).trans (index_out m hT u a).symm)

theorem flush_iff (n : ℕ) (hn : n < 95) : ((cfg0 (adm m hT)).win 1).flush (pt n hn) = true ↔
    (n = 94 ∨ ∃ hn' : n + 1 < 95, ¬ tN m hT ⟨n + 1, hn'⟩ = tN m hT ⟨n, hn⟩) := by
  refine (flush_open ((cfg0 (adm m hT)).win 1) rfl (pt n hn)).trans ?_
  constructor
  · rintro (h | ⟨h, hne⟩)
    · left
      have : n + 1 = 95 := h.trans N_0
      omega
    · right
      have h' : n + 1 < 95 := lt_of_lt_of_eq h N_0
      refine ⟨h', fun e => hne ((index_iff m hT (pt (n + 1) h') (pt n hn)).2 ?_)⟩
      rw [itm_pt, itm_pt]
      exact e
  · rintro (h | ⟨h', hne⟩)
    · left
      subst h
      exact N_0.symm
    · right
      refine ⟨(pt (n + 1) h').isLt, fun e => hne ?_⟩
      have := (index_iff m hT (pt (n + 1) h') (pt n hn)).1 e
      rwa [itm_pt, itm_pt] at this

theorem good_congr {w w' : Fin 95} (e : tN m hT w = tN m hT w') (X : Vec Ideal S512x2048 .bf16) (h : Good c m hT w X) : Good c m hT w' X := by
  intro j
  rw [h j, at_congr e _ (t_lt m hT w')]

/-- Once a tile is finished, its block is what the staging buffer holds. -/
theorem leaves_done (n : ℕ) (hn : n < 95) (X : Vec Ideal S512x2048 .bf16) (hd : Done (tN m hT) (fN m hT) n hn) (hX : (rd c m hT).Leaves (1 : Fin 2) (pt n hn) X) :
    Good c m hT ⟨n, hn⟩ X := by
  induction n generalizing X with
  | zero =>
    obtain ⟨Y, hY, h1, h2⟩ := hX
    rw [itm_pt] at h1 h2
    by_cases hl : fN m hT ⟨0, hn⟩ &&& 2#32 = 0#32
    · obtain ⟨k, hk, -⟩ := done_back 0 hn hl hd
      omega
    · exact h1 hl
  | succ n ih =>
    obtain ⟨Y, hY, h1, h2⟩ := hX
    rw [itm_pt] at h1 h2
    by_cases hl : fN m hT ⟨n + 1, hn⟩ &&& 2#32 = 0#32
    · obtain ⟨k, hk, et, hdk⟩ := done_back (n + 1) hn hl hd
      obtain rfl : k = n := by omega
      obtain rfl := h2 hl
      have hfe : ((cfg0 (adm m hT)).win 1).fetch (pt (k + 1) hn) = false := Pipeline.Window.fetch_out _ rfl _
      rcases ((rd c m hT).finds_of_pos hfe (Nat.succ_ne_zero k) X).1 hY with hfl | hle
      · rcases (flush_iff m hT k (by omega)).1 hfl with h94 | ⟨_, hne⟩
        · omega
        · exact absurd et.symm hne
      · exact good_congr c m hT et X (ih (by omega) X hdk hle)
    · exact h1 hl

theorem emb_out (t : Fin grid0.N) (j : S512x2048.Idx) :
    ((((cfg0 (adm m hT)).win 1).blk t).view.emb j : S32768x2048.Idx) = at_ (tN m hT (itm t)) (t_lt m hT (itm t)) j := by
  show (((cfg0 (adm m hT)).win 1).rect t).emb j = _
  funext a
  refine Fin.ext ?_
  refine (Pipeline.Window.rect_emb_val ((cfg0 (adm m hT)).win 1) t j a rfl).trans ?_
  refine (congrArg (fun n : ℕ => n * _ + _) (index_out m hT t a)).trans ?_
  match a with
  | ⟨0, _⟩ => rfl
  | ⟨1, _⟩ => show 0 * 2048 + (j 1).val = (j 1).val; omega

theorem written (t : Fin grid0.N) (G₀ : FVec Ideal S32768x2048 .bf16) (X : Vec Ideal S512x2048 .bf16) (j : S512x2048.Idx) :
    (((cfg0 (adm m hT)).win 1).blk t).view.write (Elt Ideal) G₀ (((cfg0 (adm m hT)).win 1).cut (grid0.coords t) X) Finset.univ
      (at_ (tN m hT (itm t)) (t_lt m hT (itm t)) j) = X j := by
  exact write_at (((cfg0 (adm m hT)).win 1).blk t).view G₀ (((cfg0 (adm m hT)).win 1).cut (grid0.coords t) X) j _ (emb_out m hT t j)
theorem unwritten (t : Fin grid0.N) (G₀ : FVec Ideal S32768x2048 .bf16) (X : Vec Ideal S512x2048 .bf16) (i : S32768x2048.Idx)
    (hi : ¬ (i 0).val / 512 = tN m hT (itm t)) :
    (((cfg0 (adm m hT)).win 1).blk t).view.write (Elt Ideal) G₀ (((cfg0 (adm m hT)).win 1).cut (grid0.coords t) X) Finset.univ i = G₀ i := by
  refine write_off (((cfg0 (adm m hT)).win 1).blk t).view G₀ (((cfg0 (adm m hT)).win 1).cut (grid0.coords t) X) i fun y hy => ?_
  have e2 := congrArg (fun i : S32768x2048.Idx => (i 0).val) ((emb_out m hT t y).symm.trans hy)
  change tN m hT (itm t) * 512 + ((show S512x2048.Idx from y) 0).val = (i 0).val at e2
  have h1 : ((show S512x2048.Idx from y) 0).val < 512 := ((show S512x2048.Idx from y) 0).isLt
  omega

/-- The blocks written so far are the reference's. -/
theorem arr_done (n : ℕ) (hn : n ≤ 95) (G : FVec Ideal S32768x2048 .bf16) (hG : (rd c m hT).ArrAt (1 : Fin 2) n G) (u : ℕ) (hu : u < n)
    (hf : ((cfg0 (adm m hT)).win 1).flush (pt u (by omega)) = true) (j : S512x2048.Idx) :
    G (at_ (tN m hT ⟨u, by omega⟩) (t_lt m hT _) j) = spec c m (at_ (tN m hT ⟨u, by omega⟩) (t_lt m hT _) j) := by
  induction n generalizing G u with
  | zero => omega
  | succ n ih =>
    have hN : n < (cfg0 (F := Ideal) (adm m hT)).N := by
      show n < grid0.N
      rw [N_0]; omega
    by_cases hfn : ((cfg0 (adm m hT)).win 1).flush (pt n (by omega)) = true
    · obtain ⟨G₀, X, hG₀, hX, rfl⟩ := arr_flush (rd c m hT) 1 n hN hfn G hG
      have hd : Done (tN m hT) (fN m hT) n (by omega) := by
        rcases (flush_iff m hT n (by omega)).1 hfn with h94 | ⟨h', hne⟩
        · subst h94; exact done_end (tabs_of m hT)
        · exact done_turn (tabs_of m hT) n h' hne
      have good := leaves_done c m hT n (by omega) X hd hX
      by_cases ht : tN m hT ⟨u, by omega⟩ = tN m hT ⟨n, by omega⟩
      · rw [at_congr ht _ (t_lt m hT _)]
        have ei : at_ (tN m hT ⟨n, by omega⟩) (t_lt m hT _) j = at_ (tN m hT (itm (pt n (by omega)))) (t_lt m hT _) j :=
          at_congr (by rw [itm_pt]) _ _ j
        refine Eq.trans ?_ (good j)
        rw [ei]
        exact written m hT (pt n (by omega)) G₀ X j
      · have hne : u ≠ n := by rintro rfl; exact ht rfl
        refine Eq.trans ?_ (ih (by omega) G₀ hG₀ u (by omega) hf)
        refine unwritten m hT (pt n (by omega)) G₀ X _ ?_
        rw [itm_pt]
        show ¬ (tN m hT ⟨u, _⟩ * 512 + (j 0).val) / 512 = _
        have h2 : (j 0).val < 512 := (j 0).isLt
        omega
    · replace hG := arr_keep (rd c m hT) 1 n hN hfn G hG
      have hne : u ≠ n := by rintro rfl; exact hfn hf
      exact ih (by omega) G hG u (by omega) hf

theorem arr_final (G : FVec Ideal S32768x2048 .bf16) (hG : (rd c m hT).ArrAt (1 : Fin 2) (cfg0 (F := Ideal) (adm m hT)).N G) : G = spec c m := by
  funext i
  have hi : (i 0).val < 32768 := (i 0).isLt
  obtain ⟨n, hn, e, hend⟩ := tile_end (tabs_of m hT) ((i 0).val / 512) (by omega)
  have hN : (cfg0 (F := Ideal) (adm m hT)).N = 95 := N_0
  rw [hN] at hG
  have h := arr_done c m hT 95 (le_refl _) G hG n hn ((flush_iff m hT n hn).2 hend) (ix2 (⟨(i 0).val % 512, Nat.mod_lt _ (by decide)⟩ : Fin 512) (i 1))
  have ei : at_ (tN m hT ⟨n, hn⟩) (t_lt m hT _) (ix2 (⟨(i 0).val % 512, Nat.mod_lt _ (by decide)⟩ : Fin 512) (i 1)) = i := by
    funext a
    match a with
    | ⟨0, _⟩ => exact Fin.ext (show tN m hT ⟨n, hn⟩ * 512 + (i 0).val % 512 = (i 0).val by rw [e]; omega)
    | ⟨1, _⟩ => rfl
  rwa [ei] at h

include hT in
/-- The region ends with the reference's output in place and every argument as it was. -/
theorem run_value (ρ : Dev nD → PrngReg) :
    θ_run (defs (F := Ideal)) (onTc (τ := τ) main) ⟨m, fun _ => 0, ρ⟩
      (fun r => (∀ c : Dev nD, r.2.mem ((c.tc : Thread nD τ).loc main_v0) = spec c m) ∧ Kept m r) :=
  (θ_run defs _ _).mono (fun r h => ⟨fun c => by
      obtain rfl : c = 0 := Subsingleton.elim _ _
      exact arr_final 0 m hT _ ((h.1 0).1 (1 : Fin 2)), kept_of m _ _ hT r h.1⟩)
    (run_main m (AccOk 0 m hT) (Good 0 m hT) hT ρ (fun _ w hw => absurd hw (by omega))
      (fun c t x y hx hA => by
        obtain rfl : c = 0 := Subsingleton.elim _ _
        exact acc_step 0 m hT t x y hx hA)
      (fun t y hA hl => good_step 0 m hT t y hA hl))

end
end Cert.Experts.PlainIdeal
end
-- ==== Proof.Value.lean ====
/-
The value claim: the kernel's output array and the reference's are equal, element for element.
-/
module

public import proofs.«01_k».proof.Defs
public import proofs.«01_k».proof.Proof.Frames
public import proofs.«01_k».proof.Proof.Values

@[expose] public section

noncomputable section

namespace Cert.Experts

open Idealize.ShloMosaic Idealize.SL.Sem

theorem frame_reference_pre : Cert.quiescent_ReferenceIdeal_pre_tables_ok := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_PlainIdeal_ReferenceIdeal := by
  intro m g m' g' hpre hagree
  refine ⟨fun c => PlainIdeal.spec c m, ?_, ?_⟩
  · exact (θ_run Cert.PlainIdeal.defs _ _).mono (fun r h c => ⟨h.1 c, h.2 c⟩) (PlainIdeal.run_value m (tablesM_ideal m hpre) g)
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8⟩ := hagree c
    show refOut (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = PlainIdeal.spec c m
    rw [h1, h2, h3, h5, h6, h7, h8]
    rfl

end Cert.Experts

end
-- ==== Proof.Mix.lean ====
/- The combining call. -/
module

public import proofs.«01_k».proof.Defs
public import proofs.«01_k».proof.Proof.Gen.Combine
public import proofs.«01_k».proof.Proof.Gen.Combine.Launch
public import proofs.«01_k».proof.Proof.Gen.Combine.Skeleton
public import proofs.«01_k».proof.Proof.Gen.CombineIdeal
public import proofs.«01_k».proof.Proof.Gen.CombineIdeal.Launch
public import proofs.«01_k».proof.Proof.Gen.CombineIdeal.Skeleton
public import proofs.«01_k».proof.Proof.Gen.BlendIdeal
public import proofs.«01_k».proof.Proof.Gen.BlendIdeal.Run
public import proofs.«01_k».proof.Proof.Gen.Pre_rows_ok
-- ==== Proof.CombineIdealRows.lean ====
/-
The combining call's rows: one row's copy started, one row's copy waited for, and the trips of the three loops as two
of these each.
-/
module

public import proofs.«01_k».proof.Proof.Gen.CombineIdeal
public import proofs.«01_k».proof.Proof.Gen.CombineIdeal.Launch
public import proofs.«01_k».proof.Proof.Gen.CombineIdeal.Skeleton
public import Idealize.ShloMosaic.Lib.Batch
public import Idealize.ShloMosaic.Lib.Ring
public import Idealize.ShloMosaic.Lib.Tactic
public import Idealize.ShloMosaic.Lib.Pointwise
public import Idealize.ShloMosaic.Lib.QrPanel.StackBlock
public import Idealize.ShloMosaic.Lib.Pipeline.Kit
public import Idealize.ShloMosaic.Lib.Pipeline.KitQuiescent
public import Idealize.ShloMosaic.Lib.Pipeline.ValueKit.Geometry

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ × Counters) ℕ
abbrev 𝒱₀ : Variants := Variants.none
abbrev PG := Prog (TpuEff nD τ sig (Elt F) Λ₀ .tc)
local notation "EC" => countersEmb (U := UR sig nD τ × Counters)

/-! ## The places -/

abbrev sO (s : Fin 2) : Fin 1 → ℕ := ![s.val]
abbrev bO (s k : Fin 2) : Fin 4 → ℕ := ![s.val, k.val, 0, 0]
abbrev dO (j : Fin 256) : Fin 2 → ℕ := ![j.val, 0]
abbrev rO (r : Fin 32768) : Fin 2 → ℕ := ![r.val, 0]
theorem sO_inb (s : Fin 2) : ∀ a, sO s a + S1.size a ≤ S2.size a := by
  have := s.isLt; intro a; fin_cases a; show s.val + 1 ≤ 2; omega
theorem bO_inb (s k : Fin 2) : ∀ a, bO s k a + S1x1x256x1024.size a ≤ S2x2x256x1024.size a := by
  have := s.isLt; have := k.isLt; intro a; fin_cases a
  · show s.val + 1 ≤ 2; omega
  · show k.val + 1 ≤ 2; omega
  · show 0 + 256 ≤ 256; omega
  · show 0 + 1024 ≤ 1024; omega
theorem dO_inb (j : Fin 256) : ∀ a, dO j a + S1x1024.size a ≤ S256x1024.size a := by
  have := j.isLt; intro a; fin_cases a
  · show j.val + 1 ≤ 256; omega
  · show 0 + 1024 ≤ 1024; omega
theorem rO_inb (r : Fin 32768) : ∀ a, rO r a + S1x1024.size a ≤ S32768x1024.size a := by
  have := r.isLt; intro a; fin_cases a
  · show r.val + 1 ≤ 32768; omega
  · show 0 + 1024 ≤ 1024; omega

/-- Slot `s`'s semaphore; plane `k` of slot `s`; row `j` of that plane; row `r` of the expert outputs. -/
def csm (s : Fin 2) : DmaSems sig S_ := (cc0_scratch1.slice (Rect.unit (s := S2) (sO s) S1.size (sO_inb s))).squeeze S_ squeezes_S1_S_
def plane (s k : Fin 2) : Memref sig .tc .vmem S256x1024 .i32 :=
  ((Memref.whole cc0_scratch0).slice (Rect.unit (s := S2x2x256x1024) (bO s k) S1x1x256x1024.size (bO_inb s k)) (fun _ => rfl)).squeeze S256x1024 squeezes_S1x1x256x1024_S256x1024
def rowDst (s k : Fin 2) (j : Fin 256) : Memref sig .tc .vmem S1x1024 .i32 :=
  (plane s k).slice (Rect.unit (s := S256x1024) (dO j) S1x1024.size (dO_inb j)) (fun _ => rfl)
def rowSrc (r : Fin 32768) : Memref sig .tc .hbm S1x1024 .i32 :=
  (Memref.whole main_arg3).slice (Rect.unit (s := S32768x1024) (rO r) S1x1024.size (rO_inb r)) (fun _ => rfl)

/-! ## One row's copy -/

section Row
variable (tO : Fin 1 → ℕ) (so : Fin 1 → ℕ) (bo : Fin 4 → ℕ) (d : Fin 2 → ℕ) (ro : BitVec 32 → Fin 2 → ℕ) (C : BitVec 32 → Prop) (dC : ∀ v, Decidable (C v))
  (h1 : ∀ a, tO a + S1.size a ≤ S32768.size a) (h2 : ∀ a, so a + S1.size a ≤ S2.size a) (h3 : ∀ a, bo a + S1x1x256x1024.size a ≤ S2x2x256x1024.size a)
  (h4 : ∀ a, d a + S1x1024.size a ≤ S256x1024.size a) (h5 : ∀ v, C v → ∀ a, ro v a + S1x1024.size a ≤ S32768x1024.size a)

def issueRow : PG (F := F) PUnit := do
  let v : Elt F .i32 ← smemLoad (Memref.whole main_arg0) (Rect.unit (s := S32768) tO S1.size h1) numel1_S1 rfl
  have hw : C v := (← Prog.lift (TpuEff.assume (C v) (dC v))).down
  Prog.lift (.enqueueDma ((Memref.whole main_arg3).slice (Rect.unit (s := S32768x1024) (ro v) S1x1024.size (h5 v hw)) (fun _ => rfl))
    (.here ((((Memref.whole cc0_scratch0).slice (Rect.unit (s := S2x2x256x1024) bo S1x1x256x1024.size h3) (fun _ => rfl)).squeeze S256x1024 squeezes_S1x1x256x1024_S256x1024).slice
      (Rect.unit (s := S256x1024) d S1x1024.size h4) (fun _ => rfl)))
    (.dma ((cc0_scratch1.slice (Rect.unit (s := S2) so S1.size h2)).squeeze S_ squeezes_S1_S_).sem) (View.wordExact_bits rfl) (View.wordExact_bits rfl) ⟨Or.inl rfl, trivial⟩)

def waitRow : PG (F := F) PUnit := do
  let v : Elt F .i32 ← smemLoad (Memref.whole main_arg0) (Rect.unit (s := S32768) tO S1.size h1) numel1_S1 rfl
  have hw : C v := (← Prog.lift (TpuEff.assume (C v) (dC v))).down
  Prog.lift (.waitDma2 ((cc0_scratch1.slice (Rect.unit (s := S2) so S1.size h2)).squeeze S_ squeezes_S1_S_).sem
    ((Memref.whole main_arg3).slice (Rect.unit (s := S32768x1024) (ro v) S1x1024.size (h5 v hw)) (fun _ => rfl))
    ((((Memref.whole cc0_scratch0).slice (Rect.unit (s := S2x2x256x1024) bo S1x1x256x1024.size h3) (fun _ => rfl)).squeeze S256x1024 squeezes_S1x1x256x1024_S256x1024).slice
      (Rect.unit (s := S256x1024) d S1x1024.size h4) (fun _ => rfl)) (View.wordExact_bits rfl) (View.wordExact_bits rfl))
end Row

section Pieces
variable (c : Dev nD)

abbrev own {sp : Space} {S : Shape} {ψ : EltTy} (M : Memref sig .tc sp S ψ) (f : Buf (Elt F) (M.view.loc (c : Thread nD τ))) : sProp 𝕄 :=
  M.view.loc (c : Thread nD τ) ↦[M.view.set]{fullShare} f
/-- The expert outputs' array, and the table, held at a share. -/
abbrev ysL : Loc nD τ sig := (Memref.whole main_arg3).view.loc (c : Thread nD τ)
abbrev bufL : Loc nD τ sig := (Memref.whole cc0_scratch0).view.loc (c : Thread nD τ)
abbrev C0 (F : FTy → Type) := (main_arg0 : Ref sig .tc).ty.Contents (Elt F)
abbrev C3 (F : FTy → Type) := (main_arg3 : Ref sig .tc).ty.Contents (Elt F)
abbrev CB (F : FTy → Type) := (cc0_scratch0 : Ref sig .tc).ty.Contents (Elt F)
abbrev tab (q : PosShare TreeShare) (T : C0 F) : sProp 𝕄 := (Memref.whole main_arg0).view.loc (c : Thread nD τ) ↦{q} T

/-- One copy's credit. -/
abbrev NN : ℕ := (rowDst 0 0 0).view.amount (SemLoc.dma (sig := sig) (csm 0).sem)

theorem at0 (T : C0 F) (n : Fin 32768) (o : Fin 1 → ℕ) (ho : o = ![n.val]) (hin : ∀ a, o a + S1.size a ≤ S32768.size a) (h0) :
    View.readAt (Elt F) (Memref.whole main_arg0).view (Rect.unit (s := S32768) o S1.size hin).toLoadRect T (Shape.Idx.first h0) = T (ix1 n) := by
  subst ho
  refine congrArg T ?_
  funext a
  match a with
  | ⟨0, _⟩ => exact Fin.ext rfl
theorem word0 (q : PosShare TreeShare) (T : C0 F) (n : Fin 32768) (o : Fin 1 → ℕ) (ho : o = ![n.val]) (hin : ∀ a, o a + S1.size a ≤ S32768.size a)
    (Q : Elt F .i32 → sProp 𝕄) :
    iprop(tab c q T ∗ (tab c q T -∗ Q (T (ix1 n))))
      ⊢ wp frame (wpE (defs₀ (F := F)) 𝒱₀ (c : Thread nD τ) none) Set.univ (smemLoad (Memref.whole main_arg0) (Rect.unit (s := S32768) o S1.size hin) numel1_S1 rfl) Q := by
  have e := at0 (F := F) T n o ho hin
  iintro ⟨HT, K⟩
  sl_exec
  sl_step
  rw [e]
  iapply K
  iexact HT

theorem ret_run {α β : Type} (x : α) (k : α → PG (F := F) β) (Q : β → sProp 𝕄) :
    wp frame (wpE (defs₀ (F := F)) 𝒱₀ (c : Thread nD τ) none) Set.univ (k x) Q ⊢ wp frame (wpE (defs₀ (F := F)) 𝒱₀ (c : Thread nD τ) none) Set.univ ((Prog.ret x).bind k) Q := BIBase.Entails.rfl
theorem pure_run {α : Type} (x : α) (Q : α → sProp 𝕄) : Q x ⊢ wp frame (wpE (defs₀ (F := F)) 𝒱₀ (c : Thread nD τ) none) Set.univ (Pure.pure x : PG (F := F) α) Q := by
  iintro H
  sl_step
  iexact H

variable {tO : Fin 1 → ℕ} {so : Fin 1 → ℕ} {bo : Fin 4 → ℕ} {d : Fin 2 → ℕ} {ro : BitVec 32 → Fin 2 → ℕ} {C : BitVec 32 → Prop} {dC : ∀ v, Decidable (C v)}
  (h1 : ∀ a, tO a + S1.size a ≤ S32768.size a) (h2 : ∀ a, so a + S1.size a ≤ S2.size a) (h3 : ∀ a, bo a + S1x1x256x1024.size a ≤ S2x2x256x1024.size a)
  (h4 : ∀ a, d a + S1x1024.size a ≤ S256x1024.size a) (h5 : ∀ v, C v → ∀ a, ro v a + S1x1024.size a ≤ S32768x1024.size a)

theorem issue_one (s k : Fin 2) (j : Fin 256) (p r : Fin 32768) (q qs : PosShare TreeShare) (T : C0 F) (Y : C3 F) (f : CB F)
    (htO : tO = ![p.val]) (hso : so = sO s) (hbo : bo = bO s k) (hd : d = dO j) (hro : ∀ v, ro v = ![v.toNat, 0]) (hC : ∀ v : BitVec 32, v.toNat < 32768 → C v)
    (hr : (T (ix1 p) : BitVec 32).toNat = r.val)
    {n : ℕ} (D : Fin n → sProp 𝕄) (t : ℕ) (ht : t < n)
    (hD : iprop(own c (rowDst s k j) ((rowDst s k j).view.write (Elt F) f (ReadAs.same.apply ((rowSrc r).view.read (Elt F) Y)) Finset.univ)
      ∗ ((rowSrc r).view.loc (c : Thread nD τ) ↦[(rowSrc r).view.set]{qs} Y)) ⊢ D ⟨t, ht⟩) :
    iprop(tab c q T ∗ ((rowSrc r).view.loc (c : Thread nD τ) ↦[(rowSrc r).view.set]{qs} Y) ∗ own c (rowDst s k j) f
        ∗ Transfers.Batch EC (c : Thread nD τ) (SemLoc.dma (csm s).sem) () NN D t 0)
      ⊢ wp frame (wpE (defs₀ (F := F)) 𝒱₀ (c : Thread nD τ) none) Set.univ (issueRow tO so bo d ro C dC h1 h2 h3 h4 h5)
        (fun _ => iprop(tab c q T ∗ Transfers.Batch EC (c : Thread nD τ) (SemLoc.dma (csm s).sem) () NN D (t + 1) 0)) := by
  subst hso hbo hd
  unfold issueRow
  rw [wp_bind]
  iintro ⟨HT, HS, HD, HB⟩
  iapply (word0 c q T p _ htO h1 _)
  isplitl [HT]; · iexact HT
  iintro HT
  have hv : (T (ix1 p) : BitVec 32).toNat < 32768 := by rw [hr]; exact r.isLt
  iapply (wp_assume _ _ _ _ (hC _ hv))
  iapply ret_run
  have hw := h5 _ (hC _ hv)
  have e : ∀ (o : Fin 2 → ℕ) (ho : o = rO r) (h), ((Memref.whole main_arg3).slice (Rect.unit (s := S32768x1024) o S1x1024.size h) (fun _ => rfl) : Memref sig .tc .hbm S1x1024 .i32) = rowSrc r := by
    intro o ho h; subst ho; rfl
  have e' := e (ro (T (ix1 p) : BitVec 32)) (by rw [hro, hr]) hw
  have run : iprop((tab c q T) ∗ ((rowSrc r).view.loc (c : Thread nD τ) ↦[(rowSrc r).view.set]{qs} Y) ∗ own c (rowDst s k j) f ∗ Transfers.Batch EC (c : Thread nD τ) (SemLoc.dma (csm s).sem) () NN D t 0)
      ⊢ wp frame (wpE (defs₀ (F := F)) 𝒱₀ (c : Thread nD τ) none) Set.univ
        (Prog.lift (.enqueueDma (rowSrc r) (.here (rowDst s k j)) (.dma (csm s).sem) (View.wordExact_bits rfl) (View.wordExact_bits rfl) ⟨Or.inl rfl, trivial⟩) : PG (F := F) PUnit)
        (fun _ => iprop(tab c q T ∗ Transfers.Batch EC (c : Thread nD τ) (SemLoc.dma (csm s).sem) () NN D (t + 1) 0)) := by
    iintro ⟨HT, HS, HD, HB⟩
    have hN : (rowDst s k j).view.amount (SemLoc.dma (sig := sig) (csm s).sem) = NN := rfl
    iapply (Transfers.wp_dmaBatch (src := rowSrc r) (dst := rowDst s k j) (sm := SemLoc.dma (csm s).sem) (via := ReadAs.same) (fs := Y) (fd := f) EC 𝒱₀ (c : Thread nD τ) none () NN hN subset_rfl ht (Nat.zero_le _) hD) $$ [HS HD HB]
    · isplitl [HS]; · iexact HS
      isplitl [HD]; · iexact HD
      iexact HB
    iintro HB
    sl_step
    isplitl [HT]; · iexact HT
    iexact HB
  have run' : iprop((tab c q T) ∗ ((rowSrc r).view.loc (c : Thread nD τ) ↦[(rowSrc r).view.set]{qs} Y) ∗ own c (rowDst s k j) f ∗ Transfers.Batch EC (c : Thread nD τ) (SemLoc.dma (csm s).sem) () NN D t 0)
      ⊢ wp frame (wpE (defs₀ (F := F)) 𝒱₀ (c : Thread nD τ) none) Set.univ
        (Prog.lift (.enqueueDma ((Memref.whole main_arg3).slice (Rect.unit (s := S32768x1024) (ro (T (ix1 p) : BitVec 32)) S1x1024.size hw) (fun _ => rfl)) (.here (rowDst s k j)) (.dma (csm s).sem) (View.wordExact_bits rfl) (View.wordExact_bits rfl) ⟨Or.inl rfl, trivial⟩) : PG (F := F) PUnit)
        (fun _ => iprop(tab c q T ∗ Transfers.Batch EC (c : Thread nD τ) (SemLoc.dma (csm s).sem) () NN D (t + 1) 0)) := by
    rw [e']; exact run
  iapply run'
  isplitl [HT]; · iexact HT
  isplitl [HS]; · iexact HS
  isplitl [HD]; · iexact HD
  iexact HB

theorem wait_one (s k : Fin 2) (j : Fin 256) (p : Fin 32768) (q : PosShare TreeShare) (T : C0 F)
    (htO : tO = ![p.val]) (hso : so = sO s) (hbo : bo = bO s k) (hd : d = dO j) (hC : ∀ v : BitVec 32, v.toNat < 32768 → C v)
    (hv : (T (ix1 p) : BitVec 32).toNat < 32768)
    {n : ℕ} (D : Fin n → sProp 𝕄) (t : ℕ) (ht : t < n) :
    iprop(tab c q T ∗ (∃ W, owes (c : Thread nD τ) 0 W) ∗ Transfers.Batch EC (c : Thread nD τ) (SemLoc.dma (csm s).sem) () NN D n (t * NN))
      ⊢ wp frame (wpE (defs₀ (F := F)) 𝒱₀ (c : Thread nD τ) none) Set.univ (waitRow tO so bo d ro C dC h1 h2 h3 h4 h5)
        (fun _ => iprop(tab c q T ∗ (∃ W, owes (c : Thread nD τ) 0 W) ∗ Transfers.Batch EC (c : Thread nD τ) (SemLoc.dma (csm s).sem) () NN D n ((t + 1) * NN))) := by
  subst hso hbo hd
  unfold waitRow
  rw [wp_bind]
  iintro ⟨HT, ⟨%W, HO⟩, HB⟩
  iapply (word0 c q T p _ htO h1 _)
  isplitl [HT]; · iexact HT
  iintro HT
  iapply (wp_assume _ _ _ _ (hC _ hv))
  iapply ret_run
  have hu : t * NN + 1 * NN ≤ NN * n := by
    rw [← Nat.add_mul, Nat.mul_comm NN n]; exact Nat.mul_le_mul_right _ ht
  iapply (Transfers.wp_waitBatchMul EC 𝒱₀ (c : Thread nD τ) none () 1 (show (rowDst s k j).view.dmaCredit = 1 * NN from (Nat.one_mul _).symm) hu) $$ [HB HO]
  · isplitl [HB]; · iexact HB
    iexact HO
  rw [show t * NN + 1 * NN = (t + 1) * NN by rw [← Nat.add_mul]]
  iintro ⟨HB, HO⟩
  sl_step
  isplitl [HT]; · iexact HT
  isplitl [HO]; · iexists _; iexact HO
  iexact HB

end Pieces

end Cert.Blend.CombineIdeal
-- ==== Proof.CombineIdealWords.lean ====
/-
The combining call's offsets and trips, as plain numbers.
-/
module

public import proofs.«01_k».proof.Proof.CombineIdealRows

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ × Counters) ℕ
local notation "EC" => countersEmb (U := UR sig nD τ × Counters)

/-! ## The words of the offsets -/

theorem trips1 : k0_t1_loop.trips = 256 := by decide +kernel
theorem trips2 : k0_t2_loop.trips = 256 := by decide +kernel
theorem trips3 : k0_t3_loop.trips = 256 := by decide +kernel

abbrev crd (n : Fin 64) : grid0.Coords := fun a => match a with | ⟨0, _⟩ => n
theorem crd_eq (i : grid0.Coords) : i = crd (i 0) := by
  funext a
  match a with
  | ⟨0, _⟩ => rfl

theorem fun1 {f : Fin 1 → ℕ} {x : ℕ} (h : f 0 = x) : f = ![x] := by
  funext a
  match a with
  | ⟨0, _⟩ => exact h
theorem fun2 {f : Fin 2 → ℕ} {x y : ℕ} (h : f 0 = x ∧ f 1 = y) : f = ![x, y] := by
  funext a
  match a with
  | ⟨0, _⟩ => exact h.1
  | ⟨1, _⟩ => exact h.2
theorem fun4 {f : Fin 4 → ℕ} {x y z w : ℕ} (h : f 0 = x ∧ f 1 = y ∧ f 2 = z ∧ f 3 = w) : f = ![x, y, z, w] := by
  funext a
  match a with
  | ⟨0, _⟩ => exact h.1
  | ⟨1, _⟩ => exact h.2.1
  | ⟨2, _⟩ => exact h.2.2.1
  | ⟨3, _⟩ => exact h.2.2.2

theorem off1_at (t : Fin k0_t1_loop.trips) : k0_off1 t = ![2 * t.val] := fun1 (by revert t; decide +kernel)
theorem off4_at (t : Fin k0_t1_loop.trips) : k0_off4 t = ![2 * t.val + 1] := fun1 (by revert t; decide +kernel)
theorem off2_at (t : Fin k0_t1_loop.trips) : k0_off2 t = ![t.val, 0] := fun2 (by revert t; decide +kernel)
theorem off5_at (t : Fin k0_t1_loop.trips) : k0_off5 t = ![t.val, 0] := fun2 (by revert t; decide +kernel)
theorem off10_at (t : Fin k0_t2_loop.trips) : k0_off10 t = ![t.val, 0] := fun2 (by revert t; decide +kernel)
theorem off15_at (t : Fin k0_t2_loop.trips) : k0_off15 t = ![t.val, 0] := fun2 (by revert t; decide +kernel)
theorem off20_at (t : Fin k0_t3_loop.trips) : k0_off20 t = ![t.val, 0] := fun2 (by revert t; decide +kernel)
theorem off25_at (t : Fin k0_t3_loop.trips) : k0_off25 t = ![t.val, 0] := fun2 (by revert t; decide +kernel)

theorem off8_at (i : grid0.Coords) : k0_off8 i = ![((i 0).val + 1) % 2] := by rw [crd_eq i]; exact fun1 (by generalize i 0 = n; revert n; decide +kernel)
theorem off13_at (i : grid0.Coords) : k0_off13 i = ![((i 0).val + 1) % 2] := by rw [crd_eq i]; exact fun1 (by generalize i 0 = n; revert n; decide +kernel)
theorem off18_at (i : grid0.Coords) : k0_off18 i = ![(i 0).val % 2] := by rw [crd_eq i]; exact fun1 (by generalize i 0 = n; revert n; decide +kernel)
theorem off23_at (i : grid0.Coords) : k0_off23 i = ![(i 0).val % 2] := by rw [crd_eq i]; exact fun1 (by generalize i 0 = n; revert n; decide +kernel)
theorem off9_at (i : grid0.Coords) : k0_off9 i = ![((i 0).val + 1) % 2, 0, 0, 0] := by rw [crd_eq i]; exact fun4 (by generalize i 0 = n; revert n; decide +kernel)
theorem off14_at (i : grid0.Coords) : k0_off14 i = ![((i 0).val + 1) % 2, 1, 0, 0] := by rw [crd_eq i]; exact fun4 (by generalize i 0 = n; revert n; decide +kernel)
theorem off19_at (i : grid0.Coords) : k0_off19 i = ![(i 0).val % 2, 0, 0, 0] := by rw [crd_eq i]; exact fun4 (by generalize i 0 = n; revert n; decide +kernel)
theorem off24_at (i : grid0.Coords) : k0_off24 i = ![(i 0).val % 2, 1, 0, 0] := by rw [crd_eq i]; exact fun4 (by generalize i 0 = n; revert n; decide +kernel)
theorem off27_at (i : grid0.Coords) : k0_off27 i = ![(i 0).val % 2, 0, 0, 0] := by rw [crd_eq i]; exact fun4 (by generalize i 0 = n; revert n; decide +kernel)
theorem off28_at (i : grid0.Coords) : k0_off28 i = ![(i 0).val % 2, 1, 0, 0] := by rw [crd_eq i]; exact fun4 (by generalize i 0 = n; revert n; decide +kernel)
theorem cond1_at (i : grid0.Coords) : k0_cond1 i = 1#1 ↔ (i 0).val = 0 := by rw [crd_eq i]; generalize i 0 = n; revert n; decide +kernel
theorem cond2_at (i : grid0.Coords) : k0_cond2 i = 1#1 ↔ (i 0).val + 1 < 64 := by rw [crd_eq i]; generalize i 0 = n; revert n; decide +kernel

theorem off7_at (i : grid0.Coords) (t : Fin k0_t2_loop.trips) : k0_off7 i t = ![2 * (((i 0).val + 1) * 256 + t.val)] := by
  rw [crd_eq i]; exact fun1 (by generalize i 0 = n; revert n t; decide +kernel)
theorem off12_at (i : grid0.Coords) (t : Fin k0_t2_loop.trips) : k0_off12 i t = ![2 * (((i 0).val + 1) * 256 + t.val) + 1] := by
  rw [crd_eq i]; exact fun1 (by generalize i 0 = n; revert n t; decide +kernel)
theorem off17_at (i : grid0.Coords) (t : Fin k0_t3_loop.trips) : k0_off17 i t = ![2 * ((i 0).val * 256 + t.val)] := by
  rw [crd_eq i]; exact fun1 (by generalize i 0 = n; revert n t; decide +kernel)
theorem off22_at (i : grid0.Coords) (t : Fin k0_t3_loop.trips) : k0_off22 i t = ![2 * ((i 0).val * 256 + t.val) + 1] := by
  rw [crd_eq i]; exact fun1 (by generalize i 0 = n; revert n t; decide +kernel)

theorem row_in (v : BitVec 32) (h : v.toNat < 32768) : ∀ a, (![v.toNat, 0] : Fin 2 → ℕ) a + S1x1024.size a ≤ S32768x1024.size a := by
  intro a; fin_cases a
  · show v.toNat + 1 ≤ 32768; omega
  · show 0 + 1024 ≤ 1024; omega

end Cert.Blend.CombineIdeal

end
-- ==== Proof.CombineIdealBody.lean ====
/-
The combining call's body as its loops of rows and what follows them.
-/
module

public import proofs.«01_k».proof.Proof.CombineIdealWords

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ × Counters) ℕ
local notation "EC" => countersEmb (U := UR sig nD τ × Counters)

/-! ## The body -/

/-- The printed body's arguments, in order. -/
abbrev issue1 (i : grid0.Coords) (h : k0_cond1 i = 1#1) (t : Fin k0_t1_loop.trips) : PG (F := F) PUnit := do
  issueRow (k0_off1 t) ![0] ![0, 0, 0, 0] (k0_off2 t) k0_off3 (k0_chk1 i) (k0_chk1.dec i) (k0_off1_inb i t h) inb_S2_S1_0 inb_S2x2x256x1024_S1x1x256x1024_0_0_0_0 (k0_off2_inb i t h) (fun v hw => k0_off3_inb i v hw h)
  issueRow (k0_off4 t) ![0] ![0, 1, 0, 0] (k0_off5 t) k0_off6 (k0_chk2 i) (k0_chk2.dec i) (k0_off4_inb i t h) inb_S2_S1_0 inb_S2x2x256x1024_S1x1x256x1024_0_1_0_0 (k0_off5_inb i t h) (fun v hw => k0_off6_inb i v hw h)
  pure ⟨⟩
abbrev issue2 (i : grid0.Coords) (h : k0_cond2 i = 1#1) (t : Fin k0_t2_loop.trips) : PG (F := F) PUnit := do
  issueRow (k0_off7 i t) (k0_off8 i) (k0_off9 i) (k0_off10 t) k0_off11 (k0_chk3 i) (k0_chk3.dec i) (k0_off7_inb i t h) (k0_off8_inb i h) (k0_off9_inb i h) (k0_off10_inb i t h) (fun v hw => k0_off11_inb i v hw h)
  issueRow (k0_off12 i t) (k0_off13 i) (k0_off14 i) (k0_off15 t) k0_off16 (k0_chk4 i) (k0_chk4.dec i) (k0_off12_inb i t h) (k0_off13_inb i h) (k0_off14_inb i h) (k0_off15_inb i t h) (fun v hw => k0_off16_inb i v hw h)
  pure ⟨⟩
abbrev wait3 (i : grid0.Coords) (t : Fin k0_t3_loop.trips) : PG (F := F) PUnit := do
  waitRow (k0_off17 i t) (k0_off18 i) (k0_off19 i) (k0_off20 t) k0_off21 k0_chk5 k0_chk5.dec (k0_off17_inb i t) (k0_off18_inb i) (k0_off19_inb i) (k0_off20_inb t) (fun v hw => k0_off21_inb v hw)
  waitRow (k0_off22 i t) (k0_off23 i) (k0_off24 i) (k0_off25 t) k0_off26 k0_chk6 k0_chk6.dec (k0_off22_inb i t) (k0_off23_inb i) (k0_off24_inb i) (k0_off25_inb t) (fun v hw => k0_off26_inb v hw)
  pure ⟨⟩

abbrev fetch1 (i : grid0.Coords) (h : k0_cond1 i = 1#1) : PG (F := F) Unit := Scf.Loop.for k0_t1_loop (k0_t1_ok i h) ⟨⟩ (fun t _ => issue1 i h t)
abbrev fetch2 (i : grid0.Coords) (h : k0_cond2 i = 1#1) : PG (F := F) Unit := Scf.Loop.for k0_t2_loop (k0_t2_ok i h) ⟨⟩ (fun t _ => issue2 i h t)
abbrev waits (i : grid0.Coords) : PG (F := F) Unit := Scf.Loop.for k0_t3_loop k0_t3_ok ⟨⟩ (fun t _ => wait3 i t)

def ditK (p : Prop) [Decidable p] (A : p → PG (F := F) Unit) (k : PG (F := F) PUnit) : PG (F := F) PUnit := if h : p then (A h >>= fun _ => k) else k

/-- What follows the fetches. -/
def lastP (i : grid0.Coords) (X : Memref sig .tc .vmem S256x2048 .f32) (R : Memref sig .tc .vmem S256x128 .f32) (O : Memref sig .tc .vmem S256x2048 .f32) : PG (F := F) PUnit := do
  let v19 : Vec F S256x128 .f32 ← Prog.lift (.load R (Rect.unit (s := S256x128) ![0, 0] S256x128.size inb_S256x128_S256x128_0_0).toLoadRect (View.loadsAt_vmem h_S256x128))
  let v33 : Vec F S1x1x256x1024 .i32 ← Prog.lift (.load (Memref.whole cc0_scratch0) (Rect.unit (s := S2x2x256x1024) (k0_off27 i) S1x1x256x1024.size (k0_off27_inb i)).toLoadRect (View.loadsAt_vmem h_S1x1x256x1024))
  let v39 : Vec F S1x1x256x1024 .i32 ← Prog.lift (.load (Memref.whole cc0_scratch0) (Rect.unit (s := S2x2x256x1024) (k0_off28 i) S1x1x256x1024.size (k0_off28_inb i)).toLoadRect (View.loadsAt_vmem h_S1x1x256x1024))
  let v44 : Vec F S256x2048 .f32 ← Prog.lift (.load X (Rect.unit (s := S256x2048) ![0, 0] S256x2048.size inb_S256x2048_S256x2048_0_0).toLoadRect (View.loadsAt_vmem h_S256x2048))
  let v51 : Vec F S256x2048 .f32 ← Prog.lift (.load O (Rect.unit (s := S256x2048) ![0, 0] S256x2048.size inb_S256x2048_S256x2048_0_0).toLoadRect (View.loadsAt_vmem h_S256x2048))
  Prog.lift (.store O (Rect.unit (s := S256x2048) ![0, 0] S256x2048.size inb_S256x2048_S256x2048_0_0) (k0_pay1 (k0_pay2 v19) (k0_pay3 v19) v33 v39 v44) Finset.univ (View.stores_vmem_bits_univ h_S256x2048 rfl) (.inl rfl))
  pure ⟨⟩

/-- The body, in those pieces. -/
def bodyP (i : grid0.Coords) (X : Memref sig .tc .vmem S256x2048 .f32) (R : Memref sig .tc .vmem S256x128 .f32) (O : Memref sig .tc .vmem S256x2048 .f32) : PG (F := F) PUnit :=
  ditK (k0_cond1 i = 1#1) (fetch1 i) (ditK (k0_cond2 i = 1#1) (fetch2 i) (waits i >>= fun _ => lastP i X R O))

theorem body1_eq (i : grid0.Coords) (X : Memref sig .tc .vmem S256x2048 .f32) (hX : X.IsWhole) (R : Memref sig .tc .vmem S256x128 .f32) (hR : R.IsWhole) (O : Memref sig .tc .vmem S256x2048 .f32) (hO : O.IsWhole) (h) :
    k0_t1_body (F := F) i (Memref.whole main_arg0) (Memref.isWhole_whole _) X hX R hR (Memref.whole main_arg3) (Memref.isWhole_whole _) O hO (Memref.whole cc0_scratch0) (Memref.isWhole_whole _) cc0_scratch1 h
      = fun t _ => issue1 i h t := rfl
theorem body2_eq (i : grid0.Coords) (X : Memref sig .tc .vmem S256x2048 .f32) (hX : X.IsWhole) (R : Memref sig .tc .vmem S256x128 .f32) (hR : R.IsWhole) (O : Memref sig .tc .vmem S256x2048 .f32) (hO : O.IsWhole) (h) :
    k0_t2_body (F := F) i (Memref.whole main_arg0) (Memref.isWhole_whole _) X hX R hR (Memref.whole main_arg3) (Memref.isWhole_whole _) O hO (Memref.whole cc0_scratch0) (Memref.isWhole_whole _) cc0_scratch1 h
      = fun t _ => issue2 i h t := rfl
theorem body3_eq (i : grid0.Coords) (X : Memref sig .tc .vmem S256x2048 .f32) (hX : X.IsWhole) (R : Memref sig .tc .vmem S256x128 .f32) (hR : R.IsWhole) (O : Memref sig .tc .vmem S256x2048 .f32) (hO : O.IsWhole) :
    k0_t3_body (F := F) i (Memref.whole main_arg0) (Memref.isWhole_whole _) X hX R hR (Memref.whole main_arg3) (Memref.isWhole_whole _) O hO (Memref.whole cc0_scratch0) (Memref.isWhole_whole _) cc0_scratch1
      = fun t _ => wait3 i t := rfl

set_option maxRecDepth 65536 in
theorem body_eq (i : grid0.Coords) (X : Memref sig .tc .vmem S256x2048 .f32) (hX : X.IsWhole) (R : Memref sig .tc .vmem S256x128 .f32) (hR : R.IsWhole) (O : Memref sig .tc .vmem S256x2048 .f32) (hO : O.IsWhole) :
    cc0_combine (F := F) i (Memref.whole main_arg0) (Memref.isWhole_whole _) X hX R hR (Memref.whole main_arg3) (Memref.isWhole_whole _) O hO (Memref.whole cc0_scratch0) (Memref.isWhole_whole _) cc0_scratch1
      = bodyP i X R O := by
  rw [cc0_combine_eq_skeleton]
  unfold cc0_combine_skel bodyP lastP
  rw [k0_part1_eq_skeleton]
  unfold k0_part1_skel ditK
  simp only [body1_eq, body2_eq, body3_eq, fetch1, fetch2, waits]
  by_cases h1 : k0_cond1 i = 1#1 <;> by_cases h2 : k0_cond2 i = 1#1
  all_goals
    simp only [dif_pos, dif_neg, h1, h2, not_false_iff, bind_assoc, pure_bind]
    try rfl

end Cert.Blend.CombineIdeal

end
-- ==== Proof.CombineIdealSlots.lean ====
/-
The combining call's slots: which elements each row's copy writes, what a slot holds once its rows have landed, and the
slot idle, in flight, and full.
-/
module

public import proofs.«01_k».proof.Proof.CombineIdealBody

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ × Counters) ℕ
local notation "EC" => countersEmb (U := UR sig nD τ × Counters)

/-! ## The elements a row's copy reads and writes -/

theorem plane_emb (s k : Fin 2) (y : S256x1024.Idx) : (plane s k).view.emb y = (ix4 s k (y 0) (y 1) : S2x2x256x1024.Idx) := by
  show (Rect.unit (s := S2x2x256x1024) (bO s k) S1x1x256x1024.size (bO_inb s k)).emb (Shape.reshapeEquiv _ y) = _
  rw [Idealize.ShloMosaic.QrPanel.StackBlock.reshapeEquiv_cons_one_one]
  funext a
  refine Fin.ext ?_
  match a with
  | ⟨0, _⟩ => rfl
  | ⟨1, _⟩ => rfl
  | ⟨2, _⟩ => show 0 + 1 * (y 0).val = (y 0).val; omega
  | ⟨3, _⟩ => show 0 + 1 * (y 1).val = (y 1).val; omega
theorem rowDst_emb (s k : Fin 2) (j : Fin 256) (y : S1x1024.Idx) : (rowDst s k j).view.emb y = (ix4 s k j (y 1) : S2x2x256x1024.Idx) := by
  refine (plane_emb s k ((Rect.unit (s := S256x1024) (dO j) S1x1024.size (dO_inb j)).emb y)).trans ?_
  have h0 : (y 0).val = 0 := by have : (y 0).val < 1 := (y 0).isLt; omega
  funext a
  refine Fin.ext ?_
  match a with
  | ⟨0, _⟩ => rfl
  | ⟨1, _⟩ => rfl
  | ⟨2, _⟩ => show j.val + 1 * (y 0).val = j.val; omega
  | ⟨3, _⟩ => show 0 + 1 * (y 1).val = (y 1).val; omega
theorem rowSrc_emb (r : Fin 32768) (y : S1x1024.Idx) : (rowSrc r).view.emb y = (ix2 r (y 1) : S32768x1024.Idx) := by
  have h0 : (y 0).val = 0 := by have : (y 0).val < 1 := (y 0).isLt; omega
  funext a
  refine Fin.ext ?_
  match a with
  | ⟨0, _⟩ => show r.val + 1 * (y 0).val = r.val; omega
  | ⟨1, _⟩ => show 0 + 1 * (y 1).val = (y 1).val; omega

theorem rowDst_mem (s k : Fin 2) (j : Fin 256) (x : S2x2x256x1024.Idx) : x ∈ (rowDst s k j).view.set ↔ x 0 = s ∧ x 1 = k ∧ x 2 = j := by
  constructor
  · intro h
    obtain ⟨y, -, hy⟩ := Finset.mem_map.1 h
    have e := (rowDst_emb s k j y).symm.trans hy
    subst e
    exact ⟨rfl, rfl, rfl⟩
  · rintro ⟨h0, h1, h2⟩
    refine Finset.mem_map.2 ⟨(ix2 (0 : Fin 1) (x 3) : S1x1024.Idx), Finset.mem_univ _, (rowDst_emb s k j _).trans ?_⟩
    funext a
    match a with
    | ⟨0, _⟩ => exact h0.symm
    | ⟨1, _⟩ => exact h1.symm
    | ⟨2, _⟩ => exact h2.symm
    | ⟨3, _⟩ => rfl

/-- A slot's elements. -/
def slotSet (s : Fin 2) : Finset S2x2x256x1024.Idx := Finset.univ.filter fun x : S2x2x256x1024.Idx => (x 0).val = s.val
theorem slotSet_mem (s : Fin 2) (x : S2x2x256x1024.Idx) : x ∈ slotSet s ↔ x 0 = s :=
  Finset.mem_filter.trans ⟨fun h => Fin.ext h.2, fun h => ⟨Finset.mem_univ _, congrArg Fin.val h⟩⟩

/-- Of the 512 rows of a slot, in the order their copies are started: the plane and the row in it. -/
abbrev kk (t : Fin 512) : Fin 2 := ⟨t.val % 2, Nat.mod_lt _ (by decide)⟩
abbrev jj (t : Fin 512) : Fin 256 := ⟨t.val / 2, by have := t.isLt; omega⟩

/-- The elements of row `t` of slot `s`. -/
def rSet (s : Fin 2) (t : Fin 512) : Finset S2x2x256x1024.Idx := (rowDst s (kk t) (jj t)).view.set
theorem rSet_mem (s : Fin 2) (t : Fin 512) (x : S2x2x256x1024.Idx) : x ∈ rSet s t ↔ x 0 = s ∧ x 1 = kk t ∧ x 2 = jj t := rowDst_mem s (kk t) (jj t) x
theorem rows_disj (s : Fin 2) (t t' : Fin 512) (h : t ≠ t') : Disjoint (rSet s t) (rSet s t') := by
  rw [Finset.disjoint_left]
  intro x hx hx'
  obtain ⟨-, a1, a2⟩ := (rSet_mem s t x).1 hx
  obtain ⟨-, b1, b2⟩ := (rSet_mem s t' x).1 hx'
  have e1 : t.val % 2 = t'.val % 2 := congrArg Fin.val (a1.symm.trans b1)
  have e2 : t.val / 2 = t'.val / 2 := congrArg Fin.val (a2.symm.trans b2)
  exact h (Fin.ext (by omega))
theorem rows_cover (s : Fin 2) : (Finset.univ : Finset (Fin 512)).biUnion (rSet s) = slotSet s := by
  ext x
  constructor
  · intro h
    obtain ⟨t, -, ht⟩ := Finset.mem_biUnion.1 h
    exact (slotSet_mem s x).2 ((rSet_mem _ _ x).1 ht).1
  · intro h
    have h1 : (x 1).val < 2 := (x 1).isLt
    have h2 : (x 2).val < 256 := (x 2).isLt
    refine Finset.mem_biUnion.2 ⟨⟨2 * (x 2).val + (x 1).val, by omega⟩, Finset.mem_univ _, (rSet_mem _ _ x).2 ⟨(slotSet_mem s x).1 h, Fin.ext ?_, Fin.ext ?_⟩⟩
    · show (x 1).val = (2 * (x 2).val + (x 1).val) % 2; omega
    · show (x 2).val = (2 * (x 2).val + (x 1).val) / 2; omega

/-! ## What a slot holds -/

/-- Where the word of row `j` of plane `k` of step `i` stands in the table, and the row it names. -/
abbrev pos (i : Fin 64) (j : Fin 256) (k : Fin 2) : Fin 32768 := ⟨2 * (i.val * 256 + j.val) + k.val, by have := i.isLt; have := j.isLt; have := k.isLt; omega⟩
abbrev row (T : C0 F) (p : Fin 32768) : Fin 32768 := ⟨(T (ix1 p) : BitVec 32).toNat % 32768, Nat.mod_lt _ (by decide)⟩
/-- Step `i`'s rows in place. -/
def gat (T : C0 F) (Y : C3 F) (i : Fin 64) : CB F := fun x => Y (ix2 (row T (pos i (x 2) (x 1))) (x 3) : S32768x1024.Idx)

theorem landed_row (s k : Fin 2) (j : Fin 256) (i : Fin 64) (T : C0 F) (Y : C3 F) (f : CB F) (x : S2x2x256x1024.Idx) (hx : x ∈ (rowDst s k j).view.set) :
    (rowDst s k j).view.write (Elt F) f (ReadAs.same.apply ((rowSrc (row T (pos i j k))).view.read (Elt F) Y)) Finset.univ x = gat T Y i x := by
  obtain ⟨y, -, hy⟩ := Finset.mem_map.1 hx
  subst hy
  refine (View.write_emb_of_mem (v := (rowDst s k j).view) (Val := Elt F) f (ReadAs.same.apply ((rowSrc (row T (pos i j k))).view.read (Elt F) Y)) (Finset.mem_univ y)).trans ?_
  have e1 : Y ((rowSrc (row T (pos i j k))).view.emb y) = Y (ix2 (row T (pos i j k)) (y 1) : S32768x1024.Idx) := congrArg Y (rowSrc_emb _ y)
  have e2 : gat T Y i ((rowDst s k j).view.emb y) = gat T Y i (ix4 s k j (y 1) : S2x2x256x1024.Idx) := congrArg (gat T Y i) (rowDst_emb s k j y)
  exact e1.trans e2.symm

section Slots
variable (c : Dev nD) (T : C0 F) (Y : C3 F)

/-- The two halves of the expert outputs' array, one for each slot's copies. -/
abbrev hf (s : Fin 2) : PosShare TreeShare := if s = 0 then fullShare.left else fullShare.right

abbrev srcSet (i : Fin 64) (t : Fin 512) : Finset (Idx (ysL c)) := (rowSrc (row T (pos i (jj t) (kk t)))).view.set
/-- What a copy borrows of the expert outputs, and what it leaves of that token. -/
abbrev lent (s : Fin 2) (i : Fin 64) (t : Fin 512) : sProp 𝕄 := ysL c ↦[srcSet c T i t]{Transfers.shareTok (hf s) 512 t} Y
abbrev kept (s : Fin 2) (i : Fin 64) (t : Fin 512) : sProp 𝕄 := ysL c ↦[Finset.univ \ srcSet c T i t]{Transfers.shareTok (hf s) 512 t} Y
/-- What a copy delivers. -/
abbrev deliv (s : Fin 2) (i : Fin 64) (t : Fin 512) : sProp 𝕄 := iprop(own c (rowDst s (kk t) (jj t)) (gat T Y i) ∗ lent c T Y s i t)

instance at_storable (ℓ : Loc nD τ sig) (I : Finset (Idx ℓ)) (q : PosShare TreeShare) (f : Buf (Elt F) ℓ) : Storable (upEmb : UEmb _ 𝕄) (ℓ ↦[I]{q} f : sProp 𝕄) := inferInstance
instance (s : Fin 2) (i : Fin 64) (t : Fin 512) : Storable (upEmb : UEmb _ 𝕄) (deliv c T Y s i t) := by
  haveI h1 : Storable (upEmb : UEmb _ 𝕄) (own c (rowDst s (kk t) (jj t)) (gat T Y i)) := at_storable _ _ _ _
  haveI h2 : Storable (upEmb : UEmb _ 𝕄) (lent c T Y s i t) := at_storable _ _ _ _
  exact Storable.sep (ι := (upEmb : UEmb _ 𝕄)) (own c (rowDst s (kk t) (jj t)) (gat T Y i)) (lent c T Y s i t)

abbrev batch (s : Fin 2) (i : Fin 64) (k u : ℕ) : sProp 𝕄 := Transfers.Batch EC (c : Thread nD τ) (SemLoc.dma (csm s).sem) () NN (deliv c T Y s i) k u

abbrev slotOwn (s : Fin 2) (f : CB F) : sProp 𝕄 := bufL c ↦[slotSet s]{fullShare} f
abbrev ysAt (s : Fin 2) : sProp 𝕄 := ysL c ↦{hf s} Y
abbrev sem0 (s : Fin 2) : sProp 𝕄 := semVal ((c : Thread nD τ), SemLoc.dma (csm s).sem) 0
/-- What stays behind of the expert outputs' half while the rows are in flight. -/
def stay (s : Fin 2) (i : Fin 64) : sProp 𝕄 := iprop((ysL c ↦{Transfers.shareDrop (hf s) 512} Y) ∗ bigSep Finset.univ (kept c T Y s i))

def idle (s : Fin 2) : sProp 𝕄 := iprop((∃ f, slotOwn c s f) ∗ sem0 c s ∗ ysAt c Y s)
def flying (s : Fin 2) (i : Fin 64) : sProp 𝕄 := iprop(batch c T Y s i 512 0 ∗ stay c T Y s i)
def landed (s : Fin 2) (i : Fin 64) : sProp 𝕄 := iprop(batch c T Y s i 512 (512 * NN) ∗ stay c T Y s i)
def full (s : Fin 2) (i : Fin 64) : sProp 𝕄 := iprop(slotOwn c s (gat T Y i) ∗ sem0 c s ∗ ysAt c Y s)
/-- Before the copy of row `n` is started. -/
def going (s : Fin 2) (i : Fin 64) (f : CB F) (n : ℕ) : sProp 𝕄 :=
  iprop(bigSep (Transfers.pending n) (fun t : Fin 512 => iprop(lent c T Y s i t ∗ own c (rowDst s (kk t) (jj t)) f)) ∗ batch c T Y s i n 0)

theorem rows_split (s : Fin 2) (f : CB F) : slotOwn c s f = bigSep Finset.univ (fun t : Fin 512 => own c (rowDst s (kk t) (jj t)) f) := by
  have h := pointsTo_biUnion (Ix := Unit) (Name := ℕ) (U := UR sig nD τ × Counters) (Lvl := ℕ) (ℓ := bufL c) (q := fullShare) (f := f) (Finset.univ : Finset (Fin 512)) (rSet s) (fun t _ t' _ h => rows_disj s t t' h)
  rw [rows_cover] at h
  exact h

theorem lent_kept (s : Fin 2) (i : Fin 64) : bigSep Finset.univ (fun t : Fin 512 => iprop(lent c T Y s i t ∗ kept c T Y s i t))
    = (iprop(bigSep Finset.univ (lent c T Y s i) ∗ bigSep Finset.univ (kept c T Y s i)) : sProp 𝕄) := bigSep_sep _ _ _
theorem lent_own (s : Fin 2) (i : Fin 64) (f : CB F) : bigSep Finset.univ (fun t : Fin 512 => iprop(lent c T Y s i t ∗ own c (rowDst s (kk t) (jj t)) f))
    = (iprop(bigSep Finset.univ (lent c T Y s i) ∗ slotOwn c s f) : sProp 𝕄) := by
  rw [rows_split]; exact bigSep_sep _ _ _
theorem own_lent (s : Fin 2) (i : Fin 64) : bigSep Finset.univ (deliv c T Y s i)
    = (iprop(slotOwn c s (gat T Y i) ∗ bigSep Finset.univ (lent c T Y s i)) : sProp 𝕄) := by
  rw [rows_split]; exact bigSep_sep _ _ _

theorem ys_split (s : Fin 2) (i : Fin 64) : (ysAt c Y s : sProp 𝕄) ⊢ iprop(bigSep Finset.univ (lent c T Y s i) ∗ stay c T Y s i) := by
  unfold stay
  refine (Transfers.pointsTo_toks_split (hf s) 512).trans ?_
  have h : (bigSep Finset.univ (fun t : Fin 512 => (ysL c ↦{Transfers.shareTok (hf s) 512 t} Y : sProp 𝕄))) ⊢ iprop(bigSep Finset.univ (lent c T Y s i) ∗ bigSep Finset.univ (kept c T Y s i)) := by
    rw [← lent_kept]
    exact bigSep_mono fun t _ => (pointsTo_split_subset (Finset.subset_univ (srcSet c T i t))).1
  iintro ⟨H0, H⟩
  ihave ⟨Ha, Hb⟩ := h $$ H
  isplitl [Ha]; · iexact Ha
  isplitl [H0]; · iexact H0
  iexact Hb
theorem ys_join (s : Fin 2) (i : Fin 64) : iprop(bigSep Finset.univ (lent c T Y s i) ∗ stay c T Y s i) ⊢ (ysAt c Y s : sProp 𝕄) := by
  unfold stay
  refine BIBase.Entails.trans ?_ (Transfers.pointsTo_toks_join (hf s) 512)
  have h : iprop(bigSep Finset.univ (lent c T Y s i) ∗ bigSep Finset.univ (kept c T Y s i)) ⊢ (bigSep Finset.univ (fun t : Fin 512 => (ysL c ↦{Transfers.shareTok (hf s) 512 t} Y : sProp 𝕄))) := by
    rw [← lent_kept]
    exact bigSep_mono fun t _ => (pointsTo_split_subset (Finset.subset_univ (srcSet c T i t))).2
  iintro ⟨Ha, H0, Hb⟩
  isplitl [H0]; · iexact H0
  iapply h
  isplitl [Ha]; · iexact Ha
  iexact Hb

theorem start (s : Fin 2) (i : Fin 64) : idle c Y s ⊢ |={Set.univ}=> (iprop(∃ f, going c T Y s i f 0 ∗ stay c T Y s i) : sProp 𝕄) := by
  unfold idle going
  iintro ⟨⟨%f, Hf⟩, Hs, Hy⟩
  ihave ⟨Hl, Hk⟩ := ys_split c T Y s i $$ Hy
  imod (Transfers.batch_alloc' EC (c : Thread nD τ) () NN (deliv c T Y s i)) $$ Hs with HB
  imodintro
  iexists f
  rw [← Transfers.bigSep_pending_zero, lent_own]
  isplitr [Hk]
  · isplitr [HB]
    · isplitl [Hl]; · iexact Hl
      iexact Hf
    iexact HB
  iexact Hk

theorem gone (s : Fin 2) (i : Fin 64) (f : CB F) : iprop(going c T Y s i f 512 ∗ stay c T Y s i) ⊢ (flying c T Y s i : sProp 𝕄) := by
  unfold going flying
  iintro ⟨⟨-, HB⟩, Hk⟩
  isplitl [HB]; · iexact HB
  iexact Hk

theorem NN_pos : 0 < NN := by decide +kernel

theorem fill (s : Fin 2) (i : Fin 64) : landed c T Y s i ⊢ |={Set.univ}=> (full c T Y s i : sProp 𝕄) := by
  unfold landed full batch
  rw [Nat.mul_comm 512 NN]
  have hd : bigSep Finset.univ (deliv c T Y s i) ⊢ (iprop(slotOwn c s (gat T Y i) ∗ bigSep Finset.univ (lent c T Y s i)) : sProp 𝕄) := by rw [own_lent]
  iintro ⟨HB, Hk⟩
  imod (Transfers.batch_collect' EC (c : Thread nD τ) NN_pos) $$ HB with ⟨HD, Hs⟩
  imodintro
  ihave ⟨Hd, Hl⟩ := hd $$ HD
  isplitl [Hd]; · iexact Hd
  isplitl [Hs]; · iexact Hs
  iapply (ys_join c T Y s i)
  isplitl [Hl]; · iexact Hl
  iexact Hk

end Slots

end Cert.Blend.CombineIdeal

end
-- ==== Proof.CombineIdealLoops.lean ====
/-
The combining call's loops: the rows of a step set flying, and waited for.
-/
module

public import proofs.«01_k».proof.Proof.CombineIdealSlots

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ × Counters) ℕ
local notation "EC" => countersEmb (U := UR sig nD τ × Counters)

section Loops
variable (c : Dev nD) (q : PosShare TreeShare) (T : C0 F) (Y : C3 F)

/-- Every word of the table names a row. -/
abbrev RowsIn (T : C0 F) : Prop := ∀ p : Fin 32768, (T (ix1 p) : BitVec 32).toNat < 32768

section Row
variable {tO : Fin 1 → ℕ} {so : Fin 1 → ℕ} {bo : Fin 4 → ℕ} {d : Fin 2 → ℕ} {ro : BitVec 32 → Fin 2 → ℕ} {C : BitVec 32 → Prop} {dC : ∀ v, Decidable (C v)}
  (h1 : ∀ a, tO a + S1.size a ≤ S32768.size a) (h2 : ∀ a, so a + S1.size a ≤ S2.size a) (h3 : ∀ a, bo a + S1x1x256x1024.size a ≤ S2x2x256x1024.size a)
  (h4 : ∀ a, d a + S1x1024.size a ≤ S256x1024.size a) (h5 : ∀ v, C v → ∀ a, ro v a + S1x1024.size a ≤ S32768x1024.size a)

theorem issue_at (hT : RowsIn T) (s : Fin 2) (i : Fin 64) (f : CB F) (t : ℕ) (ht : t < 512)
    (htO : tO = ![(pos i (jj ⟨t, ht⟩) (kk ⟨t, ht⟩)).val]) (hso : so = sO s) (hbo : bo = bO s (kk ⟨t, ht⟩)) (hd : d = dO (jj ⟨t, ht⟩))
    (hro : ∀ v, ro v = ![v.toNat, 0]) (hC : ∀ v : BitVec 32, v.toNat < 32768 → C v) :
    iprop(tab c q T ∗ going c T Y s i f t)
      ⊢ wp frame (wpE (defs₀ (F := F)) 𝒱₀ (c : Thread nD τ) none) Set.univ (issueRow tO so bo d ro C dC h1 h2 h3 h4 h5)
        (fun _ => iprop(tab c q T ∗ going c T Y s i f (t + 1))) := by
  have hr : (T (ix1 (pos i (jj ⟨t, ht⟩) (kk ⟨t, ht⟩))) : BitVec 32).toNat = (row T (pos i (jj ⟨t, ht⟩) (kk ⟨t, ht⟩))).val := (Nat.mod_eq_of_lt (hT _)).symm
  have hD : iprop(own c (rowDst s (kk ⟨t, ht⟩) (jj ⟨t, ht⟩)) ((rowDst s (kk ⟨t, ht⟩) (jj ⟨t, ht⟩)).view.write (Elt F) f
        (ReadAs.same.apply ((rowSrc (row T (pos i (jj ⟨t, ht⟩) (kk ⟨t, ht⟩)))).view.read (Elt F) Y)) Finset.univ)
      ∗ lent c T Y s i ⟨t, ht⟩) ⊢ (deliv c T Y s i ⟨t, ht⟩ : sProp 𝕄) := by
    refine sep_mono_left ?_
    exact Eq.mp (congrArg (fun P : sProp 𝕄 => (P ⊢ own c (rowDst s (kk ⟨t, ht⟩) (jj ⟨t, ht⟩)) (gat T Y i)))
      (pointsTo_congr (fun x hx => (landed_row s (kk ⟨t, ht⟩) (jj ⟨t, ht⟩) i T Y f x hx).symm))) BIBase.Entails.rfl
  have h := issue_one c h1 h2 h3 h4 h5 (dC := dC) s (kk ⟨t, ht⟩) (jj ⟨t, ht⟩) (pos i (jj ⟨t, ht⟩) (kk ⟨t, ht⟩)) (row T (pos i (jj ⟨t, ht⟩) (kk ⟨t, ht⟩))) q
    (Transfers.shareTok (hf s) 512 ⟨t, ht⟩) T Y f htO hso hbo hd hro hC hr (deliv c T Y s i) t ht hD
  unfold going
  rw [Transfers.bigSep_pending_step _ t ht]
  iintro ⟨HT, ⟨⟨Hl, Ho⟩, Hp⟩, HB⟩
  iapply (wp_wand_r _ _ _)
  isplitl [HT Hl Ho HB]
  · iapply h
    isplitl [HT]; · iexact HT
    isplitl [Hl]; · iexact Hl
    isplitl [Ho]; · iexact Ho
    iexact HB
  iintro %_ ⟨HT, HB⟩
  isplitl [HT]; · iexact HT
  isplitl [Hp]; · iexact Hp
  iexact HB

theorem wait_at (hT : RowsIn T) (s : Fin 2) (i : Fin 64) (t : ℕ) (ht : t < 512)
    (htO : tO = ![(pos i (jj ⟨t, ht⟩) (kk ⟨t, ht⟩)).val]) (hso : so = sO s) (hbo : bo = bO s (kk ⟨t, ht⟩)) (hd : d = dO (jj ⟨t, ht⟩))
    (hC : ∀ v : BitVec 32, v.toNat < 32768 → C v) :
    iprop(tab c q T ∗ (∃ W, owes (c : Thread nD τ) 0 W) ∗ batch c T Y s i 512 (t * NN))
      ⊢ wp frame (wpE (defs₀ (F := F)) 𝒱₀ (c : Thread nD τ) none) Set.univ (waitRow tO so bo d ro C dC h1 h2 h3 h4 h5)
        (fun _ => iprop(tab c q T ∗ (∃ W, owes (c : Thread nD τ) 0 W) ∗ batch c T Y s i 512 ((t + 1) * NN))) :=
  wait_one c h1 h2 h3 h4 h5 s (kk ⟨t, ht⟩) (jj ⟨t, ht⟩) _ q T htO hso hbo hd hC (hT _) (deliv c T Y s i) t ht
end Row

theorem pair_run {A B : PG (F := F) PUnit} {P Q R : sProp 𝕄}
    (hA : P ⊢ wp frame (wpE (defs₀ (F := F)) 𝒱₀ (c : Thread nD τ) none) Set.univ A (fun _ => Q))
    (hB : Q ⊢ wp frame (wpE (defs₀ (F := F)) 𝒱₀ (c : Thread nD τ) none) Set.univ B (fun _ => R)) :
    P ⊢ wp frame (wpE (defs₀ (F := F)) 𝒱₀ (c : Thread nD τ) none) Set.univ (A >>= fun _ => B >>= fun _ => (pure ⟨⟩ : PG (F := F) Unit)) (fun _ => R) := by
  rw [wp_bind]
  refine hA.trans (wp_mono _ _ _ fun _ => ?_)
  rw [wp_bind]
  exact hB.trans (wp_mono _ _ _ fun _ => pure_run c _ (fun _ => R))

theorem even_lt {j : ℕ} (h : j < 256) : 2 * j < 512 := by omega
theorem odd_lt {j : ℕ} (h : j < 256) : 2 * j + 1 < 512 := by omega
theorem one_eq {a b : ℕ} (h : a = b) : (![a] : Fin 1 → ℕ) = ![b] := by rw [h]
theorem two_eq {a b : ℕ} (h : a = b) : (![a, 0] : Fin 2 → ℕ) = ![b, 0] := by rw [h]
theorem four_eq {a b : ℕ} {s : ℕ} (h : a = b) : (![s, a, 0, 0] : Fin 4 → ℕ) = ![s, b, 0, 0] := by rw [h]

theorem fetch1_run (hT : RowsIn T) (i : grid0.Coords) (h : k0_cond1 i = 1#1) (i' : Fin 64) (hi : i'.val = 0) (f : CB F) :
    iprop(tab c q T ∗ going c T Y 0 i' f 0)
      ⊢ wp frame (wpE (defs₀ (F := F)) 𝒱₀ (c : Thread nD τ) none) Set.univ (fetch1 i h) (fun _ => iprop(tab c q T ∗ going c T Y 0 i' f 512)) := by
  refine BIBase.Entails.trans ?_ (Scf.wp_for frame (wpE (defs₀ (F := F)) 𝒱₀ (c : Thread nD τ) none) Set.univ k0_t1_loop.lb k0_t1_loop.ub k0_t1_loop.st (k0_t1_ok i h) ⟨⟩ (fun t _ => issue1 i h t)
    (fun n _ => iprop(tab c q T ∗ going c T Y 0 i' f (2 * n))) (fun t _ => ?_))
  · iintro H
    isplitl [H]; · iexact H
    iintro %_ H
    have e : 2 * Scf.trips k0_t1_loop.lb k0_t1_loop.ub k0_t1_loop.st = 512 := by have := trips1; show 2 * k0_t1_loop.trips = 512; omega
    rw [e]
    iexact H
  have ht : t.val < 256 := t.isLt.trans_eq trips1
  refine pair_run c (Q := iprop(tab c q T ∗ going c T Y 0 i' f (2 * t.val + 1))) ?_ ?_
  · exact issue_at c q T Y _ _ _ _ _ hT 0 i' f (2 * t.val) (even_lt ht) ((off1_at t).trans (one_eq (by show 2 * t.val = 2 * (i'.val * 256 + 2 * t.val / 2) + 2 * t.val % 2; omega))) rfl
      (four_eq (by show 0 = 2 * t.val % 2; omega)) ((off2_at t).trans (two_eq (by show t.val = 2 * t.val / 2; omega))) (fun _ => rfl) (fun v hv _ => row_in v hv)
  · have e : 2 * (t.val + 1) = 2 * t.val + 1 + 1 := by omega
    rw [e]
    exact issue_at c q T Y _ _ _ _ _ hT 0 i' f (2 * t.val + 1) (odd_lt ht) ((off4_at t).trans (one_eq (by show 2 * t.val + 1 = 2 * (i'.val * 256 + (2 * t.val + 1) / 2) + (2 * t.val + 1) % 2; omega))) rfl
      (four_eq (by show 1 = (2 * t.val + 1) % 2; omega)) ((off5_at t).trans (two_eq (by show t.val = (2 * t.val + 1) / 2; omega))) (fun _ => rfl) (fun v hv _ => row_in v hv)

theorem fetch2_run (hT : RowsIn T) (i : grid0.Coords) (h : k0_cond2 i = 1#1) (s : Fin 2) (i' : Fin 64) (hs : s.val = ((i 0).val + 1) % 2) (hi : i'.val = (i 0).val + 1) (f : CB F) :
    iprop(tab c q T ∗ going c T Y s i' f 0)
      ⊢ wp frame (wpE (defs₀ (F := F)) 𝒱₀ (c : Thread nD τ) none) Set.univ (fetch2 i h) (fun _ => iprop(tab c q T ∗ going c T Y s i' f 512)) := by
  refine BIBase.Entails.trans ?_ (Scf.wp_for frame (wpE (defs₀ (F := F)) 𝒱₀ (c : Thread nD τ) none) Set.univ k0_t2_loop.lb k0_t2_loop.ub k0_t2_loop.st (k0_t2_ok i h) ⟨⟩ (fun t _ => issue2 i h t)
    (fun n _ => iprop(tab c q T ∗ going c T Y s i' f (2 * n))) (fun t _ => ?_))
  · iintro H
    isplitl [H]; · iexact H
    iintro %_ H
    have e : 2 * Scf.trips k0_t2_loop.lb k0_t2_loop.ub k0_t2_loop.st = 512 := by have := trips2; show 2 * k0_t2_loop.trips = 512; omega
    rw [e]
    iexact H
  have ht : t.val < 256 := t.isLt.trans_eq trips2
  have hs' : ((i 0).val + 1) % 2 = s.val := hs.symm
  refine pair_run c (Q := iprop(tab c q T ∗ going c T Y s i' f (2 * t.val + 1))) ?_ ?_
  · exact issue_at c q T Y _ _ _ _ _ hT s i' f (2 * t.val) (even_lt ht) ((off7_at i t).trans (one_eq (by show 2 * (((i 0).val + 1) * 256 + t.val) = 2 * (i'.val * 256 + 2 * t.val / 2) + 2 * t.val % 2; omega)))
      ((off8_at i).trans (one_eq hs')) ((off9_at i).trans (by rw [hs']; exact four_eq (by show 0 = 2 * t.val % 2; omega))) ((off10_at t).trans (two_eq (by show t.val = 2 * t.val / 2; omega))) (fun _ => rfl) (fun v hv _ => row_in v hv)
  · have e : 2 * (t.val + 1) = 2 * t.val + 1 + 1 := by omega
    rw [e]
    exact issue_at c q T Y _ _ _ _ _ hT s i' f (2 * t.val + 1) (odd_lt ht) ((off12_at i t).trans (one_eq (by show 2 * (((i 0).val + 1) * 256 + t.val) + 1 = 2 * (i'.val * 256 + (2 * t.val + 1) / 2) + (2 * t.val + 1) % 2; omega)))
      ((off13_at i).trans (one_eq hs')) ((off14_at i).trans (by rw [hs']; exact four_eq (by show 1 = (2 * t.val + 1) % 2; omega))) ((off15_at t).trans (two_eq (by show t.val = (2 * t.val + 1) / 2; omega))) (fun _ => rfl) (fun v hv _ => row_in v hv)

theorem waits_run (hT : RowsIn T) (i : grid0.Coords) (s : Fin 2) (i' : Fin 64) (hs : s.val = (i 0).val % 2) (hi : i'.val = (i 0).val) :
    iprop(tab c q T ∗ (∃ W, owes (c : Thread nD τ) 0 W) ∗ batch c T Y s i' 512 0)
      ⊢ wp frame (wpE (defs₀ (F := F)) 𝒱₀ (c : Thread nD τ) none) Set.univ (waits i) (fun _ => iprop(tab c q T ∗ (∃ W, owes (c : Thread nD τ) 0 W) ∗ batch c T Y s i' 512 (512 * NN))) := by
  refine BIBase.Entails.trans ?_ (Scf.wp_for frame (wpE (defs₀ (F := F)) 𝒱₀ (c : Thread nD τ) none) Set.univ k0_t3_loop.lb k0_t3_loop.ub k0_t3_loop.st k0_t3_ok ⟨⟩ (fun t _ => wait3 i t)
    (fun n _ => iprop(tab c q T ∗ (∃ W, owes (c : Thread nD τ) 0 W) ∗ batch c T Y s i' 512 (2 * n * NN))) (fun t _ => ?_))
  · have e0 : 2 * 0 * NN = 0 := by rw [Nat.mul_zero, Nat.zero_mul]
    rw [e0]
    iintro H
    isplitl [H]; · iexact H
    iintro %_ H
    have e : 2 * Scf.trips k0_t3_loop.lb k0_t3_loop.ub k0_t3_loop.st = 512 := by have := trips3; show 2 * k0_t3_loop.trips = 512; omega
    rw [e]
    iexact H
  have ht : t.val < 256 := t.isLt.trans_eq trips3
  have hs' : (i 0).val % 2 = s.val := hs.symm
  refine pair_run c (Q := iprop(tab c q T ∗ (∃ W, owes (c : Thread nD τ) 0 W) ∗ batch c T Y s i' 512 ((2 * t.val + 1) * NN))) ?_ ?_
  · exact wait_at c q T Y _ _ _ _ _ hT s i' (2 * t.val) (even_lt ht) ((off17_at i t).trans (one_eq (by show 2 * ((i 0).val * 256 + t.val) = 2 * (i'.val * 256 + 2 * t.val / 2) + 2 * t.val % 2; omega)))
      ((off18_at i).trans (one_eq hs')) ((off19_at i).trans (by rw [hs']; exact four_eq (by show 0 = 2 * t.val % 2; omega))) ((off20_at t).trans (two_eq (by show t.val = 2 * t.val / 2; omega))) (fun v hv => row_in v hv)
  · have e : 2 * (t.val + 1) = 2 * t.val + 1 + 1 := by omega
    rw [e]
    exact wait_at c q T Y _ _ _ _ _ hT s i' (2 * t.val + 1) (odd_lt ht) ((off22_at i t).trans (one_eq (by show 2 * ((i 0).val * 256 + t.val) + 1 = 2 * (i'.val * 256 + (2 * t.val + 1) / 2) + (2 * t.val + 1) % 2; omega)))
      ((off23_at i).trans (one_eq hs')) ((off24_at i).trans (by rw [hs']; exact four_eq (by show 1 = (2 * t.val + 1) % 2; omega))) ((off25_at t).trans (two_eq (by show t.val = (2 * t.val + 1) / 2; omega))) (fun v hv => row_in v hv)

end Loops

end Cert.Blend.CombineIdeal

end
-- ==== Proof.CombineIdealPoint.lean ====
/-
One point of the combining call, run.
-/
module

public import proofs.«01_k».proof.Proof.CombineIdealLoops
public import Idealize.ShloMosaic.Lib.VecWindow

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ × Counters) ℕ
local notation "EC" => countersEmb (U := UR sig nD τ × Counters)

section Point
variable (c : Dev nD) (q : PosShare TreeShare) (T : C0 F) (Y : C3 F)

theorem z2 : (![0, 0] : Fin 2 → ℕ) = fun _ => 0 := by funext a; fin_cases a <;> rfl

abbrev stage {S : Shape} {e : EltTy} (M : Memref sig .tc .vmem S e) (x : S.Idx → Elt F e) : sProp 𝕄 := M.view.loc (c : Thread nD τ) ↦[M.view.set]{fullShare} M.view.rep x

theorem stored_view {S : Shape} {e : EltTy} (O : Memref sig .tc .vmem S e) (f : O.view.ty.Contents (Elt F)) (off : Fin S.rank → ℕ) (h0 : off = fun _ => 0) (hin : ∀ a, off a + S.size a ≤ S.size a)
    (x : S.Idx → Elt F e) :
    O.view.read (Elt F) (O.view.writes (Elt F) f [⟨Rect.unit (s := S) off S.size hin, x⟩]) = x := by
  subst h0
  exact View.read_writes_whole (Val := Elt F) O.view f x
theorem rep_of_eq {S : Shape} {e : EltTy} (O : Memref sig .tc .vmem S e) (f : Buf (Elt F) (O.view.loc (c : Thread nD τ))) (x : S.Idx → Elt F e) (h : O.view.read (Elt F) f = x) :
    ((O.view.loc (c : Thread nD τ) ↦[O.view.set]{fullShare} f : sProp 𝕄)) ⊢ stage c O x := by
  have e := pointsTo_rep_entails (Ix := Unit) (Name := ℕ) (U := UR sig nD τ × Counters) (Lvl := ℕ) (c : Thread nD τ) O f fullShare
  rwa [h] at e

theorem load_all {S : Shape} {e : EltTy} (M : Memref sig .tc .vmem S e) (x : S.Idx → Elt F e) (off : Fin S.rank → ℕ) (hin : ∀ a, off a + S.size a ≤ S.size a) (hl)
    (Q : (S.Idx → Elt F e) → sProp 𝕄) :
    iprop(stage c M x ∗ (stage c M x -∗ Q x))
      ⊢ wp frame (wpE (defs₀ (F := F)) 𝒱₀ (c : Thread nD τ) none) Set.univ (Prog.lift (.load M (Rect.unit (s := S) off S.size hin).toLoadRect hl)) Q := by
  have hS : M.view.setOn (Rect.unit (s := S) off S.size hin).toLoadRect.set ⊆ M.view.set := View.setOn_subset_set _ _
  iintro ⟨H, K⟩
  iapply (wp_load 𝒱₀ (c : Thread nD τ) none Set.univ hS) $$ H
  rw [View.readAt_rep_full]
  iintro H
  sl_step
  iapply K
  iexact H

/-- Plane `k` of a full slot, as it is read. -/
def got (i : Fin 64) (k : Fin 2) : Vec F S1x1x256x1024 .i32 := fun y => Y (ix2 (row T (pos i (y 2) k)) (y 3) : S32768x1024.Idx)

theorem plane_idx (s k : Fin 2) (off : Fin 4 → ℕ) (ho : off = ![s.val, k.val, 0, 0]) (hin : ∀ a, off a + S1x1x256x1024.size a ≤ S2x2x256x1024.size a) (y : S1x1x256x1024.Idx) :
    (Rect.unit (s := S2x2x256x1024) off S1x1x256x1024.size hin).toLoadRect.idx y = (ix4 s k (y 2) (y 3) : S2x2x256x1024.Idx) := by
  subst ho
  have h0 : (y 0).val = 0 := by have : (y 0).val < 1 := (y 0).isLt; omega
  have h1 : (y 1).val = 0 := by have : (y 1).val < 1 := (y 1).isLt; omega
  funext a
  refine Fin.ext ?_
  match a with
  | ⟨0, _⟩ => show s.val + 1 * (y 0).val = s.val; omega
  | ⟨1, _⟩ => show k.val + 1 * (y 1).val = k.val; omega
  | ⟨2, _⟩ => show 0 + 1 * (y 2).val = (y 2).val; omega
  | ⟨3, _⟩ => show 0 + 1 * (y 3).val = (y 3).val; omega

theorem plane_load (s k : Fin 2) (i : Fin 64) (off : Fin 4 → ℕ) (ho : off = ![s.val, k.val, 0, 0]) (hin : ∀ a, off a + S1x1x256x1024.size a ≤ S2x2x256x1024.size a) :
    View.readAt (Elt F) (Memref.whole cc0_scratch0).view (Rect.unit (s := S2x2x256x1024) off S1x1x256x1024.size hin).toLoadRect (gat T Y i) = got T Y i k := by
  funext y
  exact congrArg (gat T Y i) (plane_idx s k off ho hin y)

theorem load_plane (s k : Fin 2) (i : Fin 64) (off : Fin 4 → ℕ) (ho : off = ![s.val, k.val, 0, 0]) (hin : ∀ a, off a + S1x1x256x1024.size a ≤ S2x2x256x1024.size a) (hl)
    (Q : Vec F S1x1x256x1024 .i32 → sProp 𝕄) :
    iprop(slotOwn c s (gat T Y i) ∗ (slotOwn c s (gat T Y i) -∗ Q (got T Y i k)))
      ⊢ wp frame (wpE (defs₀ (F := F)) 𝒱₀ (c : Thread nD τ) none) Set.univ
        (Prog.lift (.load (Memref.whole cc0_scratch0) (Rect.unit (s := S2x2x256x1024) off S1x1x256x1024.size hin).toLoadRect hl)) Q := by
  have hS : (Memref.whole cc0_scratch0 : Memref sig .tc .vmem S2x2x256x1024 .i32).view.setOn (Rect.unit (s := S2x2x256x1024) off S1x1x256x1024.size hin).toLoadRect.set ⊆ slotSet s := by
    intro x hx
    obtain ⟨z, hz, hzx⟩ := Finset.mem_map.1 hx
    have hx' : z = x := hzx
    subst hx'
    have hz' := (Rect.mem_set_unit (s := S2x2x256x1024)).1 hz 0
    subst ho
    refine (slotSet_mem s z).2 (Fin.ext ?_)
    have a1 : s.val ≤ (z 0).val := hz'.1
    have a2 : (z 0).val < s.val + 1 := hz'.2
    omega
  have e := plane_load (F := F) T Y s k i off ho hin
  iintro ⟨H, K⟩
  iapply (wp_load (m := (Memref.whole cc0_scratch0 : Memref sig .tc .vmem S2x2x256x1024 .i32)) 𝒱₀ (c : Thread nD τ) none Set.univ hS) $$ H
  rw [e]
  iintro H
  sl_step
  iapply K
  iexact H

/-- What a point stores. -/
def outV (i : Fin 64) (x : Vec F S256x2048 .f32) (r : Vec F S256x128 .f32) : Vec F S256x2048 .f32 := k0_pay1 (k0_pay2 r) (k0_pay3 r) (got T Y i 0) (got T Y i 1) x

theorem last_run (i : grid0.Coords) (s : Fin 2) (n : Fin 64) (hs : (i 0).val % 2 = s.val)
    (X : Memref sig .tc .vmem S256x2048 .f32) (R : Memref sig .tc .vmem S256x128 .f32) (O : Memref sig .tc .vmem S256x2048 .f32)
    (x : Vec F S256x2048 .f32) (r : Vec F S256x128 .f32) (o : Vec F S256x2048 .f32) :
    iprop(slotOwn c s (gat T Y n) ∗ stage c X x ∗ stage c R r ∗ stage c O o)
      ⊢ wp frame (wpE (defs₀ (F := F)) 𝒱₀ (c : Thread nD τ) none) Set.univ (lastP i X R O)
        (fun _ => iprop(slotOwn c s (gat T Y n) ∗ stage c X x ∗ stage c R r ∗ stage c O (outV T Y n x r))) := by
  have e0 : k0_off27 i = ![s.val, (0 : Fin 2).val, 0, 0] := by rw [off27_at, hs]; rfl
  have e1 : k0_off28 i = ![s.val, (1 : Fin 2).val, 0, 0] := by rw [off28_at, hs]; rfl
  unfold lastP
  iintro ⟨HS, HX, HR, HO⟩
  rw [wp_bind]
  iapply (load_all c R r _ _ _ _)
  isplitl [HR]; · iexact HR
  iintro HR
  rw [wp_bind]
  iapply (load_plane c T Y s 0 n _ e0 _ _ _)
  isplitl [HS]; · iexact HS
  iintro HS
  rw [wp_bind]
  iapply (load_plane c T Y s 1 n _ e1 _ _ _)
  isplitl [HS]; · iexact HS
  iintro HS
  rw [wp_bind]
  iapply (load_all c X x _ _ _ _)
  isplitl [HX]; · iexact HX
  iintro HX
  rw [wp_bind]
  iapply (load_all c O o _ _ _ _)
  isplitl [HO]; · iexact HO
  iintro HO
  sl_exec
  sl_step
  isplitl [HS]; · iexact HS
  isplitl [HX]; · iexact HX
  isplitl [HR]; · iexact HR
  iapply (rep_of_eq c O _ (outV T Y n x r) (stored_view O _ ![0, 0] z2 inb_S256x2048_S256x2048_0_0 _))
  iexact HO

/-! ## The slots from point to point -/

abbrev sl (n : ℕ) : Fin 2 := ⟨n % 2, Nat.mod_lt _ (by decide)⟩
/-- Before point `n`. -/
def slots : ℕ → sProp 𝕄
  | 0 => iprop(idle c Y (sl 0) ∗ idle c Y (sl 1))
  | n + 1 => if h : n + 1 < 64 then iprop(flying c T Y (sl (n + 1)) ⟨n + 1, h⟩ ∗ idle c Y (sl n)) else iprop(idle c Y (sl (n + 1)) ∗ idle c Y (sl n))
/-- The next step's slot, past the next step's fetch. -/
def ahead (n : ℕ) : sProp 𝕄 := if h : n + 1 < 64 then flying c T Y (sl (n + 1)) ⟨n + 1, h⟩ else idle c Y (sl (n + 1))

theorem sl_two (n : ℕ) : sl (n + 2) = sl n := Fin.ext (by show (n + 2) % 2 = n % 2; omega)

theorem first_run (hT : RowsIn T) (i : grid0.Coords) (n : Fin 64) (hi : (i 0).val = n.val) (k : PG (F := F) PUnit) (Q : PUnit → sProp 𝕄) (Fr : sProp 𝕄)
    (hk : iprop(tab c q T ∗ (flying c T Y (sl n.val) n ∗ idle c Y (sl (n.val + 1))) ∗ Fr) ⊢ wp frame (wpE (defs₀ (F := F)) 𝒱₀ (c : Thread nD τ) none) Set.univ k Q) :
    iprop(tab c q T ∗ slots c T Y n.val ∗ Fr) ⊢ wp frame (wpE (defs₀ (F := F)) 𝒱₀ (c : Thread nD τ) none) Set.univ (ditK (k0_cond1 i = 1#1) (fetch1 i) k) Q := by
  unfold ditK
  by_cases h : k0_cond1 i = 1#1
  · have h0 : n.val = 0 := hi.symm.trans ((cond1_at i).1 h)
    obtain rfl : n = 0 := Fin.ext h0
    rw [dif_pos h, wp_bind]
    unfold slots
    iintro ⟨HT, ⟨H0, H1⟩, HF⟩
    imod (start c T Y (sl 0) 0) $$ H0 with ⟨%f, Hg, Hk⟩
    iapply (wp_wand_r _ _ _)
    isplitl [HT Hg]
    · iapply (fetch1_run c q T Y hT i h 0 rfl f)
      isplitl [HT]; · iexact HT
      iexact Hg
    iintro %_ ⟨HT, Hg⟩
    iapply hk
    isplitl [HT]; · iexact HT
    isplitr [HF]
    · isplitr [H1]
      · iapply (gone c T Y (sl 0) 0 f)
        isplitl [Hg]; · iexact Hg
        iexact Hk
      iexact H1
    iexact HF
  · rw [dif_neg h]
    have h0 : n.val ≠ 0 := fun h0 => h ((cond1_at i).2 (hi.trans h0))
    obtain ⟨m, hm⟩ := Nat.exists_eq_succ_of_ne_zero h0
    have e : (slots c T Y n.val : sProp 𝕄) = iprop(flying c T Y (sl n.val) n ∗ idle c Y (sl (n.val + 1))) := by
      obtain ⟨n, hn⟩ := n
      dsimp only at hm
      subst hm
      show (if h : m + 1 < 64 then iprop(flying c T Y (sl (m + 1)) ⟨m + 1, h⟩ ∗ idle c Y (sl m)) else iprop(idle c Y (sl (m + 1)) ∗ idle c Y (sl m)) : sProp 𝕄)
        = iprop(flying c T Y (sl (m + 1)) ⟨m + 1, hn⟩ ∗ idle c Y (sl (m + 2)))
      rw [dif_pos (show m + 1 < 64 from hn), sl_two]
    rw [e]
    exact hk

theorem next_run (hT : RowsIn T) (i : grid0.Coords) (n : ℕ) (hi : (i 0).val = n) (k : PG (F := F) PUnit) (Q : PUnit → sProp 𝕄) (P Fr : sProp 𝕄)
    (hk : iprop(tab c q T ∗ (P ∗ ahead c T Y n) ∗ Fr) ⊢ wp frame (wpE (defs₀ (F := F)) 𝒱₀ (c : Thread nD τ) none) Set.univ k Q) :
    iprop(tab c q T ∗ (P ∗ idle c Y (sl (n + 1))) ∗ Fr) ⊢ wp frame (wpE (defs₀ (F := F)) 𝒱₀ (c : Thread nD τ) none) Set.univ (ditK (k0_cond2 i = 1#1) (fetch2 i) k) Q := by
  unfold ditK
  by_cases h : k0_cond2 i = 1#1
  · have h0 : n + 1 < 64 := by rw [← hi]; exact (cond2_at i).1 h
    unfold ahead at hk
    rw [dif_pos h0] at hk
    rw [dif_pos h, wp_bind]
    iintro ⟨HT, ⟨HP, H0⟩, HF⟩
    imod (start c T Y (sl (n + 1)) ⟨n + 1, h0⟩) $$ H0 with ⟨%f, Hg, Hk⟩
    iapply (wp_wand_r _ _ _)
    isplitl [HT Hg]
    · iapply (fetch2_run c q T Y hT i h (sl (n + 1)) ⟨n + 1, h0⟩ (by rw [hi]) (by rw [hi]) f)
      isplitl [HT]; · iexact HT
      iexact Hg
    iintro %_ ⟨HT, Hg⟩
    iapply hk
    isplitl [HT]; · iexact HT
    isplitr [HF]
    · isplitl [HP]; · iexact HP
      iapply (gone c T Y (sl (n + 1)) ⟨n + 1, h0⟩ f)
      isplitl [Hg]; · iexact Hg
      iexact Hk
    iexact HF
  · have h0 : ¬ n + 1 < 64 := fun h0 => h ((cond2_at i).2 (by rw [hi]; exact h0))
    unfold ahead at hk
    rw [dif_neg h0] at hk
    rw [dif_neg h]
    exact hk

theorem slots_succ (n : ℕ) : (slots c T Y (n + 1) : sProp 𝕄) = iprop(ahead c T Y n ∗ idle c Y (sl n)) := by
  show (if h : n + 1 < 64 then iprop(flying c T Y (sl (n + 1)) ⟨n + 1, h⟩ ∗ idle c Y (sl n)) else iprop(idle c Y (sl (n + 1)) ∗ idle c Y (sl n)) : sProp 𝕄) = _
  unfold ahead
  split <;> rfl

theorem point_run (hT : RowsIn T) (i : grid0.Coords) (n : Fin 64) (hi : (i 0).val = n.val)
    (X : Memref sig .tc .vmem S256x2048 .f32) (R : Memref sig .tc .vmem S256x128 .f32) (O : Memref sig .tc .vmem S256x2048 .f32)
    (x : Vec F S256x2048 .f32) (r : Vec F S256x128 .f32) (o : Vec F S256x2048 .f32) :
    iprop(tab c q T ∗ slots c T Y n.val ∗ (∃ W, owes (c : Thread nD τ) 0 W) ∗ stage c X x ∗ stage c R r ∗ stage c O o)
      ⊢ wp frame (wpE (defs₀ (F := F)) 𝒱₀ (c : Thread nD τ) none) Set.univ (bodyP i X R O)
        (fun _ => iprop(tab c q T ∗ slots c T Y (n.val + 1) ∗ (∃ W, owes (c : Thread nD τ) 0 W) ∗ stage c X x ∗ stage c R r ∗ stage c O (outV T Y n x r))) := by
  unfold bodyP
  refine first_run c q T Y hT i n hi _ _ _ ?_
  refine next_run c q T Y hT i n.val hi _ _ _ _ ?_
  rw [wp_bind, slots_succ]
  unfold flying
  iintro ⟨HT, ⟨⟨HB, Hk⟩, HA⟩, Ho, HX, HR, HO⟩
  iapply (wp_wand_r _ _ _)
  isplitl [HT HB Ho]
  · iapply (waits_run c q T Y hT i (sl n.val) n (by rw [hi]) hi.symm)
    isplitl [HT]; · iexact HT
    isplitl [Ho]; · iexact Ho
    iexact HB
  iintro %_ ⟨HT, Ho, HB⟩
  imod (fill c T Y (sl n.val) n) $$ [HB Hk] with HL
  · unfold landed
    isplitl [HB]; · iexact HB
    iexact Hk
  unfold full
  icases HL with ⟨HS, Hs, Hy⟩
  iapply (wp_wand_r _ _ _)
  isplitl [HS HX HR HO]
  · iapply (last_run c T Y i (sl n.val) n (by rw [hi]) X R O x r o)
    isplitl [HS]; · iexact HS
    isplitl [HX]; · iexact HX
    isplitl [HR]; · iexact HR
    iexact HO
  iintro %_ ⟨HS, HX, HR, HO⟩
  isplitl [HT]; · iexact HT
  isplitr [Ho HX HR HO]
  · isplitl [HA]; · iexact HA
    unfold idle
    isplitl [HS]; · iexists _; iexact HS
    isplitl [Hs]; · iexact Hs
    iexact Hy
  isplitl [Ho]; · iexact Ho
  isplitl [HX]; · iexact HX
  isplitl [HR]; · iexact HR
  iexact HO

end Point

end Cert.Blend.CombineIdeal

end
-- ==== Proof.CombineIdealRegion.lean ====
/-
The combining call's region: what holds between points, its body at every point, its launch.
-/
module

public import proofs.«01_k».proof.Proof.CombineIdealPoint
public import Idealize.ShloMosaic.Lib.Pipeline.Frame
public import Idealize.ShloMosaic.Lib.Pipeline.FrameBody
public import Idealize.ShloMosaic.Lib.Claim
public import Idealize.ShloMosaic.Lib.Pipeline.TableIdle

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ × Counters) ℕ
local notation "EC" => countersEmb (U := UR sig nD τ × Counters)

section Region
variable (c : Dev nD)

/-! ## The two slots, together -/

theorem slots_disj : ∀ s s' : Fin 2, s ≠ s' → Disjoint (slotSet s) (slotSet s') := by
  intro s s' h
  rw [Finset.disjoint_left]
  intro x hx hx'
  exact h (((slotSet_mem s x).1 hx).symm.trans ((slotSet_mem s' x).1 hx'))
theorem slots_cover : (Finset.univ : Finset (Fin 2)).biUnion slotSet = Finset.univ := by
  ext x
  exact ⟨fun _ => Finset.mem_univ _, fun _ => Finset.mem_biUnion.2 ⟨x 0, Finset.mem_univ _, (slotSet_mem _ x).2 rfl⟩⟩
theorem buf_split : iprop(∃ f, bufL c ↦{fullShare} f) ⊢ (iprop((∃ f, slotOwn c 0 f) ∗ ∃ f, slotOwn c 1 f) : sProp 𝕄) :=
  Ring.slots2_split (ℓ := bufL c) slotSet slots_disj slots_cover _ _ (fun _ => rfl) (fun _ => rfl)
theorem buf_join : (iprop((∃ f, slotOwn c 0 f) ∗ ∃ f, slotOwn c 1 f) : sProp 𝕄) ⊢ iprop(∃ f, bufL c ↦{fullShare} f) :=
  Ring.slots2_join (ℓ := bufL c) slotSet slots_disj slots_cover _ _ (fun _ => rfl) (fun _ => rfl)

def osem : Fin 2 → SemLoc sig := fun s => SemLoc.dma (csm s).sem
theorem osem_facts : Pipeline.OwnSemFacts spec0 osem := by decide

theorem both_split (Y : C3 F) : iprop((∃ f, bufL c ↦{fullShare} f) ∗ (sem0 c 0 ∗ sem0 c 1) ∗ (ysL c ↦{fullShare} Y)) ⊢ (iprop(idle c Y 0 ∗ idle c Y 1) : sProp 𝕄) := by
  unfold idle
  iintro ⟨Hf, ⟨H0, H1⟩, HY⟩
  ihave ⟨Hf0, Hf1⟩ := buf_split c $$ Hf
  ihave ⟨HY0, HY1⟩ := (pointsTo_share (PosShare.mem_left_op_right fullShare)).1 $$ HY
  isplitl [Hf0 H0 HY0]
  · isplitl [Hf0]; · iexact Hf0
    isplitl [H0]; · iexact H0
    iexact HY0
  isplitl [Hf1]; · iexact Hf1
  isplitl [H1]; · iexact H1
  iexact HY1
theorem both_join (Y : C3 F) : iprop(idle c Y 0 ∗ idle c Y 1) ⊢ (iprop((∃ f, bufL c ↦{fullShare} f) ∗ (sem0 c 0 ∗ sem0 c 1) ∗ (ysL c ↦{fullShare} Y)) : sProp 𝕄) := by
  unfold idle
  iintro ⟨⟨Hf0, H0, HY0⟩, Hf1, H1, HY1⟩
  isplitl [Hf0 Hf1]
  · iapply (buf_join c)
    isplitl [Hf0]; · iexact Hf0
    iexact Hf1
  isplitl [H0 H1]
  · isplitl [H0]; · iexact H0
    iexact H1
  iapply (pointsTo_share (PosShare.mem_left_op_right fullShare)).2
  isplitl [HY0]; · iexact HY0
  iexact HY1

/-! ## The region's data and its body at every point -/

section Dat
variable (a : (pcfg0 (F := F)).Adm) (m : (ℓ : Loc nD τ sig) → Buf (Elt F) ℓ)

abbrev t0 : C0 F := a.1 (0 : Fin 1)
/-- The expert outputs in memory. -/
abbrev ys : C3 F := m ((c : Thread nD τ).loc main_arg3)

/-- The step of a point. -/
abbrev itm (t : Fin grid0.N) : Fin 64 := grid0.coords t 0
theorem itm_val (t : Fin grid0.N) : (itm t).val = t.val := by
  revert t; decide

variable (Good : Fin 64 → Vec F S256x2048 .f32 → Prop)

/-- What holds between points. -/
def Inv (n : ℕ) : sProp 𝕄 := iprop(tab c fullShare.right (t0 a) ∗ (∃ r, prngReg c r) ∗ slots c (t0 a) (ys c m) n)

/-- What a point may leave in its staging buffers. -/
def aft : (w : Fin 3) → Fin grid0.N → (((cfg0 a).win w).block.Idx → Elt F ((cfg0 a).win w).elt) → (((cfg0 a).win w).block.Idx → Elt F ((cfg0 a).win w).elt) → Prop
  | 0 => fun _ Y X => X = Y
  | 1 => fun _ Y X => X = Y
  | 2 => fun t _ X => Good (itm t) X
  | ⟨_ + 3, h⟩ => absurd h (Nat.not_lt.2 (Nat.le_add_left _ _))

def rdat : Pipeline.RDat τ (Elt F) Unit ℕ (UR sig nD τ × Counters) ℕ (cfg0 a) c where
  A w := m ((c : Thread nD τ).loc (Pipeline.arrRef spec0 w))
  after := aft a Good
  Φ t := Inv c a m t.val
  q _ := fullShare
  owed _ := 0

/-- A point's staging buffers. -/
abbrev stX (t : Fin grid0.N) : Memref sig .tc .vmem S256x2048 .f32 := spec0_0.stage ((cfg0 a).slots t (0 : Fin 3))
abbrev stR (t : Fin grid0.N) : Memref sig .tc .vmem S256x128 .f32 := spec0_1.stage ((cfg0 a).slots t (1 : Fin 3))
abbrev stO (t : Fin grid0.N) : Memref sig .tc .vmem S256x2048 .f32 := spec0_2.stage ((cfg0 a).slots t (2 : Fin 3))
theorem stX_whole (t : Fin grid0.N) : (stX a t).IsWhole := stage_whole0 0 ((cfg0 a).slots t (0 : Fin 3))
theorem stR_whole (t : Fin grid0.N) : (stR a t).IsWhole := stage_whole0 1 ((cfg0 a).slots t (1 : Fin 3))
theorem stO_whole (t : Fin grid0.N) : (stO a t).IsWhole := stage_whole0 2 ((cfg0 a).slots t (2 : Fin 3))

theorem defs₀_row (t : Fin (cfg0 a).N) : (defs₀ (F := F)) .tc (cfg0 a).body ((cfg0 a).bodyArgs t ((cfg0 a).slots t))
    = bodyP (grid0.coords t) (stX a t) (stR a t) (stO a t) := by
  refine Eq.trans ?_ (body_eq (grid0.coords t) (stX a t) (stX_whole a t) (stR a t) (stR_whole a t) (stO a t) (stO_whole a t))
  unfold defs₀
  rw [Defs.onTc_tc]

theorem point_ok (hT : RowsIn (t0 a)) (t : Fin grid0.N) (x : Vec F S256x2048 .f32) (r : Vec F S256x128 .f32) (o : Vec F S256x2048 .f32)
    (hGood : Good (itm t) (outV (t0 a) (ys c m) (itm t) x r)) :
    iprop(Inv c a m t.val ∗ (∃ W, owes (c : Thread nD τ) 0 W) ∗ stage c (stX a t) x ∗ stage c (stR a t) r ∗ stage c (stO a t) o)
      ⊢ wp frame (wpE (defs₀ (F := F)) 𝒱₀ (c : Thread nD τ) none) Set.univ (bodyP (grid0.coords t) (stX a t) (stR a t) (stO a t))
        (fun _ => iprop(Inv c a m (t.val + 1) ∗ (∃ W, owes (c : Thread nD τ) 0 W) ∗ stage c (stX a t) x ∗ stage c (stR a t) r
          ∗ ∃ o', ⌜aft a Good 2 t o o'⌝ ∗ stage c (stO a t) o')) := by
  have h := point_run c fullShare.right (t0 a) (ys c m) hT (grid0.coords t) (itm t) rfl (stX a t) (stR a t) (stO a t) x r o
  rw [itm_val] at h
  unfold Inv
  iintro ⟨⟨HT, Hr, HS⟩, Ho, HX, HR, HO⟩
  iapply (wp_wand_r _ _ _)
  isplitl [HT HS Ho HX HR HO]
  · iapply h
    isplitl [HT]; · iexact HT
    isplitl [HS]; · iexact HS
    isplitl [Ho]; · iexact Ho
    isplitl [HX]; · iexact HX
    isplitl [HR]; · iexact HR
    iexact HO
  iintro %_ ⟨HT, HS, Ho, HX, HR, HO⟩
  isplitl [HT Hr HS]
  · isplitl [HT]; · iexact HT
    isplitl [Hr]; · iexact Hr
    iexact HS
  isplitl [Ho]; · iexact Ho
  isplitl [HX]; · iexact HX
  isplitl [HR]; · iexact HR
  iexists _
  isplitr
  · ipureintro; exact hGood
  iexact HO

theorem body_obligation (hT : RowsIn (t0 a))
    (hGood : ∀ (t : Fin grid0.N) x r, (rdat c a m Good).Finds (0 : Fin 3) t x → (rdat c a m Good).Finds (1 : Fin 3) t r → Good (itm t) (outV (t0 a) (ys c m) (itm t) x r)) :
    (rdat c a m Good).BodyObligation defs₀ 𝒱₀ () Set.univ := by
  intro t Y hY
  rw [bigSep_W0, bigSep_W0, defs₀_row]
  have h := point_ok c a m Good hT t (Y (0 : Fin 3)) (Y (1 : Fin 3)) (Y (2 : Fin 3)) (hGood t _ _ (hY (0 : Fin 3)) (hY (1 : Fin 3)))
  refine BIBase.Entails.trans ?_ (h.trans (wp_mono _ _ _ fun _ => ?_))
  · show iprop(Inv c a m t.val ∗ (∃ W : Waits sig Unit, ⌜↑W ⊆ (rdat c a m Good).bound () t.castSucc⌝ ∗ owes (c : Thread nD τ) 0 W)
      ∗ owns (c : Thread nD τ) (stX a t) fullShare (Y (0 : Fin 3)) ∗ owns (c : Thread nD τ) (stR a t) fullShare (Y (1 : Fin 3)) ∗ owns (c : Thread nD τ) (stO a t) fullShare (Y (2 : Fin 3))) ⊢ _
    iintro ⟨HI, ⟨%W, %_, Ho⟩, HX, HR, HO⟩
    isplitl [HI]; · iexact HI
    isplitl [Ho]; · iexists W; iexact Ho
    isplitl [HX]; · iapply (rep_of_owns (c : Thread nD τ) (stX a t) fullShare (Y (0 : Fin 3))); iexact HX
    isplitl [HR]; · iapply (rep_of_owns (c : Thread nD τ) (stR a t) fullShare (Y (1 : Fin 3))); iexact HR
    iapply (rep_of_owns (c : Thread nD τ) (stO a t) fullShare (Y (2 : Fin 3))); iexact HO
  · show _ ⊢ iprop(Inv c a m (t.val + 1) ∗ (∃ W : Waits sig Unit, ⌜↑W ⊆ (rdat c a m Good).bound () t.succ⌝ ∗ owes (c : Thread nD τ) 0 W)
      ∗ (∃ X, ⌜aft a Good 0 t (Y (0 : Fin 3)) X⌝ ∗ owns (c : Thread nD τ) (stX a t) fullShare X) ∗ (∃ X, ⌜aft a Good 1 t (Y (1 : Fin 3)) X⌝ ∗ owns (c : Thread nD τ) (stR a t) fullShare X)
      ∗ ∃ X, ⌜aft a Good 2 t (Y (2 : Fin 3)) X⌝ ∗ owns (c : Thread nD τ) (stO a t) fullShare X)
    iintro ⟨HI, ⟨%W, Ho⟩, HX, HR, %o', %ho, HO⟩
    isplitl [HI]; · iexact HI
    isplitl [Ho]
    · iexists W
      isplitr
      · ipureintro; exact fun _ _ => Or.inl trivial
      iexact Ho
    isplitl [HX]
    · iexists (Y (0 : Fin 3))
      isplitr
      · ipureintro; exact rfl
      iapply (owns_of_rep (c : Thread nD τ) (stX a t) fullShare (Y (0 : Fin 3))); iexact HX
    isplitl [HR]
    · iexists (Y (1 : Fin 3))
      isplitr
      · ipureintro; exact rfl
      iapply (owns_of_rep (c : Thread nD τ) (stR a t) fullShare (Y (1 : Fin 3))); iexact HR
    iexists o'
    isplitr
    · ipureintro; exact ho
    iapply (owns_of_rep (c : Thread nD τ) (stO a t) fullShare o'); iexact HO

/-! ## The first and last points of the region -/

theorem prefs_eq (v : pre0.Contents (Elt F)) : (Pipeline.ΦT pre0 v c : sProp 𝕄) = tab c fullShare.right (v (0 : Fin 1)) :=
  bigSep_univ_eq_bigSepL [(0 : Fin 1)] (by decide) (by decide) _
theorem sems_eq : (Pipeline.ownSems0 (Ix := Unit) (Name := ℕ) (U := UR sig nD τ × Counters) (Lvl := ℕ) (Val := Elt F) (τ := τ) osem c : sProp 𝕄) = iprop(sem0 c 0 ∗ sem0 c 1) :=
  bigSep_univ_eq_bigSepL [(0 : Fin 2), 1] (by decide) (by decide) _

/-- What memory holds at launch. -/
abbrev V (c : Dev nD) (b : Ref sig .tc) : Buf (Elt F) ((c : Thread nD τ).loc b) := m ((c : Thread nD τ).loc b)
/-- The array the copies read. -/
abbrev HB : Finset (Ref sig .tc) := Pipeline.restRefsP sig pre0 spec0
theorem hb_eq : (bigSep HB fun b => ((c : Thread nD τ).loc b) ↦{fullShare} V m c b : sProp 𝕄) = (ysL c ↦{fullShare} ys c m) :=
  unscopedRestP0_eq c (V m c)

theorem inv_first : iprop(Pipeline.ΦD osem spec0 HB (V m) c ∗ Pipeline.ΦT pre0 a.1 c) ⊢ Inv c a m 0 := by
  have h := both_split c (ys c m)
  rw [Pipeline.ΦD_eq, prefs_eq, hb_eq, sems_eq, scopedRest0_eq]
  unfold Inv slots
  iintro ⟨⟨Hf, Hr, Hs, Hh⟩, HT⟩
  isplitl [HT]; · iexact HT
  isplitl [Hr]; · iexact Hr
  iapply h
  isplitl [Hf]; · iexact Hf
  isplitl [Hs]; · iexact Hs
  iexact Hh

theorem inv_last : Inv c a m grid0.N ⊢ Pipeline.ΦD osem spec0 HB (V m) c := by
  have h := both_join c (ys c m)
  have e : (slots c (t0 a) (ys c m) grid0.N : sProp 𝕄) = iprop(idle c (ys c m) 0 ∗ idle c (ys c m) 1) := by
    rw [N_0]; rfl
  rw [Pipeline.ΦD_eq, hb_eq, sems_eq, scopedRest0_eq]
  unfold Inv
  rw [e]
  iintro ⟨HT, Hr, HS⟩
  ihave ⟨Hf, Hs, Hh⟩ := h $$ HS
  isplitl [Hf]; · iexact Hf
  isplitl [Hr]; · iexact Hr
  isplitl [Hs]; · iexact Hs
  iexact Hh

end Dat
end Region

/-! ## The launch -/

section Launch
variable (m : (ℓ : Loc nD τ sig) → Buf (Elt F) ℓ) (Good : Fin 64 → Vec F S256x2048 .f32 → Prop)

theorem ok_of (pf : pre0.Contents (Elt F)) : ok0 (F := F) pf := trivial

/-- The table at launch. -/
def pfm : pre0.Contents (Elt F) := fun k => V m (0 : Dev nD) (pre0.ref k)
/-- The precondition's fact of a memory. -/
abbrev RowsM : Prop := RowsIn (V m (0 : Dev nD) main_arg0 : C0 F)
def adm : (pcfg0 (F := F)).Adm := ⟨pfm m, ok_of (pfm m)⟩

set_option backward.isDefEq.respectTransparency.types false in
theorem run_main (hT : RowsM m) (ρ : Dev nD → PrngReg)
    (hGood : ∀ c (t : Fin grid0.N) x r, (rdat c (adm m) m Good).Finds (0 : Fin 3) t x → (rdat c (adm m) m Good).Finds (1 : Fin 3) t r → Good (itm t) (outV (t0 (adm m)) (ys c m) (itm t) x r)) :
    θ_run (defs (F := F)) (onTc (τ := τ) main) ⟨m, fun _ => 0, ρ⟩
      (fun r => Pipeline.RDat.FramePost (cfg0 (adm m)) (fun c => rdat c (adm m) m Good) (V m) r ∧ r.2.sem = fun _ => 0) :=
  Pipeline.RDat.θ_run_frameP_dma (pcfgs (F := F)) (fun _ => adm m) 0 launch0 osem defs₀ 𝒱₀ (fun c => rdat c (adm m) m Good)
    osem_facts HB (Finset.Subset.refl _) m ρ main
    (fun c => body_obligation c (adm m) m Good hT (hGood c))
    (fun c w => Pipeline.RDat.share_full _ (fun _ => rfl) w) (fun _ _ => rfl) (V m)
    (Pipeline.hmainP_region pcfgs 0 defs₀ 𝒱₀ m main fun c => (main_chain c).trans rfl)
    (fun _ _ => rfl) (fun c k => by obtain rfl : c = 0 := Subsingleton.elim _ _; rfl)
    (fun c => inv_first c (adm m) m) (fun c => inv_last c (adm m) m)
    _ (fun _ h => h)

/-- Every argument unchanged. -/
def Kept (r : PUnit × MemSt nD τ sig (Elt F)) : Prop :=
  ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)

theorem rest_mem (b : Ref sig .tc) (hb : b ∈ ({main_arg0, main_arg3} : Finset (Ref sig .tc))) : b ∈ Pipeline.restRefs sig spec0 := by
  revert b; decide

theorem kept_of (r : PUnit × MemSt nD τ sig (Elt F)) (h : Pipeline.RDat.FramePost (cfg0 (adm m)) (fun c => rdat c (adm m) m Good) (V m) r) : Kept m r :=
  fun c => ⟨(h c).2 main_arg0 (rest_mem _ (by decide)), Pipeline.RDat.FramePost.arr_in h c (0 : Fin 3) rfl, Pipeline.RDat.FramePost.arr_in h c (1 : Fin 3) rfl, (h c).2 main_arg3 (rest_mem _ (by decide))⟩

/-- The frame: from any memory whose table names rows, every argument is left as it was and every semaphore at zero. -/
theorem frame_of_rows (hT : RowsM m) (ρ : Dev nD → PrngReg) :
    θ_run (defs (F := F)) (onTc (τ := τ) main) ⟨m, fun _ => 0, ρ⟩ (fun r => Kept m r ∧ r.2.sem = fun _ => 0) :=
  (θ_run defs _ _).mono (fun _ h => ⟨kept_of m (fun _ _ => True) _ h.1, h.2⟩)
    (run_main m (fun _ _ => True) hT ρ (fun _ _ _ _ _ _ => trivial))
end Launch
end Cert.Blend.CombineIdeal

end
-- ==== Proof.Blend.lean ====
/-
What the combining call's reference computes, element by element, over the extended reals.
-/
module

public import proofs.«01_k».proof.Proof.Mix
public import proofs.«01_k».proof.Proof.Spec
public import proofs.«01_k».proof.Proof.Tables
public import Idealize.ShloMosaic.Lib.Pointwise
public import Idealize.ShloMosaic.Lib.Routing.Ops

@[expose] public section

noncomputable section

namespace Cert.Blend

open Cert.BlendIdeal Cert.BlendIdeal.Gen
open Idealize.ShloMosaic Idealize.SL.Sem
open Cert.Experts (wLo wHi low_word high_word bit_and word_sge word_slt andi_at cmpi_at toNat_nonneg)

/-- A column of the rows of which a row's numbers are packed, low halves first. -/
def unp (Y : IVec S32768x1024 32) (i : Fin 32768) (k : Fin 2048) : EReal :=
  if h : k.val < 1024 then wLo (Y (ix2 i (⟨k.val, h⟩ : Fin 1024))) else wHi (Y (ix2 i (⟨k.val - 1024, by omega⟩ : Fin 1024)))
/-- The two rows' sum by their weights, over the row it is added to. -/
def blend (x w0 w1 y0 y1 : EReal) : EReal := x + (w0 * y0 + w1 * y1)

variable (T : IVec S32768 32) (X : FVec Ideal S16384x2048 .f32) (R : FVec Ideal S16384x128 .f32) (Y : IVec S32768x1024 32)

/-- All rows, unpacked. -/
def wideY : FVec Ideal S32768x2048 .f32 :=
  concatenate S32768x2048 1 [⟨S32768x1024, (bitcastToFloat (F := Ideal) .f32 (Host.shli Y (broadcastInDim S32768x1024 ![] bcast_S_S32768x1024 (constantI S_ 32 16#32))))⟩, ⟨S32768x1024, (bitcastToFloat (F := Ideal) .f32 (andi Y (broadcastInDim S32768x1024 ![] bcast_S_S32768x1024 (constantI S_ 32 4294901760#32))))⟩] concatenates_S32768x1024_S32768x1024_S32768x2048_d1
/-- The first and the second row of every token, as the program looks them up. -/
def col0 : IVec S16384 32 := shapeCast _ (extractStridedSlice S16384x1 ![0, 0] (shapeCast S16384x2 T shapeCasts_S32768_S16384x2) slices_S16384x2_S16384x1_0_0) shapeCasts_S16384x1_S16384
def col1 : IVec S16384 32 := shapeCast _ (extractStridedSlice S16384x1 ![0, 1] (shapeCast S16384x2 T shapeCasts_S32768_S16384x2) slices_S16384x2_S16384x1_0_1) shapeCasts_S16384x1_S16384
def norm (C : IVec S16384 32) : IVec S16384x1 32 :=
  broadcastInDim S16384x1 ![0] bcast_S16384_S16384x1_0 (select (cmpi .slt C (broadcastInDim S16384 ![] bcast_S_S16384 (constantI S_ 32 0#32))) (addi C (broadcastInDim S16384 ![] bcast_S_S16384 (constantI S_ 32 32768#32))) C)
def part (Z : FVec Ideal S32768x2048 .f32) (W : FVec Ideal S16384x1 .f32) (C : IVec S16384 32) : FVec Ideal S16384x2048 .f32 :=
  mulf (broadcastInDim S16384x2048 ![0, 1] bcast_S16384x1_S16384x2048_0_1 W) (Host.gather gather_S32768x2048_S16384x1_S16384x2048_1_0_n_n_0_1_12048 Z (norm C))
def out : FVec Ideal S16384x2048 .f32 :=
  addf X (addf (part (wideY Y) (extractStridedSlice S16384x1 ![0, 2] R slices_S16384x128_S16384x1_0_2) (col0 T))
    (part (wideY Y) (extractStridedSlice S16384x1 ![0, 3] R slices_S16384x128_S16384x1_0_3) (col1 T)))

theorem wideY_at (i : Fin 32768) (k : Fin 2048) : wideY Y (ix2 i k) = unp Y i k := by
  unfold wideY unp
  split
  · next h =>
    refine (concatenate_pair_apply_left (t := S32768x2048) (s₁ := S32768x1024) (s₂ := S32768x1024) 1 _ _ _ (ix2 i k) rfl (ix2 i (⟨k.val, h⟩ : Fin 1024)) (by intro b; match b with | ⟨0, _⟩ => rfl | ⟨1, _⟩ => rfl)).trans ?_
    exact low_word _
  · next h =>
    refine (concatenate_pair_apply_right (t := S32768x2048) (s₁ := S32768x1024) (s₂ := S32768x1024) 1 _ _ _ (ix2 i k) rfl rfl (ix2 i (⟨k.val - 1024, by omega⟩ : Fin 1024)) (by intro b; match b with | ⟨0, _⟩ => intro _; rfl | ⟨1, _⟩ => intro h; exact absurd rfl h) (show k.val - 1024 + 1024 = k.val by omega)).trans ?_
    exact high_word _
theorem col0_at (p : Fin 16384) : col0 T (ix1 p) = T (ix1 (⟨2 * p.val, by omega⟩ : Fin 32768)) := by
  pointwise! [col0]
theorem col1_at (p : Fin 16384) : col1 T (ix1 p) = T (ix1 (⟨2 * p.val + 1, by omega⟩ : Fin 32768)) := by
  pointwise! [col1]
theorem norm_at (C : IVec S16384 32) (p : Fin 16384) : norm C (ix2 p (0 : Fin 1)) = Scalar.select (IntOp.cmpi .slt (C (ix1 p)) 0#32) (IntOp.addi (C (ix1 p)) 32768#32) (C (ix1 p)) := by
  pointwise! [norm]

/-- The row a place of the table names. -/
def rowAt (p : Fin 32768) : Fin 32768 := ⟨(T (ix1 p)).toNat % 32768, Nat.mod_lt _ (by decide)⟩

theorem gather_at (Z : FVec Ideal S32768x2048 .f32) (C : IVec S16384 32) (p : Fin 16384) (k : Fin 2048) (h : (C (ix1 p)).toNat < 32768) :
    Host.gather gather_S32768x2048_S16384x1_S16384x2048_1_0_n_n_0_1_12048 Z (norm C) (ix2 p k) = Z (ix2 (⟨(C (ix1 p)).toNat % 32768, Nat.mod_lt _ (by decide)⟩ : Fin 32768) k) := by
  refine Routing.gather_row _ rfl rfl rfl rfl rfl Z (norm C) p k _ ?_ (by decide)
  refine (norm_at C p).trans ?_
  generalize C (ix1 p) = b at h ⊢
  have hb : ¬ IntOp.cmpi .slt b 0#32 = 1#1 := by
    rw [word_slt, BitVec.toInt_eq_toNat_of_lt (by omega)]
    simp
  refine (if_neg hb).trans ?_
  apply BitVec.eq_of_toNat_eq
  rw [BitVec.toNat_ofNat]
  show _ = b.toNat % 32768 % 2 ^ 32
  omega

/-- The reference's output at a place, from the two rows the table names there. -/
theorem out_at (hT : ∀ p : Fin 32768, (T (ix1 p)).toNat < 32768) (p : Fin 16384) (k : Fin 2048) :
    out T X R Y (ix2 p k) = blend (X (ix2 p k)) (R (ix2 p (2 : Fin 128))) (R (ix2 p (3 : Fin 128)))
      (unp Y (rowAt T ⟨2 * p.val, by omega⟩) k) (unp Y (rowAt T ⟨2 * p.val + 1, by omega⟩) k) := by
  have h0 := gather_at (wideY Y) (col0 T) p k (by rw [col0_at]; exact hT _)
  have h1 := gather_at (wideY Y) (col1 T) p k (by rw [col1_at]; exact hT _)
  rw [wideY_at] at h0 h1
  simp only [col0_at] at h0
  simp only [col1_at] at h1
  have w0 : broadcastInDim S16384x2048 ![0, 1] bcast_S16384x1_S16384x2048_0_1 (extractStridedSlice S16384x1 ![0, 2] R slices_S16384x128_S16384x1_0_2) (ix2 p k) = R (ix2 p (2 : Fin 128)) := by
    pointwise!
  have w1 : broadcastInDim S16384x2048 ![0, 1] bcast_S16384x1_S16384x2048_0_1 (extractStridedSlice S16384x1 ![0, 3] R slices_S16384x128_S16384x1_0_3) (ix2 p k) = R (ix2 p (3 : Fin 128)) := by
    pointwise!
  exact congrArg (X (ix2 p k) + ·) (congrArg₂ (· + ·) (congrArg₂ (· * ·) w0 h0) (congrArg₂ (· * ·) w1 h1))

/-- The precondition, read: every entry of the table names a row. -/
theorem rows_of {F : FTy → Type} [FloatOps F] (X : FVec F S16384x2048 .f32) (R : FVec F S16384x128 .f32)
    [Cert.Pre_rows_ok.Facts] (h : Cert.Pre_rows_ok.fn T X R Y = fun _ => 1#1) (p : Fin 32768) : (T (ix1 p)).toNat < 32768 := by
  have e := congrFun h (ix1 p)
  unfold Cert.Pre_rows_ok.fn at e
  rw [andi_at, bit_and, cmpi_at, cmpi_at, word_sge, word_slt] at e
  obtain ⟨e0, e1⟩ := e
  obtain ⟨i, -⟩ := toNat_nonneg (show 0 ≤ (T (ix1 p)).toInt from e0)
  have e2 : (T (ix1 p)).toInt < 32768 := e1
  omega

end Cert.Blend
end
-- ==== Proof.CombineIdealValues.lean ====
/-
What the combining call leaves in its output, over the extended reals.
-/
module

public import proofs.«01_k».proof.Proof.CombineIdealRegion
public import proofs.«01_k».proof.Proof.Blend
public import proofs.«01_k».proof.Proof.Writes
public import Idealize.ShloMosaic.Lib.Pipeline.Value

@[expose] public section

noncomputable section

namespace Cert.Blend.CombineIdeal

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Experts (wLo wHi)
open Cert.Experts (flush_open arr_flush arr_keep write_at write_off)

/-! ## The pieces -/

/-- A column of a row of packed words. -/
def unw (y : Fin 1024 → BitVec 32) (k : Fin 2048) : EReal :=
  if h : k.val < 1024 then wLo (y ⟨k.val, h⟩) else wHi (y ⟨k.val - 1024, by omega⟩)

theorem lane_at (r : Vec Ideal S256x128 .f32) (p : Fin 256) (l : Fin 128) (b : BitVec 32) (hb : b = BitVec.ofNat 32 l.val) :
    ∑ q : Fin 128, Scalar.select (IntOp.cmpi .eq (BitVec.ofNat 32 q.val) b) (r (ix2 p q)) 0 = r (ix2 p l) := by
  subst hb
  refine (Finset.sum_eq_single l (fun q _ hq => ?_) fun h => absurd (Finset.mem_univ _) h).trans ?_
  · refine if_neg fun h => hq (Fin.ext ?_)
    have e := congrArg BitVec.toNat ((Cert.Experts.word_eq _ _).1 h)
    rw [BitVec.toNat_ofNat, BitVec.toNat_ofNat] at e
    omega
  · exact if_pos ((Cert.Experts.word_eq _ _).2 rfl)
theorem w0_at (r : Vec Ideal S256x128 .f32) (p : Fin 256) : k0_pay2 r (ix2 p (0 : Fin 1)) = r (ix2 p (2 : Fin 128)) := by
  pointwise! [k0_pay2]
  exact lane_at r p 2 _ rfl
theorem w1_at (r : Vec Ideal S256x128 .f32) (p : Fin 256) : k0_pay3 r (ix2 p (0 : Fin 1)) = r (ix2 p (3 : Fin 128)) := by
  pointwise! [k0_pay3]
  exact lane_at r p 3 _ rfl

/-- The two unpacked halves of a slot's plane, side by side. -/
def two (y : Vec Ideal S1x1x256x1024 .i32) : FVec Ideal S256x2048 .f32 :=
  concatenate S256x2048 1 [⟨S256x1024, unpackElementwise (F := Ideal) 0 (shapeCast S256x1024 y shapeCasts_S1x1x256x1024_S256x1024)⟩, ⟨S256x1024, unpackElementwise (F := Ideal) 1 (shapeCast S256x1024 y shapeCasts_S1x1x256x1024_S256x1024)⟩] concatenates_S256x1024_S256x1024_S256x2048_d1
theorem lo_at (y : Vec Ideal S1x1x256x1024 .i32) (p : Fin 256) (k : Fin 1024) :
    (unpackElementwise 0 (shapeCast S256x1024 y shapeCasts_S1x1x256x1024_S256x1024) : FVec Ideal S256x1024 .f32) (ix2 p k) = wLo (y (ix4 (0 : Fin 1) (0 : Fin 1) p k)) := by
  pointwise!
theorem hi_at (y : Vec Ideal S1x1x256x1024 .i32) (p : Fin 256) (k : Fin 1024) :
    (unpackElementwise 1 (shapeCast S256x1024 y shapeCasts_S1x1x256x1024_S256x1024) : FVec Ideal S256x1024 .f32) (ix2 p k) = wHi (y (ix4 (0 : Fin 1) (0 : Fin 1) p k)) := by
  pointwise!
theorem two_at (y : Vec Ideal S1x1x256x1024 .i32) (p : Fin 256) (k : Fin 2048) : two y (ix2 p k) = unw (fun q => y (ix4 (0 : Fin 1) (0 : Fin 1) p q)) k := by
  unfold two unw
  split
  · next h =>
    refine (concatenate_pair_apply_left (t := S256x2048) (s₁ := S256x1024) (s₂ := S256x1024) 1 _ _ _ (ix2 p k) rfl (ix2 p (⟨k.val, h⟩ : Fin 1024)) (by intro b; match b with | ⟨0, _⟩ => rfl | ⟨1, _⟩ => rfl)).trans ?_
    exact lo_at y p _
  · next h =>
    refine (concatenate_pair_apply_right (t := S256x2048) (s₁ := S256x1024) (s₂ := S256x1024) 1 _ _ _ (ix2 p k) rfl rfl (ix2 p (⟨k.val - 1024, by omega⟩ : Fin 1024)) (by intro b; match b with | ⟨0, _⟩ => intro _; rfl | ⟨1, _⟩ => intro h; exact absurd rfl h) (show k.val - 1024 + 1024 = k.val by omega)).trans ?_
    exact hi_at y p _

theorem pay1_at (w0 w1 : FVec Ideal S256x1 .f32) (y0 y1 : Vec Ideal S1x1x256x1024 .i32) (x : Vec Ideal S256x2048 .f32) (p : Fin 256) (k : Fin 2048) :
    k0_pay1 w0 w1 y0 y1 x (ix2 p k) = blend (x (ix2 p k)) (w0 (ix2 p (0 : Fin 1))) (w1 (ix2 p (0 : Fin 1)))
      (unw (fun q => y0 (ix4 (0 : Fin 1) (0 : Fin 1) p q)) k) (unw (fun q => y1 (ix4 (0 : Fin 1) (0 : Fin 1) p q)) k) := by
  have b0 : ∀ w : FVec Ideal S256x1 .f32, broadcastTo S256x2048 w broadcasts_S256x1_S256x2048 (ix2 p k) = w (ix2 p (0 : Fin 1)) := by
    intro w
    pointwise!
  exact congrArg (x (ix2 p k) + ·) (congrArg₂ (· + ·) (congrArg₂ (· * ·) (b0 w0) (two_at y0 p k)) (congrArg₂ (· * ·) (b0 w1) (two_at y1 p k)))

/-! ## The reference's output, and a step's block of it -/

abbrev Mem := (ℓ : Loc nD τ sig) → Buf (Elt Ideal) ℓ

section
variable (c : Dev nD) (m : Mem)

/-- The reference's output of a memory. -/
def spec : FVec Ideal Cert.BlendIdeal.S16384x2048 .f32 :=
  out (m ((c : Thread nD τ).loc main_arg0)) (m ((c : Thread nD τ).loc main_arg1)) (m ((c : Thread nD τ).loc main_arg2)) (m ((c : Thread nD τ).loc main_arg3))
/-- The row of the whole array of a row of a step. -/
abbrev rowN (n : Fin 64) (p : Fin 256) : Fin 16384 := ⟨n.val * 256 + p.val, by omega⟩
/-- A step's block of the reference's output. -/
def Good (n : Fin 64) (X : Vec Ideal S256x2048 .f32) : Prop := ∀ p k, X (ix2 p k) = spec c m (ix2 (rowN n p) k)

variable (hT : RowsM m)
abbrev rd := rdat c (adm m) m (Good c m)

theorem block_at (n : Fin 64) (a : Fin 2) : (![(BitVec.ofNat 32 n.val).toNat, (0#32).toNat] : Fin 2 → ℕ) a = (![n.val, 0] : Fin 2 → ℕ) a := by
  match a with
  | ⟨0, _⟩ => show n.val % 2 ^ 32 = n.val; omega
  | ⟨1, _⟩ => rfl
theorem index_0 (t : Fin grid0.N) (a : Fin 2) : ((cfg0 (adm m)).win 0).index t a = (![(itm t).val, 0] : Fin 2 → ℕ) a :=
  block_at (itm t) a
theorem index_1 (t : Fin grid0.N) (a : Fin 2) : ((cfg0 (adm m)).win 1).index t a = (![(itm t).val, 0] : Fin 2 → ℕ) a :=
  block_at (itm t) a
theorem index_2 (t : Fin grid0.N) (a : Fin 2) : ((cfg0 (adm m)).win 2).index t a = (![(itm t).val, 0] : Fin 2 → ℕ) a :=
  block_at (itm t) a

theorem finds_x (t : Fin grid0.N) (x : Vec Ideal S256x2048 .f32) (hx : (rd c m).Finds (0 : Fin 3) t x) (p : Fin 256) (k : Fin 2048) :
    x (ix2 p k) = (m ((c : Thread nD τ).loc main_arg1) : FVec Ideal S16384x2048 .f32) (ix2 (rowN (itm t) p) k) := by
  obtain ⟨d, rfl⟩ := Pipeline.RDat.finds_in_eq_fetched (rd c m) (0 : Fin 3) rfl (fun _ _ _ => rfl) (fun _ _ _ h => h) t x hx
  show (m ((c : Thread nD τ).loc main_arg1) : FVec Ideal S16384x2048 .f32) ((((cfg0 (adm m)).win 0).rect t).emb (ix2 p k)) = _
  refine congrArg _ ?_
  funext a
  refine Fin.ext ?_
  refine (Pipeline.Window.rect_emb_val ((cfg0 (adm m)).win 0) t (ix2 p k) a rfl).trans ?_
  refine (congrArg (fun n : ℕ => n * _ + _) (index_0 m t a)).trans ?_
  match a with
  | ⟨0, _⟩ => rfl
  | ⟨1, _⟩ => show 0 * 2048 + k.val = k.val; omega
theorem finds_r (t : Fin grid0.N) (r : Vec Ideal S256x128 .f32) (hr : (rd c m).Finds (1 : Fin 3) t r) (p : Fin 256) (k : Fin 128) :
    r (ix2 p k) = (m ((c : Thread nD τ).loc main_arg2) : FVec Ideal S16384x128 .f32) (ix2 (rowN (itm t) p) k) := by
  obtain ⟨d, rfl⟩ := Pipeline.RDat.finds_in_eq_fetched (rd c m) (1 : Fin 3) rfl (fun _ _ _ => rfl) (fun _ _ _ h => h) t r hr
  show (m ((c : Thread nD τ).loc main_arg2) : FVec Ideal S16384x128 .f32) ((((cfg0 (adm m)).win 1).rect t).emb (ix2 p k)) = _
  refine congrArg _ ?_
  funext a
  refine Fin.ext ?_
  refine (Pipeline.Window.rect_emb_val ((cfg0 (adm m)).win 1) t (ix2 p k) a rfl).trans ?_
  refine (congrArg (fun n : ℕ => n * _ + _) (index_1 m t a)).trans ?_
  match a with
  | ⟨0, _⟩ => rfl
  | ⟨1, _⟩ => show 0 * 128 + k.val = k.val; omega

include hT in
theorem good_step (t : Fin grid0.N) (x : Vec Ideal S256x2048 .f32) (r : Vec Ideal S256x128 .f32)
    (hx : (rd c m).Finds (0 : Fin 3) t x) (hr : (rd c m).Finds (1 : Fin 3) t r) :
    Good c m (itm t) (outV (t0 (adm m)) (ys c m) (itm t) x r) := by
  obtain rfl : c = 0 := Subsingleton.elim _ _
  intro p k
  refine (pay1_at _ _ _ _ _ p k).trans ?_
  rw [w0_at, w1_at, finds_x 0 m t x hx, finds_r 0 m t r hr, finds_r 0 m t r hr]
  exact (out_at _ _ _ _ hT (rowN (itm t) p) k).symm

/-! ## The output's blocks -/

theorem emb_out (t : Fin grid0.N) (j : S256x2048.Idx) :
    ((((cfg0 (adm m)).win 2).blk t).view.emb j : S16384x2048.Idx) = ix2 (rowN (itm t) (j 0)) (j 1) := by
  show (((cfg0 (adm m)).win 2).rect t).emb j = _
  funext a
  refine Fin.ext ?_
  refine (Pipeline.Window.rect_emb_val ((cfg0 (adm m)).win 2) t j a rfl).trans ?_
  refine (congrArg (fun n : ℕ => n * _ + _) (index_2 m t a)).trans ?_
  match a with
  | ⟨0, _⟩ => rfl
  | ⟨1, _⟩ => show 0 * 2048 + (j 1).val = (j 1).val; omega

theorem flush_all (t : Fin grid0.N) : ((cfg0 (adm m)).win 2).flush t = true := by
  refine (flush_open ((cfg0 (adm m)).win 2) rfl t).2 ?_
  by_cases h : t.val + 1 < grid0.N
  · right
    refine ⟨h, fun e => ?_⟩
    have e0 := congrFun e (0 : Fin 2)
    rw [index_2, index_2] at e0
    have e1 : (itm ⟨t.val + 1, h⟩).val = (itm t).val := e0
    rw [itm_val, itm_val] at e1
    simp at e1
  · left
    have h' : t.val < grid0.N := t.isLt
    show t.val + 1 = grid0.N
    omega

theorem leaves_good (t : Fin grid0.N) (X : Vec Ideal S256x2048 .f32) (hX : (rd c m).Leaves (2 : Fin 3) t X) : Good c m (itm t) X := by
  obtain ⟨Y, hY, h⟩ := hX
  exact h

/-- The blocks written so far are the reference's. -/
theorem arr_done (n : ℕ) (hn : n ≤ 64) (G : FVec Ideal S16384x2048 .f32) (hG : (rd c m).ArrAt (2 : Fin 3) n G) (u : Fin 64) (hu : u.val < n) (p : Fin 256) (k : Fin 2048) :
    G (ix2 (rowN u p) k) = spec c m (ix2 (rowN u p) k) := by
  induction n generalizing G with
  | zero => omega
  | succ n ih =>
    have hN : n < (cfg0 (F := Ideal) (adm m)).N := by
      show n < grid0.N
      rw [N_0]; omega
    obtain ⟨G₀, X, hG₀, hX, rfl⟩ := arr_flush (rd c m) 2 n hN (flush_all m _) G hG
    have good := leaves_good c m _ X hX
    have hi : (itm ⟨n, hN⟩).val = n := itm_val _
    by_cases hun : u.val = n
    · have eu : u = itm ⟨n, hN⟩ := Fin.ext (hun.trans hi.symm)
      rw [eu, ← good p k]
      exact write_at (((cfg0 (adm m)).win 2).blk ⟨n, hN⟩).view G₀ (((cfg0 (adm m)).win 2).cut (grid0.coords ⟨n, hN⟩) X) (ix2 p k) _ (emb_out m ⟨n, hN⟩ (ix2 p k))
    · refine Eq.trans ?_ (ih (by omega) G₀ hG₀ (by omega))
      refine write_off (((cfg0 (adm m)).win 2).blk ⟨n, hN⟩).view G₀ (((cfg0 (adm m)).win 2).cut (grid0.coords ⟨n, hN⟩) X) _ fun y hy => ?_
      have e := congrArg (fun i : S16384x2048.Idx => (i 0).val) ((emb_out m ⟨n, hN⟩ y).symm.trans hy)
      change (itm ⟨n, hN⟩).val * 256 + ((show S256x2048.Idx from y) 0).val = u.val * 256 + p.val at e
      have h1 : ((show S256x2048.Idx from y) 0).val < 256 := ((show S256x2048.Idx from y) 0).isLt
      rw [hi] at e
      omega

theorem arr_final (G : FVec Ideal S16384x2048 .f32) (hG : (rd c m).ArrAt (2 : Fin 3) (cfg0 (F := Ideal) (adm m)).N G) : G = spec c m := by
  funext i
  have hi : (i 0).val < 16384 := (i 0).isLt
  have hN : (cfg0 (F := Ideal) (adm m)).N = 64 := N_0
  rw [hN] at hG
  have h := arr_done c m 64 (le_refl _) G hG ⟨(i 0).val / 256, by omega⟩ (by show (i 0).val / 256 < 64; omega) ⟨(i 0).val % 256, Nat.mod_lt _ (by decide)⟩ (i 1)
  have ei : (ix2 (rowN ⟨(i 0).val / 256, by omega⟩ ⟨(i 0).val % 256, Nat.mod_lt _ (by decide)⟩) (i 1) : S16384x2048.Idx) = i := by
    funext a
    match a with
    | ⟨0, _⟩ => exact Fin.ext (show (i 0).val / 256 * 256 + (i 0).val % 256 = (i 0).val by omega)
    | ⟨1, _⟩ => rfl
  rw [ei] at h
  exact h

include hT in
/-- The region ends with the reference's output in place and every argument as it was. -/
theorem run_value (ρ : Dev nD → PrngReg) :
    θ_run (defs (F := Ideal)) (onTc (τ := τ) main) ⟨m, fun _ => 0, ρ⟩
      (fun r => (∀ c : Dev nD, r.2.mem ((c.tc : Thread nD τ).loc main_v0) = spec c m) ∧ Kept m r) :=
  (θ_run defs _ _).mono (fun r h => ⟨fun c => by
      obtain rfl : c = 0 := Subsingleton.elim _ _
      exact arr_final 0 m _ ((h.1 0).1 (2 : Fin 3)), kept_of m _ r h.1⟩)
    (run_main m (Good 0 m) hT ρ (fun c t x r hx hr => by
      obtain rfl : c = 0 := Subsingleton.elim _ _
      exact good_step 0 m hT t x r hx hr))

end
end Cert.Blend.CombineIdeal
end
-- ==== Proof.BlendClaims.lean ====
/-
The combining call's claims: the frames, and its values against the reference's.
-/
module

public import proofs.«01_k».proof.Defs
public import proofs.«01_k».proof.Proof.Mix
public import proofs.«01_k».proof.Proof.CombineIdealValues

@[expose] public section

set_option maxRecDepth 100000

noncomputable section

namespace Cert.Blend

open Idealize.ShloMosaic Idealize.SL.Sem

theorem body_same (i : Cert.Combine.grid0.Coords) : @Cert.Combine.cc0_combine Bits _ _ i = @Cert.CombineIdeal.cc0_combine Bits _ _ i := rfl
theorem defs₀_same : Cert.Combine.defs₀ (F := Bits) = Cert.CombineIdeal.defs₀ (F := Bits) := by
  unfold Cert.Combine.defs₀ Cert.CombineIdeal.defs₀
  refine congrArg Defs.onTc ?_
  funext l a
  match l, a with
  | ⟨0, _⟩, (t, s) => rfl
theorem defs_same : Cert.Combine.defs (F := Bits) = Cert.CombineIdeal.defs (F := Bits) := by
  unfold Cert.Combine.defs Cert.CombineIdeal.defs
  exact congrArg (Pipeline.defs _) defs₀_same

theorem frame_of_rows (m : (ℓ : Loc Cert.CombineIdeal.nD Cert.CombineIdeal.τ Cert.CombineIdeal.sig) → Buf (Elt Bits) ℓ) (h : CombineIdeal.RowsM m) (ρ : Dev Cert.CombineIdeal.nD → PrngReg) :
    θ_run (Cert.Combine.defs (F := Bits)) (onTc (τ := Cert.Combine.τ) (Cert.Combine.main (F := Bits))) ⟨m, fun _ => 0, ρ⟩ (fun r => CombineIdeal.Kept m r ∧ r.2.sem = fun _ => 0) := by
  rw [defs_same]
  exact CombineIdeal.frame_of_rows m h ρ

theorem rowsM_bits (m : (ℓ : Loc Cert.Combine.nD Cert.Combine.τ Cert.Combine.sig) → Buf (Elt Bits) ℓ) (h : Cert.Pre_Combine m) : CombineIdeal.RowsM (F := Bits) m :=
  rows_of _ _ _ _ (h 0)
theorem rowsM_ideal (m : (ℓ : Loc Cert.CombineIdeal.nD Cert.CombineIdeal.τ Cert.CombineIdeal.sig) → Buf (Elt Ideal) ℓ) (h : Cert.Pre_CombineIdeal m) : CombineIdeal.RowsM m :=
  rows_of _ _ _ _ (h 0)

theorem frame_combine : Cert.quiescent_Combine := fun m g h => frame_of_rows m (rowsM_bits m h) g
theorem frame_ideal : Cert.quiescent_CombineIdeal := fun m g h => CombineIdeal.frame_of_rows m (rowsM_ideal m h) g
theorem frame_blend : Cert.quiescent_BlendIdeal := fun m g _ =>
  (θ_run Cert.BlendIdeal.defs _ _).mono (fun r h => ⟨fun c => (h c).2, sem_eq_zero_of_no_sems (by decide) r.2⟩)
    (Cert.BlendIdeal.Value.run (F := Ideal) m g)
theorem frame_blend_pre : Cert.quiescent_BlendIdeal_pre_rows_ok := fun m g _ =>
  (θ_run Cert.BlendIdeal.defs _ _).mono (fun r h => ⟨fun c => (h c).2, sem_eq_zero_of_no_sems (by decide) r.2⟩)
    (Cert.BlendIdeal.Value.run (F := Ideal) m g)

theorem algebraic : Cert.algebraic_CombineIdeal_BlendIdeal := by
  intro m g m' g' hpre hagree
  refine ⟨fun c => CombineIdeal.spec c m, ?_, ?_⟩
  · exact (θ_run Cert.CombineIdeal.defs _ _).mono (fun r h c => ⟨h.1 c, h.2 c⟩) (CombineIdeal.run_value m (rowsM_ideal m hpre) g)
  · refine (θ_run Cert.BlendIdeal.defs _ _).mono (fun r h c => ⟨(h c).1.trans ?_, (h c).2⟩) (Cert.BlendIdeal.Value.run (F := Ideal) m' g')
    obtain ⟨h0, h1, h2, h3⟩ := hagree c
    show out (m' ((c.tc : Thread Cert.BlendIdeal.nD Cert.BlendIdeal.τ).loc Cert.BlendIdeal.main_arg0)) (m' ((c.tc : Thread Cert.BlendIdeal.nD Cert.BlendIdeal.τ).loc Cert.BlendIdeal.main_arg1)) (m' ((c.tc : Thread Cert.BlendIdeal.nD Cert.BlendIdeal.τ).loc Cert.BlendIdeal.main_arg2)) (m' ((c.tc : Thread Cert.BlendIdeal.nD Cert.BlendIdeal.τ).loc Cert.BlendIdeal.main_arg3)) = CombineIdeal.spec c m
    rw [h0, h1, h2, h3]
    rfl

end Cert.Blend
end
-- ==== Proof.SecondBody.lean ====
/-
The second layer's experts call, in the pieces of the first layer's: the layer's place enters the copies alone.
-/
module

public import proofs.«01_k».proof.Proof.PlainIdealWords
public import proofs.«01_k».proof.Proof.Gen.SecondIdeal
public import proofs.«01_k».proof.Proof.Gen.SecondIdeal.Skeleton

@[expose] public section

noncomputable section

namespace Cert.Experts.Second

open Cert.PlainIdeal Cert.PlainIdeal.Gen Cert.Experts.PlainIdeal
open Idealize.ShloMosaic Idealize.SL.Sem

variable {F : FTy → Type} [FloatOps F]

/-- The words of a point and the check of its flag word. -/
def headP (i : grid0.Coords) : PG (F := F) (Σ' (v1 : Elt F .i32) (v3 : Elt F .i32) (v5 : Elt F .i32), SecondIdeal.k0_chk1 i v5) := do
  let v1 : Elt F .i32 ← smemLoad (Memref.whole main_arg2) (Rect.unit (s := S95) (k0_off1 i) S1.size (k0_off1_inb i)) numel1_S1 rfl
  let v3 : Elt F .i32 ← smemLoad (Memref.whole main_arg3) (Rect.unit (s := S95) (k0_off1 i) S1.size (k0_off1_inb i)) numel1_S1 rfl
  let v5 : Elt F .i32 ← smemLoad (Memref.whole main_arg4) (Rect.unit (s := S95) (k0_off1 i) S1.size (k0_off1_inb i)) numel1_S1 rfl
  have k0_hw1 : SecondIdeal.k0_chk1 i v5 := (← Prog.lift (TpuEff.assume (SecondIdeal.k0_chk1 i v5) (SecondIdeal.k0_chk1.dec i v5))).down
  pure ⟨v1, v3, v5, k0_hw1⟩

/-- The first point's copies. -/
def firstP (i : grid0.Coords) (v5 : Elt F .i32) (k0_hw1 : SecondIdeal.k0_chk1 i v5) : PG (F := F) PUnit := do
  if k0_h1 : k0_cond1 i = 1#1 then do
    let v78 : Elt F .i32 ← smemLoad (Memref.whole main_arg1) (Rect.unit (s := S95) ![0] S1.size inb_S95_S1_0) numel1_S1 rfl
    have k0_hw2 : SecondIdeal.k0_chk2 i v78 := (← Prog.lift (TpuEff.assume (SecondIdeal.k0_chk2 i v78) (SecondIdeal.k0_chk2.dec i v78))).down
    issueP (k0_off2 v5) (k0_off5 v5) (k0_off3 v5) (k0_off6 v5) (k0_off7 v5) (SecondIdeal.k0_off4 v78) (SecondIdeal.k0_off8 v78) (SecondIdeal.k0_off2_inb i v5 k0_hw1 k0_h1) (SecondIdeal.k0_off5_inb i v5 k0_hw1 k0_h1)
      (SecondIdeal.k0_off3_inb i v5 k0_hw1 k0_h1) (SecondIdeal.k0_off6_inb i v5 k0_hw1 k0_h1) (SecondIdeal.k0_off7_inb i v5 k0_hw1 k0_h1) (SecondIdeal.k0_off4_inb i v78 k0_hw2 k0_h1) (SecondIdeal.k0_off8_inb i v78 k0_hw2 k0_h1)
  else do
    pure ⟨⟩

/-- A new expert's point: its copies waited for and cast, the next expert's copies started. -/
def newP (i : grid0.Coords) (v5 : Elt F .i32) (k0_hw1 : SecondIdeal.k0_chk1 i v5) : PG (F := F) PUnit := do
  if k0_h2 : k0_cond2 v5 = 1#1 then do
    let v79 : Elt F .i32 ← smemLoad (Memref.whole main_arg1) (Rect.unit (s := S95) (k0_off9 i) S1.size (k0_off9_inb i)) numel1_S1 rfl
    have k0_hw3 : SecondIdeal.k0_chk3 v5 v79 := (← Prog.lift (TpuEff.assume (SecondIdeal.k0_chk3 v5 v79) (SecondIdeal.k0_chk3.dec v5 v79))).down
    waitP (k0_off10 v5) (k0_off13 v5) (k0_off11 v5) (k0_off14 v5) (k0_off15 v5) (SecondIdeal.k0_off12 v79) (SecondIdeal.k0_off16 v79) (SecondIdeal.k0_off10_inb i v5 k0_hw1 k0_h2) (SecondIdeal.k0_off13_inb i v5 k0_hw1 k0_h2)
      (SecondIdeal.k0_off11_inb i v5 k0_hw1 k0_h2) (SecondIdeal.k0_off14_inb i v5 k0_hw1 k0_h2) (SecondIdeal.k0_off15_inb i v5 k0_hw1 k0_h2) (SecondIdeal.k0_off12_inb v5 v79 k0_hw3 k0_h2) (SecondIdeal.k0_off16_inb v5 v79 k0_hw3 k0_h2)
    castP (k0_off17 v5) (k0_off18 v5) (SecondIdeal.k0_off17_inb i v5 k0_hw1 k0_h2) (SecondIdeal.k0_off18_inb i v5 k0_hw1 k0_h2)
    if k0_h3 : k0_cond3 v5 = 1#1 then do
      issueP (k0_off19 v5) (k0_off19 v5) (k0_off20 v5) (k0_off20 v5) (k0_off22 v5) (SecondIdeal.k0_off21 v5) (SecondIdeal.k0_off23 v5) (SecondIdeal.k0_off19_inb i v5 k0_hw1 k0_h2 k0_h3) (SecondIdeal.k0_off19_inb i v5 k0_hw1 k0_h2 k0_h3)
        (SecondIdeal.k0_off20_inb i v5 k0_hw1 k0_h2 k0_h3) (SecondIdeal.k0_off20_inb i v5 k0_hw1 k0_h2 k0_h3) (SecondIdeal.k0_off22_inb i v5 k0_hw1 k0_h2 k0_h3) (SecondIdeal.k0_off21_inb i v5 k0_hw1 k0_h2 k0_h3) (SecondIdeal.k0_off23_inb i v5 k0_hw1 k0_h2 k0_h3)
    else do
      pure ⟨⟩
  else do
    pure ⟨⟩

def firstK (i : grid0.Coords) (v5 : Elt F .i32) (k0_hw1 : SecondIdeal.k0_chk1 i v5) (k : PG (F := F) PUnit) : PG (F := F) PUnit :=
  ditK (k0_cond1 i = 1#1) (fun k0_h1 => do
    let v78 : Elt F .i32 ← smemLoad (Memref.whole main_arg1) (Rect.unit (s := S95) ![0] S1.size inb_S95_S1_0) numel1_S1 rfl
    have k0_hw2 : SecondIdeal.k0_chk2 i v78 := (← Prog.lift (TpuEff.assume (SecondIdeal.k0_chk2 i v78) (SecondIdeal.k0_chk2.dec i v78))).down
    issueP (k0_off2 v5) (k0_off5 v5) (k0_off3 v5) (k0_off6 v5) (k0_off7 v5) (SecondIdeal.k0_off4 v78) (SecondIdeal.k0_off8 v78) (SecondIdeal.k0_off2_inb i v5 k0_hw1 k0_h1) (SecondIdeal.k0_off5_inb i v5 k0_hw1 k0_h1)
      (SecondIdeal.k0_off3_inb i v5 k0_hw1 k0_h1) (SecondIdeal.k0_off6_inb i v5 k0_hw1 k0_h1) (SecondIdeal.k0_off7_inb i v5 k0_hw1 k0_h1) (SecondIdeal.k0_off4_inb i v78 k0_hw2 k0_h1) (SecondIdeal.k0_off8_inb i v78 k0_hw2 k0_h1)) k

def newK (i : grid0.Coords) (v5 : Elt F .i32) (k0_hw1 : SecondIdeal.k0_chk1 i v5) (k : PG (F := F) PUnit) : PG (F := F) PUnit :=
  if k0_h2 : k0_cond2 v5 = 1#1 then do
    let v79 : Elt F .i32 ← smemLoad (Memref.whole main_arg1) (Rect.unit (s := S95) (k0_off9 i) S1.size (k0_off9_inb i)) numel1_S1 rfl
    have k0_hw3 : SecondIdeal.k0_chk3 v5 v79 := (← Prog.lift (TpuEff.assume (SecondIdeal.k0_chk3 v5 v79) (SecondIdeal.k0_chk3.dec v5 v79))).down
    waitP (k0_off10 v5) (k0_off13 v5) (k0_off11 v5) (k0_off14 v5) (k0_off15 v5) (SecondIdeal.k0_off12 v79) (SecondIdeal.k0_off16 v79) (SecondIdeal.k0_off10_inb i v5 k0_hw1 k0_h2) (SecondIdeal.k0_off13_inb i v5 k0_hw1 k0_h2)
      (SecondIdeal.k0_off11_inb i v5 k0_hw1 k0_h2) (SecondIdeal.k0_off14_inb i v5 k0_hw1 k0_h2) (SecondIdeal.k0_off15_inb i v5 k0_hw1 k0_h2) (SecondIdeal.k0_off12_inb v5 v79 k0_hw3 k0_h2) (SecondIdeal.k0_off16_inb v5 v79 k0_hw3 k0_h2)
    castP (k0_off17 v5) (k0_off18 v5) (SecondIdeal.k0_off17_inb i v5 k0_hw1 k0_h2) (SecondIdeal.k0_off18_inb i v5 k0_hw1 k0_h2)
    ditK (k0_cond3 v5 = 1#1) (fun k0_h3 =>
      issueP (k0_off19 v5) (k0_off19 v5) (k0_off20 v5) (k0_off20 v5) (k0_off22 v5) (SecondIdeal.k0_off21 v5) (SecondIdeal.k0_off23 v5) (SecondIdeal.k0_off19_inb i v5 k0_hw1 k0_h2 k0_h3) (SecondIdeal.k0_off19_inb i v5 k0_hw1 k0_h2 k0_h3)
        (SecondIdeal.k0_off20_inb i v5 k0_hw1 k0_h2 k0_h3) (SecondIdeal.k0_off20_inb i v5 k0_hw1 k0_h2 k0_h3) (SecondIdeal.k0_off22_inb i v5 k0_hw1 k0_h2 k0_h3) (SecondIdeal.k0_off21_inb i v5 k0_hw1 k0_h2 k0_h3) (SecondIdeal.k0_off23_inb i v5 k0_hw1 k0_h2 k0_h3)) k
  else k

/-- The body, in those pieces, as printed. -/
def bodyQ (i : grid0.Coords) (X : Memref sig .tc .vmem S512x1024 .i32) (hX : X.IsWhole) (O : Memref sig .tc .vmem S512x2048 .bf16) (hO : O.IsWhole) :
    PG (F := F) PUnit := do
  let ⟨v1, v3, v5, k0_hw1⟩ ← headP i
  firstK i v5 k0_hw1 <| newK i v5 k0_hw1 <| do
  let v52 : Elt F .i32 ← smemLoad (Memref.whole main_arg0) (Rect.unit (s := S95) (k0_off24 i) S1.size (k0_off24_inb i)) numel1_S1 rfl
  fullK i X v1 v3 v52 (firstW v5) <| lowK i X v1 v3 v52 (firstW v5) <| upK i X v1 v3 v52 (firstW v5) <| ditK (k0_cond13 v5 = 1#1) (fun _ => outP O hO) (pure ⟨⟩)

/-- The body, in those pieces, one after another. -/
def bodyP (i : grid0.Coords) (X : Memref sig .tc .vmem S512x1024 .i32) (hX : X.IsWhole) (O : Memref sig .tc .vmem S512x2048 .bf16) (hO : O.IsWhole) :
    PG (F := F) PUnit := do
  let ⟨v1, v3, v5, k0_hw1⟩ ← headP i
  firstP i v5 k0_hw1
  newP i v5 k0_hw1
  accP i X v1 v3 v5
  lastP O hO v5

set_option maxRecDepth 65536 in
theorem body_eq₀ (i : grid0.Coords) (X : Memref sig .tc .vmem S512x1024 .i32) (hX : X.IsWhole) (O : Memref sig .tc .vmem S512x2048 .bf16) (hO : O.IsWhole) :
    SecondIdeal.cc0_experts (F := F) i (Memref.whole main_arg0) (Memref.isWhole_whole _) (Memref.whole main_arg1) (Memref.isWhole_whole _) (Memref.whole main_arg2) (Memref.isWhole_whole _)
      (Memref.whole main_arg3) (Memref.isWhole_whole _) (Memref.whole main_arg4) (Memref.isWhole_whole _) X hX (Memref.whole main_arg6) (Memref.isWhole_whole _)
      (Memref.whole main_arg7) (Memref.isWhole_whole _) (Memref.whole main_arg8) (Memref.isWhole_whole _) O hO (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _) cc0_scratch7
    = (bodyQ i X hX O hO >>= fun _ => pure ⟨⟩) := rfl

theorem firstK_eq (i : grid0.Coords) (v5 : Elt F .i32) (h : SecondIdeal.k0_chk1 i v5) (k : PG (F := F) PUnit) : firstK i v5 h k = (firstP i v5 h >>= fun _ => k) := by
  unfold firstK firstP; rw [ditK_eq]

theorem newK_eq (i : grid0.Coords) (v5 : Elt F .i32) (h : SecondIdeal.k0_chk1 i v5) (k : PG (F := F) PUnit) : newK i v5 h k = (newP i v5 h >>= fun _ => k) := by
  unfold newK; split
  · rename_i h2; unfold newP; rw [dif_pos h2]; simp only [bind_assoc, ditK_eq]
  · rename_i h2; unfold newP; rw [dif_neg h2]; rfl

theorem bodyQ_eq (i : grid0.Coords) (X : Memref sig .tc .vmem S512x1024 .i32) (hX : X.IsWhole) (O : Memref sig .tc .vmem S512x2048 .bf16) (hO : O.IsWhole) :
    bodyQ (F := F) i X hX O hO = bodyP i X hX O hO := by
  unfold bodyQ bodyP accP lastP
  simp only [firstK_eq, newK_eq, fullK_eq, lowK_eq, upK_eq, ditK_eq, bind_assoc]

theorem body_eq (i : grid0.Coords) (X : Memref sig .tc .vmem S512x1024 .i32) (hX : X.IsWhole) (O : Memref sig .tc .vmem S512x2048 .bf16) (hO : O.IsWhole) :
    SecondIdeal.cc0_experts (F := F) i (Memref.whole main_arg0) (Memref.isWhole_whole _) (Memref.whole main_arg1) (Memref.isWhole_whole _) (Memref.whole main_arg2) (Memref.isWhole_whole _)
      (Memref.whole main_arg3) (Memref.isWhole_whole _) (Memref.whole main_arg4) (Memref.isWhole_whole _) X hX (Memref.whole main_arg6) (Memref.isWhole_whole _)
      (Memref.whole main_arg7) (Memref.isWhole_whole _) (Memref.whole main_arg8) (Memref.isWhole_whole _) O hO (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _) cc0_scratch7
    = bodyP i X hX O hO := by
  rw [body_eq₀, bodyQ_eq]; exact bind_pure _

theorem next_off (v : BitVec 32) (h : v.toNat < 528) : 16 ≤ v.toNat → SecondIdeal.k0_off21 v = ![1, v.toNat / 16 - 1, 0, 0] ∧ SecondIdeal.k0_off23 v = ![1, v.toNat / 16 - 1, 0, 0] := by
  have key : ∀ n : Fin 528, (fun v : BitVec 32 => 16 ≤ v.toNat → SecondIdeal.k0_off21 v = ![1, v.toNat / 16 - 1, 0, 0] ∧ SecondIdeal.k0_off23 v = ![1, v.toNat / 16 - 1, 0, 0]) (BitVec.ofNat 32 n.val) := by decide +kernel
  have e := key ⟨v.toNat, h⟩
  rwa [BitVec.ofNat_toNat, BitVec.setWidth_eq] at e

theorem exp_off (v : BitVec 32) : SecondIdeal.k0_off4 v = ![1, v.toNat, 0, 0] ∧ SecondIdeal.k0_off8 v = ![1, v.toNat, 0, 0] ∧ SecondIdeal.k0_off12 v = ![1, v.toNat, 0, 0] ∧ SecondIdeal.k0_off16 v = ![1, v.toNat, 0, 0] := ⟨rfl, rfl, rfl, rfl⟩

theorem chk2_of (i : grid0.Coords) (v : BitVec 32) (h : v.toNat < 32) : SecondIdeal.k0_chk2 i v :=
  ⟨fun _ => eOff_inb 1 ⟨v.toNat, h⟩, fun _ => eOff_inb' 1 ⟨v.toNat, h⟩⟩

theorem chk3_of (f v : BitVec 32) (h : v.toNat < 32) : SecondIdeal.k0_chk3 f v :=
  ⟨fun _ => eOff_inb 1 ⟨v.toNat, h⟩, fun _ => eOff_inb' 1 ⟨v.toNat, h⟩⟩

theorem chk1_of (i : grid0.Coords) (v : BitVec 32) (h : v.toNat < 528) : SecondIdeal.k0_chk1 i v := by
  have n32 : 16 ≤ v.toNat → v.toNat / 16 - 1 < 32 := fun _ => by omega
  have i21 : k0_cond3 v = 1#1 → ∀ a, (SecondIdeal.k0_off21 v) a + S1x1x2048x256.size a ≤ S2x32x2048x256.size a := fun c => by
    have c' := (cond3_iff v h).1 c
    rw [(next_off v h c').1]; exact eOff_inb 1 ⟨_, n32 c'⟩
  have i23 : k0_cond3 v = 1#1 → ∀ a, (SecondIdeal.k0_off23 v) a + S1x1x256x2048.size a ≤ S2x32x256x2048.size a := fun c => by
    have c' := (cond3_iff v h).1 c
    rw [(next_off v h c').2]; exact eOff_inb' 1 ⟨_, n32 c'⟩
  obtain ⟨p1, p2, p3, p4, p5, p6, p7, p8, p9, p10, p11, p12, p13, p14, -, p16, -⟩ := Experts.PlainIdeal.chk1_of i v h
  exact ⟨p1, p2, p3, p4, p5, p6, p7, p8, p9, p10, p11, p12, p13, p14, fun _ c => i21 c, p16, fun _ c => i23 c⟩

end Cert.Experts.Second
end
-- ==== Proof.SecondPoint.lean ====
/-
One whole point of the grid, run, in the second layer.
-/
module

public import proofs.«01_k».proof.Proof.SecondBody
public import proofs.«01_k».proof.Proof.PlainIdealPoint

@[expose] public section

noncomputable section

namespace Cert.Experts.Second

open Cert.PlainIdeal Cert.PlainIdeal.Gen Cert.Experts.PlainIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)] {D : Defs nD τ sig (Elt F) Λ₀}

local notation "𝕄" => MT nD τ sig Unit (Elt F) ℕ (UR sig nD τ × Counters) ℕ

section Pieces
variable (c : Dev nD)

/-- A new expert's point. -/
theorem new_run (s : Fin 2) (e : Fin 32) (w : Wts F) (hL : w.L = 1) (W : Waits sig Unit) (f1 f2 f3) (q) (T : (main_arg1 : Ref sig .tc).ty.Contents (Elt F)) (i : grid0.Coords) (v5 : BitVec 32)
    (hw1 : SecondIdeal.k0_chk1 i v5) (hv : v5.toNat < 528) (hn : ¬ v5 &&& 4#32 = 0#32) (hs : slotOf v5 = other s) (he : ((T (ix1 (i 0)) : BitVec 32)).toNat = e.val) :
    iprop(tab c main_arg1 q T ∗ slotIdle c s ∗ ahead c (other s) (some e) w ∗ cur c f1 f2 f3 ∗ owes (c : Thread nD τ) 0 W)
      ⊢ wp frame (wpE D 𝒱₀ (c : Thread nD τ) none) Set.univ (newP i v5 hw1)
        (fun _ => iprop(tab c main_arg1 q T ∗ slotIdle c (slotOf v5) ∗ ahead c (other (slotOf v5)) (nxOf v5) w
          ∗ cur c (k0_pay1 (w.gVec e)) (k0_pay3 (k0_pay2 (w.uVec e))) (k0_pay4 (w.dVec e)) ∗ ∃ W', owes (c : Thread nD τ) 0 W')) := by
  obtain ⟨a2, a5, a10, a13, a19⟩ := slot_off1 v5 hv
  obtain ⟨a3, a6, a7, a11, a14, a15, a17, a18⟩ := slot_off3 v5 hv
  obtain ⟨a20, a22⟩ := other_off3 v5 hv
  have hexp : ∀ x : BitVec 32, x.toNat = e.val → SecondIdeal.k0_off12 x = eOff w.L e ∧ SecondIdeal.k0_off16 x = eOff w.L e := by
    intro x hx
    obtain ⟨-, -, b12, b16⟩ := exp_off x
    rw [b12, b16, hx, hL]; exact ⟨rfl, rfl⟩
  obtain ⟨b12, b16⟩ := hexp _ he
  rw [← hs]
  unfold newP
  rw [dif_pos ((cond2_iff v5 hv).2 hn), wp_bind]
  rw [ahead_some]
  iintro ⟨HT, HI, HA, HC, HO⟩
  icases HA with ⟨HF, HR⟩
  iapply (word1 c q T (i 0) _ (point_off i).2.1 (k0_off9_inb i) _)
  isplitl [HT]; · iexact HT
  iintro HT
  iapply (wp_assume _ _ _ _ (chk3_of v5 _ (by rw [he]; exact e.isLt)))
  iapply ret_run
  iapply bind_run
  iapply (wp_wand_r Idealize.ShloMosaic.frame (wpE D 𝒱₀ (c : Thread nD τ) none) Set.univ)
  isplitl [HF HO]
  · iapply (wait_any c (slotOf v5) e w W _ _ _ _ _ _ _ a10 a13 a11 a14 a15 b12 b16)
    isplitl [HF]; · iexact HF
    iexact HO
  iintro %_ ⟨⟨%o, HS⟩, HE, HM, HO⟩
  iapply bind_run
  iapply (wp_wand_r Idealize.ShloMosaic.frame (wpE D 𝒱₀ (c : Thread nD τ) none) Set.univ)
  isplitl [HS HC]
  · iapply (cast_any c (slotOf v5) e w o f1 f2 f3 _ _ a17 a18)
    isplitl [HS]; · iexact HS
    iexact HC
  iintro %_ ⟨HS, HC⟩
  ihave HW := hbm_join c e w $$ [HE HR]
  · isplitl [HE]; · iexact HE
    iexact HR
  by_cases h16 : 16 ≤ v5.toNat
  · rw [dif_pos ((cond3_iff v5 hv).2 h16)]
    have hx : nxOf v5 = some ⟨v5.toNat / 16 - 1, by omega⟩ := by unfold nxOf; rw [dif_pos ⟨h16, hv⟩]
    rw [hx]
    iapply (wp_wand_r Idealize.ShloMosaic.frame (wpE D 𝒱₀ (c : Thread nD τ) none) Set.univ)
    isplitl [HI HW]
    · iapply (issue_any c (other (slotOf v5)) ⟨v5.toNat / 16 - 1, by omega⟩ w _ _ _ _ _ _ _ a19 a19 a20 a20 a22 (by rw [hL]; exact (next_off v5 hv h16).1) (by rw [hL]; exact (next_off v5 hv h16).2))
      rw [ahead_none, hs, other_other]
      isplitl [HI]; · iexact HI
      iexact HW
    iintro %_ HA
    isplitl [HT]; · iexact HT
    isplitl [HS HM]
    · unfold slotIdle
      isplitl [HS]; · iexact HS
      iexact HM
    isplitl [HA]; · iexact HA
    isplitl [HC]; · iexact HC
    iexact HO
  · rw [dif_neg (fun h => h16 ((cond3_iff v5 hv).1 h))]
    have hx : nxOf v5 = none := by unfold nxOf; rw [dif_neg (fun h => h16 h.1)]
    rw [hx]
    sl_step
    isplitl [HT]; · iexact HT
    isplitl [HS HM]
    · unfold slotIdle
      isplitl [HS]; · iexact HS
      iexact HM
    isplitl [HI HW]
    · unfold ahead
      rw [hs, other_other]
      isplitl [HI]; · iexact HI
      iexact HW
    isplitl [HC]; · iexact HC
    iexact HO

/-- A point of the same expert. -/
theorem same_run (P : sProp 𝕄) (i : grid0.Coords) (v5 : BitVec 32) (hw1 : SecondIdeal.k0_chk1 i v5) (hv : v5.toNat < 528) (hn : v5 &&& 4#32 = 0#32) :
    P ⊢ wp frame (wpE D 𝒱₀ (c : Thread nD τ) none) Set.univ (newP i v5 hw1) (fun _ => P) := by
  unfold newP
  rw [dif_neg (fun h => (cond2_iff v5 hv).1 h hn)]
  iintro H
  sl_step
  iexact H

/-- The first point's copies started; no other point starts any here. -/
theorem first_run (e : Fin 32) (w : Wts F) (hL : w.L = 1) (q) (T : (main_arg1 : Ref sig .tc).ty.Contents (Elt F)) (i : grid0.Coords) (v5 : BitVec 32) (hi : (i 0).val = 0)
    (hw1 : SecondIdeal.k0_chk1 i v5) (hv : v5.toNat < 528) (he : ((T (ix1 (i 0)) : BitVec 32)).toNat = e.val) :
    iprop(tab c main_arg1 q T ∗ ahead c (slotOf v5) none w)
      ⊢ wp frame (wpE D 𝒱₀ (c : Thread nD τ) none) Set.univ (firstP i v5 hw1) (fun _ => iprop(tab c main_arg1 q T ∗ ahead c (slotOf v5) (some e) w)) := by
  obtain ⟨a2, a5, a10, a13, a19⟩ := slot_off1 v5 hv
  obtain ⟨a3, a6, a7, a11, a14, a15, a17, a18⟩ := slot_off3 v5 hv
  have hexp : ∀ x : BitVec 32, x.toNat = e.val → SecondIdeal.k0_off4 x = eOff w.L e ∧ SecondIdeal.k0_off8 x = eOff w.L e := by
    intro x hx
    obtain ⟨b4, b8, -, -⟩ := exp_off x
    rw [b4, b8, hx, hL]; exact ⟨rfl, rfl⟩
  obtain ⟨b4, b8⟩ := hexp _ he
  unfold firstP
  rw [dif_pos ((cond1_iff i).2 hi), wp_bind]
  iintro ⟨HT, HA⟩
  iapply (word1 c q T (i 0) _ (by rw [hi]) inb_S95_S1_0 _)
  isplitl [HT]; · iexact HT
  iintro HT
  iapply (wp_assume _ _ _ _ (chk2_of i _ (by rw [he]; exact e.isLt)))
  iapply ret_run
  iapply (wp_wand_r Idealize.ShloMosaic.frame (wpE D 𝒱₀ (c : Thread nD τ) none) Set.univ)
  isplitl [HA]
  · iapply (issue_any c (slotOf v5) e w _ _ _ _ _ _ _ a2 a5 a3 a6 a7 b4 b8)
    iexact HA
  iintro %_ HA
  isplitl [HT]; · iexact HT
  iexact HA

theorem later_run (P : sProp 𝕄) (i : grid0.Coords) (v5 : BitVec 32) (hw1 : SecondIdeal.k0_chk1 i v5) (hi : ¬ (i 0).val = 0) :
    P ⊢ wp frame (wpE D 𝒱₀ (c : Thread nD τ) none) Set.univ (firstP i v5 hw1) (fun _ => P) := by
  unfold firstP
  rw [dif_neg (fun h => hi ((cond1_iff i).1 h))]
  iintro H
  sl_step
  iexact H

/-- A point, its two copying pieces given as what they turn the copies' state into. -/
theorem point_run (q : PosShare TreeShare) (T0 : (main_arg0 : Ref sig .tc).ty.Contents (Elt F)) (T1 : (main_arg1 : Ref sig .tc).ty.Contents (Elt F)) (T2 : (main_arg2 : Ref sig .tc).ty.Contents (Elt F))
    (T3 : (main_arg3 : Ref sig .tc).ty.Contents (Elt F)) (T4 : (main_arg4 : Ref sig .tc).ty.Contents (Elt F)) (i : grid0.Coords)
    (hv : (T4 (ix1 (i 0) : S95.Idx) : BitVec 32).toNat < 528)
    (P1 P2 P3 : sProp 𝕄) (g u : Vec F S2048x256 .bf16) (d : Vec F S256x2048 .bf16) (a : Acc F)
    (X : Memref sig .tc .vmem S512x1024 .i32) (hX : X.IsWhole) (x : Vec F S512x1024 .i32) (O : Memref sig .tc .vmem S512x2048 .bf16) (hO : O.IsWhole) (y : Vec F S512x2048 .bf16)
    (h1 : ∀ hw, iprop(tab c main_arg1 q T1 ∗ P1) ⊢ wp frame (wpE D 𝒱₀ (c : Thread nD τ) none) Set.univ (firstP i (T4 (ix1 (i 0) : S95.Idx)) hw) (fun _ => iprop(tab c main_arg1 q T1 ∗ P2)))
    (h2 : ∀ hw, iprop(tab c main_arg1 q T1 ∗ P2) ⊢ wp frame (wpE D 𝒱₀ (c : Thread nD τ) none) Set.univ (newP i (T4 (ix1 (i 0) : S95.Idx)) hw) (fun _ => iprop(tab c main_arg1 q T1 ∗ P3 ∗ cur c g u d))) :
    iprop(tabs c q T0 T1 T2 T3 T4 ∗ P1 ∗ held c cc0_scratch0 a ∗ (X.view.loc (c : Thread nD τ) ↦[X.view.set]{fullShare} X.view.rep x) ∗ (O.view.loc (c : Thread nD τ) ↦[O.view.set]{fullShare} O.view.rep y))
      ⊢ wp frame (wpE D 𝒱₀ (c : Thread nD τ) none) Set.univ (bodyP i X hX O hO)
        (fun _ => iprop(tabs c q T0 T1 T2 T3 T4 ∗ (P3 ∗ cur c g u d)
          ∗ held c cc0_scratch0 (accU (firstW (T4 (ix1 (i 0) : S95.Idx))) (T2 (ix1 (i 0) : S95.Idx)) (T3 (ix1 (i 0) : S95.Idx)) (T0 (ix1 (i 0) : S95.Idx)) x g u d a)
          ∗ (X.view.loc (c : Thread nD τ) ↦[X.view.set]{fullShare} X.view.rep x)
          ∗ (O.view.loc (c : Thread nD τ) ↦[O.view.set]{fullShare} O.view.rep (outV (T4 (ix1 (i 0) : S95.Idx)) (accU (firstW (T4 (ix1 (i 0) : S95.Idx))) (T2 (ix1 (i 0) : S95.Idx)) (T3 (ix1 (i 0) : S95.Idx)) (T0 (ix1 (i 0) : S95.Idx)) x g u d a) y)))) := by
  unfold bodyP tabs
  iintro ⟨⟨HT0, HT1, HT2, HT3, HT4⟩, HP, Ha, HX, HO⟩
  iapply bind_run
  unfold headP
  iapply bind_run
  iapply (word2 c q T2 (i 0) _ (point_off i).1 (k0_off1_inb i) _)
  isplitl [HT2]; · iexact HT2
  iintro HT2
  iapply bind_run
  iapply (word3 c q T3 (i 0) _ (point_off i).1 (k0_off1_inb i) _)
  isplitl [HT3]; · iexact HT3
  iintro HT3
  iapply bind_run
  iapply (word4 c q T4 (i 0) _ (point_off i).1 (k0_off1_inb i) _)
  isplitl [HT4]; · iexact HT4
  iintro HT4
  iapply (wp_assume _ _ _ _ (chk1_of i _ hv))
  iapply ret_run
  iapply pure_run
  dsimp only
  iapply bind_run
  iapply (wp_wand_r Idealize.ShloMosaic.frame (wpE D 𝒱₀ (c : Thread nD τ) none) Set.univ)
  isplitl [HT1 HP]
  · iapply (h1 _)
    isplitl [HT1]; · iexact HT1
    iexact HP
  iintro %_ HP
  iapply bind_run
  iapply (wp_wand_r Idealize.ShloMosaic.frame (wpE D 𝒱₀ (c : Thread nD τ) none) Set.univ)
  isplitl [HP]
  · iapply (h2 _)
    iexact HP
  iintro %_ ⟨HT1, HP, HC⟩
  iapply bind_run
  unfold cur
  icases HC with ⟨Hg, Hu, Hd⟩
  iapply (wp_wand_r Idealize.ShloMosaic.frame (wpE D 𝒱₀ (c : Thread nD τ) none) Set.univ)
  isplitl [HT0 Hg Hu Hd Ha HX]
  · iapply (acc_run c q T0 X x g u d a i _ _ _)
    unfold accRes
    isplitl [HT0]; · iexact HT0
    isplitl [HX]; · iexact HX
    isplitl [Hg]; · iexact Hg
    isplitl [Hu]; · iexact Hu
    isplitl [Hd]; · iexact Hd
    iexact Ha
  unfold accRes
  iintro %_ ⟨HT0, HX, Hg, Hu, Hd, Ha⟩
  iapply (wp_wand_r Idealize.ShloMosaic.frame (wpE D 𝒱₀ (c : Thread nD τ) none) Set.univ)
  isplitl [Ha HO]
  · iapply (last_run c O hO _ hv)
    isplitl [Ha]; · iexact Ha
    iexact HO
  iintro %_ ⟨Ha, HO⟩
  isplitl [HT0 HT1 HT2 HT3 HT4]
  · isplitl [HT0]; · iexact HT0
    isplitl [HT1]; · iexact HT1
    isplitl [HT2]; · iexact HT2
    isplitl [HT3]; · iexact HT3
    iexact HT4
  isplitl [HP Hg Hu Hd]
  · isplitl [HP]; · iexact HP
    isplitl [Hg]; · iexact Hg
    isplitl [Hu]; · iexact Hu
    iexact Hd
  isplitl [Ha]; · iexact Ha
  isplitl [HX]; · iexact HX
  iexact HO

end Pieces

end Cert.Experts.Second
end
-- ==== Proof.SecondRegion.lean ====
/-
The second layer's region: what holds between its points, every point, and the launch.
-/
module

public import proofs.«01_k».proof.Proof.SecondPoint
public import proofs.«01_k».proof.Proof.PlainIdealRegion

@[expose] public section

noncomputable section

namespace Cert.Experts.Second

open Cert.PlainIdeal Cert.PlainIdeal.Gen Cert.Experts.PlainIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ × Counters) ℕ

/-- The bodies of the second layer's call. -/
def defs₀ : Defs nD τ sig (Elt F) Λ₀ := Defs.onTc fun
  | 0, (t, s) => SecondIdeal.cc0_experts (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (spec0_0.stage (s 0)) (hstage0_0 ((s 0).cast nbuf0_0)) (Memref.whole main_arg6) (Memref.isWhole_whole _) (Memref.whole main_arg7) (Memref.isWhole_whole _) (Memref.whole main_arg8) (Memref.isWhole_whole _) (spec0_1.stage (s 1)) (hstage0_1 ((s 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7
  | ⟨_ + 1, h⟩, _ => absurd h (Nat.not_lt.2 (Nat.le_add_left _ _))
/-- The pipeline over them. -/
def defs : Defs nD τ sig (Elt F) (Pipeline.Sig Λ₀ (Fin 1) fun p => (pcfgs (F := F) p).Adm) := Pipeline.defs pcfgs defs₀

section Region
variable (c : Dev nD)

/-- What a point's two copying pieces do, with the table of experts held. -/
def Moves (q : PosShare TreeShare) (T1 : C1 F) (v : BitVec 32) (i : grid0.Coords) (P1 P3 : sProp 𝕄) (g u : Vec F S2048x256 .bf16) (d : Vec F S256x2048 .bf16) : Prop :=
  ∃ P2 : sProp 𝕄,
    (∀ hw, iprop(tab c main_arg1 q T1 ∗ P1) ⊢ wp frame (wpE (defs₀ (F := F)) 𝒱₀ (c : Thread nD τ) none) Set.univ (firstP i v hw) (fun _ => iprop(tab c main_arg1 q T1 ∗ P2)))
    ∧ (∀ hw, iprop(tab c main_arg1 q T1 ∗ P2) ⊢ wp frame (wpE (defs₀ (F := F)) 𝒱₀ (c : Thread nD τ) none) Set.univ (newP i v hw) (fun _ => iprop(tab c main_arg1 q T1 ∗ P3 ∗ cur c g u d)))

theorem moves_zero {T0 : C0 F} {T1 : C1 F} {T2 : C2 F} {T3 : C3 F} {T4 : C4 F} (hT : TablesAt T0 T1 T2 T3 T4) (q : PosShare TreeShare) (w : Wts F) (hL : w.L = 1) (W : Waits sig Unit) (i : grid0.Coords) (hi : i 0 = (0 : Fin 95))
    (g1 u1 : Vec F S2048x256 .bf16) (d1 : Vec F S256x2048 .bf16) :
    Moves c q T1 (fl T4 0) i iprop((slotIdle c (other (slotOf (fl T4 0))) ∗ ahead c (slotOf (fl T4 0)) none w ∗ cur c g1 u1 d1) ∗ owes (c : Thread nD τ) 0 W) (restO c w (fl T4 0))
      (k0_pay1 (w.gVec (ex T1 0))) (k0_pay3 (k0_pay2 (w.uVec (ex T1 0)))) (k0_pay4 (w.dVec (ex T1 0))) := by
  have hv : (fl T4 0).toNat < 528 := (hT.item 0).f_lt
  have hi0 : (i 0).val = 0 := congrArg (fun x : Fin 95 => x.val) hi
  have he : ((T1 (ix1 (i 0)) : BitVec 32)).toNat = (ex T1 0).val := by rw [hi]; exact ex_val hT 0
  refine ⟨iprop(slotIdle c (other (slotOf (fl T4 0))) ∗ ahead c (slotOf (fl T4 0)) (some (ex T1 0)) w ∗ cur c g1 u1 d1 ∗ owes (c : Thread nD τ) 0 W), ?_, ?_⟩
  · intro hw
    refine BIBase.Entails.trans ?_ ((BI.sep_mono (first_run c (ex T1 0) w hL q T1 i (fl T4 0) hi0 hw hv he)
      (BIBase.Entails.rfl (P := iprop(slotIdle c (other (slotOf (fl T4 0))) ∗ cur c g1 u1 d1 ∗ owes (c : Thread nD τ) 0 W)))).trans ((wp_frame_r _ _ _).trans (wp_mono _ _ _ fun _ => ?_)))
    · show _ ⊢ iprop((tab c main_arg1 q T1 ∗ ahead c (slotOf (fl T4 0)) none w) ∗ slotIdle c (other (slotOf (fl T4 0))) ∗ cur c g1 u1 d1 ∗ owes (c : Thread nD τ) 0 W)
      iintro ⟨HT, ⟨Hs, Ha, Hc⟩, Ho⟩
      isplitl [HT Ha]
      · isplitl [HT]; · iexact HT
        iexact Ha
      isplitl [Hs]; · iexact Hs
      isplitl [Hc]; · iexact Hc
      iexact Ho
    · iintro ⟨⟨HT, Ha⟩, Hs, Hc, Ho⟩
      isplitl [HT]; · iexact HT
      isplitl [Hs]; · iexact Hs
      isplitl [Ha]; · iexact Ha
      isplitl [Hc]; · iexact Hc
      iexact Ho
  · intro hw
    have h := new_run (D := defs₀ (F := F)) c (other (slotOf (fl T4 0))) (ex T1 0) w hL W g1 u1 d1 q T1 i (fl T4 0) hw hv hT.start.1 (other_other _).symm he
    rw [other_other] at h
    refine h.trans (wp_mono _ _ _ fun _ => ?_)
    unfold restO rest
    iintro ⟨HT, Hs, Ha, Hc, Ho⟩
    isplitl [HT]; · iexact HT
    isplitr [Hc]
    · isplitl [Hs Ha]
      · isplitl [Hs]; · iexact Hs
        iexact Ha
      iexact Ho
    iexact Hc

theorem moves_succ {T0 : C0 F} {T1 : C1 F} {T2 : C2 F} {T3 : C3 F} {T4 : C4 F} (hT : TablesAt T0 T1 T2 T3 T4) (q : PosShare TreeShare) (w : Wts F) (hL : w.L = 1) (W : Waits sig Unit) (i : grid0.Coords) (n : Fin 94) (hi : i 0 = (n.succ : Fin 95)) :
    Moves c q T1 (fl T4 n.succ) i iprop((rest c w (fl T4 n.castSucc) ∗ curE c w (ex T1 n.castSucc)) ∗ owes (c : Thread nD τ) 0 W) (restO c w (fl T4 n.succ))
      (k0_pay1 (w.gVec (ex T1 n.succ))) (k0_pay3 (k0_pay2 (w.uVec (ex T1 n.succ)))) (k0_pay4 (w.dVec (ex T1 n.succ))) := by
  have hv : (fl T4 n.castSucc).toNat < 528 := (hT.item _).f_lt
  have hv' : (fl T4 n.succ).toNat < 528 := (hT.item _).f_lt
  have hi0 : ¬ (i 0).val = 0 := fun h => Nat.succ_ne_zero n.val ((congrArg (fun x : Fin 95 => x.val) hi).symm.trans h)
  have he : ((T1 (ix1 (i 0)) : BitVec 32)).toNat = (ex T1 n.succ).val := by rw [hi]; exact ex_val hT _
  have hst := hT.step n
  refine ⟨_, fun hw => later_run c _ i (fl T4 n.succ) hw hi0, fun hw => ?_⟩
  by_cases hn : fl T4 n.succ &&& 4#32 = 0#32
  · obtain ⟨e1, e2, e3⟩ := hst.same hn
    have hs := slot_keep hv hv' e2
    have hx := nx_keep hv hv' e3
    have hee : ex T1 n.succ = ex T1 n.castSucc := Fin.ext ((ex_val hT _).symm.trans (e1.trans (ex_val hT _)))
    refine (same_run c _ i (fl T4 n.succ) hw hv' hn).trans (wp_mono _ _ _ fun _ => ?_)
    unfold restO rest curE
    rw [hs, hx, hee]
    iintro ⟨HT, ⟨Hr, Hc⟩, Ho⟩
    isplitl [HT]; · iexact HT
    isplitr [Hc]
    · isplitl [Hr]; · iexact Hr
      iexists W; iexact Ho
    iexact Hc
  · obtain ⟨e1, e2⟩ := hst.new hn
    have hs := slot_flip hv hv' e2
    have hx : nxOf (fl T4 n.castSucc) = some (ex T1 n.succ) := nx_new hv (e1.trans (congrArg (· + 1) (ex_val hT n.succ)))
    have h := new_run (D := defs₀ (F := F)) c (slotOf (fl T4 n.castSucc)) (ex T1 n.succ) w hL W (k0_pay1 (w.gVec (ex T1 n.castSucc))) (k0_pay3 (k0_pay2 (w.uVec (ex T1 n.castSucc)))) (k0_pay4 (w.dVec (ex T1 n.castSucc))) q T1 i (fl T4 n.succ) hw hv' hn hs he
    refine BIBase.Entails.trans ?_ (h.trans (wp_mono _ _ _ fun _ => ?_))
    · unfold rest curE
      rw [hx]
      iintro ⟨HT, ⟨⟨Hs, Ha⟩, Hc⟩, Ho⟩
      isplitl [HT]; · iexact HT
      isplitl [Hs]; · iexact Hs
      isplitl [Ha]; · iexact Ha
      isplitl [Hc]; · iexact Hc
      iexact Ho
    · unfold restO rest
      iintro ⟨HT, Hs, Ha, Hc, Ho⟩
      isplitl [HT]; · iexact HT
      isplitr [Hc]
      · isplitl [Hs Ha]
        · isplitl [Hs]; · iexact Hs
          iexact Ha
        iexact Ho
      iexact Hc

section Dat
variable (a : (pcfg0 (F := F)).Adm) (m : (ℓ : Loc nD τ sig) → Buf (Elt F) ℓ)

/-- The weights in memory. -/
def wts : Wts F := ⟨1, m ((c : Thread nD τ).loc main_arg6), m ((c : Thread nD τ).loc main_arg7), m ((c : Thread nD τ).loc main_arg8)⟩

/-- One point's effect on the accumulator. -/
def accNext (n : Fin 95) (x : Vec F S512x1024 .i32) (y : Acc F) : Acc F :=
  accU (firstW (fl (t4 a) n)) (t2 a (ix1 n : S95.Idx)) (t3 a (ix1 n : S95.Idx)) (t0 a (ix1 n : S95.Idx)) x
    (k0_pay1 ((wts c m).gVec (ex (t1 a) n))) (k0_pay3 (k0_pay2 ((wts c m).uVec (ex (t1 a) n)))) (k0_pay4 ((wts c m).dVec (ex (t1 a) n))) y

variable (AccOk : ℕ → Acc F → Prop) (Good : Fin 95 → Vec F S512x2048 .bf16 → Prop)

/-- What holds between points. -/
def Inv (n : ℕ) : sProp 𝕄 :=
  iprop(tabs c fullShare.right (t0 a) (t1 a) (t2 a) (t3 a) (t4 a) ∗ (∃ r, prngReg c r) ∗ copies c (wts c m) (t1 a) (t4 a) n ∗ ∃ y, ⌜AccOk n y⌝ ∗ held c cc0_scratch0 y)

def rdat : Pipeline.RDat τ (Elt F) Unit ℕ (UR sig nD τ × Counters) ℕ (cfg0 a) c where
  A w := m ((c : Thread nD τ).loc (Pipeline.arrRef spec0 w))
  after := aft a Good
  Φ t := Inv c a m AccOk t.val
  q _ := fullShare
  owed _ := 0

theorem defs₀_row (t : Fin (cfg0 a).N) : (defs₀ (F := F)) .tc (cfg0 a).body ((cfg0 a).bodyArgs t ((cfg0 a).slots t))
    = bodyP (grid0.coords t) (stX a t) (stX_whole a t) (stO a t) (stO_whole a t) := by
  refine Eq.trans ?_ (body_eq (grid0.coords t) (stX a t) (stX_whole a t) (stO a t) (stO_whole a t))
  unfold defs₀
  rw [Defs.onTc_tc]

theorem inv_open (hT : TablesAt (t0 a) (t1 a) (t2 a) (t3 a) (t4 a)) (t : Fin grid0.N) (W : Waits sig Unit) :
    iprop(copies c (wts c m) (t1 a) (t4 a) t.val ∗ owes (c : Thread nD τ) 0 W)
      ⊢ (iprop(∃ P1 : sProp 𝕄, ⌜Moves c fullShare.right (t1 a) (fl (t4 a) (itm t)) (grid0.coords t) P1 (restO c (wts c m) (fl (t4 a) (itm t)))
          (k0_pay1 ((wts c m).gVec (ex (t1 a) (itm t)))) (k0_pay3 (k0_pay2 ((wts c m).uVec (ex (t1 a) (itm t))))) (k0_pay4 ((wts c m).dVec (ex (t1 a) (itm t))))⌝ ∗ P1) : sProp 𝕄) := by
  have hv := itm_val t
  obtain ⟨n, hn⟩ := t
  have hN : n < 95 := by rw [N_0] at hn; exact hn
  cases n with
  | zero =>
    have hi : itm ⟨0, hn⟩ = (0 : Fin 95) := Fin.ext hv
    unfold copies rest0
    iintro ⟨⟨Hs, Ha, %g, %u, %d, Hc⟩, Ho⟩
    iexists (iprop((slotIdle c (other (slotOf (fl (t4 a) 0))) ∗ ahead c (slotOf (fl (t4 a) 0)) none (wts c m) ∗ cur c g u d) ∗ owes (c : Thread nD τ) 0 W) : sProp 𝕄)
    isplitr
    · ipureintro
      rw [hi]
      exact moves_zero c hT _ _ rfl W _ hi g u d
    isplitr [Ho]
    · isplitl [Hs]; · iexact Hs
      isplitl [Ha]; · iexact Ha
      iexact Hc
    iexact Ho
  | succ n =>
    have hi : itm ⟨n + 1, hn⟩ = ((⟨n, by omega⟩ : Fin 94).succ : Fin 95) := Fin.ext hv
    have hc : Fin.ofNat 95 n = ((⟨n, by omega⟩ : Fin 94).castSucc : Fin 95) := Fin.ext (Nat.mod_eq_of_lt (by omega))
    have e : copies c (wts c m) (t1 a) (t4 a) (n + 1) = iprop(rest c (wts c m) (fl (t4 a) (⟨n, by omega⟩ : Fin 94).castSucc) ∗ curE c (wts c m) (ex (t1 a) (⟨n, by omega⟩ : Fin 94).castSucc)) := by
      show iprop(rest c (wts c m) (fl (t4 a) (Fin.ofNat 95 n)) ∗ curE c (wts c m) (ex (t1 a) (Fin.ofNat 95 n))) = _
      rw [hc]
    show iprop(copies c (wts c m) (t1 a) (t4 a) (n + 1) ∗ _) ⊢ _
    rw [e]
    iintro H
    iexists (iprop((rest c (wts c m) (fl (t4 a) (⟨n, by omega⟩ : Fin 94).castSucc) ∗ curE c (wts c m) (ex (t1 a) (⟨n, by omega⟩ : Fin 94).castSucc)) ∗ owes (c : Thread nD τ) 0 W) : sProp 𝕄)
    isplitr
    · ipureintro
      rw [hi]
      exact moves_succ c hT _ _ rfl W _ _ hi
    iexact H

theorem copies_succ (t : Fin grid0.N) : copies c (wts c m) (t1 a) (t4 a) (t.val + 1) = iprop(rest c (wts c m) (fl (t4 a) (itm t)) ∗ curE c (wts c m) (ex (t1 a) (itm t))) := by
  have hc : Fin.ofNat 95 t.val = itm t := Fin.ext ((Nat.mod_eq_of_lt (t.isLt.trans_eq N_0)).trans (itm_val t).symm)
  show iprop(rest c (wts c m) (fl (t4 a) (Fin.ofNat 95 t.val)) ∗ curE c (wts c m) (ex (t1 a) (Fin.ofNat 95 t.val))) = _
  rw [hc]

theorem point_ok (hT : TablesAt (t0 a) (t1 a) (t2 a) (t3 a) (t4 a)) (t : Fin grid0.N) (x : Vec F S512x1024 .i32) (o : Vec F S512x2048 .bf16)
    (hAcc : ∀ y, AccOk t.val y → AccOk (t.val + 1) (accNext c a m (itm t) x y))
    (hGood : ∀ y, AccOk (t.val + 1) y → ¬ fl (t4 a) (itm t) &&& 2#32 = 0#32 → Good (itm t) (k0_pay16 y)) :
    iprop(Inv c a m AccOk t.val ∗ (∃ W, owes (c : Thread nD τ) 0 W) ∗ ((stX a t).view.loc (c : Thread nD τ) ↦[(stX a t).view.set]{fullShare} (stX a t).view.rep x)
        ∗ ((stO a t).view.loc (c : Thread nD τ) ↦[(stO a t).view.set]{fullShare} (stO a t).view.rep o))
      ⊢ wp frame (wpE (defs₀ (F := F)) 𝒱₀ (c : Thread nD τ) none) Set.univ (bodyP (grid0.coords t) (stX a t) (stX_whole a t) (stO a t) (stO_whole a t))
        (fun _ => iprop(Inv c a m AccOk (t.val + 1) ∗ (∃ W, owes (c : Thread nD τ) 0 W) ∗ ((stX a t).view.loc (c : Thread nD τ) ↦[(stX a t).view.set]{fullShare} (stX a t).view.rep x)
          ∗ ∃ o', ⌜aft a Good 1 t o o'⌝ ∗ ((stO a t).view.loc (c : Thread nD τ) ↦[(stO a t).view.set]{fullShare} (stO a t).view.rep o'))) := by
  unfold Inv
  rw [copies_succ]
  iintro ⟨⟨HT, Hr, Hc, %y, %hy, Ha⟩, ⟨%W, Ho⟩, HX, HO⟩
  ihave ⟨%P1, %hM, HP⟩ := inv_open c a m hT t W $$ [Hc Ho]
  · isplitl [Hc]; · iexact Hc
    iexact Ho
  obtain ⟨P2, h1, h2⟩ := hM
  have hp := point_run (D := defs₀ (F := F)) c fullShare.right (t0 a) (t1 a) (t2 a) (t3 a) (t4 a) (grid0.coords t) (hT.item (itm t)).f_lt P1 P2 (restO c (wts c m) (fl (t4 a) (itm t)))
    _ _ _ y (stX a t) (stX_whole a t) x (stO a t) (stO_whole a t) o h1 h2
  iapply (wp_wand_r _ _ _)
  isplitl [HT HP Ha HX HO]
  · iapply hp
    isplitl [HT]; · iexact HT
    isplitl [HP]; · iexact HP
    isplitl [Ha]; · iexact Ha
    isplitl [HX]; · iexact HX
    iexact HO
  iintro %_ ⟨HT, ⟨HR, Hcur⟩, Ha, HX, HO⟩
  unfold restO
  icases HR with ⟨HR, Ho⟩
  isplitl [HT Hr HR Hcur Ha]
  · isplitl [HT]; · iexact HT
    isplitl [Hr]; · iexact Hr
    isplitl [HR Hcur]
    · isplitl [HR]; · iexact HR
      unfold curE
      iexact Hcur
    iexists (accNext c a m (itm t) x y)
    isplitr
    · ipureintro; exact hAcc y hy
    iexact Ha
  isplitl [Ho]; · iexact Ho
  isplitl [HX]; · iexact HX
  iexists (outV (fl (t4 a) (itm t)) (accNext c a m (itm t) x y) o)
  isplitr
  · ipureintro
    refine ⟨fun hl => ?_, fun hl => ?_⟩
    · unfold outV; rw [if_neg hl]; exact hGood _ (hAcc y hy) hl
    · unfold outV; rw [if_pos hl]
  iexact HO

theorem body_obligation (hT : TablesAt (t0 a) (t1 a) (t2 a) (t3 a) (t4 a))
    (hAcc : ∀ (t : Fin grid0.N) x y, (rdat c a m AccOk Good).Finds (0 : Fin 2) t x → AccOk t.val y → AccOk (t.val + 1) (accNext c a m (itm t) x y))
    (hGood : ∀ (t : Fin grid0.N) y, AccOk (t.val + 1) y → ¬ fl (t4 a) (itm t) &&& 2#32 = 0#32 → Good (itm t) (k0_pay16 y)) :
    (rdat c a m AccOk Good).BodyObligation defs₀ 𝒱₀ () Set.univ := by
  intro t Y hY
  rw [bigSep_W0, bigSep_W0, defs₀_row]
  have h := point_ok c a m AccOk Good hT t (Y (0 : Fin 2)) (Y (1 : Fin 2)) (fun y => hAcc t _ y (hY (0 : Fin 2))) (hGood t)
  refine BIBase.Entails.trans ?_ (h.trans (wp_mono _ _ _ fun _ => ?_))
  · show iprop(Inv c a m AccOk t.val ∗ (∃ W : Waits sig Unit, ⌜↑W ⊆ (rdat c a m AccOk Good).bound () t.castSucc⌝ ∗ owes (c : Thread nD τ) 0 W)
      ∗ owns (c : Thread nD τ) (stX a t) fullShare (Y (0 : Fin 2)) ∗ owns (c : Thread nD τ) (stO a t) fullShare (Y (1 : Fin 2))) ⊢ _
    iintro ⟨HI, ⟨%W, %_, Ho⟩, HX, HO⟩
    isplitl [HI]; · iexact HI
    isplitl [Ho]; · iexists W; iexact Ho
    isplitl [HX]; · iapply (rep_of_owns (c : Thread nD τ) (stX a t) fullShare (Y (0 : Fin 2))); iexact HX
    iapply (rep_of_owns (c : Thread nD τ) (stO a t) fullShare (Y (1 : Fin 2))); iexact HO
  · show _ ⊢ iprop(Inv c a m AccOk (t.val + 1) ∗ (∃ W : Waits sig Unit, ⌜↑W ⊆ (rdat c a m AccOk Good).bound () t.succ⌝ ∗ owes (c : Thread nD τ) 0 W)
      ∗ (∃ X, ⌜aft a Good 0 t (Y (0 : Fin 2)) X⌝ ∗ owns (c : Thread nD τ) (stX a t) fullShare X) ∗ ∃ X, ⌜aft a Good 1 t (Y (1 : Fin 2)) X⌝ ∗ owns (c : Thread nD τ) (stO a t) fullShare X)
    iintro ⟨HI, ⟨%W, Ho⟩, HX, %o', %ho, HO⟩
    isplitl [HI]; · iexact HI
    isplitl [Ho]
    · iexists W
      isplitr
      · ipureintro; exact fun _ _ => Or.inl trivial
      iexact Ho
    isplitl [HX]
    · iexists (Y (0 : Fin 2))
      isplitr
      · ipureintro; exact rfl
      iapply (owns_of_rep (c : Thread nD τ) (stX a t) fullShare (Y (0 : Fin 2))); iexact HX
    iexists o'
    isplitr
    · ipureintro; exact ho
    iapply (owns_of_rep (c : Thread nD τ) (stO a t) fullShare o'); iexact HO

theorem hb_eq : (bigSep HB fun b => ((c : Thread nD τ).loc b) ↦{fullShare} V m c b : sProp 𝕄) = hbm c (wts c m) :=
  unscopedRestP0_eq c (V m c)

theorem inv_first (h0 : ∀ y, AccOk 0 y) : iprop(Pipeline.ΦD osem spec0 HB (V m) c ∗ Pipeline.ΦT pre0 a.1 c) ⊢ Inv c a m AccOk 0 := by
  rw [Pipeline.ΦD_eq, prefs_eq, hb_eq, sems_eq, scopedRest0_eq]
  unfold Inv copies rest0
  iintro ⟨⟨⟨⟨%f0, H0⟩, ⟨%f1, H1⟩, ⟨%f2, H2⟩, ⟨%f3, H3⟩, H4, H5, H6⟩, Hr, ⟨Hs0, Hs1⟩, Hh⟩, HT⟩
  isplitl [HT]; · iexact HT
  isplitl [Hr]; · iexact Hr
  isplitr [H0]
  · ihave ⟨Ha, Hb⟩ := bufs_split c (slotOf (fl (t4 a) 0)) $$ [H4 H5 H6 Hs0 Hs1]
    · unfold bufs
      isplitl [H4]; · iexact H4
      isplitl [H5]; · iexact H5
      isplitl [H6]; · iexact H6
      isplitl [Hs0]; · iexact Hs0
      iexact Hs1
    isplitl [Ha]; · iexact Ha
    isplitl [Hb Hh]
    · rw [ahead_none]
      isplitl [Hb]; · iexact Hb
      iexact Hh
    iexists f1; iexists f2; iexists f3
    unfold cur
    isplitl [H1]; · iexact H1
    isplitl [H2]; · iexact H2
    iexact H3
  iexists f0
  isplitr
  · ipureintro; exact h0 f0
  iexact H0

theorem inv_last (hT : TablesAt (t0 a) (t1 a) (t2 a) (t3 a) (t4 a)) : Inv c a m AccOk grid0.N ⊢ Pipeline.ΦD osem spec0 HB (V m) c := by
  have e : grid0.N = (⟨94, by rw [N_0]; decide⟩ : Fin grid0.N).val + 1 := N_0
  have hi : itm ⟨94, by rw [N_0]; decide⟩ = (94 : Fin 95) := Fin.ext (itm_val _)
  have hx : nxOf (fl (t4 a) (94 : Fin 95)) = none := nx_none hT.stop.1
  rw [Pipeline.ΦD_eq, hb_eq, sems_eq, scopedRest0_eq]
  unfold Inv
  rw [e, copies_succ, hi]
  unfold rest
  rw [hx, ahead_none]
  iintro ⟨HT, Hr, ⟨⟨Hs, Ha, Hh⟩, Hc⟩, %y, %_, Hy⟩
  ihave Hb := bufs_join c (slotOf (fl (t4 a) 94)) $$ [Hs Ha]
  · isplitl [Hs]; · iexact Hs
    iexact Ha
  unfold bufs curE cur
  icases Hb with ⟨H4, H5, H6, Hs0, Hs1⟩
  icases Hc with ⟨H1, H2, H3⟩
  isplitl [H1 H2 H3 H4 H5 H6 Hy]
  · isplitl [Hy]; · iexists _; iexact Hy
    isplitl [H1]; · iexists _; iexact H1
    isplitl [H2]; · iexists _; iexact H2
    isplitl [H3]; · iexists _; iexact H3
    isplitl [H4]; · iexact H4
    isplitl [H5]; · iexact H5
    iexact H6
  isplitl [Hr]; · iexact Hr
  isplitl [Hs0 Hs1]
  · isplitl [Hs0]; · iexact Hs0
    iexact Hs1
  iexact Hh

set_option backward.isDefEq.respectTransparency.types false in
theorem run_main (hT : TablesM m) (ρ : Dev nD → PrngReg)
    (h0 : ∀ y, AccOk 0 y)
    (hAcc : ∀ c (t : Fin grid0.N) x y, (rdat c (adm m hT) m AccOk Good).Finds (0 : Fin 2) t x → AccOk t.val y → AccOk (t.val + 1) (accNext c (adm m hT) m (itm t) x y))
    (hGood : ∀ (t : Fin grid0.N) y, AccOk (t.val + 1) y → ¬ fl (t4 (adm m hT)) (itm t) &&& 2#32 = 0#32 → Good (itm t) (k0_pay16 y)) :
    θ_run (defs (F := F)) (onTc (τ := τ) main) ⟨m, fun _ => 0, ρ⟩
      (fun r => Pipeline.RDat.FramePost (cfg0 (adm m hT)) (fun c => rdat c (adm m hT) m AccOk Good) (V m) r ∧ r.2.sem = fun _ => 0) :=
  Pipeline.RDat.θ_run_frameP_dma (pcfgs (F := F)) (fun _ => adm m hT) 0 launch0 osem defs₀ 𝒱₀ (fun c => rdat c (adm m hT) m AccOk Good)
    osem_facts HB (Finset.Subset.refl _) m ρ main
    (fun c => body_obligation c (adm m hT) m AccOk Good hT (hAcc c) hGood)
    (fun c w => Pipeline.RDat.share_full _ (fun _ => rfl) w) (fun _ _ => rfl) (V m)
    (Pipeline.hmainP_region pcfgs 0 defs₀ 𝒱₀ m main fun c => (main_chain c).trans rfl)
    (fun _ _ => rfl) (fun c k => by obtain rfl : c = 0 := Subsingleton.elim _ _; rfl)
    (fun c => inv_first c (adm m hT) m AccOk h0) (fun c => inv_last c (adm m hT) m AccOk hT)
    _ (fun _ h => h)

theorem kept_of (hT : TablesM m) (r : PUnit × MemSt nD τ sig (Elt F)) (h : Pipeline.RDat.FramePost (cfg0 (adm m hT)) (fun c => rdat c (adm m hT) m AccOk Good) (V m) r) : Kept m r :=
  fun c => ⟨(h c).2 main_arg0 (rest_mem _ (by decide)), (h c).2 main_arg1 (rest_mem _ (by decide)), (h c).2 main_arg2 (rest_mem _ (by decide)), (h c).2 main_arg3 (rest_mem _ (by decide)),
    (h c).2 main_arg4 (rest_mem _ (by decide)), Pipeline.RDat.FramePost.arr_in h c (0 : Fin 2) rfl, (h c).2 main_arg6 (rest_mem _ (by decide)), (h c).2 main_arg7 (rest_mem _ (by decide)), (h c).2 main_arg8 (rest_mem _ (by decide))⟩

/-- The frame: from any memory whose tables are as the precondition says, every argument is left as it was and every semaphore at zero. -/
theorem frame_of_tables (hT : TablesM m) (ρ : Dev nD → PrngReg) :
    θ_run (defs (F := F)) (onTc (τ := τ) main) ⟨m, fun _ => 0, ρ⟩ (fun r => Kept m r ∧ r.2.sem = fun _ => 0) :=
  (θ_run defs _ _).mono (fun _ h => ⟨kept_of m (fun _ _ => True) (fun _ _ => True) hT _ h.1, h.2⟩)
    (run_main m (fun _ _ => True) (fun _ _ => True) hT ρ (fun _ => trivial) (fun _ _ _ _ _ _ => trivial) (fun _ _ _ _ => trivial))

end Dat
end Region

end Cert.Experts.Second
end
-- ==== Proof.SecondRefVals.lean ====
/-
What the second layer's reference computes, element by element, over the extended reals.
-/
module

public import proofs.«01_k».proof.Proof.Gen.SecondReferenceIdeal
public import proofs.«01_k».proof.Proof.Gen.SecondReferenceIdeal.Run
public import proofs.«01_k».proof.Proof.RefVals

@[expose] public section

noncomputable section

namespace Cert.Experts.Second

open Cert.SecondReferenceIdeal Cert.SecondReferenceIdeal.Gen
open Idealize.ShloMosaic Idealize.SL.Sem

variable (a1 a2 a3 : IVec S95 32) (a5 : IVec S32768x1024 32) (a6 a7 : FVec Ideal S2x32x2048x256 .f32) (a8 : FVec Ideal S2x32x256x2048 .f32)

def refOut : FVec Ideal S32768x2048 .bf16 :=
  truncf .bf16 (Host.dotGeneral dot_S32768x32x256_S32x256x2048_S32768x2048_12_01_0_2_n_n none (mulf (mulf (mulf (Host.dotGeneral dot_S32768x2048_S32x2048x256_S32768x32x256_1_1_0_02_n_n none (concatenate S32768x2048 1 [⟨S32768x1024, (bitcastToFloat (F := Ideal) .f32 (Host.shli a5 (broadcastInDim S32768x1024 ![] bcast_S_S32768x1024 (constantI S_ 32 16#32))))⟩, ⟨S32768x1024, (bitcastToFloat (F := Ideal) .f32 (andi a5 (broadcastInDim S32768x1024 ![] bcast_S_S32768x1024 (constantI S_ 32 4294901760#32))))⟩] concatenates_S32768x1024_S32768x1024_S32768x2048_d1) (shapeCast _ (extractStridedSlice S1x32x2048x256 ![1, 0, 0, 0] a6 slices_S2x32x2048x256_S1x32x2048x256_1_0_0_0) shapeCasts_S1x32x2048x256_S32x2048x256)) (Host.divf (broadcastInDim S32768x32x256 ![] bcast_S_S32768x32x256 (constant S_ .f32 0x3F800000#32)) (addf (broadcastInDim S32768x32x256 ![] bcast_S_S32768x32x256 (constant S_ .f32 0x3F800000#32)) (Host.exp (Host.negf (Host.dotGeneral dot_S32768x2048_S32x2048x256_S32768x32x256_1_1_0_02_n_n none (concatenate S32768x2048 1 [⟨S32768x1024, (bitcastToFloat (F := Ideal) .f32 (Host.shli a5 (broadcastInDim S32768x1024 ![] bcast_S_S32768x1024 (constantI S_ 32 16#32))))⟩, ⟨S32768x1024, (bitcastToFloat (F := Ideal) .f32 (andi a5 (broadcastInDim S32768x1024 ![] bcast_S_S32768x1024 (constantI S_ 32 4294901760#32))))⟩] concatenates_S32768x1024_S32768x1024_S32768x2048_d1) (shapeCast _ (extractStridedSlice S1x32x2048x256 ![1, 0, 0, 0] a6 slices_S2x32x2048x256_S1x32x2048x256_1_0_0_0) shapeCasts_S1x32x2048x256_S32x2048x256))))))) (Host.dotGeneral dot_S32768x2048_S32x2048x256_S32768x32x256_1_1_0_02_n_n none (concatenate S32768x2048 1 [⟨S32768x1024, (bitcastToFloat (F := Ideal) .f32 (Host.shli a5 (broadcastInDim S32768x1024 ![] bcast_S_S32768x1024 (constantI S_ 32 16#32))))⟩, ⟨S32768x1024, (bitcastToFloat (F := Ideal) .f32 (andi a5 (broadcastInDim S32768x1024 ![] bcast_S_S32768x1024 (constantI S_ 32 4294901760#32))))⟩] concatenates_S32768x1024_S32768x1024_S32768x2048_d1) (shapeCast _ (extractStridedSlice S1x32x2048x256 ![1, 0, 0, 0] a7 slices_S2x32x2048x256_S1x32x2048x256_1_0_0_0) shapeCasts_S1x32x2048x256_S32x2048x256))) (broadcastInDim S32768x32x256 ![0, 1, 2] bcast_S32768x32x1_S32768x32x256_0_1_2 (broadcastInDim S32768x32x1 ![0, 1] bcast_S32768x32_S32768x32x1_0_1 (Host.dotGeneral dot_S32768x95_S95x32_S32768x32_1_0_0_1_n_n none (uitofp .f32 (andi (cmpi .sge (broadcastInDim S32768x95 ![0, 1] bcast_S32768x1_S32768x95_0_1 (broadcastInDim S32768x1 ![0] bcast_S32768_S32768x1_0 (iotaInDim S32768 32 0))) (broadcastInDim S32768x95 ![0, 1] bcast_S1x95_S32768x95_0_1 (broadcastInDim S1x95 ![1] bcast_S95_S1x95_1 a2))) (cmpi .slt (broadcastInDim S32768x95 ![0, 1] bcast_S32768x1_S32768x95_0_1 (broadcastInDim S32768x1 ![0] bcast_S32768_S32768x1_0 (iotaInDim S32768 32 0))) (broadcastInDim S32768x95 ![0, 1] bcast_S1x95_S32768x95_0_1 (broadcastInDim S1x95 ![1] bcast_S95_S1x95_1 a3))))) (uitofp .f32 (cmpi .eq (broadcastInDim S95x32 ![0, 1] bcast_S95x1_S95x32_0_1 (broadcastInDim S95x1 ![0] bcast_S95_S95x1_0 a1)) (broadcastInDim S95x32 ![0, 1] bcast_S1x32_S95x32_0_1 (broadcastInDim S1x32 ![1] bcast_S32_S1x32_1 (iotaInDim S32 32 0))))))))) (shapeCast _ (extractStridedSlice S1x32x256x2048 ![1, 0, 0, 0] a8 slices_S2x32x256x2048_S1x32x256x2048_1_0_0_0) shapeCasts_S1x32x256x2048_S32x256x2048)) bitsLt_bf16_f32

def wide (a : FVec Ideal S2x32x2048x256 .f32) (e : Fin 32) : Fin 2048 → Fin 256 → EReal := fun k f => a (ix4 (1 : Fin 2) e k f)

def tall (a : FVec Ideal S2x32x256x2048 .f32) (e : Fin 32) : Fin 256 → Fin 2048 → EReal := fun f k => a (ix4 (1 : Fin 2) e f k)

def refSum (j : S32768x2048.Idx) : EReal :=
  ∑ e : Fin 32, ∑ f : Fin 256, (hat (rowOf a5 (j 0)) (wide a6 e) (wide a7 e) f * comb a1 a2 a3 (j 0).val e) * tall a8 e f (j 1)

theorem ref_at (j : S32768x2048.Idx) : refOut a1 a2 a3 a5 a6 a7 a8 j = refSum a1 a2 a3 a5 a6 a7 a8 j := by
  pointwise! [refOut]
  simp only [low_word, high_word]
  unfold refSum
  refine Finset.sum_congr rfl fun e _ => Finset.sum_congr rfl fun f _ => ?_
  unfold hat
  rw [← silu_eq]
  rfl

/-- A row that one item alone holds is that item's expert's. -/
theorem ref_own (j : S32768x2048.Idx) (w : Fin 95) (e : Fin 32) (he : (a1 (ix1 w)).toNat = e.val)
    (hb : ∀ v, (a2 (ix1 v)).toNat ≤ 32768 ∧ (a3 (ix1 v)).toNat ≤ 32768)
    (hw : (a2 (ix1 w)).toNat ≤ (j 0).val ∧ (j 0).val < (a3 (ix1 w)).toNat)
    (hu : ∀ v, (a2 (ix1 v)).toNat ≤ (j 0).val ∧ (j 0).val < (a3 (ix1 v)).toNat → v = w) :
    refOut a1 a2 a3 a5 a6 a7 a8 j = outv (rowOf a5 (j 0)) (wide a6 e) (wide a7 e) (tall a8 e) (j 1) := by
  have hr : (j 0).val < 32768 := (j 0).isLt
  have hc : ∀ e', comb a1 a2 a3 (j 0).val e' = if e' = e then 1 else 0 := by
    intro e'
    unfold comb
    rw [Finset.sum_eq_single w]
    · rw [bit_real, bit_real, if_pos ((inRows_iff a2 a3 _ w hr (hb w).1 (hb w).2).2 hw), one_mul]
      refine if_congr ?_ rfl rfl
      rw [word_eq]
      constructor
      · intro h
        apply Fin.ext
        rw [← he, h, BitVec.toNat_ofNat]
        have := e'.isLt
        omega
      · rintro rfl
        rw [← he, BitVec.ofNat_toNat, BitVec.setWidth_eq]
    · intro v _ hv
      rw [bit_real, if_neg (fun h => hv (hu v ((inRows_iff a2 a3 _ v hr (hb v).1 (hb v).2).1 h))), zero_mul]
    · intro h; exact absurd (Finset.mem_univ _) h
  rw [ref_at]
  unfold refSum
  rw [Finset.sum_eq_single e]
  · refine Finset.sum_congr rfl fun f _ => ?_
    rw [hc, if_pos rfl, mul_one]
  · intro e' _ hne
    refine Finset.sum_eq_zero fun f _ => ?_
    rw [hc, if_neg hne, mul_zero, zero_mul]
  · intro h; exact absurd (Finset.mem_univ _) h

end Cert.Experts.Second
end
-- ==== Proof.SecondValues.lean ====
/-
What the second layer's region leaves in the output: every row is its own expert's.
-/
module

public import proofs.«01_k».proof.Proof.SecondRegion
public import proofs.«01_k».proof.Proof.SecondRefVals
public import proofs.«01_k».proof.Proof.Values

@[expose] public section

noncomputable section

namespace Cert.Experts.Second

open Cert.PlainIdeal Cert.PlainIdeal.Gen Cert.Experts.PlainIdeal
open Idealize.ShloMosaic Idealize.SL.Sem
open Idealize.ShloMosaic.TcCoe

section
variable (c : Dev nD) (m : Mem)

/-- The reference's output of a memory. -/
def spec : FVec Ideal S32768x2048 .bf16 :=
  refOut (m ((c : Thread nD τ).loc main_arg1)) (m ((c : Thread nD τ).loc main_arg2)) (m ((c : Thread nD τ).loc main_arg3)) (m ((c : Thread nD τ).loc main_arg5))
    (m ((c : Thread nD τ).loc main_arg6)) (m ((c : Thread nD τ).loc main_arg7)) (m ((c : Thread nD τ).loc main_arg8))

variable (hT : TablesM m)

/-- The accumulator before point `n`: after a valid item, the tile's rows up to that item's end. -/
def AccOk (n : ℕ) (y : Acc Ideal) : Prop :=
  ∀ w : Fin 95, n = w.val + 1 → lN m hT w < hN m hT w → ∀ j : S512x2048.Idx,
    y j = if tN m hT w * 512 + (j 0).val < hN m hT w then spec c m (at_ (tN m hT w) (t_lt m hT w) j) else 0

/-- A tile's block of the reference's output. -/
def Good (w : Fin 95) (X : Vec Ideal S512x2048 .bf16) : Prop :=
  ∀ j : S512x2048.Idx, X j = spec c m (at_ (tN m hT w) (t_lt m hT w) j)

abbrev rd := rdat c (adm m hT) m (AccOk c m hT) (Good c m hT)

theorem finds_in (t : Fin grid0.N) (x : Vec Ideal S512x1024 .i32) (hx : (rd c m hT).Finds (0 : Fin 2) t x) (p : Fin 512) (k : Fin 1024) :
    x (ix2 p k) = xs c m (ix2 (⟨tN m hT (itm t) * 512 + p.val, by have := t_lt m hT (itm t); omega⟩ : Fin 32768) k) := by
  obtain ⟨d, rfl⟩ := Pipeline.RDat.finds_in_eq_fetched (rd c m hT) (0 : Fin 2) rfl (fun _ _ _ => rfl) (fun _ _ _ h => h) t x hx
  show xs c m ((((cfg0 (adm m hT)).win 0).rect t).emb (ix2 p k)) = _
  refine congrArg (xs c m) ?_
  funext a
  refine Fin.ext ?_
  refine (Pipeline.Window.rect_emb_val ((cfg0 (adm m hT)).win 0) t (ix2 p k) a rfl).trans ?_
  refine (congrArg (fun n : ℕ => n * _ + _) (index_in m hT t a)).trans ?_
  match a with
  | ⟨0, _⟩ => rfl
  | ⟨1, _⟩ => show 0 * 1024 + k.val = k.val; omega

theorem share_spec (t : Fin grid0.N) (x : Vec Ideal S512x1024 .i32) (hx : (rd c m hT).Finds (0 : Fin 2) t x) (j : S512x2048.Idx) :
    share (t2 (adm m hT) (ix1 (itm t) : S95.Idx)) (t3 (adm m hT) (ix1 (itm t) : S95.Idx)) (t0 (adm m hT) (ix1 (itm t) : S95.Idx)) x
      (k0_pay1 ((wts c m).gVec (ex (t1 (adm m hT)) (itm t)))) (k0_pay3 (k0_pay2 ((wts c m).uVec (ex (t1 (adm m hT)) (itm t)))))
      (k0_pay4 ((wts c m).dVec (ex (t1 (adm m hT)) (itm t)))) j
    = if lN m hT (itm t) ≤ tN m hT (itm t) * 512 + (j 0).val ∧ tN m hT (itm t) * 512 + (j 0).val < hN m hT (itm t)
        then spec c m (at_ (tN m hT (itm t)) (t_lt m hT (itm t)) j) else 0 := by
  obtain rfl : c = 0 := Subsingleton.elim _ _
  unfold share
  by_cases hr : lN m hT (itm t) ≤ tN m hT (itm t) * 512 + (j 0).val ∧ tN m hT (itm t) * 512 + (j 0).val < hN m hT (itm t)
  · refine (if_pos hr).trans (Eq.trans ?_ (if_pos hr).symm)
    refine Eq.trans ?_ (ref_own _ _ _ _ _ _ _ (at_ (tN m hT (itm t)) (t_lt m hT (itm t)) j) (itm t) (ex (t1 (adm m hT)) (itm t)) (ex_val hT (itm t))
      (fun v => ⟨le_trans (hT.item v).le (hT.item v).h_le, (hT.item v).h_le⟩) hr
      (fun v hv => owner_unique (tabs_of m hT) v (itm t) _ hv hr)).symm
    have e1 : (fun k => x (ix2 (j 0) k)) = rowOf (xs 0 m) ((at_ (tN m hT (itm t)) (t_lt m hT (itm t)) j) 0) := by
      funext k
      exact finds_in 0 m hT t x hx (j 0) k
    have e2 : (fun k f => (k0_pay1 ((wts 0 m).gVec (ex (t1 (adm m hT)) (itm t)))) (ix2 k f)) = wide (m (((0 : Dev nD) : Thread nD τ).loc main_arg6)) (ex (t1 (adm m hT)) (itm t)) := by
      funext k f
      exact g_at (wts 0 m) _ k f
    have e3 : (fun k f => (k0_pay3 (k0_pay2 ((wts 0 m).uVec (ex (t1 (adm m hT)) (itm t))))) (ix2 k f)) = wide (m (((0 : Dev nD) : Thread nD τ).loc main_arg7)) (ex (t1 (adm m hT)) (itm t)) := by
      funext k f
      exact u_at (wts 0 m) _ k f
    have e4 : (fun f k => (k0_pay4 ((wts 0 m).dVec (ex (t1 (adm m hT)) (itm t)))) (ix2 f k)) = tall (m (((0 : Dev nD) : Thread nD τ).loc main_arg8)) (ex (t1 (adm m hT)) (itm t)) := by
      funext f k
      exact d_at (wts 0 m) _ f k
    exact ((congrArg (fun X : Row => outv X _ _ _ _) e1).trans (congrArg (fun G => outv _ G _ _ _) e2)).trans
      ((congrArg (fun G => outv _ _ G _ _) e3).trans (congrArg (fun G => outv _ _ _ G _) e4))
  · exact (if_neg hr).trans (if_neg hr).symm

theorem acc_step (t : Fin grid0.N) (x : Vec Ideal S512x1024 .i32) (y : Acc Ideal) (hx : (rd c m hT).Finds (0 : Fin 2) t x) (hA : AccOk c m hT t.val y) :
    AccOk c m hT (t.val + 1) (accNext c (adm m hT) m (itm t) x y) := by
  intro w hw hv j
  obtain rfl : w = itm t := Fin.ext (by rw [itm_val]; omega)
  have I := (tabs_of m hT).item (itm t)
  have ins := I.inside hv
  refine (accU_at _ _ _ I.t_lt (le_trans I.le I.h_le) I.h_le hv ins.1 ins.2 x _ _ _ y _ j).trans ?_
  refine (congrArg (_ + ·) (share_spec c m hT t x hx j)).trans ?_
  generalize hS : spec c m (at_ (tN m hT (itm t)) (t_lt m hT (itm t)) j) = S
  have hf := first_iff (fN m hT (itm t)) I.f_lt
  by_cases h1 : fN m hT (itm t) &&& 1#32 = 0#32
  · rw [if_neg (show ¬ firstW (fl (t4 (adm m hT)) (itm t)) = 1#1 from fun h => hf.1 h h1)]
    have hn0 : (itm t).val ≠ 0 := by
      intro h0
      have e0 : itm t = 0 := Fin.ext h0
      rw [e0] at h1
      exact (tabs_of m hT).start.2.1 h1
    obtain ⟨n, hn⟩ : ∃ n, (itm t).val = n + 1 := ⟨(itm t).val - 1, by omega⟩
    have hlt : n + 1 < 95 := hn ▸ (itm t).isLt
    have ew : itm t = ⟨n + 1, hlt⟩ := Fin.ext hn
    have st := (step_at (tabs_of m hT) n hlt).stay (by rw [← ew]; exact hv) (by rw [← ew]; exact h1)
    rw [← ew] at st
    obtain ⟨s1, s2, s3, -⟩ := st
    have hy := hA ⟨n, by omega⟩ (by rw [← itm_val t]; exact hn) s3 j
    rw [at_congr s1.symm _ (t_lt m hT (itm t)), hS, ← s1, ← s2] at hy
    rw [hy]
    by_cases p : tN m hT (itm t) * 512 + (j 0).val < lN m hT (itm t)
    · rw [if_pos p, if_neg (by omega), if_pos (by omega), add_zero]
    · rw [if_neg p, zero_add]
      exact if_congr (by omega) rfl rfl
  · have := I.first h1
    rw [if_pos (show firstW (fl (t4 (adm m hT)) (itm t)) = 1#1 from hf.2 h1), zero_add]
    exact if_congr (by omega) rfl rfl

theorem good_step (t : Fin grid0.N) (y : Acc Ideal) (hA : AccOk c m hT (t.val + 1) y) (hl : ¬ fN m hT (itm t) &&& 2#32 = 0#32) :
    Good c m hT (itm t) (k0_pay16 y) := by
  intro j
  have hj : (j 0).val < 512 := (j 0).isLt
  have hh := ((tabs_of m hT).item (itm t)).last hl
  refine (pay16_at y j).trans ((hA (itm t) (by rw [itm_val]) (last_valid (tabs_of m hT) (itm t) hl) j).trans (if_pos ?_))
  omega

theorem good_congr {w w' : Fin 95} (e : tN m hT w = tN m hT w') (X : Vec Ideal S512x2048 .bf16) (h : Good c m hT w X) : Good c m hT w' X := by
  intro j
  rw [h j, at_congr e _ (t_lt m hT w')]

/-- Once a tile is finished, its block is what the staging buffer holds. -/
theorem leaves_done (n : ℕ) (hn : n < 95) (X : Vec Ideal S512x2048 .bf16) (hd : Done (tN m hT) (fN m hT) n hn) (hX : (rd c m hT).Leaves (1 : Fin 2) (pt n hn) X) :
    Good c m hT ⟨n, hn⟩ X := by
  induction n generalizing X with
  | zero =>
    obtain ⟨Y, hY, h1, h2⟩ := hX
    rw [itm_pt] at h1 h2
    by_cases hl : fN m hT ⟨0, hn⟩ &&& 2#32 = 0#32
    · obtain ⟨k, hk, -⟩ := done_back 0 hn hl hd
      omega
    · exact h1 hl
  | succ n ih =>
    obtain ⟨Y, hY, h1, h2⟩ := hX
    rw [itm_pt] at h1 h2
    by_cases hl : fN m hT ⟨n + 1, hn⟩ &&& 2#32 = 0#32
    · obtain ⟨k, hk, et, hdk⟩ := done_back (n + 1) hn hl hd
      obtain rfl : k = n := by omega
      obtain rfl := h2 hl
      have hfe : ((cfg0 (adm m hT)).win 1).fetch (pt (k + 1) hn) = false := Pipeline.Window.fetch_out _ rfl _
      rcases ((rd c m hT).finds_of_pos hfe (Nat.succ_ne_zero k) X).1 hY with hfl | hle
      · rcases (flush_iff m hT k (by omega)).1 hfl with h94 | ⟨_, hne⟩
        · omega
        · exact absurd et.symm hne
      · exact good_congr c m hT et X (ih (by omega) X hdk hle)
    · exact h1 hl

/-- The blocks written so far are the reference's. -/
theorem arr_done (n : ℕ) (hn : n ≤ 95) (G : FVec Ideal S32768x2048 .bf16) (hG : (rd c m hT).ArrAt (1 : Fin 2) n G) (u : ℕ) (hu : u < n)
    (hf : ((cfg0 (adm m hT)).win 1).flush (pt u (by omega)) = true) (j : S512x2048.Idx) :
    G (at_ (tN m hT ⟨u, by omega⟩) (t_lt m hT _) j) = spec c m (at_ (tN m hT ⟨u, by omega⟩) (t_lt m hT _) j) := by
  induction n generalizing G u with
  | zero => omega
  | succ n ih =>
    have hN : n < (cfg0 (F := Ideal) (adm m hT)).N := by
      show n < grid0.N
      rw [N_0]; omega
    by_cases hfn : ((cfg0 (adm m hT)).win 1).flush (pt n (by omega)) = true
    · obtain ⟨G₀, X, hG₀, hX, rfl⟩ := arr_flush (rd c m hT) 1 n hN hfn G hG
      have hd : Done (tN m hT) (fN m hT) n (by omega) := by
        rcases (flush_iff m hT n (by omega)).1 hfn with h94 | ⟨h', hne⟩
        · subst h94; exact done_end (tabs_of m hT)
        · exact done_turn (tabs_of m hT) n h' hne
      have good := leaves_done c m hT n (by omega) X hd hX
      by_cases ht : tN m hT ⟨u, by omega⟩ = tN m hT ⟨n, by omega⟩
      · rw [at_congr ht _ (t_lt m hT _)]
        have ei : at_ (tN m hT ⟨n, by omega⟩) (t_lt m hT _) j = at_ (tN m hT (itm (pt n (by omega)))) (t_lt m hT _) j :=
          at_congr (by rw [itm_pt]) _ _ j
        refine Eq.trans ?_ (good j)
        rw [ei]
        exact written m hT (pt n (by omega)) G₀ X j
      · have hne : u ≠ n := by rintro rfl; exact ht rfl
        refine Eq.trans ?_ (ih (by omega) G₀ hG₀ u (by omega) hf)
        refine unwritten m hT (pt n (by omega)) G₀ X _ ?_
        rw [itm_pt]
        show ¬ (tN m hT ⟨u, _⟩ * 512 + (j 0).val) / 512 = _
        have h2 : (j 0).val < 512 := (j 0).isLt
        omega
    · replace hG := arr_keep (rd c m hT) 1 n hN hfn G hG
      have hne : u ≠ n := by rintro rfl; exact hfn hf
      exact ih (by omega) G hG u (by omega) hf

theorem arr_final (G : FVec Ideal S32768x2048 .bf16) (hG : (rd c m hT).ArrAt (1 : Fin 2) (cfg0 (F := Ideal) (adm m hT)).N G) : G = spec c m := by
  funext i
  have hi : (i 0).val < 32768 := (i 0).isLt
  obtain ⟨n, hn, e, hend⟩ := tile_end (tabs_of m hT) ((i 0).val / 512) (by omega)
  have hN : (cfg0 (F := Ideal) (adm m hT)).N = 95 := N_0
  rw [hN] at hG
  have h := arr_done c m hT 95 (le_refl _) G hG n hn ((flush_iff m hT n hn).2 hend) (ix2 (⟨(i 0).val % 512, Nat.mod_lt _ (by decide)⟩ : Fin 512) (i 1))
  have ei : at_ (tN m hT ⟨n, hn⟩) (t_lt m hT _) (ix2 (⟨(i 0).val % 512, Nat.mod_lt _ (by decide)⟩ : Fin 512) (i 1)) = i := by
    funext a
    match a with
    | ⟨0, _⟩ => exact Fin.ext (show tN m hT ⟨n, hn⟩ * 512 + (i 0).val % 512 = (i 0).val by rw [e]; omega)
    | ⟨1, _⟩ => rfl
  rwa [ei] at h

include hT in
/-- The region ends with the reference's output in place and every argument as it was. -/
theorem run_value (ρ : Dev nD → PrngReg) :
    θ_run (defs (F := Ideal)) (onTc (τ := τ) main) ⟨m, fun _ => 0, ρ⟩
      (fun r => (∀ c : Dev nD, r.2.mem ((c.tc : Thread nD τ).loc main_v0) = spec c m) ∧ Kept m r) :=
  (θ_run defs _ _).mono (fun r h => ⟨fun c => by
      obtain rfl : c = 0 := Subsingleton.elim _ _
      exact arr_final 0 m hT _ ((h.1 0).1 (1 : Fin 2)), kept_of m _ _ hT r h.1⟩)
    (run_main m (AccOk 0 m hT) (Good 0 m hT) hT ρ (fun _ w hw => absurd hw (by omega))
      (fun c t x y hx hA => by
        obtain rfl : c = 0 := Subsingleton.elim _ _
        exact acc_step 0 m hT t x y hx hA)
      (fun t y hA hl => good_step 0 m hT t y hA hl))

end

end Cert.Experts.Second
end
-- ==== Proof.SecondClaims.lean ====
/-
The second layer's claims: its frames, and its output array the reference's, element for element.
-/
module

public import proofs.«01_k».proof.Defs
public import proofs.«01_k».proof.Proof.Gen.Second
public import proofs.«01_k».proof.Proof.Gen.SecondIdeal
public import proofs.«01_k».proof.Proof.Gen.Pre_tables_ok
public import proofs.«01_k».proof.Proof.Frames
public import proofs.«01_k».proof.Proof.SecondValues

@[expose] public section

set_option maxRecDepth 100000

noncomputable section

namespace Cert.Experts.Second

open Idealize.ShloMosaic Idealize.SL.Sem

/-! ## The programs are the ones the region's proof is of -/

theorem second_defs₀ : Cert.Second.defs₀ (F := Bits) = defs₀ (F := Bits) := by
  unfold Cert.Second.defs₀ defs₀
  refine congrArg Defs.onTc ?_
  funext l a
  match l, a with
  | ⟨0, _⟩, (t, s) => rfl
theorem second_defs : Cert.Second.defs (F := Bits) = defs (F := Bits) := by
  unfold Cert.Second.defs defs
  exact congrArg (Pipeline.defs _) second_defs₀
theorem ideal_defs₀ : Cert.SecondIdeal.defs₀ (F := Ideal) = defs₀ (F := Ideal) := by
  unfold Cert.SecondIdeal.defs₀ defs₀
  refine congrArg Defs.onTc ?_
  funext l a
  match l, a with
  | ⟨0, _⟩, (t, s) => rfl
theorem ideal_defs : Cert.SecondIdeal.defs (F := Ideal) = defs (F := Ideal) := by
  unfold Cert.SecondIdeal.defs defs
  exact congrArg (Pipeline.defs _) ideal_defs₀

/-! ## The tables of the precondition -/

theorem tablesM_second (m : (ℓ : Loc Cert.Second.nD Cert.Second.τ Cert.Second.sig) → Buf (Elt Bits) ℓ) (h : Cert.Pre_Second m) : PlainIdeal.TablesM (F := Bits) m := by
  have e := tables_of _ _ _ _ _ _ _ _ _ (h 0)
  simp only [ix1_ofFin] at e
  exact e
theorem tablesM_ideal (m : (ℓ : Loc Cert.SecondIdeal.nD Cert.SecondIdeal.τ Cert.SecondIdeal.sig) → Buf (Elt Ideal) ℓ) (h : Cert.Pre_SecondIdeal m) : PlainIdeal.TablesM (F := Ideal) m := by
  have e := tables_of _ _ _ _ _ _ _ _ _ (h 0)
  simp only [ix1_ofFin] at e
  exact e

/-! ## The frames -/

theorem bits_of (m : (ℓ : Loc Cert.PlainIdeal.nD Cert.PlainIdeal.τ Cert.PlainIdeal.sig) → Buf (Elt Bits) ℓ) (h : PlainIdeal.TablesM m) (ρ : Dev Cert.PlainIdeal.nD → PrngReg) :
    θ_run (Cert.Second.defs (F := Bits)) (onTc (τ := Cert.Second.τ) (Cert.Second.main (F := Bits))) ⟨m, fun _ => 0, ρ⟩ (fun r => PlainIdeal.Kept m r ∧ r.2.sem = fun _ => 0) := by
  rw [second_defs]
  exact frame_of_tables m h ρ
theorem ideal_of (m : (ℓ : Loc Cert.PlainIdeal.nD Cert.PlainIdeal.τ Cert.PlainIdeal.sig) → Buf (Elt Ideal) ℓ) (h : PlainIdeal.TablesM m) (ρ : Dev Cert.PlainIdeal.nD → PrngReg) :
    θ_run (Cert.SecondIdeal.defs (F := Ideal)) (onTc (τ := Cert.SecondIdeal.τ) (Cert.SecondIdeal.main (F := Ideal))) ⟨m, fun _ => 0, ρ⟩ (fun r => PlainIdeal.Kept m r ∧ r.2.sem = fun _ => 0) := by
  rw [ideal_defs]
  exact frame_of_tables m h ρ
theorem value_of (m : PlainIdeal.Mem) (h : PlainIdeal.TablesM m) (ρ : Dev Cert.PlainIdeal.nD → PrngReg) :
    θ_run (Cert.SecondIdeal.defs (F := Ideal)) (onTc (τ := Cert.SecondIdeal.τ) (Cert.SecondIdeal.main (F := Ideal))) ⟨m, fun _ => 0, ρ⟩
      (fun r => (∀ c : Dev Cert.PlainIdeal.nD, r.2.mem ((c.tc : Thread Cert.PlainIdeal.nD Cert.PlainIdeal.τ).loc Cert.PlainIdeal.main_v0) = spec c m) ∧ PlainIdeal.Kept m r) := by
  rw [ideal_defs]
  exact run_value m h ρ

theorem frame_second : Cert.quiescent_Second := fun m g h => bits_of m (tablesM_second m h) g
theorem frame_ideal : Cert.quiescent_SecondIdeal := fun m g h => ideal_of m (tablesM_ideal m h) g
theorem frame_reference : Cert.quiescent_SecondReferenceIdeal := fun m g _ =>
  (θ_run Cert.SecondReferenceIdeal.defs _ _).mono (fun r h => ⟨fun c => (h c).2, sem_eq_zero_of_no_sems (by decide) r.2⟩)
    (Cert.SecondReferenceIdeal.Value.run (F := Ideal) m g)
theorem frame_reference_pre : Cert.quiescent_SecondReferenceIdeal_pre_tables_ok := fun m g _ =>
  (θ_run Cert.SecondReferenceIdeal.defs _ _).mono (fun r h => ⟨fun c => (h c).2, sem_eq_zero_of_no_sems (by decide) r.2⟩)
    (Cert.SecondReferenceIdeal.Value.run (F := Ideal) m g)

/-! ## The value -/

theorem algebraic : Cert.algebraic_SecondIdeal_SecondReferenceIdeal := by
  intro m g m' g' hpre hagree
  refine ⟨fun c => spec c m, ?_, ?_⟩
  · exact (θ_run Cert.SecondIdeal.defs _ _).mono (fun r h c => ⟨h.1 c, h.2 c⟩) (value_of m (tablesM_ideal m hpre) g)
  · refine (θ_run Cert.SecondReferenceIdeal.defs _ _).mono (fun r h c => ⟨(h c).1.trans ?_, (h c).2⟩) (Cert.SecondReferenceIdeal.Value.run (F := Ideal) m' g')
    obtain ⟨h0, h1, h2, h3, h4, h5, h6, h7, h8⟩ := hagree c
    show refOut (m' ((c.tc : Thread Cert.SecondReferenceIdeal.nD Cert.SecondReferenceIdeal.τ).loc Cert.SecondReferenceIdeal.main_arg1)) (m' ((c.tc : Thread Cert.SecondReferenceIdeal.nD Cert.SecondReferenceIdeal.τ).loc Cert.SecondReferenceIdeal.main_arg2)) (m' ((c.tc : Thread Cert.SecondReferenceIdeal.nD Cert.SecondReferenceIdeal.τ).loc Cert.SecondReferenceIdeal.main_arg3)) (m' ((c.tc : Thread Cert.SecondReferenceIdeal.nD Cert.SecondReferenceIdeal.τ).loc Cert.SecondReferenceIdeal.main_arg5)) (m' ((c.tc : Thread Cert.SecondReferenceIdeal.nD Cert.SecondReferenceIdeal.τ).loc Cert.SecondReferenceIdeal.main_arg6)) (m' ((c.tc : Thread Cert.SecondReferenceIdeal.nD Cert.SecondReferenceIdeal.τ).loc Cert.SecondReferenceIdeal.main_arg7)) (m' ((c.tc : Thread Cert.SecondReferenceIdeal.nD Cert.SecondReferenceIdeal.τ).loc Cert.SecondReferenceIdeal.main_arg8)) = spec c m
    rw [h1, h2, h3, h5, h6, h7, h8]
    rfl

end Cert.Experts.Second
end
-- ==== Proof.ProjectRegion.lean ====
/-
The projecting call: its body's run, what holds between its points, its launch.
-/
module

public import proofs.«01_k».proof.Proof.Gen.ProjectIdeal
public import proofs.«01_k».proof.Proof.Gen.ProjectIdeal.Launch
public import proofs.«01_k».proof.Proof.Gen.ProjectIdeal.Skeleton
public import Idealize.ShloMosaic.Lib.Tactic
public import Idealize.ShloMosaic.Lib.VecWindow
public import Idealize.ShloMosaic.Lib.Pipeline.Kit
public import Idealize.ShloMosaic.Lib.Pipeline.KitQuiescent
public import Idealize.ShloMosaic.Lib.Pipeline.Frame
public import Idealize.ShloMosaic.Lib.Pipeline.FrameBody
public import Idealize.ShloMosaic.Lib.Claim
public import Idealize.ShloMosaic.Lib.Pipeline.TableIdle

@[expose] public section

noncomputable section

namespace Cert.Inproj

open Cert.ProjectIdeal Cert.ProjectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [∀ e, Nonempty (Elt F e)]

local notation "𝕄" => MT nD τ sig Unit (Elt F) ℕ (UR sig nD τ) ℕ
abbrev PG (F : FTy → Type) := Prog (TpuEff nD τ sig (Elt F) Λ₀ .tc)

abbrev 𝒱₀ : Variants := Variants.none

/-! ## The body, in pieces -/

abbrev SC : Memref sig .tc .vmem S1024x2048 .bf16 := Memref.whole cc0_scratch0

section Body
variable (i : grid0.Coords) (X : Memref sig .tc .vmem S1024x2048 .f32) (NW : Memref sig .tc .vmem S1x2048 .f32) (W : Memref sig .tc .vmem S1x2048x1536 .bf16)
  (WG : Memref sig .tc .vmem S1x2048x128 .bf16) (Z : Memref sig .tc .vmem S1024x1536 .bf16) (hZ : Z.IsWhole) (G : Memref sig .tc .vmem S1024x128 .f32)

/-- The first column's point: the rows normalised into the scratch, the gates from them. -/
def firstP : PG F PUnit := do
  let v9 : Vec F S1024x2048 .f32 ← Prog.lift (.load X (Rect.unit (s := S1024x2048) ![0, 0] S1024x2048.size inb_S1024x2048_S1024x2048_0_0).toLoadRect (View.loadsAt_vmem h_S1024x2048))
  let v10 : Vec F S1x2048 .f32 ← Prog.lift (.load NW (Rect.unit (s := S1x2048) ![0, 0] S1x2048.size inb_S1x2048_S1x2048_0_0).toLoadRect (View.loadsAt_vmem h_S1x2048))
  let v24 : Vec F S1024x2048 .bf16 ← Prog.lift (.load SC (Rect.unit (s := S1024x2048) ![0, 0] S1024x2048.size inb_S1024x2048_S1024x2048_0_0).toLoadRect (View.loadsAt_vmem h_S1024x2048))
  Prog.lift (.store SC (Rect.unit (s := S1024x2048) ![0, 0] S1024x2048.size inb_S1024x2048_S1024x2048_0_0) (k0_pay2 v9 v10) Finset.univ (View.stores_vmem h_S1024x2048 ((Memref.isWhole_whole cc0_scratch0).storeExact_slice rfl _ packedbf16_S1024x2048_S1024x2048_0_0) (fun _ => rfl)) (.inl rfl))
  let v27 : Vec F S1x2048x128 .bf16 ← Prog.lift (.load WG (Rect.unit (s := S1x2048x128) ![0, 0, 0] S1x2048x128.size inb_S1x2048x128_S1x2048x128_0_0_0).toLoadRect (View.loadsAt_vmem h_S1x2048x128))
  let v30 : Vec F S1024x128 .f32 ← Prog.lift (.load G (Rect.unit (s := S1024x128) ![0, 0] S1024x128.size inb_S1024x128_S1024x128_0_0).toLoadRect (View.loadsAt_vmem h_S1024x128))
  Prog.lift (.store G (Rect.unit (s := S1024x128) ![0, 0] S1024x128.size inb_S1024x128_S1024x128_0_0) (k0_pay3 v9 v10 v27) Finset.univ (View.stores_vmem_bits_univ h_S1024x128 rfl) (.inl rfl))
  pure ⟨⟩

/-- Every point: a block of columns from the scratch. -/
def lastP : PG F PUnit := do
  let v3 : Vec F S1024x2048 .bf16 ← Prog.lift (.load SC (Rect.unit (s := S1024x2048) ![0, 0] S1024x2048.size inb_S1024x2048_S1024x2048_0_0).toLoadRect (View.loadsAt_vmem h_S1024x2048))
  let v4 : Vec F S1x2048x1536 .bf16 ← Prog.lift (.load W (Rect.unit (s := S1x2048x1536) ![0, 0, 0] S1x2048x1536.size inb_S1x2048x1536_S1x2048x1536_0_0_0).toLoadRect (View.loadsAt_vmem h_S1x2048x1536))
  let v8 : Vec F S1024x1536 .bf16 ← Prog.lift (.load Z (Rect.unit (s := S1024x1536) ![0, 0] S1024x1536.size inb_S1024x1536_S1024x1536_0_0).toLoadRect (View.loadsAt_vmem h_S1024x1536))
  Prog.lift (.store Z (Rect.unit (s := S1024x1536) ![0, 0] S1024x1536.size inb_S1024x1536_S1024x1536_0_0) (k0_pay4 v3 v4) Finset.univ (View.stores_vmem h_S1024x1536 (hZ.storeExact_slice rfl _ packedbf16_S1024x1536_S1024x1536_0_0) (fun _ => rfl)) (.inl rfl))
  pure ⟨⟩

def bodyP : PG F PUnit := if k0_cond1 i = 1#1 then (firstP X NW WG G >>= fun _ => lastP W Z hZ) else lastP W Z hZ

theorem body_eq (hX : X.IsWhole) (hNW : NW.IsWhole) (hW : W.IsWhole) (hWG : WG.IsWhole) (hG : G.IsWhole) :
    cc0_inproj (F := F) i X hX NW hNW W hW WG hWG Z hZ G hG SC (Memref.isWhole_whole _) = bodyP i X NW W WG Z hZ G := by
  rw [cc0_inproj_eq_skeleton]
  unfold cc0_inproj_skel bodyP lastP firstP
  by_cases h1 : k0_cond1 i = 1#1
  all_goals
    simp only [dif_pos, dif_neg, if_pos, if_neg, h1, not_false_iff, bind_assoc, pure_bind]
    try rfl

end Body

/-! ## The body's run -/

section Run
variable (c : Dev nD)

theorem z2 : (![0, 0] : Fin 2 → ℕ) = fun _ => 0 := by funext a; fin_cases a <;> rfl
theorem z3 : (![0, 0, 0] : Fin 3 → ℕ) = fun _ => 0 := by funext a; fin_cases a <;> rfl

abbrev stage {S : Shape} {e : EltTy} (M : Memref sig .tc .vmem S e) (x : S.Idx → Elt F e) : sProp 𝕄 := M.view.loc (c : Thread nD τ) ↦[M.view.set]{fullShare} M.view.rep x

theorem stored_view {S : Shape} {e : EltTy} (O : Memref sig .tc .vmem S e) (f : O.view.ty.Contents (Elt F)) (off : Fin S.rank → ℕ) (h0 : off = fun _ => 0) (hin : ∀ a, off a + S.size a ≤ S.size a)
    (x : S.Idx → Elt F e) :
    O.view.read (Elt F) (O.view.writes (Elt F) f [⟨Rect.unit (s := S) off S.size hin, x⟩]) = x := by
  subst h0
  exact View.read_writes_whole (Val := Elt F) O.view f x
theorem rep_of_eq {S : Shape} {e : EltTy} (O : Memref sig .tc .vmem S e) (f : Buf (Elt F) (O.view.loc (c : Thread nD τ))) (x : S.Idx → Elt F e) (h : O.view.read (Elt F) f = x) :
    ((O.view.loc (c : Thread nD τ) ↦[O.view.set]{fullShare} f : sProp 𝕄)) ⊢ stage c O x := by
  have e := pointsTo_rep_entails (Ix := Unit) (Name := ℕ) (U := UR sig nD τ) (Lvl := ℕ) (c : Thread nD τ) O f fullShare
  rwa [h] at e

theorem load_all {S : Shape} {e : EltTy} (M : Memref sig .tc .vmem S e) (x : S.Idx → Elt F e) (off : Fin S.rank → ℕ) (hin : ∀ a, off a + S.size a ≤ S.size a) (hl)
    (Q : (S.Idx → Elt F e) → sProp 𝕄) :
    iprop(stage c M x ∗ (stage c M x -∗ Q x))
      ⊢ wp frame (wpE (defs₀ (F := F)) 𝒱₀ (c : Thread nD τ) none) Set.univ (Prog.lift (.load M (Rect.unit (s := S) off S.size hin).toLoadRect hl)) Q := by
  have hS : M.view.setOn (Rect.unit (s := S) off S.size hin).toLoadRect.set ⊆ M.view.set := View.setOn_subset_set _ _
  iintro ⟨H, K⟩
  iapply (wp_load 𝒱₀ (c : Thread nD τ) none Set.univ hS) $$ H
  rw [View.readAt_rep_full]
  iintro H
  sl_step
  iapply K
  iexact H

theorem store_all {S : Shape} {e : EltTy} (M : Memref sig .tc .vmem S e) (x y : S.Idx → Elt F e) (off : Fin S.rank → ℕ) (h0 : off = fun _ => 0) (hin : ∀ a, off a + S.size a ≤ S.size a) (hs hl)
    (Q : PUnit → sProp 𝕄) :
    iprop(stage c M x ∗ (stage c M y -∗ Q ⟨⟩))
      ⊢ wp frame (wpE (defs₀ (F := F)) 𝒱₀ (c : Thread nD τ) none) Set.univ (Prog.lift (.store M (Rect.unit (s := S) off S.size hin) y Finset.univ hs hl)) Q := by
  iintro ⟨H, K⟩
  sl_exec
  sl_step
  iapply K
  iapply (rep_of_eq c M _ y (stored_view M _ off h0 hin _))
  iexact H

variable (i : grid0.Coords) (X : Memref sig .tc .vmem S1024x2048 .f32) (NW : Memref sig .tc .vmem S1x2048 .f32) (W : Memref sig .tc .vmem S1x2048x1536 .bf16)
  (WG : Memref sig .tc .vmem S1x2048x128 .bf16) (Z : Memref sig .tc .vmem S1024x1536 .bf16) (hZ : Z.IsWhole) (G : Memref sig .tc .vmem S1024x128 .f32)
  (s : Vec F S1024x2048 .bf16) (x : Vec F S1024x2048 .f32) (nw : Vec F S1x2048 .f32) (w : Vec F S1x2048x1536 .bf16) (wg : Vec F S1x2048x128 .bf16) (z : Vec F S1024x1536 .bf16) (g : Vec F S1024x128 .f32)

theorem first_run :
    iprop(stage c SC s ∗ stage c X x ∗ stage c NW nw ∗ stage c WG wg ∗ stage c G g)
      ⊢ wp frame (wpE (defs₀ (F := F)) 𝒱₀ (c : Thread nD τ) none) Set.univ (firstP X NW WG G)
        (fun _ => iprop(stage c SC (k0_pay2 x nw) ∗ stage c X x ∗ stage c NW nw ∗ stage c WG wg ∗ stage c G (k0_pay3 x nw wg))) := by
  unfold firstP
  iintro ⟨HS, HX, HN, HW, HG⟩
  rw [wp_bind]
  iapply (load_all c X x _ _ _ _)
  isplitl [HX]; · iexact HX
  iintro HX
  rw [wp_bind]
  iapply (load_all c NW nw _ _ _ _)
  isplitl [HN]; · iexact HN
  iintro HN
  rw [wp_bind]
  iapply (load_all c SC s _ _ _ _)
  isplitl [HS]; · iexact HS
  iintro HS
  rw [wp_bind]
  iapply (store_all c SC s _ _ z2 _ _ _ _)
  isplitl [HS]; · iexact HS
  iintro HS
  rw [wp_bind]
  iapply (load_all c WG wg _ _ _ _)
  isplitl [HW]; · iexact HW
  iintro HW
  rw [wp_bind]
  iapply (load_all c G g _ _ _ _)
  isplitl [HG]; · iexact HG
  iintro HG
  rw [wp_bind]
  iapply (store_all c G g _ _ z2 _ _ _ _)
  isplitl [HG]; · iexact HG
  iintro HG
  sl_step
  isplitl [HS]; · iexact HS
  isplitl [HX]; · iexact HX
  isplitl [HN]; · iexact HN
  isplitl [HW]; · iexact HW
  iexact HG

theorem last_run :
    iprop(stage c SC s ∗ stage c W w ∗ stage c Z z)
      ⊢ wp frame (wpE (defs₀ (F := F)) 𝒱₀ (c : Thread nD τ) none) Set.univ (lastP W Z hZ)
        (fun _ => iprop(stage c SC s ∗ stage c W w ∗ stage c Z (k0_pay4 s w))) := by
  unfold lastP
  iintro ⟨HS, HW, HZ⟩
  rw [wp_bind]
  iapply (load_all c SC s _ _ _ _)
  isplitl [HS]; · iexact HS
  iintro HS
  rw [wp_bind]
  iapply (load_all c W w _ _ _ _)
  isplitl [HW]; · iexact HW
  iintro HW
  rw [wp_bind]
  iapply (load_all c Z z _ _ _ _)
  isplitl [HZ]; · iexact HZ
  iintro HZ
  rw [wp_bind]
  iapply (store_all c Z z _ _ z2 _ _ _ _)
  isplitl [HZ]; · iexact HZ
  iintro HZ
  sl_step
  isplitl [HS]; · iexact HS
  isplitl [HW]; · iexact HW
  iexact HZ

/-- The scratch and the gates past a point. -/
def sV : Vec F S1024x2048 .bf16 := if k0_cond1 i = 1#1 then k0_pay2 x nw else s
def gV : Vec F S1024x128 .f32 := if k0_cond1 i = 1#1 then k0_pay3 x nw wg else g

theorem point_run :
    iprop(stage c SC s ∗ stage c X x ∗ stage c NW nw ∗ stage c W w ∗ stage c WG wg ∗ stage c Z z ∗ stage c G g)
      ⊢ wp frame (wpE (defs₀ (F := F)) 𝒱₀ (c : Thread nD τ) none) Set.univ (bodyP i X NW W WG Z hZ G)
        (fun _ => iprop(stage c SC (sV i s x nw) ∗ stage c X x ∗ stage c NW nw ∗ stage c W w ∗ stage c WG wg ∗ stage c Z (k0_pay4 (sV i s x nw) w) ∗ stage c G (gV i x nw wg g))) := by
  unfold bodyP sV gV
  by_cases h : k0_cond1 i = 1#1
  · rw [if_pos h, if_pos h, if_pos h, wp_bind]
    iintro ⟨HS, HX, HN, HW, HU, HZ, HG⟩
    iapply (wp_wand_r _ _ _)
    isplitl [HS HX HN HU HG]
    · iapply (first_run c X NW WG G s x nw wg g)
      isplitl [HS]; · iexact HS
      isplitl [HX]; · iexact HX
      isplitl [HN]; · iexact HN
      isplitl [HU]; · iexact HU
      iexact HG
    iintro %_ ⟨HS, HX, HN, HU, HG⟩
    iapply (wp_wand_r _ _ _)
    isplitl [HS HW HZ]
    · iapply (last_run c W Z hZ _ w z)
      isplitl [HS]; · iexact HS
      isplitl [HW]; · iexact HW
      iexact HZ
    iintro %_ ⟨HS, HW, HZ⟩
    isplitl [HS]; · iexact HS
    isplitl [HX]; · iexact HX
    isplitl [HN]; · iexact HN
    isplitl [HW]; · iexact HW
    isplitl [HU]; · iexact HU
    isplitl [HZ]; · iexact HZ
    iexact HG
  · rw [if_neg h, if_neg h, if_neg h]
    iintro ⟨HS, HX, HN, HW, HU, HZ, HG⟩
    iapply (wp_wand_r _ _ _)
    isplitl [HS HW HZ]
    · iapply (last_run c W Z hZ s w z)
      isplitl [HS]; · iexact HS
      isplitl [HW]; · iexact HW
      iexact HZ
    iintro %_ ⟨HS, HW, HZ⟩
    isplitl [HS]; · iexact HS
    isplitl [HX]; · iexact HX
    isplitl [HN]; · iexact HN
    isplitl [HW]; · iexact HW
    isplitl [HU]; · iexact HU
    isplitl [HZ]; · iexact HZ
    iexact HG

end Run

/-! ## The region's data and its body at every point -/

section Dat
variable (c : Dev nD) (m : (ℓ : Loc nD τ sig) → Buf (Elt F) ℓ)
variable (SG : ℕ → Vec F S1024x2048 .bf16 → Prop) (ZG : Fin grid0.N → Vec F S1024x1536 .bf16 → Prop) (GG : Fin grid0.N → Vec F S1024x128 .f32 → Prop)

/-- What holds between points: past a row block's first point, the scratch is that block's. -/
def Inv (n : ℕ) : sProp 𝕄 := iprop((∃ s, ⌜n % 3 ≠ 0 → SG (n / 3) s⌝ ∗ stage c SC s) ∗ ∃ r, prngReg c r)

/-- What a point may leave in its staging buffers. -/
def aft : (w : Fin 6) → Fin grid0.N → ((cfg0.win w).block.Idx → Elt F (cfg0.win w).elt) → ((cfg0.win w).block.Idx → Elt F (cfg0.win w).elt) → Prop
  | 0 => fun _ Y X => X = Y
  | 1 => fun _ Y X => X = Y
  | 2 => fun _ Y X => X = Y
  | 3 => fun _ Y X => X = Y
  | 4 => fun t _ X => ZG t X
  | 5 => fun t _ X => GG t X
  | ⟨_ + 6, h⟩ => absurd h (Nat.not_lt.2 (Nat.le_add_left _ _))

def rdat : Pipeline.RDat τ (Elt F) Unit ℕ (UR sig nD τ) ℕ cfg0 c where
  A w := m ((c : Thread nD τ).loc (Pipeline.arrRef spec0 w))
  after := aft ZG GG
  Φ t := Inv c SG t.val
  q _ := fullShare
  owed _ := 0

abbrev st0 (t : Fin grid0.N) : Memref sig .tc .vmem S1024x2048 .f32 := win0_0.stage (cfg0.slots t (0 : Fin 6))
abbrev st1 (t : Fin grid0.N) : Memref sig .tc .vmem S1x2048 .f32 := win0_1.stage (cfg0.slots t (1 : Fin 6))
abbrev st2 (t : Fin grid0.N) : Memref sig .tc .vmem S1x2048x1536 .bf16 := win0_2.stage (cfg0.slots t (2 : Fin 6))
abbrev st3 (t : Fin grid0.N) : Memref sig .tc .vmem S1x2048x128 .bf16 := win0_3.stage (cfg0.slots t (3 : Fin 6))
abbrev st4 (t : Fin grid0.N) : Memref sig .tc .vmem S1024x1536 .bf16 := win0_4.stage (cfg0.slots t (4 : Fin 6))
abbrev st5 (t : Fin grid0.N) : Memref sig .tc .vmem S1024x128 .f32 := win0_5.stage (cfg0.slots t (5 : Fin 6))
theorem st4_whole (t : Fin grid0.N) : (st4 t).IsWhole := stage_whole0 4 (cfg0.slots t (4 : Fin 6))

theorem defs₀_row (t : Fin cfg0.N) : (defs₀ (F := F)) .tc cfg0.body (cfg0.bodyArgs t (cfg0.slots t))
    = bodyP (grid0.coords t) (st0 t) (st1 t) (st2 t) (st3 t) (st4 t) (st4_whole t) (st5 t) := by
  refine Eq.trans ?_ (body_eq (grid0.coords t) (st0 t) (st1 t) (st2 t) (st3 t) (st4 t) (st4_whole t) (st5 t) (stage_whole0 0 (cfg0.slots t (0 : Fin 6))) (stage_whole0 1 (cfg0.slots t (1 : Fin 6))) (stage_whole0 2 (cfg0.slots t (2 : Fin 6))) (stage_whole0 3 (cfg0.slots t (3 : Fin 6))) (stage_whole0 5 (cfg0.slots t (5 : Fin 6))))
  unfold defs₀
  rw [Defs.onTc_tc]

/-- What the values must meet at a point. -/
def StepOk (t : Fin grid0.N) (s : Vec F S1024x2048 .bf16) (x : Vec F S1024x2048 .f32) (nw : Vec F S1x2048 .f32) (w : Vec F S1x2048x1536 .bf16) (wg : Vec F S1x2048x128 .bf16) (g : Vec F S1024x128 .f32) : Prop :=
  ((t.val + 1) % 3 ≠ 0 → SG ((t.val + 1) / 3) (sV (grid0.coords t) s x nw)) ∧ ZG t (k0_pay4 (sV (grid0.coords t) s x nw) w) ∧ GG t (gV (grid0.coords t) x nw wg g)

theorem point_ok (t : Fin grid0.N) (x : Vec F S1024x2048 .f32) (nw : Vec F S1x2048 .f32) (w : Vec F S1x2048x1536 .bf16) (wg : Vec F S1x2048x128 .bf16) (z : Vec F S1024x1536 .bf16) (g : Vec F S1024x128 .f32)
    (hGood : ∀ s, (t.val % 3 ≠ 0 → SG (t.val / 3) s) → StepOk SG ZG GG t s x nw w wg g) :
    iprop(Inv c SG t.val ∗ stage c (st0 t) x ∗ stage c (st1 t) nw ∗ stage c (st2 t) w ∗ stage c (st3 t) wg ∗ stage c (st4 t) z ∗ stage c (st5 t) g)
      ⊢ wp frame (wpE (defs₀ (F := F)) 𝒱₀ (c : Thread nD τ) none) Set.univ (bodyP (grid0.coords t) (st0 t) (st1 t) (st2 t) (st3 t) (st4 t) (st4_whole t) (st5 t))
        (fun _ => iprop(Inv c SG (t.val + 1) ∗ stage c (st0 t) x ∗ stage c (st1 t) nw ∗ stage c (st2 t) w ∗ stage c (st3 t) wg
          ∗ (∃ z', ⌜ZG t z'⌝ ∗ stage c (st4 t) z') ∗ ∃ g', ⌜GG t g'⌝ ∗ stage c (st5 t) g')) := by
  unfold Inv
  iintro ⟨⟨⟨%s, %hs, HS⟩, Hr⟩, H0, H1, H2, H3, H4, H5⟩
  obtain ⟨h1, h2, h3⟩ := hGood s hs
  iapply (wp_wand_r _ _ _)
  isplitl [HS H0 H1 H2 H3 H4 H5]
  · iapply (point_run c (grid0.coords t) (st0 t) (st1 t) (st2 t) (st3 t) (st4 t) (st4_whole t) (st5 t) s x nw w wg z g)
    isplitl [HS]; · iexact HS
    isplitl [H0]; · iexact H0
    isplitl [H1]; · iexact H1
    isplitl [H2]; · iexact H2
    isplitl [H3]; · iexact H3
    isplitl [H4]; · iexact H4
    iexact H5
  iintro %_ ⟨HS, H0, H1, H2, H3, H4, H5⟩
  isplitl [HS Hr]
  · isplitl [HS]
    · iexists _
      isplitr
      · ipureintro; exact h1
      iexact HS
    iexact Hr
  isplitl [H0]; · iexact H0
  isplitl [H1]; · iexact H1
  isplitl [H2]; · iexact H2
  isplitl [H3]; · iexact H3
  isplitl [H4]
  · iexists _
    isplitr
    · ipureintro; exact h2
    iexact H4
  iexists _
  isplitr
  · ipureintro; exact h3
  iexact H5

/-- The values of every point meet it. -/
def AllOk : Prop := ∀ (t : Fin grid0.N) x nw w wg g, (rdat c m SG ZG GG).Finds (0 : Fin 6) t x → (rdat c m SG ZG GG).Finds (1 : Fin 6) t nw → (rdat c m SG ZG GG).Finds (2 : Fin 6) t w
  → (rdat c m SG ZG GG).Finds (3 : Fin 6) t wg → (rdat c m SG ZG GG).Finds (5 : Fin 6) t g → ∀ s, (t.val % 3 ≠ 0 → SG (t.val / 3) s) → StepOk SG ZG GG t s x nw w wg g

theorem body_obligation (hGood : AllOk c m SG ZG GG) : (rdat c m SG ZG GG).BodyObligation defs₀ 𝒱₀ () Set.univ := by
  intro t Y hY
  rw [bigSep_W0, bigSep_W0, defs₀_row]
  have h := point_ok c SG ZG GG t (Y (0 : Fin 6)) (Y (1 : Fin 6)) (Y (2 : Fin 6)) (Y (3 : Fin 6)) (Y (4 : Fin 6)) (Y (5 : Fin 6)) (hGood t _ _ _ _ _ (hY (0 : Fin 6)) (hY (1 : Fin 6)) (hY (2 : Fin 6)) (hY (3 : Fin 6)) (hY (5 : Fin 6)))
  show iprop(Inv c SG t.val ∗ (∃ W : Waits sig Unit, ⌜↑W ⊆ (rdat c m SG ZG GG).bound () t.castSucc⌝ ∗ owes (c : Thread nD τ) 0 W)
      ∗ owns (c : Thread nD τ) (st0 t) fullShare (Y (0 : Fin 6)) ∗ owns (c : Thread nD τ) (st1 t) fullShare (Y (1 : Fin 6)) ∗ owns (c : Thread nD τ) (st2 t) fullShare (Y (2 : Fin 6))
      ∗ owns (c : Thread nD τ) (st3 t) fullShare (Y (3 : Fin 6)) ∗ owns (c : Thread nD τ) (st4 t) fullShare (Y (4 : Fin 6)) ∗ owns (c : Thread nD τ) (st5 t) fullShare (Y (5 : Fin 6))) ⊢
    wp frame (wpE (defs₀ (F := F)) 𝒱₀ (c : Thread nD τ) none) Set.univ _ (fun _ =>
      iprop(Inv c SG (t.val + 1) ∗ (∃ W : Waits sig Unit, ⌜↑W ⊆ (rdat c m SG ZG GG).bound () t.succ⌝ ∗ owes (c : Thread nD τ) 0 W)
      ∗ (∃ X, ⌜aft ZG GG 0 t (Y (0 : Fin 6)) X⌝ ∗ owns (c : Thread nD τ) (st0 t) fullShare X) ∗ (∃ X, ⌜aft ZG GG 1 t (Y (1 : Fin 6)) X⌝ ∗ owns (c : Thread nD τ) (st1 t) fullShare X)
      ∗ (∃ X, ⌜aft ZG GG 2 t (Y (2 : Fin 6)) X⌝ ∗ owns (c : Thread nD τ) (st2 t) fullShare X) ∗ (∃ X, ⌜aft ZG GG 3 t (Y (3 : Fin 6)) X⌝ ∗ owns (c : Thread nD τ) (st3 t) fullShare X)
      ∗ (∃ X, ⌜aft ZG GG 4 t (Y (4 : Fin 6)) X⌝ ∗ owns (c : Thread nD τ) (st4 t) fullShare X) ∗ ∃ X, ⌜aft ZG GG 5 t (Y (5 : Fin 6)) X⌝ ∗ owns (c : Thread nD τ) (st5 t) fullShare X))
  iintro ⟨HI, ⟨%W, %hW, Ho⟩, H0, H1, H2, H3, H4, H5⟩
  iapply (wp_wand_r _ _ _)
  isplitl [HI H0 H1 H2 H3 H4 H5]
  · iapply h
    isplitl [HI]; · iexact HI
    isplitl [H0]; · iapply (rep_of_owns (c : Thread nD τ) (st0 t) fullShare (Y (0 : Fin 6))); iexact H0
    isplitl [H1]; · iapply (rep_of_owns (c : Thread nD τ) (st1 t) fullShare (Y (1 : Fin 6))); iexact H1
    isplitl [H2]; · iapply (rep_of_owns (c : Thread nD τ) (st2 t) fullShare (Y (2 : Fin 6))); iexact H2
    isplitl [H3]; · iapply (rep_of_owns (c : Thread nD τ) (st3 t) fullShare (Y (3 : Fin 6))); iexact H3
    isplitl [H4]; · iapply (rep_of_owns (c : Thread nD τ) (st4 t) fullShare (Y (4 : Fin 6))); iexact H4
    iapply (rep_of_owns (c : Thread nD τ) (st5 t) fullShare (Y (5 : Fin 6))); iexact H5
  iintro %_ ⟨HI, H0, H1, H2, H3, ⟨%z', %hz, H4⟩, %g', %hg, H5⟩
  isplitl [HI]; · iexact HI
  isplitl [Ho]
  · iexists W
    isplitr
    · ipureintro; exact fun _ _ => Or.inl trivial
    iexact Ho
  isplitl [H0]
  · iexists (Y (0 : Fin 6))
    isplitr
    · ipureintro; exact rfl
    iapply (owns_of_rep (c : Thread nD τ) (st0 t) fullShare (Y (0 : Fin 6))); iexact H0
  isplitl [H1]
  · iexists (Y (1 : Fin 6))
    isplitr
    · ipureintro; exact rfl
    iapply (owns_of_rep (c : Thread nD τ) (st1 t) fullShare (Y (1 : Fin 6))); iexact H1
  isplitl [H2]
  · iexists (Y (2 : Fin 6))
    isplitr
    · ipureintro; exact rfl
    iapply (owns_of_rep (c : Thread nD τ) (st2 t) fullShare (Y (2 : Fin 6))); iexact H2
  isplitl [H3]
  · iexists (Y (3 : Fin 6))
    isplitr
    · ipureintro; exact rfl
    iapply (owns_of_rep (c : Thread nD τ) (st3 t) fullShare (Y (3 : Fin 6))); iexact H3
  isplitl [H4]
  · iexists z'
    isplitr
    · ipureintro; exact hz
    iapply (owns_of_rep (c : Thread nD τ) (st4 t) fullShare z'); iexact H4
  iexists g'
  isplitr
  · ipureintro; exact hg
  iapply (owns_of_rep (c : Thread nD τ) (st5 t) fullShare g'); iexact H5

/-! ## The first and last points of the region -/

theorem inv_first : (Pipeline.ΦA spec0 c : sProp 𝕄) ⊢ Inv c SG 0 := by
  unfold Pipeline.ΦA Inv
  rw [scopedRest0_eq]
  iintro ⟨⟨%f, H⟩, Hr⟩
  isplitl [H]
  · iexists f
    isplitr
    · ipureintro; exact fun h => absurd rfl h
    iapply (rep_of_eq c SC f f rfl)
    rw [show (SC : Memref sig .tc .vmem S1024x2048 .bf16).view.set = Finset.univ from View.set_whole _]
    iexact H
  iexact Hr

theorem whole_of (s : Vec F S1024x2048 .bf16) : (stage c SC s : sProp 𝕄) ⊢ iprop(∃ f, (c : Thread nD τ).loc cc0_scratch0 ↦{fullShare} f) := by
  unfold stage
  rw [show (SC : Memref sig .tc .vmem S1024x2048 .bf16).view.set = Finset.univ from View.set_whole _]
  iintro H
  iexists _
  iexact H

theorem inv_last (n : ℕ) : Inv c SG n ⊢ (Pipeline.ΦA spec0 c : sProp 𝕄) := by
  unfold Pipeline.ΦA Inv
  rw [scopedRest0_eq]
  iintro ⟨⟨%s, %_, H⟩, Hr⟩
  isplitl [H]
  · iapply (whole_of c s)
    iexact H
  iexact Hr

end Dat

/-! ## The launch -/

section Launch
variable (m : (ℓ : Loc nD τ sig) → Buf (Elt F) ℓ)
variable (SG : ℕ → Vec F S1024x2048 .bf16 → Prop) (ZG : Fin grid0.N → Vec F S1024x1536 .bf16 → Prop) (GG : Fin grid0.N → Vec F S1024x128 .f32 → Prop)

/-- What memory holds at launch. -/
abbrev V (c : Dev nD) (b : Ref sig .tc) : Buf (Elt F) ((c : Thread nD τ).loc b) := m ((c : Thread nD τ).loc b)

set_option backward.isDefEq.respectTransparency.types false in
theorem run_main (ρ : Dev nD → PrngReg) (hGood : ∀ c, AllOk c m SG ZG GG) :
    θ_run (defs (F := F)) (onTc (τ := τ) main) ⟨m, fun _ => 0, ρ⟩
      (fun r => Pipeline.RDat.FramePost cfg0 (fun c => rdat c m SG ZG GG) (V m) r ∧ r.2.sem = fun _ => 0) :=
  Pipeline.RDat.θ_run_frame_track cfgs 0 launch0 defs₀ 𝒱₀ (fun c => rdat c m SG ZG GG) m ρ main
    (fun c => body_obligation c m SG ZG GG (hGood c))
    (fun c w => Pipeline.RDat.share_full _ (fun _ => rfl) w) (fun _ _ => rfl) (V m)
    (Pipeline.hmain_region cfgs 0 defs₀ 𝒱₀ m main fun c => (main_chain c).trans rfl)
    (fun _ _ => rfl)
    (fun c => inv_first c SG) (fun c => inv_last c SG _)
    _ (fun _ h => h)

/-- Every argument unchanged. -/
def Kept (r : PUnit × MemSt nD τ sig (Elt F)) : Prop :=
  ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)

theorem kept_of (r : PUnit × MemSt nD τ sig (Elt F)) (h : Pipeline.RDat.FramePost cfg0 (fun c => rdat c m SG ZG GG) (V m) r) : Kept m r :=
  fun c => ⟨Pipeline.RDat.FramePost.arr_in h c (0 : Fin 6) rfl, Pipeline.RDat.FramePost.arr_in h c (1 : Fin 6) rfl, Pipeline.RDat.FramePost.arr_in h c (2 : Fin 6) rfl, Pipeline.RDat.FramePost.arr_in h c (3 : Fin 6) rfl⟩

/-- The frame: from any memory, every argument is left as it was and every semaphore at zero. -/
theorem frame_all (ρ : Dev nD → PrngReg) :
    θ_run (defs (F := F)) (onTc (τ := τ) main) ⟨m, fun _ => 0, ρ⟩ (fun r => Kept m r ∧ r.2.sem = fun _ => 0) :=
  (θ_run defs _ _).mono (fun _ h => ⟨kept_of m (fun _ _ => True) (fun _ _ => True) (fun _ _ => True) _ h.1, h.2⟩)
    (run_main m (fun _ _ => True) (fun _ _ => True) (fun _ _ => True) ρ (fun _ _ _ _ _ _ _ _ _ _ _ _ _ _ => ⟨fun _ => trivial, trivial, trivial⟩))
end Launch
end Cert.Inproj

end
-- ==== Proof.ProjectRef.lean ====
/-
The projecting call's reference, element by element, over the extended reals.
-/
module

public import proofs.«01_k».proof.Proof.Vals
public import proofs.«01_k».proof.Proof.Gen.ProjectReferenceIdeal
public import proofs.«01_k».proof.Proof.Gen.ProjectReferenceIdeal.Run

@[expose] public section

noncomputable section

namespace Cert.Inproj

open Idealize.ShloMosaic Idealize.SL.Sem
open Idealize.ShloMosaic.TcCoe

/-- A row over its root mean square, times the weights. -/
def nrm (x w : Fin 2048 → EReal) (k : Fin 2048) : EReal :=
  x k * Ideal.rsqrt (Ideal.div (∑ q : Fin 2048, x q * x q) (Ideal.ofBits .f32 0x45000000#32) + Ideal.ofBits .f32 0x358637BD#32) * w k

namespace Ref
open Cert.ProjectReferenceIdeal Cert.ProjectReferenceIdeal.Gen
variable (a0 : FVec Ideal S16384x2048 .f32) (a1 : FVec Ideal S1x2048 .f32) (a2 : FVec Ideal S2x2048x4632 .bf16) (a3 : FVec Ideal S2x2048x128 .bf16)
/-- The reference's normalised rows. -/
def xn : FVec Ideal S16384x2048 .f32 := mulf (mulf a0 (broadcastInDim S16384x2048 ![0,1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0,1] bcast_S1x2048_S16384x2048_0_1 a1)
/-- The reference's two outputs. -/
def zOut : FVec Ideal S16384x4608 .bf16 := truncf .bf16 (Host.dotGeneral dot_S16384x2048_S2048x4608_S16384x4608_1_0_0_1_n_n none (xn a0 a1) (extf .f32 (shapeCast S2048x4608 (extractStridedSlice S1x2048x4608 ![0,0,0] a2 slices_S2x2048x4632_S1x2048x4608_0_0_0) shapeCasts_S1x2048x4608_S2048x4608) bitsLt_bf16_f32)) bitsLt_bf16_f32
def gOut : FVec Ideal S16384x128 .f32 := Host.dotGeneral dot_S16384x2048_S2048x128_S16384x128_1_0_0_1_n_n none (xn a0 a1) (extf .f32 (shapeCast S2048x128 (extractStridedSlice S1x2048x128 ![0,0,0] a3 slices_S2x2048x128_S1x2048x128_0_0_0) shapeCasts_S1x2048x128_S2048x128) bitsLt_bf16_f32)
theorem xn_at (r : Fin 16384) (k : Fin 2048) : xn a0 a1 (ix2 r k) = nrm (fun q => a0 (ix2 r q)) (fun q => a1 (ix2 (0 : Fin 1) q)) k := by
  pointwise! [xn]
theorem z_at (r : Fin 16384) (k : Fin 4608) : zOut a0 a1 a2 (ix2 r k) = ∑ q : Fin 2048, nrm (fun q => a0 (ix2 r q)) (fun q => a1 (ix2 (0 : Fin 1) q)) q * a2 (ix3 (0 : Fin 2) q (⟨k.val, by omega⟩ : Fin 4632)) := by
  simp only [← xn_at]
  generalize hX : xn a0 a1 = X
  unfold zOut
  rw [hX]
  pointwise!
theorem g_at (r : Fin 16384) (k : Fin 128) : gOut a0 a1 a3 (ix2 r k) = ∑ q : Fin 2048, nrm (fun q => a0 (ix2 r q)) (fun q => a1 (ix2 (0 : Fin 1) q)) q * a3 (ix3 (0 : Fin 2) q k) := by
  simp only [← xn_at]
  generalize hX : xn a0 a1 = X
  unfold gOut
  rw [hX]
  pointwise!
end Ref

end Cert.Inproj
end
-- ==== Proof.ProjectValues.lean ====
/-
What the projecting call leaves in its outputs, over the extended reals.
-/
module

public import proofs.«01_k».proof.Proof.ProjectRegion
public import proofs.«01_k».proof.Proof.Writes
public import Idealize.ShloMosaic.Lib.Pipeline.Value
public import Idealize.ShloMosaic.Lib.Pipeline.ClipFacts
public import proofs.«01_k».proof.Proof.ProjectRef

@[expose] public section

noncomputable section

namespace Cert.Inproj

open Cert.ProjectIdeal Cert.ProjectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Experts (flush_open arr_flush arr_keep write_at write_off)

theorem pay2_at (x : Vec Ideal S1024x2048 .f32) (nw : Vec Ideal S1x2048 .f32) (p : Fin 1024) (k : Fin 2048) :
    k0_pay2 x nw (ix2 p k) = nrm (fun q => x (ix2 p q)) (fun q => nw (ix2 (0 : Fin 1) q)) k := by
  pointwise! [k0_pay2, k0_pay1]
theorem pay4_at (s : Vec Ideal S1024x2048 .bf16) (w : Vec Ideal S1x2048x1536 .bf16) (p : Fin 1024) (k : Fin 1536) :
    k0_pay4 s w (ix2 p k) = ∑ q : Fin 2048, s (ix2 p q) * w (ix3 (0 : Fin 1) q k) := by
  pointwise! [k0_pay4]
theorem pay3_at (x : Vec Ideal S1024x2048 .f32) (nw : Vec Ideal S1x2048 .f32) (w : Vec Ideal S1x2048x128 .bf16) (p : Fin 1024) (k : Fin 128) :
    k0_pay3 x nw w (ix2 p k) = ∑ q : Fin 2048, nrm (fun q => x (ix2 p q)) (fun q => nw (ix2 (0 : Fin 1) q)) q * w (ix3 (0 : Fin 1) q k) := by
  pointwise! [k0_pay3, k0_pay1]

/-! ## What the arrays are to hold -/

abbrev Mem := (ℓ : Loc nD τ sig) → Buf (Elt Ideal) ℓ

section
variable (c : Dev nD) (m : Mem)

abbrev A0 : FVec Ideal S16384x2048 .f32 := m ((c : Thread nD τ).loc main_arg0)
abbrev A1 : FVec Ideal S1x2048 .f32 := m ((c : Thread nD τ).loc main_arg1)
abbrev A2 : FVec Ideal S2x2048x4632 .bf16 := m ((c : Thread nD τ).loc main_arg2)
abbrev A3 : FVec Ideal S2x2048x128 .bf16 := m ((c : Thread nD τ).loc main_arg3)
/-- A normalised row of the array. -/
def xrow (r : Fin 16384) (k : Fin 2048) : EReal := nrm (fun q => A0 c m (ix2 r q)) (fun q => A1 c m (ix2 (0 : Fin 1) q)) k
/-- The reference's two outputs of a memory. -/
def zS : FVec Ideal S16384x4608 .bf16 := Ref.zOut (A0 c m) (A1 c m) (A2 c m)
def gS : FVec Ideal S16384x128 .f32 := Ref.gOut (A0 c m) (A1 c m) (A3 c m)
theorem zS_at (r : Fin 16384) (k : Fin 4608) : zS c m (ix2 r k) = ∑ q : Fin 2048, xrow c m r q * A2 c m (ix3 (0 : Fin 2) q (⟨k.val, by omega⟩ : Fin 4632)) :=
  Ref.z_at _ _ _ r k
theorem gS_at (r : Fin 16384) (k : Fin 128) : gS c m (ix2 r k) = ∑ q : Fin 2048, xrow c m r q * A3 c m (ix3 (0 : Fin 2) q k) :=
  Ref.g_at _ _ _ r k

/-- The scratch of a row block, a point's block of columns, a row block's gates. -/
def SG (n : ℕ) (s : Vec Ideal S1024x2048 .bf16) : Prop := ∀ (p : Fin 1024) k (r : Fin 16384), r.val = n * 1024 + p.val → s (ix2 p k) = xrow c m r k
def ZG (t : Fin grid0.N) (X : Vec Ideal S1024x1536 .bf16) : Prop :=
  ∀ (p : Fin 1024) (q : Fin 1536) (r : Fin 16384) (k : Fin 4608), r.val = t.val / 3 * 1024 + p.val → k.val = t.val % 3 * 1536 + q.val → X (ix2 p q) = zS c m (ix2 r k)
def GG (t : Fin grid0.N) (X : Vec Ideal S1024x128 .f32) : Prop :=
  ∀ (p : Fin 1024) (l : Fin 128) (r : Fin 16384), r.val = t.val / 3 * 1024 + p.val → X (ix2 p l) = gS c m (ix2 r l)

abbrev rd := rdat c m (SG c m) (ZG c m) (GG c m)

/-! ## The blocks' places -/

theorem lt48 (t : Fin grid0.N) : t.val < 48 := t.isLt
theorem co0 (t : Fin grid0.N) : (grid0.coords t 0).val = t.val / 3 := by
  revert t; decide
theorem co1 (t : Fin grid0.N) : (grid0.coords t 1).val = t.val % 3 := by
  revert t; decide
theorem cond_iff (t : Fin grid0.N) : k0_cond1 (grid0.coords t) = 1#1 ↔ t.val % 3 = 0 := by
  revert t; decide
theorem word_small (n : ℕ) (h : n < 48) : (BitVec.ofNat 32 n).toNat = n := by
  rw [BitVec.toNat_ofNat]; omega
theorem w0 (t : Fin grid0.N) : (BitVec.ofNat 32 (grid0.coords t 0).val).toNat = t.val / 3 := by
  rw [co0]; exact word_small _ (by have := lt48 t; omega)
theorem w1 (t : Fin grid0.N) : (BitVec.ofNat 32 (grid0.coords t 1).val).toNat = t.val % 3 := by
  rw [co1]; exact word_small _ (by omega)

theorem index_0 (t : Fin grid0.N) (a : Fin 2) : (cfg0.win 0).index t a = (![t.val / 3, 0] : Fin 2 → ℕ) a := by
  match a with
  | ⟨0, _⟩ => exact w0 t
  | ⟨1, _⟩ => rfl
theorem index_1 (t : Fin grid0.N) (a : Fin 2) : (cfg0.win 1).index t a = (![0, 0] : Fin 2 → ℕ) a := by
  match a with
  | ⟨0, _⟩ => rfl
  | ⟨1, _⟩ => rfl
theorem index_2 (t : Fin grid0.N) (a : Fin 3) : (cfg0.win 2).index t a = (![0, 0, t.val % 3] : Fin 3 → ℕ) a := by
  match a with
  | ⟨0, _⟩ => rfl
  | ⟨1, _⟩ => rfl
  | ⟨2, _⟩ => exact w1 t
theorem index_3 (t : Fin grid0.N) (a : Fin 3) : (cfg0.win 3).index t a = (![0, 0, 0] : Fin 3 → ℕ) a := by
  match a with
  | ⟨0, _⟩ => rfl
  | ⟨1, _⟩ => rfl
  | ⟨2, _⟩ => rfl
theorem index_4 (t : Fin grid0.N) (a : Fin 2) : (cfg0.win 4).index t a = (![t.val / 3, t.val % 3] : Fin 2 → ℕ) a := by
  match a with
  | ⟨0, _⟩ => exact w0 t
  | ⟨1, _⟩ => exact w1 t
theorem index_5 (t : Fin grid0.N) (a : Fin 2) : (cfg0.win 5).index t a = (![t.val / 3, 0] : Fin 2 → ℕ) a := by
  match a with
  | ⟨0, _⟩ => exact w0 t
  | ⟨1, _⟩ => rfl

theorem finds_0 (t : Fin grid0.N) (x : Vec Ideal S1024x2048 .f32) (hx : (rd c m).Finds (0 : Fin 6) t x) (p : Fin 1024) (k : Fin 2048) (r : Fin 16384) (hr : r.val = t.val / 3 * 1024 + p.val) :
    x (ix2 p k) = A0 c m (ix2 r k) := by
  obtain ⟨d, rfl⟩ := Pipeline.RDat.finds_in_eq_fetched (rd c m) (0 : Fin 6) rfl (fun _ _ _ => rfl) (fun _ _ _ h => h) t x hx
  show A0 c m (((cfg0.win 0).rect t).emb (ix2 p k)) = _
  refine congrArg _ ?_
  funext a
  refine Fin.ext ?_
  refine (Pipeline.Window.rect_emb_val (cfg0.win 0) t (ix2 p k) a rfl).trans ?_
  refine (congrArg (fun n : ℕ => n * _ + _) (index_0 t a)).trans ?_
  match a with
  | ⟨0, _⟩ => exact hr.symm
  | ⟨1, _⟩ => show 0 * 2048 + k.val = k.val; omega
theorem finds_1 (t : Fin grid0.N) (x : Vec Ideal S1x2048 .f32) (hx : (rd c m).Finds (1 : Fin 6) t x) (k : Fin 2048) :
    x (ix2 (0 : Fin 1) k) = A1 c m (ix2 (0 : Fin 1) k) := by
  obtain ⟨d, rfl⟩ := Pipeline.RDat.finds_in_eq_fetched (rd c m) (1 : Fin 6) rfl (fun _ _ _ => rfl) (fun _ _ _ h => h) t x hx
  show A1 c m (((cfg0.win 1).rect t).emb (ix2 (0 : Fin 1) k)) = _
  refine congrArg _ ?_
  funext a
  refine Fin.ext ?_
  refine (Pipeline.Window.rect_emb_val (cfg0.win 1) t (ix2 (0 : Fin 1) k) a rfl).trans ?_
  refine (congrArg (fun n : ℕ => n * _ + _) (index_1 t a)).trans ?_
  match a with
  | ⟨0, _⟩ => rfl
  | ⟨1, _⟩ => show 0 * 2048 + k.val = k.val; omega
theorem finds_3 (t : Fin grid0.N) (x : Vec Ideal S1x2048x128 .bf16) (hx : (rd c m).Finds (3 : Fin 6) t x) (q : Fin 2048) (l : Fin 128) :
    x (ix3 (0 : Fin 1) q l) = A3 c m (ix3 (0 : Fin 2) q l) := by
  obtain ⟨d, rfl⟩ := Pipeline.RDat.finds_in_eq_fetched (rd c m) (3 : Fin 6) rfl (fun _ _ _ => rfl) (fun _ _ _ h => h) t x hx
  show A3 c m (((cfg0.win 3).rect t).emb (ix3 (0 : Fin 1) q l)) = _
  refine congrArg _ ?_
  funext a
  refine Fin.ext ?_
  refine (Pipeline.Window.rect_emb_val (cfg0.win 3) t (ix3 (0 : Fin 1) q l) a rfl).trans ?_
  refine (congrArg (fun n : ℕ => n * _ + _) (index_3 t a)).trans ?_
  match a with
  | ⟨0, _⟩ => rfl
  | ⟨1, _⟩ => show 0 * 2048 + q.val = q.val; omega
  | ⟨2, _⟩ => show 0 * 128 + l.val = l.val; omega

/-- No block of the weights reaches past the array's end. -/
theorem clip_2 (t : Fin grid0.N) (a : Fin 3) : (cfg0.win 2).clip (grid0.coords t) a = none := by
  have h2 := index_2 t a
  match a with
  | ⟨0, _⟩ => rfl
  | ⟨1, _⟩ => rfl
  | ⟨2, _⟩ =>
    refine Pipeline.Clip.of_eq_none ?_
    change (cfg0.win 2).index t 2 = t.val % 3 at h2
    show ((cfg0.win 2).index t 2 + 1) * 1536 ≤ 4632
    rw [h2]; omega
theorem finds_2 (t : Fin grid0.N) (x : Vec Ideal S1x2048x1536 .bf16) (hx : (rd c m).Finds (2 : Fin 6) t x) (q : Fin 2048) (k : Fin 1536) (k' : Fin 4632) (hk : k'.val = t.val % 3 * 1536 + k.val) :
    x (ix3 (0 : Fin 1) q k) = A2 c m (ix3 (0 : Fin 2) q k') := by
  obtain ⟨d, rfl⟩ := Pipeline.RDat.finds_in_eq_fetched (rd c m) (2 : Fin 6) rfl (fun t t' _ => by funext a; rw [clip_2 t a, clip_2 t' a]) (fun _ _ _ h => h) t x hx
  have hm : (cfg0.win 2).moved (grid0.coords t) (ix3 (0 : Fin 1) q k) = true := by
    refine ((cfg0.win 2).moved_iff _ _).mpr fun a => ?_
    unfold Pipeline.Window.xsize
    rw [clip_2 t a]
    exact ((ix3 (0 : Fin 1) q k : S1x2048x1536.Idx) a).isLt
  unfold Pipeline.RDat.fetched
  refine (dif_pos hm).trans ?_
  show A2 c m (((cfg0.win 2).rect t).emb _) = _
  refine congrArg _ ?_
  funext a
  refine Fin.ext ?_
  refine (Pipeline.Window.rect_emb_val (cfg0.win 2) t _ a rfl).trans ?_
  refine (congrArg (fun n : ℕ => n * _ + _) (index_2 t a)).trans ?_
  match a with
  | ⟨0, _⟩ => rfl
  | ⟨1, _⟩ => show 0 * 2048 + q.val = q.val; omega
  | ⟨2, _⟩ => exact hk.symm

/-! ## A point meets what it must -/

theorem flush_5 (t : Fin grid0.N) : (cfg0.win 5).flush t = true ↔ t.val % 3 = 2 := by
  have h48 := lt48 t
  refine (flush_open (cfg0.win 5) rfl t).trans ⟨?_, fun h => ?_⟩
  · rintro (h | ⟨h, hne⟩)
    · change t.val + 1 = 48 at h; omega
    · by_contra h2
      refine hne (funext fun a => ?_)
      rw [index_5, index_5]
      rw [show (t.val + 1) / 3 = t.val / 3 by omega]
  · by_cases h' : t.val + 1 < grid0.N
    · refine .inr ⟨h', fun e => ?_⟩
      have e0 := congrFun e (0 : Fin 2)
      rw [index_5, index_5] at e0
      change (t.val + 1) / 3 = t.val / 3 at e0
      omega
    · left; show t.val + 1 = 48; change ¬ t.val + 1 < 48 at h'; omega
theorem flush_4 (t : Fin grid0.N) : (cfg0.win 4).flush t = true := by
  have h48 := lt48 t
  refine (flush_open (cfg0.win 4) rfl t).2 ?_
  by_cases h' : t.val + 1 < grid0.N
  · refine .inr ⟨h', fun e => ?_⟩
    have e0 := congrFun e (1 : Fin 2)
    rw [index_4, index_4] at e0
    change (t.val + 1) % 3 = t.val % 3 at e0
    omega
  · left; show t.val + 1 = 48; change ¬ t.val + 1 < 48 at h'; omega

theorem sV_ok (t : Fin grid0.N) x nw (hx : (rd c m).Finds (0 : Fin 6) t x) (hn : (rd c m).Finds (1 : Fin 6) t nw) (s : Vec Ideal S1024x2048 .bf16) (hs : t.val % 3 ≠ 0 → SG c m (t.val / 3) s) :
    SG c m (t.val / 3) (sV (grid0.coords t) s x nw) := by
  unfold sV
  split
  · intro p k r hr
    refine (pay2_at x nw p k).trans ?_
    unfold xrow
    exact congrArg₂ (fun a b => nrm a b k) (funext fun q => finds_0 c m t x hx p q r hr) (funext fun q => finds_1 c m t nw hn q)
  · next h => exact hs fun e => h ((cond_iff t).2 e)

theorem all_ok : AllOk c m (SG c m) (ZG c m) (GG c m) := by
  intro t x nw w wg g hx hn hw hu hg s hs
  have h48 := lt48 t
  have hS := sV_ok c m t x nw hx hn s hs
  refine ⟨fun h => ?_, fun p q r k hr hk => ?_, ?_⟩
  · rw [show (t.val + 1) / 3 = t.val / 3 by omega]
    exact hS
  · refine (pay4_at _ w p q).trans ((Finset.sum_congr rfl fun j _ => ?_).trans (zS_at c m r k).symm)
    rw [hS p j r hr, finds_2 c m t w hw j q ⟨k.val, by omega⟩ hk]
  · unfold gV
    split
    · intro p l r hr
      refine (pay3_at x nw wg p l).trans ((Finset.sum_congr rfl fun j _ => ?_).trans (gS_at c m r l).symm)
      rw [finds_3 c m t wg hu j l]
      refine congrArg (· * _) ?_
      unfold xrow
      exact congrArg₂ (fun a b => nrm a b j) (funext fun q => finds_0 c m t x hx p q r hr) (funext fun q => finds_1 c m t nw hn q)
    · next h =>
      have h3 : t.val % 3 ≠ 0 := fun e => h ((cond_iff t).2 e)
      have hfe : (cfg0.win 5).fetch t = false := Pipeline.Window.fetch_out _ rfl _
      rcases ((rd c m).finds_of_pos (w := (5 : Fin 6)) hfe (by omega) g).1 hg with hf | ⟨Y, hY, hL⟩
      · have := (flush_5 _).1 hf
        change (t.val - 1) % 3 = 2 at this
        omega
      · intro p l r hr
        refine (show GG c m ⟨t.val - 1, _⟩ g from hL) p l r ?_
        show r.val = (t.val - 1) / 3 * 1024 + p.val
        rw [hr, show (t.val - 1) / 3 = t.val / 3 by omega]

/-! ## The outputs' blocks -/

theorem emb_4 (t : Fin grid0.N) (j : S1024x1536.Idx) (r : Fin 16384) (k : Fin 4608) (hr : r.val = t.val / 3 * 1024 + (j 0).val) (hk : k.val = t.val % 3 * 1536 + (j 1).val) :
    (((cfg0.win 4).blk t).view.emb j : S16384x4608.Idx) = ix2 r k := by
  show ((cfg0.win 4).rect t).emb j = _
  funext a
  refine Fin.ext ?_
  refine (Pipeline.Window.rect_emb_val (cfg0.win 4) t j a rfl).trans ?_
  refine (congrArg (fun n : ℕ => n * _ + _) (index_4 t a)).trans ?_
  match a with
  | ⟨0, _⟩ => exact hr.symm
  | ⟨1, _⟩ => exact hk.symm
theorem emb_5 (t : Fin grid0.N) (j : S1024x128.Idx) (r : Fin 16384) (hr : r.val = t.val / 3 * 1024 + (j 0).val) :
    (((cfg0.win 5).blk t).view.emb j : S16384x128.Idx) = ix2 r (j 1) := by
  show ((cfg0.win 5).rect t).emb j = _
  funext a
  refine Fin.ext ?_
  refine (Pipeline.Window.rect_emb_val (cfg0.win 5) t j a rfl).trans ?_
  refine (congrArg (fun n : ℕ => n * _ + _) (index_5 t a)).trans ?_
  match a with
  | ⟨0, _⟩ => exact hr.symm
  | ⟨1, _⟩ => show 0 * 128 + (j 1).val = (j 1).val; omega

/-- The blocks written so far are the reference's. -/
theorem arr_4 (n : ℕ) (hn : n ≤ 48) (G : FVec Ideal S16384x4608 .bf16) (hG : (rd c m).ArrAt (4 : Fin 6) n G) (r : Fin 16384) (k : Fin 4608)
    (hu : r.val / 1024 * 3 + k.val / 1536 < n) : G (ix2 r k) = zS c m (ix2 r k) := by
  induction n generalizing G with
  | zero => omega
  | succ n ih =>
    have hN : n < cfg0.N := by
      show n < 48
      omega
    obtain ⟨G₀, X, hG₀, ⟨Y, hY, hX⟩, rfl⟩ := arr_flush (rd c m) 4 n hN (flush_4 _) G hG
    have good : ZG c m ⟨n, hN⟩ X := hX
    have hr := r.isLt
    have hk := k.isLt
    by_cases hun : r.val / 1024 * 3 + k.val / 1536 = n
    · have e0 : r.val = n / 3 * 1024 + r.val % 1024 := by omega
      have e1 : k.val = n % 3 * 1536 + k.val % 1536 := by omega
      have hi := emb_4 ⟨n, hN⟩ (ix2 (⟨r.val % 1024, Nat.mod_lt _ (by decide)⟩ : Fin 1024) (⟨k.val % 1536, Nat.mod_lt _ (by decide)⟩ : Fin 1536)) r k e0 e1
      refine (write_at ((cfg0.win 4).blk ⟨n, hN⟩).view G₀ ((cfg0.win 4).cut (grid0.coords ⟨n, hN⟩) X) _ _ hi).trans ?_
      exact good _ _ r k e0 e1
    · refine Eq.trans ?_ (ih (by omega) G₀ hG₀ (by omega))
      refine write_off ((cfg0.win 4).blk ⟨n, hN⟩).view G₀ ((cfg0.win 4).cut (grid0.coords ⟨n, hN⟩) X) _ fun y hy => ?_
      have h0 : ((show S1024x1536.Idx from y) 0).val < 1024 := ((show S1024x1536.Idx from y) 0).isLt
      have h1 : ((show S1024x1536.Idx from y) 1).val < 1536 := ((show S1024x1536.Idx from y) 1).isLt
      have he := (emb_4 ⟨n, hN⟩ y ⟨n / 3 * 1024 + ((show S1024x1536.Idx from y) 0).val, by omega⟩ ⟨n % 3 * 1536 + ((show S1024x1536.Idx from y) 1).val, by omega⟩ rfl rfl).symm.trans hy
      have a0 := congrArg (fun i : S16384x4608.Idx => (i 0).val) he
      have a1 := congrArg (fun i : S16384x4608.Idx => (i 1).val) he
      change n / 3 * 1024 + ((show S1024x1536.Idx from y) 0).val = r.val at a0
      change n % 3 * 1536 + ((show S1024x1536.Idx from y) 1).val = k.val at a1
      omega
theorem arr_5 (n : ℕ) (hn : n ≤ 48) (G : FVec Ideal S16384x128 .f32) (hG : (rd c m).ArrAt (5 : Fin 6) n G) (r : Fin 16384) (l : Fin 128)
    (hu : r.val / 1024 * 3 + 2 < n) : G (ix2 r l) = gS c m (ix2 r l) := by
  induction n generalizing G with
  | zero => omega
  | succ n ih =>
    have hN : n < cfg0.N := by
      show n < 48
      omega
    have hr := r.isLt
    by_cases hf : (cfg0.win 5).flush ⟨n, hN⟩ = true
    · obtain ⟨G₀, X, hG₀, ⟨Y, hY, hX⟩, rfl⟩ := arr_flush (rd c m) 5 n hN hf G hG
      have good : GG c m ⟨n, hN⟩ X := hX
      by_cases hun : r.val / 1024 * 3 + 2 = n
      · have e0 : r.val = n / 3 * 1024 + r.val % 1024 := by omega
        have hi := emb_5 ⟨n, hN⟩ (ix2 (⟨r.val % 1024, Nat.mod_lt _ (by decide)⟩ : Fin 1024) l) r e0
        refine (write_at ((cfg0.win 5).blk ⟨n, hN⟩).view G₀ ((cfg0.win 5).cut (grid0.coords ⟨n, hN⟩) X) _ _ hi).trans ?_
        exact good _ _ r e0
      · refine Eq.trans ?_ (ih (by omega) G₀ hG₀ (by omega))
        refine write_off ((cfg0.win 5).blk ⟨n, hN⟩).view G₀ ((cfg0.win 5).cut (grid0.coords ⟨n, hN⟩) X) _ fun y hy => ?_
        have h0 : ((show S1024x128.Idx from y) 0).val < 1024 := ((show S1024x128.Idx from y) 0).isLt
        have he := (emb_5 ⟨n, hN⟩ y ⟨n / 3 * 1024 + ((show S1024x128.Idx from y) 0).val, by omega⟩ rfl).symm.trans hy
        have a0 := congrArg (fun i : S16384x128.Idx => (i 0).val) he
        change n / 3 * 1024 + ((show S1024x128.Idx from y) 0).val = r.val at a0
        have h2 : n % 3 = 2 := (flush_5 ⟨n, hN⟩).1 hf
        omega
    · replace hG := arr_keep (rd c m) 5 n hN hf G hG
      have hne : r.val / 1024 * 3 + 2 ≠ n := fun e => hf ((flush_5 ⟨n, hN⟩).2 (show n % 3 = 2 by omega))
      exact ih (by omega) G hG (by omega)

theorem ix2_self {a b : ℕ} (i : (⟨2, ![a, b]⟩ : Shape).Idx) : (ix2 (i 0) (i 1) : (⟨2, ![a, b]⟩ : Shape).Idx) = i := by
  funext x
  match x with
  | ⟨0, _⟩ => rfl
  | ⟨1, _⟩ => rfl
theorem final_4 (G : FVec Ideal S16384x4608 .bf16) (hG : (rd c m).ArrAt (4 : Fin 6) cfg0.N G) : G = zS c m := by
  funext i
  have h0 : (i 0).val < 16384 := (i 0).isLt
  have h1 : (i 1).val < 4608 := (i 1).isLt
  have h := arr_4 c m 48 (le_refl _) G hG (i 0) (i 1) (by omega)
  rwa [show (ix2 (i 0) (i 1) : S16384x4608.Idx) = i from ix2_self i] at h
theorem final_5 (G : FVec Ideal S16384x128 .f32) (hG : (rd c m).ArrAt (5 : Fin 6) cfg0.N G) : G = gS c m := by
  funext i
  have h0 : (i 0).val < 16384 := (i 0).isLt
  have h := arr_5 c m 48 (le_refl _) G hG (i 0) (i 1) (by omega)
  rwa [show (ix2 (i 0) (i 1) : S16384x128.Idx) = i from ix2_self i] at h

/-- The region ends with the reference's outputs in place and every argument as it was. -/
theorem run_value (ρ : Dev nD → PrngReg) :
    θ_run (defs (F := Ideal)) (onTc (τ := τ) main) ⟨m, fun _ => 0, ρ⟩
      (fun r => (∀ c : Dev nD, r.2.mem ((c.tc : Thread nD τ).loc main_v0_0) = zS c m ∧ r.2.mem ((c.tc : Thread nD τ).loc main_v0_1) = gS c m) ∧ Kept m r) :=
  (θ_run defs _ _).mono (fun r h => ⟨fun c => by
      obtain rfl : c = 0 := Subsingleton.elim _ _
      exact ⟨final_4 0 m _ ((h.1 0).1 (4 : Fin 6)), final_5 0 m _ ((h.1 0).1 (5 : Fin 6))⟩, kept_of m _ _ _ r h.1⟩)
    (run_main m (SG 0 m) (ZG 0 m) (GG 0 m) ρ (fun c => by
      obtain rfl : c = 0 := Subsingleton.elim _ _
      exact all_ok 0 m))

end
end Cert.Inproj
end
-- ==== Proof.ProjectClaims.lean ====
/-
The projecting call's claims: the frames, and its values against the reference's.
-/
module

public import proofs.«01_k».proof.Defs
public import proofs.«01_k».proof.Proof.Gen.Project
public import proofs.«01_k».proof.Proof.ProjectValues

@[expose] public section

set_option maxRecDepth 100000

noncomputable section

namespace Cert.Inproj

open Idealize.ShloMosaic Idealize.SL.Sem

theorem body_same (i : Cert.Project.grid0.Coords) : @Cert.Project.cc0_inproj Bits _ _ i = @Cert.ProjectIdeal.cc0_inproj Bits _ _ i := rfl
theorem defs₀_same : Cert.Project.defs₀ (F := Bits) = Cert.ProjectIdeal.defs₀ (F := Bits) := by
  unfold Cert.Project.defs₀ Cert.ProjectIdeal.defs₀
  refine congrArg Defs.onTc ?_
  funext l a
  match l, a with
  | ⟨0, _⟩, (t, s) => rfl
theorem defs_same : Cert.Project.defs (F := Bits) = Cert.ProjectIdeal.defs (F := Bits) := by
  unfold Cert.Project.defs Cert.ProjectIdeal.defs
  exact congrArg (Pipeline.defs _) defs₀_same

theorem frame_bits (m : (ℓ : Loc Cert.ProjectIdeal.nD Cert.ProjectIdeal.τ Cert.ProjectIdeal.sig) → Buf (Elt Bits) ℓ) (ρ : Dev Cert.ProjectIdeal.nD → PrngReg) :
    θ_run (Cert.Project.defs (F := Bits)) (onTc (τ := Cert.Project.τ) (Cert.Project.main (F := Bits))) ⟨m, fun _ => 0, ρ⟩ (fun r => Kept m r ∧ r.2.sem = fun _ => 0) := by
  rw [defs_same]
  exact frame_all m ρ

theorem frame_project : Cert.quiescent_Project := fun m g _ => frame_bits m g
theorem frame_ideal : Cert.quiescent_ProjectIdeal := fun m g _ => frame_all m g
theorem frame_reference : Cert.quiescent_ProjectReferenceIdeal := fun m g _ =>
  (θ_run Cert.ProjectReferenceIdeal.defs _ _).mono (fun r h => ⟨fun c => (h c).2.2, sem_eq_zero_of_no_sems (by decide) r.2⟩)
    (Cert.ProjectReferenceIdeal.Value.run (F := Ideal) m g)

theorem algebraic : Cert.algebraic_ProjectIdeal_ProjectReferenceIdeal := by
  intro m g m' g' _ hagree
  refine ⟨fun c => zS c m, fun c => gS c m, ?_, ?_⟩
  · exact (θ_run Cert.ProjectIdeal.defs _ _).mono (fun r h c => ⟨(h.1 c).1, (h.1 c).2, h.2 c⟩) (run_value m g)
  · refine (θ_run Cert.ProjectReferenceIdeal.defs _ _).mono (fun r h c => ?_) (Cert.ProjectReferenceIdeal.Value.run (F := Ideal) m' g')
    obtain ⟨h0, h1, h2, h3⟩ := hagree c
    refine ⟨(h c).1.trans ?_, (h c).2.1.trans ?_, (h c).2.2⟩
    · show Ref.zOut (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) = zS c m
      rw [h0, h1, h2]
      rfl
    · show Ref.gOut (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg3)) = gS c m
      rw [h0, h1, h3]
      rfl

end Cert.Inproj
end
-- ==== Proof.lean ====
module

public import proofs.«01_k».proof.Defs
public import proofs.«01_k».proof.Proof.Frames
public import proofs.«01_k».proof.Proof.Value
public import proofs.«01_k».proof.Proof.BlendClaims
public import proofs.«01_k».proof.Proof.SecondClaims
public import proofs.«01_k».proof.Proof.ProjectClaims

@[expose] public section

noncomputable section

namespace Cert.Proof

open Idealize.ShloMosaic Idealize.SL.Sem

theorem claim : Cert.Claim := ⟨Cert.Kernel.Gen.facts, Cert.Plain.Gen.facts, Cert.PlainIdeal.Gen.facts, Cert.ReferenceIdeal.Gen.facts,
  Cert.Combine.Gen.facts, Cert.CombineIdeal.Gen.facts, Cert.BlendIdeal.Gen.facts,
  Cert.Second.Gen.facts, Cert.SecondIdeal.Gen.facts, Cert.SecondReferenceIdeal.Gen.facts,
  Cert.Project.Gen.facts, Cert.ProjectIdeal.Gen.facts, Cert.ProjectReferenceIdeal.Gen.facts, Cert.Pre_tables_ok.Gen.facts, Cert.Pre_rows_ok.Gen.facts,
  Cert.Experts.frame_kernel, Cert.Experts.frame_plain, Cert.Experts.frame_ideal, Cert.Experts.frame_reference, Cert.Experts.frame_reference_pre,
  Cert.Blend.frame_combine, Cert.Blend.frame_ideal, Cert.Blend.frame_blend, Cert.Blend.frame_blend_pre,
  Cert.Experts.Second.frame_second, Cert.Experts.Second.frame_ideal, Cert.Experts.Second.frame_reference, Cert.Experts.Second.frame_reference_pre,
  Cert.Inproj.frame_project, Cert.Inproj.frame_ideal, Cert.Inproj.frame_reference,
  trivial, Cert.Experts.algebraic, trivial, Cert.Blend.algebraic, trivial, Cert.Experts.Second.algebraic, trivial, Cert.Inproj.algebraic⟩

end Cert.Proof

end
